-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_ssd_finite [hPre_ssd_finite : Cert.Pre_ssd_finite.Facts] (m : (ℓ : Loc Cert.SsdIdeal.nD Cert.SsdIdeal.τ Cert.SsdIdeal.sig) → Buf (Elt Ideal) ℓ) : Prop :=
  ∀ c : Dev Cert.SsdIdeal.nD,
    (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).1 = (fun _ => 1#1)
    ∧ (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.1 = (fun _ => 1#1)
    ∧ (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.1 = (fun _ => 1#1)
    ∧ (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.1 = (fun _ => 1#1)
    ∧ (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.2.1 = (fun _ => 1#1)
    ∧ (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.2.2.1 = (fun _ => 1#1)
    ∧ (Cert.Pre_ssd_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.2.2.2 = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_ssd_finite [hPre_ssd_finite : Cert.Pre_ssd_finite.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.2.2.2 = (fun _ => 1#1)

def Pre_Ssdb (m : (ℓ : Loc Cert.Ssdb.nD Cert.Ssdb.τ Cert.Ssdb.sig) → Buf (Elt Bits) ℓ) : Prop :=
  True

def Pre_SsdbIdeal (m : (ℓ : Loc Cert.SsdbIdeal.nD Cert.SsdbIdeal.τ Cert.SsdbIdeal.sig) → Buf (Elt Ideal) ℓ) : Prop :=
  True

def Pre_SsdbIdeal_ssdb_finite [hPre_ssdb_finite : Cert.Pre_ssdb_finite.Facts] (m : (ℓ : Loc Cert.SsdbIdeal.nD Cert.SsdbIdeal.τ Cert.SsdbIdeal.sig) → Buf (Elt Ideal) ℓ) : Prop :=
  ∀ c : Dev Cert.SsdbIdeal.nD,
    (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.2.1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.2.2.1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.2.2.2.1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.2.2.2.2.1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.2.2.2.2.2.1 = (fun _ => 1#1)
    ∧ (Cert.Pre_ssdb_finite.fn (F := Ideal) (m ((c.tc : Thread Cert.SsdbIdeal.nD Cert.SsdbIdeal.τ).loc Cert.SsdbIdeal.main_arg0)) (m ((c.tc : Thread Cert.SsdbIdeal.nD Cert.SsdbIdeal.τ).loc Cert.SsdbIdeal.main_arg1)) (m ((c.tc : Thread Cert.SsdbIdeal.nD Cert.SsdbIdeal.τ).loc Cert.SsdbIdeal.main_arg2)) (m ((c.tc : Thread Cert.SsdbIdeal.nD Cert.SsdbIdeal.τ).loc Cert.SsdbIdeal.main_arg3)) (m ((c.tc : Thread Cert.SsdbIdeal.nD Cert.SsdbIdeal.τ).loc Cert.SsdbIdeal.main_arg4)) (m ((c.tc : Thread Cert.SsdbIdeal.nD Cert.SsdbIdeal.τ).loc Cert.SsdbIdeal.main_arg5)) (m ((c.tc : Thread Cert.SsdbIdeal.nD Cert.SsdbIdeal.τ).loc Cert.SsdbIdeal.main_arg6)) (m ((c.tc : Thread Cert.SsdbIdeal.nD Cert.SsdbIdeal.τ).loc Cert.SsdbIdeal.main_arg7))).2.2.2.2.2.2.2 = (fun _ => 1#1)

def Pre_SsdbRefIdeal (m : (ℓ : Loc Cert.SsdbRefIdeal.nD Cert.SsdbRefIdeal.τ Cert.SsdbRefIdeal.sig) → Buf (Elt Ideal) ℓ) : Prop :=
  True

def Pre_SsdbRefIdeal_ssdb_finite [hPre_ssdb_finite : Cert.Pre_ssdb_finite.Facts] (m : (ℓ : Loc Cert.SsdbRefIdeal.nD Cert.SsdbRefIdeal.τ Cert.SsdbRefIdeal.sig) → Buf (Elt Ideal) ℓ) : Prop :=
  ∀ c : Dev Cert.SsdbRefIdeal.nD,
    (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.2.1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.2.2.1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.2.2.2.1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.2.2.2.2.1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.2.2.2.2.2.1 = (fun _ => 1#1)
    ∧ (Cert.Pre_ssdb_finite.fn (F := Ideal) (m ((c.tc : Thread Cert.SsdbRefIdeal.nD Cert.SsdbRefIdeal.τ).loc Cert.SsdbRefIdeal.main_arg0)) (m ((c.tc : Thread Cert.SsdbRefIdeal.nD Cert.SsdbRefIdeal.τ).loc Cert.SsdbRefIdeal.main_arg1)) (m ((c.tc : Thread Cert.SsdbRefIdeal.nD Cert.SsdbRefIdeal.τ).loc Cert.SsdbRefIdeal.main_arg2)) (m ((c.tc : Thread Cert.SsdbRefIdeal.nD Cert.SsdbRefIdeal.τ).loc Cert.SsdbRefIdeal.main_arg3)) (m ((c.tc : Thread Cert.SsdbRefIdeal.nD Cert.SsdbRefIdeal.τ).loc Cert.SsdbRefIdeal.main_arg4)) (m ((c.tc : Thread Cert.SsdbRefIdeal.nD Cert.SsdbRefIdeal.τ).loc Cert.SsdbRefIdeal.main_arg5)) (m ((c.tc : Thread Cert.SsdbRefIdeal.nD Cert.SsdbRefIdeal.τ).loc Cert.SsdbRefIdeal.main_arg6)) (m ((c.tc : Thread Cert.SsdbRefIdeal.nD Cert.SsdbRefIdeal.τ).loc Cert.SsdbRefIdeal.main_arg7))).2.2.2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.2.2.2 = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_inp_finite [hPre_inp_finite : Cert.Pre_inp_finite.Facts] (m : (ℓ : Loc Cert.InpIdeal.nD Cert.InpIdeal.τ Cert.InpIdeal.sig) → Buf (Elt Ideal) ℓ) : Prop :=
  ∀ c : Dev Cert.InpIdeal.nD,
    (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.2.2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.2.2.2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.2.2.2.2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.2.2.2.2.2.1 = (fun _ => 1#1)
    ∧ (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8))).2.2.2.2.2.2.2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_inp_finite [hPre_inp_finite : Cert.Pre_inp_finite.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.2.2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.2.2.2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.2.2.2.2.2.1 = (fun _ => 1#1)
    ∧ (Cert.Pre_inp_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8))).2.2.2.2.2.2.2.2 = (fun _ => 1#1)

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Fconv (m : (ℓ : Loc Cert.Fconv.nD Cert.Fconv.τ Cert.Fconv.sig) → Buf (Elt Bits) ℓ) : Prop :=
  True

def Pre_FconvIdeal (m : (ℓ : Loc Cert.FconvIdeal.nD Cert.FconvIdeal.τ Cert.FconvIdeal.sig) → Buf (Elt Ideal) ℓ) : Prop :=
  True

def Pre_FconvRefIdeal (m : (ℓ : Loc Cert.FconvRefIdeal.nD Cert.FconvRefIdeal.τ Cert.FconvRefIdeal.sig) → Buf (Elt Ideal) ℓ) : Prop :=
  True

def Pre_Outf (m : (ℓ : Loc Cert.Outf.nD Cert.Outf.τ Cert.Outf.sig) → Buf (Elt Bits) ℓ) : Prop :=
  True

def Pre_OutfIdeal (m : (ℓ : Loc Cert.OutfIdeal.nD Cert.OutfIdeal.τ Cert.OutfIdeal.sig) → Buf (Elt Ideal) ℓ) : Prop :=
  True

def Pre_OutfRefIdeal (m : (ℓ : Loc Cert.OutfRefIdeal.nD Cert.OutfRefIdeal.τ Cert.OutfRefIdeal.sig) → Buf (Elt Ideal) ℓ) : Prop :=
  True

def Pre_Mlpf (m : (ℓ : Loc Cert.Mlpf.nD Cert.Mlpf.τ Cert.Mlpf.sig) → Buf (Elt Bits) ℓ) : Prop :=
  True

def Pre_MlpfIdeal (m : (ℓ : Loc Cert.MlpfIdeal.nD Cert.MlpfIdeal.τ Cert.MlpfIdeal.sig) → Buf (Elt Ideal) ℓ) : Prop :=
  True

def Pre_MlpfRefIdeal (m : (ℓ : Loc Cert.MlpfRefIdeal.nD Cert.MlpfRefIdeal.τ Cert.MlpfRefIdeal.sig) → Buf (Elt Ideal) ℓ) : Prop :=
  True

def Pre_Inpf (m : (ℓ : Loc Cert.Inpf.nD Cert.Inpf.τ Cert.Inpf.sig) → Buf (Elt Bits) ℓ) : Prop :=
  True

def Pre_InpfIdeal (m : (ℓ : Loc Cert.InpfIdeal.nD Cert.InpfIdeal.τ Cert.InpfIdeal.sig) → Buf (Elt Ideal) ℓ) : Prop :=
  True

def Pre_InpfRefIdeal (m : (ℓ : Loc Cert.InpfRefIdeal.nD Cert.InpfRefIdeal.τ Cert.InpfRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdIdeal_pre_ssd_finite [hSsdIdeal : Cert.SsdIdeal.Facts] [hPre_ssd_finite : Cert.Pre_ssd_finite.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_ssd_finite m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdRefIdeal_pre_ssd_finite [hSsdRefIdeal : Cert.SsdRefIdeal.Facts] [hPre_ssd_finite : Cert.Pre_ssd_finite.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_ssd_finite m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_Ssdb [hSsdb : Cert.Ssdb.Facts] : Prop :=
  ∀ (m : (ℓ : Loc Cert.Ssdb.nD Cert.Ssdb.τ Cert.Ssdb.sig) → Buf (Elt Bits) ℓ) (g : Dev Cert.Ssdb.nD → PrngReg), Pre_Ssdb m →
    θ_run (Cert.Ssdb.defs (F := Bits)) (onTc (τ := Cert.Ssdb.τ) (Cert.Ssdb.main (F := Bits))) ⟨m, fun _ => 0, g⟩ (fun r => (∀ c : Dev Cert.Ssdb.nD,
      r.2.mem ((c.tc : Thread Cert.Ssdb.nD Cert.Ssdb.τ).loc Cert.Ssdb.main_arg0) = m ((c.tc : Thread Cert.Ssdb.nD Cert.Ssdb.τ).loc Cert.Ssdb.main_arg0)
      ∧ r.2.mem ((c.tc : Thread Cert.Ssdb.nD Cert.Ssdb.τ).loc Cert.Ssdb.main_arg1) = m ((c.tc : Thread Cert.Ssdb.nD Cert.Ssdb.τ).loc Cert.Ssdb.main_arg1)
      ∧ r.2.mem ((c.tc : Thread Cert.Ssdb.nD Cert.Ssdb.τ).loc Cert.Ssdb.main_arg2) = m ((c.tc : Thread Cert.Ssdb.nD Cert.Ssdb.τ).loc Cert.Ssdb.main_arg2)
      ∧ r.2.mem ((c.tc : Thread Cert.Ssdb.nD Cert.Ssdb.τ).loc Cert.Ssdb.main_arg3) = m ((c.tc : Thread Cert.Ssdb.nD Cert.Ssdb.τ).loc Cert.Ssdb.main_arg3)
      ∧ r.2.mem ((c.tc : Thread Cert.Ssdb.nD Cert.Ssdb.τ).loc Cert.Ssdb.main_arg4) = m ((c.tc : Thread Cert.Ssdb.nD Cert.Ssdb.τ).loc Cert.Ssdb.main_arg4)
      ∧ r.2.mem ((c.tc : Thread Cert.Ssdb.nD Cert.Ssdb.τ).loc Cert.Ssdb.main_arg5) = m ((c.tc : Thread Cert.Ssdb.nD Cert.Ssdb.τ).loc Cert.Ssdb.main_arg5)
      ∧ r.2.mem ((c.tc : Thread Cert.Ssdb.nD Cert.Ssdb.τ).loc Cert.Ssdb.main_arg6) = m ((c.tc : Thread Cert.Ssdb.nD Cert.Ssdb.τ).loc Cert.Ssdb.main_arg6)
      ∧ r.2.mem ((c.tc : Thread Cert.Ssdb.nD Cert.Ssdb.τ).loc Cert.Ssdb.main_arg7) = m ((c.tc : Thread Cert.Ssdb.nD Cert.Ssdb.τ).loc Cert.Ssdb.main_arg7))
      ∧ r.2.sem = fun _ => 0)

def quiescent_SsdbIdeal [hSsdbIdeal : Cert.SsdbIdeal.Facts] : Prop :=
  ∀ (m : (ℓ : Loc Cert.SsdbIdeal.nD Cert.SsdbIdeal.τ Cert.SsdbIdeal.sig) → Buf (Elt Ideal) ℓ) (g : Dev Cert.SsdbIdeal.nD → PrngReg), Pre_SsdbIdeal m →
    θ_run (Cert.SsdbIdeal.defs (F := Ideal)) (onTc (τ := Cert.SsdbIdeal.τ) (Cert.SsdbIdeal.main (F := Ideal))) ⟨m, fun _ => 0, g⟩ (fun r => (∀ c : Dev Cert.SsdbIdeal.nD,
      r.2.mem ((c.tc : Thread Cert.SsdbIdeal.nD Cert.SsdbIdeal.τ).loc Cert.SsdbIdeal.main_arg0) = m ((c.tc : Thread Cert.SsdbIdeal.nD Cert.SsdbIdeal.τ).loc Cert.SsdbIdeal.main_arg0)
      ∧ r.2.mem ((c.tc : Thread Cert.SsdbIdeal.nD Cert.SsdbIdeal.τ).loc Cert.SsdbIdeal.main_arg1) = m ((c.tc : Thread Cert.SsdbIdeal.nD Cert.SsdbIdeal.τ).loc Cert.SsdbIdeal.main_arg1)
      ∧ r.2.mem ((c.tc : Thread Cert.SsdbIdeal.nD Cert.SsdbIdeal.τ).loc Cert.SsdbIdeal.main_arg2) = m ((c.tc : Thread Cert.SsdbIdeal.nD Cert.SsdbIdeal.τ).loc Cert.SsdbIdeal.main_arg2)
      ∧ r.2.mem ((c.tc : Thread Cert.SsdbIdeal.nD Cert.SsdbIdeal.τ).loc Cert.SsdbIdeal.main_arg3) = m ((c.tc : Thread Cert.SsdbIdeal.nD Cert.SsdbIdeal.τ).loc Cert.SsdbIdeal.main_arg3)
      ∧ r.2.mem ((c.tc : Thread Cert.SsdbIdeal.nD Cert.SsdbIdeal.τ).loc Cert.SsdbIdeal.main_arg4) = m ((c.tc : Thread Cert.SsdbIdeal.nD Cert.SsdbIdeal.τ).loc Cert.SsdbIdeal.main_arg4)
      ∧ r.2.mem ((c.tc : Thread Cert.SsdbIdeal.nD Cert.SsdbIdeal.τ).loc Cert.SsdbIdeal.main_arg5) = m ((c.tc : Thread Cert.SsdbIdeal.nD Cert.SsdbIdeal.τ).loc Cert.SsdbIdeal.main_arg5)
      ∧ r.2.mem ((c.tc : Thread Cert.SsdbIdeal.nD Cert.SsdbIdeal.τ).loc Cert.SsdbIdeal.main_arg6) = m ((c.tc : Thread Cert.SsdbIdeal.nD Cert.SsdbIdeal.τ).loc Cert.SsdbIdeal.main_arg6)
      ∧ r.2.mem ((c.tc : Thread Cert.SsdbIdeal.nD Cert.SsdbIdeal.τ).loc Cert.SsdbIdeal.main_arg7) = m ((c.tc : Thread Cert.SsdbIdeal.nD Cert.SsdbIdeal.τ).loc Cert.SsdbIdeal.main_arg7))
      ∧ r.2.sem = fun _ => 0)

def quiescent_SsdbIdeal_pre_ssdb_finite [hSsdbIdeal : Cert.SsdbIdeal.Facts] [hPre_ssdb_finite : Cert.Pre_ssdb_finite.Facts] : Prop :=
  ∀ (m : (ℓ : Loc Cert.SsdbIdeal.nD Cert.SsdbIdeal.τ Cert.SsdbIdeal.sig) → Buf (Elt Ideal) ℓ) (g : Dev Cert.SsdbIdeal.nD → PrngReg), Pre_SsdbIdeal_ssdb_finite m →
    θ_run (Cert.SsdbIdeal.defs (F := Ideal)) (onTc (τ := Cert.SsdbIdeal.τ) (Cert.SsdbIdeal.main (F := Ideal))) ⟨m, fun _ => 0, g⟩ (fun r => (∀ c : Dev Cert.SsdbIdeal.nD,
      r.2.mem ((c.tc : Thread Cert.SsdbIdeal.nD Cert.SsdbIdeal.τ).loc Cert.SsdbIdeal.main_arg0) = m ((c.tc : Thread Cert.SsdbIdeal.nD Cert.SsdbIdeal.τ).loc Cert.SsdbIdeal.main_arg0)
      ∧ r.2.mem ((c.tc : Thread Cert.SsdbIdeal.nD Cert.SsdbIdeal.τ).loc Cert.SsdbIdeal.main_arg1) = m ((c.tc : Thread Cert.SsdbIdeal.nD Cert.SsdbIdeal.τ).loc Cert.SsdbIdeal.main_arg1)
      ∧ r.2.mem ((c.tc : Thread Cert.SsdbIdeal.nD Cert.SsdbIdeal.τ).loc Cert.SsdbIdeal.main_arg2) = m ((c.tc : Thread Cert.SsdbIdeal.nD Cert.SsdbIdeal.τ).loc Cert.SsdbIdeal.main_arg2)
      ∧ r.2.mem ((c.tc : Thread Cert.SsdbIdeal.nD Cert.SsdbIdeal.τ).loc Cert.SsdbIdeal.main_arg3) = m ((c.tc : Thread Cert.SsdbIdeal.nD Cert.SsdbIdeal.τ).loc Cert.SsdbIdeal.main_arg3)
      ∧ r.2.mem ((c.tc : Thread Cert.SsdbIdeal.nD Cert.SsdbIdeal.τ).loc Cert.SsdbIdeal.main_arg4) = m ((c.tc : Thread Cert.SsdbIdeal.nD Cert.SsdbIdeal.τ).loc Cert.SsdbIdeal.main_arg4)
      ∧ r.2.mem ((c.tc : Thread Cert.SsdbIdeal.nD Cert.SsdbIdeal.τ).loc Cert.SsdbIdeal.main_arg5) = m ((c.tc : Thread Cert.SsdbIdeal.nD Cert.SsdbIdeal.τ).loc Cert.SsdbIdeal.main_arg5)
      ∧ r.2.mem ((c.tc : Thread Cert.SsdbIdeal.nD Cert.SsdbIdeal.τ).loc Cert.SsdbIdeal.main_arg6) = m ((c.tc : Thread Cert.SsdbIdeal.nD Cert.SsdbIdeal.τ).loc Cert.SsdbIdeal.main_arg6)
      ∧ r.2.mem ((c.tc : Thread Cert.SsdbIdeal.nD Cert.SsdbIdeal.τ).loc Cert.SsdbIdeal.main_arg7) = m ((c.tc : Thread Cert.SsdbIdeal.nD Cert.SsdbIdeal.τ).loc Cert.SsdbIdeal.main_arg7))
      ∧ r.2.sem = fun _ => 0)

def quiescent_SsdbRefIdeal [hSsdbRefIdeal : Cert.SsdbRefIdeal.Facts] : Prop :=
  ∀ (m : (ℓ : Loc Cert.SsdbRefIdeal.nD Cert.SsdbRefIdeal.τ Cert.SsdbRefIdeal.sig) → Buf (Elt Ideal) ℓ) (g : Dev Cert.SsdbRefIdeal.nD → PrngReg), Pre_SsdbRefIdeal m →
    θ_run (Cert.SsdbRefIdeal.defs (F := Ideal)) (onTc (τ := Cert.SsdbRefIdeal.τ) (Cert.SsdbRefIdeal.main (F := Ideal))) ⟨m, fun _ => 0, g⟩ (fun r => (∀ c : Dev Cert.SsdbRefIdeal.nD,
      r.2.mem ((c.tc : Thread Cert.SsdbRefIdeal.nD Cert.SsdbRefIdeal.τ).loc Cert.SsdbRefIdeal.main_arg0) = m ((c.tc : Thread Cert.SsdbRefIdeal.nD Cert.SsdbRefIdeal.τ).loc Cert.SsdbRefIdeal.main_arg0)
      ∧ r.2.mem ((c.tc : Thread Cert.SsdbRefIdeal.nD Cert.SsdbRefIdeal.τ).loc Cert.SsdbRefIdeal.main_arg1) = m ((c.tc : Thread Cert.SsdbRefIdeal.nD Cert.SsdbRefIdeal.τ).loc Cert.SsdbRefIdeal.main_arg1)
      ∧ r.2.mem ((c.tc : Thread Cert.SsdbRefIdeal.nD Cert.SsdbRefIdeal.τ).loc Cert.SsdbRefIdeal.main_arg2) = m ((c.tc : Thread Cert.SsdbRefIdeal.nD Cert.SsdbRefIdeal.τ).loc Cert.SsdbRefIdeal.main_arg2)
      ∧ r.2.mem ((c.tc : Thread Cert.SsdbRefIdeal.nD Cert.SsdbRefIdeal.τ).loc Cert.SsdbRefIdeal.main_arg3) = m ((c.tc : Thread Cert.SsdbRefIdeal.nD Cert.SsdbRefIdeal.τ).loc Cert.SsdbRefIdeal.main_arg3)
      ∧ r.2.mem ((c.tc : Thread Cert.SsdbRefIdeal.nD Cert.SsdbRefIdeal.τ).loc Cert.SsdbRefIdeal.main_arg4) = m ((c.tc : Thread Cert.SsdbRefIdeal.nD Cert.SsdbRefIdeal.τ).loc Cert.SsdbRefIdeal.main_arg4)
      ∧ r.2.mem ((c.tc : Thread Cert.SsdbRefIdeal.nD Cert.SsdbRefIdeal.τ).loc Cert.SsdbRefIdeal.main_arg5) = m ((c.tc : Thread Cert.SsdbRefIdeal.nD Cert.SsdbRefIdeal.τ).loc Cert.SsdbRefIdeal.main_arg5)
      ∧ r.2.mem ((c.tc : Thread Cert.SsdbRefIdeal.nD Cert.SsdbRefIdeal.τ).loc Cert.SsdbRefIdeal.main_arg6) = m ((c.tc : Thread Cert.SsdbRefIdeal.nD Cert.SsdbRefIdeal.τ).loc Cert.SsdbRefIdeal.main_arg6)
      ∧ r.2.mem ((c.tc : Thread Cert.SsdbRefIdeal.nD Cert.SsdbRefIdeal.τ).loc Cert.SsdbRefIdeal.main_arg7) = m ((c.tc : Thread Cert.SsdbRefIdeal.nD Cert.SsdbRefIdeal.τ).loc Cert.SsdbRefIdeal.main_arg7))
      ∧ r.2.sem = fun _ => 0)

def quiescent_SsdbRefIdeal_pre_ssdb_finite [hSsdbRefIdeal : Cert.SsdbRefIdeal.Facts] [hPre_ssdb_finite : Cert.Pre_ssdb_finite.Facts] : Prop :=
  ∀ (m : (ℓ : Loc Cert.SsdbRefIdeal.nD Cert.SsdbRefIdeal.τ Cert.SsdbRefIdeal.sig) → Buf (Elt Ideal) ℓ) (g : Dev Cert.SsdbRefIdeal.nD → PrngReg), Pre_SsdbRefIdeal_ssdb_finite m →
    θ_run (Cert.SsdbRefIdeal.defs (F := Ideal)) (onTc (τ := Cert.SsdbRefIdeal.τ) (Cert.SsdbRefIdeal.main (F := Ideal))) ⟨m, fun _ => 0, g⟩ (fun r => (∀ c : Dev Cert.SsdbRefIdeal.nD,
      r.2.mem ((c.tc : Thread Cert.SsdbRefIdeal.nD Cert.SsdbRefIdeal.τ).loc Cert.SsdbRefIdeal.main_arg0) = m ((c.tc : Thread Cert.SsdbRefIdeal.nD Cert.SsdbRefIdeal.τ).loc Cert.SsdbRefIdeal.main_arg0)
      ∧ r.2.mem ((c.tc : Thread Cert.SsdbRefIdeal.nD Cert.SsdbRefIdeal.τ).loc Cert.SsdbRefIdeal.main_arg1) = m ((c.tc : Thread Cert.SsdbRefIdeal.nD Cert.SsdbRefIdeal.τ).loc Cert.SsdbRefIdeal.main_arg1)
      ∧ r.2.mem ((c.tc : Thread Cert.SsdbRefIdeal.nD Cert.SsdbRefIdeal.τ).loc Cert.SsdbRefIdeal.main_arg2) = m ((c.tc : Thread Cert.SsdbRefIdeal.nD Cert.SsdbRefIdeal.τ).loc Cert.SsdbRefIdeal.main_arg2)
      ∧ r.2.mem ((c.tc : Thread Cert.SsdbRefIdeal.nD Cert.SsdbRefIdeal.τ).loc Cert.SsdbRefIdeal.main_arg3) = m ((c.tc : Thread Cert.SsdbRefIdeal.nD Cert.SsdbRefIdeal.τ).loc Cert.SsdbRefIdeal.main_arg3)
      ∧ r.2.mem ((c.tc : Thread Cert.SsdbRefIdeal.nD Cert.SsdbRefIdeal.τ).loc Cert.SsdbRefIdeal.main_arg4) = m ((c.tc : Thread Cert.SsdbRefIdeal.nD Cert.SsdbRefIdeal.τ).loc Cert.SsdbRefIdeal.main_arg4)
      ∧ r.2.mem ((c.tc : Thread Cert.SsdbRefIdeal.nD Cert.SsdbRefIdeal.τ).loc Cert.SsdbRefIdeal.main_arg5) = m ((c.tc : Thread Cert.SsdbRefIdeal.nD Cert.SsdbRefIdeal.τ).loc Cert.SsdbRefIdeal.main_arg5)
      ∧ r.2.mem ((c.tc : Thread Cert.SsdbRefIdeal.nD Cert.SsdbRefIdeal.τ).loc Cert.SsdbRefIdeal.main_arg6) = m ((c.tc : Thread Cert.SsdbRefIdeal.nD Cert.SsdbRefIdeal.τ).loc Cert.SsdbRefIdeal.main_arg6)
      ∧ r.2.mem ((c.tc : Thread Cert.SsdbRefIdeal.nD Cert.SsdbRefIdeal.τ).loc Cert.SsdbRefIdeal.main_arg7) = m ((c.tc : Thread Cert.SsdbRefIdeal.nD Cert.SsdbRefIdeal.τ).loc Cert.SsdbRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7)
      ∧ r.2.mem ((c.tc : Thread Cert.Ple.nD Cert.Ple.τ).loc Cert.Ple.main_arg8) = m ((c.tc : Thread Cert.Ple.nD Cert.Ple.τ).loc Cert.Ple.main_arg8))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8))
      ∧ r.2.sem = fun _ => 0)

def quiescent_InpIdeal_pre_inp_finite [hInpIdeal : Cert.InpIdeal.Facts] [hPre_inp_finite : Cert.Pre_inp_finite.Facts] : Prop :=
  ∀ (m : (ℓ : Loc Cert.InpIdeal.nD Cert.InpIdeal.τ Cert.InpIdeal.sig) → Buf (Elt Ideal) ℓ) (g : Dev Cert.InpIdeal.nD → PrngReg), Pre_InpIdeal_inp_finite m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8))
      ∧ r.2.sem = fun _ => 0)

def quiescent_InpRefIdeal_pre_inp_finite [hInpRefIdeal : Cert.InpRefIdeal.Facts] [hPre_inp_finite : Cert.Pre_inp_finite.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_inp_finite m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3))
      ∧ r.2.sem = fun _ => 0)

def quiescent_Fconv [hFconv : Cert.Fconv.Facts] : Prop :=
  ∀ (m : (ℓ : Loc Cert.Fconv.nD Cert.Fconv.τ Cert.Fconv.sig) → Buf (Elt Bits) ℓ) (g : Dev Cert.Fconv.nD → PrngReg), Pre_Fconv m →
    θ_run (Cert.Fconv.defs (F := Bits)) (onTc (τ := Cert.Fconv.τ) (Cert.Fconv.main (F := Bits))) ⟨m, fun _ => 0, g⟩ (fun r => (∀ c : Dev Cert.Fconv.nD,
      r.2.mem ((c.tc : Thread Cert.Fconv.nD Cert.Fconv.τ).loc Cert.Fconv.main_arg0) = m ((c.tc : Thread Cert.Fconv.nD Cert.Fconv.τ).loc Cert.Fconv.main_arg0)
      ∧ r.2.mem ((c.tc : Thread Cert.Fconv.nD Cert.Fconv.τ).loc Cert.Fconv.main_arg1) = m ((c.tc : Thread Cert.Fconv.nD Cert.Fconv.τ).loc Cert.Fconv.main_arg1)
      ∧ r.2.mem ((c.tc : Thread Cert.Fconv.nD Cert.Fconv.τ).loc Cert.Fconv.main_arg2) = m ((c.tc : Thread Cert.Fconv.nD Cert.Fconv.τ).loc Cert.Fconv.main_arg2))
      ∧ r.2.sem = fun _ => 0)

def quiescent_FconvIdeal [hFconvIdeal : Cert.FconvIdeal.Facts] : Prop :=
  ∀ (m : (ℓ : Loc Cert.FconvIdeal.nD Cert.FconvIdeal.τ Cert.FconvIdeal.sig) → Buf (Elt Ideal) ℓ) (g : Dev Cert.FconvIdeal.nD → PrngReg), Pre_FconvIdeal m →
    θ_run (Cert.FconvIdeal.defs (F := Ideal)) (onTc (τ := Cert.FconvIdeal.τ) (Cert.FconvIdeal.main (F := Ideal))) ⟨m, fun _ => 0, g⟩ (fun r => (∀ c : Dev Cert.FconvIdeal.nD,
      r.2.mem ((c.tc : Thread Cert.FconvIdeal.nD Cert.FconvIdeal.τ).loc Cert.FconvIdeal.main_arg0) = m ((c.tc : Thread Cert.FconvIdeal.nD Cert.FconvIdeal.τ).loc Cert.FconvIdeal.main_arg0)
      ∧ r.2.mem ((c.tc : Thread Cert.FconvIdeal.nD Cert.FconvIdeal.τ).loc Cert.FconvIdeal.main_arg1) = m ((c.tc : Thread Cert.FconvIdeal.nD Cert.FconvIdeal.τ).loc Cert.FconvIdeal.main_arg1)
      ∧ r.2.mem ((c.tc : Thread Cert.FconvIdeal.nD Cert.FconvIdeal.τ).loc Cert.FconvIdeal.main_arg2) = m ((c.tc : Thread Cert.FconvIdeal.nD Cert.FconvIdeal.τ).loc Cert.FconvIdeal.main_arg2))
      ∧ r.2.sem = fun _ => 0)

def quiescent_FconvRefIdeal [hFconvRefIdeal : Cert.FconvRefIdeal.Facts] : Prop :=
  ∀ (m : (ℓ : Loc Cert.FconvRefIdeal.nD Cert.FconvRefIdeal.τ Cert.FconvRefIdeal.sig) → Buf (Elt Ideal) ℓ) (g : Dev Cert.FconvRefIdeal.nD → PrngReg), Pre_FconvRefIdeal m →
    θ_run (Cert.FconvRefIdeal.defs (F := Ideal)) (onTc (τ := Cert.FconvRefIdeal.τ) (Cert.FconvRefIdeal.main (F := Ideal))) ⟨m, fun _ => 0, g⟩ (fun r => (∀ c : Dev Cert.FconvRefIdeal.nD,
      r.2.mem ((c.tc : Thread Cert.FconvRefIdeal.nD Cert.FconvRefIdeal.τ).loc Cert.FconvRefIdeal.main_arg0) = m ((c.tc : Thread Cert.FconvRefIdeal.nD Cert.FconvRefIdeal.τ).loc Cert.FconvRefIdeal.main_arg0)
      ∧ r.2.mem ((c.tc : Thread Cert.FconvRefIdeal.nD Cert.FconvRefIdeal.τ).loc Cert.FconvRefIdeal.main_arg1) = m ((c.tc : Thread Cert.FconvRefIdeal.nD Cert.FconvRefIdeal.τ).loc Cert.FconvRefIdeal.main_arg1)
      ∧ r.2.mem ((c.tc : Thread Cert.FconvRefIdeal.nD Cert.FconvRefIdeal.τ).loc Cert.FconvRefIdeal.main_arg2) = m ((c.tc : Thread Cert.FconvRefIdeal.nD Cert.FconvRefIdeal.τ).loc Cert.FconvRefIdeal.main_arg2))
      ∧ r.2.sem = fun _ => 0)

def quiescent_Outf [hOutf : Cert.Outf.Facts] : Prop :=
  ∀ (m : (ℓ : Loc Cert.Outf.nD Cert.Outf.τ Cert.Outf.sig) → Buf (Elt Bits) ℓ) (g : Dev Cert.Outf.nD → PrngReg), Pre_Outf m →
    θ_run (Cert.Outf.defs (F := Bits)) (onTc (τ := Cert.Outf.τ) (Cert.Outf.main (F := Bits))) ⟨m, fun _ => 0, g⟩ (fun r => (∀ c : Dev Cert.Outf.nD,
      r.2.mem ((c.tc : Thread Cert.Outf.nD Cert.Outf.τ).loc Cert.Outf.main_arg0) = m ((c.tc : Thread Cert.Outf.nD Cert.Outf.τ).loc Cert.Outf.main_arg0)
      ∧ r.2.mem ((c.tc : Thread Cert.Outf.nD Cert.Outf.τ).loc Cert.Outf.main_arg1) = m ((c.tc : Thread Cert.Outf.nD Cert.Outf.τ).loc Cert.Outf.main_arg1)
      ∧ r.2.mem ((c.tc : Thread Cert.Outf.nD Cert.Outf.τ).loc Cert.Outf.main_arg2) = m ((c.tc : Thread Cert.Outf.nD Cert.Outf.τ).loc Cert.Outf.main_arg2)
      ∧ r.2.mem ((c.tc : Thread Cert.Outf.nD Cert.Outf.τ).loc Cert.Outf.main_arg3) = m ((c.tc : Thread Cert.Outf.nD Cert.Outf.τ).loc Cert.Outf.main_arg3)
      ∧ r.2.mem ((c.tc : Thread Cert.Outf.nD Cert.Outf.τ).loc Cert.Outf.main_arg4) = m ((c.tc : Thread Cert.Outf.nD Cert.Outf.τ).loc Cert.Outf.main_arg4))
      ∧ r.2.sem = fun _ => 0)

def quiescent_OutfIdeal [hOutfIdeal : Cert.OutfIdeal.Facts] : Prop :=
  ∀ (m : (ℓ : Loc Cert.OutfIdeal.nD Cert.OutfIdeal.τ Cert.OutfIdeal.sig) → Buf (Elt Ideal) ℓ) (g : Dev Cert.OutfIdeal.nD → PrngReg), Pre_OutfIdeal m →
    θ_run (Cert.OutfIdeal.defs (F := Ideal)) (onTc (τ := Cert.OutfIdeal.τ) (Cert.OutfIdeal.main (F := Ideal))) ⟨m, fun _ => 0, g⟩ (fun r => (∀ c : Dev Cert.OutfIdeal.nD,
      r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
      ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
      ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
      ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
      ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4))
      ∧ r.2.sem = fun _ => 0)

def quiescent_OutfRefIdeal [hOutfRefIdeal : Cert.OutfRefIdeal.Facts] : Prop :=
  ∀ (m : (ℓ : Loc Cert.OutfRefIdeal.nD Cert.OutfRefIdeal.τ Cert.OutfRefIdeal.sig) → Buf (Elt Ideal) ℓ) (g : Dev Cert.OutfRefIdeal.nD → PrngReg), Pre_OutfRefIdeal m →
    θ_run (Cert.OutfRefIdeal.defs (F := Ideal)) (onTc (τ := Cert.OutfRefIdeal.τ) (Cert.OutfRefIdeal.main (F := Ideal))) ⟨m, fun _ => 0, g⟩ (fun r => (∀ c : Dev Cert.OutfRefIdeal.nD,
      r.2.mem ((c.tc : Thread Cert.OutfRefIdeal.nD Cert.OutfRefIdeal.τ).loc Cert.OutfRefIdeal.main_arg0) = m ((c.tc : Thread Cert.OutfRefIdeal.nD Cert.OutfRefIdeal.τ).loc Cert.OutfRefIdeal.main_arg0)
      ∧ r.2.mem ((c.tc : Thread Cert.OutfRefIdeal.nD Cert.OutfRefIdeal.τ).loc Cert.OutfRefIdeal.main_arg1) = m ((c.tc : Thread Cert.OutfRefIdeal.nD Cert.OutfRefIdeal.τ).loc Cert.OutfRefIdeal.main_arg1)
      ∧ r.2.mem ((c.tc : Thread Cert.OutfRefIdeal.nD Cert.OutfRefIdeal.τ).loc Cert.OutfRefIdeal.main_arg2) = m ((c.tc : Thread Cert.OutfRefIdeal.nD Cert.OutfRefIdeal.τ).loc Cert.OutfRefIdeal.main_arg2)
      ∧ r.2.mem ((c.tc : Thread Cert.OutfRefIdeal.nD Cert.OutfRefIdeal.τ).loc Cert.OutfRefIdeal.main_arg3) = m ((c.tc : Thread Cert.OutfRefIdeal.nD Cert.OutfRefIdeal.τ).loc Cert.OutfRefIdeal.main_arg3)
      ∧ r.2.mem ((c.tc : Thread Cert.OutfRefIdeal.nD Cert.OutfRefIdeal.τ).loc Cert.OutfRefIdeal.main_arg4) = m ((c.tc : Thread Cert.OutfRefIdeal.nD Cert.OutfRefIdeal.τ).loc Cert.OutfRefIdeal.main_arg4))
      ∧ r.2.sem = fun _ => 0)

def quiescent_Mlpf [hMlpf : Cert.Mlpf.Facts] : Prop :=
  ∀ (m : (ℓ : Loc Cert.Mlpf.nD Cert.Mlpf.τ Cert.Mlpf.sig) → Buf (Elt Bits) ℓ) (g : Dev Cert.Mlpf.nD → PrngReg), Pre_Mlpf m →
    θ_run (Cert.Mlpf.defs (F := Bits)) (onTc (τ := Cert.Mlpf.τ) (Cert.Mlpf.main (F := Bits))) ⟨m, fun _ => 0, g⟩ (fun r => (∀ c : Dev Cert.Mlpf.nD,
      r.2.mem ((c.tc : Thread Cert.Mlpf.nD Cert.Mlpf.τ).loc Cert.Mlpf.main_arg0) = m ((c.tc : Thread Cert.Mlpf.nD Cert.Mlpf.τ).loc Cert.Mlpf.main_arg0)
      ∧ r.2.mem ((c.tc : Thread Cert.Mlpf.nD Cert.Mlpf.τ).loc Cert.Mlpf.main_arg1) = m ((c.tc : Thread Cert.Mlpf.nD Cert.Mlpf.τ).loc Cert.Mlpf.main_arg1)
      ∧ r.2.mem ((c.tc : Thread Cert.Mlpf.nD Cert.Mlpf.τ).loc Cert.Mlpf.main_arg2) = m ((c.tc : Thread Cert.Mlpf.nD Cert.Mlpf.τ).loc Cert.Mlpf.main_arg2)
      ∧ r.2.mem ((c.tc : Thread Cert.Mlpf.nD Cert.Mlpf.τ).loc Cert.Mlpf.main_arg3) = m ((c.tc : Thread Cert.Mlpf.nD Cert.Mlpf.τ).loc Cert.Mlpf.main_arg3)
      ∧ r.2.mem ((c.tc : Thread Cert.Mlpf.nD Cert.Mlpf.τ).loc Cert.Mlpf.main_arg4) = m ((c.tc : Thread Cert.Mlpf.nD Cert.Mlpf.τ).loc Cert.Mlpf.main_arg4))
      ∧ r.2.sem = fun _ => 0)

def quiescent_MlpfIdeal [hMlpfIdeal : Cert.MlpfIdeal.Facts] : Prop :=
  ∀ (m : (ℓ : Loc Cert.MlpfIdeal.nD Cert.MlpfIdeal.τ Cert.MlpfIdeal.sig) → Buf (Elt Ideal) ℓ) (g : Dev Cert.MlpfIdeal.nD → PrngReg), Pre_MlpfIdeal m →
    θ_run (Cert.MlpfIdeal.defs (F := Ideal)) (onTc (τ := Cert.MlpfIdeal.τ) (Cert.MlpfIdeal.main (F := Ideal))) ⟨m, fun _ => 0, g⟩ (fun r => (∀ c : Dev Cert.MlpfIdeal.nD,
      r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
      ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
      ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
      ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3)
      ∧ r.2.mem ((c.tc : Thread Cert.MlpfIdeal.nD Cert.MlpfIdeal.τ).loc Cert.MlpfIdeal.main_arg4) = m ((c.tc : Thread Cert.MlpfIdeal.nD Cert.MlpfIdeal.τ).loc Cert.MlpfIdeal.main_arg4))
      ∧ r.2.sem = fun _ => 0)

def quiescent_MlpfRefIdeal [hMlpfRefIdeal : Cert.MlpfRefIdeal.Facts] : Prop :=
  ∀ (m : (ℓ : Loc Cert.MlpfRefIdeal.nD Cert.MlpfRefIdeal.τ Cert.MlpfRefIdeal.sig) → Buf (Elt Ideal) ℓ) (g : Dev Cert.MlpfRefIdeal.nD → PrngReg), Pre_MlpfRefIdeal m →
    θ_run (Cert.MlpfRefIdeal.defs (F := Ideal)) (onTc (τ := Cert.MlpfRefIdeal.τ) (Cert.MlpfRefIdeal.main (F := Ideal))) ⟨m, fun _ => 0, g⟩ (fun r => (∀ c : Dev Cert.MlpfRefIdeal.nD,
      r.2.mem ((c.tc : Thread Cert.MlpfRefIdeal.nD Cert.MlpfRefIdeal.τ).loc Cert.MlpfRefIdeal.main_arg0) = m ((c.tc : Thread Cert.MlpfRefIdeal.nD Cert.MlpfRefIdeal.τ).loc Cert.MlpfRefIdeal.main_arg0)
      ∧ r.2.mem ((c.tc : Thread Cert.MlpfRefIdeal.nD Cert.MlpfRefIdeal.τ).loc Cert.MlpfRefIdeal.main_arg1) = m ((c.tc : Thread Cert.MlpfRefIdeal.nD Cert.MlpfRefIdeal.τ).loc Cert.MlpfRefIdeal.main_arg1)
      ∧ r.2.mem ((c.tc : Thread Cert.MlpfRefIdeal.nD Cert.MlpfRefIdeal.τ).loc Cert.MlpfRefIdeal.main_arg2) = m ((c.tc : Thread Cert.MlpfRefIdeal.nD Cert.MlpfRefIdeal.τ).loc Cert.MlpfRefIdeal.main_arg2)
      ∧ r.2.mem ((c.tc : Thread Cert.MlpfRefIdeal.nD Cert.MlpfRefIdeal.τ).loc Cert.MlpfRefIdeal.main_arg3) = m ((c.tc : Thread Cert.MlpfRefIdeal.nD Cert.MlpfRefIdeal.τ).loc Cert.MlpfRefIdeal.main_arg3)
      ∧ r.2.mem ((c.tc : Thread Cert.MlpfRefIdeal.nD Cert.MlpfRefIdeal.τ).loc Cert.MlpfRefIdeal.main_arg4) = m ((c.tc : Thread Cert.MlpfRefIdeal.nD Cert.MlpfRefIdeal.τ).loc Cert.MlpfRefIdeal.main_arg4))
      ∧ r.2.sem = fun _ => 0)

def quiescent_Inpf [hInpf : Cert.Inpf.Facts] : Prop :=
  ∀ (m : (ℓ : Loc Cert.Inpf.nD Cert.Inpf.τ Cert.Inpf.sig) → Buf (Elt Bits) ℓ) (g : Dev Cert.Inpf.nD → PrngReg), Pre_Inpf m →
    θ_run (Cert.Inpf.defs (F := Bits)) (onTc (τ := Cert.Inpf.τ) (Cert.Inpf.main (F := Bits))) ⟨m, fun _ => 0, g⟩ (fun r => (∀ c : Dev Cert.Inpf.nD,
      r.2.mem ((c.tc : Thread Cert.Inpf.nD Cert.Inpf.τ).loc Cert.Inpf.main_arg0) = m ((c.tc : Thread Cert.Inpf.nD Cert.Inpf.τ).loc Cert.Inpf.main_arg0)
      ∧ r.2.mem ((c.tc : Thread Cert.Inpf.nD Cert.Inpf.τ).loc Cert.Inpf.main_arg1) = m ((c.tc : Thread Cert.Inpf.nD Cert.Inpf.τ).loc Cert.Inpf.main_arg1)
      ∧ r.2.mem ((c.tc : Thread Cert.Inpf.nD Cert.Inpf.τ).loc Cert.Inpf.main_arg2) = m ((c.tc : Thread Cert.Inpf.nD Cert.Inpf.τ).loc Cert.Inpf.main_arg2))
      ∧ r.2.sem = fun _ => 0)

def quiescent_InpfIdeal [hInpfIdeal : Cert.InpfIdeal.Facts] : Prop :=
  ∀ (m : (ℓ : Loc Cert.InpfIdeal.nD Cert.InpfIdeal.τ Cert.InpfIdeal.sig) → Buf (Elt Ideal) ℓ) (g : Dev Cert.InpfIdeal.nD → PrngReg), Pre_InpfIdeal m →
    θ_run (Cert.InpfIdeal.defs (F := Ideal)) (onTc (τ := Cert.InpfIdeal.τ) (Cert.InpfIdeal.main (F := Ideal))) ⟨m, fun _ => 0, g⟩ (fun r => (∀ c : Dev Cert.InpfIdeal.nD,
      r.2.mem ((c.tc : Thread Cert.InpfIdeal.nD Cert.InpfIdeal.τ).loc Cert.InpfIdeal.main_arg0) = m ((c.tc : Thread Cert.InpfIdeal.nD Cert.InpfIdeal.τ).loc Cert.InpfIdeal.main_arg0)
      ∧ r.2.mem ((c.tc : Thread Cert.InpfIdeal.nD Cert.InpfIdeal.τ).loc Cert.InpfIdeal.main_arg1) = m ((c.tc : Thread Cert.InpfIdeal.nD Cert.InpfIdeal.τ).loc Cert.InpfIdeal.main_arg1)
      ∧ r.2.mem ((c.tc : Thread Cert.InpfIdeal.nD Cert.InpfIdeal.τ).loc Cert.InpfIdeal.main_arg2) = m ((c.tc : Thread Cert.InpfIdeal.nD Cert.InpfIdeal.τ).loc Cert.InpfIdeal.main_arg2))
      ∧ r.2.sem = fun _ => 0)

def quiescent_InpfRefIdeal [hInpfRefIdeal : Cert.InpfRefIdeal.Facts] : Prop :=
  ∀ (m : (ℓ : Loc Cert.InpfRefIdeal.nD Cert.InpfRefIdeal.τ Cert.InpfRefIdeal.sig) → Buf (Elt Ideal) ℓ) (g : Dev Cert.InpfRefIdeal.nD → PrngReg), Pre_InpfRefIdeal m →
    θ_run (Cert.InpfRefIdeal.defs (F := Ideal)) (onTc (τ := Cert.InpfRefIdeal.τ) (Cert.InpfRefIdeal.main (F := Ideal))) ⟨m, fun _ => 0, g⟩ (fun r => (∀ c : Dev Cert.InpfRefIdeal.nD,
      r.2.mem ((c.tc : Thread Cert.InpfRefIdeal.nD Cert.InpfRefIdeal.τ).loc Cert.InpfRefIdeal.main_arg0) = m ((c.tc : Thread Cert.InpfRefIdeal.nD Cert.InpfRefIdeal.τ).loc Cert.InpfRefIdeal.main_arg0)
      ∧ r.2.mem ((c.tc : Thread Cert.InpfRefIdeal.nD Cert.InpfRefIdeal.τ).loc Cert.InpfRefIdeal.main_arg1) = m ((c.tc : Thread Cert.InpfRefIdeal.nD Cert.InpfRefIdeal.τ).loc Cert.InpfRefIdeal.main_arg1)
      ∧ r.2.mem ((c.tc : Thread Cert.InpfRefIdeal.nD Cert.InpfRefIdeal.τ).loc Cert.InpfRefIdeal.main_arg2) = m ((c.tc : Thread Cert.InpfRefIdeal.nD Cert.InpfRefIdeal.τ).loc Cert.InpfRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ssd_SsdIdeal : Prop :=
  IdealRules.named_const.Statement Cert.SsdIdeal.κ "mask" .f32 0xF149F2CA#32 ⊥

def algebraic_SsdIdeal_SsdRefIdeal_pre_ssd_finite [hSsdIdeal : Cert.SsdIdeal.Facts] [hSsdRefIdeal : Cert.SsdRefIdeal.Facts] [hPre_ssd_finite : Cert.Pre_ssd_finite.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_ssd_finite m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v8_0)) (v1 : (c : Dev Cert.SsdIdeal.nD) → Buf (Elt Ideal) ((c.tc : Thread Cert.SsdIdeal.nD Cert.SsdIdeal.τ).loc Cert.SsdIdeal.main_v8_1)) (v2 : (c : Dev Cert.SsdIdeal.nD) → Buf (Elt Ideal) ((c.tc : Thread Cert.SsdIdeal.nD Cert.SsdIdeal.τ).loc Cert.SsdIdeal.main_v8_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v8_0) = v0 c
          ∧ r.2.mem ((c.tc : Thread Cert.SsdIdeal.nD Cert.SsdIdeal.τ).loc Cert.SsdIdeal.main_v8_1) = v1 c
          ∧ r.2.mem ((c.tc : Thread Cert.SsdIdeal.nD Cert.SsdIdeal.τ).loc Cert.SsdIdeal.main_v8_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v366) = v0 c
          ∧ r.2.mem ((c.tc : Thread Cert.SsdRefIdeal.nD Cert.SsdRefIdeal.τ).loc Cert.SsdRefIdeal.main_v384) = v1 c
          ∧ r.2.mem ((c.tc : Thread Cert.SsdRefIdeal.nD Cert.SsdRefIdeal.τ).loc Cert.SsdRefIdeal.main_v386) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_Ssdb_SsdbIdeal : Prop :=
  IdealRules.named_const.Statement Cert.SsdbIdeal.κ "mask" .f32 0xF149F2CA#32 ⊥

def algebraic_SsdbIdeal_SsdbRefIdeal_pre_ssdb_finite [hSsdbIdeal : Cert.SsdbIdeal.Facts] [hSsdbRefIdeal : Cert.SsdbRefIdeal.Facts] [hPre_ssdb_finite : Cert.Pre_ssdb_finite.Facts] : Prop :=
  ∀ (m : (ℓ : Loc Cert.SsdbIdeal.nD Cert.SsdbIdeal.τ Cert.SsdbIdeal.sig) → Buf (Elt Ideal) ℓ) (g : Dev Cert.SsdbIdeal.nD → PrngReg)
    (m' : (ℓ : Loc Cert.SsdbRefIdeal.nD Cert.SsdbRefIdeal.τ Cert.SsdbRefIdeal.sig) → Buf (Elt Ideal) ℓ) (g' : Dev Cert.SsdbRefIdeal.nD → PrngReg), Pre_SsdbIdeal_ssdb_finite m →
    (∀ c : Dev Cert.SsdbIdeal.nD,
      m' ((c.tc : Thread Cert.SsdbRefIdeal.nD Cert.SsdbRefIdeal.τ).loc Cert.SsdbRefIdeal.main_arg0) = m ((c.tc : Thread Cert.SsdbIdeal.nD Cert.SsdbIdeal.τ).loc Cert.SsdbIdeal.main_arg0)
      ∧ m' ((c.tc : Thread Cert.SsdbRefIdeal.nD Cert.SsdbRefIdeal.τ).loc Cert.SsdbRefIdeal.main_arg1) = m ((c.tc : Thread Cert.SsdbIdeal.nD Cert.SsdbIdeal.τ).loc Cert.SsdbIdeal.main_arg1)
      ∧ m' ((c.tc : Thread Cert.SsdbRefIdeal.nD Cert.SsdbRefIdeal.τ).loc Cert.SsdbRefIdeal.main_arg2) = m ((c.tc : Thread Cert.SsdbIdeal.nD Cert.SsdbIdeal.τ).loc Cert.SsdbIdeal.main_arg2)
      ∧ m' ((c.tc : Thread Cert.SsdbRefIdeal.nD Cert.SsdbRefIdeal.τ).loc Cert.SsdbRefIdeal.main_arg3) = m ((c.tc : Thread Cert.SsdbIdeal.nD Cert.SsdbIdeal.τ).loc Cert.SsdbIdeal.main_arg3)
      ∧ m' ((c.tc : Thread Cert.SsdbRefIdeal.nD Cert.SsdbRefIdeal.τ).loc Cert.SsdbRefIdeal.main_arg4) = m ((c.tc : Thread Cert.SsdbIdeal.nD Cert.SsdbIdeal.τ).loc Cert.SsdbIdeal.main_arg4)
      ∧ m' ((c.tc : Thread Cert.SsdbRefIdeal.nD Cert.SsdbRefIdeal.τ).loc Cert.SsdbRefIdeal.main_arg5) = m ((c.tc : Thread Cert.SsdbIdeal.nD Cert.SsdbIdeal.τ).loc Cert.SsdbIdeal.main_arg5)
      ∧ m' ((c.tc : Thread Cert.SsdbRefIdeal.nD Cert.SsdbRefIdeal.τ).loc Cert.SsdbRefIdeal.main_arg6) = m ((c.tc : Thread Cert.SsdbIdeal.nD Cert.SsdbIdeal.τ).loc Cert.SsdbIdeal.main_arg6)
      ∧ m' ((c.tc : Thread Cert.SsdbRefIdeal.nD Cert.SsdbRefIdeal.τ).loc Cert.SsdbRefIdeal.main_arg7) = m ((c.tc : Thread Cert.SsdbIdeal.nD Cert.SsdbIdeal.τ).loc Cert.SsdbIdeal.main_arg7)) →
    ∃ (v0 : (c : Dev Cert.SsdbIdeal.nD) → Buf (Elt Ideal) ((c.tc : Thread Cert.SsdbIdeal.nD Cert.SsdbIdeal.τ).loc Cert.SsdbIdeal.main_v377_0)) (v1 : (c : Dev Cert.SsdbIdeal.nD) → Buf (Elt Ideal) ((c.tc : Thread Cert.SsdbIdeal.nD Cert.SsdbIdeal.τ).loc Cert.SsdbIdeal.main_v377_1)) (v2 : (c : Dev Cert.SsdbIdeal.nD) → Buf (Elt Ideal) ((c.tc : Thread Cert.SsdbIdeal.nD Cert.SsdbIdeal.τ).loc Cert.SsdbIdeal.main_v377_2)) (v3 : (c : Dev Cert.SsdbIdeal.nD) → Buf (Elt Ideal) ((c.tc : Thread Cert.SsdbIdeal.nD Cert.SsdbIdeal.τ).loc Cert.SsdbIdeal.main_v377_3)) (v4 : (c : Dev Cert.SsdbIdeal.nD) → Buf (Elt Ideal) ((c.tc : Thread Cert.SsdbIdeal.nD Cert.SsdbIdeal.τ).loc Cert.SsdbIdeal.main_v377_4)) (v5 : (c : Dev Cert.SsdbIdeal.nD) → Buf (Elt Ideal) ((c.tc : Thread Cert.SsdbIdeal.nD Cert.SsdbIdeal.τ).loc Cert.SsdbIdeal.main_v377_5)) (v6 : (c : Dev Cert.SsdbIdeal.nD) → Buf (Elt Ideal) ((c.tc : Thread Cert.SsdbIdeal.nD Cert.SsdbIdeal.τ).loc Cert.SsdbIdeal.main_v377_6)),
      θ_run (Cert.SsdbIdeal.defs (F := Ideal)) (onTc (τ := Cert.SsdbIdeal.τ) (Cert.SsdbIdeal.main (F := Ideal))) ⟨m, fun _ => 0, g⟩ (fun r => ∀ c : Dev Cert.SsdbIdeal.nD,
          r.2.mem ((c.tc : Thread Cert.SsdbIdeal.nD Cert.SsdbIdeal.τ).loc Cert.SsdbIdeal.main_v377_0) = v0 c
          ∧ r.2.mem ((c.tc : Thread Cert.SsdbIdeal.nD Cert.SsdbIdeal.τ).loc Cert.SsdbIdeal.main_v377_1) = v1 c
          ∧ r.2.mem ((c.tc : Thread Cert.SsdbIdeal.nD Cert.SsdbIdeal.τ).loc Cert.SsdbIdeal.main_v377_2) = v2 c
          ∧ r.2.mem ((c.tc : Thread Cert.SsdbIdeal.nD Cert.SsdbIdeal.τ).loc Cert.SsdbIdeal.main_v377_3) = v3 c
          ∧ r.2.mem ((c.tc : Thread Cert.SsdbIdeal.nD Cert.SsdbIdeal.τ).loc Cert.SsdbIdeal.main_v377_4) = v4 c
          ∧ r.2.mem ((c.tc : Thread Cert.SsdbIdeal.nD Cert.SsdbIdeal.τ).loc Cert.SsdbIdeal.main_v377_5) = v5 c
          ∧ r.2.mem ((c.tc : Thread Cert.SsdbIdeal.nD Cert.SsdbIdeal.τ).loc Cert.SsdbIdeal.main_v377_6) = v6 c
          ∧ r.2.mem ((c.tc : Thread Cert.SsdbIdeal.nD Cert.SsdbIdeal.τ).loc Cert.SsdbIdeal.main_arg0) = m ((c.tc : Thread Cert.SsdbIdeal.nD Cert.SsdbIdeal.τ).loc Cert.SsdbIdeal.main_arg0)
          ∧ r.2.mem ((c.tc : Thread Cert.SsdbIdeal.nD Cert.SsdbIdeal.τ).loc Cert.SsdbIdeal.main_arg1) = m ((c.tc : Thread Cert.SsdbIdeal.nD Cert.SsdbIdeal.τ).loc Cert.SsdbIdeal.main_arg1)
          ∧ r.2.mem ((c.tc : Thread Cert.SsdbIdeal.nD Cert.SsdbIdeal.τ).loc Cert.SsdbIdeal.main_arg2) = m ((c.tc : Thread Cert.SsdbIdeal.nD Cert.SsdbIdeal.τ).loc Cert.SsdbIdeal.main_arg2)
          ∧ r.2.mem ((c.tc : Thread Cert.SsdbIdeal.nD Cert.SsdbIdeal.τ).loc Cert.SsdbIdeal.main_arg3) = m ((c.tc : Thread Cert.SsdbIdeal.nD Cert.SsdbIdeal.τ).loc Cert.SsdbIdeal.main_arg3)
          ∧ r.2.mem ((c.tc : Thread Cert.SsdbIdeal.nD Cert.SsdbIdeal.τ).loc Cert.SsdbIdeal.main_arg4) = m ((c.tc : Thread Cert.SsdbIdeal.nD Cert.SsdbIdeal.τ).loc Cert.SsdbIdeal.main_arg4)
          ∧ r.2.mem ((c.tc : Thread Cert.SsdbIdeal.nD Cert.SsdbIdeal.τ).loc Cert.SsdbIdeal.main_arg5) = m ((c.tc : Thread Cert.SsdbIdeal.nD Cert.SsdbIdeal.τ).loc Cert.SsdbIdeal.main_arg5)
          ∧ r.2.mem ((c.tc : Thread Cert.SsdbIdeal.nD Cert.SsdbIdeal.τ).loc Cert.SsdbIdeal.main_arg6) = m ((c.tc : Thread Cert.SsdbIdeal.nD Cert.SsdbIdeal.τ).loc Cert.SsdbIdeal.main_arg6)
          ∧ r.2.mem ((c.tc : Thread Cert.SsdbIdeal.nD Cert.SsdbIdeal.τ).loc Cert.SsdbIdeal.main_arg7) = m ((c.tc : Thread Cert.SsdbIdeal.nD Cert.SsdbIdeal.τ).loc Cert.SsdbIdeal.main_arg7))
      ∧ θ_run (Cert.SsdbRefIdeal.defs (F := Ideal)) (onTc (τ := Cert.SsdbRefIdeal.τ) (Cert.SsdbRefIdeal.main (F := Ideal))) ⟨m', fun _ => 0, g'⟩ (fun r => ∀ c : Dev Cert.SsdbRefIdeal.nD,
          r.2.mem ((c.tc : Thread Cert.SsdbRefIdeal.nD Cert.SsdbRefIdeal.τ).loc Cert.SsdbRefIdeal.main_v1053) = v0 c
          ∧ r.2.mem ((c.tc : Thread Cert.SsdbRefIdeal.nD Cert.SsdbRefIdeal.τ).loc Cert.SsdbRefIdeal.main_v1052) = v1 c
          ∧ r.2.mem ((c.tc : Thread Cert.SsdbRefIdeal.nD Cert.SsdbRefIdeal.τ).loc Cert.SsdbRefIdeal.main_v1054) = v2 c
          ∧ r.2.mem ((c.tc : Thread Cert.SsdbRefIdeal.nD Cert.SsdbRefIdeal.τ).loc Cert.SsdbRefIdeal.main_v1055) = v3 c
          ∧ r.2.mem ((c.tc : Thread Cert.SsdbRefIdeal.nD Cert.SsdbRefIdeal.τ).loc Cert.SsdbRefIdeal.main_v1058) = v4 c
          ∧ r.2.mem ((c.tc : Thread Cert.SsdbRefIdeal.nD Cert.SsdbRefIdeal.τ).loc Cert.SsdbRefIdeal.main_v1061) = v5 c
          ∧ r.2.mem ((c.tc : Thread Cert.SsdbRefIdeal.nD Cert.SsdbRefIdeal.τ).loc Cert.SsdbRefIdeal.main_v1064) = v6 c
          ∧ r.2.mem ((c.tc : Thread Cert.SsdbRefIdeal.nD Cert.SsdbRefIdeal.τ).loc Cert.SsdbRefIdeal.main_arg0) = m' ((c.tc : Thread Cert.SsdbRefIdeal.nD Cert.SsdbRefIdeal.τ).loc Cert.SsdbRefIdeal.main_arg0)
          ∧ r.2.mem ((c.tc : Thread Cert.SsdbRefIdeal.nD Cert.SsdbRefIdeal.τ).loc Cert.SsdbRefIdeal.main_arg1) = m' ((c.tc : Thread Cert.SsdbRefIdeal.nD Cert.SsdbRefIdeal.τ).loc Cert.SsdbRefIdeal.main_arg1)
          ∧ r.2.mem ((c.tc : Thread Cert.SsdbRefIdeal.nD Cert.SsdbRefIdeal.τ).loc Cert.SsdbRefIdeal.main_arg2) = m' ((c.tc : Thread Cert.SsdbRefIdeal.nD Cert.SsdbRefIdeal.τ).loc Cert.SsdbRefIdeal.main_arg2)
          ∧ r.2.mem ((c.tc : Thread Cert.SsdbRefIdeal.nD Cert.SsdbRefIdeal.τ).loc Cert.SsdbRefIdeal.main_arg3) = m' ((c.tc : Thread Cert.SsdbRefIdeal.nD Cert.SsdbRefIdeal.τ).loc Cert.SsdbRefIdeal.main_arg3)
          ∧ r.2.mem ((c.tc : Thread Cert.SsdbRefIdeal.nD Cert.SsdbRefIdeal.τ).loc Cert.SsdbRefIdeal.main_arg4) = m' ((c.tc : Thread Cert.SsdbRefIdeal.nD Cert.SsdbRefIdeal.τ).loc Cert.SsdbRefIdeal.main_arg4)
          ∧ r.2.mem ((c.tc : Thread Cert.SsdbRefIdeal.nD Cert.SsdbRefIdeal.τ).loc Cert.SsdbRefIdeal.main_arg5) = m' ((c.tc : Thread Cert.SsdbRefIdeal.nD Cert.SsdbRefIdeal.τ).loc Cert.SsdbRefIdeal.main_arg5)
          ∧ r.2.mem ((c.tc : Thread Cert.SsdbRefIdeal.nD Cert.SsdbRefIdeal.τ).loc Cert.SsdbRefIdeal.main_arg6) = m' ((c.tc : Thread Cert.SsdbRefIdeal.nD Cert.SsdbRefIdeal.τ).loc Cert.SsdbRefIdeal.main_arg6)
          ∧ r.2.mem ((c.tc : Thread Cert.SsdbRefIdeal.nD Cert.SsdbRefIdeal.τ).loc Cert.SsdbRefIdeal.main_arg7) = m' ((c.tc : Thread Cert.SsdbRefIdeal.nD Cert.SsdbRefIdeal.τ).loc Cert.SsdbRefIdeal.main_arg7))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v27_0)) (v1 : (c : Dev Cert.MlpIdeal.nD) → Buf (Elt Ideal) ((c.tc : Thread Cert.MlpIdeal.nD Cert.MlpIdeal.τ).loc Cert.MlpIdeal.main_v27_1)) (v2 : (c : Dev Cert.MlpIdeal.nD) → Buf (Elt Ideal) ((c.tc : Thread Cert.MlpIdeal.nD Cert.MlpIdeal.τ).loc Cert.MlpIdeal.main_v27_2)) (v3 : (c : Dev Cert.MlpIdeal.nD) → Buf (Elt Ideal) ((c.tc : Thread Cert.MlpIdeal.nD Cert.MlpIdeal.τ).loc Cert.MlpIdeal.main_v27_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v27_0) = v0 c
          ∧ r.2.mem ((c.tc : Thread Cert.MlpIdeal.nD Cert.MlpIdeal.τ).loc Cert.MlpIdeal.main_v27_1) = v1 c
          ∧ r.2.mem ((c.tc : Thread Cert.MlpIdeal.nD Cert.MlpIdeal.τ).loc Cert.MlpIdeal.main_v27_2) = v2 c
          ∧ r.2.mem ((c.tc : Thread Cert.MlpIdeal.nD Cert.MlpIdeal.τ).loc Cert.MlpIdeal.main_v27_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v53) = v0 c
          ∧ r.2.mem ((c.tc : Thread Cert.MlpRefIdeal.nD Cert.MlpRefIdeal.τ).loc Cert.MlpRefIdeal.main_v52) = v1 c
          ∧ r.2.mem ((c.tc : Thread Cert.MlpRefIdeal.nD Cert.MlpRefIdeal.τ).loc Cert.MlpRefIdeal.main_v54) = v2 c
          ∧ r.2.mem ((c.tc : Thread Cert.MlpRefIdeal.nD Cert.MlpRefIdeal.τ).loc Cert.MlpRefIdeal.main_v55) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)
      ∧ m' ((c.tc : Thread Cert.PleRefIdeal.nD Cert.PleRefIdeal.τ).loc Cert.PleRefIdeal.main_arg8) = m ((c.tc : Thread Cert.PleIdeal.nD Cert.PleIdeal.τ).loc Cert.PleIdeal.main_arg8)) →
    ∃ (v0 : (c : Dev Cert.PleIdeal.nD) → Buf (Elt Ideal) ((c.tc : Thread Cert.PleIdeal.nD Cert.PleIdeal.τ).loc Cert.PleIdeal.main_v23_0)) (v1 : (c : Dev Cert.PleIdeal.nD) → Buf (Elt Ideal) ((c.tc : Thread Cert.PleIdeal.nD Cert.PleIdeal.τ).loc Cert.PleIdeal.main_v23_1)) (v2 : (c : Dev Cert.PleIdeal.nD) → Buf (Elt Ideal) ((c.tc : Thread Cert.PleIdeal.nD Cert.PleIdeal.τ).loc Cert.PleIdeal.main_v23_2)) (v3 : (c : Dev Cert.PleIdeal.nD) → Buf (Elt Ideal) ((c.tc : Thread Cert.PleIdeal.nD Cert.PleIdeal.τ).loc Cert.PleIdeal.main_v23_3)) (v4 : (c : Dev Cert.PleIdeal.nD) → Buf (Elt Ideal) ((c.tc : Thread Cert.PleIdeal.nD Cert.PleIdeal.τ).loc Cert.PleIdeal.main_v23_4)) (v5 : (c : Dev Cert.PleIdeal.nD) → Buf (Elt Ideal) ((c.tc : Thread Cert.PleIdeal.nD Cert.PleIdeal.τ).loc Cert.PleIdeal.main_v23_5)) (v6 : (c : Dev Cert.PleIdeal.nD) → Buf (Elt Ideal) ((c.tc : Thread Cert.PleIdeal.nD Cert.PleIdeal.τ).loc Cert.PleIdeal.main_v23_6)) (v7 : (c : Dev Cert.PleIdeal.nD) → Buf (Elt Ideal) ((c.tc : Thread Cert.PleIdeal.nD Cert.PleIdeal.τ).loc Cert.PleIdeal.main_v23_7)) (v8 : (c : Dev Cert.PleIdeal.nD) → Buf (Elt Ideal) ((c.tc : Thread Cert.PleIdeal.nD Cert.PleIdeal.τ).loc Cert.PleIdeal.main_v23_8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v23_0) = v0 c
          ∧ r.2.mem ((c.tc : Thread Cert.PleIdeal.nD Cert.PleIdeal.τ).loc Cert.PleIdeal.main_v23_1) = v1 c
          ∧ r.2.mem ((c.tc : Thread Cert.PleIdeal.nD Cert.PleIdeal.τ).loc Cert.PleIdeal.main_v23_2) = v2 c
          ∧ r.2.mem ((c.tc : Thread Cert.PleIdeal.nD Cert.PleIdeal.τ).loc Cert.PleIdeal.main_v23_3) = v3 c
          ∧ r.2.mem ((c.tc : Thread Cert.PleIdeal.nD Cert.PleIdeal.τ).loc Cert.PleIdeal.main_v23_4) = v4 c
          ∧ r.2.mem ((c.tc : Thread Cert.PleIdeal.nD Cert.PleIdeal.τ).loc Cert.PleIdeal.main_v23_5) = v5 c
          ∧ r.2.mem ((c.tc : Thread Cert.PleIdeal.nD Cert.PleIdeal.τ).loc Cert.PleIdeal.main_v23_6) = v6 c
          ∧ r.2.mem ((c.tc : Thread Cert.PleIdeal.nD Cert.PleIdeal.τ).loc Cert.PleIdeal.main_v23_7) = v7 c
          ∧ r.2.mem ((c.tc : Thread Cert.PleIdeal.nD Cert.PleIdeal.τ).loc Cert.PleIdeal.main_v23_8) = v8 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
          ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v147) = v0 c
          ∧ r.2.mem ((c.tc : Thread Cert.PleRefIdeal.nD Cert.PleRefIdeal.τ).loc Cert.PleRefIdeal.main_v146) = v1 c
          ∧ r.2.mem ((c.tc : Thread Cert.PleRefIdeal.nD Cert.PleRefIdeal.τ).loc Cert.PleRefIdeal.main_v148) = v2 c
          ∧ r.2.mem ((c.tc : Thread Cert.PleRefIdeal.nD Cert.PleRefIdeal.τ).loc Cert.PleRefIdeal.main_v149) = v3 c
          ∧ r.2.mem ((c.tc : Thread Cert.PleRefIdeal.nD Cert.PleRefIdeal.τ).loc Cert.PleRefIdeal.main_v150) = v4 c
          ∧ r.2.mem ((c.tc : Thread Cert.PleRefIdeal.nD Cert.PleRefIdeal.τ).loc Cert.PleRefIdeal.main_v151) = v5 c
          ∧ r.2.mem ((c.tc : Thread Cert.PleRefIdeal.nD Cert.PleRefIdeal.τ).loc Cert.PleRefIdeal.main_v152) = v6 c
          ∧ r.2.mem ((c.tc : Thread Cert.PleRefIdeal.nD Cert.PleRefIdeal.τ).loc Cert.PleRefIdeal.main_v153) = v7 c
          ∧ r.2.mem ((c.tc : Thread Cert.PleRefIdeal.nD Cert.PleRefIdeal.τ).loc Cert.PleRefIdeal.main_v154) = v8 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7)
          ∧ r.2.mem ((c.tc : Thread Cert.PleRefIdeal.nD Cert.PleRefIdeal.τ).loc Cert.PleRefIdeal.main_arg8) = m' ((c.tc : Thread Cert.PleRefIdeal.nD Cert.PleRefIdeal.τ).loc Cert.PleRefIdeal.main_arg8))

def preserves_Inp_InpIdeal : Prop :=
  True

def algebraic_InpIdeal_InpRefIdeal_pre_inp_finite [hInpIdeal : Cert.InpIdeal.Facts] [hInpRefIdeal : Cert.InpRefIdeal.Facts] [hPre_inp_finite : Cert.Pre_inp_finite.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_inp_finite m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)) →
    ∃ (v0 : (c : Dev Cert.InpIdeal.nD) → Buf (Elt Ideal) ((c.tc : Thread Cert.InpIdeal.nD Cert.InpIdeal.τ).loc Cert.InpIdeal.main_v6_0)) (v1 : (c : Dev Cert.InpIdeal.nD) → Buf (Elt Ideal) ((c.tc : Thread Cert.InpIdeal.nD Cert.InpIdeal.τ).loc Cert.InpIdeal.main_v6_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v6_0) = v0 c
          ∧ r.2.mem ((c.tc : Thread Cert.InpIdeal.nD Cert.InpIdeal.τ).loc Cert.InpIdeal.main_v6_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v49) = v0 c
          ∧ r.2.mem ((c.tc : Thread Cert.InpRefIdeal.nD Cert.InpRefIdeal.τ).loc Cert.InpRefIdeal.main_v50) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7)
          ∧ r.2.mem ((c.tc : Thread Cert.InpRefIdeal.nD Cert.InpRefIdeal.τ).loc Cert.InpRefIdeal.main_arg8) = m' ((c.tc : Thread Cert.InpRefIdeal.nD Cert.InpRefIdeal.τ).loc Cert.InpRefIdeal.main_arg8))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)) →
    ∃ (v0 : (c : Dev Cert.SconvIdeal.nD) → Buf (Elt Ideal) ((c.tc : Thread Cert.SconvIdeal.nD Cert.SconvIdeal.τ).loc Cert.SconvIdeal.main_v2_0)) (v1 : (c : Dev Cert.SconvIdeal.nD) → Buf (Elt Ideal) ((c.tc : Thread Cert.SconvIdeal.nD Cert.SconvIdeal.τ).loc Cert.SconvIdeal.main_v2_1)) (v2 : (c : Dev Cert.SconvIdeal.nD) → Buf (Elt Ideal) ((c.tc : Thread Cert.SconvIdeal.nD Cert.SconvIdeal.τ).loc Cert.SconvIdeal.main_v2_2)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v2_0) = v0 c
          ∧ r.2.mem ((c.tc : Thread Cert.SconvIdeal.nD Cert.SconvIdeal.τ).loc Cert.SconvIdeal.main_v2_1) = v1 c
          ∧ r.2.mem ((c.tc : Thread Cert.SconvIdeal.nD Cert.SconvIdeal.τ).loc Cert.SconvIdeal.main_v2_2) = v2 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v81) = v0 c
          ∧ r.2.mem ((c.tc : Thread Cert.SconvRefIdeal.nD Cert.SconvRefIdeal.τ).loc Cert.SconvRefIdeal.main_v83) = v1 c
          ∧ r.2.mem ((c.tc : Thread Cert.SconvRefIdeal.nD Cert.SconvRefIdeal.τ).loc Cert.SconvRefIdeal.main_v84) = v2 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3))

def preserves_Fconv_FconvIdeal : Prop :=
  True

def algebraic_FconvIdeal_FconvRefIdeal [hFconvIdeal : Cert.FconvIdeal.Facts] [hFconvRefIdeal : Cert.FconvRefIdeal.Facts] : Prop :=
  ∀ (m : (ℓ : Loc Cert.FconvIdeal.nD Cert.FconvIdeal.τ Cert.FconvIdeal.sig) → Buf (Elt Ideal) ℓ) (g : Dev Cert.FconvIdeal.nD → PrngReg)
    (m' : (ℓ : Loc Cert.FconvRefIdeal.nD Cert.FconvRefIdeal.τ Cert.FconvRefIdeal.sig) → Buf (Elt Ideal) ℓ) (g' : Dev Cert.FconvRefIdeal.nD → PrngReg), Pre_FconvIdeal m →
    (∀ c : Dev Cert.FconvIdeal.nD,
      m' ((c.tc : Thread Cert.FconvRefIdeal.nD Cert.FconvRefIdeal.τ).loc Cert.FconvRefIdeal.main_arg0) = m ((c.tc : Thread Cert.FconvIdeal.nD Cert.FconvIdeal.τ).loc Cert.FconvIdeal.main_arg0)
      ∧ m' ((c.tc : Thread Cert.FconvRefIdeal.nD Cert.FconvRefIdeal.τ).loc Cert.FconvRefIdeal.main_arg1) = m ((c.tc : Thread Cert.FconvIdeal.nD Cert.FconvIdeal.τ).loc Cert.FconvIdeal.main_arg1)
      ∧ m' ((c.tc : Thread Cert.FconvRefIdeal.nD Cert.FconvRefIdeal.τ).loc Cert.FconvRefIdeal.main_arg2) = m ((c.tc : Thread Cert.FconvIdeal.nD Cert.FconvIdeal.τ).loc Cert.FconvIdeal.main_arg2)) →
    ∃ (v0 : (c : Dev Cert.FconvIdeal.nD) → Buf (Elt Ideal) ((c.tc : Thread Cert.FconvIdeal.nD Cert.FconvIdeal.τ).loc Cert.FconvIdeal.main_v3)),
      θ_run (Cert.FconvIdeal.defs (F := Ideal)) (onTc (τ := Cert.FconvIdeal.τ) (Cert.FconvIdeal.main (F := Ideal))) ⟨m, fun _ => 0, g⟩ (fun r => ∀ c : Dev Cert.FconvIdeal.nD,
          r.2.mem ((c.tc : Thread Cert.FconvIdeal.nD Cert.FconvIdeal.τ).loc Cert.FconvIdeal.main_v3) = v0 c
          ∧ r.2.mem ((c.tc : Thread Cert.FconvIdeal.nD Cert.FconvIdeal.τ).loc Cert.FconvIdeal.main_arg0) = m ((c.tc : Thread Cert.FconvIdeal.nD Cert.FconvIdeal.τ).loc Cert.FconvIdeal.main_arg0)
          ∧ r.2.mem ((c.tc : Thread Cert.FconvIdeal.nD Cert.FconvIdeal.τ).loc Cert.FconvIdeal.main_arg1) = m ((c.tc : Thread Cert.FconvIdeal.nD Cert.FconvIdeal.τ).loc Cert.FconvIdeal.main_arg1)
          ∧ r.2.mem ((c.tc : Thread Cert.FconvIdeal.nD Cert.FconvIdeal.τ).loc Cert.FconvIdeal.main_arg2) = m ((c.tc : Thread Cert.FconvIdeal.nD Cert.FconvIdeal.τ).loc Cert.FconvIdeal.main_arg2))
      ∧ θ_run (Cert.FconvRefIdeal.defs (F := Ideal)) (onTc (τ := Cert.FconvRefIdeal.τ) (Cert.FconvRefIdeal.main (F := Ideal))) ⟨m', fun _ => 0, g'⟩ (fun r => ∀ c : Dev Cert.FconvRefIdeal.nD,
          r.2.mem ((c.tc : Thread Cert.FconvRefIdeal.nD Cert.FconvRefIdeal.τ).loc Cert.FconvRefIdeal.main_v31) = v0 c
          ∧ r.2.mem ((c.tc : Thread Cert.FconvRefIdeal.nD Cert.FconvRefIdeal.τ).loc Cert.FconvRefIdeal.main_arg0) = m' ((c.tc : Thread Cert.FconvRefIdeal.nD Cert.FconvRefIdeal.τ).loc Cert.FconvRefIdeal.main_arg0)
          ∧ r.2.mem ((c.tc : Thread Cert.FconvRefIdeal.nD Cert.FconvRefIdeal.τ).loc Cert.FconvRefIdeal.main_arg1) = m' ((c.tc : Thread Cert.FconvRefIdeal.nD Cert.FconvRefIdeal.τ).loc Cert.FconvRefIdeal.main_arg1)
          ∧ r.2.mem ((c.tc : Thread Cert.FconvRefIdeal.nD Cert.FconvRefIdeal.τ).loc Cert.FconvRefIdeal.main_arg2) = m' ((c.tc : Thread Cert.FconvRefIdeal.nD Cert.FconvRefIdeal.τ).loc Cert.FconvRefIdeal.main_arg2))

def preserves_Outf_OutfIdeal : Prop :=
  True

def algebraic_OutfIdeal_OutfRefIdeal [hOutfIdeal : Cert.OutfIdeal.Facts] [hOutfRefIdeal : Cert.OutfRefIdeal.Facts] : Prop :=
  ∀ (m : (ℓ : Loc Cert.OutfIdeal.nD Cert.OutfIdeal.τ Cert.OutfIdeal.sig) → Buf (Elt Ideal) ℓ) (g : Dev Cert.OutfIdeal.nD → PrngReg)
    (m' : (ℓ : Loc Cert.OutfRefIdeal.nD Cert.OutfRefIdeal.τ Cert.OutfRefIdeal.sig) → Buf (Elt Ideal) ℓ) (g' : Dev Cert.OutfRefIdeal.nD → PrngReg), Pre_OutfIdeal m →
    (∀ c : Dev Cert.OutfIdeal.nD,
      m' ((c.tc : Thread Cert.OutfRefIdeal.nD Cert.OutfRefIdeal.τ).loc Cert.OutfRefIdeal.main_arg0) = m ((c.tc : Thread Cert.OutfIdeal.nD Cert.OutfIdeal.τ).loc Cert.OutfIdeal.main_arg0)
      ∧ m' ((c.tc : Thread Cert.OutfRefIdeal.nD Cert.OutfRefIdeal.τ).loc Cert.OutfRefIdeal.main_arg1) = m ((c.tc : Thread Cert.OutfIdeal.nD Cert.OutfIdeal.τ).loc Cert.OutfIdeal.main_arg1)
      ∧ m' ((c.tc : Thread Cert.OutfRefIdeal.nD Cert.OutfRefIdeal.τ).loc Cert.OutfRefIdeal.main_arg2) = m ((c.tc : Thread Cert.OutfIdeal.nD Cert.OutfIdeal.τ).loc Cert.OutfIdeal.main_arg2)
      ∧ m' ((c.tc : Thread Cert.OutfRefIdeal.nD Cert.OutfRefIdeal.τ).loc Cert.OutfRefIdeal.main_arg3) = m ((c.tc : Thread Cert.OutfIdeal.nD Cert.OutfIdeal.τ).loc Cert.OutfIdeal.main_arg3)
      ∧ m' ((c.tc : Thread Cert.OutfRefIdeal.nD Cert.OutfRefIdeal.τ).loc Cert.OutfRefIdeal.main_arg4) = m ((c.tc : Thread Cert.OutfIdeal.nD Cert.OutfIdeal.τ).loc Cert.OutfIdeal.main_arg4)) →
    ∃ (v0 : (c : Dev Cert.OutfIdeal.nD) → Buf (Elt Ideal) ((c.tc : Thread Cert.OutfIdeal.nD Cert.OutfIdeal.τ).loc Cert.OutfIdeal.main_v7_0)) (v1 : (c : Dev Cert.OutfIdeal.nD) → Buf (Elt Ideal) ((c.tc : Thread Cert.OutfIdeal.nD Cert.OutfIdeal.τ).loc Cert.OutfIdeal.main_v7_1)),
      θ_run (Cert.OutfIdeal.defs (F := Ideal)) (onTc (τ := Cert.OutfIdeal.τ) (Cert.OutfIdeal.main (F := Ideal))) ⟨m, fun _ => 0, g⟩ (fun r => ∀ c : Dev Cert.OutfIdeal.nD,
          r.2.mem ((c.tc : Thread Cert.OutfIdeal.nD Cert.OutfIdeal.τ).loc Cert.OutfIdeal.main_v7_0) = v0 c
          ∧ r.2.mem ((c.tc : Thread Cert.OutfIdeal.nD Cert.OutfIdeal.τ).loc Cert.OutfIdeal.main_v7_1) = v1 c
          ∧ r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
          ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
          ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
          ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
          ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4))
      ∧ θ_run (Cert.OutfRefIdeal.defs (F := Ideal)) (onTc (τ := Cert.OutfRefIdeal.τ) (Cert.OutfRefIdeal.main (F := Ideal))) ⟨m', fun _ => 0, g'⟩ (fun r => ∀ c : Dev Cert.OutfRefIdeal.nD,
          r.2.mem ((c.tc : Thread Cert.OutfRefIdeal.nD Cert.OutfRefIdeal.τ).loc Cert.OutfRefIdeal.main_v2) = v0 c
          ∧ r.2.mem ((c.tc : Thread Cert.OutfRefIdeal.nD Cert.OutfRefIdeal.τ).loc Cert.OutfRefIdeal.main_v16) = v1 c
          ∧ r.2.mem ((c.tc : Thread Cert.OutfRefIdeal.nD Cert.OutfRefIdeal.τ).loc Cert.OutfRefIdeal.main_arg0) = m' ((c.tc : Thread Cert.OutfRefIdeal.nD Cert.OutfRefIdeal.τ).loc Cert.OutfRefIdeal.main_arg0)
          ∧ r.2.mem ((c.tc : Thread Cert.OutfRefIdeal.nD Cert.OutfRefIdeal.τ).loc Cert.OutfRefIdeal.main_arg1) = m' ((c.tc : Thread Cert.OutfRefIdeal.nD Cert.OutfRefIdeal.τ).loc Cert.OutfRefIdeal.main_arg1)
          ∧ r.2.mem ((c.tc : Thread Cert.OutfRefIdeal.nD Cert.OutfRefIdeal.τ).loc Cert.OutfRefIdeal.main_arg2) = m' ((c.tc : Thread Cert.OutfRefIdeal.nD Cert.OutfRefIdeal.τ).loc Cert.OutfRefIdeal.main_arg2)
          ∧ r.2.mem ((c.tc : Thread Cert.OutfRefIdeal.nD Cert.OutfRefIdeal.τ).loc Cert.OutfRefIdeal.main_arg3) = m' ((c.tc : Thread Cert.OutfRefIdeal.nD Cert.OutfRefIdeal.τ).loc Cert.OutfRefIdeal.main_arg3)
          ∧ r.2.mem ((c.tc : Thread Cert.OutfRefIdeal.nD Cert.OutfRefIdeal.τ).loc Cert.OutfRefIdeal.main_arg4) = m' ((c.tc : Thread Cert.OutfRefIdeal.nD Cert.OutfRefIdeal.τ).loc Cert.OutfRefIdeal.main_arg4))

def preserves_Mlpf_MlpfIdeal : Prop :=
  True

def algebraic_MlpfIdeal_MlpfRefIdeal [hMlpfIdeal : Cert.MlpfIdeal.Facts] [hMlpfRefIdeal : Cert.MlpfRefIdeal.Facts] : Prop :=
  ∀ (m : (ℓ : Loc Cert.MlpfIdeal.nD Cert.MlpfIdeal.τ Cert.MlpfIdeal.sig) → Buf (Elt Ideal) ℓ) (g : Dev Cert.MlpfIdeal.nD → PrngReg)
    (m' : (ℓ : Loc Cert.MlpfRefIdeal.nD Cert.MlpfRefIdeal.τ Cert.MlpfRefIdeal.sig) → Buf (Elt Ideal) ℓ) (g' : Dev Cert.MlpfRefIdeal.nD → PrngReg), Pre_MlpfIdeal m →
    (∀ c : Dev Cert.MlpfIdeal.nD,
      m' ((c.tc : Thread Cert.MlpfRefIdeal.nD Cert.MlpfRefIdeal.τ).loc Cert.MlpfRefIdeal.main_arg0) = m ((c.tc : Thread Cert.MlpfIdeal.nD Cert.MlpfIdeal.τ).loc Cert.MlpfIdeal.main_arg0)
      ∧ m' ((c.tc : Thread Cert.MlpfRefIdeal.nD Cert.MlpfRefIdeal.τ).loc Cert.MlpfRefIdeal.main_arg1) = m ((c.tc : Thread Cert.MlpfIdeal.nD Cert.MlpfIdeal.τ).loc Cert.MlpfIdeal.main_arg1)
      ∧ m' ((c.tc : Thread Cert.MlpfRefIdeal.nD Cert.MlpfRefIdeal.τ).loc Cert.MlpfRefIdeal.main_arg2) = m ((c.tc : Thread Cert.MlpfIdeal.nD Cert.MlpfIdeal.τ).loc Cert.MlpfIdeal.main_arg2)
      ∧ m' ((c.tc : Thread Cert.MlpfRefIdeal.nD Cert.MlpfRefIdeal.τ).loc Cert.MlpfRefIdeal.main_arg3) = m ((c.tc : Thread Cert.MlpfIdeal.nD Cert.MlpfIdeal.τ).loc Cert.MlpfIdeal.main_arg3)
      ∧ m' ((c.tc : Thread Cert.MlpfRefIdeal.nD Cert.MlpfRefIdeal.τ).loc Cert.MlpfRefIdeal.main_arg4) = m ((c.tc : Thread Cert.MlpfIdeal.nD Cert.MlpfIdeal.τ).loc Cert.MlpfIdeal.main_arg4)) →
    ∃ (v0 : (c : Dev Cert.MlpfIdeal.nD) → Buf (Elt Ideal) ((c.tc : Thread Cert.MlpfIdeal.nD Cert.MlpfIdeal.τ).loc Cert.MlpfIdeal.main_v8_0)) (v1 : (c : Dev Cert.MlpfIdeal.nD) → Buf (Elt Ideal) ((c.tc : Thread Cert.MlpfIdeal.nD Cert.MlpfIdeal.τ).loc Cert.MlpfIdeal.main_v8_1)) (v2 : (c : Dev Cert.MlpfIdeal.nD) → Buf (Elt Ideal) ((c.tc : Thread Cert.MlpfIdeal.nD Cert.MlpfIdeal.τ).loc Cert.MlpfIdeal.main_v8_2)),
      θ_run (Cert.MlpfIdeal.defs (F := Ideal)) (onTc (τ := Cert.MlpfIdeal.τ) (Cert.MlpfIdeal.main (F := Ideal))) ⟨m, fun _ => 0, g⟩ (fun r => ∀ c : Dev Cert.MlpfIdeal.nD,
          r.2.mem ((c.tc : Thread Cert.MlpfIdeal.nD Cert.MlpfIdeal.τ).loc Cert.MlpfIdeal.main_v8_0) = v0 c
          ∧ r.2.mem ((c.tc : Thread Cert.MlpfIdeal.nD Cert.MlpfIdeal.τ).loc Cert.MlpfIdeal.main_v8_1) = v1 c
          ∧ r.2.mem ((c.tc : Thread Cert.MlpfIdeal.nD Cert.MlpfIdeal.τ).loc Cert.MlpfIdeal.main_v8_2) = v2 c
          ∧ r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
          ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
          ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
          ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3)
          ∧ r.2.mem ((c.tc : Thread Cert.MlpfIdeal.nD Cert.MlpfIdeal.τ).loc Cert.MlpfIdeal.main_arg4) = m ((c.tc : Thread Cert.MlpfIdeal.nD Cert.MlpfIdeal.τ).loc Cert.MlpfIdeal.main_arg4))
      ∧ θ_run (Cert.MlpfRefIdeal.defs (F := Ideal)) (onTc (τ := Cert.MlpfRefIdeal.τ) (Cert.MlpfRefIdeal.main (F := Ideal))) ⟨m', fun _ => 0, g'⟩ (fun r => ∀ c : Dev Cert.MlpfRefIdeal.nD,
          r.2.mem ((c.tc : Thread Cert.MlpfRefIdeal.nD Cert.MlpfRefIdeal.τ).loc Cert.MlpfRefIdeal.main_v5) = v0 c
          ∧ r.2.mem ((c.tc : Thread Cert.MlpfRefIdeal.nD Cert.MlpfRefIdeal.τ).loc Cert.MlpfRefIdeal.main_v4) = v1 c
          ∧ r.2.mem ((c.tc : Thread Cert.MlpfRefIdeal.nD Cert.MlpfRefIdeal.τ).loc Cert.MlpfRefIdeal.main_v19) = v2 c
          ∧ r.2.mem ((c.tc : Thread Cert.MlpfRefIdeal.nD Cert.MlpfRefIdeal.τ).loc Cert.MlpfRefIdeal.main_arg0) = m' ((c.tc : Thread Cert.MlpfRefIdeal.nD Cert.MlpfRefIdeal.τ).loc Cert.MlpfRefIdeal.main_arg0)
          ∧ r.2.mem ((c.tc : Thread Cert.MlpfRefIdeal.nD Cert.MlpfRefIdeal.τ).loc Cert.MlpfRefIdeal.main_arg1) = m' ((c.tc : Thread Cert.MlpfRefIdeal.nD Cert.MlpfRefIdeal.τ).loc Cert.MlpfRefIdeal.main_arg1)
          ∧ r.2.mem ((c.tc : Thread Cert.MlpfRefIdeal.nD Cert.MlpfRefIdeal.τ).loc Cert.MlpfRefIdeal.main_arg2) = m' ((c.tc : Thread Cert.MlpfRefIdeal.nD Cert.MlpfRefIdeal.τ).loc Cert.MlpfRefIdeal.main_arg2)
          ∧ r.2.mem ((c.tc : Thread Cert.MlpfRefIdeal.nD Cert.MlpfRefIdeal.τ).loc Cert.MlpfRefIdeal.main_arg3) = m' ((c.tc : Thread Cert.MlpfRefIdeal.nD Cert.MlpfRefIdeal.τ).loc Cert.MlpfRefIdeal.main_arg3)
          ∧ r.2.mem ((c.tc : Thread Cert.MlpfRefIdeal.nD Cert.MlpfRefIdeal.τ).loc Cert.MlpfRefIdeal.main_arg4) = m' ((c.tc : Thread Cert.MlpfRefIdeal.nD Cert.MlpfRefIdeal.τ).loc Cert.MlpfRefIdeal.main_arg4))

def preserves_Inpf_InpfIdeal : Prop :=
  True

def algebraic_InpfIdeal_InpfRefIdeal [hInpfIdeal : Cert.InpfIdeal.Facts] [hInpfRefIdeal : Cert.InpfRefIdeal.Facts] : Prop :=
  ∀ (m : (ℓ : Loc Cert.InpfIdeal.nD Cert.InpfIdeal.τ Cert.InpfIdeal.sig) → Buf (Elt Ideal) ℓ) (g : Dev Cert.InpfIdeal.nD → PrngReg)
    (m' : (ℓ : Loc Cert.InpfRefIdeal.nD Cert.InpfRefIdeal.τ Cert.InpfRefIdeal.sig) → Buf (Elt Ideal) ℓ) (g' : Dev Cert.InpfRefIdeal.nD → PrngReg), Pre_InpfIdeal m →
    (∀ c : Dev Cert.InpfIdeal.nD,
      m' ((c.tc : Thread Cert.InpfRefIdeal.nD Cert.InpfRefIdeal.τ).loc Cert.InpfRefIdeal.main_arg0) = m ((c.tc : Thread Cert.InpfIdeal.nD Cert.InpfIdeal.τ).loc Cert.InpfIdeal.main_arg0)
      ∧ m' ((c.tc : Thread Cert.InpfRefIdeal.nD Cert.InpfRefIdeal.τ).loc Cert.InpfRefIdeal.main_arg1) = m ((c.tc : Thread Cert.InpfIdeal.nD Cert.InpfIdeal.τ).loc Cert.InpfIdeal.main_arg1)
      ∧ m' ((c.tc : Thread Cert.InpfRefIdeal.nD Cert.InpfRefIdeal.τ).loc Cert.InpfRefIdeal.main_arg2) = m ((c.tc : Thread Cert.InpfIdeal.nD Cert.InpfIdeal.τ).loc Cert.InpfIdeal.main_arg2)) →
    ∃ (v0 : (c : Dev Cert.InpfIdeal.nD) → Buf (Elt Ideal) ((c.tc : Thread Cert.InpfIdeal.nD Cert.InpfIdeal.τ).loc Cert.InpfIdeal.main_v5_0)) (v1 : (c : Dev Cert.InpfIdeal.nD) → Buf (Elt Ideal) ((c.tc : Thread Cert.InpfIdeal.nD Cert.InpfIdeal.τ).loc Cert.InpfIdeal.main_v5_1)) (v2 : (c : Dev Cert.InpfIdeal.nD) → Buf (Elt Ideal) ((c.tc : Thread Cert.InpfIdeal.nD Cert.InpfIdeal.τ).loc Cert.InpfIdeal.main_v5_2)) (v3 : (c : Dev Cert.InpfIdeal.nD) → Buf (Elt Ideal) ((c.tc : Thread Cert.InpfIdeal.nD Cert.InpfIdeal.τ).loc Cert.InpfIdeal.main_v5_3)) (v4 : (c : Dev Cert.InpfIdeal.nD) → Buf (Elt Ideal) ((c.tc : Thread Cert.InpfIdeal.nD Cert.InpfIdeal.τ).loc Cert.InpfIdeal.main_v5_4)) (v5 : (c : Dev Cert.InpfIdeal.nD) → Buf (Elt Ideal) ((c.tc : Thread Cert.InpfIdeal.nD Cert.InpfIdeal.τ).loc Cert.InpfIdeal.main_v5_5)) (v6 : (c : Dev Cert.InpfIdeal.nD) → Buf (Elt Ideal) ((c.tc : Thread Cert.InpfIdeal.nD Cert.InpfIdeal.τ).loc Cert.InpfIdeal.main_v5_6)),
      θ_run (Cert.InpfIdeal.defs (F := Ideal)) (onTc (τ := Cert.InpfIdeal.τ) (Cert.InpfIdeal.main (F := Ideal))) ⟨m, fun _ => 0, g⟩ (fun r => ∀ c : Dev Cert.InpfIdeal.nD,
          r.2.mem ((c.tc : Thread Cert.InpfIdeal.nD Cert.InpfIdeal.τ).loc Cert.InpfIdeal.main_v5_0) = v0 c
          ∧ r.2.mem ((c.tc : Thread Cert.InpfIdeal.nD Cert.InpfIdeal.τ).loc Cert.InpfIdeal.main_v5_1) = v1 c
          ∧ r.2.mem ((c.tc : Thread Cert.InpfIdeal.nD Cert.InpfIdeal.τ).loc Cert.InpfIdeal.main_v5_2) = v2 c
          ∧ r.2.mem ((c.tc : Thread Cert.InpfIdeal.nD Cert.InpfIdeal.τ).loc Cert.InpfIdeal.main_v5_3) = v3 c
          ∧ r.2.mem ((c.tc : Thread Cert.InpfIdeal.nD Cert.InpfIdeal.τ).loc Cert.InpfIdeal.main_v5_4) = v4 c
          ∧ r.2.mem ((c.tc : Thread Cert.InpfIdeal.nD Cert.InpfIdeal.τ).loc Cert.InpfIdeal.main_v5_5) = v5 c
          ∧ r.2.mem ((c.tc : Thread Cert.InpfIdeal.nD Cert.InpfIdeal.τ).loc Cert.InpfIdeal.main_v5_6) = v6 c
          ∧ r.2.mem ((c.tc : Thread Cert.InpfIdeal.nD Cert.InpfIdeal.τ).loc Cert.InpfIdeal.main_arg0) = m ((c.tc : Thread Cert.InpfIdeal.nD Cert.InpfIdeal.τ).loc Cert.InpfIdeal.main_arg0)
          ∧ r.2.mem ((c.tc : Thread Cert.InpfIdeal.nD Cert.InpfIdeal.τ).loc Cert.InpfIdeal.main_arg1) = m ((c.tc : Thread Cert.InpfIdeal.nD Cert.InpfIdeal.τ).loc Cert.InpfIdeal.main_arg1)
          ∧ r.2.mem ((c.tc : Thread Cert.InpfIdeal.nD Cert.InpfIdeal.τ).loc Cert.InpfIdeal.main_arg2) = m ((c.tc : Thread Cert.InpfIdeal.nD Cert.InpfIdeal.τ).loc Cert.InpfIdeal.main_arg2))
      ∧ θ_run (Cert.InpfRefIdeal.defs (F := Ideal)) (onTc (τ := Cert.InpfRefIdeal.τ) (Cert.InpfRefIdeal.main (F := Ideal))) ⟨m', fun _ => 0, g'⟩ (fun r => ∀ c : Dev Cert.InpfRefIdeal.nD,
          r.2.mem ((c.tc : Thread Cert.InpfRefIdeal.nD Cert.InpfRefIdeal.τ).loc Cert.InpfRefIdeal.main_v19) = v0 c
          ∧ r.2.mem ((c.tc : Thread Cert.InpfRefIdeal.nD Cert.InpfRefIdeal.τ).loc Cert.InpfRefIdeal.main_v14) = v1 c
          ∧ r.2.mem ((c.tc : Thread Cert.InpfRefIdeal.nD Cert.InpfRefIdeal.τ).loc Cert.InpfRefIdeal.main_v15) = v2 c
          ∧ r.2.mem ((c.tc : Thread Cert.InpfRefIdeal.nD Cert.InpfRefIdeal.τ).loc Cert.InpfRefIdeal.main_v17) = v3 c
          ∧ r.2.mem ((c.tc : Thread Cert.InpfRefIdeal.nD Cert.InpfRefIdeal.τ).loc Cert.InpfRefIdeal.main_v18) = v4 c
          ∧ r.2.mem ((c.tc : Thread Cert.InpfRefIdeal.nD Cert.InpfRefIdeal.τ).loc Cert.InpfRefIdeal.main_v20) = v5 c
          ∧ r.2.mem ((c.tc : Thread Cert.InpfRefIdeal.nD Cert.InpfRefIdeal.τ).loc Cert.InpfRefIdeal.main_v27) = v6 c
          ∧ r.2.mem ((c.tc : Thread Cert.InpfRefIdeal.nD Cert.InpfRefIdeal.τ).loc Cert.InpfRefIdeal.main_arg0) = m' ((c.tc : Thread Cert.InpfRefIdeal.nD Cert.InpfRefIdeal.τ).loc Cert.InpfRefIdeal.main_arg0)
          ∧ r.2.mem ((c.tc : Thread Cert.InpfRefIdeal.nD Cert.InpfRefIdeal.τ).loc Cert.InpfRefIdeal.main_arg1) = m' ((c.tc : Thread Cert.InpfRefIdeal.nD Cert.InpfRefIdeal.τ).loc Cert.InpfRefIdeal.main_arg1)
          ∧ r.2.mem ((c.tc : Thread Cert.InpfRefIdeal.nD Cert.InpfRefIdeal.τ).loc Cert.InpfRefIdeal.main_arg2) = m' ((c.tc : Thread Cert.InpfRefIdeal.nD Cert.InpfRefIdeal.τ).loc Cert.InpfRefIdeal.main_arg2))

def Claim : Prop :=
  ∃ (hKernel : Cert.Kernel.Facts) (hKernelIdeal : Cert.KernelIdeal.Facts) (hReferenceIdeal : Cert.ReferenceIdeal.Facts) (hSsd : Cert.Ssd.Facts) (hSsdIdeal : Cert.SsdIdeal.Facts) (hSsdRefIdeal : Cert.SsdRefIdeal.Facts) (hSsdb : Cert.Ssdb.Facts) (hSsdbIdeal : Cert.SsdbIdeal.Facts) (hSsdbRefIdeal : Cert.SsdbRefIdeal.Facts) (hMlp : Cert.Mlp.Facts) (hMlpIdeal : Cert.MlpIdeal.Facts) (hMlpRefIdeal : Cert.MlpRefIdeal.Facts) (hPle : Cert.Ple.Facts) (hPleIdeal : Cert.PleIdeal.Facts) (hPleRefIdeal : Cert.PleRefIdeal.Facts) (hInp : Cert.Inp.Facts) (hInpIdeal : Cert.InpIdeal.Facts) (hInpRefIdeal : Cert.InpRefIdeal.Facts) (hSconv : Cert.Sconv.Facts) (hSconvIdeal : Cert.SconvIdeal.Facts) (hSconvRefIdeal : Cert.SconvRefIdeal.Facts) (hFconv : Cert.Fconv.Facts) (hFconvIdeal : Cert.FconvIdeal.Facts) (hFconvRefIdeal : Cert.FconvRefIdeal.Facts) (hOutf : Cert.Outf.Facts) (hOutfIdeal : Cert.OutfIdeal.Facts) (hOutfRefIdeal : Cert.OutfRefIdeal.Facts) (hMlpf : Cert.Mlpf.Facts) (hMlpfIdeal : Cert.MlpfIdeal.Facts) (hMlpfRefIdeal : Cert.MlpfRefIdeal.Facts) (hInpf : Cert.Inpf.Facts) (hInpfIdeal : Cert.InpfIdeal.Facts) (hInpfRefIdeal : Cert.InpfRefIdeal.Facts) (hPre_finite : Cert.Pre_finite.Facts) (hPre_ssd_finite : Cert.Pre_ssd_finite.Facts) (hPre_ssdb_finite : Cert.Pre_ssdb_finite.Facts) (hPre_mlp_finite : Cert.Pre_mlp_finite.Facts) (hPre_ple_finite : Cert.Pre_ple_finite.Facts) (hPre_inp_finite : Cert.Pre_inp_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ssd (hSsd := hSsd)
    ∧ quiescent_SsdIdeal (hSsdIdeal := hSsdIdeal)
    ∧ quiescent_SsdIdeal_pre_ssd_finite (hSsdIdeal := hSsdIdeal) (hPre_ssd_finite := hPre_ssd_finite)
    ∧ quiescent_SsdRefIdeal (hSsdRefIdeal := hSsdRefIdeal)
    ∧ quiescent_SsdRefIdeal_pre_ssd_finite (hSsdRefIdeal := hSsdRefIdeal) (hPre_ssd_finite := hPre_ssd_finite)
    ∧ quiescent_Ssdb (hSsdb := hSsdb)
    ∧ quiescent_SsdbIdeal (hSsdbIdeal := hSsdbIdeal)
    ∧ quiescent_SsdbIdeal_pre_ssdb_finite (hSsdbIdeal := hSsdbIdeal) (hPre_ssdb_finite := hPre_ssdb_finite)
    ∧ quiescent_SsdbRefIdeal (hSsdbRefIdeal := hSsdbRefIdeal)
    ∧ quiescent_SsdbRefIdeal_pre_ssdb_finite (hSsdbRefIdeal := hSsdbRefIdeal) (hPre_ssdb_finite := hPre_ssdb_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Inp (hInp := hInp)
    ∧ quiescent_InpIdeal (hInpIdeal := hInpIdeal)
    ∧ quiescent_InpIdeal_pre_inp_finite (hInpIdeal := hInpIdeal) (hPre_inp_finite := hPre_inp_finite)
    ∧ quiescent_InpRefIdeal (hInpRefIdeal := hInpRefIdeal)
    ∧ quiescent_InpRefIdeal_pre_inp_finite (hInpRefIdeal := hInpRefIdeal) (hPre_inp_finite := hPre_inp_finite)
    ∧ quiescent_Sconv (hSconv := hSconv)
    ∧ quiescent_SconvIdeal (hSconvIdeal := hSconvIdeal)
    ∧ quiescent_SconvRefIdeal (hSconvRefIdeal := hSconvRefIdeal)
    ∧ quiescent_Fconv (hFconv := hFconv)
    ∧ quiescent_FconvIdeal (hFconvIdeal := hFconvIdeal)
    ∧ quiescent_FconvRefIdeal (hFconvRefIdeal := hFconvRefIdeal)
    ∧ quiescent_Outf (hOutf := hOutf)
    ∧ quiescent_OutfIdeal (hOutfIdeal := hOutfIdeal)
    ∧ quiescent_OutfRefIdeal (hOutfRefIdeal := hOutfRefIdeal)
    ∧ quiescent_Mlpf (hMlpf := hMlpf)
    ∧ quiescent_MlpfIdeal (hMlpfIdeal := hMlpfIdeal)
    ∧ quiescent_MlpfRefIdeal (hMlpfRefIdeal := hMlpfRefIdeal)
    ∧ quiescent_Inpf (hInpf := hInpf)
    ∧ quiescent_InpfIdeal (hInpfIdeal := hInpfIdeal)
    ∧ quiescent_InpfRefIdeal (hInpfRefIdeal := hInpfRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ssd_SsdIdeal
    ∧ algebraic_SsdIdeal_SsdRefIdeal_pre_ssd_finite (hSsdIdeal := hSsdIdeal) (hSsdRefIdeal := hSsdRefIdeal) (hPre_ssd_finite := hPre_ssd_finite)
    ∧ preserves_Ssdb_SsdbIdeal
    ∧ algebraic_SsdbIdeal_SsdbRefIdeal_pre_ssdb_finite (hSsdbIdeal := hSsdbIdeal) (hSsdbRefIdeal := hSsdbRefIdeal) (hPre_ssdb_finite := hPre_ssdb_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_Inp_InpIdeal
    ∧ algebraic_InpIdeal_InpRefIdeal_pre_inp_finite (hInpIdeal := hInpIdeal) (hInpRefIdeal := hInpRefIdeal) (hPre_inp_finite := hPre_inp_finite)
    ∧ preserves_Sconv_SconvIdeal
    ∧ algebraic_SconvIdeal_SconvRefIdeal (hSconvIdeal := hSconvIdeal) (hSconvRefIdeal := hSconvRefIdeal)
    ∧ preserves_Fconv_FconvIdeal
    ∧ algebraic_FconvIdeal_FconvRefIdeal (hFconvIdeal := hFconvIdeal) (hFconvRefIdeal := hFconvRefIdeal)
    ∧ preserves_Outf_OutfIdeal
    ∧ algebraic_OutfIdeal_OutfRefIdeal (hOutfIdeal := hOutfIdeal) (hOutfRefIdeal := hOutfRefIdeal)
    ∧ preserves_Mlpf_MlpfIdeal
    ∧ algebraic_MlpfIdeal_MlpfRefIdeal (hMlpfIdeal := hMlpfIdeal) (hMlpfRefIdeal := hMlpfRefIdeal)
    ∧ preserves_Inpf_InpfIdeal
    ∧ algebraic_InpfIdeal_InpfRefIdeal (hInpfIdeal := hInpfIdeal) (hInpfRefIdeal := hInpfRefIdeal)
-- ==== Pre_finite.lean ====
abbrev S4096x1024 : Shape := ⟨2, ![4096, 1024]⟩
abbrev S1024 : Shape := ⟨1, ![1024]⟩
abbrev S2048x1024 : Shape := ⟨2, ![2048, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn {F : FTy → Type} [FloatOps F] (main_arg0 : FVec F S4096x1024 .f32) (main_arg1 : FVec F S4096x1024 .f32) (main_arg2 : FVec F S1024 .f32) (main_arg3 : FVec F S1024 .f32) (main_arg4 : FVec F S2048x1024 .f32) (main_arg5 : FVec F S4096x1024 .f32) : IVec S4096x1024 1 × IVec S1024 1 × IVec S1024 1 × IVec S2048x1024 1 × IVec S4096x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_inp_finite.lean ====
abbrev S4096x1024 : Shape := ⟨2, ![4096, 1024]⟩
abbrev S1024 : Shape := ⟨1, ![1024]⟩
abbrev S1024x4624 : Shape := ⟨2, ![1024, 4624]⟩
abbrev S4096x1536 : Shape := ⟨2, ![4096, 1536]⟩
abbrev S4096x16 : Shape := ⟨2, ![4096, 16]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4624 : S_.BroadcastsInDim S1024x4624 (![] : Fin 0 → Fin S1024x4624.rank)
  bcast_S_S4096x1536 : S_.BroadcastsInDim S4096x1536 (![] : Fin 0 → Fin S4096x1536.rank)
  bcast_S_S4096x16 : S_.BroadcastsInDim S4096x16 (![] : Fin 0 → Fin S4096x16.rank)

variable [Facts]

def fn_part1 {F : FTy → Type} [FloatOps F] (main_arg6 : FVec F S4096x16 .bf16) (main_arg7 : FVec F S4096x1024 .bf16) (main_arg8 : FVec F S4096x1024 .bf16) (main_v2 : IVec S4096x1024 1) (main_v5 : IVec S1024 1) (main_v8 : IVec S1024x4624 1) (main_v11 : IVec S4096x1024 1) (main_v14 : IVec S4096x1024 1) (main_v17 : IVec S4096x1536 1) : IVec S4096x1024 1 × IVec S1024 1 × IVec S1024x4624 1 × IVec S4096x1024 1 × IVec S4096x1024 1 × IVec S4096x1536 1 × IVec S4096x16 1 × IVec S4096x1024 1 × IVec S4096x1024 1 :=
  let main_v18 : FVec F S4096x16 .bf16 := Host.absf main_arg6
  let main_cst_5 : FVec F S_ .bf16 := constant S_ .bf16 0x7F80#16
  let main_v19 : FVec F S4096x16 .bf16 := broadcastInDim S4096x16 ![] bcast_S_S4096x16 main_cst_5
  let main_v20 : IVec S4096x16 1 := cmpf .olt main_v18 main_v19
  let main_v21 : FVec F S4096x1024 .bf16 := Host.absf main_arg7
  let main_cst_6 : FVec F S_ .bf16 := constant S_ .bf16 0x7F80#16
  let main_v22 : FVec F S4096x1024 .bf16 := broadcastInDim S4096x1024 ![] bcast_S_S4096x1024 main_cst_6
  let main_v23 : IVec S4096x1024 1 := cmpf .olt main_v21 main_v22
  let main_v24 : FVec F S4096x1024 .bf16 := Host.absf main_arg8
  let main_cst_7 : FVec F S_ .bf16 := constant S_ .bf16 0x7F80#16
  let main_v25 : FVec F S4096x1024 .bf16 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S1024 .f32) (main_arg2 : FVec F S1024x4624 .f32) (main_arg3 : FVec F S4096x1024 .f32) (main_arg4 : FVec F S4096x1024 .bf16) (main_arg5 : FVec F S4096x1536 .bf16) (main_arg6 : FVec F S4096x16 .bf16) (main_arg7 : FVec F S4096x1024 .bf16) (main_arg8 : FVec F S4096x1024 .bf16) : IVec S4096x1024 1 × IVec S1024 1 × IVec S1024x4624 1 × IVec S4096x1024 1 × IVec S4096x1024 1 × IVec S4096x1536 1 × IVec S4096x16 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4624 .f32 := Host.absf main_arg2
  let main_cst_1 : FVec F S_ .f32 := constant S_ .f32 0x7F800000#32
  let main_v7 : FVec F S1024x4624 .f32 := broadcastInDim S1024x4624 ![] bcast_S_S1024x4624 main_cst_1
  let main_v8 : IVec S1024x4624 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .bf16 := Host.absf main_arg4
  let main_cst_3 : FVec F S_ .bf16 := constant S_ .bf16 0x7F80#16
  let main_v13 : FVec F S4096x1024 .bf16 := broadcastInDim S4096x1024 ![] bcast_S_S4096x1024 main_cst_3
  let main_v14 : IVec S4096x1024 1 := cmpf .olt main_v12 main_v13
  let main_v15 : FVec F S4096x1536 .bf16 := Host.absf main_arg5
  let main_cst_4 : FVec F S_ .bf16 := constant S_ .bf16 0x7F80#16
  let main_v16 : FVec F S4096x1536 .bf16 := broadcastInDim S4096x1536 ![] bcast_S_S4096x1536 main_cst_4
  let main_v17 : IVec S4096x1536 1 := cmpf .olt main_v15 main_v16
  fn_part1 (F := F) main_arg6 main_arg7 main_arg8 main_v2 main_v5 main_v8 main_v11 main_v14 main_v17
-- ==== Pre_mlp_finite.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x1024 .f32) : IVec S4096x1024 1 × IVec S1024 1 × IVec S1024x4096 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_ple_finite.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_arg7 : FVec F S1024 .f32) (main_arg8 : FVec F S1024 .f32) (main_v2 : IVec S4096x1024 1) (main_v5 : IVec S4096x256 1) (main_v8 : IVec S4096x1024 1) (main_v11 : IVec S1024 1) (main_v14 : IVec S1024x1024 1) (main_v17 : IVec S1024 1) : IVec S4096x1024 1 × IVec S4096x256 1 × IVec S4096x1024 1 × IVec S1024 1 × IVec S1024x1024 1 × IVec S1024 1 × IVec S256x1024 1 × IVec S1024 1 × IVec S1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x256 .f32) (main_arg2 : FVec F S4096x1024 .f32) (main_arg3 : FVec F S1024 .f32) (main_arg4 : FVec F S1024x1024 .f32) (main_arg5 : FVec F S1024 .f32) (main_arg6 : FVec F S256x1024 .f32) (main_arg7 : FVec F S1024 .f32) (main_arg8 : FVec F S1024 .f32) : IVec S4096x1024 1 × IVec S4096x256 1 × IVec S4096x1024 1 × IVec S1024 1 × IVec S1024x1024 1 × IVec S1024 1 × IVec S256x1024 1 × IVec S1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Pre_ssd_finite.lean ====
abbrev S4096x1536 : Shape := ⟨2, ![4096, 1536]⟩
abbrev S4096x128 : Shape := ⟨2, ![4096, 128]⟩
abbrev S4096x1024 : Shape := ⟨2, ![4096, 1024]⟩
abbrev S16 : Shape := ⟨1, ![16]⟩
abbrev S1024 : Shape := ⟨1, ![1024]⟩
abbrev S_ : Shape := ⟨0, ![]⟩

class Facts : Prop where
  bcast_S_S4096x1536 : S_.BroadcastsInDim S4096x1536 (![] : Fin 0 → Fin S4096x1536.rank)
  bcast_S_S4096x128 : S_.BroadcastsInDim S4096x128 (![] : Fin 0 → Fin S4096x128.rank)
  bcast_S_S4096x1024 : S_.BroadcastsInDim S4096x1024 (![] : Fin 0 → Fin S4096x1024.rank)
  bcast_S_S16 : S_.BroadcastsInDim S16 (![] : Fin 0 → Fin S16.rank)
  bcast_S_S1024 : S_.BroadcastsInDim S1024 (![] : Fin 0 → Fin S1024.rank)

variable [Facts]

def fn_part1 {F : FTy → Type} [FloatOps F] (main_arg6 : FVec F S1024 .f32) (main_v2 : IVec S4096x1536 1) (main_v5 : IVec S4096x128 1) (main_v8 : IVec S4096x1024 1) (main_v11 : IVec S16 1) (main_v14 : IVec S16 1) (main_v17 : IVec S16 1) : IVec S4096x1536 1 × IVec S4096x128 1 × IVec S4096x1024 1 × IVec S16 1 × IVec S16 1 × IVec S16 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S4096x1536 .f32) (main_arg1 : FVec F S4096x128 .f32) (main_arg2 : FVec F S4096x1024 .f32) (main_arg3 : FVec F S16 .f32) (main_arg4 : FVec F S16 .f32) (main_arg5 : FVec F S16 .f32) (main_arg6 : FVec F S1024 .f32) : IVec S4096x1536 1 × IVec S4096x128 1 × IVec S4096x1024 1 × IVec S16 1 × IVec S16 1 × IVec S16 1 × IVec S1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg6 main_v2 main_v5 main_v8 main_v11 main_v14 main_v17
-- ==== Pre_ssdb_finite.lean ====
abbrev S4096x1536 : Shape := ⟨2, ![4096, 1536]⟩
abbrev S4096x128 : Shape := ⟨2, ![4096, 128]⟩
abbrev S4096x1024 : Shape := ⟨2, ![4096, 1024]⟩
abbrev S16 : Shape := ⟨1, ![16]⟩
abbrev S1024 : Shape := ⟨1, ![1024]⟩
abbrev S_ : Shape := ⟨0, ![]⟩

class Facts : Prop where
  bcast_S_S4096x1536 : S_.BroadcastsInDim S4096x1536 (![] : Fin 0 → Fin S4096x1536.rank)
  bcast_S_S4096x128 : S_.BroadcastsInDim S4096x128 (![] : Fin 0 → Fin S4096x128.rank)
  bcast_S_S4096x1024 : S_.BroadcastsInDim S4096x1024 (![] : Fin 0 → Fin S4096x1024.rank)
  bcast_S_S16 : S_.BroadcastsInDim S16 (![] : Fin 0 → Fin S16.rank)
  bcast_S_S1024 : S_.BroadcastsInDim S1024 (![] : Fin 0 → Fin S1024.rank)

variable [Facts]

def fn_part1 {F : FTy → Type} [FloatOps F] (main_arg6 : FVec F S1024 .f32) (main_arg7 : FVec F S4096x1024 .f32) (main_v2 : IVec S4096x1536 1) (main_v5 : IVec S4096x128 1) (main_v8 : IVec S4096x1024 1) (main_v11 : IVec S16 1) (main_v14 : IVec S16 1) (main_v17 : IVec S16 1) : IVec S4096x1536 1 × IVec S4096x128 1 × IVec S4096x1024 1 × IVec S16 1 × IVec S16 1 × IVec S16 1 × IVec S1024 1 × IVec S4096x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1536 .f32) (main_arg1 : FVec F S4096x128 .f32) (main_arg2 : FVec F S4096x1024 .f32) (main_arg3 : FVec F S16 .f32) (main_arg4 : FVec F S16 .f32) (main_arg5 : FVec F S16 .f32) (main_arg6 : FVec F S1024 .f32) (main_arg7 : FVec F S4096x1024 .f32) : IVec S4096x1536 1 × IVec S4096x128 1 × IVec S4096x1024 1 × IVec S16 1 × IVec S16 1 × IVec S16 1 × IVec S1024 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg6 main_arg7 main_v2 main_v5 main_v8 main_v11 main_v14 main_v17
-- ==== Kernel.lean ====
abbrev S4096x1024 : Shape := ⟨2, ![4096, 1024]⟩
abbrev S1024 : Shape := ⟨1, ![1024]⟩
abbrev S2048x1024 : Shape := ⟨2, ![2048, 1024]⟩
abbrev S_ : Shape := ⟨0, ![]⟩
abbrev S4x2048x1024 : Shape := ⟨3, ![4, 2048, 1024]⟩
abbrev S4x512x1024 : Shape := ⟨3, ![4, 512, 1024]⟩
abbrev S4x2560x1024 : Shape := ⟨3, ![4, 2560, 1024]⟩
abbrev S1x1024 : Shape := ⟨2, ![1, 1024]⟩
abbrev S512x1024 : Shape := ⟨2, ![512, 1024]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S4096x1024, .f32⟩
  | .hbm, ⟨6, _⟩ => ⟨S_, .bf16⟩
  | .hbm, ⟨7, _⟩ => ⟨S4x2048x1024, .bf16⟩
  | .hbm, ⟨8, _⟩ => ⟨S2048x1024, .bf16⟩
  | .hbm, ⟨9, _⟩ => ⟨S4x512x1024, .bf16⟩
  | .hbm, ⟨10, _⟩ => ⟨S4x2560x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1024 : Shape := ⟨1, ![1024]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S4096x1024, .f32⟩
  | .hbm, ⟨52, _⟩ => ⟨S4096x2048, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S1x1024, .f32⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v25_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v25_1 : Ref sig .tc := ⟨.hbm, 48, rfl⟩
abbrev main_v25_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩

abbrev nD : Nat := 1
abbrev τ : Topo := Topo.v7x

variable {F : FTy → Type} [FloatOps F]
-- ==== Ssd.lean ====
abbrev S4096x1536 : Shape := ⟨2, ![4096, 1536]⟩
abbrev S4096x128 : Shape := ⟨2, ![4096, 128]⟩
abbrev S4096x1024 : Shape := ⟨2, ![4096, 1024]⟩
abbrev S16 : Shape := ⟨1, ![16]⟩
abbrev S1024 : Shape := ⟨1, ![1024]⟩
abbrev S1x16 : Shape := ⟨2, ![1, 16]⟩
abbrev S_ : Shape := ⟨0, ![]⟩
abbrev S1x128 : Shape := ⟨2, ![1, 128]⟩
abbrev S1x16x64 : Shape := ⟨3, ![1, 16, 64]⟩
abbrev S1x1024 : Shape := ⟨2, ![1, 1024]⟩
abbrev S32x128x1024 : Shape := ⟨3, ![32, 128, 1024]⟩
abbrev S128x1536 : Shape := ⟨2, ![128, 1536]⟩
abbrev S128x128 : Shape := ⟨2, ![128, 128]⟩
abbrev S128x1024 : Shape := ⟨2, ![128, 1024]⟩
abbrev S1x128x1024 : Shape := ⟨3, ![1, 128, 1024]⟩
abbrev S128x256 : Shape := ⟨2, ![128, 256]⟩
abbrev S128x512 : Shape := ⟨2, ![128, 512]⟩
abbrev S128x1 : Shape := ⟨2, ![128, 1]⟩
abbrev S128 : Shape := ⟨1, ![128]⟩

abbrev nBuf : Space → Nat
  | .hbm => 22
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x128, .f32⟩
  | .hbm, ⟨2, _⟩ => ⟨S4096x1024, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1x16, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x16, .f32⟩
  | .hbm, ⟨16, _⟩ => ⟨S1x16x64, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S32x128x1024, .f32⟩
  | .local _ .vmem, ⟨0, _⟩ => ⟨S128x1536, .f32⟩
  | .local _ .vmem, ⟨1, _⟩ => ⟨S128x1536, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S1x128x1024, .f32⟩
  | .local _ .vmem, ⟨15, _⟩ => ⟨S1x128x1024, .f32⟩
  | .local _ .vmem, ⟨16, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SsdIdeal.lean ====
variable {F : FTy → Type} [FloatOps F] [Named F]
def κ : String → Option EReal := fun
  | "mask" => some ⊥
  | _ => none
-- ==== SsdRefIdeal.lean ====
abbrev S4096x1536 : Shape := ⟨2, ![4096, 1536]⟩
abbrev S4096x128 : Shape := ⟨2, ![4096, 128]⟩
abbrev S4096x1024 : Shape := ⟨2, ![4096, 1024]⟩
abbrev S16 : Shape := ⟨1, ![16]⟩
abbrev S1024 : Shape := ⟨1, ![1024]⟩
abbrev S_ : Shape := ⟨0, ![]⟩
abbrev S4096x256 : Shape := ⟨2, ![4096, 256]⟩
abbrev S4096x16 : Shape := ⟨2, ![4096, 16]⟩
abbrev S1x16 : Shape := ⟨2, ![1, 16]⟩
abbrev S4096x16x64 : Shape := ⟨3, ![4096, 16, 64]⟩
abbrev S4096x2x128 : Shape := ⟨3, ![4096, 2, 128]⟩
abbrev S4096x16x1 : Shape := ⟨3, ![4096, 16, 1]⟩
abbrev S32x128x2x8x64 : Shape := ⟨5, ![32, 128, 2, 8, 64]⟩
abbrev S32x128x2x128 : Shape := ⟨4, ![32, 128, 2, 128]⟩
abbrev S32x128x2x8 : Shape := ⟨4, ![32, 128, 2, 8]⟩
abbrev S2x8x32x128 : Shape := ⟨4, ![2, 8, 32, 128]⟩
abbrev S128x128 : Shape := ⟨2, ![128, 128]⟩
abbrev S2x8x32x128x1 : Shape := ⟨5, ![2, 8, 32, 128, 1]⟩
abbrev S2x8x32x1x128 : Shape := ⟨5, ![2, 8, 32, 1, 128]⟩
abbrev S2x8x32x128x128 : Shape := ⟨5, ![2, 8, 32, 128, 128]⟩
abbrev S2x32x128x128 : Shape := ⟨4, ![2, 32, 128, 128]⟩
abbrev S2x1x32x128x128 : Shape := ⟨5, ![2, 1, 32, 128, 128]⟩
abbrev S32x2x8x64x128 : Shape := ⟨5, ![32, 2, 8, 64, 128]⟩
abbrev S2x8x32x1 : Shape := ⟨4, ![2, 8, 32, 1]⟩
abbrev S32x128x2x8x1 : Shape := ⟨5, ![32, 128, 2, 8, 1]⟩
abbrev S2x8x32 : Shape := ⟨3, ![2, 8, 32]⟩
abbrev S32x2x8 : Shape := ⟨3, ![32, 2, 8]⟩
abbrev S2x8x64x128 : Shape := ⟨4, ![2, 8, 64, 128]⟩
abbrev S0x2x8 : Shape := ⟨3, ![0, 2, 8]⟩
abbrev S0x2x8x64x128 : Shape := ⟨5, ![0, 2, 8, 64, 128]⟩
abbrev S1x2x8 : Shape := ⟨3, ![1, 2, 8]⟩
abbrev S2x8 : Shape := ⟨2, ![2, 8]⟩
abbrev S1x2x8x64x128 : Shape := ⟨5, ![1, 2, 8, 64, 128]⟩
abbrev S2x8x1x1 : Shape := ⟨4, ![2, 8, 1, 1]⟩
abbrev S16x2x8x64x128 : Shape := ⟨5, ![16, 2, 8, 64, 128]⟩
abbrev S16x1 : Shape := ⟨2, ![16, 1]⟩
abbrev S1x16x1 : Shape := ⟨3, ![1, 16, 1]⟩
abbrev S4096x2x512 : Shape := ⟨3, ![4096, 2, 512]⟩
abbrev S4096x2 : Shape := ⟨2, ![4096, 2]⟩
abbrev S4096x2x1 : Shape := ⟨3, ![4096, 2, 1]⟩
abbrev S1x1024 : Shape := ⟨2, ![1, 1024]⟩
abbrev S32x128x1024 : Shape := ⟨3, ![32, 128, 1024]⟩

abbrev nBuf : Space → Nat
  | .hbm => 443
  | .vmem => 0
  | .smem => 0
  | _ => 0

abbrev hbmTy0_0 (i : Nat) : BufTy := match i % 128 with
  | 0 => ⟨S4096x1536, .f32⟩
  | 1 => ⟨S4096x128, .f32⟩
  | 2 => ⟨S4096x1024, .f32⟩
  | 3 => ⟨S16, .f32⟩
  | 4 => ⟨S16, .f32⟩
  | 5 => ⟨S16, .f32⟩
  | 6 => ⟨S1024, .f32⟩
  | 7 => ⟨S4096x1536, .f32⟩
  | 8 => ⟨S4096x1536, .f32⟩
  | 9 => ⟨S_, .f32⟩
  | 10 => ⟨S4096x1536, .f32⟩
  | 11 => ⟨S4096x1536, .f32⟩
  | 12 => ⟨S_, .f32⟩
  | 13 => ⟨S4096x1536, .f32⟩
  | 14 => ⟨S4096x1536, .f32⟩
  | 15 => ⟨S4096x1536, .f32⟩
  | 16 => ⟨S4096x1024, .f32⟩
  | 17 => ⟨S4096x256, .f32⟩
  | 18 => ⟨S4096x256, .f32⟩
  | 19 => ⟨S4096x16, .f32⟩
  | 20 => ⟨S1x16, .f32⟩
  | 21 => ⟨S4096x16, .f32⟩
  | 22 => ⟨S4096x16, .f32⟩
  | 23 => ⟨S_, .f32⟩
  | 24 => ⟨S4096x16, .f32⟩
  | 25 => ⟨S4096x16, .f32⟩
  | 26 => ⟨S4096x16, .f32⟩
  | 27 => ⟨S4096x16, .f32⟩
  | 28 => ⟨S4096x16, .i1⟩
  | 29 => ⟨S4096x16, .f32⟩
  | 30 => ⟨S4096x16, .f32⟩
  | 31 => ⟨S4096x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S16, .f32⟩
  | 38 => ⟨S16, .f32⟩
  | 39 => ⟨S4096x16x64, .f32⟩
  | 40 => ⟨S4096x2x128, .f32⟩
  | 41 => ⟨S4096x2x128, .f32⟩
  | 42 => ⟨S4096x16x1, .f32⟩
  | 43 => ⟨S4096x16x64, .f32⟩
  | 44 => ⟨S4096x16x64, .f32⟩
  | 45 => ⟨S32x128x2x8x64, .f32⟩
  | 46 => ⟨S32x128x2x128, .f32⟩
  | 47 => ⟨S32x128x2x128, .f32⟩
  | 48 => ⟨S1x16, .f32⟩
  | 49 => ⟨S4096x16, .f32⟩
  | 50 => ⟨S4096x16, .f32⟩
  | 51 => ⟨S32x128x2x8, .f32⟩
  | 52 => ⟨S2x8x32x128, .f32⟩
  | 53 => ⟨S_, .f32⟩
  | 54 => ⟨S_, .f32⟩
  | 55 => ⟨S2x8x32x128, .f32⟩
  | 56 => ⟨S_, .i1⟩
  | 57 => ⟨S128x128, .i1⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .i1⟩
  | 65 => ⟨S128x128, .i1⟩
  | 66 => ⟨S128x128, .i1⟩
  | 67 => ⟨S2x8x32x128x1, .f32⟩
  | 68 => ⟨S2x8x32x1x128, .f32⟩
  | 69 => ⟨S2x8x32x128x128, .f32⟩
  | 70 => ⟨S2x8x32x128x128, .f32⟩
  | 71 => ⟨S2x8x32x128x128, .f32⟩
  | 72 => ⟨S_, .f32⟩
  | 73 => ⟨S_, .f32⟩
  | 74 => ⟨S2x8x32x128x128, .i1⟩
  | 75 => ⟨S2x8x32x128x128, .f32⟩
  | 76 => ⟨S2x8x32x128x128, .f32⟩
  | 77 => ⟨S2x8x32x128x128, .f32⟩
  | 78 => ⟨S2x32x128x128, .f32⟩
  | 79 => ⟨S2x1x32x128x128, .f32⟩
  | 80 => ⟨S2x8x32x128x128, .f32⟩
  | 81 => ⟨S2x8x32x128x128, .f32⟩
  | 82 => ⟨S32x2x8x64x128, .f32⟩
  | 83 => ⟨S32x128x2x8x64, .f32⟩
  | 84 => ⟨S2x8x32x1, .f32⟩
  | 85 => ⟨S2x8x32x128, .f32⟩
  | 86 => ⟨S2x8x32x128, .f32⟩
  | 87 => ⟨S2x8x32x128, .f32⟩
  | 88 => ⟨S32x128x2x8, .f32⟩
  | 89 => ⟨S32x128x2x8x1, .f32⟩
  | 90 => ⟨S32x128x2x8x64, .f32⟩
  | 91 => ⟨S32x128x2x8x64, .f32⟩
  | 92 => ⟨S32x2x8x64x128, .f32⟩
  | 93 => ⟨S2x8x32x1, .f32⟩
  | 94 => ⟨S2x8x32, .f32⟩
  | 95 => ⟨S2x8x32, .f32⟩
  | 96 => ⟨S32x2x8, .f32⟩
  | 97 => ⟨S_, .f32⟩
  | 98 => ⟨S2x8x64x128, .f32⟩
  | 99 => ⟨S0x2x8, .f32⟩
  | 100 => ⟨S32x2x8, .f32⟩
  | 101 => ⟨S0x2x8x64x128, .f32⟩
  | 102 => ⟨S32x2x8x64x128, .f32⟩
  | 103 => ⟨S_, .f32⟩
  | 104 => ⟨S0x2x8x64x128, .f32⟩
  | 105 => ⟨S1x2x8, .f32⟩
  | 106 => ⟨S2x8, .f32⟩
  | 107 => ⟨S1x2x8x64x128, .f32⟩
  | 108 => ⟨S2x8x64x128, .f32⟩
  | 109 => ⟨S2x8x1x1, .f32⟩
  | 110 => ⟨S2x8x64x128, .f32⟩
  | 111 => ⟨S2x8x64x128, .f32⟩
  | 112 => ⟨S2x8x64x128, .f32⟩
  | 113 => ⟨S1x2x8, .f32⟩
  | 114 => ⟨S2x8, .f32⟩
  | 115 => ⟨S1x2x8x64x128, .f32⟩
  | 116 => ⟨S2x8x64x128, .f32⟩
  | 117 => ⟨S2x8x1x1, .f32⟩
  | 118 => ⟨S2x8x64x128, .f32⟩
  | 119 => ⟨S2x8x64x128, .f32⟩
  | 120 => ⟨S2x8x64x128, .f32⟩
  | 121 => ⟨S1x2x8, .f32⟩
  | 122 => ⟨S2x8, .f32⟩
  | 123 => ⟨S1x2x8x64x128, .f32⟩
  | 124 => ⟨S2x8x64x128, .f32⟩
  | 125 => ⟨S2x8x1x1, .f32⟩
  | 126 => ⟨S2x8x64x128, .f32⟩
  | 127 => ⟨S2x8x64x128, .f32⟩
  | _ => ⟨S4096x1536, .f32⟩

abbrev hbmTy0_1 (i : Nat) : BufTy := match i % 128 with
  | 0 => ⟨S2x8x64x128, .f32⟩
  | 1 => ⟨S1x2x8, .f32⟩
  | 2 => ⟨S2x8, .f32⟩
  | 3 => ⟨S1x2x8x64x128, .f32⟩
  | 4 => ⟨S2x8x64x128, .f32⟩
  | 5 => ⟨S2x8x1x1, .f32⟩
  | 6 => ⟨S2x8x64x128, .f32⟩
  | 7 => ⟨S2x8x64x128, .f32⟩
  | 8 => ⟨S2x8x64x128, .f32⟩
  | 9 => ⟨S1x2x8, .f32⟩
  | 10 => ⟨S2x8, .f32⟩
  | 11 => ⟨S1x2x8x64x128, .f32⟩
  | 12 => ⟨S2x8x64x128, .f32⟩
  | 13 => ⟨S2x8x1x1, .f32⟩
  | 14 => ⟨S2x8x64x128, .f32⟩
  | 15 => ⟨S2x8x64x128, .f32⟩
  | 16 => ⟨S2x8x64x128, .f32⟩
  | 17 => ⟨S1x2x8, .f32⟩
  | 18 => ⟨S2x8, .f32⟩
  | 19 => ⟨S1x2x8x64x128, .f32⟩
  | 20 => ⟨S2x8x64x128, .f32⟩
  | 21 => ⟨S2x8x1x1, .f32⟩
  | 22 => ⟨S2x8x64x128, .f32⟩
  | 23 => ⟨S2x8x64x128, .f32⟩
  | 24 => ⟨S2x8x64x128, .f32⟩
  | 25 => ⟨S1x2x8, .f32⟩
  | 26 => ⟨S2x8, .f32⟩
  | 27 => ⟨S1x2x8x64x128, .f32⟩
  | 28 => ⟨S2x8x64x128, .f32⟩
  | 29 => ⟨S2x8x1x1, .f32⟩
  | 30 => ⟨S2x8x64x128, .f32⟩
  | 31 => ⟨S2x8x64x128, .f32⟩
  | 32 => ⟨S2x8x64x128, .f32⟩
  | 33 => ⟨S1x2x8, .f32⟩
  | 34 => ⟨S2x8, .f32⟩
  | 35 => ⟨S1x2x8x64x128, .f32⟩
  | 36 => ⟨S2x8x64x128, .f32⟩
  | 37 => ⟨S2x8x1x1, .f32⟩
  | 38 => ⟨S2x8x64x128, .f32⟩
  | 39 => ⟨S2x8x64x128, .f32⟩
  | 40 => ⟨S2x8x64x128, .f32⟩
  | 41 => ⟨S1x2x8, .f32⟩
  | 42 => ⟨S2x8, .f32⟩
  | 43 => ⟨S1x2x8x64x128, .f32⟩
  | 44 => ⟨S2x8x64x128, .f32⟩
  | 45 => ⟨S2x8x1x1, .f32⟩
  | 46 => ⟨S2x8x64x128, .f32⟩
  | 47 => ⟨S2x8x64x128, .f32⟩
  | 48 => ⟨S2x8x64x128, .f32⟩
  | 49 => ⟨S1x2x8, .f32⟩
  | 50 => ⟨S2x8, .f32⟩
  | 51 => ⟨S1x2x8x64x128, .f32⟩
  | 52 => ⟨S2x8x64x128, .f32⟩
  | 53 => ⟨S2x8x1x1, .f32⟩
  | 54 => ⟨S2x8x64x128, .f32⟩
  | 55 => ⟨S2x8x64x128, .f32⟩
  | 56 => ⟨S2x8x64x128, .f32⟩
  | 57 => ⟨S1x2x8, .f32⟩
  | 58 => ⟨S2x8, .f32⟩
  | 59 => ⟨S1x2x8x64x128, .f32⟩
  | 60 => ⟨S2x8x64x128, .f32⟩
  | 61 => ⟨S2x8x1x1, .f32⟩
  | 62 => ⟨S2x8x64x128, .f32⟩
  | 63 => ⟨S2x8x64x128, .f32⟩
  | 64 => ⟨S2x8x64x128, .f32⟩
  | 65 => ⟨S1x2x8, .f32⟩
  | 66 => ⟨S2x8, .f32⟩
  | 67 => ⟨S1x2x8x64x128, .f32⟩
  | 68 => ⟨S2x8x64x128, .f32⟩
  | 69 => ⟨S2x8x1x1, .f32⟩
  | 70 => ⟨S2x8x64x128, .f32⟩
  | 71 => ⟨S2x8x64x128, .f32⟩
  | 72 => ⟨S2x8x64x128, .f32⟩
  | 73 => ⟨S1x2x8, .f32⟩
  | 74 => ⟨S2x8, .f32⟩
  | 75 => ⟨S1x2x8x64x128, .f32⟩
  | 76 => ⟨S2x8x64x128, .f32⟩
  | 77 => ⟨S2x8x1x1, .f32⟩
  | 78 => ⟨S2x8x64x128, .f32⟩
  | 79 => ⟨S2x8x64x128, .f32⟩
  | 80 => ⟨S2x8x64x128, .f32⟩
  | 81 => ⟨S1x2x8, .f32⟩
  | 82 => ⟨S2x8, .f32⟩
  | 83 => ⟨S1x2x8x64x128, .f32⟩
  | 84 => ⟨S2x8x64x128, .f32⟩
  | 85 => ⟨S2x8x1x1, .f32⟩
  | 86 => ⟨S2x8x64x128, .f32⟩
  | 87 => ⟨S2x8x64x128, .f32⟩
  | 88 => ⟨S2x8x64x128, .f32⟩
  | 89 => ⟨S1x2x8, .f32⟩
  | 90 => ⟨S2x8, .f32⟩
  | 91 => ⟨S1x2x8x64x128, .f32⟩
  | 92 => ⟨S2x8x64x128, .f32⟩
  | 93 => ⟨S2x8x1x1, .f32⟩
  | 94 => ⟨S2x8x64x128, .f32⟩
  | 95 => ⟨S2x8x64x128, .f32⟩
  | 96 => ⟨S2x8x64x128, .f32⟩
  | 97 => ⟨S1x2x8, .f32⟩
  | 98 => ⟨S2x8, .f32⟩
  | 99 => ⟨S1x2x8x64x128, .f32⟩
  | 100 => ⟨S2x8x64x128, .f32⟩
  | 101 => ⟨S2x8x1x1, .f32⟩
  | 102 => ⟨S2x8x64x128, .f32⟩
  | 103 => ⟨S2x8x64x128, .f32⟩
  | 104 => ⟨S2x8x64x128, .f32⟩
  | 105 => ⟨S1x2x8, .f32⟩
  | 106 => ⟨S2x8, .f32⟩
  | 107 => ⟨S1x2x8x64x128, .f32⟩
  | 108 => ⟨S2x8x64x128, .f32⟩
  | 109 => ⟨S2x8x1x1, .f32⟩
  | 110 => ⟨S2x8x64x128, .f32⟩
  | 111 => ⟨S2x8x64x128, .f32⟩
  | 112 => ⟨S2x8x64x128, .f32⟩
  | 113 => ⟨S1x2x8, .f32⟩
  | 114 => ⟨S2x8, .f32⟩
  | 115 => ⟨S1x2x8x64x128, .f32⟩
  | 116 => ⟨S2x8x64x128, .f32⟩
  | 117 => ⟨S2x8x1x1, .f32⟩
  | 118 => ⟨S2x8x64x128, .f32⟩
  | 119 => ⟨S2x8x64x128, .f32⟩
  | 120 => ⟨S2x8x64x128, .f32⟩
  | 121 => ⟨S1x2x8, .f32⟩
  | 122 => ⟨S2x8, .f32⟩
  | 123 => ⟨S1x2x8x64x128, .f32⟩
  | 124 => ⟨S2x8x64x128, .f32⟩
  | 125 => ⟨S2x8x1x1, .f32⟩
  | 126 => ⟨S2x8x64x128, .f32⟩
  | 127 => ⟨S2x8x64x128, .f32⟩
  | _ => ⟨S4096x1536, .f32⟩

abbrev hbmTy0_2 (i : Nat) : BufTy := match i % 128 with
  | 0 => ⟨S2x8x64x128, .f32⟩
  | 1 => ⟨S1x2x8, .f32⟩
  | 2 => ⟨S2x8, .f32⟩
  | 3 => ⟨S1x2x8x64x128, .f32⟩
  | 4 => ⟨S2x8x64x128, .f32⟩
  | 5 => ⟨S2x8x1x1, .f32⟩
  | 6 => ⟨S2x8x64x128, .f32⟩
  | 7 => ⟨S2x8x64x128, .f32⟩
  | 8 => ⟨S2x8x64x128, .f32⟩
  | 9 => ⟨S1x2x8, .f32⟩
  | 10 => ⟨S2x8, .f32⟩
  | 11 => ⟨S1x2x8x64x128, .f32⟩
  | 12 => ⟨S2x8x64x128, .f32⟩
  | 13 => ⟨S2x8x1x1, .f32⟩
  | 14 => ⟨S2x8x64x128, .f32⟩
  | 15 => ⟨S2x8x64x128, .f32⟩
  | 16 => ⟨S2x8x64x128, .f32⟩
  | 17 => ⟨S1x2x8, .f32⟩
  | 18 => ⟨S2x8, .f32⟩
  | 19 => ⟨S1x2x8x64x128, .f32⟩
  | 20 => ⟨S2x8x64x128, .f32⟩
  | 21 => ⟨S2x8x1x1, .f32⟩
  | 22 => ⟨S2x8x64x128, .f32⟩
  | 23 => ⟨S2x8x64x128, .f32⟩
  | 24 => ⟨S2x8x64x128, .f32⟩
  | 25 => ⟨S1x2x8, .f32⟩
  | 26 => ⟨S2x8, .f32⟩
  | 27 => ⟨S1x2x8x64x128, .f32⟩
  | 28 => ⟨S2x8x64x128, .f32⟩
  | 29 => ⟨S2x8x1x1, .f32⟩
  | 30 => ⟨S2x8x64x128, .f32⟩
  | 31 => ⟨S2x8x64x128, .f32⟩
  | 32 => ⟨S2x8x64x128, .f32⟩
  | 33 => ⟨S1x2x8, .f32⟩
  | 34 => ⟨S2x8, .f32⟩
  | 35 => ⟨S1x2x8x64x128, .f32⟩
  | 36 => ⟨S2x8x64x128, .f32⟩
  | 37 => ⟨S2x8x1x1, .f32⟩
  | 38 => ⟨S2x8x64x128, .f32⟩
  | 39 => ⟨S2x8x64x128, .f32⟩
  | 40 => ⟨S2x8x64x128, .f32⟩
  | 41 => ⟨S1x2x8, .f32⟩
  | 42 => ⟨S2x8, .f32⟩
  | 43 => ⟨S1x2x8x64x128, .f32⟩
  | 44 => ⟨S2x8x64x128, .f32⟩
  | 45 => ⟨S2x8x1x1, .f32⟩
  | 46 => ⟨S2x8x64x128, .f32⟩
  | 47 => ⟨S2x8x64x128, .f32⟩
  | 48 => ⟨S2x8x64x128, .f32⟩
  | 49 => ⟨S1x2x8, .f32⟩
  | 50 => ⟨S2x8, .f32⟩
  | 51 => ⟨S1x2x8x64x128, .f32⟩
  | 52 => ⟨S2x8x64x128, .f32⟩
  | 53 => ⟨S2x8x1x1, .f32⟩
  | 54 => ⟨S2x8x64x128, .f32⟩
  | 55 => ⟨S2x8x64x128, .f32⟩
  | 56 => ⟨S2x8x64x128, .f32⟩
  | 57 => ⟨S1x2x8, .f32⟩
  | 58 => ⟨S2x8, .f32⟩
  | 59 => ⟨S1x2x8x64x128, .f32⟩
  | 60 => ⟨S2x8x64x128, .f32⟩
  | 61 => ⟨S2x8x1x1, .f32⟩
  | 62 => ⟨S2x8x64x128, .f32⟩
  | 63 => ⟨S2x8x64x128, .f32⟩
  | 64 => ⟨S2x8x64x128, .f32⟩
  | 65 => ⟨S1x2x8, .f32⟩
  | 66 => ⟨S2x8, .f32⟩
  | 67 => ⟨S1x2x8x64x128, .f32⟩
  | 68 => ⟨S2x8x64x128, .f32⟩
  | 69 => ⟨S2x8x1x1, .f32⟩
  | 70 => ⟨S2x8x64x128, .f32⟩
  | 71 => ⟨S2x8x64x128, .f32⟩
  | 72 => ⟨S2x8x64x128, .f32⟩
  | 73 => ⟨S1x2x8, .f32⟩
  | 74 => ⟨S2x8, .f32⟩
  | 75 => ⟨S1x2x8x64x128, .f32⟩
  | 76 => ⟨S2x8x64x128, .f32⟩
  | 77 => ⟨S2x8x1x1, .f32⟩
  | 78 => ⟨S2x8x64x128, .f32⟩
  | 79 => ⟨S2x8x64x128, .f32⟩
  | 80 => ⟨S2x8x64x128, .f32⟩
  | 81 => ⟨S1x2x8, .f32⟩
  | 82 => ⟨S2x8, .f32⟩
  | 83 => ⟨S1x2x8x64x128, .f32⟩
  | 84 => ⟨S2x8x64x128, .f32⟩
  | 85 => ⟨S2x8x1x1, .f32⟩
  | 86 => ⟨S2x8x64x128, .f32⟩
  | 87 => ⟨S2x8x64x128, .f32⟩
  | 88 => ⟨S2x8x64x128, .f32⟩
  | 89 => ⟨S1x2x8, .f32⟩
  | 90 => ⟨S2x8, .f32⟩
  | 91 => ⟨S1x2x8x64x128, .f32⟩
  | 92 => ⟨S2x8x64x128, .f32⟩
  | 93 => ⟨S2x8x1x1, .f32⟩
  | 94 => ⟨S2x8x64x128, .f32⟩
  | 95 => ⟨S2x8x64x128, .f32⟩
  | 96 => ⟨S2x8x64x128, .f32⟩
  | 97 => ⟨S1x2x8, .f32⟩
  | 98 => ⟨S2x8, .f32⟩
  | 99 => ⟨S1x2x8x64x128, .f32⟩
  | 100 => ⟨S2x8x64x128, .f32⟩
  | 101 => ⟨S2x8x1x1, .f32⟩
  | 102 => ⟨S2x8x64x128, .f32⟩
  | 103 => ⟨S2x8x64x128, .f32⟩
  | 104 => ⟨S2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S1x2x8x64x128, .f32⟩
  | 123 => ⟨S1x2x8x64x128, .f32⟩
  | 124 => ⟨S1x2x8x64x128, .f32⟩
  | 125 => ⟨S1x2x8x64x128, .f32⟩
  | 126 => ⟨S1x2x8x64x128, .f32⟩
  | 127 => ⟨S1x2x8x64x128, .f32⟩
  | _ => ⟨S4096x1536, .f32⟩

abbrev hbmTy0_3 (i : Nat) : BufTy := match i % 128 with
  | 0 => ⟨S1x2x8x64x128, .f32⟩
  | 1 => ⟨S1x2x8x64x128, .f32⟩
  | 2 => ⟨S1x2x8x64x128, .f32⟩
  | 3 => ⟨S1x2x8x64x128, .f32⟩
  | 4 => ⟨S1x2x8x64x128, .f32⟩
  | 5 => ⟨S1x2x8x64x128, .f32⟩
  | 6 => ⟨S1x2x8x64x128, .f32⟩
  | 7 => ⟨S1x2x8x64x128, .f32⟩
  | 8 => ⟨S1x2x8x64x128, .f32⟩
  | 9 => ⟨S16x2x8x64x128, .f32⟩
  | 10 => ⟨S16x2x8x64x128, .f32⟩
  | 11 => ⟨S32x2x8x64x128, .f32⟩
  | 12 => ⟨S32x2x8x64x128, .f32⟩
  | 13 => ⟨S2x8x32x128, .f32⟩
  | 14 => ⟨S32x2x8x64x128, .f32⟩
  | 15 => ⟨S32x128x2x8x64, .f32⟩
  | 16 => ⟨S32x128x2x8, .f32⟩
  | 17 => ⟨S32x128x2x8x1, .f32⟩
  | 18 => ⟨S32x128x2x8x64, .f32⟩
  | 19 => ⟨S32x128x2x8x64, .f32⟩
  | 20 => ⟨S32x128x2x8x64, .f32⟩
  | 21 => ⟨S4096x16x64, .f32⟩
  | 22 => ⟨S16x1, .f32⟩
  | 23 => ⟨S1x16x1, .f32⟩
  | 24 => ⟨S4096x16x64, .f32⟩
  | 25 => ⟨S4096x16x64, .f32⟩
  | 26 => ⟨S4096x16x64, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x2x512, .f32⟩
  | 39 => ⟨S4096x2x512, .f32⟩
  | 40 => ⟨S_, .f32⟩
  | 41 => ⟨S4096x2, .f32⟩
  | 42 => ⟨S4096x2x1, .f32⟩
  | 43 => ⟨S_, .f32⟩
  | 44 => ⟨S4096x2x1, .f32⟩
  | 45 => ⟨S4096x2x1, .f32⟩
  | 46 => ⟨S_, .f32⟩
  | 47 => ⟨S4096x2x1, .f32⟩
  | 48 => ⟨S4096x2x1, .f32⟩
  | 49 => ⟨S4096x2x1, .f32⟩
  | 50 => ⟨S4096x2x512, .f32⟩
  | 51 => ⟨S4096x2x512, .f32⟩
  | 52 => ⟨S4096x1024, .f32⟩
  | 53 => ⟨S1x1024, .f32⟩
  | 54 => ⟨S4096x1024, .f32⟩
  | 55 => ⟨S4096x1024, .f32⟩
  | 56 => ⟨S4096x1024, .bf16⟩
  | 57 => ⟨S32x128x2x8x64, .f32⟩
  | 58 => ⟨S32x128x1024, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call2_call0_cst : Ref sig .tc := ⟨.hbm, 53, rfl⟩
abbrev main_call2_call0_v0 : Ref sig .tc := ⟨.hbm, 54, rfl⟩
abbrev main_v25 : Ref sig .tc := ⟨.hbm, 55, rfl⟩
abbrev main_c : Ref sig .tc := ⟨.hbm, 56, rfl⟩
abbrev main_v26 : Ref sig .tc := ⟨.hbm, 57, rfl⟩
abbrev main_call3_v0 : Ref sig .tc := ⟨.hbm, 58, rfl⟩
abbrev main_call3_c : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_0 : Ref sig .tc := ⟨.hbm, 64, rfl⟩
abbrev main_call3_v5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_0 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_1 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_v357 : Ref sig .tc := ⟨.hbm, 402, rfl⟩
abbrev main_v358 : Ref sig .tc := ⟨.hbm, 403, rfl⟩
abbrev main_v359 : Ref sig .tc := ⟨.hbm, 404, rfl⟩
abbrev main_v360 : Ref sig .tc := ⟨.hbm, 405, rfl⟩
abbrev main_v361 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_call5_v0 : Ref sig .tc := ⟨.hbm, 412, rfl⟩
abbrev main_call5_v1 : Ref sig .tc := ⟨.hbm, 413, rfl⟩
abbrev main_call5_cst : Ref sig .tc := ⟨.hbm, 414, rfl⟩
abbrev main_call5_v2 : Ref sig .tc := ⟨.hbm, 415, rfl⟩
abbrev main_call5_v3 : Ref sig .tc := ⟨.hbm, 416, rfl⟩
abbrev main_call5_cst_0 : Ref sig .tc := ⟨.hbm, 417, rfl⟩
abbrev main_call5_v4 : Ref sig .tc := ⟨.hbm, 418, rfl⟩
abbrev main_call5_v5 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_cst_2 : Ref sig .tc := ⟨.hbm, 424, rfl⟩
abbrev main_v371 : Ref sig .tc := ⟨.hbm, 425, rfl⟩
abbrev main_v372 : Ref sig .tc := ⟨.hbm, 426, rfl⟩
abbrev main_cst_3 : Ref sig .tc := ⟨.hbm, 427, rfl⟩
abbrev main_v373 : Ref sig .tc := ⟨.hbm, 428, rfl⟩
abbrev main_v374 : Ref sig .tc := ⟨.hbm, 429, rfl⟩
abbrev main_cst_4 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_v380 : Ref sig .tc := ⟨.hbm, 436, rfl⟩
abbrev main_v381 : Ref sig .tc := ⟨.hbm, 437, rfl⟩
abbrev main_v382 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_v386 : Ref sig .tc := ⟨.hbm, 442, rfl⟩

abbrev nD : Nat := 1
abbrev τ : Topo := Topo.v7x

variable {F : FTy → Type} [FloatOps F]
-- ==== Ssdb.lean ====
abbrev S4096x1536 : Shape := ⟨2, ![4096, 1536]⟩
abbrev S4096x128 : Shape := ⟨2, ![4096, 128]⟩
abbrev S4096x1024 : Shape := ⟨2, ![4096, 1024]⟩
abbrev S16 : Shape := ⟨1, ![16]⟩
abbrev S1024 : Shape := ⟨1, ![1024]⟩
abbrev S_ : Shape := ⟨0, ![]⟩
abbrev S4096x256 : Shape := ⟨2, ![4096, 256]⟩
abbrev S4096x16 : Shape := ⟨2, ![4096, 16]⟩
abbrev S1x16 : Shape := ⟨2, ![1, 16]⟩
abbrev S4096x16x64 : Shape := ⟨3, ![4096, 16, 64]⟩
abbrev S4096x2x128 : Shape := ⟨3, ![4096, 2, 128]⟩
abbrev S4096x16x1 : Shape := ⟨3, ![4096, 16, 1]⟩
abbrev S32x128x2x8x64 : Shape := ⟨5, ![32, 128, 2, 8, 64]⟩
abbrev S32x128x2x128 : Shape := ⟨4, ![32, 128, 2, 128]⟩
abbrev S32x128x2x8 : Shape := ⟨4, ![32, 128, 2, 8]⟩
abbrev S2x8x32x128 : Shape := ⟨4, ![2, 8, 32, 128]⟩
abbrev S128x128 : Shape := ⟨2, ![128, 128]⟩
abbrev S2x8x32x128x1 : Shape := ⟨5, ![2, 8, 32, 128, 1]⟩
abbrev S2x8x32x1x128 : Shape := ⟨5, ![2, 8, 32, 1, 128]⟩
abbrev S2x8x32x128x128 : Shape := ⟨5, ![2, 8, 32, 128, 128]⟩
abbrev S2x32x128x128 : Shape := ⟨4, ![2, 32, 128, 128]⟩
abbrev S2x1x32x128x128 : Shape := ⟨5, ![2, 1, 32, 128, 128]⟩
abbrev S32x2x8x64x128 : Shape := ⟨5, ![32, 2, 8, 64, 128]⟩
abbrev S2x8x32x1 : Shape := ⟨4, ![2, 8, 32, 1]⟩
abbrev S32x128x2x8x1 : Shape := ⟨5, ![32, 128, 2, 8, 1]⟩
abbrev S2x8x32 : Shape := ⟨3, ![2, 8, 32]⟩
abbrev S32x2x8 : Shape := ⟨3, ![32, 2, 8]⟩
abbrev S2x8x64x128 : Shape := ⟨4, ![2, 8, 64, 128]⟩
abbrev S0x2x8 : Shape := ⟨3, ![0, 2, 8]⟩
abbrev S0x2x8x64x128 : Shape := ⟨5, ![0, 2, 8, 64, 128]⟩
abbrev S1x2x8 : Shape := ⟨3, ![1, 2, 8]⟩
abbrev S2x8 : Shape := ⟨2, ![2, 8]⟩
abbrev S1x2x8x64x128 : Shape := ⟨5, ![1, 2, 8, 64, 128]⟩
abbrev S2x8x1x1 : Shape := ⟨4, ![2, 8, 1, 1]⟩
abbrev S16x2x8x64x128 : Shape := ⟨5, ![16, 2, 8, 64, 128]⟩
abbrev S16x1 : Shape := ⟨2, ![16, 1]⟩
abbrev S1x16x1 : Shape := ⟨3, ![1, 16, 1]⟩
abbrev S32x128x1024 : Shape := ⟨3, ![32, 128, 1024]⟩
abbrev S1x128 : Shape := ⟨2, ![1, 128]⟩
abbrev S1x16x64 : Shape := ⟨3, ![1, 16, 64]⟩
abbrev S1x1024 : Shape := ⟨2, ![1, 1024]⟩
abbrev S128x1024 : Shape := ⟨2, ![128, 1024]⟩
abbrev S128x1536 : Shape := ⟨2, ![128, 1536]⟩
abbrev S1x128x1024 : Shape := ⟨3, ![1, 128, 1024]⟩
abbrev S128x256 : Shape := ⟨2, ![128, 256]⟩
abbrev S128x512 : Shape := ⟨2, ![128, 512]⟩
abbrev S128 : Shape := ⟨1, ![128]⟩
abbrev S128x1 : Shape := ⟨2, ![128, 1]⟩
abbrev S1x512 : Shape := ⟨2, ![1, 512]⟩
abbrev S8x1024 : Shape := ⟨2, ![8, 1024]⟩
abbrev S8x128 : Shape := ⟨2, ![8, 128]⟩

abbrev nBuf : Space → Nat
  | .hbm => 434
  | .vmem => 27
  | .smem => 0
  | _ => 0

abbrev hbmTy0_0 (i : Nat) : BufTy := match i % 128 with
  | 0 => ⟨S4096x1536, .f32⟩
  | 1 => ⟨S4096x128, .f32⟩
  | 2 => ⟨S4096x1024, .f32⟩
  | 3 => ⟨S16, .f32⟩
  | 4 => ⟨S16, .f32⟩
  | 5 => ⟨S16, .f32⟩
  | 6 => ⟨S1024, .f32⟩
  | 7 => ⟨S4096x1024, .f32⟩
  | 8 => ⟨S4096x1536, .f32⟩
  | 9 => ⟨S4096x1536, .f32⟩
  | 10 => ⟨S_, .f32⟩
  | 11 => ⟨S4096x1536, .f32⟩
  | 12 => ⟨S4096x1536, .f32⟩
  | 13 => ⟨S_, .f32⟩
  | 14 => ⟨S4096x1536, .f32⟩
  | 15 => ⟨S4096x1536, .f32⟩
  | 16 => ⟨S4096x1536, .f32⟩
  | 17 => ⟨S4096x1024, .f32⟩
  | 18 => ⟨S4096x256, .f32⟩
  | 19 => ⟨S4096x256, .f32⟩
  | 20 => ⟨S4096x16, .f32⟩
  | 21 => ⟨S1x16, .f32⟩
  | 22 => ⟨S4096x16, .f32⟩
  | 23 => ⟨S4096x16, .f32⟩
  | 24 => ⟨S_, .f32⟩
  | 25 => ⟨S4096x16, .f32⟩
  | 26 => ⟨S4096x16, .f32⟩
  | 27 => ⟨S4096x16, .f32⟩
  | 28 => ⟨S4096x16, .f32⟩
  | 29 => ⟨S4096x16, .i1⟩
  | 30 => ⟨S4096x16, .f32⟩
  | 31 => ⟨S4096x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S4096x16, .f32⟩
  | 38 => ⟨S16, .f32⟩
  | 39 => ⟨S16, .f32⟩
  | 40 => ⟨S4096x16x64, .f32⟩
  | 41 => ⟨S4096x2x128, .f32⟩
  | 42 => ⟨S4096x2x128, .f32⟩
  | 43 => ⟨S4096x16x1, .f32⟩
  | 44 => ⟨S4096x16x64, .f32⟩
  | 45 => ⟨S4096x16x64, .f32⟩
  | 46 => ⟨S32x128x2x8x64, .f32⟩
  | 47 => ⟨S32x128x2x128, .f32⟩
  | 48 => ⟨S32x128x2x128, .f32⟩
  | 49 => ⟨S1x16, .f32⟩
  | 50 => ⟨S4096x16, .f32⟩
  | 51 => ⟨S4096x16, .f32⟩
  | 52 => ⟨S32x128x2x8, .f32⟩
  | 53 => ⟨S2x8x32x128, .f32⟩
  | 54 => ⟨S_, .f32⟩
  | 55 => ⟨S_, .f32⟩
  | 56 => ⟨S2x8x32x128, .f32⟩
  | 57 => ⟨S_, .i1⟩
  | 58 => ⟨S128x128, .i1⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .i1⟩
  | 66 => ⟨S128x128, .i1⟩
  | 67 => ⟨S128x128, .i1⟩
  | 68 => ⟨S2x8x32x128x1, .f32⟩
  | 69 => ⟨S2x8x32x1x128, .f32⟩
  | 70 => ⟨S2x8x32x128x128, .f32⟩
  | 71 => ⟨S2x8x32x128x128, .f32⟩
  | 72 => ⟨S2x8x32x128x128, .f32⟩
  | 73 => ⟨S_, .f32⟩
  | 74 => ⟨S_, .f32⟩
  | 75 => ⟨S2x8x32x128x128, .i1⟩
  | 76 => ⟨S2x8x32x128x128, .f32⟩
  | 77 => ⟨S2x8x32x128x128, .f32⟩
  | 78 => ⟨S2x8x32x128x128, .f32⟩
  | 79 => ⟨S2x32x128x128, .f32⟩
  | 80 => ⟨S2x1x32x128x128, .f32⟩
  | 81 => ⟨S2x8x32x128x128, .f32⟩
  | 82 => ⟨S2x8x32x128x128, .f32⟩
  | 83 => ⟨S32x2x8x64x128, .f32⟩
  | 84 => ⟨S32x128x2x8x64, .f32⟩
  | 85 => ⟨S2x8x32x1, .f32⟩
  | 86 => ⟨S2x8x32x128, .f32⟩
  | 87 => ⟨S2x8x32x128, .f32⟩
  | 88 => ⟨S2x8x32x128, .f32⟩
  | 89 => ⟨S32x128x2x8, .f32⟩
  | 90 => ⟨S32x128x2x8x1, .f32⟩
  | 91 => ⟨S32x128x2x8x64, .f32⟩
  | 92 => ⟨S32x128x2x8x64, .f32⟩
  | 93 => ⟨S32x2x8x64x128, .f32⟩
  | 94 => ⟨S2x8x32x1, .f32⟩
  | 95 => ⟨S2x8x32, .f32⟩
  | 96 => ⟨S2x8x32, .f32⟩
  | 97 => ⟨S32x2x8, .f32⟩
  | 98 => ⟨S_, .f32⟩
  | 99 => ⟨S2x8x64x128, .f32⟩
  | 100 => ⟨S0x2x8, .f32⟩
  | 101 => ⟨S32x2x8, .f32⟩
  | 102 => ⟨S0x2x8x64x128, .f32⟩
  | 103 => ⟨S32x2x8x64x128, .f32⟩
  | 104 => ⟨S_, .f32⟩
  | 105 => ⟨S0x2x8x64x128, .f32⟩
  | 106 => ⟨S1x2x8, .f32⟩
  | 107 => ⟨S2x8, .f32⟩
  | 108 => ⟨S1x2x8x64x128, .f32⟩
  | 109 => ⟨S2x8x64x128, .f32⟩
  | 110 => ⟨S2x8x1x1, .f32⟩
  | 111 => ⟨S2x8x64x128, .f32⟩
  | 112 => ⟨S2x8x64x128, .f32⟩
  | 113 => ⟨S2x8x64x128, .f32⟩
  | 114 => ⟨S1x2x8, .f32⟩
  | 115 => ⟨S2x8, .f32⟩
  | 116 => ⟨S1x2x8x64x128, .f32⟩
  | 117 => ⟨S2x8x64x128, .f32⟩
  | 118 => ⟨S2x8x1x1, .f32⟩
  | 119 => ⟨S2x8x64x128, .f32⟩
  | 120 => ⟨S2x8x64x128, .f32⟩
  | 121 => ⟨S2x8x64x128, .f32⟩
  | 122 => ⟨S1x2x8, .f32⟩
  | 123 => ⟨S2x8, .f32⟩
  | 124 => ⟨S1x2x8x64x128, .f32⟩
  | 125 => ⟨S2x8x64x128, .f32⟩
  | 126 => ⟨S2x8x1x1, .f32⟩
  | 127 => ⟨S2x8x64x128, .f32⟩
  | _ => ⟨S4096x1536, .f32⟩

abbrev hbmTy0_1 (i : Nat) : BufTy := match i % 128 with
  | 0 => ⟨S2x8x64x128, .f32⟩
  | 1 => ⟨S2x8x64x128, .f32⟩
  | 2 => ⟨S1x2x8, .f32⟩
  | 3 => ⟨S2x8, .f32⟩
  | 4 => ⟨S1x2x8x64x128, .f32⟩
  | 5 => ⟨S2x8x64x128, .f32⟩
  | 6 => ⟨S2x8x1x1, .f32⟩
  | 7 => ⟨S2x8x64x128, .f32⟩
  | 8 => ⟨S2x8x64x128, .f32⟩
  | 9 => ⟨S2x8x64x128, .f32⟩
  | 10 => ⟨S1x2x8, .f32⟩
  | 11 => ⟨S2x8, .f32⟩
  | 12 => ⟨S1x2x8x64x128, .f32⟩
  | 13 => ⟨S2x8x64x128, .f32⟩
  | 14 => ⟨S2x8x1x1, .f32⟩
  | 15 => ⟨S2x8x64x128, .f32⟩
  | 16 => ⟨S2x8x64x128, .f32⟩
  | 17 => ⟨S2x8x64x128, .f32⟩
  | 18 => ⟨S1x2x8, .f32⟩
  | 19 => ⟨S2x8, .f32⟩
  | 20 => ⟨S1x2x8x64x128, .f32⟩
  | 21 => ⟨S2x8x64x128, .f32⟩
  | 22 => ⟨S2x8x1x1, .f32⟩
  | 23 => ⟨S2x8x64x128, .f32⟩
  | 24 => ⟨S2x8x64x128, .f32⟩
  | 25 => ⟨S2x8x64x128, .f32⟩
  | 26 => ⟨S1x2x8, .f32⟩
  | 27 => ⟨S2x8, .f32⟩
  | 28 => ⟨S1x2x8x64x128, .f32⟩
  | 29 => ⟨S2x8x64x128, .f32⟩
  | 30 => ⟨S2x8x1x1, .f32⟩
  | 31 => ⟨S2x8x64x128, .f32⟩
  | 32 => ⟨S2x8x64x128, .f32⟩
  | 33 => ⟨S2x8x64x128, .f32⟩
  | 34 => ⟨S1x2x8, .f32⟩
  | 35 => ⟨S2x8, .f32⟩
  | 36 => ⟨S1x2x8x64x128, .f32⟩
  | 37 => ⟨S2x8x64x128, .f32⟩
  | 38 => ⟨S2x8x1x1, .f32⟩
  | 39 => ⟨S2x8x64x128, .f32⟩
  | 40 => ⟨S2x8x64x128, .f32⟩
  | 41 => ⟨S2x8x64x128, .f32⟩
  | 42 => ⟨S1x2x8, .f32⟩
  | 43 => ⟨S2x8, .f32⟩
  | 44 => ⟨S1x2x8x64x128, .f32⟩
  | 45 => ⟨S2x8x64x128, .f32⟩
  | 46 => ⟨S2x8x1x1, .f32⟩
  | 47 => ⟨S2x8x64x128, .f32⟩
  | 48 => ⟨S2x8x64x128, .f32⟩
  | 49 => ⟨S2x8x64x128, .f32⟩
  | 50 => ⟨S1x2x8, .f32⟩
  | 51 => ⟨S2x8, .f32⟩
  | 52 => ⟨S1x2x8x64x128, .f32⟩
  | 53 => ⟨S2x8x64x128, .f32⟩
  | 54 => ⟨S2x8x1x1, .f32⟩
  | 55 => ⟨S2x8x64x128, .f32⟩
  | 56 => ⟨S2x8x64x128, .f32⟩
  | 57 => ⟨S2x8x64x128, .f32⟩
  | 58 => ⟨S1x2x8, .f32⟩
  | 59 => ⟨S2x8, .f32⟩
  | 60 => ⟨S1x2x8x64x128, .f32⟩
  | 61 => ⟨S2x8x64x128, .f32⟩
  | 62 => ⟨S2x8x1x1, .f32⟩
  | 63 => ⟨S2x8x64x128, .f32⟩
  | 64 => ⟨S2x8x64x128, .f32⟩
  | 65 => ⟨S2x8x64x128, .f32⟩
  | 66 => ⟨S1x2x8, .f32⟩
  | 67 => ⟨S2x8, .f32⟩
  | 68 => ⟨S1x2x8x64x128, .f32⟩
  | 69 => ⟨S2x8x64x128, .f32⟩
  | 70 => ⟨S2x8x1x1, .f32⟩
  | 71 => ⟨S2x8x64x128, .f32⟩
  | 72 => ⟨S2x8x64x128, .f32⟩
  | 73 => ⟨S2x8x64x128, .f32⟩
  | 74 => ⟨S1x2x8, .f32⟩
  | 75 => ⟨S2x8, .f32⟩
  | 76 => ⟨S1x2x8x64x128, .f32⟩
  | 77 => ⟨S2x8x64x128, .f32⟩
  | 78 => ⟨S2x8x1x1, .f32⟩
  | 79 => ⟨S2x8x64x128, .f32⟩
  | 80 => ⟨S2x8x64x128, .f32⟩
  | 81 => ⟨S2x8x64x128, .f32⟩
  | 82 => ⟨S1x2x8, .f32⟩
  | 83 => ⟨S2x8, .f32⟩
  | 84 => ⟨S1x2x8x64x128, .f32⟩
  | 85 => ⟨S2x8x64x128, .f32⟩
  | 86 => ⟨S2x8x1x1, .f32⟩
  | 87 => ⟨S2x8x64x128, .f32⟩
  | 88 => ⟨S2x8x64x128, .f32⟩
  | 89 => ⟨S2x8x64x128, .f32⟩
  | 90 => ⟨S1x2x8, .f32⟩
  | 91 => ⟨S2x8, .f32⟩
  | 92 => ⟨S1x2x8x64x128, .f32⟩
  | 93 => ⟨S2x8x64x128, .f32⟩
  | 94 => ⟨S2x8x1x1, .f32⟩
  | 95 => ⟨S2x8x64x128, .f32⟩
  | 96 => ⟨S2x8x64x128, .f32⟩
  | 97 => ⟨S2x8x64x128, .f32⟩
  | 98 => ⟨S1x2x8, .f32⟩
  | 99 => ⟨S2x8, .f32⟩
  | 100 => ⟨S1x2x8x64x128, .f32⟩
  | 101 => ⟨S2x8x64x128, .f32⟩
  | 102 => ⟨S2x8x1x1, .f32⟩
  | 103 => ⟨S2x8x64x128, .f32⟩
  | 104 => ⟨S2x8x64x128, .f32⟩
  | 105 => ⟨S2x8x64x128, .f32⟩
  | 106 => ⟨S1x2x8, .f32⟩
  | 107 => ⟨S2x8, .f32⟩
  | 108 => ⟨S1x2x8x64x128, .f32⟩
  | 109 => ⟨S2x8x64x128, .f32⟩
  | 110 => ⟨S2x8x1x1, .f32⟩
  | 111 => ⟨S2x8x64x128, .f32⟩
  | 112 => ⟨S2x8x64x128, .f32⟩
  | 113 => ⟨S2x8x64x128, .f32⟩
  | 114 => ⟨S1x2x8, .f32⟩
  | 115 => ⟨S2x8, .f32⟩
  | 116 => ⟨S1x2x8x64x128, .f32⟩
  | 117 => ⟨S2x8x64x128, .f32⟩
  | 118 => ⟨S2x8x1x1, .f32⟩
  | 119 => ⟨S2x8x64x128, .f32⟩
  | 120 => ⟨S2x8x64x128, .f32⟩
  | 121 => ⟨S2x8x64x128, .f32⟩
  | 122 => ⟨S1x2x8, .f32⟩
  | 123 => ⟨S2x8, .f32⟩
  | 124 => ⟨S1x2x8x64x128, .f32⟩
  | 125 => ⟨S2x8x64x128, .f32⟩
  | 126 => ⟨S2x8x1x1, .f32⟩
  | 127 => ⟨S2x8x64x128, .f32⟩
  | _ => ⟨S4096x1536, .f32⟩

abbrev hbmTy0_2 (i : Nat) : BufTy := match i % 128 with
  | 0 => ⟨S2x8x64x128, .f32⟩
  | 1 => ⟨S2x8x64x128, .f32⟩
  | 2 => ⟨S1x2x8, .f32⟩
  | 3 => ⟨S2x8, .f32⟩
  | 4 => ⟨S1x2x8x64x128, .f32⟩
  | 5 => ⟨S2x8x64x128, .f32⟩
  | 6 => ⟨S2x8x1x1, .f32⟩
  | 7 => ⟨S2x8x64x128, .f32⟩
  | 8 => ⟨S2x8x64x128, .f32⟩
  | 9 => ⟨S2x8x64x128, .f32⟩
  | 10 => ⟨S1x2x8, .f32⟩
  | 11 => ⟨S2x8, .f32⟩
  | 12 => ⟨S1x2x8x64x128, .f32⟩
  | 13 => ⟨S2x8x64x128, .f32⟩
  | 14 => ⟨S2x8x1x1, .f32⟩
  | 15 => ⟨S2x8x64x128, .f32⟩
  | 16 => ⟨S2x8x64x128, .f32⟩
  | 17 => ⟨S2x8x64x128, .f32⟩
  | 18 => ⟨S1x2x8, .f32⟩
  | 19 => ⟨S2x8, .f32⟩
  | 20 => ⟨S1x2x8x64x128, .f32⟩
  | 21 => ⟨S2x8x64x128, .f32⟩
  | 22 => ⟨S2x8x1x1, .f32⟩
  | 23 => ⟨S2x8x64x128, .f32⟩
  | 24 => ⟨S2x8x64x128, .f32⟩
  | 25 => ⟨S2x8x64x128, .f32⟩
  | 26 => ⟨S1x2x8, .f32⟩
  | 27 => ⟨S2x8, .f32⟩
  | 28 => ⟨S1x2x8x64x128, .f32⟩
  | 29 => ⟨S2x8x64x128, .f32⟩
  | 30 => ⟨S2x8x1x1, .f32⟩
  | 31 => ⟨S2x8x64x128, .f32⟩
  | 32 => ⟨S2x8x64x128, .f32⟩
  | 33 => ⟨S2x8x64x128, .f32⟩
  | 34 => ⟨S1x2x8, .f32⟩
  | 35 => ⟨S2x8, .f32⟩
  | 36 => ⟨S1x2x8x64x128, .f32⟩
  | 37 => ⟨S2x8x64x128, .f32⟩
  | 38 => ⟨S2x8x1x1, .f32⟩
  | 39 => ⟨S2x8x64x128, .f32⟩
  | 40 => ⟨S2x8x64x128, .f32⟩
  | 41 => ⟨S2x8x64x128, .f32⟩
  | 42 => ⟨S1x2x8, .f32⟩
  | 43 => ⟨S2x8, .f32⟩
  | 44 => ⟨S1x2x8x64x128, .f32⟩
  | 45 => ⟨S2x8x64x128, .f32⟩
  | 46 => ⟨S2x8x1x1, .f32⟩
  | 47 => ⟨S2x8x64x128, .f32⟩
  | 48 => ⟨S2x8x64x128, .f32⟩
  | 49 => ⟨S2x8x64x128, .f32⟩
  | 50 => ⟨S1x2x8, .f32⟩
  | 51 => ⟨S2x8, .f32⟩
  | 52 => ⟨S1x2x8x64x128, .f32⟩
  | 53 => ⟨S2x8x64x128, .f32⟩
  | 54 => ⟨S2x8x1x1, .f32⟩
  | 55 => ⟨S2x8x64x128, .f32⟩
  | 56 => ⟨S2x8x64x128, .f32⟩
  | 57 => ⟨S2x8x64x128, .f32⟩
  | 58 => ⟨S1x2x8, .f32⟩
  | 59 => ⟨S2x8, .f32⟩
  | 60 => ⟨S1x2x8x64x128, .f32⟩
  | 61 => ⟨S2x8x64x128, .f32⟩
  | 62 => ⟨S2x8x1x1, .f32⟩
  | 63 => ⟨S2x8x64x128, .f32⟩
  | 64 => ⟨S2x8x64x128, .f32⟩
  | 65 => ⟨S2x8x64x128, .f32⟩
  | 66 => ⟨S1x2x8, .f32⟩
  | 67 => ⟨S2x8, .f32⟩
  | 68 => ⟨S1x2x8x64x128, .f32⟩
  | 69 => ⟨S2x8x64x128, .f32⟩
  | 70 => ⟨S2x8x1x1, .f32⟩
  | 71 => ⟨S2x8x64x128, .f32⟩
  | 72 => ⟨S2x8x64x128, .f32⟩
  | 73 => ⟨S2x8x64x128, .f32⟩
  | 74 => ⟨S1x2x8, .f32⟩
  | 75 => ⟨S2x8, .f32⟩
  | 76 => ⟨S1x2x8x64x128, .f32⟩
  | 77 => ⟨S2x8x64x128, .f32⟩
  | 78 => ⟨S2x8x1x1, .f32⟩
  | 79 => ⟨S2x8x64x128, .f32⟩
  | 80 => ⟨S2x8x64x128, .f32⟩
  | 81 => ⟨S2x8x64x128, .f32⟩
  | 82 => ⟨S1x2x8, .f32⟩
  | 83 => ⟨S2x8, .f32⟩
  | 84 => ⟨S1x2x8x64x128, .f32⟩
  | 85 => ⟨S2x8x64x128, .f32⟩
  | 86 => ⟨S2x8x1x1, .f32⟩
  | 87 => ⟨S2x8x64x128, .f32⟩
  | 88 => ⟨S2x8x64x128, .f32⟩
  | 89 => ⟨S2x8x64x128, .f32⟩
  | 90 => ⟨S1x2x8, .f32⟩
  | 91 => ⟨S2x8, .f32⟩
  | 92 => ⟨S1x2x8x64x128, .f32⟩
  | 93 => ⟨S2x8x64x128, .f32⟩
  | 94 => ⟨S2x8x1x1, .f32⟩
  | 95 => ⟨S2x8x64x128, .f32⟩
  | 96 => ⟨S2x8x64x128, .f32⟩
  | 97 => ⟨S2x8x64x128, .f32⟩
  | 98 => ⟨S1x2x8, .f32⟩
  | 99 => ⟨S2x8, .f32⟩
  | 100 => ⟨S1x2x8x64x128, .f32⟩
  | 101 => ⟨S2x8x64x128, .f32⟩
  | 102 => ⟨S2x8x1x1, .f32⟩
  | 103 => ⟨S2x8x64x128, .f32⟩
  | 104 => ⟨S2x8x64x128, .f32⟩
  | 105 => ⟨S2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S1x2x8x64x128, .f32⟩
  | 123 => ⟨S1x2x8x64x128, .f32⟩
  | 124 => ⟨S1x2x8x64x128, .f32⟩
  | 125 => ⟨S1x2x8x64x128, .f32⟩
  | 126 => ⟨S1x2x8x64x128, .f32⟩
  | 127 => ⟨S1x2x8x64x128, .f32⟩
  | _ => ⟨S4096x1536, .f32⟩

abbrev hbmTy0_3 (i : Nat) : BufTy := match i % 128 with
  | 0 => ⟨S1x2x8x64x128, .f32⟩
  | 1 => ⟨S1x2x8x64x128, .f32⟩
  | 2 => ⟨S1x2x8x64x128, .f32⟩
  | 3 => ⟨S1x2x8x64x128, .f32⟩
  | 4 => ⟨S1x2x8x64x128, .f32⟩
  | 5 => ⟨S1x2x8x64x128, .f32⟩
  | 6 => ⟨S1x2x8x64x128, .f32⟩
  | 7 => ⟨S1x2x8x64x128, .f32⟩
  | 8 => ⟨S1x2x8x64x128, .f32⟩
  | 9 => ⟨S1x2x8x64x128, .f32⟩
  | 10 => ⟨S16x2x8x64x128, .f32⟩
  | 11 => ⟨S16x2x8x64x128, .f32⟩
  | 12 => ⟨S32x2x8x64x128, .f32⟩
  | 13 => ⟨S32x2x8x64x128, .f32⟩
  | 14 => ⟨S2x8x32x128, .f32⟩
  | 15 => ⟨S32x2x8x64x128, .f32⟩
  | 16 => ⟨S32x128x2x8x64, .f32⟩
  | 17 => ⟨S32x128x2x8, .f32⟩
  | 18 => ⟨S32x128x2x8x1, .f32⟩
  | 19 => ⟨S32x128x2x8x64, .f32⟩
  | 20 => ⟨S32x128x2x8x64, .f32⟩
  | 21 => ⟨S32x128x2x8x64, .f32⟩
  | 22 => ⟨S4096x16x64, .f32⟩
  | 23 => ⟨S16x1, .f32⟩
  | 24 => ⟨S1x16x1, .f32⟩
  | 25 => ⟨S4096x16x64, .f32⟩
  | 26 => ⟨S4096x16x64, .f32⟩
  | 27 => ⟨S4096x16x64, .f32⟩
  | 28 => ⟨S4096x1024, .f32⟩
  | 29 => ⟨S32x128x2x8x64, .f32⟩
  | 30 => ⟨S32x128x1024, .f32⟩
  | 31 => ⟨S1x16, .f32⟩
  | 32 => ⟨S_, .i32⟩
  | 33 => ⟨S_, .f32⟩
  | 34 => ⟨S1x128, .f32⟩
  | 35 => ⟨S1x16, .f32⟩
  | 36 => ⟨S_, .i32⟩
  | 37 => ⟨S_, .f32⟩
  | 38 => ⟨S1x128, .f32⟩
  | 39 => ⟨S1x16, .f32⟩
  | 40 => ⟨S1x16x64, .f32⟩
  | 41 => ⟨S1x1024, .f32⟩
  | 42 => ⟨S1x1024, .f32⟩
  | 43 => ⟨S4096x1024, .bf16⟩
  | 44 => ⟨S4096x1536, .f32⟩
  | 45 => ⟨S4096x128, .bf16⟩
  | 46 => ⟨S1x1024, .f32⟩
  | 47 => ⟨S1x128, .f32⟩
  | 48 => ⟨S1x128, .f32⟩
  | 49 => ⟨S1x128, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1536, .f32⟩
  | .local _ .vmem, ⟨7, _⟩ => ⟨S128x1536, .f32⟩
  | .local _ .vmem, ⟨8, _⟩ => ⟨S128x128, .f32⟩
  | .local _ .vmem, ⟨9, _⟩ => ⟨S128x128, .f32⟩
  | .local _ .vmem, ⟨10, _⟩ => ⟨S1x128x1024, .f32⟩
  | .local _ .vmem, ⟨11, _⟩ => ⟨S1x128x1024, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .bf16⟩
  | .local _ .vmem, ⟨17, _⟩ => ⟨S128x1024, .bf16⟩
  | .local _ .vmem, ⟨18, _⟩ => ⟨S128x1536, .f32⟩
  | .local _ .vmem, ⟨19, _⟩ => ⟨S128x1536, .f32⟩
  | .local _ .vmem, ⟨20, _⟩ => ⟨S128x128, .bf16⟩
  | .local _ .vmem, ⟨21, _⟩ => ⟨S128x128, .bf16⟩
  | .local _ .vmem, ⟨22, _⟩ => ⟨S1x1024, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call2_call0_cst : Ref sig .tc := ⟨.hbm, 54, rfl⟩
abbrev main_call2_call0_v0 : Ref sig .tc := ⟨.hbm, 55, rfl⟩
abbrev main_v25 : Ref sig .tc := ⟨.hbm, 56, rfl⟩
abbrev main_c : Ref sig .tc := ⟨.hbm, 57, rfl⟩
abbrev main_v26 : Ref sig .tc := ⟨.hbm, 58, rfl⟩
abbrev main_call3_v0 : Ref sig .tc := ⟨.hbm, 59, rfl⟩
abbrev main_call3_c : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_c_0 : Ref sig .tc := ⟨.hbm, 65, rfl⟩
abbrev main_call3_v5 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_0 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_1 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_c_2 : Ref sig .tc := ⟨.hbm, 416, rfl⟩
abbrev main_call5_v0 : Ref sig .tc := ⟨.hbm, 417, rfl⟩
abbrev main_v370 : Ref sig .tc := ⟨.hbm, 418, rfl⟩
abbrev main_v371 : Ref sig .tc := ⟨.hbm, 419, rfl⟩
abbrev main_c_3 : Ref sig .tc := ⟨.hbm, 420, rfl⟩
abbrev main_call6_v0 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_v376 : Ref sig .tc := ⟨.hbm, 426, rfl⟩
abbrev main_v377_0 : Ref sig .tc := ⟨.hbm, 427, rfl⟩
abbrev main_v377_1 : Ref sig .tc := ⟨.hbm, 428, rfl⟩
abbrev main_v377_2 : Ref sig .tc := ⟨.hbm, 429, rfl⟩
abbrev main_v377_3 : Ref sig .tc := ⟨.hbm, 430, rfl⟩
abbrev main_v377_4 : Ref sig .tc := ⟨.hbm, 431, rfl⟩
abbrev main_v377_5 : Ref sig .tc := ⟨.hbm, 432, rfl⟩
abbrev main_v377_6 : Ref sig .tc := ⟨.hbm, 433, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SsdbIdeal.lean ====
variable {F : FTy → Type} [FloatOps F] [Named F]
def κ : String → Option EReal := fun
  | "mask" => some ⊥
  | _ => none
-- ==== SsdbRefIdeal.lean ====
abbrev S4096x1536 : Shape := ⟨2, ![4096, 1536]⟩
abbrev S4096x128 : Shape := ⟨2, ![4096, 128]⟩
abbrev S4096x1024 : Shape := ⟨2, ![4096, 1024]⟩
abbrev S16 : Shape := ⟨1, ![16]⟩
abbrev S1024 : Shape := ⟨1, ![1024]⟩
abbrev S_ : Shape := ⟨0, ![]⟩
abbrev S4096x256 : Shape := ⟨2, ![4096, 256]⟩
abbrev S4096x16 : Shape := ⟨2, ![4096, 16]⟩
abbrev S1x16 : Shape := ⟨2, ![1, 16]⟩
abbrev S4096x16x64 : Shape := ⟨3, ![4096, 16, 64]⟩
abbrev S4096x2x128 : Shape := ⟨3, ![4096, 2, 128]⟩
abbrev S4096x16x1 : Shape := ⟨3, ![4096, 16, 1]⟩
abbrev S32x128x2x8x64 : Shape := ⟨5, ![32, 128, 2, 8, 64]⟩
abbrev S32x128x2x128 : Shape := ⟨4, ![32, 128, 2, 128]⟩
abbrev S32x128x2x8 : Shape := ⟨4, ![32, 128, 2, 8]⟩
abbrev S2x8x32x128 : Shape := ⟨4, ![2, 8, 32, 128]⟩
abbrev S128x128 : Shape := ⟨2, ![128, 128]⟩
abbrev S2x8x32x128x1 : Shape := ⟨5, ![2, 8, 32, 128, 1]⟩
abbrev S2x8x32x1x128 : Shape := ⟨5, ![2, 8, 32, 1, 128]⟩
abbrev S2x8x32x128x128 : Shape := ⟨5, ![2, 8, 32, 128, 128]⟩
abbrev S2x32x128x128 : Shape := ⟨4, ![2, 32, 128, 128]⟩
abbrev S2x1x32x128x128 : Shape := ⟨5, ![2, 1, 32, 128, 128]⟩
abbrev S32x2x8x64x128 : Shape := ⟨5, ![32, 2, 8, 64, 128]⟩
abbrev S2x8x32x1 : Shape := ⟨4, ![2, 8, 32, 1]⟩
abbrev S32x128x2x8x1 : Shape := ⟨5, ![32, 128, 2, 8, 1]⟩
abbrev S2x8x32 : Shape := ⟨3, ![2, 8, 32]⟩
abbrev S32x2x8 : Shape := ⟨3, ![32, 2, 8]⟩
abbrev S2x8x64x128 : Shape := ⟨4, ![2, 8, 64, 128]⟩
abbrev S0x2x8 : Shape := ⟨3, ![0, 2, 8]⟩
abbrev S0x2x8x64x128 : Shape := ⟨5, ![0, 2, 8, 64, 128]⟩
abbrev S0x2x8x1x1 : Shape := ⟨5, ![0, 2, 8, 1, 1]⟩
abbrev S1x2x8 : Shape := ⟨3, ![1, 2, 8]⟩
abbrev S2x8 : Shape := ⟨2, ![2, 8]⟩
abbrev S1x2x8x64x128 : Shape := ⟨5, ![1, 2, 8, 64, 128]⟩
abbrev S2x8x1x1 : Shape := ⟨4, ![2, 8, 1, 1]⟩
abbrev S16x2x8x64x128 : Shape := ⟨5, ![16, 2, 8, 64, 128]⟩
abbrev S1x2x8x1x1 : Shape := ⟨5, ![1, 2, 8, 1, 1]⟩
abbrev S16x2x8x1x1 : Shape := ⟨5, ![16, 2, 8, 1, 1]⟩
abbrev S32x2x8x1x1 : Shape := ⟨5, ![32, 2, 8, 1, 1]⟩
abbrev S16x1 : Shape := ⟨2, ![16, 1]⟩
abbrev S1x16x1 : Shape := ⟨3, ![1, 16, 1]⟩
abbrev S4096x2x512 : Shape := ⟨3, ![4096, 2, 512]⟩
abbrev S4096x2 : Shape := ⟨2, ![4096, 2]⟩
abbrev S4096x2x1 : Shape := ⟨3, ![4096, 2, 1]⟩
abbrev S1x1024 : Shape := ⟨2, ![1, 1024]⟩
abbrev S32x2x128x128 : Shape := ⟨4, ![32, 2, 128, 128]⟩
abbrev S16x2x8 : Shape := ⟨3, ![16, 2, 8]⟩
abbrev S32x2x8x128x128 : Shape := ⟨5, ![32, 2, 8, 128, 128]⟩
abbrev S112 : Shape := ⟨1, ![112]⟩
abbrev S128 : Shape := ⟨1, ![128]⟩
abbrev S1x128 : Shape := ⟨2, ![1, 128]⟩

abbrev nBuf : Space → Nat
  | .hbm => 1275
  | .vmem => 0
  | .smem => 0
  | _ => 0

abbrev hbmTy0_0 (i : Nat) : BufTy := match i % 128 with
  | 0 => ⟨S4096x1536, .f32⟩
  | 1 => ⟨S4096x128, .f32⟩
  | 2 => ⟨S4096x1024, .f32⟩
  | 3 => ⟨S16, .f32⟩
  | 4 => ⟨S16, .f32⟩
  | 5 => ⟨S16, .f32⟩
  | 6 => ⟨S1024, .f32⟩
  | 7 => ⟨S4096x1024, .f32⟩
  | 8 => ⟨S4096x1536, .f32⟩
  | 9 => ⟨S4096x1536, .f32⟩
  | 10 => ⟨S_, .f32⟩
  | 11 => ⟨S4096x1536, .f32⟩
  | 12 => ⟨S4096x1536, .f32⟩
  | 13 => ⟨S_, .f32⟩
  | 14 => ⟨S4096x1536, .f32⟩
  | 15 => ⟨S4096x1536, .f32⟩
  | 16 => ⟨S_, .f32⟩
  | 17 => ⟨S4096x1536, .f32⟩
  | 18 => ⟨S4096x1536, .f32⟩
  | 19 => ⟨S4096x1536, .f32⟩
  | 20 => ⟨S4096x1536, .f32⟩
  | 21 => ⟨S4096x1024, .f32⟩
  | 22 => ⟨S4096x256, .f32⟩
  | 23 => ⟨S4096x256, .f32⟩
  | 24 => ⟨S4096x16, .f32⟩
  | 25 => ⟨S1x16, .f32⟩
  | 26 => ⟨S4096x16, .f32⟩
  | 27 => ⟨S4096x16, .f32⟩
  | 28 => ⟨S_, .f32⟩
  | 29 => ⟨S4096x16, .f32⟩
  | 30 => ⟨S4096x16, .f32⟩
  | 31 => ⟨S4096x16, .f32⟩
  | 32 => ⟨S4096x16, .f32⟩
  | 33 => ⟨S4096x16, .i1⟩
  | 34 => ⟨S4096x16, .f32⟩
  | 35 => ⟨S4096x16, .f32⟩
  | 36 => ⟨S4096x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S_, .f32⟩
  | 43 => ⟨S4096x16, .f32⟩
  | 44 => ⟨S4096x16, .i1⟩
  | 45 => ⟨S_, .f32⟩
  | 46 => ⟨S4096x16, .f32⟩
  | 47 => ⟨S4096x16, .f32⟩
  | 48 => ⟨S_, .f32⟩
  | 49 => ⟨S4096x16, .f32⟩
  | 50 => ⟨S4096x16, .i1⟩
  | 51 => ⟨S_, .f32⟩
  | 52 => ⟨S4096x16, .f32⟩
  | 53 => ⟨S4096x16, .f32⟩
  | 54 => ⟨S4096x16, .f32⟩
  | 55 => ⟨S4096x16, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S4096x16, .f32⟩
  | 64 => ⟨S4096x16, .i1⟩
  | 65 => ⟨S_, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S_, .f32⟩
  | 72 => ⟨S4096x16, .f32⟩
  | 73 => ⟨S4096x16, .f32⟩
  | 74 => ⟨S16, .f32⟩
  | 75 => ⟨S16, .f32⟩
  | 76 => ⟨S4096x16x64, .f32⟩
  | 77 => ⟨S4096x2x128, .f32⟩
  | 78 => ⟨S4096x2x128, .f32⟩
  | 79 => ⟨S4096x16x1, .f32⟩
  | 80 => ⟨S4096x16x64, .f32⟩
  | 81 => ⟨S4096x16x64, .f32⟩
  | 82 => ⟨S32x128x2x8x64, .f32⟩
  | 83 => ⟨S32x128x2x128, .f32⟩
  | 84 => ⟨S32x128x2x128, .f32⟩
  | 85 => ⟨S1x16, .f32⟩
  | 86 => ⟨S4096x16, .f32⟩
  | 87 => ⟨S4096x16, .f32⟩
  | 88 => ⟨S32x128x2x8, .f32⟩
  | 89 => ⟨S2x8x32x128, .f32⟩
  | 90 => ⟨S_, .f32⟩
  | 91 => ⟨S_, .f32⟩
  | 92 => ⟨S2x8x32x128, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S2x8x32x128x1, .f32⟩
  | 105 => ⟨S2x8x32x1x128, .f32⟩
  | 106 => ⟨S2x8x32x128x128, .f32⟩
  | 107 => ⟨S2x8x32x128x128, .f32⟩
  | 108 => ⟨S2x8x32x128x128, .f32⟩
  | 109 => ⟨S_, .f32⟩
  | 110 => ⟨S_, .f32⟩
  | 111 => ⟨S2x8x32x128x128, .i1⟩
  | 112 => ⟨S2x8x32x128x128, .f32⟩
  | 113 => ⟨S2x8x32x128x128, .f32⟩
  | 114 => ⟨S_, .f32⟩
  | 115 => ⟨S2x8x32x128x128, .f32⟩
  | 116 => ⟨S2x8x32x128x128, .f32⟩
  | 117 => ⟨S2x32x128x128, .f32⟩
  | 118 => ⟨S2x1x32x128x128, .f32⟩
  | 119 => ⟨S2x8x32x128x128, .f32⟩
  | 120 => ⟨S2x8x32x128x128, .f32⟩
  | 121 => ⟨S32x2x8x64x128, .f32⟩
  | 122 => ⟨S32x128x2x8x64, .f32⟩
  | 123 => ⟨S2x8x32x1, .f32⟩
  | 124 => ⟨S2x8x32x128, .f32⟩
  | 125 => ⟨S2x8x32x128, .f32⟩
  | 126 => ⟨S2x8x32x128, .f32⟩
  | 127 => ⟨S32x128x2x8, .f32⟩
  | _ => ⟨S4096x1536, .f32⟩

abbrev hbmTy0_1 (i : Nat) : BufTy := match i % 128 with
  | 0 => ⟨S32x128x2x8x1, .f32⟩
  | 1 => ⟨S32x128x2x8x64, .f32⟩
  | 2 => ⟨S32x128x2x8x64, .f32⟩
  | 3 => ⟨S32x2x8x64x128, .f32⟩
  | 4 => ⟨S2x8x32x1, .f32⟩
  | 5 => ⟨S2x8x32, .f32⟩
  | 6 => ⟨S2x8x32, .f32⟩
  | 7 => ⟨S32x2x8, .f32⟩
  | 8 => ⟨S_, .f32⟩
  | 9 => ⟨S2x8x64x128, .f32⟩
  | 10 => ⟨S0x2x8, .f32⟩
  | 11 => ⟨S32x2x8, .f32⟩
  | 12 => ⟨S0x2x8x64x128, .f32⟩
  | 13 => ⟨S32x2x8x64x128, .f32⟩
  | 14 => ⟨S_, .f32⟩
  | 15 => ⟨S0x2x8x64x128, .f32⟩
  | 16 => ⟨S_, .f32⟩
  | 17 => ⟨S0x2x8x1x1, .f32⟩
  | 18 => ⟨S1x2x8, .f32⟩
  | 19 => ⟨S2x8, .f32⟩
  | 20 => ⟨S1x2x8x64x128, .f32⟩
  | 21 => ⟨S2x8x64x128, .f32⟩
  | 22 => ⟨S2x8x1x1, .f32⟩
  | 23 => ⟨S2x8x64x128, .f32⟩
  | 24 => ⟨S2x8x64x128, .f32⟩
  | 25 => ⟨S2x8x64x128, .f32⟩
  | 26 => ⟨S1x2x8, .f32⟩
  | 27 => ⟨S2x8, .f32⟩
  | 28 => ⟨S1x2x8x64x128, .f32⟩
  | 29 => ⟨S2x8x64x128, .f32⟩
  | 30 => ⟨S2x8x1x1, .f32⟩
  | 31 => ⟨S2x8x64x128, .f32⟩
  | 32 => ⟨S2x8x64x128, .f32⟩
  | 33 => ⟨S2x8x64x128, .f32⟩
  | 34 => ⟨S1x2x8, .f32⟩
  | 35 => ⟨S2x8, .f32⟩
  | 36 => ⟨S1x2x8x64x128, .f32⟩
  | 37 => ⟨S2x8x64x128, .f32⟩
  | 38 => ⟨S2x8x1x1, .f32⟩
  | 39 => ⟨S2x8x64x128, .f32⟩
  | 40 => ⟨S2x8x64x128, .f32⟩
  | 41 => ⟨S2x8x64x128, .f32⟩
  | 42 => ⟨S1x2x8, .f32⟩
  | 43 => ⟨S2x8, .f32⟩
  | 44 => ⟨S1x2x8x64x128, .f32⟩
  | 45 => ⟨S2x8x64x128, .f32⟩
  | 46 => ⟨S2x8x1x1, .f32⟩
  | 47 => ⟨S2x8x64x128, .f32⟩
  | 48 => ⟨S2x8x64x128, .f32⟩
  | 49 => ⟨S2x8x64x128, .f32⟩
  | 50 => ⟨S1x2x8, .f32⟩
  | 51 => ⟨S2x8, .f32⟩
  | 52 => ⟨S1x2x8x64x128, .f32⟩
  | 53 => ⟨S2x8x64x128, .f32⟩
  | 54 => ⟨S2x8x1x1, .f32⟩
  | 55 => ⟨S2x8x64x128, .f32⟩
  | 56 => ⟨S2x8x64x128, .f32⟩
  | 57 => ⟨S2x8x64x128, .f32⟩
  | 58 => ⟨S1x2x8, .f32⟩
  | 59 => ⟨S2x8, .f32⟩
  | 60 => ⟨S1x2x8x64x128, .f32⟩
  | 61 => ⟨S2x8x64x128, .f32⟩
  | 62 => ⟨S2x8x1x1, .f32⟩
  | 63 => ⟨S2x8x64x128, .f32⟩
  | 64 => ⟨S2x8x64x128, .f32⟩
  | 65 => ⟨S2x8x64x128, .f32⟩
  | 66 => ⟨S1x2x8, .f32⟩
  | 67 => ⟨S2x8, .f32⟩
  | 68 => ⟨S1x2x8x64x128, .f32⟩
  | 69 => ⟨S2x8x64x128, .f32⟩
  | 70 => ⟨S2x8x1x1, .f32⟩
  | 71 => ⟨S2x8x64x128, .f32⟩
  | 72 => ⟨S2x8x64x128, .f32⟩
  | 73 => ⟨S2x8x64x128, .f32⟩
  | 74 => ⟨S1x2x8, .f32⟩
  | 75 => ⟨S2x8, .f32⟩
  | 76 => ⟨S1x2x8x64x128, .f32⟩
  | 77 => ⟨S2x8x64x128, .f32⟩
  | 78 => ⟨S2x8x1x1, .f32⟩
  | 79 => ⟨S2x8x64x128, .f32⟩
  | 80 => ⟨S2x8x64x128, .f32⟩
  | 81 => ⟨S2x8x64x128, .f32⟩
  | 82 => ⟨S1x2x8, .f32⟩
  | 83 => ⟨S2x8, .f32⟩
  | 84 => ⟨S1x2x8x64x128, .f32⟩
  | 85 => ⟨S2x8x64x128, .f32⟩
  | 86 => ⟨S2x8x1x1, .f32⟩
  | 87 => ⟨S2x8x64x128, .f32⟩
  | 88 => ⟨S2x8x64x128, .f32⟩
  | 89 => ⟨S2x8x64x128, .f32⟩
  | 90 => ⟨S1x2x8, .f32⟩
  | 91 => ⟨S2x8, .f32⟩
  | 92 => ⟨S1x2x8x64x128, .f32⟩
  | 93 => ⟨S2x8x64x128, .f32⟩
  | 94 => ⟨S2x8x1x1, .f32⟩
  | 95 => ⟨S2x8x64x128, .f32⟩
  | 96 => ⟨S2x8x64x128, .f32⟩
  | 97 => ⟨S2x8x64x128, .f32⟩
  | 98 => ⟨S1x2x8, .f32⟩
  | 99 => ⟨S2x8, .f32⟩
  | 100 => ⟨S1x2x8x64x128, .f32⟩
  | 101 => ⟨S2x8x64x128, .f32⟩
  | 102 => ⟨S2x8x1x1, .f32⟩
  | 103 => ⟨S2x8x64x128, .f32⟩
  | 104 => ⟨S2x8x64x128, .f32⟩
  | 105 => ⟨S2x8x64x128, .f32⟩
  | 106 => ⟨S1x2x8, .f32⟩
  | 107 => ⟨S2x8, .f32⟩
  | 108 => ⟨S1x2x8x64x128, .f32⟩
  | 109 => ⟨S2x8x64x128, .f32⟩
  | 110 => ⟨S2x8x1x1, .f32⟩
  | 111 => ⟨S2x8x64x128, .f32⟩
  | 112 => ⟨S2x8x64x128, .f32⟩
  | 113 => ⟨S2x8x64x128, .f32⟩
  | 114 => ⟨S1x2x8, .f32⟩
  | 115 => ⟨S2x8, .f32⟩
  | 116 => ⟨S1x2x8x64x128, .f32⟩
  | 117 => ⟨S2x8x64x128, .f32⟩
  | 118 => ⟨S2x8x1x1, .f32⟩
  | 119 => ⟨S2x8x64x128, .f32⟩
  | 120 => ⟨S2x8x64x128, .f32⟩
  | 121 => ⟨S2x8x64x128, .f32⟩
  | 122 => ⟨S1x2x8, .f32⟩
  | 123 => ⟨S2x8, .f32⟩
  | 124 => ⟨S1x2x8x64x128, .f32⟩
  | 125 => ⟨S2x8x64x128, .f32⟩
  | 126 => ⟨S2x8x1x1, .f32⟩
  | 127 => ⟨S2x8x64x128, .f32⟩
  | _ => ⟨S4096x1536, .f32⟩

abbrev hbmTy0_2 (i : Nat) : BufTy := match i % 128 with
  | 0 => ⟨S2x8x64x128, .f32⟩
  | 1 => ⟨S2x8x64x128, .f32⟩
  | 2 => ⟨S1x2x8, .f32⟩
  | 3 => ⟨S2x8, .f32⟩
  | 4 => ⟨S1x2x8x64x128, .f32⟩
  | 5 => ⟨S2x8x64x128, .f32⟩
  | 6 => ⟨S2x8x1x1, .f32⟩
  | 7 => ⟨S2x8x64x128, .f32⟩
  | 8 => ⟨S2x8x64x128, .f32⟩
  | 9 => ⟨S2x8x64x128, .f32⟩
  | 10 => ⟨S1x2x8, .f32⟩
  | 11 => ⟨S2x8, .f32⟩
  | 12 => ⟨S1x2x8x64x128, .f32⟩
  | 13 => ⟨S2x8x64x128, .f32⟩
  | 14 => ⟨S2x8x1x1, .f32⟩
  | 15 => ⟨S2x8x64x128, .f32⟩
  | 16 => ⟨S2x8x64x128, .f32⟩
  | 17 => ⟨S2x8x64x128, .f32⟩
  | 18 => ⟨S1x2x8, .f32⟩
  | 19 => ⟨S2x8, .f32⟩
  | 20 => ⟨S1x2x8x64x128, .f32⟩
  | 21 => ⟨S2x8x64x128, .f32⟩
  | 22 => ⟨S2x8x1x1, .f32⟩
  | 23 => ⟨S2x8x64x128, .f32⟩
  | 24 => ⟨S2x8x64x128, .f32⟩
  | 25 => ⟨S2x8x64x128, .f32⟩
  | 26 => ⟨S1x2x8, .f32⟩
  | 27 => ⟨S2x8, .f32⟩
  | 28 => ⟨S1x2x8x64x128, .f32⟩
  | 29 => ⟨S2x8x64x128, .f32⟩
  | 30 => ⟨S2x8x1x1, .f32⟩
  | 31 => ⟨S2x8x64x128, .f32⟩
  | 32 => ⟨S2x8x64x128, .f32⟩
  | 33 => ⟨S2x8x64x128, .f32⟩
  | 34 => ⟨S1x2x8, .f32⟩
  | 35 => ⟨S2x8, .f32⟩
  | 36 => ⟨S1x2x8x64x128, .f32⟩
  | 37 => ⟨S2x8x64x128, .f32⟩
  | 38 => ⟨S2x8x1x1, .f32⟩
  | 39 => ⟨S2x8x64x128, .f32⟩
  | 40 => ⟨S2x8x64x128, .f32⟩
  | 41 => ⟨S2x8x64x128, .f32⟩
  | 42 => ⟨S1x2x8, .f32⟩
  | 43 => ⟨S2x8, .f32⟩
  | 44 => ⟨S1x2x8x64x128, .f32⟩
  | 45 => ⟨S2x8x64x128, .f32⟩
  | 46 => ⟨S2x8x1x1, .f32⟩
  | 47 => ⟨S2x8x64x128, .f32⟩
  | 48 => ⟨S2x8x64x128, .f32⟩
  | 49 => ⟨S2x8x64x128, .f32⟩
  | 50 => ⟨S1x2x8, .f32⟩
  | 51 => ⟨S2x8, .f32⟩
  | 52 => ⟨S1x2x8x64x128, .f32⟩
  | 53 => ⟨S2x8x64x128, .f32⟩
  | 54 => ⟨S2x8x1x1, .f32⟩
  | 55 => ⟨S2x8x64x128, .f32⟩
  | 56 => ⟨S2x8x64x128, .f32⟩
  | 57 => ⟨S2x8x64x128, .f32⟩
  | 58 => ⟨S1x2x8, .f32⟩
  | 59 => ⟨S2x8, .f32⟩
  | 60 => ⟨S1x2x8x64x128, .f32⟩
  | 61 => ⟨S2x8x64x128, .f32⟩
  | 62 => ⟨S2x8x1x1, .f32⟩
  | 63 => ⟨S2x8x64x128, .f32⟩
  | 64 => ⟨S2x8x64x128, .f32⟩
  | 65 => ⟨S2x8x64x128, .f32⟩
  | 66 => ⟨S1x2x8, .f32⟩
  | 67 => ⟨S2x8, .f32⟩
  | 68 => ⟨S1x2x8x64x128, .f32⟩
  | 69 => ⟨S2x8x64x128, .f32⟩
  | 70 => ⟨S2x8x1x1, .f32⟩
  | 71 => ⟨S2x8x64x128, .f32⟩
  | 72 => ⟨S2x8x64x128, .f32⟩
  | 73 => ⟨S2x8x64x128, .f32⟩
  | 74 => ⟨S1x2x8, .f32⟩
  | 75 => ⟨S2x8, .f32⟩
  | 76 => ⟨S1x2x8x64x128, .f32⟩
  | 77 => ⟨S2x8x64x128, .f32⟩
  | 78 => ⟨S2x8x1x1, .f32⟩
  | 79 => ⟨S2x8x64x128, .f32⟩
  | 80 => ⟨S2x8x64x128, .f32⟩
  | 81 => ⟨S2x8x64x128, .f32⟩
  | 82 => ⟨S1x2x8, .f32⟩
  | 83 => ⟨S2x8, .f32⟩
  | 84 => ⟨S1x2x8x64x128, .f32⟩
  | 85 => ⟨S2x8x64x128, .f32⟩
  | 86 => ⟨S2x8x1x1, .f32⟩
  | 87 => ⟨S2x8x64x128, .f32⟩
  | 88 => ⟨S2x8x64x128, .f32⟩
  | 89 => ⟨S2x8x64x128, .f32⟩
  | 90 => ⟨S1x2x8, .f32⟩
  | 91 => ⟨S2x8, .f32⟩
  | 92 => ⟨S1x2x8x64x128, .f32⟩
  | 93 => ⟨S2x8x64x128, .f32⟩
  | 94 => ⟨S2x8x1x1, .f32⟩
  | 95 => ⟨S2x8x64x128, .f32⟩
  | 96 => ⟨S2x8x64x128, .f32⟩
  | 97 => ⟨S2x8x64x128, .f32⟩
  | 98 => ⟨S1x2x8, .f32⟩
  | 99 => ⟨S2x8, .f32⟩
  | 100 => ⟨S1x2x8x64x128, .f32⟩
  | 101 => ⟨S2x8x64x128, .f32⟩
  | 102 => ⟨S2x8x1x1, .f32⟩
  | 103 => ⟨S2x8x64x128, .f32⟩
  | 104 => ⟨S2x8x64x128, .f32⟩
  | 105 => ⟨S2x8x64x128, .f32⟩
  | 106 => ⟨S1x2x8, .f32⟩
  | 107 => ⟨S2x8, .f32⟩
  | 108 => ⟨S1x2x8x64x128, .f32⟩
  | 109 => ⟨S2x8x64x128, .f32⟩
  | 110 => ⟨S2x8x1x1, .f32⟩
  | 111 => ⟨S2x8x64x128, .f32⟩
  | 112 => ⟨S2x8x64x128, .f32⟩
  | 113 => ⟨S2x8x64x128, .f32⟩
  | 114 => ⟨S1x2x8, .f32⟩
  | 115 => ⟨S2x8, .f32⟩
  | 116 => ⟨S1x2x8x64x128, .f32⟩
  | 117 => ⟨S2x8x64x128, .f32⟩
  | 118 => ⟨S2x8x1x1, .f32⟩
  | 119 => ⟨S2x8x64x128, .f32⟩
  | 120 => ⟨S2x8x64x128, .f32⟩
  | 121 => ⟨S2x8x64x128, .f32⟩
  | 122 => ⟨S1x2x8, .f32⟩
  | 123 => ⟨S2x8, .f32⟩
  | 124 => ⟨S1x2x8x64x128, .f32⟩
  | 125 => ⟨S2x8x64x128, .f32⟩
  | 126 => ⟨S2x8x1x1, .f32⟩
  | 127 => ⟨S2x8x64x128, .f32⟩
  | _ => ⟨S4096x1536, .f32⟩

abbrev hbmTy0_3 (i : Nat) : BufTy := match i % 128 with
  | 0 => ⟨S2x8x64x128, .f32⟩
  | 1 => ⟨S2x8x64x128, .f32⟩
  | 2 => ⟨S1x2x8, .f32⟩
  | 3 => ⟨S2x8, .f32⟩
  | 4 => ⟨S1x2x8x64x128, .f32⟩
  | 5 => ⟨S2x8x64x128, .f32⟩
  | 6 => ⟨S2x8x1x1, .f32⟩
  | 7 => ⟨S2x8x64x128, .f32⟩
  | 8 => ⟨S2x8x64x128, .f32⟩
  | 9 => ⟨S2x8x64x128, .f32⟩
  | 10 => ⟨S1x2x8, .f32⟩
  | 11 => ⟨S2x8, .f32⟩
  | 12 => ⟨S1x2x8x64x128, .f32⟩
  | 13 => ⟨S2x8x64x128, .f32⟩
  | 14 => ⟨S2x8x1x1, .f32⟩
  | 15 => ⟨S2x8x64x128, .f32⟩
  | 16 => ⟨S2x8x64x128, .f32⟩
  | 17 => ⟨S2x8x64x128, .f32⟩
  | 18 => ⟨S1x2x8x64x128, .f32⟩
  | 19 => ⟨S1x2x8x64x128, .f32⟩
  | 20 => ⟨S1x2x8x64x128, .f32⟩
  | 21 => ⟨S1x2x8x64x128, .f32⟩
  | 22 => ⟨S1x2x8x64x128, .f32⟩
  | 23 => ⟨S1x2x8x64x128, .f32⟩
  | 24 => ⟨S1x2x8x64x128, .f32⟩
  | 25 => ⟨S1x2x8x64x128, .f32⟩
  | 26 => ⟨S1x2x8x64x128, .f32⟩
  | 27 => ⟨S1x2x8x64x128, .f32⟩
  | 28 => ⟨S1x2x8x64x128, .f32⟩
  | 29 => ⟨S1x2x8x64x128, .f32⟩
  | 30 => ⟨S1x2x8x64x128, .f32⟩
  | 31 => ⟨S1x2x8x64x128, .f32⟩
  | 32 => ⟨S1x2x8x64x128, .f32⟩
  | 33 => ⟨S1x2x8x64x128, .f32⟩
  | 34 => ⟨S1x2x8x64x128, .f32⟩
  | 35 => ⟨S1x2x8x64x128, .f32⟩
  | 36 => ⟨S1x2x8x64x128, .f32⟩
  | 37 => ⟨S1x2x8x64x128, .f32⟩
  | 38 => ⟨S1x2x8x64x128, .f32⟩
  | 39 => ⟨S1x2x8x64x128, .f32⟩
  | 40 => ⟨S1x2x8x64x128, .f32⟩
  | 41 => ⟨S1x2x8x64x128, .f32⟩
  | 42 => ⟨S1x2x8x64x128, .f32⟩
  | 43 => ⟨S1x2x8x64x128, .f32⟩
  | 44 => ⟨S1x2x8x64x128, .f32⟩
  | 45 => ⟨S1x2x8x64x128, .f32⟩
  | 46 => ⟨S1x2x8x64x128, .f32⟩
  | 47 => ⟨S1x2x8x64x128, .f32⟩
  | 48 => ⟨S1x2x8x64x128, .f32⟩
  | 49 => ⟨S1x2x8x64x128, .f32⟩
  | 50 => ⟨S16x2x8x64x128, .f32⟩
  | 51 => ⟨S16x2x8x64x128, .f32⟩
  | 52 => ⟨S32x2x8x64x128, .f32⟩
  | 53 => ⟨S1x2x8x1x1, .f32⟩
  | 54 => ⟨S1x2x8x1x1, .f32⟩
  | 55 => ⟨S1x2x8x1x1, .f32⟩
  | 56 => ⟨S1x2x8x1x1, .f32⟩
  | 57 => ⟨S1x2x8x1x1, .f32⟩
  | 58 => ⟨S1x2x8x1x1, .f32⟩
  | 59 => ⟨S1x2x8x1x1, .f32⟩
  | 60 => ⟨S1x2x8x1x1, .f32⟩
  | 61 => ⟨S1x2x8x1x1, .f32⟩
  | 62 => ⟨S1x2x8x1x1, .f32⟩
  | 63 => ⟨S1x2x8x1x1, .f32⟩
  | 64 => ⟨S1x2x8x1x1, .f32⟩
  | 65 => ⟨S1x2x8x1x1, .f32⟩
  | 66 => ⟨S1x2x8x1x1, .f32⟩
  | 67 => ⟨S1x2x8x1x1, .f32⟩
  | 68 => ⟨S1x2x8x1x1, .f32⟩
  | 69 => ⟨S1x2x8x1x1, .f32⟩
  | 70 => ⟨S1x2x8x1x1, .f32⟩
  | 71 => ⟨S1x2x8x1x1, .f32⟩
  | 72 => ⟨S1x2x8x1x1, .f32⟩
  | 73 => ⟨S1x2x8x1x1, .f32⟩
  | 74 => ⟨S1x2x8x1x1, .f32⟩
  | 75 => ⟨S1x2x8x1x1, .f32⟩
  | 76 => ⟨S1x2x8x1x1, .f32⟩
  | 77 => ⟨S1x2x8x1x1, .f32⟩
  | 78 => ⟨S1x2x8x1x1, .f32⟩
  | 79 => ⟨S1x2x8x1x1, .f32⟩
  | 80 => ⟨S1x2x8x1x1, .f32⟩
  | 81 => ⟨S1x2x8x1x1, .f32⟩
  | 82 => ⟨S1x2x8x1x1, .f32⟩
  | 83 => ⟨S1x2x8x1x1, .f32⟩
  | 84 => ⟨S1x2x8x1x1, .f32⟩
  | 85 => ⟨S16x2x8x1x1, .f32⟩
  | 86 => ⟨S16x2x8x1x1, .f32⟩
  | 87 => ⟨S32x2x8x1x1, .f32⟩
  | 88 => ⟨S32x2x8x64x128, .f32⟩
  | 89 => ⟨S32x2x8x1x1, .f32⟩
  | 90 => ⟨S2x8x32x128, .f32⟩
  | 91 => ⟨S32x2x8x64x128, .f32⟩
  | 92 => ⟨S32x128x2x8x64, .f32⟩
  | 93 => ⟨S32x128x2x8, .f32⟩
  | 94 => ⟨S32x128x2x8x1, .f32⟩
  | 95 => ⟨S32x128x2x8x64, .f32⟩
  | 96 => ⟨S32x128x2x8x64, .f32⟩
  | 97 => ⟨S32x128x2x8x64, .f32⟩
  | 98 => ⟨S4096x16x64, .f32⟩
  | 99 => ⟨S16x1, .f32⟩
  | 100 => ⟨S1x16x1, .f32⟩
  | 101 => ⟨S4096x16x64, .f32⟩
  | 102 => ⟨S4096x16x64, .f32⟩
  | 103 => ⟨S4096x16x64, .f32⟩
  | 104 => ⟨S4096x1024, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x2x512, .f32⟩
  | 120 => ⟨S4096x2x512, .f32⟩
  | 121 => ⟨S_, .f32⟩
  | 122 => ⟨S4096x2, .f32⟩
  | 123 => ⟨S4096x2x1, .f32⟩
  | 124 => ⟨S_, .f32⟩
  | 125 => ⟨S4096x2x1, .f32⟩
  | 126 => ⟨S4096x2x1, .f32⟩
  | 127 => ⟨S_, .f32⟩
  | _ => ⟨S4096x1536, .f32⟩

abbrev hbmTy0_4 (i : Nat) : BufTy := match i % 128 with
  | 0 => ⟨S4096x2x1, .f32⟩
  | 1 => ⟨S4096x2x1, .f32⟩
  | 2 => ⟨S4096x2x1, .f32⟩
  | 3 => ⟨S4096x2x1, .f32⟩
  | 4 => ⟨S_, .f32⟩
  | 5 => ⟨S4096x2x1, .f32⟩
  | 6 => ⟨S4096x2x1, .f32⟩
  | 7 => ⟨S4096x2x512, .f32⟩
  | 8 => ⟨S4096x2x512, .f32⟩
  | 9 => ⟨S4096x1024, .f32⟩
  | 10 => ⟨S1x1024, .f32⟩
  | 11 => ⟨S4096x1024, .f32⟩
  | 12 => ⟨S4096x1024, .f32⟩
  | 13 => ⟨S_, .f32⟩
  | 14 => ⟨S2x8x64x128, .f32⟩
  | 15 => ⟨S4096x1024, .f32⟩
  | 16 => ⟨S_, .f32⟩
  | 17 => ⟨S1024, .f32⟩
  | 18 => ⟨S1x1024, .f32⟩
  | 19 => ⟨S4096x1024, .f32⟩
  | 20 => ⟨S4096x1024, .f32⟩
  | 21 => ⟨S_, .f32⟩
  | 22 => ⟨S1024, .f32⟩
  | 23 => ⟨S4096x2x512, .f32⟩
  | 24 => ⟨S4096x2x512, .f32⟩
  | 25 => ⟨S_, .f32⟩
  | 26 => ⟨S4096x2, .f32⟩
  | 27 => ⟨S4096x2x1, .f32⟩
  | 28 => ⟨S4096x2x512, .f32⟩
  | 29 => ⟨S4096x2x512, .f32⟩
  | 30 => ⟨S4096x2x1, .f32⟩
  | 31 => ⟨S_, .f32⟩
  | 32 => ⟨S4096x2x1, .f32⟩
  | 33 => ⟨S4096x2x1, .f32⟩
  | 34 => ⟨S_, .f32⟩
  | 35 => ⟨S4096x2, .f32⟩
  | 36 => ⟨S4096x2x512, .f32⟩
  | 37 => ⟨S4096x2x512, .f32⟩
  | 38 => ⟨S4096x2x512, .f32⟩
  | 39 => ⟨S4096x2x512, .f32⟩
  | 40 => ⟨S4096x2x512, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x16x64, .f32⟩
  | 49 => ⟨S4096x16x64, .f32⟩
  | 50 => ⟨S_, .f32⟩
  | 51 => ⟨S16, .f32⟩
  | 52 => ⟨S1x16x1, .f32⟩
  | 53 => ⟨S4096x16x64, .f32⟩
  | 54 => ⟨S4096x16x64, .f32⟩
  | 55 => ⟨S_, .f32⟩
  | 56 => ⟨S16, .f32⟩
  | 57 => ⟨S16x1, .f32⟩
  | 58 => ⟨S_, .f32⟩
  | 59 => ⟨S16, .f32⟩
  | 60 => ⟨S32x128x2x8x64, .f32⟩
  | 61 => ⟨S32x128x2x8x64, .f32⟩
  | 62 => ⟨S_, .f32⟩
  | 63 => ⟨S32x128x2x8, .f32⟩
  | 64 => ⟨S32x128x2x8x1, .f32⟩
  | 65 => ⟨S32x128x2x8x64, .f32⟩
  | 66 => ⟨S32x128x2x8x64, .f32⟩
  | 67 => ⟨S_, .f32⟩
  | 68 => ⟨S32x128x2x8, .f32⟩
  | 69 => ⟨S2x8x32x128, .f32⟩
  | 70 => ⟨S32x2x8x64x128, .f32⟩
  | 71 => ⟨S32x2x128x128, .f32⟩
  | 72 => ⟨S32x128x2x128, .f32⟩
  | 73 => ⟨S32x2x8x64x128, .f32⟩
  | 74 => ⟨S2x8x32x128, .f32⟩
  | 75 => ⟨S_, .f32⟩
  | 76 => ⟨S2x8x64x128, .f32⟩
  | 77 => ⟨S32x2x8x64x128, .f32⟩
  | 78 => ⟨S0x2x8x64x128, .f32⟩
  | 79 => ⟨S32x2x8x1x1, .f32⟩
  | 80 => ⟨S0x2x8x1x1, .f32⟩
  | 81 => ⟨S32x2x8x64x128, .f32⟩
  | 82 => ⟨S0x2x8x64x128, .f32⟩
  | 83 => ⟨S_, .f32⟩
  | 84 => ⟨S0x2x8, .f32⟩
  | 85 => ⟨S_, .f32⟩
  | 86 => ⟨S0x2x8x64x128, .f32⟩
  | 87 => ⟨S1x2x8x64x128, .f32⟩
  | 88 => ⟨S2x8x64x128, .f32⟩
  | 89 => ⟨S1x2x8x1x1, .f32⟩
  | 90 => ⟨S2x8x1x1, .f32⟩
  | 91 => ⟨S1x2x8x64x128, .f32⟩
  | 92 => ⟨S2x8x64x128, .f32⟩
  | 93 => ⟨S2x8x64x128, .f32⟩
  | 94 => ⟨S_, .f32⟩
  | 95 => ⟨S2x8, .f32⟩
  | 96 => ⟨S2x8x1x1, .f32⟩
  | 97 => ⟨S2x8x64x128, .f32⟩
  | 98 => ⟨S2x8x64x128, .f32⟩
  | 99 => ⟨S2x8x64x128, .f32⟩
  | 100 => ⟨S_, .f32⟩
  | 101 => ⟨S2x8, .f32⟩
  | 102 => ⟨S1x2x8x64x128, .f32⟩
  | 103 => ⟨S2x8x64x128, .f32⟩
  | 104 => ⟨S1x2x8x1x1, .f32⟩
  | 105 => ⟨S2x8x1x1, .f32⟩
  | 106 => ⟨S1x2x8x64x128, .f32⟩
  | 107 => ⟨S2x8x64x128, .f32⟩
  | 108 => ⟨S2x8x64x128, .f32⟩
  | 109 => ⟨S_, .f32⟩
  | 110 => ⟨S2x8, .f32⟩
  | 111 => ⟨S2x8x1x1, .f32⟩
  | 112 => ⟨S2x8x64x128, .f32⟩
  | 113 => ⟨S2x8x64x128, .f32⟩
  | 114 => ⟨S2x8x64x128, .f32⟩
  | 115 => ⟨S_, .f32⟩
  | 116 => ⟨S2x8, .f32⟩
  | 117 => ⟨S1x2x8x64x128, .f32⟩
  | 118 => ⟨S2x8x64x128, .f32⟩
  | 119 => ⟨S1x2x8x1x1, .f32⟩
  | 120 => ⟨S2x8x1x1, .f32⟩
  | 121 => ⟨S1x2x8x64x128, .f32⟩
  | 122 => ⟨S2x8x64x128, .f32⟩
  | 123 => ⟨S2x8x64x128, .f32⟩
  | 124 => ⟨S_, .f32⟩
  | 125 => ⟨S2x8, .f32⟩
  | 126 => ⟨S2x8x1x1, .f32⟩
  | 127 => ⟨S2x8x64x128, .f32⟩
  | _ => ⟨S4096x1536, .f32⟩

abbrev hbmTy0_5 (i : Nat) : BufTy := match i % 128 with
  | 0 => ⟨S2x8x64x128, .f32⟩
  | 1 => ⟨S2x8x64x128, .f32⟩
  | 2 => ⟨S_, .f32⟩
  | 3 => ⟨S2x8, .f32⟩
  | 4 => ⟨S1x2x8x64x128, .f32⟩
  | 5 => ⟨S2x8x64x128, .f32⟩
  | 6 => ⟨S1x2x8x1x1, .f32⟩
  | 7 => ⟨S2x8x1x1, .f32⟩
  | 8 => ⟨S1x2x8x64x128, .f32⟩
  | 9 => ⟨S2x8x64x128, .f32⟩
  | 10 => ⟨S2x8x64x128, .f32⟩
  | 11 => ⟨S_, .f32⟩
  | 12 => ⟨S2x8, .f32⟩
  | 13 => ⟨S2x8x1x1, .f32⟩
  | 14 => ⟨S2x8x64x128, .f32⟩
  | 15 => ⟨S2x8x64x128, .f32⟩
  | 16 => ⟨S2x8x64x128, .f32⟩
  | 17 => ⟨S_, .f32⟩
  | 18 => ⟨S2x8, .f32⟩
  | 19 => ⟨S1x2x8x64x128, .f32⟩
  | 20 => ⟨S2x8x64x128, .f32⟩
  | 21 => ⟨S1x2x8x1x1, .f32⟩
  | 22 => ⟨S2x8x1x1, .f32⟩
  | 23 => ⟨S1x2x8x64x128, .f32⟩
  | 24 => ⟨S2x8x64x128, .f32⟩
  | 25 => ⟨S2x8x64x128, .f32⟩
  | 26 => ⟨S_, .f32⟩
  | 27 => ⟨S2x8, .f32⟩
  | 28 => ⟨S2x8x1x1, .f32⟩
  | 29 => ⟨S2x8x64x128, .f32⟩
  | 30 => ⟨S2x8x64x128, .f32⟩
  | 31 => ⟨S2x8x64x128, .f32⟩
  | 32 => ⟨S_, .f32⟩
  | 33 => ⟨S2x8, .f32⟩
  | 34 => ⟨S1x2x8x64x128, .f32⟩
  | 35 => ⟨S2x8x64x128, .f32⟩
  | 36 => ⟨S1x2x8x1x1, .f32⟩
  | 37 => ⟨S2x8x1x1, .f32⟩
  | 38 => ⟨S1x2x8x64x128, .f32⟩
  | 39 => ⟨S2x8x64x128, .f32⟩
  | 40 => ⟨S2x8x64x128, .f32⟩
  | 41 => ⟨S_, .f32⟩
  | 42 => ⟨S2x8, .f32⟩
  | 43 => ⟨S2x8x1x1, .f32⟩
  | 44 => ⟨S2x8x64x128, .f32⟩
  | 45 => ⟨S2x8x64x128, .f32⟩
  | 46 => ⟨S2x8x64x128, .f32⟩
  | 47 => ⟨S_, .f32⟩
  | 48 => ⟨S2x8, .f32⟩
  | 49 => ⟨S1x2x8x64x128, .f32⟩
  | 50 => ⟨S2x8x64x128, .f32⟩
  | 51 => ⟨S1x2x8x1x1, .f32⟩
  | 52 => ⟨S2x8x1x1, .f32⟩
  | 53 => ⟨S1x2x8x64x128, .f32⟩
  | 54 => ⟨S2x8x64x128, .f32⟩
  | 55 => ⟨S2x8x64x128, .f32⟩
  | 56 => ⟨S_, .f32⟩
  | 57 => ⟨S2x8, .f32⟩
  | 58 => ⟨S2x8x1x1, .f32⟩
  | 59 => ⟨S2x8x64x128, .f32⟩
  | 60 => ⟨S2x8x64x128, .f32⟩
  | 61 => ⟨S2x8x64x128, .f32⟩
  | 62 => ⟨S_, .f32⟩
  | 63 => ⟨S2x8, .f32⟩
  | 64 => ⟨S1x2x8x64x128, .f32⟩
  | 65 => ⟨S2x8x64x128, .f32⟩
  | 66 => ⟨S1x2x8x1x1, .f32⟩
  | 67 => ⟨S2x8x1x1, .f32⟩
  | 68 => ⟨S1x2x8x64x128, .f32⟩
  | 69 => ⟨S2x8x64x128, .f32⟩
  | 70 => ⟨S2x8x64x128, .f32⟩
  | 71 => ⟨S_, .f32⟩
  | 72 => ⟨S2x8, .f32⟩
  | 73 => ⟨S2x8x1x1, .f32⟩
  | 74 => ⟨S2x8x64x128, .f32⟩
  | 75 => ⟨S2x8x64x128, .f32⟩
  | 76 => ⟨S2x8x64x128, .f32⟩
  | 77 => ⟨S_, .f32⟩
  | 78 => ⟨S2x8, .f32⟩
  | 79 => ⟨S1x2x8x64x128, .f32⟩
  | 80 => ⟨S2x8x64x128, .f32⟩
  | 81 => ⟨S1x2x8x1x1, .f32⟩
  | 82 => ⟨S2x8x1x1, .f32⟩
  | 83 => ⟨S1x2x8x64x128, .f32⟩
  | 84 => ⟨S2x8x64x128, .f32⟩
  | 85 => ⟨S2x8x64x128, .f32⟩
  | 86 => ⟨S_, .f32⟩
  | 87 => ⟨S2x8, .f32⟩
  | 88 => ⟨S2x8x1x1, .f32⟩
  | 89 => ⟨S2x8x64x128, .f32⟩
  | 90 => ⟨S2x8x64x128, .f32⟩
  | 91 => ⟨S2x8x64x128, .f32⟩
  | 92 => ⟨S_, .f32⟩
  | 93 => ⟨S2x8, .f32⟩
  | 94 => ⟨S1x2x8x64x128, .f32⟩
  | 95 => ⟨S2x8x64x128, .f32⟩
  | 96 => ⟨S1x2x8x1x1, .f32⟩
  | 97 => ⟨S2x8x1x1, .f32⟩
  | 98 => ⟨S1x2x8x64x128, .f32⟩
  | 99 => ⟨S2x8x64x128, .f32⟩
  | 100 => ⟨S2x8x64x128, .f32⟩
  | 101 => ⟨S_, .f32⟩
  | 102 => ⟨S2x8, .f32⟩
  | 103 => ⟨S2x8x1x1, .f32⟩
  | 104 => ⟨S2x8x64x128, .f32⟩
  | 105 => ⟨S2x8x64x128, .f32⟩
  | 106 => ⟨S2x8x64x128, .f32⟩
  | 107 => ⟨S_, .f32⟩
  | 108 => ⟨S2x8, .f32⟩
  | 109 => ⟨S1x2x8x64x128, .f32⟩
  | 110 => ⟨S2x8x64x128, .f32⟩
  | 111 => ⟨S1x2x8x1x1, .f32⟩
  | 112 => ⟨S2x8x1x1, .f32⟩
  | 113 => ⟨S1x2x8x64x128, .f32⟩
  | 114 => ⟨S2x8x64x128, .f32⟩
  | 115 => ⟨S2x8x64x128, .f32⟩
  | 116 => ⟨S_, .f32⟩
  | 117 => ⟨S2x8, .f32⟩
  | 118 => ⟨S2x8x1x1, .f32⟩
  | 119 => ⟨S2x8x64x128, .f32⟩
  | 120 => ⟨S2x8x64x128, .f32⟩
  | 121 => ⟨S2x8x64x128, .f32⟩
  | 122 => ⟨S_, .f32⟩
  | 123 => ⟨S2x8, .f32⟩
  | 124 => ⟨S1x2x8x64x128, .f32⟩
  | 125 => ⟨S2x8x64x128, .f32⟩
  | 126 => ⟨S1x2x8x1x1, .f32⟩
  | 127 => ⟨S2x8x1x1, .f32⟩
  | _ => ⟨S4096x1536, .f32⟩

abbrev hbmTy0_6 (i : Nat) : BufTy := match i % 128 with
  | 0 => ⟨S1x2x8x64x128, .f32⟩
  | 1 => ⟨S2x8x64x128, .f32⟩
  | 2 => ⟨S2x8x64x128, .f32⟩
  | 3 => ⟨S_, .f32⟩
  | 4 => ⟨S2x8, .f32⟩
  | 5 => ⟨S2x8x1x1, .f32⟩
  | 6 => ⟨S2x8x64x128, .f32⟩
  | 7 => ⟨S2x8x64x128, .f32⟩
  | 8 => ⟨S2x8x64x128, .f32⟩
  | 9 => ⟨S_, .f32⟩
  | 10 => ⟨S2x8, .f32⟩
  | 11 => ⟨S1x2x8x64x128, .f32⟩
  | 12 => ⟨S2x8x64x128, .f32⟩
  | 13 => ⟨S1x2x8x1x1, .f32⟩
  | 14 => ⟨S2x8x1x1, .f32⟩
  | 15 => ⟨S1x2x8x64x128, .f32⟩
  | 16 => ⟨S2x8x64x128, .f32⟩
  | 17 => ⟨S2x8x64x128, .f32⟩
  | 18 => ⟨S_, .f32⟩
  | 19 => ⟨S2x8, .f32⟩
  | 20 => ⟨S2x8x1x1, .f32⟩
  | 21 => ⟨S2x8x64x128, .f32⟩
  | 22 => ⟨S2x8x64x128, .f32⟩
  | 23 => ⟨S2x8x64x128, .f32⟩
  | 24 => ⟨S_, .f32⟩
  | 25 => ⟨S2x8, .f32⟩
  | 26 => ⟨S1x2x8x64x128, .f32⟩
  | 27 => ⟨S2x8x64x128, .f32⟩
  | 28 => ⟨S1x2x8x1x1, .f32⟩
  | 29 => ⟨S2x8x1x1, .f32⟩
  | 30 => ⟨S1x2x8x64x128, .f32⟩
  | 31 => ⟨S2x8x64x128, .f32⟩
  | 32 => ⟨S2x8x64x128, .f32⟩
  | 33 => ⟨S_, .f32⟩
  | 34 => ⟨S2x8, .f32⟩
  | 35 => ⟨S2x8x1x1, .f32⟩
  | 36 => ⟨S2x8x64x128, .f32⟩
  | 37 => ⟨S2x8x64x128, .f32⟩
  | 38 => ⟨S2x8x64x128, .f32⟩
  | 39 => ⟨S_, .f32⟩
  | 40 => ⟨S2x8, .f32⟩
  | 41 => ⟨S1x2x8x64x128, .f32⟩
  | 42 => ⟨S2x8x64x128, .f32⟩
  | 43 => ⟨S1x2x8x1x1, .f32⟩
  | 44 => ⟨S2x8x1x1, .f32⟩
  | 45 => ⟨S1x2x8x64x128, .f32⟩
  | 46 => ⟨S2x8x64x128, .f32⟩
  | 47 => ⟨S2x8x64x128, .f32⟩
  | 48 => ⟨S_, .f32⟩
  | 49 => ⟨S2x8, .f32⟩
  | 50 => ⟨S2x8x1x1, .f32⟩
  | 51 => ⟨S2x8x64x128, .f32⟩
  | 52 => ⟨S2x8x64x128, .f32⟩
  | 53 => ⟨S2x8x64x128, .f32⟩
  | 54 => ⟨S_, .f32⟩
  | 55 => ⟨S2x8, .f32⟩
  | 56 => ⟨S1x2x8x64x128, .f32⟩
  | 57 => ⟨S2x8x64x128, .f32⟩
  | 58 => ⟨S1x2x8x1x1, .f32⟩
  | 59 => ⟨S2x8x1x1, .f32⟩
  | 60 => ⟨S1x2x8x64x128, .f32⟩
  | 61 => ⟨S2x8x64x128, .f32⟩
  | 62 => ⟨S2x8x64x128, .f32⟩
  | 63 => ⟨S_, .f32⟩
  | 64 => ⟨S2x8, .f32⟩
  | 65 => ⟨S2x8x1x1, .f32⟩
  | 66 => ⟨S2x8x64x128, .f32⟩
  | 67 => ⟨S2x8x64x128, .f32⟩
  | 68 => ⟨S2x8x64x128, .f32⟩
  | 69 => ⟨S_, .f32⟩
  | 70 => ⟨S2x8, .f32⟩
  | 71 => ⟨S1x2x8x64x128, .f32⟩
  | 72 => ⟨S2x8x64x128, .f32⟩
  | 73 => ⟨S1x2x8x1x1, .f32⟩
  | 74 => ⟨S2x8x1x1, .f32⟩
  | 75 => ⟨S1x2x8x64x128, .f32⟩
  | 76 => ⟨S2x8x64x128, .f32⟩
  | 77 => ⟨S2x8x64x128, .f32⟩
  | 78 => ⟨S_, .f32⟩
  | 79 => ⟨S2x8, .f32⟩
  | 80 => ⟨S2x8x1x1, .f32⟩
  | 81 => ⟨S2x8x64x128, .f32⟩
  | 82 => ⟨S2x8x64x128, .f32⟩
  | 83 => ⟨S2x8x64x128, .f32⟩
  | 84 => ⟨S_, .f32⟩
  | 85 => ⟨S2x8, .f32⟩
  | 86 => ⟨S1x2x8x64x128, .f32⟩
  | 87 => ⟨S2x8x64x128, .f32⟩
  | 88 => ⟨S1x2x8x1x1, .f32⟩
  | 89 => ⟨S2x8x1x1, .f32⟩
  | 90 => ⟨S1x2x8x64x128, .f32⟩
  | 91 => ⟨S2x8x64x128, .f32⟩
  | 92 => ⟨S2x8x64x128, .f32⟩
  | 93 => ⟨S_, .f32⟩
  | 94 => ⟨S2x8, .f32⟩
  | 95 => ⟨S2x8x1x1, .f32⟩
  | 96 => ⟨S2x8x64x128, .f32⟩
  | 97 => ⟨S2x8x64x128, .f32⟩
  | 98 => ⟨S2x8x64x128, .f32⟩
  | 99 => ⟨S_, .f32⟩
  | 100 => ⟨S2x8, .f32⟩
  | 101 => ⟨S1x2x8x64x128, .f32⟩
  | 102 => ⟨S2x8x64x128, .f32⟩
  | 103 => ⟨S1x2x8x1x1, .f32⟩
  | 104 => ⟨S2x8x1x1, .f32⟩
  | 105 => ⟨S1x2x8x64x128, .f32⟩
  | 106 => ⟨S2x8x64x128, .f32⟩
  | 107 => ⟨S2x8x64x128, .f32⟩
  | 108 => ⟨S_, .f32⟩
  | 109 => ⟨S2x8, .f32⟩
  | 110 => ⟨S2x8x1x1, .f32⟩
  | 111 => ⟨S2x8x64x128, .f32⟩
  | 112 => ⟨S2x8x64x128, .f32⟩
  | 113 => ⟨S2x8x64x128, .f32⟩
  | 114 => ⟨S_, .f32⟩
  | 115 => ⟨S2x8, .f32⟩
  | 116 => ⟨S1x2x8x64x128, .f32⟩
  | 117 => ⟨S2x8x64x128, .f32⟩
  | 118 => ⟨S1x2x8x1x1, .f32⟩
  | 119 => ⟨S2x8x1x1, .f32⟩
  | 120 => ⟨S1x2x8x64x128, .f32⟩
  | 121 => ⟨S2x8x64x128, .f32⟩
  | 122 => ⟨S2x8x64x128, .f32⟩
  | 123 => ⟨S_, .f32⟩
  | 124 => ⟨S2x8, .f32⟩
  | 125 => ⟨S2x8x1x1, .f32⟩
  | 126 => ⟨S2x8x64x128, .f32⟩
  | 127 => ⟨S2x8x64x128, .f32⟩
  | _ => ⟨S4096x1536, .f32⟩

abbrev hbmTy0_7 (i : Nat) : BufTy := match i % 128 with
  | 0 => ⟨S2x8x64x128, .f32⟩
  | 1 => ⟨S_, .f32⟩
  | 2 => ⟨S2x8, .f32⟩
  | 3 => ⟨S1x2x8x64x128, .f32⟩
  | 4 => ⟨S2x8x64x128, .f32⟩
  | 5 => ⟨S1x2x8x1x1, .f32⟩
  | 6 => ⟨S2x8x1x1, .f32⟩
  | 7 => ⟨S1x2x8x64x128, .f32⟩
  | 8 => ⟨S2x8x64x128, .f32⟩
  | 9 => ⟨S2x8x64x128, .f32⟩
  | 10 => ⟨S_, .f32⟩
  | 11 => ⟨S2x8, .f32⟩
  | 12 => ⟨S2x8x1x1, .f32⟩
  | 13 => ⟨S2x8x64x128, .f32⟩
  | 14 => ⟨S2x8x64x128, .f32⟩
  | 15 => ⟨S2x8x64x128, .f32⟩
  | 16 => ⟨S_, .f32⟩
  | 17 => ⟨S2x8, .f32⟩
  | 18 => ⟨S1x2x8x64x128, .f32⟩
  | 19 => ⟨S2x8x64x128, .f32⟩
  | 20 => ⟨S1x2x8x1x1, .f32⟩
  | 21 => ⟨S2x8x1x1, .f32⟩
  | 22 => ⟨S1x2x8x64x128, .f32⟩
  | 23 => ⟨S2x8x64x128, .f32⟩
  | 24 => ⟨S2x8x64x128, .f32⟩
  | 25 => ⟨S_, .f32⟩
  | 26 => ⟨S2x8, .f32⟩
  | 27 => ⟨S2x8x1x1, .f32⟩
  | 28 => ⟨S2x8x64x128, .f32⟩
  | 29 => ⟨S2x8x64x128, .f32⟩
  | 30 => ⟨S2x8x64x128, .f32⟩
  | 31 => ⟨S_, .f32⟩
  | 32 => ⟨S2x8, .f32⟩
  | 33 => ⟨S1x2x8x64x128, .f32⟩
  | 34 => ⟨S2x8x64x128, .f32⟩
  | 35 => ⟨S1x2x8x1x1, .f32⟩
  | 36 => ⟨S2x8x1x1, .f32⟩
  | 37 => ⟨S1x2x8x64x128, .f32⟩
  | 38 => ⟨S2x8x64x128, .f32⟩
  | 39 => ⟨S2x8x64x128, .f32⟩
  | 40 => ⟨S_, .f32⟩
  | 41 => ⟨S2x8, .f32⟩
  | 42 => ⟨S2x8x1x1, .f32⟩
  | 43 => ⟨S2x8x64x128, .f32⟩
  | 44 => ⟨S2x8x64x128, .f32⟩
  | 45 => ⟨S2x8x64x128, .f32⟩
  | 46 => ⟨S_, .f32⟩
  | 47 => ⟨S2x8, .f32⟩
  | 48 => ⟨S1x2x8x64x128, .f32⟩
  | 49 => ⟨S2x8x64x128, .f32⟩
  | 50 => ⟨S1x2x8x1x1, .f32⟩
  | 51 => ⟨S2x8x1x1, .f32⟩
  | 52 => ⟨S1x2x8x64x128, .f32⟩
  | 53 => ⟨S2x8x64x128, .f32⟩
  | 54 => ⟨S2x8x64x128, .f32⟩
  | 55 => ⟨S_, .f32⟩
  | 56 => ⟨S2x8, .f32⟩
  | 57 => ⟨S2x8x1x1, .f32⟩
  | 58 => ⟨S2x8x64x128, .f32⟩
  | 59 => ⟨S2x8x64x128, .f32⟩
  | 60 => ⟨S2x8x64x128, .f32⟩
  | 61 => ⟨S_, .f32⟩
  | 62 => ⟨S2x8, .f32⟩
  | 63 => ⟨S1x2x8x64x128, .f32⟩
  | 64 => ⟨S2x8x64x128, .f32⟩
  | 65 => ⟨S1x2x8x1x1, .f32⟩
  | 66 => ⟨S2x8x1x1, .f32⟩
  | 67 => ⟨S1x2x8x64x128, .f32⟩
  | 68 => ⟨S2x8x64x128, .f32⟩
  | 69 => ⟨S2x8x64x128, .f32⟩
  | 70 => ⟨S_, .f32⟩
  | 71 => ⟨S2x8, .f32⟩
  | 72 => ⟨S2x8x1x1, .f32⟩
  | 73 => ⟨S2x8x64x128, .f32⟩
  | 74 => ⟨S2x8x64x128, .f32⟩
  | 75 => ⟨S2x8x64x128, .f32⟩
  | 76 => ⟨S_, .f32⟩
  | 77 => ⟨S2x8, .f32⟩
  | 78 => ⟨S1x2x8x64x128, .f32⟩
  | 79 => ⟨S2x8x64x128, .f32⟩
  | 80 => ⟨S1x2x8x1x1, .f32⟩
  | 81 => ⟨S2x8x1x1, .f32⟩
  | 82 => ⟨S1x2x8x64x128, .f32⟩
  | 83 => ⟨S2x8x64x128, .f32⟩
  | 84 => ⟨S2x8x64x128, .f32⟩
  | 85 => ⟨S_, .f32⟩
  | 86 => ⟨S2x8, .f32⟩
  | 87 => ⟨S2x8x1x1, .f32⟩
  | 88 => ⟨S2x8x64x128, .f32⟩
  | 89 => ⟨S2x8x64x128, .f32⟩
  | 90 => ⟨S2x8x64x128, .f32⟩
  | 91 => ⟨S_, .f32⟩
  | 92 => ⟨S2x8, .f32⟩
  | 93 => ⟨S1x2x8x64x128, .f32⟩
  | 94 => ⟨S2x8x64x128, .f32⟩
  | 95 => ⟨S1x2x8x1x1, .f32⟩
  | 96 => ⟨S2x8x1x1, .f32⟩
  | 97 => ⟨S1x2x8x64x128, .f32⟩
  | 98 => ⟨S2x8x64x128, .f32⟩
  | 99 => ⟨S2x8x64x128, .f32⟩
  | 100 => ⟨S_, .f32⟩
  | 101 => ⟨S2x8, .f32⟩
  | 102 => ⟨S2x8x1x1, .f32⟩
  | 103 => ⟨S2x8x64x128, .f32⟩
  | 104 => ⟨S2x8x64x128, .f32⟩
  | 105 => ⟨S2x8x64x128, .f32⟩
  | 106 => ⟨S_, .f32⟩
  | 107 => ⟨S2x8, .f32⟩
  | 108 => ⟨S1x2x8x64x128, .f32⟩
  | 109 => ⟨S2x8x64x128, .f32⟩
  | 110 => ⟨S1x2x8x1x1, .f32⟩
  | 111 => ⟨S2x8x1x1, .f32⟩
  | 112 => ⟨S1x2x8x64x128, .f32⟩
  | 113 => ⟨S2x8x64x128, .f32⟩
  | 114 => ⟨S2x8x64x128, .f32⟩
  | 115 => ⟨S_, .f32⟩
  | 116 => ⟨S2x8, .f32⟩
  | 117 => ⟨S2x8x1x1, .f32⟩
  | 118 => ⟨S2x8x64x128, .f32⟩
  | 119 => ⟨S2x8x64x128, .f32⟩
  | 120 => ⟨S2x8x64x128, .f32⟩
  | 121 => ⟨S_, .f32⟩
  | 122 => ⟨S2x8, .f32⟩
  | 123 => ⟨S1x2x8x64x128, .f32⟩
  | 124 => ⟨S2x8x64x128, .f32⟩
  | 125 => ⟨S1x2x8x1x1, .f32⟩
  | 126 => ⟨S2x8x1x1, .f32⟩
  | 127 => ⟨S1x2x8x64x128, .f32⟩
  | _ => ⟨S4096x1536, .f32⟩

abbrev hbmTy0_8 (i : Nat) : BufTy := match i % 128 with
  | 0 => ⟨S2x8x64x128, .f32⟩
  | 1 => ⟨S2x8x64x128, .f32⟩
  | 2 => ⟨S_, .f32⟩
  | 3 => ⟨S2x8, .f32⟩
  | 4 => ⟨S2x8x1x1, .f32⟩
  | 5 => ⟨S2x8x64x128, .f32⟩
  | 6 => ⟨S2x8x64x128, .f32⟩
  | 7 => ⟨S2x8x64x128, .f32⟩
  | 8 => ⟨S_, .f32⟩
  | 9 => ⟨S2x8, .f32⟩
  | 10 => ⟨S1x2x8x64x128, .f32⟩
  | 11 => ⟨S2x8x64x128, .f32⟩
  | 12 => ⟨S1x2x8x1x1, .f32⟩
  | 13 => ⟨S2x8x1x1, .f32⟩
  | 14 => ⟨S1x2x8x64x128, .f32⟩
  | 15 => ⟨S2x8x64x128, .f32⟩
  | 16 => ⟨S2x8x64x128, .f32⟩
  | 17 => ⟨S_, .f32⟩
  | 18 => ⟨S2x8, .f32⟩
  | 19 => ⟨S2x8x1x1, .f32⟩
  | 20 => ⟨S2x8x64x128, .f32⟩
  | 21 => ⟨S2x8x64x128, .f32⟩
  | 22 => ⟨S2x8x64x128, .f32⟩
  | 23 => ⟨S_, .f32⟩
  | 24 => ⟨S2x8, .f32⟩
  | 25 => ⟨S1x2x8x64x128, .f32⟩
  | 26 => ⟨S2x8x64x128, .f32⟩
  | 27 => ⟨S1x2x8x1x1, .f32⟩
  | 28 => ⟨S2x8x1x1, .f32⟩
  | 29 => ⟨S1x2x8x64x128, .f32⟩
  | 30 => ⟨S2x8x64x128, .f32⟩
  | 31 => ⟨S2x8x64x128, .f32⟩
  | 32 => ⟨S_, .f32⟩
  | 33 => ⟨S2x8, .f32⟩
  | 34 => ⟨S2x8x1x1, .f32⟩
  | 35 => ⟨S2x8x64x128, .f32⟩
  | 36 => ⟨S2x8x64x128, .f32⟩
  | 37 => ⟨S2x8x64x128, .f32⟩
  | 38 => ⟨S_, .f32⟩
  | 39 => ⟨S2x8, .f32⟩
  | 40 => ⟨S1x2x8x64x128, .f32⟩
  | 41 => ⟨S2x8x64x128, .f32⟩
  | 42 => ⟨S1x2x8x1x1, .f32⟩
  | 43 => ⟨S2x8x1x1, .f32⟩
  | 44 => ⟨S1x2x8x64x128, .f32⟩
  | 45 => ⟨S2x8x64x128, .f32⟩
  | 46 => ⟨S2x8x64x128, .f32⟩
  | 47 => ⟨S_, .f32⟩
  | 48 => ⟨S2x8, .f32⟩
  | 49 => ⟨S2x8x1x1, .f32⟩
  | 50 => ⟨S2x8x64x128, .f32⟩
  | 51 => ⟨S2x8x64x128, .f32⟩
  | 52 => ⟨S2x8x64x128, .f32⟩
  | 53 => ⟨S_, .f32⟩
  | 54 => ⟨S2x8, .f32⟩
  | 55 => ⟨S1x2x8, .f32⟩
  | 56 => ⟨S1x2x8, .f32⟩
  | 57 => ⟨S1x2x8, .f32⟩
  | 58 => ⟨S1x2x8, .f32⟩
  | 59 => ⟨S1x2x8, .f32⟩
  | 60 => ⟨S1x2x8, .f32⟩
  | 61 => ⟨S1x2x8, .f32⟩
  | 62 => ⟨S1x2x8, .f32⟩
  | 63 => ⟨S1x2x8, .f32⟩
  | 64 => ⟨S1x2x8, .f32⟩
  | 65 => ⟨S1x2x8, .f32⟩
  | 66 => ⟨S1x2x8, .f32⟩
  | 67 => ⟨S1x2x8, .f32⟩
  | 68 => ⟨S1x2x8, .f32⟩
  | 69 => ⟨S1x2x8, .f32⟩
  | 70 => ⟨S1x2x8, .f32⟩
  | 71 => ⟨S1x2x8, .f32⟩
  | 72 => ⟨S1x2x8, .f32⟩
  | 73 => ⟨S1x2x8, .f32⟩
  | 74 => ⟨S1x2x8, .f32⟩
  | 75 => ⟨S1x2x8, .f32⟩
  | 76 => ⟨S1x2x8, .f32⟩
  | 77 => ⟨S1x2x8, .f32⟩
  | 78 => ⟨S1x2x8, .f32⟩
  | 79 => ⟨S1x2x8, .f32⟩
  | 80 => ⟨S1x2x8, .f32⟩
  | 81 => ⟨S1x2x8, .f32⟩
  | 82 => ⟨S1x2x8, .f32⟩
  | 83 => ⟨S1x2x8, .f32⟩
  | 84 => ⟨S1x2x8, .f32⟩
  | 85 => ⟨S1x2x8, .f32⟩
  | 86 => ⟨S1x2x8, .f32⟩
  | 87 => ⟨S16x2x8, .f32⟩
  | 88 => ⟨S16x2x8, .f32⟩
  | 89 => ⟨S32x2x8, .f32⟩
  | 90 => ⟨S1x2x8x64x128, .f32⟩
  | 91 => ⟨S1x2x8x64x128, .f32⟩
  | 92 => ⟨S1x2x8x64x128, .f32⟩
  | 93 => ⟨S1x2x8x64x128, .f32⟩
  | 94 => ⟨S1x2x8x64x128, .f32⟩
  | 95 => ⟨S1x2x8x64x128, .f32⟩
  | 96 => ⟨S1x2x8x64x128, .f32⟩
  | 97 => ⟨S1x2x8x64x128, .f32⟩
  | 98 => ⟨S1x2x8x64x128, .f32⟩
  | 99 => ⟨S1x2x8x64x128, .f32⟩
  | 100 => ⟨S1x2x8x64x128, .f32⟩
  | 101 => ⟨S1x2x8x64x128, .f32⟩
  | 102 => ⟨S1x2x8x64x128, .f32⟩
  | 103 => ⟨S1x2x8x64x128, .f32⟩
  | 104 => ⟨S1x2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S16x2x8x64x128, .f32⟩
  | 123 => ⟨S16x2x8x64x128, .f32⟩
  | 124 => ⟨S32x2x8x64x128, .f32⟩
  | 125 => ⟨S32x2x8, .f32⟩
  | 126 => ⟨S32x2x8x64x128, .f32⟩
  | 127 => ⟨S2x8x32, .f32⟩
  | _ => ⟨S4096x1536, .f32⟩

abbrev hbmTy0_9 (i : Nat) : BufTy := match i % 128 with
  | 0 => ⟨S2x8x32, .f32⟩
  | 1 => ⟨S2x8x32x1, .f32⟩
  | 2 => ⟨S_, .f32⟩
  | 3 => ⟨S2x8x32x128, .f32⟩
  | 4 => ⟨S2x8x32x128, .f32⟩
  | 5 => ⟨S32x2x128x128, .f32⟩
  | 6 => ⟨S32x128x2x128, .f32⟩
  | 7 => ⟨S32x2x8x64x128, .f32⟩
  | 8 => ⟨S32x128x2x8x64, .f32⟩
  | 9 => ⟨S32x128x2x8x64, .f32⟩
  | 10 => ⟨S32x128x2x8x64, .f32⟩
  | 11 => ⟨S32x128x2x8x64, .f32⟩
  | 12 => ⟨S_, .f32⟩
  | 13 => ⟨S32x128x2x8, .f32⟩
  | 14 => ⟨S32x128x2x8x1, .f32⟩
  | 15 => ⟨S_, .f32⟩
  | 16 => ⟨S32x128x2x8, .f32⟩
  | 17 => ⟨S2x8x32x128, .f32⟩
  | 18 => ⟨S2x8x32x128, .f32⟩
  | 19 => ⟨S_, .f32⟩
  | 20 => ⟨S2x8x32, .f32⟩
  | 21 => ⟨S2x8x32x1, .f32⟩
  | 22 => ⟨S2x8x32x128, .f32⟩
  | 23 => ⟨S2x8x32x128, .f32⟩
  | 24 => ⟨S_, .f32⟩
  | 25 => ⟨S2x8x32x128, .f32⟩
  | 26 => ⟨S2x8x32x128, .f32⟩
  | 27 => ⟨S32x2x8x64x128, .f32⟩
  | 28 => ⟨S32x2x8x128x128, .f32⟩
  | 29 => ⟨S2x8x32x128x128, .f32⟩
  | 30 => ⟨S32x2x8x64x128, .f32⟩
  | 31 => ⟨S32x128x2x8x64, .f32⟩
  | 32 => ⟨S32x128x2x8x64, .f32⟩
  | 33 => ⟨S2x8x32x128x128, .f32⟩
  | 34 => ⟨S2x8x32x128x128, .f32⟩
  | 35 => ⟨S2x8x32x128x128, .f32⟩
  | 36 => ⟨S_, .f32⟩
  | 37 => ⟨S2x32x128x128, .f32⟩
  | 38 => ⟨S2x1x32x128x128, .f32⟩
  | 39 => ⟨S_, .f32⟩
  | 40 => ⟨S2x32x128x128, .f32⟩
  | 41 => ⟨S2x32x128x128, .f32⟩
  | 42 => ⟨S32x128x2x128, .f32⟩
  | 43 => ⟨S32x128x2x128, .f32⟩
  | 44 => ⟨S2x32x128x128, .f32⟩
  | 45 => ⟨S32x128x2x128, .f32⟩
  | 46 => ⟨S32x128x2x128, .f32⟩
  | 47 => ⟨S2x8x32x128x128, .f32⟩
  | 48 => ⟨S_, .f32⟩
  | 49 => ⟨S2x8x32x128x128, .f32⟩
  | 50 => ⟨S2x8x32x128x128, .f32⟩
  | 51 => ⟨S_, .f32⟩
  | 52 => ⟨S2x8x32x128, .f32⟩
  | 53 => ⟨S2x8x32x128x1, .f32⟩
  | 54 => ⟨S2x8x32x128x128, .f32⟩
  | 55 => ⟨S_, .f32⟩
  | 56 => ⟨S2x8x32x128, .f32⟩
  | 57 => ⟨S2x8x32x1x128, .f32⟩
  | 58 => ⟨S_, .f32⟩
  | 59 => ⟨S2x8x32x128, .f32⟩
  | 60 => ⟨S2x8x32x128, .f32⟩
  | 61 => ⟨S_, .f32⟩
  | 62 => ⟨S2x8x32x128, .f32⟩
  | 63 => ⟨S2x8x32x128, .f32⟩
  | 64 => ⟨S_, .f32⟩
  | 65 => ⟨S_, .f32⟩
  | 66 => ⟨S2x8x32x128, .f32⟩
  | 67 => ⟨S32x128x2x8, .f32⟩
  | 68 => ⟨S4096x16, .f32⟩
  | 69 => ⟨S4096x16, .f32⟩
  | 70 => ⟨S_, .f32⟩
  | 71 => ⟨S16, .f32⟩
  | 72 => ⟨S1x16, .f32⟩
  | 73 => ⟨S4096x16, .f32⟩
  | 74 => ⟨S4096x16, .f32⟩
  | 75 => ⟨S_, .f32⟩
  | 76 => ⟨S16, .f32⟩
  | 77 => ⟨S4096x2x128, .f32⟩
  | 78 => ⟨S4096x2x128, .f32⟩
  | 79 => ⟨S4096x16x64, .f32⟩
  | 80 => ⟨S4096x16x64, .f32⟩
  | 81 => ⟨S_, .f32⟩
  | 82 => ⟨S4096x16, .f32⟩
  | 83 => ⟨S4096x16x1, .f32⟩
  | 84 => ⟨S4096x16x64, .f32⟩
  | 85 => ⟨S4096x16x64, .f32⟩
  | 86 => ⟨S4096x16x64, .f32⟩
  | 87 => ⟨S_, .f32⟩
  | 88 => ⟨S4096x16, .f32⟩
  | 89 => ⟨S4096x16, .f32⟩
  | 90 => ⟨S4096x256, .f32⟩
  | 91 => ⟨S4096x256, .f32⟩
  | 92 => ⟨S4096x1024, .f32⟩
  | 93 => ⟨S16, .f32⟩
  | 94 => ⟨S16, .f32⟩
  | 95 => ⟨S4096x16, .f32⟩
  | 96 => ⟨S_, .f32⟩
  | 97 => ⟨S16, .f32⟩
  | 98 => ⟨S1x16, .f32⟩
  | 99 => ⟨S_, .f32⟩
  | 100 => ⟨S16, .f32⟩
  | 101 => ⟨S_, .f32⟩
  | 102 => ⟨S4096x128, .f32⟩
  | 103 => ⟨S4096x1536, .f32⟩
  | 104 => ⟨S4096x1536, .f32⟩
  | 105 => ⟨S4096x1536, .f32⟩
  | 106 => ⟨S4096x1536, .f32⟩
  | 107 => ⟨S4096x1536, .f32⟩
  | 108 => ⟨S4096x1024, .bf16⟩
  | 109 => ⟨S4096x128, .bf16⟩
  | 110 => ⟨S1x1024, .f32⟩
  | 111 => ⟨S_, .f32⟩
  | 112 => ⟨S112, .f32⟩
  | 113 => ⟨S128, .f32⟩
  | 114 => ⟨S1x128, .f32⟩
  | 115 => ⟨S_, .f32⟩
  | 116 => ⟨S112, .f32⟩
  | 117 => ⟨S128, .f32⟩
  | 118 => ⟨S1x128, .f32⟩
  | 119 => ⟨S_, .f32⟩
  | 120 => ⟨S112, .f32⟩
  | 121 => ⟨S128, .f32⟩
  | 122 => ⟨S1x128, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v0_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v0_1 : Ref sig .tc := ⟨.hbm, 19, rfl⟩
abbrev main_v0_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_v8_0 : Ref sig .tc := ⟨.hbm, 41, rfl⟩
abbrev main_call1_cst_0 : Ref sig .tc := ⟨.hbm, 42, rfl⟩
abbrev main_call1_v13 : Ref sig .tc := ⟨.hbm, 43, rfl⟩
abbrev main_call1_v14 : Ref sig .tc := ⟨.hbm, 44, rfl⟩
abbrev main_call1_cst_1 : Ref sig .tc := ⟨.hbm, 45, rfl⟩
abbrev main_call1_v15 : Ref sig .tc := ⟨.hbm, 46, rfl⟩
abbrev main_call1_v16 : Ref sig .tc := ⟨.hbm, 47, rfl⟩
abbrev main_call1_cst_2 : Ref sig .tc := ⟨.hbm, 48, rfl⟩
abbrev main_call1_v17 : Ref sig .tc := ⟨.hbm, 49, rfl⟩
abbrev main_call1_v18 : Ref sig .tc := ⟨.hbm, 50, rfl⟩
abbrev main_call1_cst_3 : Ref sig .tc := ⟨.hbm, 51, rfl⟩
abbrev main_call1_v19 : Ref sig .tc := ⟨.hbm, 52, rfl⟩
abbrev main_call1_v20 : Ref sig .tc := ⟨.hbm, 53, rfl⟩
abbrev main_call1_v21 : Ref sig .tc := ⟨.hbm, 54, rfl⟩
abbrev main_v8_1 : Ref sig .tc := ⟨.hbm, 55, rfl⟩
abbrev main_call1_cst_4 : Ref sig .tc := ⟨.hbm, 56, rfl⟩
abbrev main_call1_cst_5 : Ref sig .tc := ⟨.hbm, 57, rfl⟩
abbrev main_call1_v23 : Ref sig .tc := ⟨.hbm, 58, rfl⟩
abbrev main_call1_cst_6 : Ref sig .tc := ⟨.hbm, 59, rfl⟩
abbrev main_call1_cst_7 : Ref sig .tc := ⟨.hbm, 60, rfl⟩
abbrev main_call1_v24 : Ref sig .tc := ⟨.hbm, 61, rfl⟩
abbrev main_call1_cst_8 : Ref sig .tc := ⟨.hbm, 62, rfl⟩
abbrev main_call1_v25 : Ref sig .tc := ⟨.hbm, 63, rfl⟩
abbrev main_call1_v26 : Ref sig .tc := ⟨.hbm, 64, rfl⟩
abbrev main_call1_cst_9 : Ref sig .tc := ⟨.hbm, 65, rfl⟩
abbrev main_call1_v27 : Ref sig .tc := ⟨.hbm, 66, rfl⟩
abbrev main_call1_v28 : Ref sig .tc := ⟨.hbm, 67, rfl⟩
abbrev main_call1_v29 : Ref sig .tc := ⟨.hbm, 68, rfl⟩
abbrev main_call1_v30 : Ref sig .tc := ⟨.hbm, 69, rfl⟩
abbrev main_call1_v31 : Ref sig .tc := ⟨.hbm, 70, rfl⟩
abbrev main_call1_cst_10 : Ref sig .tc := ⟨.hbm, 71, rfl⟩
abbrev main_call1_v32 : Ref sig .tc := ⟨.hbm, 72, rfl⟩
abbrev main_v8_2 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_call2_call0_cst : Ref sig .tc := ⟨.hbm, 90, rfl⟩
abbrev main_call2_call0_v0 : Ref sig .tc := ⟨.hbm, 91, rfl⟩
abbrev main_v25 : Ref sig .tc := ⟨.hbm, 92, rfl⟩
abbrev main_c : Ref sig .tc := ⟨.hbm, 93, rfl⟩
abbrev main_v26 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_c_0 : Ref sig .tc := ⟨.hbm, 101, rfl⟩
abbrev main_call3_v5 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_cst : Ref sig .tc := ⟨.hbm, 109, rfl⟩
abbrev main_call4_v0 : Ref sig .tc := ⟨.hbm, 110, rfl⟩
abbrev main_v33_1 : Ref sig .tc := ⟨.hbm, 111, rfl⟩
abbrev main_call4_v2 : Ref sig .tc := ⟨.hbm, 112, rfl⟩
abbrev main_v33_0 : Ref sig .tc := ⟨.hbm, 113, rfl⟩
abbrev main_call4_cst : Ref sig .tc := ⟨.hbm, 114, rfl⟩
abbrev main_v33_2 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_cst_0 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_cst_1 : Ref sig .tc := ⟨.hbm, 142, rfl⟩
abbrev main_v59 : Ref sig .tc := ⟨.hbm, 143, rfl⟩
abbrev main_cst_2 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_v350 : Ref sig .tc := ⟨.hbm, 435, rfl⟩
abbrev main_v351 : Ref sig .tc := ⟨.hbm, 436, rfl⟩
abbrev main_v352 : Ref sig .tc := ⟨.hbm, 437, rfl⟩
abbrev main_v353 : Ref sig .tc := ⟨.hbm, 438, rfl⟩
abbrev main_v354 : Ref sig .tc := ⟨.hbm, 439, rfl⟩
abbrev main_v355 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_v363 : Ref sig .tc := ⟨.hbm, 448, rfl⟩
abbrev main_v364 : Ref sig .tc := ⟨.hbm, 449, rfl⟩
abbrev main_v365 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_v381 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩
abbrev main_call5_v0 : Ref sig .tc := ⟨.hbm, 489, rfl⟩
abbrev main_call5_v1 : Ref sig .tc := ⟨.hbm, 490, rfl⟩
abbrev main_call5_cst : Ref sig .tc := ⟨.hbm, 491, rfl⟩
abbrev main_call5_v2 : Ref sig .tc := ⟨.hbm, 492, rfl⟩
abbrev main_call5_v3 : Ref sig .tc := ⟨.hbm, 493, rfl⟩
abbrev main_call5_cst_0 : Ref sig .tc := ⟨.hbm, 494, rfl⟩
abbrev main_call5_v4 : Ref sig .tc := ⟨.hbm, 495, rfl⟩
abbrev main_v404_2 : Ref sig .tc := ⟨.hbm, 496, rfl⟩
abbrev main_call5_cst_1 : Ref sig .tc := ⟨.hbm, 497, rfl⟩
abbrev main_call5_v6 : Ref sig .tc := ⟨.hbm, 498, rfl⟩
abbrev main_call5_v7 : Ref sig .tc := ⟨.hbm, 499, rfl⟩
abbrev main_v404_1 : Ref sig .tc := ⟨.hbm, 500, rfl⟩
abbrev main_v404_0 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_cst_3 : Ref sig .tc := ⟨.hbm, 505, rfl⟩
abbrev main_v408 : Ref sig .tc := ⟨.hbm, 506, rfl⟩
abbrev main_v409 : Ref sig .tc := ⟨.hbm, 507, rfl⟩
abbrev main_cst_4 : Ref sig .tc := ⟨.hbm, 508, rfl⟩
abbrev main_v410 : Ref sig .tc := ⟨.hbm, 509, rfl⟩
abbrev main_v411 : Ref sig .tc := ⟨.hbm, 510, rfl⟩
abbrev main_cst_5 : Ref sig .tc := ⟨.hbm, 511, rfl⟩
abbrev main_v412 : Ref sig .tc := ⟨.hbm, 512, rfl⟩
abbrev main_v413 : Ref sig .tc := ⟨.hbm, 513, rfl⟩
abbrev main_v414 : Ref sig .tc := ⟨.hbm, 514, rfl⟩
abbrev main_v415 : Ref sig .tc := ⟨.hbm, 515, rfl⟩
abbrev main_cst_6 : Ref sig .tc := ⟨.hbm, 516, rfl⟩
abbrev main_v416 : Ref sig .tc := ⟨.hbm, 517, rfl⟩
abbrev main_v417 : Ref sig .tc := ⟨.hbm, 518, rfl⟩
abbrev main_v418 : Ref sig .tc := ⟨.hbm, 519, rfl⟩
abbrev main_v419 : Ref sig .tc := ⟨.hbm, 520, rfl⟩
abbrev main_v420 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_cst_7 : Ref sig .tc := ⟨.hbm, 525, rfl⟩
abbrev main_v424 : Ref sig .tc := ⟨.hbm, 526, rfl⟩
abbrev main_v425 : Ref sig .tc := ⟨.hbm, 527, rfl⟩
abbrev main_cst_8 : Ref sig .tc := ⟨.hbm, 528, rfl⟩
abbrev main_v426 : Ref sig .tc := ⟨.hbm, 529, rfl⟩
abbrev main_v427 : Ref sig .tc := ⟨.hbm, 530, rfl⟩
abbrev main_v428 : Ref sig .tc := ⟨.hbm, 531, rfl⟩
abbrev main_v429 : Ref sig .tc := ⟨.hbm, 532, rfl⟩
abbrev main_cst_9 : Ref sig .tc := ⟨.hbm, 533, rfl⟩
abbrev main_v430 : Ref sig .tc := ⟨.hbm, 534, rfl⟩
abbrev main_v431 : Ref sig .tc := ⟨.hbm, 535, rfl⟩
abbrev main_v432 : Ref sig .tc := ⟨.hbm, 536, rfl⟩
abbrev main_cst_10 : Ref sig .tc := ⟨.hbm, 537, rfl⟩
abbrev main_v433 : Ref sig .tc := ⟨.hbm, 538, rfl⟩
abbrev main_v434 : Ref sig .tc := ⟨.hbm, 539, rfl⟩
abbrev main_v435 : Ref sig .tc := ⟨.hbm, 540, rfl⟩
abbrev main_v436 : Ref sig .tc := ⟨.hbm, 541, rfl⟩
abbrev main_v437 : Ref sig .tc := ⟨.hbm, 542, rfl⟩
abbrev main_cst_11 : Ref sig .tc := ⟨.hbm, 543, rfl⟩
abbrev main_v438 : Ref sig .tc := ⟨.hbm, 544, rfl⟩
abbrev main_v439 : Ref sig .tc := ⟨.hbm, 545, rfl⟩
abbrev main_cst_12 : Ref sig .tc := ⟨.hbm, 546, rfl⟩
abbrev main_v440 : Ref sig .tc := ⟨.hbm, 547, rfl⟩
abbrev main_v441 : Ref sig .tc := ⟨.hbm, 548, rfl⟩
abbrev main_v442 : Ref sig .tc := ⟨.hbm, 549, rfl⟩
abbrev main_v443 : Ref sig .tc := ⟨.hbm, 550, rfl⟩
abbrev main_v444 : Ref sig .tc := ⟨.hbm, 551, rfl⟩
abbrev main_v445 : Ref sig .tc := ⟨.hbm, 552, rfl⟩
abbrev main_v446 : Ref sig .tc := ⟨.hbm, 553, rfl⟩
abbrev main_v447 : Ref sig .tc := ⟨.hbm, 554, rfl⟩
abbrev main_v448 : Ref sig .tc := ⟨.hbm, 555, rfl⟩
abbrev main_call6_v0 : Ref sig .tc := ⟨.hbm, 556, rfl⟩
abbrev main_call6_v1 : Ref sig .tc := ⟨.hbm, 557, rfl⟩
abbrev main_call6_v2 : Ref sig .tc := ⟨.hbm, 558, rfl⟩
abbrev main_v449 : Ref sig .tc := ⟨.hbm, 559, rfl⟩
abbrev main_v450 : Ref sig .tc := ⟨.hbm, 560, rfl⟩
abbrev main_v451 : Ref sig .tc := ⟨.hbm, 561, rfl⟩
abbrev main_cst_13 : Ref sig .tc := ⟨.hbm, 562, rfl⟩
abbrev main_v452 : Ref sig .tc := ⟨.hbm, 563, rfl⟩
abbrev main_v453 : Ref sig .tc := ⟨.hbm, 564, rfl⟩
abbrev main_v454 : Ref sig .tc := ⟨.hbm, 565, rfl⟩
abbrev main_v455 : Ref sig .tc := ⟨.hbm, 566, rfl⟩
abbrev main_cst_14 : Ref sig .tc := ⟨.hbm, 567, rfl⟩
abbrev main_v456 : Ref sig .tc := ⟨.hbm, 568, rfl⟩
abbrev main_v457 : Ref sig .tc := ⟨.hbm, 569, rfl⟩
abbrev main_cst_15 : Ref sig .tc := ⟨.hbm, 570, rfl⟩
abbrev main_v458 : Ref sig .tc := ⟨.hbm, 571, rfl⟩
abbrev main_v459 : Ref sig .tc := ⟨.hbm, 572, rfl⟩
abbrev main_v460 : Ref sig .tc := ⟨.hbm, 573, rfl⟩
abbrev main_cst_16 : Ref sig .tc := ⟨.hbm, 574, rfl⟩
abbrev main_v461 : Ref sig .tc := ⟨.hbm, 575, rfl⟩
abbrev main_v462 : Ref sig .tc := ⟨.hbm, 576, rfl⟩
abbrev main_v463 : Ref sig .tc := ⟨.hbm, 577, rfl⟩
abbrev main_v464 : Ref sig .tc := ⟨.hbm, 578, rfl⟩
abbrev main_cst_17 : Ref sig .tc := ⟨.hbm, 579, rfl⟩
abbrev main_v465 : Ref sig .tc := ⟨.hbm, 580, rfl⟩
abbrev main_v466 : Ref sig .tc := ⟨.hbm, 581, rfl⟩
abbrev main_v467 : Ref sig .tc := ⟨.hbm, 582, rfl⟩
abbrev main_v468 : Ref sig .tc := ⟨.hbm, 583, rfl⟩
abbrev main_v469 : Ref sig .tc := ⟨.hbm, 584, rfl⟩
abbrev main_v470 : Ref sig .tc := ⟨.hbm, 585, rfl⟩
abbrev main_v471 : Ref sig .tc := ⟨.hbm, 586, rfl⟩
abbrev main_cst_18 : Ref sig .tc := ⟨.hbm, 587, rfl⟩
abbrev main_v472 : Ref sig .tc := ⟨.hbm, 588, rfl⟩
abbrev main_v473 : Ref sig .tc := ⟨.hbm, 589, rfl⟩
abbrev main_v474 : Ref sig .tc := ⟨.hbm, 590, rfl⟩
abbrev main_v475 : Ref sig .tc := ⟨.hbm, 591, rfl⟩
abbrev main_v476 : Ref sig .tc := ⟨.hbm, 592, rfl⟩
abbrev main_v477 : Ref sig .tc := ⟨.hbm, 593, rfl⟩
abbrev main_v478 : Ref sig .tc := ⟨.hbm, 594, rfl⟩
abbrev main_cst_19 : Ref sig .tc := ⟨.hbm, 595, rfl⟩
abbrev main_v479 : Ref sig .tc := ⟨.hbm, 596, rfl⟩
abbrev main_cst_20 : Ref sig .tc := ⟨.hbm, 597, rfl⟩
abbrev main_v480 : Ref sig .tc := ⟨.hbm, 598, rfl⟩
abbrev main_v481 : Ref sig .tc := ⟨.hbm, 599, rfl⟩
abbrev main_v482 : Ref sig .tc := ⟨.hbm, 600, rfl⟩
abbrev main_v483 : Ref sig .tc := ⟨.hbm, 601, rfl⟩
abbrev main_v484 : Ref sig .tc := ⟨.hbm, 602, rfl⟩
abbrev main_v485 : Ref sig .tc := ⟨.hbm, 603, rfl⟩
abbrev main_v486 : Ref sig .tc := ⟨.hbm, 604, rfl⟩
abbrev main_v487 : Ref sig .tc := ⟨.hbm, 605, rfl⟩
abbrev main_cst_21 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_cst_22 : Ref sig .tc := ⟨.hbm, 612, rfl⟩
abbrev main_v493 : Ref sig .tc := ⟨.hbm, 613, rfl⟩
abbrev main_v494 : Ref sig .tc := ⟨.hbm, 614, rfl⟩
abbrev main_v495 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_v500 : Ref sig .tc := ⟨.hbm, 620, rfl⟩
abbrev main_cst_23 : Ref sig .tc := ⟨.hbm, 621, rfl⟩
abbrev main_v501 : Ref sig .tc := ⟨.hbm, 622, rfl⟩
abbrev main_v502 : Ref sig .tc := ⟨.hbm, 623, rfl⟩
abbrev main_v503 : Ref sig .tc := ⟨.hbm, 624, rfl⟩
abbrev main_v504 : Ref sig .tc := ⟨.hbm, 625, rfl⟩
abbrev main_v505 : Ref sig .tc := ⟨.hbm, 626, rfl⟩
abbrev main_cst_24 : Ref sig .tc := ⟨.hbm, 627, rfl⟩
abbrev main_v506 : Ref sig .tc := ⟨.hbm, 628, rfl⟩
abbrev main_v507 : Ref sig .tc := ⟨.hbm, 629, rfl⟩
abbrev main_v508 : Ref sig .tc := ⟨.hbm, 630, rfl⟩
abbrev main_v509 : Ref sig .tc := ⟨.hbm, 631, rfl⟩
abbrev main_v510 : Ref sig .tc := ⟨.hbm, 632, rfl⟩
abbrev main_v511 : Ref sig .tc := ⟨.hbm, 633, rfl⟩
abbrev main_v512 : Ref sig .tc := ⟨.hbm, 634, rfl⟩
abbrev main_v513 : Ref sig .tc := ⟨.hbm, 635, rfl⟩
abbrev main_cst_25 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_v518 : Ref sig .tc := ⟨.hbm, 641, rfl⟩
abbrev main_cst_26 : Ref sig .tc := ⟨.hbm, 642, rfl⟩
abbrev main_v519 : Ref sig .tc := ⟨.hbm, 643, rfl⟩
abbrev main_v520 : Ref sig .tc := ⟨.hbm, 644, rfl⟩
abbrev main_v521 : Ref sig .tc := ⟨.hbm, 645, rfl⟩
abbrev main_v522 : Ref sig .tc := ⟨.hbm, 646, rfl⟩
abbrev main_v523 : Ref sig .tc := ⟨.hbm, 647, rfl⟩
abbrev main_v524 : Ref sig .tc := ⟨.hbm, 648, rfl⟩
abbrev main_v525 : Ref sig .tc := ⟨.hbm, 649, rfl⟩
abbrev main_v526 : Ref sig .tc := ⟨.hbm, 650, rfl⟩
abbrev main_cst_27 : Ref sig .tc := ⟨.hbm, 651, rfl⟩
abbrev main_v527 : Ref sig .tc := ⟨.hbm, 652, rfl⟩
abbrev main_v528 : Ref sig .tc := ⟨.hbm, 653, rfl⟩
abbrev main_v529 : Ref sig .tc := ⟨.hbm, 654, rfl⟩
abbrev main_v530 : Ref sig .tc := ⟨.hbm, 655, rfl⟩
abbrev main_v531 : Ref sig .tc := ⟨.hbm, 656, rfl⟩
abbrev main_cst_28 : Ref sig .tc := ⟨.hbm, 657, rfl⟩
abbrev main_v532 : Ref sig .tc := ⟨.hbm, 658, rfl⟩
abbrev main_v533 : Ref sig .tc := ⟨.hbm, 659, rfl⟩
abbrev main_v534 : Ref sig .tc := ⟨.hbm, 660, rfl⟩
abbrev main_v535 : Ref sig .tc := ⟨.hbm, 661, rfl⟩
abbrev main_v536 : Ref sig .tc := ⟨.hbm, 662, rfl⟩
abbrev main_v537 : Ref sig .tc := ⟨.hbm, 663, rfl⟩
abbrev main_v538 : Ref sig .tc := ⟨.hbm, 664, rfl⟩
abbrev main_v539 : Ref sig .tc := ⟨.hbm, 665, rfl⟩
abbrev main_cst_29 : Ref sig .tc := ⟨.hbm, 666, rfl⟩
abbrev main_v540 : Ref sig .tc := ⟨.hbm, 667, rfl⟩
abbrev main_v541 : Ref sig .tc := ⟨.hbm, 668, rfl⟩
abbrev main_v542 : Ref sig .tc := ⟨.hbm, 669, rfl⟩
abbrev main_v543 : Ref sig .tc := ⟨.hbm, 670, rfl⟩
abbrev main_v544 : Ref sig .tc := ⟨.hbm, 671, rfl⟩
abbrev main_cst_30 : Ref sig .tc := ⟨.hbm, 672, rfl⟩
abbrev main_v545 : Ref sig .tc := ⟨.hbm, 673, rfl⟩
abbrev main_v546 : Ref sig .tc := ⟨.hbm, 674, rfl⟩
abbrev main_v547 : Ref sig .tc := ⟨.hbm, 675, rfl⟩
abbrev main_v548 : Ref sig .tc := ⟨.hbm, 676, rfl⟩
abbrev main_v549 : Ref sig .tc := ⟨.hbm, 677, rfl⟩
abbrev main_v550 : Ref sig .tc := ⟨.hbm, 678, rfl⟩
abbrev main_v551 : Ref sig .tc := ⟨.hbm, 679, rfl⟩
abbrev main_v552 : Ref sig .tc := ⟨.hbm, 680, rfl⟩
abbrev main_cst_31 : Ref sig .tc := ⟨.hbm, 681, rfl⟩
abbrev main_v553 : Ref sig .tc := ⟨.hbm, 682, rfl⟩
abbrev main_v554 : Ref sig .tc := ⟨.hbm, 683, rfl⟩
abbrev main_v555 : Ref sig .tc := ⟨.hbm, 684, rfl⟩
abbrev main_v556 : Ref sig .tc := ⟨.hbm, 685, rfl⟩
abbrev main_v557 : Ref sig .tc := ⟨.hbm, 686, rfl⟩
abbrev main_cst_32 : Ref sig .tc := ⟨.hbm, 687, rfl⟩
abbrev main_v558 : Ref sig .tc := ⟨.hbm, 688, rfl⟩
abbrev main_v559 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_v564 : Ref sig .tc := ⟨.hbm, 694, rfl⟩
abbrev main_v565 : Ref sig .tc := ⟨.hbm, 695, rfl⟩
abbrev main_cst_33 : Ref sig .tc := ⟨.hbm, 696, rfl⟩
abbrev main_v566 : Ref sig .tc := ⟨.hbm, 697, rfl⟩
abbrev main_v567 : Ref sig .tc := ⟨.hbm, 698, rfl⟩
abbrev main_v568 : Ref sig .tc := ⟨.hbm, 699, rfl⟩
abbrev main_v569 : Ref sig .tc := ⟨.hbm, 700, rfl⟩
abbrev main_v570 : Ref sig .tc := ⟨.hbm, 701, rfl⟩
abbrev main_cst_34 : Ref sig .tc := ⟨.hbm, 702, rfl⟩
abbrev main_v571 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_cst_35 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_v582 : Ref sig .tc := ⟨.hbm, 715, rfl⟩
abbrev main_v583 : Ref sig .tc := ⟨.hbm, 716, rfl⟩
abbrev main_cst_36 : Ref sig .tc := ⟨.hbm, 717, rfl⟩
abbrev main_v584 : Ref sig .tc := ⟨.hbm, 718, rfl⟩
abbrev main_v585 : Ref sig .tc := ⟨.hbm, 719, rfl⟩
abbrev main_v586 : Ref sig .tc := ⟨.hbm, 720, rfl⟩
abbrev main_v587 : Ref sig .tc := ⟨.hbm, 721, rfl⟩
abbrev main_v588 : Ref sig .tc := ⟨.hbm, 722, rfl⟩
abbrev main_v589 : Ref sig .tc := ⟨.hbm, 723, rfl⟩
abbrev main_v590 : Ref sig .tc := ⟨.hbm, 724, rfl⟩
abbrev main_v591 : Ref sig .tc := ⟨.hbm, 725, rfl⟩
abbrev main_cst_37 : Ref sig .tc := ⟨.hbm, 726, rfl⟩
abbrev main_v592 : Ref sig .tc := ⟨.hbm, 727, rfl⟩
abbrev main_v593 : Ref sig .tc := ⟨.hbm, 728, rfl⟩
abbrev main_v594 : Ref sig .tc := ⟨.hbm, 729, rfl⟩
abbrev main_v595 : Ref sig .tc := ⟨.hbm, 730, rfl⟩
abbrev main_v596 : Ref sig .tc := ⟨.hbm, 731, rfl⟩
abbrev main_cst_38 : Ref sig .tc := ⟨.hbm, 732, rfl⟩
abbrev main_v597 : Ref sig .tc := ⟨.hbm, 733, rfl⟩
abbrev main_v598 : Ref sig .tc := ⟨.hbm, 734, rfl⟩
abbrev main_v599 : Ref sig .tc := ⟨.hbm, 735, rfl⟩
abbrev main_v600 : Ref sig .tc := ⟨.hbm, 736, rfl⟩
abbrev main_v601 : Ref sig .tc := ⟨.hbm, 737, rfl⟩
abbrev main_v602 : Ref sig .tc := ⟨.hbm, 738, rfl⟩
abbrev main_v603 : Ref sig .tc := ⟨.hbm, 739, rfl⟩
abbrev main_v604 : Ref sig .tc := ⟨.hbm, 740, rfl⟩
abbrev main_cst_39 : Ref sig .tc := ⟨.hbm, 741, rfl⟩
abbrev main_v605 : Ref sig .tc := ⟨.hbm, 742, rfl⟩
abbrev main_v606 : Ref sig .tc := ⟨.hbm, 743, rfl⟩
abbrev main_v607 : Ref sig .tc := ⟨.hbm, 744, rfl⟩
abbrev main_v608 : Ref sig .tc := ⟨.hbm, 745, rfl⟩
abbrev main_v609 : Ref sig .tc := ⟨.hbm, 746, rfl⟩
abbrev main_cst_40 : Ref sig .tc := ⟨.hbm, 747, rfl⟩
abbrev main_v610 : Ref sig .tc := ⟨.hbm, 748, rfl⟩
abbrev main_v611 : Ref sig .tc := ⟨.hbm, 749, rfl⟩
abbrev main_v612 : Ref sig .tc := ⟨.hbm, 750, rfl⟩
abbrev main_v613 : Ref sig .tc := ⟨.hbm, 751, rfl⟩
abbrev main_v614 : Ref sig .tc := ⟨.hbm, 752, rfl⟩
abbrev main_v615 : Ref sig .tc := ⟨.hbm, 753, rfl⟩
abbrev main_v616 : Ref sig .tc := ⟨.hbm, 754, rfl⟩
abbrev main_v617 : Ref sig .tc := ⟨.hbm, 755, rfl⟩
abbrev main_cst_41 : Ref sig .tc := ⟨.hbm, 756, rfl⟩
abbrev main_v618 : Ref sig .tc := ⟨.hbm, 757, rfl⟩
abbrev main_v619 : Ref sig .tc := ⟨.hbm, 758, rfl⟩
abbrev main_v620 : Ref sig .tc := ⟨.hbm, 759, rfl⟩
abbrev main_v621 : Ref sig .tc := ⟨.hbm, 760, rfl⟩
abbrev main_v622 : Ref sig .tc := ⟨.hbm, 761, rfl⟩
abbrev main_cst_42 : Ref sig .tc := ⟨.hbm, 762, rfl⟩
abbrev main_v623 : Ref sig .tc := ⟨.hbm, 763, rfl⟩
abbrev main_v624 : Ref sig .tc := ⟨.hbm, 764, rfl⟩
abbrev main_v625 : Ref sig .tc := ⟨.hbm, 765, rfl⟩
abbrev main_v626 : Ref sig .tc := ⟨.hbm, 766, rfl⟩
abbrev main_v627 : Ref sig .tc := ⟨.hbm, 767, rfl⟩
abbrev main_v628 : Ref sig .tc := ⟨.hbm, 768, rfl⟩
abbrev main_v629 : Ref sig .tc := ⟨.hbm, 769, rfl⟩
abbrev main_v630 : Ref sig .tc := ⟨.hbm, 770, rfl⟩
abbrev main_cst_43 : Ref sig .tc := ⟨.hbm, 771, rfl⟩
abbrev main_v631 : Ref sig .tc := ⟨.hbm, 772, rfl⟩
abbrev main_v632 : Ref sig .tc := ⟨.hbm, 773, rfl⟩
abbrev main_v633 : Ref sig .tc := ⟨.hbm, 774, rfl⟩
abbrev main_v634 : Ref sig .tc := ⟨.hbm, 775, rfl⟩
abbrev main_v635 : Ref sig .tc := ⟨.hbm, 776, rfl⟩
abbrev main_cst_44 : Ref sig .tc := ⟨.hbm, 777, rfl⟩
abbrev main_v636 : Ref sig .tc := ⟨.hbm, 778, rfl⟩
abbrev main_v637 : Ref sig .tc := ⟨.hbm, 779, rfl⟩
abbrev main_v638 : Ref sig .tc := ⟨.hbm, 780, rfl⟩
abbrev main_v639 : Ref sig .tc := ⟨.hbm, 781, rfl⟩
abbrev main_v640 : Ref sig .tc := ⟨.hbm, 782, rfl⟩
abbrev main_v641 : Ref sig .tc := ⟨.hbm, 783, rfl⟩
abbrev main_v642 : Ref sig .tc := ⟨.hbm, 784, rfl⟩
abbrev main_v643 : Ref sig .tc := ⟨.hbm, 785, rfl⟩
abbrev main_cst_45 : Ref sig .tc := ⟨.hbm, 786, rfl⟩
abbrev main_v644 : Ref sig .tc := ⟨.hbm, 787, rfl⟩
abbrev main_v645 : Ref sig .tc := ⟨.hbm, 788, rfl⟩
abbrev main_v646 : Ref sig .tc := ⟨.hbm, 789, rfl⟩
abbrev main_v647 : Ref sig .tc := ⟨.hbm, 790, rfl⟩
abbrev main_v648 : Ref sig .tc := ⟨.hbm, 791, rfl⟩
abbrev main_cst_46 : Ref sig .tc := ⟨.hbm, 792, rfl⟩
abbrev main_v649 : Ref sig .tc := ⟨.hbm, 793, rfl⟩
abbrev main_v650 : Ref sig .tc := ⟨.hbm, 794, rfl⟩
abbrev main_v651 : Ref sig .tc := ⟨.hbm, 795, rfl⟩
abbrev main_v652 : Ref sig .tc := ⟨.hbm, 796, rfl⟩
abbrev main_v653 : Ref sig .tc := ⟨.hbm, 797, rfl⟩
abbrev main_v654 : Ref sig .tc := ⟨.hbm, 798, rfl⟩
abbrev main_v655 : Ref sig .tc := ⟨.hbm, 799, rfl⟩
abbrev main_v656 : Ref sig .tc := ⟨.hbm, 800, rfl⟩
abbrev main_cst_47 : Ref sig .tc := ⟨.hbm, 801, rfl⟩
abbrev main_v657 : Ref sig .tc := ⟨.hbm, 802, rfl⟩
abbrev main_v658 : Ref sig .tc := ⟨.hbm, 803, rfl⟩
abbrev main_v659 : Ref sig .tc := ⟨.hbm, 804, rfl⟩
abbrev main_v660 : Ref sig .tc := ⟨.hbm, 805, rfl⟩
abbrev main_v661 : Ref sig .tc := ⟨.hbm, 806, rfl⟩
abbrev main_cst_48 : Ref sig .tc := ⟨.hbm, 807, rfl⟩
abbrev main_v662 : Ref sig .tc := ⟨.hbm, 808, rfl⟩
abbrev main_v663 : Ref sig .tc := ⟨.hbm, 809, rfl⟩
abbrev main_v664 : Ref sig .tc := ⟨.hbm, 810, rfl⟩
abbrev main_v665 : Ref sig .tc := ⟨.hbm, 811, rfl⟩
abbrev main_v666 : Ref sig .tc := ⟨.hbm, 812, rfl⟩
abbrev main_v667 : Ref sig .tc := ⟨.hbm, 813, rfl⟩
abbrev main_v668 : Ref sig .tc := ⟨.hbm, 814, rfl⟩
abbrev main_v669 : Ref sig .tc := ⟨.hbm, 815, rfl⟩
abbrev main_cst_49 : Ref sig .tc := ⟨.hbm, 816, rfl⟩
abbrev main_v670 : Ref sig .tc := ⟨.hbm, 817, rfl⟩
abbrev main_v671 : Ref sig .tc := ⟨.hbm, 818, rfl⟩
abbrev main_v672 : Ref sig .tc := ⟨.hbm, 819, rfl⟩
abbrev main_v673 : Ref sig .tc := ⟨.hbm, 820, rfl⟩
abbrev main_v674 : Ref sig .tc := ⟨.hbm, 821, rfl⟩
abbrev main_cst_50 : Ref sig .tc := ⟨.hbm, 822, rfl⟩
abbrev main_v675 : Ref sig .tc := ⟨.hbm, 823, rfl⟩
abbrev main_v676 : Ref sig .tc := ⟨.hbm, 824, rfl⟩
abbrev main_v677 : Ref sig .tc := ⟨.hbm, 825, rfl⟩
abbrev main_v678 : Ref sig .tc := ⟨.hbm, 826, rfl⟩
abbrev main_v679 : Ref sig .tc := ⟨.hbm, 827, rfl⟩
abbrev main_v680 : Ref sig .tc := ⟨.hbm, 828, rfl⟩
abbrev main_v681 : Ref sig .tc := ⟨.hbm, 829, rfl⟩
abbrev main_v682 : Ref sig .tc := ⟨.hbm, 830, rfl⟩
abbrev main_cst_51 : Ref sig .tc := ⟨.hbm, 831, rfl⟩
abbrev main_v683 : Ref sig .tc := ⟨.hbm, 832, rfl⟩
abbrev main_v684 : Ref sig .tc := ⟨.hbm, 833, rfl⟩
abbrev main_v685 : Ref sig .tc := ⟨.hbm, 834, rfl⟩
abbrev main_v686 : Ref sig .tc := ⟨.hbm, 835, rfl⟩
abbrev main_v687 : Ref sig .tc := ⟨.hbm, 836, rfl⟩
abbrev main_cst_52 : Ref sig .tc := ⟨.hbm, 837, rfl⟩
abbrev main_v688 : Ref sig .tc := ⟨.hbm, 838, rfl⟩
abbrev main_v689 : Ref sig .tc := ⟨.hbm, 839, rfl⟩
abbrev main_v690 : Ref sig .tc := ⟨.hbm, 840, rfl⟩
abbrev main_v691 : Ref sig .tc := ⟨.hbm, 841, rfl⟩
abbrev main_v692 : Ref sig .tc := ⟨.hbm, 842, rfl⟩
abbrev main_v693 : Ref sig .tc := ⟨.hbm, 843, rfl⟩
abbrev main_v694 : Ref sig .tc := ⟨.hbm, 844, rfl⟩
abbrev main_v695 : Ref sig .tc := ⟨.hbm, 845, rfl⟩
abbrev main_cst_53 : Ref sig .tc := ⟨.hbm, 846, rfl⟩
abbrev main_v696 : Ref sig .tc := ⟨.hbm, 847, rfl⟩
abbrev main_v697 : Ref sig .tc := ⟨.hbm, 848, rfl⟩
abbrev main_v698 : Ref sig .tc := ⟨.hbm, 849, rfl⟩
abbrev main_v699 : Ref sig .tc := ⟨.hbm, 850, rfl⟩
abbrev main_v700 : Ref sig .tc := ⟨.hbm, 851, rfl⟩
abbrev main_cst_54 : Ref sig .tc := ⟨.hbm, 852, rfl⟩
abbrev main_v701 : Ref sig .tc := ⟨.hbm, 853, rfl⟩
abbrev main_v702 : Ref sig .tc := ⟨.hbm, 854, rfl⟩
abbrev main_v703 : Ref sig .tc := ⟨.hbm, 855, rfl⟩
abbrev main_v704 : Ref sig .tc := ⟨.hbm, 856, rfl⟩
abbrev main_v705 : Ref sig .tc := ⟨.hbm, 857, rfl⟩
abbrev main_v706 : Ref sig .tc := ⟨.hbm, 858, rfl⟩
abbrev main_v707 : Ref sig .tc := ⟨.hbm, 859, rfl⟩
abbrev main_v708 : Ref sig .tc := ⟨.hbm, 860, rfl⟩
abbrev main_cst_55 : Ref sig .tc := ⟨.hbm, 861, rfl⟩
abbrev main_v709 : Ref sig .tc := ⟨.hbm, 862, rfl⟩
abbrev main_v710 : Ref sig .tc := ⟨.hbm, 863, rfl⟩
abbrev main_v711 : Ref sig .tc := ⟨.hbm, 864, rfl⟩
abbrev main_v712 : Ref sig .tc := ⟨.hbm, 865, rfl⟩
abbrev main_v713 : Ref sig .tc := ⟨.hbm, 866, rfl⟩
abbrev main_cst_56 : Ref sig .tc := ⟨.hbm, 867, rfl⟩
abbrev main_v714 : Ref sig .tc := ⟨.hbm, 868, rfl⟩
abbrev main_v715 : Ref sig .tc := ⟨.hbm, 869, rfl⟩
abbrev main_v716 : Ref sig .tc := ⟨.hbm, 870, rfl⟩
abbrev main_v717 : Ref sig .tc := ⟨.hbm, 871, rfl⟩
abbrev main_v718 : Ref sig .tc := ⟨.hbm, 872, rfl⟩
abbrev main_v719 : Ref sig .tc := ⟨.hbm, 873, rfl⟩
abbrev main_v720 : Ref sig .tc := ⟨.hbm, 874, rfl⟩
abbrev main_v721 : Ref sig .tc := ⟨.hbm, 875, rfl⟩
abbrev main_cst_57 : Ref sig .tc := ⟨.hbm, 876, rfl⟩
abbrev main_v722 : Ref sig .tc := ⟨.hbm, 877, rfl⟩
abbrev main_v723 : Ref sig .tc := ⟨.hbm, 878, rfl⟩
abbrev main_v724 : Ref sig .tc := ⟨.hbm, 879, rfl⟩
abbrev main_v725 : Ref sig .tc := ⟨.hbm, 880, rfl⟩
abbrev main_v726 : Ref sig .tc := ⟨.hbm, 881, rfl⟩
abbrev main_cst_58 : Ref sig .tc := ⟨.hbm, 882, rfl⟩
abbrev main_v727 : Ref sig .tc := ⟨.hbm, 883, rfl⟩
abbrev main_v728 : Ref sig .tc := ⟨.hbm, 884, rfl⟩
abbrev main_v729 : Ref sig .tc := ⟨.hbm, 885, rfl⟩
abbrev main_v730 : Ref sig .tc := ⟨.hbm, 886, rfl⟩
abbrev main_v731 : Ref sig .tc := ⟨.hbm, 887, rfl⟩
abbrev main_v732 : Ref sig .tc := ⟨.hbm, 888, rfl⟩
abbrev main_v733 : Ref sig .tc := ⟨.hbm, 889, rfl⟩
abbrev main_v734 : Ref sig .tc := ⟨.hbm, 890, rfl⟩
abbrev main_cst_59 : Ref sig .tc := ⟨.hbm, 891, rfl⟩
abbrev main_v735 : Ref sig .tc := ⟨.hbm, 892, rfl⟩
abbrev main_v736 : Ref sig .tc := ⟨.hbm, 893, rfl⟩
abbrev main_v737 : Ref sig .tc := ⟨.hbm, 894, rfl⟩
abbrev main_v738 : Ref sig .tc := ⟨.hbm, 895, rfl⟩
abbrev main_v739 : Ref sig .tc := ⟨.hbm, 896, rfl⟩
abbrev main_cst_60 : Ref sig .tc := ⟨.hbm, 897, rfl⟩
abbrev main_v740 : Ref sig .tc := ⟨.hbm, 898, rfl⟩
abbrev main_v741 : Ref sig .tc := ⟨.hbm, 899, rfl⟩
abbrev main_v742 : Ref sig .tc := ⟨.hbm, 900, rfl⟩
abbrev main_v743 : Ref sig .tc := ⟨.hbm, 901, rfl⟩
abbrev main_v744 : Ref sig .tc := ⟨.hbm, 902, rfl⟩
abbrev main_v745 : Ref sig .tc := ⟨.hbm, 903, rfl⟩
abbrev main_v746 : Ref sig .tc := ⟨.hbm, 904, rfl⟩
abbrev main_v747 : Ref sig .tc := ⟨.hbm, 905, rfl⟩
abbrev main_cst_61 : Ref sig .tc := ⟨.hbm, 906, rfl⟩
abbrev main_v748 : Ref sig .tc := ⟨.hbm, 907, rfl⟩
abbrev main_v749 : Ref sig .tc := ⟨.hbm, 908, rfl⟩
abbrev main_v750 : Ref sig .tc := ⟨.hbm, 909, rfl⟩
abbrev main_v751 : Ref sig .tc := ⟨.hbm, 910, rfl⟩
abbrev main_v752 : Ref sig .tc := ⟨.hbm, 911, rfl⟩
abbrev main_cst_62 : Ref sig .tc := ⟨.hbm, 912, rfl⟩
abbrev main_v753 : Ref sig .tc := ⟨.hbm, 913, rfl⟩
abbrev main_v754 : Ref sig .tc := ⟨.hbm, 914, rfl⟩
abbrev main_v755 : Ref sig .tc := ⟨.hbm, 915, rfl⟩
abbrev main_v756 : Ref sig .tc := ⟨.hbm, 916, rfl⟩
abbrev main_v757 : Ref sig .tc := ⟨.hbm, 917, rfl⟩
abbrev main_v758 : Ref sig .tc := ⟨.hbm, 918, rfl⟩
abbrev main_v759 : Ref sig .tc := ⟨.hbm, 919, rfl⟩
abbrev main_v760 : Ref sig .tc := ⟨.hbm, 920, rfl⟩
abbrev main_cst_63 : Ref sig .tc := ⟨.hbm, 921, rfl⟩
abbrev main_v761 : Ref sig .tc := ⟨.hbm, 922, rfl⟩
abbrev main_v762 : Ref sig .tc := ⟨.hbm, 923, rfl⟩
abbrev main_v763 : Ref sig .tc := ⟨.hbm, 924, rfl⟩
abbrev main_v764 : Ref sig .tc := ⟨.hbm, 925, rfl⟩
abbrev main_v765 : Ref sig .tc := ⟨.hbm, 926, rfl⟩
abbrev main_cst_64 : Ref sig .tc := ⟨.hbm, 927, rfl⟩
abbrev main_v766 : Ref sig .tc := ⟨.hbm, 928, rfl⟩
abbrev main_v767 : Ref sig .tc := ⟨.hbm, 929, rfl⟩
abbrev main_v768 : Ref sig .tc := ⟨.hbm, 930, rfl⟩
abbrev main_v769 : Ref sig .tc := ⟨.hbm, 931, rfl⟩
abbrev main_v770 : Ref sig .tc := ⟨.hbm, 932, rfl⟩
abbrev main_v771 : Ref sig .tc := ⟨.hbm, 933, rfl⟩
abbrev main_v772 : Ref sig .tc := ⟨.hbm, 934, rfl⟩
abbrev main_v773 : Ref sig .tc := ⟨.hbm, 935, rfl⟩
abbrev main_cst_65 : Ref sig .tc := ⟨.hbm, 936, rfl⟩
abbrev main_v774 : Ref sig .tc := ⟨.hbm, 937, rfl⟩
abbrev main_v775 : Ref sig .tc := ⟨.hbm, 938, rfl⟩
abbrev main_v776 : Ref sig .tc := ⟨.hbm, 939, rfl⟩
abbrev main_v777 : Ref sig .tc := ⟨.hbm, 940, rfl⟩
abbrev main_v778 : Ref sig .tc := ⟨.hbm, 941, rfl⟩
abbrev main_cst_66 : Ref sig .tc := ⟨.hbm, 942, rfl⟩
abbrev main_v779 : Ref sig .tc := ⟨.hbm, 943, rfl⟩
abbrev main_v780 : Ref sig .tc := ⟨.hbm, 944, rfl⟩
abbrev main_v781 : Ref sig .tc := ⟨.hbm, 945, rfl⟩
abbrev main_v782 : Ref sig .tc := ⟨.hbm, 946, rfl⟩
abbrev main_v783 : Ref sig .tc := ⟨.hbm, 947, rfl⟩
abbrev main_v784 : Ref sig .tc := ⟨.hbm, 948, rfl⟩
abbrev main_v785 : Ref sig .tc := ⟨.hbm, 949, rfl⟩
abbrev main_v786 : Ref sig .tc := ⟨.hbm, 950, rfl⟩
abbrev main_cst_67 : Ref sig .tc := ⟨.hbm, 951, rfl⟩
abbrev main_v787 : Ref sig .tc := ⟨.hbm, 952, rfl⟩
abbrev main_v788 : Ref sig .tc := ⟨.hbm, 953, rfl⟩
abbrev main_v789 : Ref sig .tc := ⟨.hbm, 954, rfl⟩
abbrev main_v790 : Ref sig .tc := ⟨.hbm, 955, rfl⟩
abbrev main_v791 : Ref sig .tc := ⟨.hbm, 956, rfl⟩
abbrev main_cst_68 : Ref sig .tc := ⟨.hbm, 957, rfl⟩
abbrev main_v792 : Ref sig .tc := ⟨.hbm, 958, rfl⟩
abbrev main_v793 : Ref sig .tc := ⟨.hbm, 959, rfl⟩
abbrev main_v794 : Ref sig .tc := ⟨.hbm, 960, rfl⟩
abbrev main_v795 : Ref sig .tc := ⟨.hbm, 961, rfl⟩
abbrev main_v796 : Ref sig .tc := ⟨.hbm, 962, rfl⟩
abbrev main_v797 : Ref sig .tc := ⟨.hbm, 963, rfl⟩
abbrev main_v798 : Ref sig .tc := ⟨.hbm, 964, rfl⟩
abbrev main_v799 : Ref sig .tc := ⟨.hbm, 965, rfl⟩
abbrev main_cst_69 : Ref sig .tc := ⟨.hbm, 966, rfl⟩
abbrev main_v800 : Ref sig .tc := ⟨.hbm, 967, rfl⟩
abbrev main_v801 : Ref sig .tc := ⟨.hbm, 968, rfl⟩
abbrev main_v802 : Ref sig .tc := ⟨.hbm, 969, rfl⟩
abbrev main_v803 : Ref sig .tc := ⟨.hbm, 970, rfl⟩
abbrev main_v804 : Ref sig .tc := ⟨.hbm, 971, rfl⟩
abbrev main_cst_70 : Ref sig .tc := ⟨.hbm, 972, rfl⟩
abbrev main_v805 : Ref sig .tc := ⟨.hbm, 973, rfl⟩
abbrev main_v806 : Ref sig .tc := ⟨.hbm, 974, rfl⟩
abbrev main_v807 : Ref sig .tc := ⟨.hbm, 975, rfl⟩
abbrev main_v808 : Ref sig .tc := ⟨.hbm, 976, rfl⟩
abbrev main_v809 : Ref sig .tc := ⟨.hbm, 977, rfl⟩
abbrev main_v810 : Ref sig .tc := ⟨.hbm, 978, rfl⟩
abbrev main_v811 : Ref sig .tc := ⟨.hbm, 979, rfl⟩
abbrev main_v812 : Ref sig .tc := ⟨.hbm, 980, rfl⟩
abbrev main_cst_71 : Ref sig .tc := ⟨.hbm, 981, rfl⟩
abbrev main_v813 : Ref sig .tc := ⟨.hbm, 982, rfl⟩
abbrev main_v814 : Ref sig .tc := ⟨.hbm, 983, rfl⟩
abbrev main_v815 : Ref sig .tc := ⟨.hbm, 984, rfl⟩
abbrev main_v816 : Ref sig .tc := ⟨.hbm, 985, rfl⟩
abbrev main_v817 : Ref sig .tc := ⟨.hbm, 986, rfl⟩
abbrev main_cst_72 : Ref sig .tc := ⟨.hbm, 987, rfl⟩
abbrev main_v818 : Ref sig .tc := ⟨.hbm, 988, rfl⟩
abbrev main_v819 : Ref sig .tc := ⟨.hbm, 989, rfl⟩
abbrev main_v820 : Ref sig .tc := ⟨.hbm, 990, rfl⟩
abbrev main_v821 : Ref sig .tc := ⟨.hbm, 991, rfl⟩
abbrev main_v822 : Ref sig .tc := ⟨.hbm, 992, rfl⟩
abbrev main_v823 : Ref sig .tc := ⟨.hbm, 993, rfl⟩
abbrev main_v824 : Ref sig .tc := ⟨.hbm, 994, rfl⟩
abbrev main_v825 : Ref sig .tc := ⟨.hbm, 995, rfl⟩
abbrev main_cst_73 : Ref sig .tc := ⟨.hbm, 996, rfl⟩
abbrev main_v826 : Ref sig .tc := ⟨.hbm, 997, rfl⟩
abbrev main_v827 : Ref sig .tc := ⟨.hbm, 998, rfl⟩
abbrev main_v828 : Ref sig .tc := ⟨.hbm, 999, rfl⟩
abbrev main_v829 : Ref sig .tc := ⟨.hbm, 1000, rfl⟩
abbrev main_v830 : Ref sig .tc := ⟨.hbm, 1001, rfl⟩
abbrev main_cst_74 : Ref sig .tc := ⟨.hbm, 1002, rfl⟩
abbrev main_v831 : Ref sig .tc := ⟨.hbm, 1003, rfl⟩
abbrev main_v832 : Ref sig .tc := ⟨.hbm, 1004, rfl⟩
abbrev main_v833 : Ref sig .tc := ⟨.hbm, 1005, rfl⟩
abbrev main_v834 : Ref sig .tc := ⟨.hbm, 1006, rfl⟩
abbrev main_v835 : Ref sig .tc := ⟨.hbm, 1007, rfl⟩
abbrev main_v836 : Ref sig .tc := ⟨.hbm, 1008, rfl⟩
abbrev main_v837 : Ref sig .tc := ⟨.hbm, 1009, rfl⟩
abbrev main_v838 : Ref sig .tc := ⟨.hbm, 1010, rfl⟩
abbrev main_cst_75 : Ref sig .tc := ⟨.hbm, 1011, rfl⟩
abbrev main_v839 : Ref sig .tc := ⟨.hbm, 1012, rfl⟩
abbrev main_v840 : Ref sig .tc := ⟨.hbm, 1013, rfl⟩
abbrev main_v841 : Ref sig .tc := ⟨.hbm, 1014, rfl⟩
abbrev main_v842 : Ref sig .tc := ⟨.hbm, 1015, rfl⟩
abbrev main_v843 : Ref sig .tc := ⟨.hbm, 1016, rfl⟩
abbrev main_cst_76 : Ref sig .tc := ⟨.hbm, 1017, rfl⟩
abbrev main_v844 : Ref sig .tc := ⟨.hbm, 1018, rfl⟩
abbrev main_v845 : Ref sig .tc := ⟨.hbm, 1019, rfl⟩
abbrev main_v846 : Ref sig .tc := ⟨.hbm, 1020, rfl⟩
abbrev main_v847 : Ref sig .tc := ⟨.hbm, 1021, rfl⟩
abbrev main_v848 : Ref sig .tc := ⟨.hbm, 1022, rfl⟩
abbrev main_v849 : Ref sig .tc := ⟨.hbm, 1023, rfl⟩
abbrev main_v850 : Ref sig .tc := ⟨.hbm, 1024, rfl⟩
abbrev main_v851 : Ref sig .tc := ⟨.hbm, 1025, rfl⟩
abbrev main_cst_77 : Ref sig .tc := ⟨.hbm, 1026, rfl⟩
abbrev main_v852 : Ref sig .tc := ⟨.hbm, 1027, rfl⟩
abbrev main_v853 : Ref sig .tc := ⟨.hbm, 1028, rfl⟩
abbrev main_v854 : Ref sig .tc := ⟨.hbm, 1029, rfl⟩
abbrev main_v855 : Ref sig .tc := ⟨.hbm, 1030, rfl⟩
abbrev main_v856 : Ref sig .tc := ⟨.hbm, 1031, rfl⟩
abbrev main_cst_78 : Ref sig .tc := ⟨.hbm, 1032, rfl⟩
abbrev main_v857 : Ref sig .tc := ⟨.hbm, 1033, rfl⟩
abbrev main_v858 : Ref sig .tc := ⟨.hbm, 1034, rfl⟩
abbrev main_v859 : Ref sig .tc := ⟨.hbm, 1035, rfl⟩
abbrev main_v860 : Ref sig .tc := ⟨.hbm, 1036, rfl⟩
abbrev main_v861 : Ref sig .tc := ⟨.hbm, 1037, rfl⟩
abbrev main_v862 : Ref sig .tc := ⟨.hbm, 1038, rfl⟩
abbrev main_v863 : Ref sig .tc := ⟨.hbm, 1039, rfl⟩
abbrev main_v864 : Ref sig .tc := ⟨.hbm, 1040, rfl⟩
abbrev main_cst_79 : Ref sig .tc := ⟨.hbm, 1041, rfl⟩
abbrev main_v865 : Ref sig .tc := ⟨.hbm, 1042, rfl⟩
abbrev main_v866 : Ref sig .tc := ⟨.hbm, 1043, rfl⟩
abbrev main_v867 : Ref sig .tc := ⟨.hbm, 1044, rfl⟩
abbrev main_v868 : Ref sig .tc := ⟨.hbm, 1045, rfl⟩
abbrev main_v869 : Ref sig .tc := ⟨.hbm, 1046, rfl⟩
abbrev main_cst_80 : Ref sig .tc := ⟨.hbm, 1047, rfl⟩
abbrev main_v870 : Ref sig .tc := ⟨.hbm, 1048, rfl⟩
abbrev main_v871 : Ref sig .tc := ⟨.hbm, 1049, rfl⟩
abbrev main_v872 : Ref sig .tc := ⟨.hbm, 1050, rfl⟩
abbrev main_v873 : Ref sig .tc := ⟨.hbm, 1051, rfl⟩
abbrev main_v874 : Ref sig .tc := ⟨.hbm, 1052, rfl⟩
abbrev main_v875 : Ref sig .tc := ⟨.hbm, 1053, rfl⟩
abbrev main_v876 : Ref sig .tc := ⟨.hbm, 1054, rfl⟩
abbrev main_v877 : Ref sig .tc := ⟨.hbm, 1055, rfl⟩
abbrev main_cst_81 : Ref sig .tc := ⟨.hbm, 1056, rfl⟩
abbrev main_v878 : Ref sig .tc := ⟨.hbm, 1057, rfl⟩
abbrev main_v879 : Ref sig .tc := ⟨.hbm, 1058, rfl⟩
abbrev main_v880 : Ref sig .tc := ⟨.hbm, 1059, rfl⟩
abbrev main_v881 : Ref sig .tc := ⟨.hbm, 1060, rfl⟩
abbrev main_v882 : Ref sig .tc := ⟨.hbm, 1061, rfl⟩
abbrev main_cst_82 : Ref sig .tc := ⟨.hbm, 1062, rfl⟩
abbrev main_v883 : Ref sig .tc := ⟨.hbm, 1063, rfl⟩
abbrev main_v884 : Ref sig .tc := ⟨.hbm, 1064, rfl⟩
abbrev main_v885 : Ref sig .tc := ⟨.hbm, 1065, rfl⟩
abbrev main_v886 : Ref sig .tc := ⟨.hbm, 1066, rfl⟩
abbrev main_v887 : Ref sig .tc := ⟨.hbm, 1067, rfl⟩
abbrev main_v888 : Ref sig .tc := ⟨.hbm, 1068, rfl⟩
abbrev main_v889 : Ref sig .tc := ⟨.hbm, 1069, rfl⟩
abbrev main_v890 : Ref sig .tc := ⟨.hbm, 1070, rfl⟩
abbrev main_cst_83 : Ref sig .tc := ⟨.hbm, 1071, rfl⟩
abbrev main_v891 : Ref sig .tc := ⟨.hbm, 1072, rfl⟩
abbrev main_v892 : Ref sig .tc := ⟨.hbm, 1073, rfl⟩
abbrev main_v893 : Ref sig .tc := ⟨.hbm, 1074, rfl⟩
abbrev main_v894 : Ref sig .tc := ⟨.hbm, 1075, rfl⟩
abbrev main_v895 : Ref sig .tc := ⟨.hbm, 1076, rfl⟩
abbrev main_cst_84 : Ref sig .tc := ⟨.hbm, 1077, rfl⟩
abbrev main_v896 : Ref sig .tc := ⟨.hbm, 1078, rfl⟩
abbrev main_v897 : Ref sig .tc := ⟨.hbm, 1079, rfl⟩
abbrev main_v898 : Ref sig .tc := ⟨.hbm, 1080, rfl⟩
abbrev main_v899 : Ref sig .tc := ⟨.hbm, 1081, rfl⟩
abbrev main_v900 : Ref sig .tc := ⟨.hbm, 1082, rfl⟩
abbrev main_v901 : Ref sig .tc := ⟨.hbm, 1083, rfl⟩
abbrev main_v902 : Ref sig .tc := ⟨.hbm, 1084, rfl⟩
abbrev main_v903 : Ref sig .tc := ⟨.hbm, 1085, rfl⟩
abbrev main_v904 : Ref sig .tc := ⟨.hbm, 1086, rfl⟩
abbrev main_v905 : Ref sig .tc := ⟨.hbm, 1087, rfl⟩
abbrev main_v906 : Ref sig .tc := ⟨.hbm, 1088, rfl⟩
abbrev main_v907 : Ref sig .tc := ⟨.hbm, 1089, rfl⟩
abbrev main_v908 : Ref sig .tc := ⟨.hbm, 1090, rfl⟩
abbrev main_v909 : Ref sig .tc := ⟨.hbm, 1091, rfl⟩
abbrev main_v910 : Ref sig .tc := ⟨.hbm, 1092, rfl⟩
abbrev main_v911 : Ref sig .tc := ⟨.hbm, 1093, rfl⟩
abbrev main_v912 : Ref sig .tc := ⟨.hbm, 1094, rfl⟩
abbrev main_v913 : Ref sig .tc := ⟨.hbm, 1095, rfl⟩
abbrev main_v914 : Ref sig .tc := ⟨.hbm, 1096, rfl⟩
abbrev main_v915 : Ref sig .tc := ⟨.hbm, 1097, rfl⟩
abbrev main_v916 : Ref sig .tc := ⟨.hbm, 1098, rfl⟩
abbrev main_v917 : Ref sig .tc := ⟨.hbm, 1099, rfl⟩
abbrev main_v918 : Ref sig .tc := ⟨.hbm, 1100, rfl⟩
abbrev main_v919 : Ref sig .tc := ⟨.hbm, 1101, rfl⟩
abbrev main_v920 : Ref sig .tc := ⟨.hbm, 1102, rfl⟩
abbrev main_v921 : Ref sig .tc := ⟨.hbm, 1103, rfl⟩
abbrev main_v922 : Ref sig .tc := ⟨.hbm, 1104, rfl⟩
abbrev main_v923 : Ref sig .tc := ⟨.hbm, 1105, rfl⟩
abbrev main_v924 : Ref sig .tc := ⟨.hbm, 1106, rfl⟩
abbrev main_v925 : Ref sig .tc := ⟨.hbm, 1107, rfl⟩
abbrev main_v926 : Ref sig .tc := ⟨.hbm, 1108, rfl⟩
abbrev main_v927 : Ref sig .tc := ⟨.hbm, 1109, rfl⟩
abbrev main_v928 : Ref sig .tc := ⟨.hbm, 1110, rfl⟩
abbrev main_v929 : Ref sig .tc := ⟨.hbm, 1111, rfl⟩
abbrev main_v930 : Ref sig .tc := ⟨.hbm, 1112, rfl⟩
abbrev main_v931 : Ref sig .tc := ⟨.hbm, 1113, rfl⟩
abbrev main_v932 : Ref sig .tc := ⟨.hbm, 1114, rfl⟩
abbrev main_v933 : Ref sig .tc := ⟨.hbm, 1115, rfl⟩
abbrev main_v934 : Ref sig .tc := ⟨.hbm, 1116, rfl⟩
abbrev main_v935 : Ref sig .tc := ⟨.hbm, 1117, rfl⟩
abbrev main_v936 : Ref sig .tc := ⟨.hbm, 1118, rfl⟩
abbrev main_v937 : Ref sig .tc := ⟨.hbm, 1119, rfl⟩
abbrev main_v938 : Ref sig .tc := ⟨.hbm, 1120, rfl⟩
abbrev main_v939 : Ref sig .tc := ⟨.hbm, 1121, rfl⟩
abbrev main_v940 : Ref sig .tc := ⟨.hbm, 1122, rfl⟩
abbrev main_v941 : Ref sig .tc := ⟨.hbm, 1123, rfl⟩
abbrev main_v942 : Ref sig .tc := ⟨.hbm, 1124, rfl⟩
abbrev main_v943 : Ref sig .tc := ⟨.hbm, 1125, rfl⟩
abbrev main_v944 : Ref sig .tc := ⟨.hbm, 1126, rfl⟩
abbrev main_v945 : Ref sig .tc := ⟨.hbm, 1127, rfl⟩
abbrev main_v946 : Ref sig .tc := ⟨.hbm, 1128, rfl⟩
abbrev main_v947 : Ref sig .tc := ⟨.hbm, 1129, rfl⟩
abbrev main_v948 : Ref sig .tc := ⟨.hbm, 1130, rfl⟩
abbrev main_v949 : Ref sig .tc := ⟨.hbm, 1131, rfl⟩
abbrev main_v950 : Ref sig .tc := ⟨.hbm, 1132, rfl⟩
abbrev main_v951 : Ref sig .tc := ⟨.hbm, 1133, rfl⟩
abbrev main_v952 : Ref sig .tc := ⟨.hbm, 1134, rfl⟩
abbrev main_v953 : Ref sig .tc := ⟨.hbm, 1135, rfl⟩
abbrev main_v954 : Ref sig .tc := ⟨.hbm, 1136, rfl⟩
abbrev main_v955 : Ref sig .tc := ⟨.hbm, 1137, rfl⟩
abbrev main_v956 : Ref sig .tc := ⟨.hbm, 1138, rfl⟩
abbrev main_v957 : Ref sig .tc := ⟨.hbm, 1139, rfl⟩
abbrev main_v958 : Ref sig .tc := ⟨.hbm, 1140, rfl⟩
abbrev main_v959 : Ref sig .tc := ⟨.hbm, 1141, rfl⟩
abbrev main_v960 : Ref sig .tc := ⟨.hbm, 1142, rfl⟩
abbrev main_v961 : Ref sig .tc := ⟨.hbm, 1143, rfl⟩
abbrev main_v962 : Ref sig .tc := ⟨.hbm, 1144, rfl⟩
abbrev main_v963 : Ref sig .tc := ⟨.hbm, 1145, rfl⟩
abbrev main_v964 : Ref sig .tc := ⟨.hbm, 1146, rfl⟩
abbrev main_v965 : Ref sig .tc := ⟨.hbm, 1147, rfl⟩
abbrev main_v966 : Ref sig .tc := ⟨.hbm, 1148, rfl⟩
abbrev main_v967 : Ref sig .tc := ⟨.hbm, 1149, rfl⟩
abbrev main_v968 : Ref sig .tc := ⟨.hbm, 1150, rfl⟩
abbrev main_v969 : Ref sig .tc := ⟨.hbm, 1151, rfl⟩
abbrev main_v970 : Ref sig .tc := ⟨.hbm, 1152, rfl⟩
abbrev main_v971 : Ref sig .tc := ⟨.hbm, 1153, rfl⟩
abbrev main_cst_85 : Ref sig .tc := ⟨.hbm, 1154, rfl⟩
abbrev main_v972 : Ref sig .tc := ⟨.hbm, 1155, rfl⟩
abbrev main_v973 : Ref sig .tc := ⟨.hbm, 1156, rfl⟩
abbrev main_v974 : Ref sig .tc := ⟨.hbm, 1157, rfl⟩
abbrev main_v975 : Ref sig .tc := ⟨.hbm, 1158, rfl⟩
abbrev main_v976 : Ref sig .tc := ⟨.hbm, 1159, rfl⟩
abbrev main_v977 : Ref sig .tc := ⟨.hbm, 1160, rfl⟩
abbrev main_v978 : Ref sig .tc := ⟨.hbm, 1161, rfl⟩
abbrev main_v979 : Ref sig .tc := ⟨.hbm, 1162, rfl⟩
abbrev main_v980 : Ref sig .tc := ⟨.hbm, 1163, rfl⟩
abbrev main_cst_86 : Ref sig .tc := ⟨.hbm, 1164, rfl⟩
abbrev main_v981 : Ref sig .tc := ⟨.hbm, 1165, rfl⟩
abbrev main_v982 : Ref sig .tc := ⟨.hbm, 1166, rfl⟩
abbrev main_cst_87 : Ref sig .tc := ⟨.hbm, 1167, rfl⟩
abbrev main_v983 : Ref sig .tc := ⟨.hbm, 1168, rfl⟩
abbrev main_v984 : Ref sig .tc := ⟨.hbm, 1169, rfl⟩
abbrev main_v985 : Ref sig .tc := ⟨.hbm, 1170, rfl⟩
abbrev main_cst_88 : Ref sig .tc := ⟨.hbm, 1171, rfl⟩
abbrev main_v986 : Ref sig .tc := ⟨.hbm, 1172, rfl⟩
abbrev main_v987 : Ref sig .tc := ⟨.hbm, 1173, rfl⟩
abbrev main_v988 : Ref sig .tc := ⟨.hbm, 1174, rfl⟩
abbrev main_v989 : Ref sig .tc := ⟨.hbm, 1175, rfl⟩
abbrev main_cst_89 : Ref sig .tc := ⟨.hbm, 1176, rfl⟩
abbrev main_v990 : Ref sig .tc := ⟨.hbm, 1177, rfl⟩
abbrev main_v991 : Ref sig .tc := ⟨.hbm, 1178, rfl⟩
abbrev main_v992 : Ref sig .tc := ⟨.hbm, 1179, rfl⟩
abbrev main_v993 : Ref sig .tc := ⟨.hbm, 1180, rfl⟩
abbrev main_v994 : Ref sig .tc := ⟨.hbm, 1181, rfl⟩
abbrev main_v995 : Ref sig .tc := ⟨.hbm, 1182, rfl⟩
abbrev main_v996 : Ref sig .tc := ⟨.hbm, 1183, rfl⟩
abbrev main_v997 : Ref sig .tc := ⟨.hbm, 1184, rfl⟩
abbrev main_v998 : Ref sig .tc := ⟨.hbm, 1185, rfl⟩
abbrev main_v999 : Ref sig .tc := ⟨.hbm, 1186, rfl⟩
abbrev main_v1000 : Ref sig .tc := ⟨.hbm, 1187, rfl⟩
abbrev main_cst_90 : Ref sig .tc := ⟨.hbm, 1188, rfl⟩
abbrev main_v1001 : Ref sig .tc := ⟨.hbm, 1189, rfl⟩
abbrev main_v1002 : Ref sig .tc := ⟨.hbm, 1190, rfl⟩
abbrev main_cst_91 : Ref sig .tc := ⟨.hbm, 1191, rfl⟩
abbrev main_v1003 : Ref sig .tc := ⟨.hbm, 1192, rfl⟩
abbrev main_v1004 : Ref sig .tc := ⟨.hbm, 1193, rfl⟩
abbrev main_v1005 : Ref sig .tc := ⟨.hbm, 1194, rfl⟩
abbrev main_v1006 : Ref sig .tc := ⟨.hbm, 1195, rfl⟩
abbrev main_v1007 : Ref sig .tc := ⟨.hbm, 1196, rfl⟩
abbrev main_v1008 : Ref sig .tc := ⟨.hbm, 1197, rfl⟩
abbrev main_v1009 : Ref sig .tc := ⟨.hbm, 1198, rfl⟩
abbrev main_v1010 : Ref sig .tc := ⟨.hbm, 1199, rfl⟩
abbrev main_call7_cst : Ref sig .tc := ⟨.hbm, 1200, rfl⟩
abbrev main_call7_v0 : Ref sig .tc := ⟨.hbm, 1201, rfl⟩
abbrev main_v1011 : Ref sig .tc := ⟨.hbm, 1202, rfl⟩
abbrev main_cst_92 : Ref sig .tc := ⟨.hbm, 1203, rfl⟩
abbrev main_v1012 : Ref sig .tc := ⟨.hbm, 1204, rfl⟩
abbrev main_v1013 : Ref sig .tc := ⟨.hbm, 1205, rfl⟩
abbrev main_v1014 : Ref sig .tc := ⟨.hbm, 1206, rfl⟩
abbrev main_cst_93 : Ref sig .tc := ⟨.hbm, 1207, rfl⟩
abbrev main_v1015 : Ref sig .tc := ⟨.hbm, 1208, rfl⟩
abbrev main_v1016 : Ref sig .tc := ⟨.hbm, 1209, rfl⟩
abbrev main_cst_94 : Ref sig .tc := ⟨.hbm, 1210, rfl⟩
abbrev main_v1017 : Ref sig .tc := ⟨.hbm, 1211, rfl⟩
abbrev main_v1018 : Ref sig .tc := ⟨.hbm, 1212, rfl⟩
abbrev main_cst_95 : Ref sig .tc := ⟨.hbm, 1213, rfl⟩
abbrev main_v1019 : Ref sig .tc := ⟨.hbm, 1214, rfl⟩
abbrev main_v1020 : Ref sig .tc := ⟨.hbm, 1215, rfl⟩
abbrev main_call8_call0_cst : Ref sig .tc := ⟨.hbm, 1216, rfl⟩
abbrev main_call8_call0_v0 : Ref sig .tc := ⟨.hbm, 1217, rfl⟩
abbrev main_v1021 : Ref sig .tc := ⟨.hbm, 1218, rfl⟩
abbrev main_v1022 : Ref sig .tc := ⟨.hbm, 1219, rfl⟩
abbrev main_v1023 : Ref sig .tc := ⟨.hbm, 1220, rfl⟩
abbrev main_v1024 : Ref sig .tc := ⟨.hbm, 1221, rfl⟩
abbrev main_cst_96 : Ref sig .tc := ⟨.hbm, 1222, rfl⟩
abbrev main_v1025 : Ref sig .tc := ⟨.hbm, 1223, rfl⟩
abbrev main_v1026 : Ref sig .tc := ⟨.hbm, 1224, rfl⟩
abbrev main_v1027 : Ref sig .tc := ⟨.hbm, 1225, rfl⟩
abbrev main_v1028 : Ref sig .tc := ⟨.hbm, 1226, rfl⟩
abbrev main_cst_97 : Ref sig .tc := ⟨.hbm, 1227, rfl⟩
abbrev main_v1029 : Ref sig .tc := ⟨.hbm, 1228, rfl⟩
abbrev main_v1030 : Ref sig .tc := ⟨.hbm, 1229, rfl⟩
abbrev main_v1031 : Ref sig .tc := ⟨.hbm, 1230, rfl⟩
abbrev main_v1032 : Ref sig .tc := ⟨.hbm, 1231, rfl⟩
abbrev main_v1033 : Ref sig .tc := ⟨.hbm, 1232, rfl⟩
abbrev main_cst_98 : Ref sig .tc := ⟨.hbm, 1233, rfl⟩
abbrev main_v1034 : Ref sig .tc := ⟨.hbm, 1234, rfl⟩
abbrev main_v1035 : Ref sig .tc := ⟨.hbm, 1235, rfl⟩
abbrev main_v1036 : Ref sig .tc := ⟨.hbm, 1236, rfl⟩
abbrev main_v1037 : Ref sig .tc := ⟨.hbm, 1237, rfl⟩
abbrev main_v1038 : Ref sig .tc := ⟨.hbm, 1238, rfl⟩
abbrev main_cst_99 : Ref sig .tc := ⟨.hbm, 1239, rfl⟩
abbrev main_v1039 : Ref sig .tc := ⟨.hbm, 1240, rfl⟩
abbrev main_v1040 : Ref sig .tc := ⟨.hbm, 1241, rfl⟩
abbrev main_v1041 : Ref sig .tc := ⟨.hbm, 1242, rfl⟩
abbrev main_v1042 : Ref sig .tc := ⟨.hbm, 1243, rfl⟩
abbrev main_v1043 : Ref sig .tc := ⟨.hbm, 1244, rfl⟩
abbrev main_v1044 : Ref sig .tc := ⟨.hbm, 1245, rfl⟩
abbrev main_v1045 : Ref sig .tc := ⟨.hbm, 1246, rfl⟩
abbrev main_v1046 : Ref sig .tc := ⟨.hbm, 1247, rfl⟩
abbrev main_cst_100 : Ref sig .tc := ⟨.hbm, 1248, rfl⟩
abbrev main_v1047 : Ref sig .tc := ⟨.hbm, 1249, rfl⟩
abbrev main_v1048 : Ref sig .tc := ⟨.hbm, 1250, rfl⟩
abbrev main_cst_101 : Ref sig .tc := ⟨.hbm, 1251, rfl⟩
abbrev main_v1049 : Ref sig .tc := ⟨.hbm, 1252, rfl⟩
abbrev main_cst_102 : Ref sig .tc := ⟨.hbm, 1253, rfl⟩
abbrev main_v1050 : Ref sig .tc := ⟨.hbm, 1254, rfl⟩
abbrev main_v1051 : Ref sig .tc := ⟨.hbm, 1255, rfl⟩
abbrev main_call10_v0 : Ref sig .tc := ⟨.hbm, 1256, rfl⟩
abbrev main_call10_v1 : Ref sig .tc := ⟨.hbm, 1257, rfl⟩
abbrev main_call10_v2 : Ref sig .tc := ⟨.hbm, 1258, rfl⟩
abbrev main_v1052 : Ref sig .tc := ⟨.hbm, 1259, rfl⟩
abbrev main_v1053 : Ref sig .tc := ⟨.hbm, 1260, rfl⟩
abbrev main_v1054 : Ref sig .tc := ⟨.hbm, 1261, rfl⟩
abbrev main_v1055 : Ref sig .tc := ⟨.hbm, 1262, rfl⟩
abbrev main_cst_103 : Ref sig .tc := ⟨.hbm, 1263, rfl⟩
abbrev main_v1056 : Ref sig .tc := ⟨.hbm, 1264, rfl⟩
abbrev main_v1057 : Ref sig .tc := ⟨.hbm, 1265, rfl⟩
abbrev main_v1058 : Ref sig .tc := ⟨.hbm, 1266, rfl⟩
abbrev main_cst_104 : Ref sig .tc := ⟨.hbm, 1267, rfl⟩
abbrev main_v1059 : Ref sig .tc := ⟨.hbm, 1268, rfl⟩
abbrev main_v1060 : Ref sig .tc := ⟨.hbm, 1269, rfl⟩
abbrev main_v1061 : Ref sig .tc := ⟨.hbm, 1270, rfl⟩
abbrev main_cst_105 : Ref sig .tc := ⟨.hbm, 1271, rfl⟩
abbrev main_v1062 : Ref sig .tc := ⟨.hbm, 1272, rfl⟩
abbrev main_v1063 : Ref sig .tc := ⟨.hbm, 1273, rfl⟩
abbrev main_v1064 : Ref sig .tc := ⟨.hbm, 1274, rfl⟩

abbrev nD : Nat := 1
abbrev τ : Topo := Topo.v7x

variable {F : FTy → Type} [FloatOps F]
-- ==== Mlp.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x2048x1024 : Shape := ⟨3, ![4, 2048, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 40
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S4x1024x1024, .bf16⟩
  | .hbm, ⟨10, _⟩ => ⟨S4x2048x1024, .bf16⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S1024x4096, .bf16⟩
  | .hbm, ⟨30, _⟩ => ⟨S1024x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .bf16⟩
  | .hbm, ⟨36, _⟩ => ⟨S4096x4096, .bf16⟩
  | .hbm, ⟨37, _⟩ => ⟨S4096x1024, .f32⟩
  | .hbm, ⟨38, _⟩ => ⟨S4096x1024, .bf16⟩
  | .hbm, ⟨39, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_21 : BitVec 32 := 0#32
  let v31 : BitVec 1 := Scalar.cmpi .ne v30 c0_i32_21
  v31

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MlpRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x4096, .bf16⟩
  | .hbm, ⟨73, _⟩ => ⟨S4096x1024, .bf16⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Ple.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x2560x1024 : Shape := ⟨3, ![4, 2560, 1024]⟩
abbrev S4x256x1024 : Shape := ⟨3, ![4, 256, 1024]⟩
abbrev S4x2816x1024 : Shape := ⟨3, ![4, 2816, 1024]⟩
abbrev S8x128 : Shape := ⟨2, ![8, 128]⟩
abbrev S256x256 : Shape := ⟨2, ![256, 256]⟩
abbrev S1x256x1024 : Shape := ⟨3, ![1, 256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 45
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S_, .bf16⟩
  | .hbm, ⟨27, _⟩ => ⟨S4x2560x1024, .bf16⟩
  | .hbm, ⟨28, _⟩ => ⟨S1024x1024, .bf16⟩
  | .hbm, ⟨29, _⟩ => ⟨S4x256x1024, .bf16⟩
  | .hbm, ⟨30, _⟩ => ⟨S4x2816x1024, .bf16⟩
  | .hbm, ⟨31, _⟩ => ⟨S1x1024, .f32⟩
  | .hbm, ⟨32, _⟩ => ⟨S256x1024, .bf16⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S8x128, .f32⟩
  | .hbm, ⟨37, _⟩ => ⟨S4096x1024, .f32⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S4x256x1024, .bf16⟩
  | .local _ .vmem, ⟨9, _⟩ => ⟨S1x1024, .f32⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x128, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev main_v23_4 : Ref sig .tc := ⟨.hbm, 40, rfl⟩
abbrev main_v23_5 : Ref sig .tc := ⟨.hbm, 41, rfl⟩
abbrev main_v23_6 : Ref sig .tc := ⟨.hbm, 42, rfl⟩
abbrev main_v23_7 : Ref sig .tc := ⟨.hbm, 43, rfl⟩
abbrev main_v23_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== PleRefIdeal.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 204
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1024, .f32⟩
  | 4 => ⟨S1024x1024, .f32⟩
  | 5 => ⟨S1024, .f32⟩
  | 6 => ⟨S256x1024, .f32⟩
  | 7 => ⟨S1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S_, .f32⟩
  | 94 => ⟨S4096, .f32⟩
  | 95 => ⟨S_, .f32⟩
  | 96 => ⟨S4096, .f32⟩
  | 97 => ⟨S4096, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S4096, .f32⟩
  | 106 => ⟨S_, .f32⟩
  | 107 => ⟨S4096, .f32⟩
  | 108 => ⟨S4096, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S_, .f32⟩
  | 118 => ⟨S1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S1024, .f32⟩
  | 18 => ⟨S4096x1024, .f32⟩
  | 19 => ⟨S_, .f32⟩
  | 20 => ⟨S4096, .f32⟩
  | 21 => ⟨S4096x1, .f32⟩
  | 22 => ⟨S4096x1024, .f32⟩
  | 23 => ⟨S4096x1024, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S4096x1024, .f32⟩
  | 42 => ⟨S4096x1024, .f32⟩
  | 43 => ⟨S_, .f32⟩
  | 44 => ⟨S1024, .f32⟩
  | 45 => ⟨S1x1024, .f32⟩
  | 46 => ⟨S4096x1024, .f32⟩
  | 47 => ⟨S4096x1024, .f32⟩
  | 48 => ⟨S_, .f32⟩
  | 49 => ⟨S1024, .f32⟩
  | 50 => ⟨S4096x1024, .f32⟩
  | 51 => ⟨S_, .f32⟩
  | 52 => ⟨S4096, .f32⟩
  | 53 => ⟨S4096x1, .f32⟩
  | 54 => ⟨S4096x1024, .f32⟩
  | 55 => ⟨S4096x1024, .f32⟩
  | 56 => ⟨S4096x1024, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S8x128, .f32⟩
  | 69 => ⟨S4096x1024, .bf16⟩
  | 70 => ⟨S4096x1024, .bf16⟩
  | 71 => ⟨S4096x1024, .bf16⟩
  | 72 => ⟨S1x1024, .f32⟩
  | 73 => ⟨S1x1024, .f32⟩
  | 74 => ⟨S1x1024, .f32⟩
  | 75 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_cst_19 : Ref sig .tc := ⟨.hbm, 102, rfl⟩
abbrev main_cst_20 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_25 : Ref sig .tc := ⟨.hbm, 126, rfl⟩
abbrev main_v91 : Ref sig .tc := ⟨.hbm, 127, rfl⟩
abbrev main_v92 : Ref sig .tc := ⟨.hbm, 128, rfl⟩
abbrev main_cst_26 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_28 : Ref sig .tc := ⟨.hbm, 144, rfl⟩
abbrev main_v106 : Ref sig .tc := ⟨.hbm, 145, rfl⟩
abbrev main_v107 : Ref sig .tc := ⟨.hbm, 146, rfl⟩
abbrev main_cst_29 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_30 : Ref sig .tc := ⟨.hbm, 153, rfl⟩
abbrev main_v113 : Ref sig .tc := ⟨.hbm, 154, rfl⟩
abbrev main_v114 : Ref sig .tc := ⟨.hbm, 155, rfl⟩
abbrev main_cst_31 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_32 : Ref sig .tc := ⟨.hbm, 164, rfl⟩
abbrev main_v122 : Ref sig .tc := ⟨.hbm, 165, rfl⟩
abbrev main_v123 : Ref sig .tc := ⟨.hbm, 166, rfl⟩
abbrev main_cst_33 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_34 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_35 : Ref sig .tc := ⟨.hbm, 176, rfl⟩
abbrev main_v131 : Ref sig .tc := ⟨.hbm, 177, rfl⟩
abbrev main_v132 : Ref sig .tc := ⟨.hbm, 178, rfl⟩
abbrev main_cst_36 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_37 : Ref sig .tc := ⟨.hbm, 186, rfl⟩
abbrev main_v139 : Ref sig .tc := ⟨.hbm, 187, rfl⟩
abbrev main_v140 : Ref sig .tc := ⟨.hbm, 188, rfl⟩
abbrev main_cst_38 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩

abbrev nD : Nat := 1
abbrev τ : Topo := Topo.v7x

variable {F : FTy → Type} [FloatOps F]
-- ==== Inp.lean ====
abbrev S4096x1024 : Shape := ⟨2, ![4096, 1024]⟩
abbrev S1024 : Shape := ⟨1, ![1024]⟩
abbrev S1024x4624 : Shape := ⟨2, ![1024, 4624]⟩
abbrev S4096x1536 : Shape := ⟨2, ![4096, 1536]⟩
abbrev S4096x16 : Shape := ⟨2, ![4096, 16]⟩
abbrev S_ : Shape := ⟨0, ![]⟩
abbrev S4096x128 : Shape := ⟨2, ![4096, 128]⟩
abbrev S4624x1024 : Shape := ⟨2, ![4624, 1024]⟩
abbrev S4x1156x1024 : Shape := ⟨3, ![4, 1156, 1024]⟩
abbrev S4x1184x1024 : Shape := ⟨3, ![4, 1184, 1024]⟩
abbrev S1x1024 : Shape := ⟨2, ![1, 1024]⟩
abbrev S512x1024 : Shape := ⟨2, ![512, 1024]⟩
abbrev S512x1536 : Shape := ⟨2, ![512, 1536]⟩
abbrev S512x128 : Shape := ⟨2, ![512, 128]⟩
abbrev S1x1156x1024 : Shape := ⟨3, ![1, 1156, 1024]⟩
abbrev S1156x1024 : Shape := ⟨2, ![1156, 1024]⟩
abbrev S1024x1024 : Shape := ⟨2, ![1024, 1024]⟩
abbrev S1536x1024 : Shape := ⟨2, ![1536, 1024]⟩
abbrev S128x1024 : Shape := ⟨2, ![128, 1024]⟩
abbrev S512 : Shape := ⟨1, ![512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4624, .f32⟩
  | .hbm, ⟨3, _⟩ => ⟨S4096x1024, .f32⟩
  | .hbm, ⟨4, _⟩ => ⟨S4096x1024, .bf16⟩
  | .hbm, ⟨5, _⟩ => ⟨S4096x1536, .bf16⟩
  | .hbm, ⟨6, _⟩ => ⟨S4096x16, .bf16⟩
  | .hbm, ⟨7, _⟩ => ⟨S4096x1024, .bf16⟩
  | .hbm, ⟨8, _⟩ => ⟨S4096x1024, .bf16⟩
  | .hbm, ⟨9, _⟩ => ⟨S_, .i32⟩
  | .hbm, ⟨10, _⟩ => ⟨S_, .bf16⟩
  | .hbm, ⟨11, _⟩ => ⟨S4096x128, .bf16⟩
  | .hbm, ⟨12, _⟩ => ⟨S4624x1024, .f32⟩
  | .hbm, ⟨13, _⟩ => ⟨S4624x1024, .bf16⟩
  | .hbm, ⟨14, _⟩ => ⟨S4x1156x1024, .bf16⟩
  | .hbm, ⟨15, _⟩ => ⟨S_, .i32⟩
  | .hbm, ⟨16, _⟩ => ⟨S_, .bf16⟩
  | .hbm, ⟨17, _⟩ => ⟨S4x1184x1024, .bf16⟩
  | .hbm, ⟨18, _⟩ => ⟨S1x1024, .f32⟩
  | .hbm, ⟨19, _⟩ => ⟨S4096x1024, .f32⟩
  | .hbm, ⟨20, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S4x1184x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S4624x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1184x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InpRefIdeal.lean ====
abbrev S4096x1024 : Shape := ⟨2, ![4096, 1024]⟩
abbrev S1024 : Shape := ⟨1, ![1024]⟩
abbrev S1024x4624 : Shape := ⟨2, ![1024, 4624]⟩
abbrev S4096x1536 : Shape := ⟨2, ![4096, 1536]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4624 : Shape := ⟨2, ![4096, 4624]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4624, .f32⟩
  | .hbm, ⟨3, _⟩ => ⟨S4096x1024, .f32⟩
  | .hbm, ⟨4, _⟩ => ⟨S4096x1024, .bf16⟩
  | .hbm, ⟨5, _⟩ => ⟨S4096x1536, .bf16⟩
  | .hbm, ⟨6, _⟩ => ⟨S4096x16, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x1536, .f32⟩
  | .hbm, ⟨11, _⟩ => ⟨S4096x16, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x4624, .f32⟩
  | .hbm, ⟨35, _⟩ => ⟨S4096x1024, .f32⟩
  | .hbm, ⟨36, _⟩ => ⟨S4096x1536, .f32⟩
  | .hbm, ⟨37, _⟩ => ⟨S4096x16, .f32⟩
  | .hbm, ⟨38, _⟩ => ⟨S4096x1024, .f32⟩
  | .hbm, ⟨39, _⟩ => ⟨S4096x1024, .f32⟩
  | .hbm, ⟨40, _⟩ => ⟨S4096x4624, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Sconv.lean ====
abbrev S4096x1536 : Shape := ⟨2, ![4096, 1536]⟩
abbrev S4x1536 : Shape := ⟨2, ![4, 1536]⟩
abbrev S1536 : Shape := ⟨1, ![1536]⟩
abbrev S4x8x1536 : Shape := ⟨3, ![4, 8, 1536]⟩
abbrev S32x1536 : Shape := ⟨2, ![32, 1536]⟩
abbrev S8x1536 : Shape := ⟨2, ![8, 1536]⟩
abbrev S1x1536 : Shape := ⟨2, ![1, 1536]⟩
abbrev S256x1536 : Shape := ⟨2, ![256, 1536]⟩
abbrev S264x1536 : Shape := ⟨2, ![264, 1536]⟩
abbrev S3x256x1536 : Shape := ⟨3, ![3, 256, 1536]⟩
abbrev S1x256x1536 : Shape := ⟨3, ![1, 256, 1536]⟩
abbrev S1x8x1536 : Shape := ⟨3, ![1, 8, 1536]⟩
abbrev S16x1536 : Shape := ⟨2, ![16, 1536]⟩

abbrev nBuf : Space → Nat
  | .hbm => 9
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S4096x1536, .f32⟩
  | .hbm, ⟨4, _⟩ => ⟨S4x8x1536, .f32⟩
  | .hbm, ⟨5, _⟩ => ⟨S32x1536, .f32⟩
  | .hbm, ⟨6, _⟩ => ⟨S4096x1536, .bf16⟩
  | .hbm, ⟨7, _⟩ => ⟨S8x1536, .f32⟩
  | .hbm, ⟨8, _⟩ => ⟨S1x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x1536, .f32⟩
  | .local _ .vmem, ⟨5, _⟩ => ⟨S256x1536, .f32⟩
  | .local _ .vmem, ⟨6, _⟩ => ⟨S8x1536, .f32⟩
  | .local _ .vmem, ⟨7, _⟩ => ⟨S8x1536, .f32⟩
  | .local _ .vmem, ⟨8, _⟩ => ⟨S32x1536, .f32⟩
  | .local _ .vmem, ⟨9, _⟩ => ⟨S256x1536, .bf16⟩
  | .local _ .vmem, ⟨10, _⟩ => ⟨S256x1536, .bf16⟩
  | .local _ .vmem, ⟨11, _⟩ => ⟨S8x1536, .f32⟩
  | .local _ .vmem, ⟨12, _⟩ => ⟨S1x1536, .f32⟩
  | .local _ .vmem, ⟨13, _⟩ => ⟨S264x1536, .f32⟩
  | .local _ .vmem, ⟨14, _⟩ => ⟨S264x1536, .f32⟩
  | .local _ .vmem, ⟨15, _⟩ => ⟨S3x256x1536, .f32⟩
  | .local _ .vmem, ⟨16, _⟩ => ⟨S3x256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_42 : BitVec 32 := 0#32
  let c16_i32 : BitVec 32 := 16#32
  let v51 : BitVec 32 := Scalar.addi c0_i32_42 c16_i32
  let c1_i32 : BitVec 32 := 1#32
  ⟨c0_i32_42, v51, c1_i32⟩
def k0_mult1 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c16_i32_82 : BitVec 32 := 16#32
  let v91 : BitVec 32 := Scalar.muli arg13 c16_i32_82
  v91
def k0_off1 (k0_t1 : Fin k0_t1_loop.trips) (c0_i32_85 : BitVec 32) : Fin 3 → Nat :=
  let c2_87 : Index := 2#32
  let c0_i32_42 : BitVec 32 := 0#32
  let c1_i32 : BitVec 32 := 1#32
  let arg13 : BitVec 32 := Scf.iv c0_i32_42 c1_i32 k0_t1
  let c16_i32_82 : BitVec 32 := 16#32
  let v91 : BitVec 32 := Scalar.muli arg13 c16_i32_82
  let v92 : BitVec 32 := v91
  let v95 : BitVec 32 := Scalar.addi v92 c0_i32_85
  let c0_i32_86 : BitVec 32 := 0#32
  let v96 : BitVec 32 := Scalar.addi v95 c0_i32_86
  let v97 : Index := Scalar.indexCast v96
  let c0_88 : Index := 0#32
  ![2, v97.toNat, 0]
def k0_off2 (k0_t1 : Fin k0_t1_loop.trips) (c0_i32_94 : BitVec 32) : Fin 3 → Nat :=
  let c1_96 : Index := 1#32
  let c0_i32_42 : BitVec 32 := 0#32
  let c1_i32 : BitVec 32 := 1#32
  let arg13 : BitVec 32 := Scf.iv c0_i32_42 c1_i32 k0_t1
  let c16_i32_82 : BitVec 32 := 16#32
  let v91 : BitVec 32 := Scalar.muli arg13 c16_i32_82
  let v92 : BitVec 32 := v91
  let v109 : BitVec 32 := Scalar.addi v92 c0_i32_94
  let c0_i32_95 : BitVec 32 := 0#32
  let v110 : BitVec 32 := Scalar.addi v109 c0_i32_95
  let v111 : Index := Scalar.indexCast v110
  let c0_97 : Index := 0#32
  ![1, v111.toNat, 0]
def k0_off3 (k0_t1 : Fin k0_t1_loop.trips) (c0_i32_103 : BitVec 32) : Fin 3 → Nat :=
  let c0_105 : Index := 0#32
  let c0_i32_42 : BitVec 32 := 0#32
  let c1_i32 : BitVec 32 := 1#32
  let arg13 : BitVec 32 := Scf.iv c0_i32_42 c1_i32 k0_t1
  let c16_i32_82 : BitVec 32 := 16#32
  let v91 : BitVec 32 := Scalar.muli arg13 c16_i32_82
  let v92 : BitVec 32 := v91
  let v125 : BitVec 32 := Scalar.addi v92 c0_i32_103
  let c0_i32_104 : BitVec 32 := 0#32
  let v126 : BitVec 32 := Scalar.addi v125 c0_i32_104
  let v127 : Index := Scalar.indexCast v126
  let c0_106 : Index := 0#32
  ![0, v127.toNat, 0]
def k0_off4 (k0_t1 : Fin k0_t1_loop.trips) (c0_i32_112 : BitVec 32) : Fin 2 → Nat :=
  let c0_i32_42 : BitVec 32 := 0#32
  let c1_i32 : BitVec 32 := 1#32
  let arg13 : BitVec 32 := Scf.iv c0_i32_42 c1_i32 k0_t1
  let c16_i32_82 : BitVec 32 := 16#32
  let v91 : BitVec 32 := Scalar.muli arg13 c16_i32_82
  let v92 : BitVec 32 := v91
  let v141 : BitVec 32 := Scalar.addi v92 c0_i32_112
  let c0_i32_113 : BitVec 32 := 0#32
  let v142 : BitVec 32 := Scalar.addi v141 c0_i32_113
  let v143 : Index := Scalar.indexCast v142
  let c0_114 : Index := 0#32
  ![v143.toNat, 0]
def k0_off5 (k0_t1 : Fin k0_t1_loop.trips) : Fin 2 → Nat :=
  let c0_i32_42 : BitVec 32 := 0#32
  let c1_i32 : BitVec 32 := 1#32
  let arg13 : BitVec 32 := Scf.iv c0_i32_42 c1_i32 k0_t1
  let c16_i32_82 : BitVec 32 := 16#32
  let v91 : BitVec 32 := Scalar.muli arg13 c16_i32_82
  let v92 : BitVec 32 := v91
  let v155 : Index := Scalar.indexCast v92
  let c0_118 : Index := 0#32
  ![v155.toNat, 0]
@[reducible] def k0_t2_loop : Scf.Loop 32 :=
  let c0_i32_46 : BitVec 32 := 0#32
  let c2_i32 : BitVec 32 := 2#32
  let v54 : BitVec 32 := Scalar.addi c0_i32_46 c2_i32
  let c1_i32_47 : BitVec 32 := 1#32
  ⟨c0_i32_46, v54, c1_i32_47⟩
def k0_mult2 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_82 : BitVec 32 := 16#32
  let v91 : BitVec 32 := Scalar.muli arg13 c16_i32_82
  let c0_i32_83 : BitVec 32 := 0#32
  let v92 : BitVec 32 := Scalar.addi v91 c0_i32_83
  let c8_i32 : BitVec 32 := 8#32
  let v93 : BitVec 32 := Scalar.muli v92 c8_i32
  v93
def k0_off6 (k0_t2 : Fin k0_t2_loop.trips) (c0_i32_83 : BitVec 32) : Fin 2 → Nat :=
  let c0_i32_46 : BitVec 32 := 0#32
  let c1_i32_47 : BitVec 32 := 1#32
  let arg13 : BitVec 32 := Scf.iv c0_i32_46 c1_i32_47 k0_t2
  let c16_i32_82 : BitVec 32 := 16#32
  let v91 : BitVec 32 := Scalar.muli arg13 c16_i32_82
  let v92 : BitVec 32 := Scalar.addi v91 c0_i32_83
  let c8_i32 : BitVec 32 := 8#32
  let v93 : BitVec 32 := Scalar.muli v92 c8_i32
  let v94 : BitVec 32 := v93
  let v95 : Index := Scalar.indexCast v94
  let c0_84 : Index := 0#32
  ![v95.toNat, 0]
def k0_off7 (k0_t2 : Fin k0_t2_loop.trips) (c0_i32_83 : BitVec 32) : Fin 3 → Nat :=
  let c0_86 : Index := 0#32
  let c0_i32_46 : BitVec 32 := 0#32
  let c1_i32_47 : BitVec 32 := 1#32
  let arg13 : BitVec 32 := Scf.iv c0_i32_46 c1_i32_47 k0_t2
  let c16_i32_82 : BitVec 32 := 16#32
  let v91 : BitVec 32 := Scalar.muli arg13 c16_i32_82
  let v92 : BitVec 32 := Scalar.addi v91 c0_i32_83
  let c8_i32 : BitVec 32 := 8#32
  let v93 : BitVec 32 := Scalar.muli v92 c8_i32
  let v94 : BitVec 32 := v93
  let c0_i32_85 : BitVec 32 := 0#32
  let v97 : BitVec 32 := Scalar.addi v94 c0_i32_85
  let v98 : Index := Scalar.indexCast v97
  let c0_87 : Index := 0#32
  ![0, v98.toNat, 0]
def k0_off8 (k0_t2 : Fin k0_t2_loop.trips) (c0_i32_83 : BitVec 32) : Fin 3 → Nat :=
  let c1_89 : Index := 1#32
  let c0_i32_46 : BitVec 32 := 0#32
  let c1_i32_47 : BitVec 32 := 1#32
  let arg13 : BitVec 32 := Scf.iv c0_i32_46 c1_i32_47 k0_t2
  let c16_i32_82 : BitVec 32 := 16#32
  let v91 : BitVec 32 := Scalar.muli arg13 c16_i32_82
  let v92 : BitVec 32 := Scalar.addi v91 c0_i32_83
  let c8_i32 : BitVec 32 := 8#32
  let v93 : BitVec 32 := Scalar.muli v92 c8_i32
  let v94 : BitVec 32 := v93
  let c0_i32_88 : BitVec 32 := 0#32
  let v103 : BitVec 32 := Scalar.addi v94 c0_i32_88
  let v104 : Index := Scalar.indexCast v103
  let c0_90 : Index := 0#32
  ![1, v104.toNat, 0]
def k0_mult3 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_91 : BitVec 32 := 16#32
  let v109 : BitVec 32 := Scalar.muli arg13 c16_i32_91
  let c1_i32_92 : BitVec 32 := 1#32
  let v110 : BitVec 32 := Scalar.addi v109 c1_i32_92
  let c8_i32_93 : BitVec 32 := 8#32
  let v111 : BitVec 32 := Scalar.muli v110 c8_i32_93
  v111
def k0_mult4 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_101 : BitVec 32 := 16#32
  let v127 : BitVec 32 := Scalar.muli arg13 c16_i32_101
  let c2_i32_102 : BitVec 32 := 2#32
  let v128 : BitVec 32 := Scalar.addi v127 c2_i32_102
  let c8_i32_103 : BitVec 32 := 8#32
  let v129 : BitVec 32 := Scalar.muli v128 c8_i32_103
  v129
def k0_mult5 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_111 : BitVec 32 := 16#32
  let v145 : BitVec 32 := Scalar.muli arg13 c16_i32_111
  let c3_i32 : BitVec 32 := 3#32
  let v146 : BitVec 32 := Scalar.addi v145 c3_i32
  let c8_i32_112 : BitVec 32 := 8#32
  let v147 : BitVec 32 := Scalar.muli v146 c8_i32_112
  v147
def k0_mult6 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_120 : BitVec 32 := 16#32
  let v163 : BitVec 32 := Scalar.muli arg13 c16_i32_120
  let c4_i32 : BitVec 32 := 4#32
  let v164 : BitVec 32 := Scalar.addi v163 c4_i32
  let c8_i32_121 : BitVec 32 := 8#32
  let v165 : BitVec 32 := Scalar.muli v164 c8_i32_121
  v165
def k0_mult7 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_129 : BitVec 32 := 16#32
  let v181 : BitVec 32 := Scalar.muli arg13 c16_i32_129
  let c5_i32 : BitVec 32 := 5#32
  let v182 : BitVec 32 := Scalar.addi v181 c5_i32
  let c8_i32_130 : BitVec 32 := 8#32
  let v183 : BitVec 32 := Scalar.muli v182 c8_i32_130
  v183
def k0_mult8 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_138 : BitVec 32 := 16#32
  let v199 : BitVec 32 := Scalar.muli arg13 c16_i32_138
  let c6_i32 : BitVec 32 := 6#32
  let v200 : BitVec 32 := Scalar.addi v199 c6_i32
  let c8_i32_139 : BitVec 32 := 8#32
  let v201 : BitVec 32 := Scalar.muli v200 c8_i32_139
  v201
def k0_mult9 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_147 : BitVec 32 := 16#32
  let v217 : BitVec 32 := Scalar.muli arg13 c16_i32_147
  let c7_i32 : BitVec 32 := 7#32
  let v218 : BitVec 32 := Scalar.addi v217 c7_i32
  let c8_i32_148 : BitVec 32 := 8#32
  let v219 : BitVec 32 := Scalar.muli v218 c8_i32_148
  v219
def k0_mult10 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_156 : BitVec 32 := 16#32
  let v235 : BitVec 32 := Scalar.muli arg13 c16_i32_156
  let c8_i32_157 : BitVec 32 := 8#32
  let v236 : BitVec 32 := Scalar.addi v235 c8_i32_157
  let c8_i32_158 : BitVec 32 := 8#32
  let v237 : BitVec 32 := Scalar.muli v236 c8_i32_158
  v237
def k0_mult11 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_166 : BitVec 32 := 16#32
  let v253 : BitVec 32 := Scalar.muli arg13 c16_i32_166
  let c9_i32 : BitVec 32 := 9#32
  let v254 : BitVec 32 := Scalar.addi v253 c9_i32
  let c8_i32_167 : BitVec 32 := 8#32
  let v255 : BitVec 32 := Scalar.muli v254 c8_i32_167
  v255
def k0_mult12 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_175 : BitVec 32 := 16#32
  let v271 : BitVec 32 := Scalar.muli arg13 c16_i32_175
  let c10_i32 : BitVec 32 := 10#32
  let v272 : BitVec 32 := Scalar.addi v271 c10_i32
  let c8_i32_176 : BitVec 32 := 8#32
  let v273 : BitVec 32 := Scalar.muli v272 c8_i32_176
  v273
def k0_mult13 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_184 : BitVec 32 := 16#32
  let v289 : BitVec 32 := Scalar.muli arg13 c16_i32_184
  let c11_i32 : BitVec 32 := 11#32
  let v290 : BitVec 32 := Scalar.addi v289 c11_i32
  let c8_i32_185 : BitVec 32 := 8#32
  let v291 : BitVec 32 := Scalar.muli v290 c8_i32_185
  v291
def k0_mult14 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_193 : BitVec 32 := 16#32
  let v307 : BitVec 32 := Scalar.muli arg13 c16_i32_193
  let c12_i32 : BitVec 32 := 12#32
  let v308 : BitVec 32 := Scalar.addi v307 c12_i32
  let c8_i32_194 : BitVec 32 := 8#32
  let v309 : BitVec 32 := Scalar.muli v308 c8_i32_194
  v309
def k0_mult15 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_202 : BitVec 32 := 16#32
  let v325 : BitVec 32 := Scalar.muli arg13 c16_i32_202
  let c13_i32 : BitVec 32 := 13#32
  let v326 : BitVec 32 := Scalar.addi v325 c13_i32
  let c8_i32_203 : BitVec 32 := 8#32
  let v327 : BitVec 32 := Scalar.muli v326 c8_i32_203
  v327
def k0_mult16 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_211 : BitVec 32 := 16#32
  let v343 : BitVec 32 := Scalar.muli arg13 c16_i32_211
  let c14_i32 : BitVec 32 := 14#32
  let v344 : BitVec 32 := Scalar.addi v343 c14_i32
  let c8_i32_212 : BitVec 32 := 8#32
  let v345 : BitVec 32 := Scalar.muli v344 c8_i32_212
  v345
def k0_mult17 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c16_i32_220 : BitVec 32 := 16#32
  let v361 : BitVec 32 := Scalar.muli arg13 c16_i32_220
  let c15_i32_221 : BitVec 32 := 15#32
  let v362 : BitVec 32 := Scalar.addi v361 c15_i32_221
  let c8_i32_222 : BitVec 32 := 8#32
  let v363 : BitVec 32 := Scalar.muli v362 c8_i32_222
  v363
@[reducible] def k0_t3_loop : Scf.Loop 32 :=
  let c0_i32_61 : BitVec 32 := 0#32
  let c2_i32_62 : BitVec 32 := 2#32
  let v70 : BitVec 32 := Scalar.addi c0_i32_61 c2_i32_62
  let c1_i32_63 : BitVec 32 := 1#32
  ⟨c0_i32_61, v70, c1_i32_63⟩
def k0_mult18 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_82 : BitVec 32 := 16#32
  let v91 : BitVec 32 := Scalar.muli arg13 c16_i32_82
  let c0_i32_83 : BitVec 32 := 0#32
  let v92 : BitVec 32 := Scalar.addi v91 c0_i32_83
  let c8_i32 : BitVec 32 := 8#32
  let v93 : BitVec 32 := Scalar.muli v92 c8_i32
  v93
def k0_off9 (k0_t3 : Fin k0_t3_loop.trips) (c0_i32_83 : BitVec 32) : Fin 2 → Nat :=
  let c0_i32_61 : BitVec 32 := 0#32
  let c1_i32_63 : BitVec 32 := 1#32
  let arg13 : BitVec 32 := Scf.iv c0_i32_61 c1_i32_63 k0_t3
  let c16_i32_82 : BitVec 32 := 16#32
  let v91 : BitVec 32 := Scalar.muli arg13 c16_i32_82
  let v92 : BitVec 32 := Scalar.addi v91 c0_i32_83
  let c8_i32 : BitVec 32 := 8#32
  let v93 : BitVec 32 := Scalar.muli v92 c8_i32
  let v94 : BitVec 32 := v93
  let v95 : Index := Scalar.indexCast v94
  let c0_84 : Index := 0#32
  ![v95.toNat, 0]
def k0_off10 (k0_t3 : Fin k0_t3_loop.trips) (c0_i32_83 : BitVec 32) : Fin 3 → Nat :=
  let c2_86 : Index := 2#32
  let c0_i32_61 : BitVec 32 := 0#32
  let c1_i32_63 : BitVec 32 := 1#32
  let arg13 : BitVec 32 := Scf.iv c0_i32_61 c1_i32_63 k0_t3
  let c16_i32_82 : BitVec 32 := 16#32
  let v91 : BitVec 32 := Scalar.muli arg13 c16_i32_82
  let v92 : BitVec 32 := Scalar.addi v91 c0_i32_83
  let c8_i32 : BitVec 32 := 8#32
  let v93 : BitVec 32 := Scalar.muli v92 c8_i32
  let v94 : BitVec 32 := v93
  let c0_i32_85 : BitVec 32 := 0#32
  let v97 : BitVec 32 := Scalar.addi v94 c0_i32_85
  let v98 : Index := Scalar.indexCast v97
  let c0_87 : Index := 0#32
  ![2, v98.toNat, 0]
def k0_off11 (k0_t3 : Fin k0_t3_loop.trips) (c0_i32_83 : BitVec 32) : Fin 2 → Nat :=
  let c0_i32_61 : BitVec 32 := 0#32
  let c1_i32_63 : BitVec 32 := 1#32
  let arg13 : BitVec 32 := Scf.iv c0_i32_61 c1_i32_63 k0_t3
  let c16_i32_82 : BitVec 32 := 16#32
  let v91 : BitVec 32 := Scalar.muli arg13 c16_i32_82
  let v92 : BitVec 32 := Scalar.addi v91 c0_i32_83
  let c8_i32 : BitVec 32 := 8#32
  let v93 : BitVec 32 := Scalar.muli v92 c8_i32
  let v94 : BitVec 32 := v93
  let c8_i32_88 : BitVec 32 := 8#32
  let v103 : BitVec 32 := Scalar.addi v94 c8_i32_88
  let v104 : Index := Scalar.indexCast v103
  let c0_89 : Index := 0#32
  ![v104.toNat, 0]
def k0_mult19 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_90 : BitVec 32 := 16#32
  let v108 : BitVec 32 := Scalar.muli arg13 c16_i32_90
  let c1_i32_91 : BitVec 32 := 1#32
  let v109 : BitVec 32 := Scalar.addi v108 c1_i32_91
  let c8_i32_92 : BitVec 32 := 8#32
  let v110 : BitVec 32 := Scalar.muli v109 c8_i32_92
  v110
def k0_mult20 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_99 : BitVec 32 := 16#32
  let v125 : BitVec 32 := Scalar.muli arg13 c16_i32_99
  let c2_i32_100 : BitVec 32 := 2#32
  let v126 : BitVec 32 := Scalar.addi v125 c2_i32_100
  let c8_i32_101 : BitVec 32 := 8#32
  let v127 : BitVec 32 := Scalar.muli v126 c8_i32_101
  v127
def k0_mult21 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_108 : BitVec 32 := 16#32
  let v142 : BitVec 32 := Scalar.muli arg13 c16_i32_108
  let c3_i32 : BitVec 32 := 3#32
  let v143 : BitVec 32 := Scalar.addi v142 c3_i32
  let c8_i32_109 : BitVec 32 := 8#32
  let v144 : BitVec 32 := Scalar.muli v143 c8_i32_109
  v144
def k0_mult22 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_116 : BitVec 32 := 16#32
  let v159 : BitVec 32 := Scalar.muli arg13 c16_i32_116
  let c4_i32 : BitVec 32 := 4#32
  let v160 : BitVec 32 := Scalar.addi v159 c4_i32
  let c8_i32_117 : BitVec 32 := 8#32
  let v161 : BitVec 32 := Scalar.muli v160 c8_i32_117
  v161
def k0_mult23 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_124 : BitVec 32 := 16#32
  let v176 : BitVec 32 := Scalar.muli arg13 c16_i32_124
  let c5_i32 : BitVec 32 := 5#32
  let v177 : BitVec 32 := Scalar.addi v176 c5_i32
  let c8_i32_125 : BitVec 32 := 8#32
  let v178 : BitVec 32 := Scalar.muli v177 c8_i32_125
  v178
def k0_mult24 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_132 : BitVec 32 := 16#32
  let v193 : BitVec 32 := Scalar.muli arg13 c16_i32_132
  let c6_i32 : BitVec 32 := 6#32
  let v194 : BitVec 32 := Scalar.addi v193 c6_i32
  let c8_i32_133 : BitVec 32 := 8#32
  let v195 : BitVec 32 := Scalar.muli v194 c8_i32_133
  v195
def k0_mult25 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_140 : BitVec 32 := 16#32
  let v210 : BitVec 32 := Scalar.muli arg13 c16_i32_140
  let c7_i32 : BitVec 32 := 7#32
  let v211 : BitVec 32 := Scalar.addi v210 c7_i32
  let c8_i32_141 : BitVec 32 := 8#32
  let v212 : BitVec 32 := Scalar.muli v211 c8_i32_141
  v212
def k0_mult26 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_148 : BitVec 32 := 16#32
  let v227 : BitVec 32 := Scalar.muli arg13 c16_i32_148
  let c8_i32_149 : BitVec 32 := 8#32
  let v228 : BitVec 32 := Scalar.addi v227 c8_i32_149
  let c8_i32_150 : BitVec 32 := 8#32
  let v229 : BitVec 32 := Scalar.muli v228 c8_i32_150
  v229
def k0_mult27 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_157 : BitVec 32 := 16#32
  let v244 : BitVec 32 := Scalar.muli arg13 c16_i32_157
  let c9_i32 : BitVec 32 := 9#32
  let v245 : BitVec 32 := Scalar.addi v244 c9_i32
  let c8_i32_158 : BitVec 32 := 8#32
  let v246 : BitVec 32 := Scalar.muli v245 c8_i32_158
  v246
def k0_mult28 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_165 : BitVec 32 := 16#32
  let v261 : BitVec 32 := Scalar.muli arg13 c16_i32_165
  let c10_i32 : BitVec 32 := 10#32
  let v262 : BitVec 32 := Scalar.addi v261 c10_i32
  let c8_i32_166 : BitVec 32 := 8#32
  let v263 : BitVec 32 := Scalar.muli v262 c8_i32_166
  v263
def k0_mult29 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_173 : BitVec 32 := 16#32
  let v278 : BitVec 32 := Scalar.muli arg13 c16_i32_173
  let c11_i32 : BitVec 32 := 11#32
  let v279 : BitVec 32 := Scalar.addi v278 c11_i32
  let c8_i32_174 : BitVec 32 := 8#32
  let v280 : BitVec 32 := Scalar.muli v279 c8_i32_174
  v280
def k0_mult30 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_181 : BitVec 32 := 16#32
  let v295 : BitVec 32 := Scalar.muli arg13 c16_i32_181
  let c12_i32 : BitVec 32 := 12#32
  let v296 : BitVec 32 := Scalar.addi v295 c12_i32
  let c8_i32_182 : BitVec 32 := 8#32
  let v297 : BitVec 32 := Scalar.muli v296 c8_i32_182
  v297
def k0_mult31 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_189 : BitVec 32 := 16#32
  let v312 : BitVec 32 := Scalar.muli arg13 c16_i32_189
  let c13_i32 : BitVec 32 := 13#32
  let v313 : BitVec 32 := Scalar.addi v312 c13_i32
  let c8_i32_190 : BitVec 32 := 8#32
  let v314 : BitVec 32 := Scalar.muli v313 c8_i32_190
  v314
def k0_mult32 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_197 : BitVec 32 := 16#32
  let v329 : BitVec 32 := Scalar.muli arg13 c16_i32_197
  let c14_i32 : BitVec 32 := 14#32
  let v330 : BitVec 32 := Scalar.addi v329 c14_i32
  let c8_i32_198 : BitVec 32 := 8#32
  let v331 : BitVec 32 := Scalar.muli v330 c8_i32_198
  v331
def k0_mult33 (k0_t3 : Fin k0_t3_loop.trips) : BitVec 32 :=
  let c0_i32_61 : BitVec 32 := 0#32
  let c1_i32_63 : BitVec 32 := 1#32
  let arg13 : BitVec 32 := Scf.iv c0_i32_61 c1_i32_63 k0_t3
  let c16_i32_205 : BitVec 32 := 16#32
  let v346 : BitVec 32 := Scalar.muli arg13 c16_i32_205
  let c15_i32_206 : BitVec 32 := 15#32
  let v347 : BitVec 32 := Scalar.addi v346 c15_i32_206
  let c8_i32_207 : BitVec 32 := 8#32
  let v348 : BitVec 32 := Scalar.muli v347 c8_i32_207
  v348
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SconvRefIdeal.lean ====
abbrev S4096x1536 : Shape := ⟨2, ![4096, 1536]⟩
abbrev S4x1536 : Shape := ⟨2, ![4, 1536]⟩
abbrev S1536 : Shape := ⟨1, ![1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S8x1536 : Shape := ⟨2, ![8, 1536]⟩

abbrev nBuf : Space → Nat
  | .hbm => 110
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S4096x1536, .f32⟩
  | .hbm, ⟨4, _⟩ => ⟨S_, .f32⟩
  | .hbm, ⟨5, _⟩ => ⟨S3x1536, .f32⟩
  | .hbm, ⟨6, _⟩ => ⟨S4099x1536, .f32⟩
  | .hbm, ⟨7, _⟩ => ⟨S_, .f32⟩
  | .hbm, ⟨8, _⟩ => ⟨S3x1536, .f32⟩
  | .hbm, ⟨9, _⟩ => ⟨S4096x1536, .f32⟩
  | .hbm, ⟨10, _⟩ => ⟨S1x1536, .f32⟩
  | .hbm, ⟨11, _⟩ => ⟨S1536, .f32⟩
  | .hbm, ⟨12, _⟩ => ⟨S1x1536, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S1x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S1536, .f32⟩
  | .hbm, ⟨42, _⟩ => ⟨S1x1536, .f32⟩
  | .hbm, ⟨43, _⟩ => ⟨S_, .f32⟩
  | .hbm, ⟨44, _⟩ => ⟨S1536, .f32⟩
  | .hbm, ⟨45, _⟩ => ⟨S4096x1536, .f32⟩
  | .hbm, ⟨46, _⟩ => ⟨S_, .f32⟩
  | .hbm, ⟨47, _⟩ => ⟨S1536, .f32⟩
  | .hbm, ⟨48, _⟩ => ⟨S1x1536, .f32⟩
  | .hbm, ⟨49, _⟩ => ⟨S4096x1536, .f32⟩
  | .hbm, ⟨50, _⟩ => ⟨S4096x1536, .f32⟩
  | .hbm, ⟨51, _⟩ => ⟨S_, .f32⟩
  | .hbm, ⟨52, _⟩ => ⟨S1536, .f32⟩
  | .hbm, ⟨53, _⟩ => ⟨S1x1536, .f32⟩
  | .hbm, ⟨54, _⟩ => ⟨S_, .f32⟩
  | .hbm, ⟨55, _⟩ => ⟨S4x1536, .f32⟩
  | .hbm, ⟨56, _⟩ => ⟨S_, .f32⟩
  | .hbm, ⟨57, _⟩ => ⟨S4099x1536, .f32⟩
  | .hbm, ⟨58, _⟩ => ⟨S4096x1536, .f32⟩
  | .hbm, ⟨59, _⟩ => ⟨S_, .f32⟩
  | .hbm, ⟨60, _⟩ => ⟨S1536, .f32⟩
  | .hbm, ⟨61, _⟩ => ⟨S1x1536, .f32⟩
  | .hbm, ⟨62, _⟩ => ⟨S4096x1536, .f32⟩
  | .hbm, ⟨63, _⟩ => ⟨S4096x1536, .f32⟩
  | .hbm, ⟨64, _⟩ => ⟨S_, .f32⟩
  | .hbm, ⟨65, _⟩ => ⟨S1536, .f32⟩
  | .hbm, ⟨66, _⟩ => ⟨S1x1536, .f32⟩
  | .hbm, ⟨67, _⟩ => ⟨S_, .f32⟩
  | .hbm, ⟨68, _⟩ => ⟨S4x1536, .f32⟩
  | .hbm, ⟨69, _⟩ => ⟨S4x1536, .f32⟩
  | .hbm, ⟨70, _⟩ => ⟨S_, .f32⟩
  | .hbm, ⟨71, _⟩ => ⟨S4099x1536, .f32⟩
  | .hbm, ⟨72, _⟩ => ⟨S4099x1536, .f32⟩
  | .hbm, ⟨73, _⟩ => ⟨S4096x1536, .f32⟩
  | .hbm, ⟨74, _⟩ => ⟨S_, .f32⟩
  | .hbm, ⟨75, _⟩ => ⟨S1536, .f32⟩
  | .hbm, ⟨76, _⟩ => ⟨S1x1536, .f32⟩
  | .hbm, ⟨77, _⟩ => ⟨S4096x1536, .f32⟩
  | .hbm, ⟨78, _⟩ => ⟨S4096x1536, .f32⟩
  | .hbm, ⟨79, _⟩ => ⟨S_, .f32⟩
  | .hbm, ⟨80, _⟩ => ⟨S1536, .f32⟩
  | .hbm, ⟨81, _⟩ => ⟨S1x1536, .f32⟩
  | .hbm, ⟨82, _⟩ => ⟨S_, .f32⟩
  | .hbm, ⟨83, _⟩ => ⟨S4x1536, .f32⟩
  | .hbm, ⟨84, _⟩ => ⟨S4x1536, .f32⟩
  | .hbm, ⟨85, _⟩ => ⟨S_, .f32⟩
  | .hbm, ⟨86, _⟩ => ⟨S4099x1536, .f32⟩
  | .hbm, ⟨87, _⟩ => ⟨S4099x1536, .f32⟩
  | .hbm, ⟨88, _⟩ => ⟨S4096x1536, .f32⟩
  | .hbm, ⟨89, _⟩ => ⟨S_, .f32⟩
  | .hbm, ⟨90, _⟩ => ⟨S1536, .f32⟩
  | .hbm, ⟨91, _⟩ => ⟨S1x1536, .f32⟩
  | .hbm, ⟨92, _⟩ => ⟨S4096x1536, .f32⟩
  | .hbm, ⟨93, _⟩ => ⟨S4096x1536, .f32⟩
  | .hbm, ⟨94, _⟩ => ⟨S_, .f32⟩
  | .hbm, ⟨95, _⟩ => ⟨S1536, .f32⟩
  | .hbm, ⟨96, _⟩ => ⟨S1x1536, .f32⟩
  | .hbm, ⟨97, _⟩ => ⟨S_, .f32⟩
  | .hbm, ⟨98, _⟩ => ⟨S4x1536, .f32⟩
  | .hbm, ⟨99, _⟩ => ⟨S4x1536, .f32⟩
  | .hbm, ⟨100, _⟩ => ⟨S_, .f32⟩
  | .hbm, ⟨101, _⟩ => ⟨S4099x1536, .f32⟩
  | .hbm, ⟨102, _⟩ => ⟨S4099x1536, .f32⟩
  | .hbm, ⟨103, _⟩ => ⟨S3x1536, .f32⟩
  | .hbm, ⟨104, _⟩ => ⟨S4096x1536, .f32⟩
  | .hbm, ⟨105, _⟩ => ⟨S4096x1536, .bf16⟩
  | .hbm, ⟨106, _⟩ => ⟨S_, .f32⟩
  | .hbm, ⟨107, _⟩ => ⟨S4x1536, .f32⟩
  | .hbm, ⟨108, _⟩ => ⟨S8x1536, .f32⟩
  | .hbm, ⟨109, _⟩ => ⟨S1x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_19 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Fconv.lean ====
abbrev S4096x1536 : Shape := ⟨2, ![4096, 1536]⟩
abbrev S4x1536 : Shape := ⟨2, ![4, 1536]⟩
abbrev S1536 : Shape := ⟨1, ![1536]⟩
abbrev S1x1536 : Shape := ⟨2, ![1, 1536]⟩
abbrev S4x8x1536 : Shape := ⟨3, ![4, 8, 1536]⟩
abbrev S32x1536 : Shape := ⟨2, ![32, 1536]⟩
abbrev S256x1536 : Shape := ⟨2, ![256, 1536]⟩
abbrev S8x1536 : Shape := ⟨2, ![8, 1536]⟩
abbrev S264x1536 : Shape := ⟨2, ![264, 1536]⟩
abbrev S3x256x1536 : Shape := ⟨3, ![3, 256, 1536]⟩
abbrev S1x256x1536 : Shape := ⟨3, ![1, 256, 1536]⟩
abbrev S1x8x1536 : Shape := ⟨3, ![1, 8, 1536]⟩
abbrev S16x1536 : Shape := ⟨2, ![16, 1536]⟩

abbrev nBuf : Space → Nat
  | .hbm => 7
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S4x8x1536, .f32⟩
  | .hbm, ⟨5, _⟩ => ⟨S32x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S32x1536, .f32⟩
  | .local _ .vmem, ⟨5, _⟩ => ⟨S1x1536, .f32⟩
  | .local _ .vmem, ⟨6, _⟩ => ⟨S256x1536, .f32⟩
  | .local _ .vmem, ⟨7, _⟩ => ⟨S256x1536, .f32⟩
  | .local _ .vmem, ⟨8, _⟩ => ⟨S264x1536, .f32⟩
  | .local _ .vmem, ⟨9, _⟩ => ⟨S3x256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_17 : BitVec 32 := 0#32
  let c16_i32 : BitVec 32 := 16#32
  let v24 : BitVec 32 := Scalar.addi c0_i32_17 c16_i32
  let c1_i32 : BitVec 32 := 1#32
  ⟨c0_i32_17, v24, c1_i32⟩
def k0_mult1 (k0_t1 : Fin k0_t1_loop.trips) : BitVec 32 :=
  let c0_i32_17 : BitVec 32 := 0#32
  let c1_i32 : BitVec 32 := 1#32
  let arg8 : BitVec 32 := Scf.iv c0_i32_17 c1_i32 k0_t1
  let c16_i32_19 : BitVec 32 := 16#32
  let v25 : BitVec 32 := Scalar.muli arg8 c16_i32_19
  v25
def k0_off1 (k0_t1 : Fin k0_t1_loop.trips) (c0_i32_22 : BitVec 32) : Fin 3 → Nat :=
  let c0_24 : Index := 0#32
  let c0_i32_17 : BitVec 32 := 0#32
  let c1_i32 : BitVec 32 := 1#32
  let arg8 : BitVec 32 := Scf.iv c0_i32_17 c1_i32 k0_t1
  let c16_i32_19 : BitVec 32 := 16#32
  let v25 : BitVec 32 := Scalar.muli arg8 c16_i32_19
  let v26 : BitVec 32 := v25
  let v29 : BitVec 32 := Scalar.addi v26 c0_i32_22
  let c0_i32_23 : BitVec 32 := 0#32
  let v30 : BitVec 32 := Scalar.addi v29 c0_i32_23
  let v31 : Index := Scalar.indexCast v30
  let c0_25 : Index := 0#32
  ![0, v31.toNat, 0]
def k0_off2 (k0_t1 : Fin k0_t1_loop.trips) (c0_i32_31 : BitVec 32) : Fin 3 → Nat :=
  let c1_33 : Index := 1#32
  let c0_i32_17 : BitVec 32 := 0#32
  let c1_i32 : BitVec 32 := 1#32
  let arg8 : BitVec 32 := Scf.iv c0_i32_17 c1_i32 k0_t1
  let c16_i32_19 : BitVec 32 := 16#32
  let v25 : BitVec 32 := Scalar.muli arg8 c16_i32_19
  let v26 : BitVec 32 := v25
  let v43 : BitVec 32 := Scalar.addi v26 c0_i32_31
  let c0_i32_32 : BitVec 32 := 0#32
  let v44 : BitVec 32 := Scalar.addi v43 c0_i32_32
  let v45 : Index := Scalar.indexCast v44
  let c0_34 : Index := 0#32
  ![1, v45.toNat, 0]
def k0_off3 (k0_t1 : Fin k0_t1_loop.trips) (c0_i32_40 : BitVec 32) : Fin 3 → Nat :=
  let c2_42 : Index := 2#32
  let c0_i32_17 : BitVec 32 := 0#32
  let c1_i32 : BitVec 32 := 1#32
  let arg8 : BitVec 32 := Scf.iv c0_i32_17 c1_i32 k0_t1
  let c16_i32_19 : BitVec 32 := 16#32
  let v25 : BitVec 32 := Scalar.muli arg8 c16_i32_19
  let v26 : BitVec 32 := v25
  let v59 : BitVec 32 := Scalar.addi v26 c0_i32_40
  let c0_i32_41 : BitVec 32 := 0#32
  let v60 : BitVec 32 := Scalar.addi v59 c0_i32_41
  let v61 : Index := Scalar.indexCast v60
  let c0_43 : Index := 0#32
  ![2, v61.toNat, 0]
def k0_off4 (k0_t1 : Fin k0_t1_loop.trips) (c0_i32_49 : BitVec 32) : Fin 2 → Nat :=
  let c0_i32_17 : BitVec 32 := 0#32
  let c1_i32 : BitVec 32 := 1#32
  let arg8 : BitVec 32 := Scf.iv c0_i32_17 c1_i32 k0_t1
  let c16_i32_19 : BitVec 32 := 16#32
  let v25 : BitVec 32 := Scalar.muli arg8 c16_i32_19
  let v26 : BitVec 32 := v25
  let v75 : BitVec 32 := Scalar.addi v26 c0_i32_49
  let c8_i32_50 : BitVec 32 := 8#32
  let v76 : BitVec 32 := Scalar.addi v75 c8_i32_50
  let v77 : Index := Scalar.indexCast v76
  let c0_51 : Index := 0#32
  ![v77.toNat, 0]
def k0_off5 (k0_t1 : Fin k0_t1_loop.trips) : Fin 2 → Nat :=
  let c0_i32_17 : BitVec 32 := 0#32
  let c1_i32 : BitVec 32 := 1#32
  let arg8 : BitVec 32 := Scf.iv c0_i32_17 c1_i32 k0_t1
  let c16_i32_19 : BitVec 32 := 16#32
  let v25 : BitVec 32 := Scalar.muli arg8 c16_i32_19
  let v26 : BitVec 32 := v25
  let v92 : Index := Scalar.indexCast v26
  let c0_57 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FconvRefIdeal.lean ====
abbrev S4096x1536 : Shape := ⟨2, ![4096, 1536]⟩
abbrev S4x1536 : Shape := ⟨2, ![4, 1536]⟩
abbrev S1536 : Shape := ⟨1, ![1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩

abbrev nBuf : Space → Nat
  | .hbm => 36
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S_, .f32⟩
  | .hbm, ⟨4, _⟩ => ⟨S3x1536, .f32⟩
  | .hbm, ⟨5, _⟩ => ⟨S4099x1536, .f32⟩
  | .hbm, ⟨6, _⟩ => ⟨S4096x1536, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S4096x1536, .f32⟩
  | .hbm, ⟨11, _⟩ => ⟨S4096x1536, .f32⟩
  | .hbm, ⟨12, _⟩ => ⟨S4096x1536, .f32⟩
  | .hbm, ⟨13, _⟩ => ⟨S1x1536, .f32⟩
  | .hbm, ⟨14, _⟩ => ⟨S1536, .f32⟩
  | .hbm, ⟨15, _⟩ => ⟨S1x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S1x1536, .f32⟩
  | .hbm, ⟨28, _⟩ => ⟨S1536, .f32⟩
  | .hbm, ⟨29, _⟩ => ⟨S1x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S1x1536, .f32⟩
  | .hbm, ⟨34, _⟩ => ⟨S4096x1536, .f32⟩
  | .hbm, ⟨35, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Outf.lean ====
abbrev S4096x1024 : Shape := ⟨2, ![4096, 1024]⟩
abbrev S1024 : Shape := ⟨1, ![1024]⟩
abbrev S2048x1024 : Shape := ⟨2, ![2048, 1024]⟩
abbrev S_ : Shape := ⟨0, ![]⟩
abbrev S4x2048x1024 : Shape := ⟨3, ![4, 2048, 1024]⟩
abbrev S4x512x1024 : Shape := ⟨3, ![4, 512, 1024]⟩
abbrev S4x2560x1024 : Shape := ⟨3, ![4, 2560, 1024]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S2048x1024, .f32⟩
  | .hbm, ⟨5, _⟩ => ⟨S4096x1024, .bf16⟩
  | .hbm, ⟨6, _⟩ => ⟨S4096x1024, .bf16⟩
  | .hbm, ⟨7, _⟩ => ⟨S_, .bf16⟩
  | .hbm, ⟨8, _⟩ => ⟨S4x2048x1024, .bf16⟩
  | .hbm, ⟨9, _⟩ => ⟨S2048x1024, .bf16⟩
  | .hbm, ⟨10, _⟩ => ⟨S4x512x1024, .bf16⟩
  | .hbm, ⟨11, _⟩ => ⟨S4x2560x1024, .bf16⟩
  | .hbm, ⟨12, _⟩ => ⟨S1x1024, .f32⟩
  | .hbm, ⟨13, _⟩ => ⟨S4096x1024, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x512x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutfRefIdeal.lean ====
abbrev S4096x1024 : Shape := ⟨2, ![4096, 1024]⟩
abbrev S1024 : Shape := ⟨1, ![1024]⟩
abbrev S2048x1024 : Shape := ⟨2, ![2048, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Mlpf.lean ====
abbrev S4096x1024 : Shape := ⟨2, ![4096, 1024]⟩
abbrev S1024x4096 : Shape := ⟨2, ![1024, 4096]⟩
abbrev S1024 : Shape := ⟨1, ![1024]⟩
abbrev S1024x4x1024 : Shape := ⟨3, ![1024, 4, 1024]⟩
abbrev S4x1024x1024 : Shape := ⟨3, ![4, 1024, 1024]⟩
abbrev S4x2048x1024 : Shape := ⟨3, ![4, 2048, 1024]⟩
abbrev S1x1024 : Shape := ⟨2, ![1, 1024]⟩
abbrev S4096x4096 : Shape := ⟨2, ![4096, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .bf16⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4x1024x1024, .bf16⟩
  | .hbm, ⟨11, _⟩ => ⟨S4x2048x1024, .bf16⟩
  | .hbm, ⟨12, _⟩ => ⟨S1x1024, .f32⟩
  | .hbm, ⟨13, _⟩ => ⟨S4096x4096, .bf16⟩
  | .hbm, ⟨14, _⟩ => ⟨S4096x1024, .f32⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_16 : BitVec 32 := 0#32
  let v24 : BitVec 1 := Scalar.cmpi .ne v23 c0_i32_16
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpfRefIdeal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x4096, .bf16⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Inpf.lean ====
abbrev S4096x1024 : Shape := ⟨2, ![4096, 1024]⟩
abbrev S1024 : Shape := ⟨1, ![1024]⟩
abbrev S1024x4624 : Shape := ⟨2, ![1024, 4624]⟩
abbrev S1x1024 : Shape := ⟨2, ![1, 1024]⟩
abbrev S4624x1024 : Shape := ⟨2, ![4624, 1024]⟩
abbrev S4x1156x1024 : Shape := ⟨3, ![4, 1156, 1024]⟩
abbrev S_ : Shape := ⟨0, ![]⟩
abbrev S4x1184x1024 : Shape := ⟨3, ![4, 1184, 1024]⟩
abbrev S4096x1536 : Shape := ⟨2, ![4096, 1536]⟩
abbrev S4096x128 : Shape := ⟨2, ![4096, 128]⟩
abbrev S256x1024 : Shape := ⟨2, ![256, 1024]⟩
abbrev S256x1536 : Shape := ⟨2, ![256, 1536]⟩
abbrev S256x128 : Shape := ⟨2, ![256, 128]⟩
abbrev S1x1156x1024 : Shape := ⟨3, ![1, 1156, 1024]⟩
abbrev S1156x1024 : Shape := ⟨2, ![1156, 1024]⟩
abbrev S256 : Shape := ⟨1, ![256]⟩
abbrev S256x1 : Shape := ⟨2, ![256, 1]⟩
abbrev S1024x1024 : Shape := ⟨2, ![1024, 1024]⟩
abbrev S1536x1024 : Shape := ⟨2, ![1536, 1024]⟩
abbrev S128x1024 : Shape := ⟨2, ![128, 1024]⟩

abbrev nBuf : Space → Nat
  | .hbm => 17
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4624, .f32⟩
  | .hbm, ⟨3, _⟩ => ⟨S1x1024, .f32⟩
  | .hbm, ⟨4, _⟩ => ⟨S4624x1024, .f32⟩
  | .hbm, ⟨5, _⟩ => ⟨S4624x1024, .bf16⟩
  | .hbm, ⟨6, _⟩ => ⟨S4x1156x1024, .bf16⟩
  | .hbm, ⟨7, _⟩ => ⟨S_, .i32⟩
  | .hbm, ⟨8, _⟩ => ⟨S_, .bf16⟩
  | .hbm, ⟨9, _⟩ => ⟨S4x1184x1024, .bf16⟩
  | .hbm, ⟨10, _⟩ => ⟨S4096x1024, .bf16⟩
  | .hbm, ⟨11, _⟩ => ⟨S4096x1024, .f32⟩
  | .hbm, ⟨12, _⟩ => ⟨S4096x1536, .f32⟩
  | .hbm, ⟨13, _⟩ => ⟨S4096x1024, .f32⟩
  | .hbm, ⟨14, _⟩ => ⟨S4096x1024, .f32⟩
  | .hbm, ⟨15, _⟩ => ⟨S4096x128, .f32⟩
  | .hbm, ⟨16, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1184x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1536, .f32⟩
  | .local _ .vmem, ⟨9, _⟩ => ⟨S256x1536, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | .local _ .vmem, ⟨18, _⟩ => ⟨S4624x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1184x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InpfRefIdeal.lean ====
abbrev S4096x1024 : Shape := ⟨2, ![4096, 1024]⟩
abbrev S1024 : Shape := ⟨1, ![1024]⟩
abbrev S1024x4624 : Shape := ⟨2, ![1024, 4624]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4624 : Shape := ⟨2, ![4096, 4624]⟩
abbrev S4096x1536 : Shape := ⟨2, ![4096, 1536]⟩
abbrev S4096x16 : Shape := ⟨2, ![4096, 16]⟩
abbrev S4096x128 : Shape := ⟨2, ![4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4624, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4624, .f32⟩
  | .hbm, ⟨20, _⟩ => ⟨S4096x1024, .f32⟩
  | .hbm, ⟨21, _⟩ => ⟨S4096x1536, .f32⟩
  | .hbm, ⟨22, _⟩ => ⟨S4096x16, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x128, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Reals.lean ====
/- Extended reals that are real numbers: the arithmetic of the kernels and of the references on finite arguments,
   carried to the real numbers, and the identities of the layer norm and of its gradient there. -/
module

public import Idealize.ShloMosaic.Lib.Pointwise
public import Idealize.ShloMosaic.Lib.IdealHost

@[expose] public section

noncomputable section

namespace Cert.Reals

open Idealize.ShloMosaic

/-- A finite sum of real numbers is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_coe_coe {y : ℝ} (h : y ≠ 0) (x : ℝ) : Ideal.div (x : EReal) (y : EReal) = ((x / y : ℝ) : EReal) := by
  rw [Ideal.div_coe h, ← EReal.coe_mul, mul_one_div]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem c1024 : Ideal.ofBits .f32 0x44800000#32 = ((1024 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

/-- The norms' small constant, `f32` nearest `1e-6`. -/
def eps : ℝ := 8796093 / 2 ^ 43

theorem eps_pos : 0 < eps := by unfold eps; positivity

theorem cEps : Ideal.ofBits .f32 0x358637BD#32 = ((eps : ℝ) : EReal) := by
  unfold eps
  simp [Ideal.ofBits, Ideal.ieee, -EReal.coe_mul]; norm_num

/-- An extended real whose absolute value is below `+∞` is a real number. -/
theorem coe_toReal_of_abs {x : EReal} (h : FloatOps.cmpf (F := Ideal) (φ := .f32) .olt (FloatOps.hostAbsf (F := Ideal) (φ := .f32) x) (Ideal.ofBits .f32 0x7F800000#32) = 1#1) :
    x = ((x.toReal : ℝ) : EReal) := by
  have hT : Ideal.ofBits .f32 0x7F800000#32 = ⊤ := by simp [Ideal.ofBits, Ideal.ieee]
  rw [hT] at h
  have h' : max x (-x) < ⊤ := by
    by_contra hc
    have : FloatOps.cmpf (F := Ideal) (φ := .f32) .olt (FloatOps.hostAbsf (F := Ideal) (φ := .f32) x) ⊤ = BitVec.ofBool (decide (max x (-x) < ⊤)) := rfl
    rw [this, decide_eq_false hc] at h
    exact absurd h (by decide)
  refine (EReal.coe_toReal ?_ ?_).symm
  · rintro rfl; simp at h'
  · rintro rfl; simp at h'

/-! ## Layer norm of a row of 1024 numbers, in the real numbers -/

/-- The mean of a row. -/
def mean (x : Fin 1024 → ℝ) : ℝ := (∑ k, x k) / 1024
/-- The row less its mean. -/
def cen (x : Fin 1024 → ℝ) (l : Fin 1024) : ℝ := x l - mean x
/-- The reciprocal root of the row's mean square and the small constant. -/
def rs (x : Fin 1024 → ℝ) : ℝ := (Real.sqrt (mean (fun k => x k * x k) + eps))⁻¹
/-- The normalised row. -/
def hat (x : Fin 1024 → ℝ) (l : Fin 1024) : ℝ := cen x l * rs (cen x)
/-- The logistic function. -/
def sigm (y : ℝ) : ℝ := (1 + Real.exp (-y))⁻¹
/-- The derivative of `y · sigm y`. -/
def dsilu (y : ℝ) : ℝ := sigm y * (1 + y * (1 - sigm y))
/-- The gradient of the layer norm at the row `x`, on the gradient `d` of the normalised row. -/
def lnBwd (x d : Fin 1024 → ℝ) (l : Fin 1024) : ℝ :=
  rs (cen x) * (d l - mean d - hat x l * mean (fun k => d k * hat x k))

theorem msq_nonneg (x : Fin 1024 → ℝ) : 0 ≤ mean (fun k => x k * x k) :=
  div_nonneg (Finset.sum_nonneg fun k _ => mul_self_nonneg (x k)) (by norm_num)

theorem msq_eps_pos (x : Fin 1024 → ℝ) : 0 < mean (fun k => x k * x k) + eps := add_pos_of_nonneg_of_pos (msq_nonneg x) eps_pos

theorem rs_div (x : Fin 1024 → ℝ) : rs x / (mean (fun k => x k * x k) + eps) = rs x * rs x * rs x := by
  have h := msq_eps_pos x
  unfold rs
  generalize mean (fun k => x k * x k) + eps = v at h ⊢
  have hs : Real.sqrt v * Real.sqrt v = v := Real.mul_self_sqrt h.le
  have h0 : Real.sqrt v ≠ 0 := (Real.sqrt_pos.mpr h).ne'
  rw [div_eq_mul_inv, mul_assoc]
  congr 1
  rw [← mul_inv, hs]

theorem sum_cen (x : Fin 1024 → ℝ) : ∑ k, cen x k = 0 := by
  unfold cen mean
  rw [Finset.sum_sub_distrib, Finset.sum_const, Finset.card_univ, Fintype.card_fin, nsmul_eq_mul]
  push_cast; ring

/-- The derivative of the layer norm as the chain rule writes it out — through the mean square, then through the
    mean — is `lnBwd`. -/
theorem lnBwd_eq (x d : Fin 1024 → ℝ) (l : Fin 1024)
    (c : ℝ) (hc : c = (∑ k, cen x k * d k) * (-(1 / 2) * (rs (cen x) / (mean (fun k => cen x k * cen x k) + eps))) / 1024) :
    (d l * rs (cen x) + cen x l * c + c * cen x l)
      + (∑ k, -(d k * rs (cen x) + cen x k * c + c * cen x k)) / 1024 = lnBwd x d l := by
  rw [rs_div] at hc
  have h1 : ∑ k, -(d k * rs (cen x) + cen x k * c + c * cen x k) = -((∑ k, d k) * rs (cen x)) := by
    rw [Finset.sum_neg_distrib, Finset.sum_add_distrib, Finset.sum_add_distrib, ← Finset.sum_mul, ← Finset.sum_mul, ← Finset.mul_sum, sum_cen]
    ring
  have h2 : ∑ k, d k * hat x k = (∑ k, cen x k * d k) * rs (cen x) := by
    rw [Finset.sum_mul]; exact Finset.sum_congr rfl fun k _ => by unfold hat; ring
  unfold lnBwd
  rw [h1, show mean (fun k => d k * hat x k) = (∑ k, d k * hat x k) / 1024 from rfl, h2, hc, show hat x l = cen x l * rs (cen x) from rfl,
    show mean d = (∑ k, d k) / 1024 from rfl]
  ring

/-- The derivative of `y · sigm y` by the product rule is `dsilu`. -/
theorem dsilu_eq (y a : ℝ) : a * sigm y + y * a * (sigm y * (1 - sigm y)) = a * dsilu y := by unfold dsilu; ring

end Cert.Reals

end
-- ==== Proof.OutRef.lean ====
/- The reference of the output projection's gradient, read element by element on finite arguments. -/
module

public import proofs.«01_k».proof.Proof.Reals
public import proofs.«01_k».proof.Proof.Gen.ReferenceIdeal.Read

@[expose] public section

set_option maxRecDepth 16384

noncomputable section

namespace Cert.ReferenceIdeal.Out

open Cert.ReferenceIdeal Cert.ReferenceIdeal.Gen Cert.ReferenceIdeal.Read Cert.Reals Idealize.ShloMosaic

variable {X DH : Fin 4096 → Fin 1024 → ℝ} {G B : Fin 1024 → ℝ} {W : Fin 2048 → Fin 1024 → ℝ}
variable {x1 x5 : FVec Ideal S4096x1024 .f32} {x2 x3 : FVec Ideal S1024 .f32} {x4 : FVec Ideal S2048x1024 .f32}

/-- The gradient of the normalised row: the cotangent's product with the weight's second half, through the gate. -/
def dyc (DH : Fin 4096 → Fin 1024 → ℝ) (W : Fin 2048 → Fin 1024 → ℝ) (r : Fin 4096) (l : Fin 1024) : ℝ :=
  ∑ k, DH r k * W ⟨1024 + l.val, by omega⟩ k

/-- The gradient at the layer norm's output. -/
def dyn (X DH : Fin 4096 → Fin 1024 → ℝ) (G B : Fin 1024 → ℝ) (W : Fin 2048 → Fin 1024 → ℝ) (r : Fin 4096) (l : Fin 1024) : ℝ :=
  dyc DH W r l * dsilu (hat (X r) l * G l + B l)

theorem v5_eq (h1 : ∀ r l, x1 (ix2 r l) = ((X r l : ℝ) : EReal)) (r : Fin 4096) (l : Fin 1024) :
    val_main_v5 (F := Ideal) x1 (ix2 r l) = ((cen (X r) l : ℝ) : EReal) := by
  pointwise [val_main_v5, val_main_v4, val_main_v3, val_main_v2, val_main_v1, val_main_v0, val_main_cst_0, val_main_cst]
  simp only [h1, coe_sum, c1024, div_coe_coe (show (1024 : ℝ) ≠ 0 by norm_num), ← EReal.coe_sub]
  rfl

theorem v12_eq (h1 : ∀ r l, x1 (ix2 r l) = ((X r l : ℝ) : EReal)) (r : Fin 4096) (z : Fin 1) :
    val_main_v12 (F := Ideal) x1 (ix2 r z) = ((mean (fun k => cen (X r) k * cen (X r) k) + eps : ℝ) : EReal) := by
  have h := v5_eq h1
  pointwise [val_main_v12, val_main_v11, val_main_v10, val_main_v9, val_main_v8, val_main_v7, val_main_v6, val_main_cst_1, val_main_cst_2, val_main_cst_3]
  simp only [h, coe_sum, c1024, cEps, div_coe_coe (show (1024 : ℝ) ≠ 0 by norm_num), ← EReal.coe_mul, ← EReal.coe_add]
  rfl

theorem v13_eq (h1 : ∀ r l, x1 (ix2 r l) = ((X r l : ℝ) : EReal)) (r : Fin 4096) (z : Fin 1) :
    val_main_v13 (F := Ideal) x1 (ix2 r z) = ((rs (cen (X r)) : ℝ) : EReal) := by
  have h := v12_eq h1 r z
  pointwise [val_main_v13]
  rw [h, rsqrt_pos (msq_eps_pos _)]
  rfl

theorem v16_eq (h1 : ∀ r l, x1 (ix2 r l) = ((X r l : ℝ) : EReal)) (r : Fin 4096) (z : Fin 1) :
    val_main_v16 (F := Ideal) x1 (ix2 r z)
      = ((-(1 / 2) * (rs (cen (X r)) / (mean (fun k => cen (X r) k * cen (X r) k) + eps)) : ℝ) : EReal) := by
  have h := v12_eq h1 r z
  have h' := v13_eq h1 r z
  pointwise [val_main_v16, val_main_v15, val_main_v14, val_main_cst_4]
  rw [h, h', cNegHalf, div_coe_coe (msq_eps_pos _).ne', ← EReal.coe_mul]

theorem v18_eq (h1 : ∀ r l, x1 (ix2 r l) = ((X r l : ℝ) : EReal)) (r : Fin 4096) (l : Fin 1024) :
    val_main_v18 (F := Ideal) x1 (ix2 r l) = ((hat (X r) l : ℝ) : EReal) := by
  have h := v5_eq h1
  have h' := v13_eq h1
  pointwise [val_main_v18, val_main_v17]
  simp only [h, h', ← EReal.coe_mul]
  rfl

theorem v24_eq (h1 : ∀ r l, x1 (ix2 r l) = ((X r l : ℝ) : EReal)) (h2 : ∀ l, x2 (ix1 l) = ((G l : ℝ) : EReal))
    (h3 : ∀ l, x3 (ix1 l) = ((B l : ℝ) : EReal)) (r : Fin 4096) (l : Fin 1024) :
    val_main_v24 (F := Ideal) x1 x2 x3 (ix2 r l) = ((hat (X r) l * G l + B l : ℝ) : EReal) := by
  have h := v18_eq h1
  pointwise [val_main_v24, val_main_v23, val_main_v22, val_main_v21, val_main_v20, val_main_v19]
  simp only [h, h2, h3, ← EReal.coe_mul, ← EReal.coe_add]

theorem v25_2_eq (h1 : ∀ r l, x1 (ix2 r l) = ((X r l : ℝ) : EReal)) (h2 : ∀ l, x2 (ix1 l) = ((G l : ℝ) : EReal))
    (h3 : ∀ l, x3 (ix1 l) = ((B l : ℝ) : EReal)) (r : Fin 4096) (l : Fin 1024) :
    val_main_v25_2 (F := Ideal) x1 x2 x3 (ix2 r l) = ((sigm (hat (X r) l * G l + B l) : ℝ) : EReal) := by
  have h := v24_eq h1 h2 h3
  pointwise [val_main_v25_2, val_main_call0_v4, val_main_call0_v3, val_main_call0_v2, val_main_call0_v1, val_main_call0_v0, val_main_call0_cst, val_main_call0_cst_0]
  simp only [h, ← EReal.coe_one, ← EReal.coe_neg, Ideal.exp_coe, ← EReal.coe_add]
  rw [div_coe_coe (by positivity)]
  unfold sigm
  rw [one_div]

theorem v30_eq (h4 : ∀ r l, x4 (ix2 r l) = ((W r l : ℝ) : EReal)) (h5 : ∀ r l, x5 (ix2 r l) = ((DH r l : ℝ) : EReal)) (r : Fin 4096) (l : Fin 1024) :
    val_main_v30 (F := Ideal) x4 x5 (ix2 r l) = ((dyc DH W r l : ℝ) : EReal) := by
  pointwise [val_main_v30, val_main_v28]
  simp only [h4, h5, ← EReal.coe_mul, coe_sum]
  rfl

theorem v31_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (r : Fin 4096) (l : Fin 1024) :
    val_main_v31 (F := Ideal) x1 x2 x3 x4 x5 (ix2 r l) = ((dyn X DH G B W r l : ℝ) : EReal) := by
  have h := v24_eq h1 h2 h3
  have h' := v25_2_eq h1 h2 h3
  have h'' := v30_eq h4 h5
  pointwise [val_main_v31, val_main_call1_v0, val_main_call1_v1, val_main_call1_v2, val_main_v25_1, val_main_call0_v7, val_main_call0_v6, val_main_call0_cst_1]
  simp only [h, h', h'', ← EReal.coe_one, ← EReal.coe_mul, ← EReal.coe_sub, ← EReal.coe_add]
  exact congrArg _ (dsilu_eq _ _)

/-- The gradient of the layer norm's offset: the column sums of the gradient at its output. -/
theorem v64_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (z : Fin 1) (l : Fin 1024) :
    val_main_v64 (F := Ideal) x1 x2 x3 x4 x5 (ix2 z l) = ((∑ r, dyn X DH G B W r l : ℝ) : EReal) := by
  have h := v31_eq h1 h2 h3 h4 h5
  pointwise [val_main_v64, val_main_v34, val_main_v33, val_main_v32, val_main_cst_5, val_main_cst_6]
  simp only [h, coe_sum, Finset.univ_unique, Finset.sum_singleton]

/-- The gradient of the layer norm's weight. -/
theorem v63_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (z : Fin 1) (l : Fin 1024) :
    val_main_v63 (F := Ideal) x1 x2 x3 x4 x5 (ix2 z l) = ((∑ r, dyn X DH G B W r l * hat (X r) l : ℝ) : EReal) := by
  have h := v31_eq h1 h2 h3 h4 h5
  have h' := v18_eq h1
  pointwise [val_main_v63, val_main_v40, val_main_v37, val_main_v36, val_main_v35, val_main_cst_7, val_main_cst_8]
  simp only [h, h', ← EReal.coe_mul, coe_sum, Finset.univ_unique, Finset.sum_singleton]
  exact congrArg _ (Finset.sum_congr rfl fun r _ => mul_comm _ _)

theorem v39_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (r : Fin 4096) (l : Fin 1024) :
    val_main_v39 (F := Ideal) x1 x2 x3 x4 x5 (ix2 r l) = ((dyn X DH G B W r l * G l : ℝ) : EReal) := by
  have h := v31_eq h1 h2 h3 h4 h5
  pointwise [val_main_v39, val_main_v38, val_main_v19]
  simp only [h, h2, ← EReal.coe_mul]

theorem v50_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (r : Fin 4096) (l : Fin 1024) :
    val_main_v50 (F := Ideal) x1 x2 x3 x4 x5 (ix2 r l)
      = (((∑ k, cen (X r) k * (dyn X DH G B W r k * G k)) * (-(1 / 2) * (rs (cen (X r)) / (mean (fun k => cen (X r) k * cen (X r) k) + eps))) / 1024 : ℝ) : EReal) := by
  have h := v39_eq h1 h2 h3 h4 h5
  have h' := v5_eq h1
  have h'' := v16_eq h1
  pointwise [val_main_v50, val_main_v49, val_main_v48, val_main_v47, val_main_v46, val_main_v43, val_main_v42, val_main_v41, val_main_cst_9, val_main_cst_10, val_main_cst_11]
  simp only [h, h', h'', ← EReal.coe_mul, coe_sum, c1024, div_coe_coe (show (1024 : ℝ) ≠ 0 by norm_num), Finset.univ_unique, Finset.sum_singleton]

theorem v54_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (r : Fin 4096) (c : ℝ)
    (hc : c = (∑ k, cen (X r) k * (dyn X DH G B W r k * G k)) * (-(1 / 2) * (rs (cen (X r)) / (mean (fun k => cen (X r) k * cen (X r) k) + eps))) / 1024)
    (l : Fin 1024) :
    val_main_v54 (F := Ideal) x1 x2 x3 x4 x5 (ix2 r l)
      = (((dyn X DH G B W r l * G l) * rs (cen (X r)) + cen (X r) l * c + c * cen (X r) l : ℝ) : EReal) := by
  have h := v39_eq h1 h2 h3 h4 h5 r l
  have h' := v5_eq h1 r l
  have h'' := v13_eq h1 r
  have h50 := v50_eq h1 h2 h3 h4 h5 r l
  rw [← hc] at h50
  pointwise [val_main_v54, val_main_v53, val_main_v52, val_main_v51, val_main_v45, val_main_v44]
  simp only [h, h', h'', h50, ← EReal.coe_mul, ← EReal.coe_add]

/-- The gradient of the layer norm's input. -/
theorem v62_eq (h1 : ∀ r l, x1 (ix2 r l) = ((X r l : ℝ) : EReal)) (h2 : ∀ l, x2 (ix1 l) = ((G l : ℝ) : EReal))
    (h3 : ∀ l, x3 (ix1 l) = ((B l : ℝ) : EReal)) (h4 : ∀ r l, x4 (ix2 r l) = ((W r l : ℝ) : EReal))
    (h5 : ∀ r l, x5 (ix2 r l) = ((DH r l : ℝ) : EReal)) (r : Fin 4096) (l : Fin 1024) :
    val_main_v62 (F := Ideal) x1 x2 x3 x4 x5 (ix2 r l) = ((lnBwd (X r) (fun k => dyn X DH G B W r k * G k) l : ℝ) : EReal) := by
  have h := v54_eq h1 h2 h3 h4 h5 r _ rfl
  pointwise [val_main_v62, val_main_v61, val_main_v60, val_main_v59, val_main_v58, val_main_v57, val_main_v56, val_main_v55, val_main_cst_12, val_main_cst_13, val_main_cst_14]
  simp only [h, ← EReal.coe_neg, coe_sum, c1024, div_coe_coe (show (1024 : ℝ) ≠ 0 by norm_num), ← EReal.coe_add, Finset.univ_unique, Finset.sum_singleton]
  exact congrArg _ (lnBwd_eq (X r) (fun k => dyn X DH G B W r k * G k) l _ rfl)

/-- The gradient of the output projection's first half. -/
theorem v29_eq (h4 : ∀ r l, x4 (ix2 r l) = ((W r l : ℝ) : EReal)) (h5 : ∀ r l, x5 (ix2 r l) = ((DH r l : ℝ) : EReal)) (r : Fin 4096) (l : Fin 1024) :
    val_main_v29 (F := Ideal) x4 x5 (ix2 r l) = ((∑ k, DH r k * W ⟨l.val, by omega⟩ k : ℝ) : EReal) := by
  pointwise [val_main_v29, val_main_v28]
  simp only [h4, h5, ← EReal.coe_mul, coe_sum]

end Cert.ReferenceIdeal.Out

end
-- ==== Proof.OutKer.lean ====
/- The kernel of the output projection's gradient: what each grid point leaves in its output blocks. -/
module

public import proofs.«01_k».proof.Proof.Reals
public import proofs.«01_k».proof.Proof.OutRef
public import proofs.«01_k».proof.Proof.Gen.KernelIdeal.Value

@[expose] public section

set_option maxRecDepth 16384

noncomputable section

namespace Cert.KernelIdeal.Out

open Cert.KernelIdeal Cert.KernelIdeal.Gen Cert.Reals Idealize.ShloMosaic Idealize.ShloMosaic.TcCoe

section Cases

variable {F : FTy → Type} [FloatOps F]

theorem hz : (![0, 0] : Fin 2 → Nat) = fun _ => 0 := funext fun a => by fin_cases a <;> rfl

variable (c : Dev nD) (i : grid0.Coords) (arg1 : Memref sig .tc .vmem S512x1024 .f32) (h1 : arg1.IsWhole) (arg2 : Memref sig .tc .vmem S4x512x1024 .bf16) (h2 : arg2.IsWhole)
  (arg3 : Memref sig .tc .vmem S512x1024 .f32) (h3 : arg3.IsWhole) (arg4 : Memref sig .tc .vmem S1x1024 .f32) (h4 : arg4.IsWhole) (arg5 : Memref sig .tc .vmem S1x1024 .f32) (h5 : arg5.IsWhole)
  (arg6 : Memref sig .tc .vmem S512x1024 .f32) (h6 : arg6.IsWhole) (arg7 : Memref sig .tc .vmem S512x1024 .f32) (h7 : arg7.IsWhole) (arg8 : Memref sig .tc .vmem S1x1024 .f32) (h8 : arg8.IsWhole) (arg9 : Memref sig .tc .vmem S1x1024 .f32) (h9 : arg9.IsWhole)
  (x0 : Vec F S512x1024 .f32) (x1 : Vec F S4x512x1024 .bf16) (x2 : Vec F S512x1024 .f32) (x3 x4 xo7 xo8 : Vec F S1x1024 .f32)

/-- What a point computes for the gradient of the first half. -/
abbrev K5 (x0 : Vec F S512x1024 .f32) (x1 : Vec F S4x512x1024 .bf16) : Vec F S512x1024 .f32 :=
  k0_pay5 x0 (View.ld x1 (Rect.unit ![0, 0, 0] ![1, 512, 1024] inb_S4x512x1024_S1x512x1024_0_0_0))
    (View.ld x1 (Rect.unit ![1, 0, 0] ![1, 512, 1024] inb_S4x512x1024_S1x512x1024_1_0_0))

/-- … of the second half, before the gate. -/
abbrev Kd (x0 : Vec F S512x1024 .f32) (x1 : Vec F S4x512x1024 .bf16) : FVec F S512x1024 .f32 :=
  k0_pay6 x0 (View.ld x1 (Rect.unit ![2, 0, 0] ![1, 512, 1024] inb_S4x512x1024_S1x512x1024_2_0_0))
    (View.ld x1 (Rect.unit ![3, 0, 0] ![1, 512, 1024] inb_S4x512x1024_S1x512x1024_3_0_0))

/-- … of the layer norm's input. -/
abbrev K6 (x0 : Vec F S512x1024 .f32) (x1 : Vec F S4x512x1024 .bf16) (x2 : Vec F S512x1024 .f32) (x3 x4 : Vec F S1x1024 .f32) : Vec F S512x1024 .f32 :=
  k0_pay1 (k0_pay9 (k0_pay8 x2)) (k0_pay10 (k0_pay7 x2) (k0_pay8 x2)) (k0_pay11 (Kd x0 x1) (k0_pay7 x2) (k0_pay8 x2) x3 x4) (k0_pay14 x3)

/-- … of the layer norm's weight, over what the points before left. -/
abbrev K7 (x0 : Vec F S512x1024 .f32) (x1 : Vec F S4x512x1024 .bf16) (x2 : Vec F S512x1024 .f32) (x3 x4 xo : Vec F S1x1024 .f32) : Vec F S1x1024 .f32 :=
  k0_pay12 (Kd x0 x1) (k0_pay7 x2) (k0_pay8 x2) x3 x4 xo

/-- … of the layer norm's offset, over what the points before left. -/
abbrev K8 (x0 : Vec F S512x1024 .f32) (x1 : Vec F S4x512x1024 .bf16) (x2 : Vec F S512x1024 .f32) (x3 x4 xo : Vec F S1x1024 .f32) : Vec F S1x1024 .f32 :=
  k0_pay13 (Kd x0 x1) (k0_pay7 x2) (k0_pay8 x2) x3 x4 xo

theorem out_B_5 (hc : ¬cond0_0 i) : out0_B_5 c i arg1 h1 arg2 h2 arg3 h3 arg4 h4 arg5 h5 arg6 h6 arg7 h7 arg8 h8 arg9 h9 hc x0 x1 x2 x3 x4 xo7 xo8 = K5 x0 x1 := by
  unfold out0_B_5
  rw [View.read_writes_eq_canon _ _ _ (cover0_B_5 c i arg1 h1 arg2 h2 arg3 h3 arg4 h4 arg5 h5 arg6 h6 arg7 h7 arg8 h8 arg9 h9 hc x0 x1 x2 x3 x4 xo7 xo8)]
  unfold kernelRun0_B
  dsimp only
  sl_unfold_words
  rw [View.canon_unit_zero hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_B_6 (hc : ¬cond0_0 i) : out0_B_6 c i arg1 h1 arg2 h2 arg3 h3 arg4 h4 arg5 h5 arg6 h6 arg7 h7 arg8 h8 arg9 h9 hc x0 x1 x2 x3 x4 xo7 xo8 = K6 x0 x1 x2 x3 x4 := by
  unfold out0_B_6
  rw [View.read_writes_eq_canon _ _ _ (cover0_B_6 c i arg1 h1 arg2 h2 arg3 h3 arg4 h4 arg5 h5 arg6 h6 arg7 h7 arg8 h8 arg9 h9 hc x0 x1 x2 x3 x4 xo7 xo8)]
  unfold kernelRun0_B
  dsimp only
  sl_unfold_words
  rw [View.canon_unit_zero hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_B_7 (hc : ¬cond0_0 i) : out0_B_7 c i arg1 h1 arg2 h2 arg3 h3 arg4 h4 arg5 h5 arg6 h6 arg7 h7 arg8 h8 arg9 h9 hc x0 x1 x2 x3 x4 xo7 xo8 = K7 x0 x1 x2 x3 x4 xo7 := by
  unfold out0_B_7
  rw [View.read_writes_eq_canon _ _ _ (cover0_B_7 c i arg1 h1 arg2 h2 arg3 h3 arg4 h4 arg5 h5 arg6 h6 arg7 h7 arg8 h8 arg9 h9 hc x0 x1 x2 x3 x4 xo7 xo8)]
  unfold kernelRun0_B
  dsimp only
  sl_unfold_words
  rw [View.canon_unit_zero hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_B_8 (hc : ¬cond0_0 i) : out0_B_8 c i arg1 h1 arg2 h2 arg3 h3 arg4 h4 arg5 h5 arg6 h6 arg7 h7 arg8 h8 arg9 h9 hc x0 x1 x2 x3 x4 xo7 xo8 = K8 x0 x1 x2 x3 x4 xo8 := by
  unfold out0_B_8
  rw [View.read_writes_eq_canon _ _ _ (cover0_B_8 c i arg1 h1 arg2 h2 arg3 h3 arg4 h4 arg5 h5 arg6 h6 arg7 h7 arg8 h8 arg9 h9 hc x0 x1 x2 x3 x4 xo7 xo8)]
  unfold kernelRun0_B
  dsimp only
  sl_unfold_words
  rw [View.canon_unit_zero hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_A_5 (hc : cond0_0 i) : out0_A_5 c i arg1 h1 arg2 h2 arg3 h3 arg4 h4 arg5 h5 arg6 h6 arg7 h7 arg8 h8 arg9 h9 hc x0 x1 x2 x3 x4 = K5 x0 x1 := by
  unfold out0_A_5
  rw [View.read_writes_eq_canon _ _ _ (cover0_A_5 c i arg1 h1 arg2 h2 arg3 h3 arg4 h4 arg5 h5 arg6 h6 arg7 h7 arg8 h8 arg9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_A_6 (hc : cond0_0 i) : out0_A_6 c i arg1 h1 arg2 h2 arg3 h3 arg4 h4 arg5 h5 arg6 h6 arg7 h7 arg8 h8 arg9 h9 hc x0 x1 x2 x3 x4 = K6 x0 x1 x2 x3 x4 := by
  unfold out0_A_6
  rw [View.read_writes_eq_canon _ _ _ (cover0_A_6 c i arg1 h1 arg2 h2 arg3 h3 arg4 h4 arg5 h5 arg6 h6 arg7 h7 arg8 h8 arg9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_A_7 (hc : cond0_0 i) : out0_A_7 c i arg1 h1 arg2 h2 arg3 h3 arg4 h4 arg5 h5 arg6 h6 arg7 h7 arg8 h8 arg9 h9 hc x0 x1 x2 x3 x4 = K7 x0 x1 x2 x3 x4 k0_pay2 := by
  unfold out0_A_7
  rw [View.read_writes_eq_canon _ _ _ (cover0_A_7 c i arg1 h1 arg2 h2 arg3 h3 arg4 h4 arg5 h5 arg6 h6 arg7 h7 arg8 h8 arg9 h9 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h8.read_unread, h9.read_unread,
    View.ld_unit_zero (S := S512x1024) hz, View.ld_unit_zero (S := S1x1024) hz]

theorem out_A_8 (hc : cond0_0 i) : out0_A_8 c i arg1 h1 arg2 h2 arg3 h3 arg4 h4 arg5 h5 arg6 h6 arg7 h7 arg8 h8 arg9 h9 hc x0 x1 x2 x3 x4 = K8 x0 x1 x2 x3 x4 k0_pay3 := by
  unfold out0_A_8
  rw [View.read_writes_eq_canon _ _ _ (cover0_A_8 c i arg1 h1 arg2 h2 arg3 h3 arg4 h4 arg5 h5 arg6 h6 arg7 h7 arg8 h8 arg9 h9 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h8.read_unread, h9.read_unread,
    View.ld_unit_zero (S := S512x1024) hz, View.ld_unit_zero (S := S1x1024) hz]

end Cases

/-! ## The payloads on real numbers -/

section Real

open Cert.ReferenceIdeal.Out (dyc dyn)

variable {X D : Fin 512 → Fin 1024 → ℝ} {G B : Fin 1024 → ℝ} {W : Fin 2048 → Fin 1024 → ℝ}
variable {x0 x2 : FVec Ideal S512x1024 .f32} {x1 : FVec Ideal S4x512x1024 .bf16} {x3 x4 : FVec Ideal S1x1024 .f32}

/-- The gradient of the normalised row, for a row of a block. -/
def dcB (D : Fin 512 → Fin 1024 → ℝ) (W : Fin 2048 → Fin 1024 → ℝ) (r : Fin 512) (l : Fin 1024) : ℝ :=
  ∑ k, D r k * W ⟨1024 + l.val, by omega⟩ k

/-- The gradient at the layer norm's output, for a row of a block. -/
def dyB (X D : Fin 512 → Fin 1024 → ℝ) (G B : Fin 1024 → ℝ) (W : Fin 2048 → Fin 1024 → ℝ) (r : Fin 512) (l : Fin 1024) : ℝ :=
  dcB D W r l * dsilu (hat (X r) l * G l + B l)

theorem pay7_eq (h2 : ∀ r l, x2 (ix2 r l) = ((X r l : ℝ) : EReal)) (r : Fin 512) (l : Fin 1024) :
    k0_pay7 (F := Ideal) x2 (ix2 r l) = ((cen (X r) l : ℝ) : EReal) := by
  pointwise [k0_pay7]
  simp only [h2, coe_sum, c1024, div_coe_coe (show (1024 : ℝ) ≠ 0 by norm_num), ← EReal.coe_sub]
  rfl

theorem pay9_eq (h2 : ∀ r l, x2 (ix2 r l) = ((X r l : ℝ) : EReal)) (r : Fin 512) (z : Fin 1) :
    k0_pay9 (F := Ideal) (k0_pay8 x2) (ix2 r z) = ((rs (cen (X r)) : ℝ) : EReal) := by
  have h := pay7_eq h2
  pointwise [k0_pay9, k0_pay8]
  simp only [h, coe_sum, c1024, cEps, div_coe_coe (show (1024 : ℝ) ≠ 0 by norm_num), ← EReal.coe_mul, ← EReal.coe_add]
  exact rsqrt_pos (msq_eps_pos _)

theorem pay10_eq (h2 : ∀ r l, x2 (ix2 r l) = ((X r l : ℝ) : EReal)) (r : Fin 512) (l : Fin 1024) :
    k0_pay10 (F := Ideal) (k0_pay7 x2) (k0_pay8 x2) (ix2 r l) = ((hat (X r) l : ℝ) : EReal) := by
  have h := pay7_eq h2
  have h' := pay9_eq h2
  pointwise [k0_pay10]
  simp only [h, h', ← EReal.coe_mul]
  rfl

theorem Kd_eq (h0 : ∀ r l, x0 (ix2 r l) = ((D r l : ℝ) : EReal))
    (h1 : ∀ (p : Fin 4) (j : Fin 512) k, x1 (ix3 p j k) = ((W ⟨512 * p.val + j.val, by omega⟩ k : ℝ) : EReal)) (r : Fin 512) (l : Fin 1024) :
    Kd (F := Ideal) x0 x1 (ix2 r l) = ((dcB D W r l : ℝ) : EReal) := by
  unfold Kd
  pointwise [k0_pay6, k0_pay4]
  split
  · simp only [h0, h1, ← EReal.coe_mul, coe_sum]
    exact congrArg _ (Finset.sum_congr rfl fun k _ => congrArg (fun q => D r k * W q k) (Fin.ext (by dsimp)))
  · simp only [h0, h1, ← EReal.coe_mul, coe_sum]
    exact congrArg _ (Finset.sum_congr rfl fun k _ => congrArg (fun q => D r k * W q k) (Fin.ext (by dsimp; omega)))

theorem K5_eq (h0 : ∀ r l, x0 (ix2 r l) = ((D r l : ℝ) : EReal))
    (h1 : ∀ (p : Fin 4) (j : Fin 512) k, x1 (ix3 p j k) = ((W ⟨512 * p.val + j.val, by omega⟩ k : ℝ) : EReal)) (r : Fin 512) (l : Fin 1024) :
    K5 (F := Ideal) x0 x1 (ix2 r l) = ((∑ k, D r k * W ⟨l.val, by omega⟩ k : ℝ) : EReal) := by
  unfold K5
  pointwise [k0_pay5, k0_pay4]
  split
  · simp only [h0, h1, ← EReal.coe_mul, coe_sum]
    exact congrArg _ (Finset.sum_congr rfl fun k _ => congrArg (fun q => D r k * W q k) (Fin.ext (by dsimp; omega)))
  · simp only [h0, h1, ← EReal.coe_mul, coe_sum]
    exact congrArg _ (Finset.sum_congr rfl fun k _ => congrArg (fun q => D r k * W q k) (Fin.ext (by dsimp; omega)))

theorem pay11_eq (h0 : ∀ r l, x0 (ix2 r l) = ((D r l : ℝ) : EReal))
    (h1 : ∀ (p : Fin 4) (j : Fin 512) k, x1 (ix3 p j k) = ((W ⟨512 * p.val + j.val, by omega⟩ k : ℝ) : EReal))
    (h2 : ∀ r l, x2 (ix2 r l) = ((X r l : ℝ) : EReal))
    (h3 : ∀ z l, x3 (ix2 z l) = ((G l : ℝ) : EReal)) (h4 : ∀ z l, x4 (ix2 z l) = ((B l : ℝ) : EReal)) (r : Fin 512) (l : Fin 1024) :
    k0_pay11 (F := Ideal) (Kd (F := Ideal) x0 x1) (k0_pay7 x2) (k0_pay8 x2) x3 x4 (ix2 r l) = ((dyB X D G B W r l : ℝ) : EReal) := by
  have h := Kd_eq h0 h1
  have h' := pay10_eq h2
  generalize Kd (F := Ideal) x0 x1 = d at h ⊢
  generalize k0_pay7 (F := Ideal) x2 = p7, k0_pay8 (F := Ideal) x2 = p8 at h' ⊢
  pointwise [k0_pay11]
  simp only [h, h', h3, h4, ← EReal.coe_one, ← EReal.coe_mul, ← EReal.coe_add, Ideal.logistic_coe, ← EReal.coe_sub]
  rfl

theorem K6_eq (h0 : ∀ r l, x0 (ix2 r l) = ((D r l : ℝ) : EReal))
    (h1 : ∀ (p : Fin 4) (j : Fin 512) k, x1 (ix3 p j k) = ((W ⟨512 * p.val + j.val, by omega⟩ k : ℝ) : EReal))
    (h2 : ∀ r l, x2 (ix2 r l) = ((X r l : ℝ) : EReal))
    (h3 : ∀ z l, x3 (ix2 z l) = ((G l : ℝ) : EReal)) (h4 : ∀ z l, x4 (ix2 z l) = ((B l : ℝ) : EReal)) (r : Fin 512) (l : Fin 1024) :
    K6 (F := Ideal) x0 x1 x2 x3 x4 (ix2 r l) = ((lnBwd (X r) (fun k => dyB X D G B W r k * G k) l : ℝ) : EReal) := by
  have h := pay11_eq h0 h1 h2 h3 h4
  have h' := pay10_eq h2
  have h9 := pay9_eq h2
  unfold K6
  generalize k0_pay11 (F := Ideal) (Kd (F := Ideal) x0 x1) (k0_pay7 x2) (k0_pay8 x2) x3 x4 = p11, k0_pay10 (F := Ideal) (k0_pay7 x2) (k0_pay8 x2) = p10,
    k0_pay9 (F := Ideal) (k0_pay8 x2) = p9 at h h' h9 ⊢
  pointwise [k0_pay1, k0_pay14]
  simp only [h, h', h9, h3, ← EReal.coe_mul, coe_sum, c1024, div_coe_coe (show (1024 : ℝ) ≠ 0 by norm_num), ← EReal.coe_sub]
  rfl

theorem K7_eq (h0 : ∀ r l, x0 (ix2 r l) = ((D r l : ℝ) : EReal))
    (h1 : ∀ (p : Fin 4) (j : Fin 512) k, x1 (ix3 p j k) = ((W ⟨512 * p.val + j.val, by omega⟩ k : ℝ) : EReal))
    (h2 : ∀ r l, x2 (ix2 r l) = ((X r l : ℝ) : EReal))
    (h3 : ∀ z l, x3 (ix2 z l) = ((G l : ℝ) : EReal)) (h4 : ∀ z l, x4 (ix2 z l) = ((B l : ℝ) : EReal)) (xo : Vec Ideal S1x1024 .f32) (z : Fin 1) (l : Fin 1024) :
    K7 (F := Ideal) x0 x1 x2 x3 x4 xo (ix2 z l) = xo (ix2 z l) + ((∑ r, dyB X D G B W r l * hat (X r) l : ℝ) : EReal) := by
  have h := pay11_eq h0 h1 h2 h3 h4
  have h' := pay10_eq h2
  unfold K7 k0_pay12
  generalize k0_pay11 (F := Ideal) (Kd (F := Ideal) x0 x1) (k0_pay7 x2) (k0_pay8 x2) x3 x4 = p11, k0_pay10 (F := Ideal) (k0_pay7 x2) (k0_pay8 x2) = p10 at h h' ⊢
  pointwise []
  simp only [h, h', ← EReal.coe_mul, coe_sum]

theorem K8_eq (h0 : ∀ r l, x0 (ix2 r l) = ((D r l : ℝ) : EReal))
    (h1 : ∀ (p : Fin 4) (j : Fin 512) k, x1 (ix3 p j k) = ((W ⟨512 * p.val + j.val, by omega⟩ k : ℝ) : EReal))
    (h2 : ∀ r l, x2 (ix2 r l) = ((X r l : ℝ) : EReal))
    (h3 : ∀ z l, x3 (ix2 z l) = ((G l : ℝ) : EReal)) (h4 : ∀ z l, x4 (ix2 z l) = ((B l : ℝ) : EReal)) (xo : Vec Ideal S1x1024 .f32) (z : Fin 1) (l : Fin 1024) :
    K8 (F := Ideal) x0 x1 x2 x3 x4 xo (ix2 z l) = xo (ix2 z l) + ((∑ r, dyB X D G B W r l : ℝ) : EReal) := by
  have h := pay11_eq h0 h1 h2 h3 h4
  unfold K8 k0_pay13
  generalize k0_pay11 (F := Ideal) (Kd (F := Ideal) x0 x1) (k0_pay7 x2) (k0_pay8 x2) x3 x4 = p11 at h ⊢
  pointwise []
  simp only [h, coe_sum]

end Real

end Cert.KernelIdeal.Out

end
-- ==== Proof.OutVal.lean ====
/- The kernel of the output projection's gradient: its result arrays, element by element, on finite arguments. -/
module

public import proofs.«01_k».proof.Proof.OutKer

@[expose] public section

set_option maxRecDepth 16384

noncomputable section

namespace Cert.KernelIdeal.Out

open Cert.KernelIdeal Cert.KernelIdeal.Gen Cert.Reals Idealize.ShloMosaic Idealize.ShloMosaic.TcCoe Idealize.SL.Sem
open Cert.ReferenceIdeal.Out (dyc dyn)

variable (m : (ℓ : Loc nD τ sig) → Buf (Elt Ideal) ℓ) (c : Dev nD)

theorem V3 : V m c main_v3 = concatenate S4x2560x1024 1
    [⟨S4x2048x1024, broadcastInDim S4x2048x1024 ![] bcast_S_S4x2048x1024 (constant (F := Ideal) S_ .bf16 0x0000#16)⟩,
     ⟨S4x512x1024, shapeCast S4x512x1024 (truncf .bf16 (m ((c : Thread nD τ).loc main_arg4) : FVec Ideal S2048x1024 .f32) bitsLt_bf16_f32) shapeCasts_S2048x1024_S4x512x1024⟩]
    concatenates_S4x2048x1024_S4x512x1024_S4x2560x1024_d1 := by
  simp only [V, hostOps0]; after_results_simp <;> rfl

theorem V4 : V m c main_v4 = shapeCast S1x1024 (m ((c : Thread nD τ).loc main_arg2) : FVec Ideal S1024 .f32) shapeCasts_S1024_S1x1024 := by
  simp only [V, hostOps0]; after_results_simp <;> rfl

theorem V5 : V m c main_v5 = shapeCast S1x1024 (m ((c : Thread nD τ).loc main_arg3) : FVec Ideal S1024 .f32) shapeCasts_S1024_S1x1024 := by
  simp only [V, hostOps0]; after_results_simp <;> rfl

theorem idx0 : ∀ t : Fin grid0.N, win0_0.index t 0 = t.val ∧ win0_0.index t 1 = 0 := by decide +kernel
theorem idx1 : ∀ t : Fin grid0.N, win0_1.index t 0 = 0 ∧ win0_1.index t 1 = 4 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel

theorem row_lt (t : Fin cfg0.N) (r : Fin 512) : 512 * t.val + r.val < 4096 := by
  have : t.val < 8 := lt_of_lt_of_eq t.isLt N_0
  omega

theorem blk0 (t : Fin cfg0.N) (r : Fin 512) (l : Fin 1024) :
    (iblk m c 0 t : Vec Ideal S512x1024 .f32) (ix2 r l) = m ((c : Thread nD τ).loc main_arg5) (ix2 ⟨512 * t.val + r.val, row_lt t r⟩ l) := by
  unfold iblk
  rw [View.read_apply]
  show V m c main_arg5 _ = _
  rw [V_main_arg5]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * l.val = l.val; rw [(idx0 t).2]; omega

theorem blk2 (t : Fin cfg0.N) (r : Fin 512) (l : Fin 1024) :
    (iblk m c 2 t : Vec Ideal S512x1024 .f32) (ix2 r l) = m ((c : Thread nD τ).loc main_arg1) (ix2 ⟨512 * t.val + r.val, row_lt t r⟩ l) := by
  unfold iblk
  rw [View.read_apply]
  show V m c main_arg1 _ = _
  rw [V_main_arg1]
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * l.val = l.val; rw [(idx2 t).2]; omega

theorem blk3 (t : Fin cfg0.N) (z : Fin 1) (l : Fin 1024) :
    (iblk m c 3 t : Vec Ideal S1x1024 .f32) (ix2 z l) = m ((c : Thread nD τ).loc main_arg2) (ix1 l) := by
  unfold iblk
  rw [View.read_apply]
  show V m c main_v4 _ = _
  rw [V4]
  have : ∀ y : S1x1024.Idx, y = ix2 z l → shapeCast S1x1024 (m ((c : Thread nD τ).loc main_arg2) : FVec Ideal S1024 .f32) shapeCasts_S1024_S1x1024 y
      = m ((c : Thread nD τ).loc main_arg2) (ix1 l) := by
    rintro _ rfl
    pointwise []
  refine this _ (funext fun a => Fin.ext ?_)
  match a with
  | ⟨0, _⟩ => show win0_3.index t 0 * 1 + 1 * z.val = z.val; rw [(idx3 t).1]; omega
  | ⟨1, _⟩ => show win0_3.index t 1 * 1024 + 1 * l.val = l.val; rw [(idx3 t).2]; omega

theorem blk4 (t : Fin cfg0.N) (z : Fin 1) (l : Fin 1024) :
    (iblk m c 4 t : Vec Ideal S1x1024 .f32) (ix2 z l) = m ((c : Thread nD τ).loc main_arg3) (ix1 l) := by
  unfold iblk
  rw [View.read_apply]
  show V m c main_v5 _ = _
  rw [V5]
  have : ∀ y : S1x1024.Idx, y = ix2 z l → shapeCast S1x1024 (m ((c : Thread nD τ).loc main_arg3) : FVec Ideal S1024 .f32) shapeCasts_S1024_S1x1024 y
      = m ((c : Thread nD τ).loc main_arg3) (ix1 l) := by
    rintro _ rfl
    pointwise []
  refine this _ (funext fun a => Fin.ext ?_)
  match a with
  | ⟨0, _⟩ => show win0_4.index t 0 * 1 + 1 * z.val = z.val; rw [(idx4 t).1]; omega
  | ⟨1, _⟩ => show win0_4.index t 1 * 1024 + 1 * l.val = l.val; rw [(idx4 t).2]; omega

theorem slab_apply (w : FVec Ideal S2048x1024 .f32) (p : Fin 4) (q : Fin 2560) (k : Fin 1024) (hq : 2048 ≤ q.val) :
    concatenate S4x2560x1024 1
      [⟨S4x2048x1024, broadcastInDim S4x2048x1024 ![] bcast_S_S4x2048x1024 (constant (F := Ideal) S_ .bf16 0x0000#16)⟩,
       ⟨S4x512x1024, shapeCast S4x512x1024 (truncf .bf16 w bitsLt_bf16_f32) shapeCasts_S2048x1024_S4x512x1024⟩]
      concatenates_S4x2048x1024_S4x512x1024_S4x2560x1024_d1 (ix3 p q k) = w (ix2 ⟨512 * p.val + (q.val - 2048), by omega⟩ k) := by
  generalize broadcastInDim S4x2048x1024 ![] bcast_S_S4x2048x1024 (constant (F := Ideal) S_ .bf16 0x0000#16) = z
  pointwise []
  rw [dif_neg (by omega)]
  exact congrArg w (funext fun a => Fin.ext (match a with | ⟨0, _⟩ => by dsimp; omega | ⟨1, _⟩ => rfl))

theorem blk1 (t : Fin cfg0.N) (p : Fin 4) (j : Fin 512) (k : Fin 1024) :
    (iblk m c 1 t : Vec Ideal S4x512x1024 .bf16) (ix3 p j k)
      = (m ((c : Thread nD τ).loc main_arg4) : FVec Ideal S2048x1024 .f32) (ix2 ⟨512 * p.val + j.val, by omega⟩ k) := by
  unfold iblk
  rw [View.read_apply]
  show V m c main_v3 _ = _
  rw [V3]
  refine Eq.trans (congrArg _ (a₂ := ix3 p ⟨2048 + j.val, by omega⟩ k) (funext fun a => Fin.ext ?_)) ((slab_apply _ p ⟨2048 + j.val, by omega⟩ k (by simp)).trans ?_)
  · match a with
    | ⟨0, _⟩ => show win0_1.index t 0 * 4 + 1 * p.val = p.val; rw [(idx1 t).1]; omega
    | ⟨1, _⟩ => show win0_1.index t 1 * 512 + 1 * j.val = 2048 + j.val; rw [(idx1 t).2.1]; omega
    | ⟨2, _⟩ => show win0_1.index t 2 * 1024 + 1 * k.val = k.val; rw [(idx1 t).2.2]; omega
  · simp only [Nat.add_sub_cancel_left]

/-! ## The arguments as real numbers -/

/-- The launched memory holds these real numbers. -/
structure Args (X DH : Fin 4096 → Fin 1024 → ℝ) (G B : Fin 1024 → ℝ) (W : Fin 2048 → Fin 1024 → ℝ) : Prop where
  a1 : ∀ r l, (m ((c : Thread nD τ).loc main_arg1) : FVec Ideal S4096x1024 .f32) (ix2 r l) = ((X r l : ℝ) : EReal)
  a2 : ∀ l, (m ((c : Thread nD τ).loc main_arg2) : FVec Ideal S1024 .f32) (ix1 l) = ((G l : ℝ) : EReal)
  a3 : ∀ l, (m ((c : Thread nD τ).loc main_arg3) : FVec Ideal S1024 .f32) (ix1 l) = ((B l : ℝ) : EReal)
  a4 : ∀ r l, (m ((c : Thread nD τ).loc main_arg4) : FVec Ideal S2048x1024 .f32) (ix2 r l) = ((W r l : ℝ) : EReal)
  a5 : ∀ r l, (m ((c : Thread nD τ).loc main_arg5) : FVec Ideal S4096x1024 .f32) (ix2 r l) = ((DH r l : ℝ) : EReal)

variable {X DH : Fin 4096 → Fin 1024 → ℝ} {G B : Fin 1024 → ℝ} {W : Fin 2048 → Fin 1024 → ℝ} (A : Args m c X DH G B W)
include A

theorem out5 (t : Fin cfg0.N) (r : Fin 512) (l : Fin 1024) :
    (outsAt0 m c t.val t.isLt).1 (ix2 r l) = ((∑ k, DH ⟨512 * t.val + r.val, row_lt t r⟩ k * W ⟨l.val, by omega⟩ k : ℝ) : EReal) := by
  have key := K5_eq (x0 := iblk m c 0 t) (x1 := iblk m c 1 t) (D := fun r k => DH ⟨512 * t.val + r.val, row_lt t r⟩ k) (W := W)
    (fun r l => (blk0 m c t r l).trans (A.a5 _ _)) (fun p j k => (blk1 m c t p j k).trans (A.a4 _ _)) r l
  by_cases h : t.val % 8 = 0
  · rw [outsAt0_A m c t h]; dsimp only; rw [out_A_5]; exact key
  · rw [outsAt0_B m c t h]; dsimp only; rw [out_B_5]; exact key

theorem out6 (t : Fin cfg0.N) (r : Fin 512) (l : Fin 1024) :
    (outsAt0 m c t.val t.isLt).2.1 (ix2 r l)
      = ((lnBwd (X ⟨512 * t.val + r.val, row_lt t r⟩) (fun k => dyn X DH G B W ⟨512 * t.val + r.val, row_lt t r⟩ k * G k) l : ℝ) : EReal) := by
  have key := K6_eq (x0 := iblk m c 0 t) (x1 := iblk m c 1 t) (x2 := iblk m c 2 t) (x3 := iblk m c 3 t) (x4 := iblk m c 4 t)
    (D := fun r k => DH ⟨512 * t.val + r.val, row_lt t r⟩ k) (X := fun r k => X ⟨512 * t.val + r.val, row_lt t r⟩ k) (W := W) (G := G) (B := B)
    (fun r l => (blk0 m c t r l).trans (A.a5 _ _)) (fun p j k => (blk1 m c t p j k).trans (A.a4 _ _))
    (fun r l => (blk2 m c t r l).trans (A.a1 _ _)) (fun z l => (blk3 m c t z l).trans (A.a2 _)) (fun z l => (blk4 m c t z l).trans (A.a3 _)) r l
  by_cases h : t.val % 8 = 0
  · rw [outsAt0_A m c t h]; dsimp only; rw [out_A_6]; exact key
  · rw [outsAt0_B m c t h]; dsimp only; rw [out_B_6]; exact key

/-- A function of the row, continued by zero past the last row. -/
def ext (f : Fin 4096 → ℝ) (n : ℕ) : ℝ := if h : n < 4096 then f ⟨n, h⟩ else 0

omit A in
theorem sum_ext (f : Fin 4096 → ℝ) : ∑ n ∈ Finset.range 4096, ext f n = ∑ r, f r := by
  rw [Finset.sum_range]
  exact Finset.sum_congr rfl fun r _ => dif_pos r.isLt

omit A in
theorem sum_blk (f : Fin 4096 → ℝ) (t : Fin cfg0.N) : ∑ r : Fin 512, f ⟨512 * t.val + r.val, row_lt t r⟩ = ∑ n ∈ Finset.range 512, ext f (512 * t.val + n) := by
  rw [Finset.sum_range]
  exact Finset.sum_congr rfl fun r _ => by unfold ext; rw [dif_pos (row_lt t r)]

theorem acc (l : Fin 1024) (z : Fin 1) : ∀ (n : ℕ) (h : n < cfg0.N),
    (outsAt0 m c n h).2.2.1 (ix2 z l) = ((∑ k ∈ Finset.range (512 * (n + 1)), ext (fun r => dyn X DH G B W r l * hat (X r) l) k : ℝ) : EReal)
    ∧ (outsAt0 m c n h).2.2.2 (ix2 z l) = ((∑ k ∈ Finset.range (512 * (n + 1)), ext (fun r => dyn X DH G B W r l) k : ℝ) : EReal) := by
  have key7 := fun t : Fin cfg0.N => K7_eq (x0 := iblk m c 0 t) (x1 := iblk m c 1 t) (x2 := iblk m c 2 t) (x3 := iblk m c 3 t) (x4 := iblk m c 4 t)
    (D := fun r k => DH ⟨512 * t.val + r.val, row_lt t r⟩ k) (X := fun r k => X ⟨512 * t.val + r.val, row_lt t r⟩ k) (W := W) (G := G) (B := B)
    (fun r l => (blk0 m c t r l).trans (A.a5 _ _)) (fun p j k => (blk1 m c t p j k).trans (A.a4 _ _))
    (fun r l => (blk2 m c t r l).trans (A.a1 _ _)) (fun z l => (blk3 m c t z l).trans (A.a2 _)) (fun z l => (blk4 m c t z l).trans (A.a3 _))
  have key8 := fun t : Fin cfg0.N => K8_eq (x0 := iblk m c 0 t) (x1 := iblk m c 1 t) (x2 := iblk m c 2 t) (x3 := iblk m c 3 t) (x4 := iblk m c 4 t)
    (D := fun r k => DH ⟨512 * t.val + r.val, row_lt t r⟩ k) (X := fun r k => X ⟨512 * t.val + r.val, row_lt t r⟩ k) (W := W) (G := G) (B := B)
    (fun r l => (blk0 m c t r l).trans (A.a5 _ _)) (fun p j k => (blk1 m c t p j k).trans (A.a4 _ _))
    (fun r l => (blk2 m c t r l).trans (A.a1 _ _)) (fun z l => (blk3 m c t z l).trans (A.a2 _)) (fun z l => (blk4 m c t z l).trans (A.a3 _))
  have s7 := fun t => sum_blk (fun r => dyn X DH G B W r l * hat (X r) l) t
  have s8 := fun t => sum_blk (fun r => dyn X DH G B W r l) t
  intro n
  induction n with
  | zero =>
    intro h
    rw [outsAt0_A m c ⟨0, h⟩ rfl]
    dsimp only
    rw [out_A_7, out_A_8, key7, key8]
    constructor
    · pointwise [k0_pay2]
      exact congrArg _ ((s7 ⟨0, h⟩).trans (by simp))
    · pointwise [k0_pay3]
      exact congrArg _ ((s8 ⟨0, h⟩).trans (by simp))
  | succ n ih =>
    intro h
    have hN : cfg0.N = 8 := N_0
    have hB : ¬(⟨n + 1, h⟩ : Fin cfg0.N).val % 8 = 0 := by dsimp only; omega
    obtain ⟨i7, i8⟩ := ih (Nat.lt_of_succ_lt h)
    rw [outsAt0_B m c ⟨n + 1, h⟩ hB]
    dsimp only
    rw [out_B_7, out_B_8, key7, key8]
    constructor
    · refine (congrArg (· + _) i7).trans ?_
      rw [← EReal.coe_add, show 512 * (n + 1 + 1) = 512 * (n + 1) + 512 by ring, Finset.sum_range_add]
      exact congrArg (fun q : ℝ => ((_ + q : ℝ) : EReal)) (s7 ⟨n + 1, h⟩)
    · refine (congrArg (· + _) i8).trans ?_
      rw [← EReal.coe_add, show 512 * (n + 1 + 1) = 512 * (n + 1) + 512 by ring, Finset.sum_range_add]
      exact congrArg (fun q : ℝ => ((_ + q : ℝ) : EReal)) (s8 ⟨n + 1, h⟩)

end Cert.KernelIdeal.Out

end
-- ==== Proof.OutFin.lean ====
/- The kernel of the output projection's gradient: its four result arrays after the run. -/
module

public import proofs.«01_k».proof.Proof.OutVal

@[expose] public section

set_option maxRecDepth 16384

noncomputable section

namespace Cert.KernelIdeal.Out

open Cert.KernelIdeal Cert.KernelIdeal.Gen Cert.Reals Idealize.ShloMosaic Idealize.ShloMosaic.TcCoe Idealize.SL.Sem
open Cert.ReferenceIdeal.Out (dyc dyn)

variable (m : (ℓ : Loc nD τ sig) → Buf (Elt Ideal) ℓ) (c : Dev nD)
variable {X DH : Fin 4096 → Fin 1024 → ℝ} {G B : Fin 1024 → ℝ} {W : Fin 2048 → Fin 1024 → ℝ} (A : Args m c X DH G B W)

/-- The grid point that computes row `R`. -/
def ptOf (R : Fin 4096) : Fin cfg0.N := ⟨R.val / 512, by rw [show cfg0.N = 8 from N_0]; omega⟩

theorem row_eq (R : Fin 4096) : (⟨512 * (ptOf R).val + (⟨R.val % 512, by omega⟩ : Fin 512).val, row_lt _ _⟩ : Fin 4096) = R :=
  Fin.ext (by show 512 * (R.val / 512) + R.val % 512 = R.val; omega)

include A in
theorem final5 (R : Fin 4096) (l : Fin 1024) :
    ((dats m 0 c).arrAt 5 cfg0.N : FVec Ideal S4096x1024 .f32) (ix2 R l) = ((∑ k, DH R k * W ⟨l.val, by omega⟩ k : ℝ) : EReal) := by
  have h := congrFun (Value.blocks5 m c (ptOf R) (flush0_5 _)) (ix2 ⟨R.val % 512, by omega⟩ l)
  rw [View.read_apply, Value.flushed5] at h
  refine Eq.trans (congrArg _ (funext fun a => Fin.ext ?_)) (h.trans ((out5 m c A (ptOf R) ⟨R.val % 512, by omega⟩ l).trans ?_))
  · match a with
    | ⟨0, _⟩ => show R.val = win0_5.index (ptOf R) 0 * 512 + 1 * (R.val % 512); rw [(idx5 (ptOf R)).1]; show _ = R.val / 512 * 512 + _; omega
    | ⟨1, _⟩ => show l.val = win0_5.index (ptOf R) 1 * 1024 + 1 * l.val; rw [(idx5 (ptOf R)).2]; omega
  · rw [row_eq]

include A in
theorem final6 (R : Fin 4096) (l : Fin 1024) :
    ((dats m 0 c).arrAt 6 cfg0.N : FVec Ideal S4096x1024 .f32) (ix2 R l) = ((lnBwd (X R) (fun k => dyn X DH G B W R k * G k) l : ℝ) : EReal) := by
  have h := congrFun (Value.blocks6 m c (ptOf R) (flush0_6 _)) (ix2 ⟨R.val % 512, by omega⟩ l)
  rw [View.read_apply, Value.flushed6] at h
  refine Eq.trans (congrArg _ (funext fun a => Fin.ext ?_)) (h.trans ((out6 m c A (ptOf R) ⟨R.val % 512, by omega⟩ l).trans ?_))
  · match a with
    | ⟨0, _⟩ => show R.val = win0_6.index (ptOf R) 0 * 512 + 1 * (R.val % 512); rw [(idx6 (ptOf R)).1]; show _ = R.val / 512 * 512 + _; omega
    | ⟨1, _⟩ => show l.val = win0_6.index (ptOf R) 1 * 1024 + 1 * l.val; rw [(idx6 (ptOf R)).2]; omega
  · rw [row_eq]

theorem last (t : Fin cfg0.N) (h : t.val % 8 = 7) : t = t0_7 := by
  have : t.val < 8 := lt_of_lt_of_eq t.isLt N_0
  exact Fin.ext (by show t.val = 7; omega)

/-- The gradient of the layer norm's weight: the one block, written back after the last point. -/
theorem final7' : (dats m 0 c).arrAt 7 cfg0.N = (outsAt0 m c t0_7.val t0_7.isLt).2.2.1 := by
  refine (dats m 0 c).arrAt_eq_of_cover 7 (outsAt0 m c t0_7.val t0_7.isLt).2.2.1 (fun t hf => ?_) fun i => ⟨t0_7, (flush0_7 t0_7).mpr rfl, ?_⟩
  · obtain rfl := last t ((flush0_7 t).mp hf)
    rw [Value.flushed7]
    have hz' : (fun a => win0_7.index t0_7 a * main_v6_2.ty.shape.size a) = fun _ => 0 := funext fun a => by fin_cases a <;> decide
    exact (Memref.read_access_unit_zero (Elt Ideal) main_v6_2 hz' (fun a => by rw [congrFun hz' a]; simp) _).symm
  · show i ∈ ((View.whole main_v6_2).slice (win0_7.rect t0_7)).set
    rw [View.set_slice_whole, Rect.mem_set_unit]
    intro a
    have h0 : (i 0 : Nat) < 1 := (i 0).isLt
    have h1 : (i 1 : Nat) < 1024 := (i 1).isLt
    match a with
    | ⟨0, _⟩ => show win0_7.index t0_7 0 * win0_7.size 0 ≤ (i 0 : Nat) ∧ (i 0 : Nat) < win0_7.index t0_7 0 * win0_7.size 0 + win0_7.xsize (grid0.coords t0_7) 0
                rw [show win0_7.index t0_7 0 * win0_7.size 0 = 0 from by decide +kernel, show win0_7.xsize (grid0.coords t0_7) 0 = 1 from by decide +kernel]; omega
    | ⟨1, _⟩ => show win0_7.index t0_7 1 * win0_7.size 1 ≤ (i 1 : Nat) ∧ (i 1 : Nat) < win0_7.index t0_7 1 * win0_7.size 1 + win0_7.xsize (grid0.coords t0_7) 1
                rw [show win0_7.index t0_7 1 * win0_7.size 1 = 0 from by decide +kernel, show win0_7.xsize (grid0.coords t0_7) 1 = 1024 from by decide +kernel]; omega

/-- The gradient of the layer norm's offset: the one block, written back after the last point. -/
theorem final8' : (dats m 0 c).arrAt 8 cfg0.N = (outsAt0 m c t0_7.val t0_7.isLt).2.2.2 := by
  refine (dats m 0 c).arrAt_eq_of_cover 8 (outsAt0 m c t0_7.val t0_7.isLt).2.2.2 (fun t hf => ?_) fun i => ⟨t0_7, (flush0_8 t0_7).mpr rfl, ?_⟩
  · obtain rfl := last t ((flush0_8 t).mp hf)
    rw [Value.flushed8]
    have hz' : (fun a => win0_8.index t0_7 a * main_v6_3.ty.shape.size a) = fun _ => 0 := funext fun a => by fin_cases a <;> decide
    exact (Memref.read_access_unit_zero (Elt Ideal) main_v6_3 hz' (fun a => by rw [congrFun hz' a]; simp) _).symm
  · show i ∈ ((View.whole main_v6_3).slice (win0_8.rect t0_7)).set
    rw [View.set_slice_whole, Rect.mem_set_unit]
    intro a
    have h0 : (i 0 : Nat) < 1 := (i 0).isLt
    have h1 : (i 1 : Nat) < 1024 := (i 1).isLt
    match a with
    | ⟨0, _⟩ => show win0_8.index t0_7 0 * win0_8.size 0 ≤ (i 0 : Nat) ∧ (i 0 : Nat) < win0_8.index t0_7 0 * win0_8.size 0 + win0_8.xsize (grid0.coords t0_7) 0
                rw [show win0_8.index t0_7 0 * win0_8.size 0 = 0 from by decide +kernel, show win0_8.xsize (grid0.coords t0_7) 0 = 1 from by decide +kernel]; omega
    | ⟨1, _⟩ => show win0_8.index t0_7 1 * win0_8.size 1 ≤ (i 1 : Nat) ∧ (i 1 : Nat) < win0_8.index t0_7 1 * win0_8.size 1 + win0_8.xsize (grid0.coords t0_7) 1
                rw [show win0_8.index t0_7 1 * win0_8.size 1 = 0 from by decide +kernel, show win0_8.xsize (grid0.coords t0_7) 1 = 1024 from by decide +kernel]; omega

include A in
theorem final7 (z : Fin 1) (l : Fin 1024) :
    ((dats m 0 c).arrAt 7 cfg0.N : FVec Ideal S1x1024 .f32) (ix2 z l) = ((∑ r, dyn X DH G B W r l * hat (X r) l : ℝ) : EReal) := by
  rw [final7', ← sum_ext (fun r => dyn X DH G B W r l * hat (X r) l)]
  exact (acc m c A l z 7 t0_7.isLt).1

include A in
theorem final8 (z : Fin 1) (l : Fin 1024) :
    ((dats m 0 c).arrAt 8 cfg0.N : FVec Ideal S1x1024 .f32) (ix2 z l) = ((∑ r, dyn X DH G B W r l : ℝ) : EReal) := by
  rw [final8', ← sum_ext (fun r => dyn X DH G B W r l)]
  exact (acc m c A l z 7 t0_7.isLt).2

end Cert.KernelIdeal.Out

end
-- ==== Proof.OutClaim.lean ====
/- The output projection's gradient: kernel and reference leave the same four arrays. -/
module

public import proofs.«01_k».proof.Defs
public import proofs.«01_k».proof.Proof.OutFin
public import proofs.«01_k».proof.Proof.OutRef
public import proofs.«01_k».proof.Proof.Gen.ReferenceIdeal.Run
public import proofs.«01_k».proof.Proof.Gen.Pre_finite

@[expose] public section

set_option maxRecDepth 16384

noncomputable section

namespace Cert.Out

open Cert.Reals Idealize.ShloMosaic Idealize.ShloMosaic.TcCoe Idealize.SL.Sem

section
open Cert.KernelIdeal

/-- Where the precondition holds, the five arrays the gradient reads are real numbers. -/
theorem args_of_pre (m : (ℓ : Loc nD τ sig) → Buf (Elt Ideal) ℓ) (h : Pre_KernelIdeal_finite m) (c : Dev nD) :
    Cert.KernelIdeal.Out.Args m c
      (fun r l => ((m ((c.tc : Thread nD τ).loc main_arg1) : FVec Ideal S4096x1024 .f32) (ix2 r l)).toReal)
      (fun r l => ((m ((c.tc : Thread nD τ).loc main_arg5) : FVec Ideal S4096x1024 .f32) (ix2 r l)).toReal)
      (fun l => ((m ((c.tc : Thread nD τ).loc main_arg2) : FVec Ideal S1024 .f32) (ix1 l)).toReal)
      (fun l => ((m ((c.tc : Thread nD τ).loc main_arg3) : FVec Ideal S1024 .f32) (ix1 l)).toReal)
      (fun r l => ((m ((c.tc : Thread nD τ).loc main_arg4) : FVec Ideal S2048x1024 .f32) (ix2 r l)).toReal) := by
  obtain ⟨h1, h2, h3, h4, h5⟩ := h c
  exact ⟨fun r l => coe_toReal_of_abs (congrFun h1 (ix2 r l)), fun l => coe_toReal_of_abs (congrFun h2 (ix1 l)),
    fun l => coe_toReal_of_abs (congrFun h3 (ix1 l)), fun r l => coe_toReal_of_abs (congrFun h4 (ix2 r l)),
    fun r l => coe_toReal_of_abs (congrFun h5 (ix2 r l))⟩
end

/-- Two arrays of two axes that agree at every pair of indices are equal. -/
theorem ext2 {a b : Nat} {f g : FVec Ideal (⟨2, ![a, b]⟩ : Shape) .f32} (h : ∀ i j, f (ix2 i j) = g (ix2 i j)) : f = g := by
  funext i
  rw [eq_ix2 i]
  exact h _ _

theorem algebraic : Cert.algebraic_KernelIdeal_ReferenceIdeal_pre_finite := by
  intro m g m' g' hpre hargs
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨e0, e1, e2, e3, kept⟩ := h c
  obtain ⟨b0, b1, b2, b3, b4, b5⟩ := hargs c
  have A := args_of_pre m hpre c
  have h1 := fun r l => (congrFun b1 (ix2 r l)).trans (A.a1 r l)
  have h2 := fun l => (congrFun b2 (ix1 l)).trans (A.a2 l)
  have h3 := fun l => (congrFun b3 (ix1 l)).trans (A.a3 l)
  have h4 := fun r l => (congrFun b4 (ix2 r l)).trans (A.a4 r l)
  have h5 := fun r l => (congrFun b5 (ix2 r l)).trans (A.a5 r l)
  refine ⟨e0.trans ?_, e1.trans ?_, e2.trans ?_, e3.trans ?_, kept⟩
  · refine ext2 (a := 4096) (b := 1024) fun i j => ?_
    refine Eq.trans ?_ (Cert.KernelIdeal.Out.final5 m c A i j).symm
    exact Cert.ReferenceIdeal.Out.v29_eq h4 h5 i j
  · refine ext2 (a := 4096) (b := 1024) fun i j => ?_
    rw [Cert.ReferenceIdeal.Read.val_main_v62_eq]
    exact (Cert.ReferenceIdeal.Out.v62_eq h1 h2 h3 h4 h5 i j).trans (Cert.KernelIdeal.Out.final6 m c A i j).symm
  · refine ext2 (a := 1) (b := 1024) fun i j => ?_
    rw [Cert.ReferenceIdeal.Read.val_main_v63_eq]
    exact (Cert.ReferenceIdeal.Out.v63_eq h1 h2 h3 h4 h5 i j).trans (Cert.KernelIdeal.Out.final7 m c A i j).symm
  · refine ext2 (a := 1) (b := 1024) fun i j => ?_
    rw [Cert.ReferenceIdeal.Read.val_main_v64_eq]
    exact (Cert.ReferenceIdeal.Out.v64_eq h1 h2 h3 h4 h5 i j).trans (Cert.KernelIdeal.Out.final8 m c A i j).symm

end Cert.Out

end
-- ==== Proof.SsdReal.lean ====
/- The chunked state-space layer of one chunk of 128 rows, in the real numbers: rows and columns are numbered by
   naturals, the rows of a chunk from its first. -/
module

public import proofs.«01_k».proof.Proof.Reals

@[expose] public section

noncomputable section

namespace Cert.Ssd

open Idealize.ShloMosaic Cert.Reals

/-- The named mask constant is `-∞`, and the exponential of `-∞` is zero. -/
theorem exp_bot : Ideal.exp (⊥ : EReal) = ((0 : ℝ) : EReal) := rfl

/-- `log (1 + exp x)`, as both programs write it. -/
def sp (x : ℝ) : ℝ := max x 0 + Real.log (1 + Real.exp (-|x|))

/-- The activated projection. -/
def act (P : ℕ → ℕ → ℝ) (l w : ℕ) : ℝ := P l w * sigm (P l w)
/-- The step size of a head. -/
def dtv (D : ℕ → ℕ → ℝ) (b : ℕ → ℝ) (l h : ℕ) : ℝ := sp (D l h + b h)
/-- The logarithm of a row's decay. -/
def av (D : ℕ → ℕ → ℝ) (b al : ℕ → ℝ) (l h : ℕ) : ℝ := dtv D b l h * -Real.exp (al h)
/-- Its running sum down the chunk. -/
def csv (D : ℕ → ℕ → ℝ) (b al : ℕ → ℝ) (l h : ℕ) : ℝ := ∑ s : Fin 128, if (s : ℕ) ≤ l then av D b al s h else 0
/-- The row's input times its step size. -/
def xcv (P D : ℕ → ℕ → ℝ) (b : ℕ → ℝ) (l w : ℕ) : ℝ := act P l w * dtv D b l (w / 64)
/-- The products of a group's `C` and `B` rows. -/
def gv (P : ℕ → ℕ → ℝ) (g l s : ℕ) : ℝ := ∑ n : Fin 128, act P l (1280 + 128 * g + n) * act P s (1024 + 128 * g + n)
/-- What the rows of the chunk itself give a row. -/
def ydv (P D : ℕ → ℕ → ℝ) (b al : ℕ → ℝ) (l w : ℕ) : ℝ :=
  ∑ s : Fin 128, gv P (w / 512) l s * (if (s : ℕ) ≤ l then Real.exp (csv D b al l (w / 64) - csv D b al s (w / 64)) else 0) * xcv P D b s w
/-- What the chunk adds to the state. -/
def newv (P D : ℕ → ℕ → ℝ) (b al : ℕ → ℝ) (n w : ℕ) : ℝ :=
  ∑ s : Fin 128, act P s (1024 + 128 * (w / 512) + n) * (xcv P D b s w * Real.exp (csv D b al 127 (w / 64) - csv D b al s (w / 64)))
/-- The state after the chunk. -/
def nextv (P D : ℕ → ℕ → ℝ) (b al : ℕ → ℝ) (S : ℕ → ℕ → ℝ) (n w : ℕ) : ℝ :=
  S n w * Real.exp (csv D b al 127 (w / 64)) + newv P D b al n w
/-- What the state before the chunk gives a row. -/
def yov (P D : ℕ → ℕ → ℝ) (b al : ℕ → ℝ) (S : ℕ → ℕ → ℝ) (l w : ℕ) : ℝ :=
  (∑ n : Fin 128, act P l (1280 + 128 * (w / 512) + n) * S n w) * Real.exp (csv D b al l (w / 64))
/-- The layer's output. -/
def yv (P D : ℕ → ℕ → ℝ) (b al dk : ℕ → ℝ) (S : ℕ → ℕ → ℝ) (l w : ℕ) : ℝ :=
  ydv P D b al l w + yov P D b al S l w + act P l w * dk (w / 64)
/-- The output gated. -/
def vv (P D Z : ℕ → ℕ → ℝ) (b al dk : ℕ → ℝ) (S : ℕ → ℕ → ℝ) (l w : ℕ) : ℝ :=
  yv P D b al dk S l w * (Z l w * sigm (Z l w))
/-- The mean square of a group of 512 columns. -/
def msv (v : ℕ → ℕ → ℝ) (l g : ℕ) : ℝ := (∑ k : Fin 512, v l (512 * g + k) * v l (512 * g + k)) / 512
/-- The gated output, normalised by groups. -/
def ysv (v : ℕ → ℕ → ℝ) (gn : ℕ → ℝ) (l w : ℕ) : ℝ := v l w * (Real.sqrt (msv v l (w / 512) + eps))⁻¹ * gn w

theorem msv_pos (v : ℕ → ℕ → ℝ) (l g : ℕ) : 0 < msv v l g + eps :=
  add_pos_of_nonneg_of_pos (div_nonneg (Finset.sum_nonneg fun k _ => mul_self_nonneg _) (by norm_num)) eps_pos

/-- The rows of chunk `c`. -/
def rows (P : ℕ → ℕ → ℝ) (c l w : ℕ) : ℝ := P (128 * c + l) w
/-- The state before chunk `c`. -/
def stv (P D : ℕ → ℕ → ℝ) (b al : ℕ → ℝ) : ℕ → ℕ → ℕ → ℝ
  | 0 => fun _ _ => 0
  | c + 1 => nextv (rows P c) (rows D c) b al (stv P D b al c)

/-! ## The programs' words and sums, read as these -/

theorem c512 : Ideal.ofBits .f32 0x44000000#32 = ((512 : ℝ) : EReal) := by
  simp [Ideal.ofBits, Ideal.ieee, -EReal.coe_mul]; norm_num

theorem abs_coe (x : ℝ) : max (x : EReal) (-(x : EReal)) = ((|x| : ℝ) : EReal) := by
  rw [← EReal.coe_neg, ← EReal.coe_strictMono.monotone.map_max]; rfl

theorem log1p_exp (x : ℝ) : Ideal.log1p (Ideal.exp ((x : ℝ) : EReal)) = ((Real.log (1 + Real.exp x) : ℝ) : EReal) := by
  have h : 0 < 1 + Real.exp x := by positivity
  rw [Ideal.exp_coe]
  show Ideal.log (1 + ((Real.exp x : ℝ) : EReal)) = _
  rw [← EReal.coe_one, ← EReal.coe_add, Ideal.log_coe, if_neg (not_le.mpr h)]

theorem ne_self (x : ℝ) : FloatOps.cmpf (F := Ideal) (φ := .f32) .une (x : EReal) (x : EReal) = 0#1 := by
  show BitVec.ofBool (decide ((x : EReal) ≠ x)) = 0#1
  simp

/-- A masked product with the rows of a chunk. -/
theorem head_sum (b : BitVec 1) (g : Fin 128 → ℝ) (m : Fin 128 → BitVec 1) (p : Fin 128 → Prop) [DecidablePred p]
    (hm : ∀ s, m s = if p s then 1#1 else 0#1) (cl : ℝ) (c x : Fin 128 → ℝ) :
    ∑ s, Scalar.select b ((g s : EReal) * Ideal.exp (Scalar.select (m s) ((cl : EReal) - (c s : EReal)) ⊥) * (x s : EReal)) 0
      = ((if b = 1#1 then ∑ s, g s * (if p s then Real.exp (cl - c s) else 0) * x s else 0 : ℝ) : EReal) := by
  by_cases hb : b = 1#1
  · rw [if_pos hb]
    simp only [hb, Scalar.select, show ((1#1 : BitVec 1) = 1) = True from by simp, if_true]
    rw [← coe_sum]
    refine Finset.sum_congr rfl fun s _ => ?_
    rw [hm s]
    by_cases hp : p s
    · simp only [hp, show ((1#1 : BitVec 1) = 1) = True from by simp, if_true, ← EReal.coe_sub, Ideal.exp_coe, ← EReal.coe_mul]
    · simp only [hp, show ((0#1 : BitVec 1) = 1) = False from by simp, if_false, exp_bot, ← EReal.coe_mul]
  · simp [hb, Scalar.select]

end Cert.Ssd

end
end
-- ==== Proof.SsdKer.lean ====
/- The forward kernel's values at one chunk, read entry by entry as the real chunk functions. -/
module

public import proofs.«01_k».proof.Proof.Gen.SsdIdeal.Value
public import proofs.«01_k».proof.Proof.SsdReal

@[expose] public section

set_option maxRecDepth 16384

noncomputable section

namespace Cert.SsdIdeal.Fwd

open Cert.SsdIdeal Cert.SsdIdeal.Gen Cert.Reals Cert.Ssd Idealize.ShloMosaic Idealize.ShloMosaic.TcCoe Idealize.SL.Sem

theorem mask_bot : Named.named (F := Ideal) (φ := .f32) κ "mask" 4048155338#32 = (⊥ : EReal) := rfl

/-! ## Index words -/

theorem bit_coe (p : Prop) [Decidable p] :
    (FloatOps.sitofp (F := Ideal) .f32 (BitVec.setWidth 32 (if p then 1#1 else 0#1)) : EReal) = (((if p then 1 else 0) : ℝ) : EReal) := by
  by_cases h : p
  · simp only [h, if_true]; rw [show BitVec.setWidth 32 (1#1) = 1#32 from by decide]
    show (((1#32 : BitVec 32).toInt : ℝ) : EReal) = _
    norm_num
  · simp only [h, if_false]; rw [show BitVec.setWidth 32 (0#1) = 0#32 from by decide]
    show (((0#32 : BitVec 32).toInt : ℝ) : EReal) = _
    norm_num

theorem tri_bit (h w : Fin 128) : k0_pay9 (ix2 h w) = if (w : ℕ) ≤ h then 1#1 else 0#1 := by
  pointwise [k0_pay9]
  rw [WordCmp.cmpi_sge_ofNat (by omega) (by omega)]
  by_cases hp : (w : ℕ) ≤ h <;> simp [hp]

theorem half0_bit (w : Fin 128) : k0_pay25 (ix2 0 w) = if (w : ℕ) < 64 then 1#1 else 0#1 := by
  pointwise [k0_pay25]
  rw [WordCmp.cmpi_slt_ofNat (b := 64) (by omega) (by omega)]
  by_cases hp : (w : ℕ) < 64 <;> simp [hp]

theorem half1_bit (w : Fin 128) : k0_pay26 (ix2 0 w) = if 64 ≤ (w : ℕ) then 1#1 else 0#1 := by
  pointwise [k0_pay26]
  rw [WordCmp.cmpi_sge_ofNat (b := 64) (by omega) (by omega)]
  by_cases hp : 64 ≤ (w : ℕ) <;> simp [hp]

theorem head_entry (h : Fin 128) (w : Fin 1024) :
    (k0_pay3 (F := Ideal)) (ix2 h w) = (((if (h : ℕ) = w / 64 then 1 else 0) : ℝ) : EReal) := by
  pointwise [k0_pay3]
  have h1 := h.isLt
  have h2 := w.isLt
  have e1 : IntOp.muli (BitVec.ofNat 32 ↑h) 64#32 = BitVec.ofNat 32 (↑h * 64) := by
    simp [IntOp.muli, ← BitVec.ofNat_mul]
  have e2 : IntOp.addi (BitVec.ofNat 32 (↑h * 64)) 64#32 = BitVec.ofNat 32 (↑h * 64 + 64) := by
    simp [IntOp.addi, ← BitVec.ofNat_add]
  rw [e1, e2, WordCmp.cmpi_sge_ofNat (by omega) (by omega), WordCmp.cmpi_slt_ofNat (by omega) (by omega),
    show IntOp.andi (BitVec.ofBool (decide (↑h * 64 ≤ ↑w))) (BitVec.ofBool (decide (↑w < ↑h * 64 + 64)))
      = if (h : ℕ) = w / 64 then 1#1 else 0#1 from ?_]
  · exact bit_coe _
  · have : ((h : ℕ) = w / 64) ↔ (↑h * 64 ≤ (w : ℕ) ∧ (w : ℕ) < ↑h * 64 + 64) := by omega
    by_cases a : ↑h * 64 ≤ (w : ℕ) <;> by_cases b : (w : ℕ) < ↑h * 64 + 64 <;> simp [this, a, b, IntOp.andi]

/-- The three parts of an expanded head value: the parts after the first are zero on real numbers. -/
theorem expand (f : Fin 128 → ℝ) (w : Fin 1024) :
    ∑ x, ((f x : ℝ) : EReal) * (k0_pay3 (F := Ideal)) (ix2 x w)
        + ∑ x, (((f x : ℝ) : EReal) - (f x : ℝ)) * (k0_pay3 (F := Ideal)) (ix2 x w)
      + ∑ x, (((f x : ℝ) : EReal) - (f x : ℝ) - (((f x : ℝ) : EReal) - (f x : ℝ))) * (k0_pay3 (F := Ideal)) (ix2 x w)
      = ((f ⟨w / 64, by have := w.isLt; omega⟩ : ℝ) : EReal) := by
  simp only [head_entry, ← EReal.coe_sub, ← EReal.coe_mul, coe_sum, ← EReal.coe_add, sub_self, zero_mul, Finset.sum_const_zero, add_zero]
  rw [Finset.sum_eq_single ⟨w / 64, by have := w.isLt; omega⟩]
  · simp
  · intro x _ hx
    rw [if_neg (fun h => hx (Fin.ext h)), mul_zero]
  · simp

/-! ## The chunk's values, on blocks of real numbers -/

section Chunk

variable {P D Z : ℕ → ℕ → ℝ} {b al dk gn : ℕ → ℝ} {S : ℕ → ℕ → ℝ}
variable {x0 : FVec Ideal S128x1536 .f32} {x1 : FVec Ideal S128x128 .f32} {x2 : FVec Ideal S128x1024 .f32}
variable {x3 x4 : FVec Ideal S1x128 .f32} {x5 x6 : FVec Ideal S1x1024 .f32} {st : FVec Ideal S128x1024 .f32}

theorem act_entry (h0 : ∀ (l : Fin 128) (w : Fin 1536), x0 (ix2 l w) = ((P l w : ℝ) : EReal)) (l : Fin 128) (w : Fin 1536) :
    k0_pay5 (F := Ideal) x0 (ix2 l w) = ((act P l w : ℝ) : EReal) := by
  pointwise [k0_pay5]
  simp only [h0, Ideal.logistic_coe, ← EReal.coe_mul]
  rfl

theorem xs_entry (h0 : ∀ (l : Fin 128) (w : Fin 1536), x0 (ix2 l w) = ((P l w : ℝ) : EReal)) (l : Fin 128) (w : Fin 1024) :
    k0_pay6 (F := Ideal) x0 (ix2 l w) = ((act P l w : ℝ) : EReal) := by
  pointwise [k0_pay6]
  rw [act_entry h0]

theorem bm_entry (h0 : ∀ (l : Fin 128) (w : Fin 1536), x0 (ix2 l w) = ((P l w : ℝ) : EReal)) (l : Fin 128) (w : Fin 256) :
    k0_pay7 (F := Ideal) x0 (ix2 l w) = ((act P l (1024 + w) : ℝ) : EReal) := by
  pointwise [k0_pay7]
  rw [act_entry h0]

theorem cm_entry (h0 : ∀ (l : Fin 128) (w : Fin 1536), x0 (ix2 l w) = ((P l w : ℝ) : EReal)) (l : Fin 128) (w : Fin 256) :
    k0_pay8 (F := Ideal) x0 (ix2 l w) = ((act P l (1280 + w) : ℝ) : EReal) := by
  pointwise [k0_pay8]
  rw [act_entry h0]

theorem dt_entry (h1 : ∀ l h : Fin 128, x1 (ix2 l h) = ((D l h : ℝ) : EReal)) (h3 : ∀ h : Fin 128, x3 (ix2 0 h) = ((b h : ℝ) : EReal))
    (l h : Fin 128) :
    k0_pay15 (F := Ideal) (k0_pay12 (F := Ideal) x1 x3) (k0_pay13 (F := Ideal) x1 x3) (k0_pay14 (F := Ideal) x1 x3) (ix2 l h) = ((dtv D b l h : ℝ) : EReal) := by
  pointwise [k0_pay15, k0_pay12, k0_pay13, k0_pay14, k0_pay11, k0_pay10]
  simp only [h1, h3, ← EReal.coe_add]
  rw [if_neg (fun h => h rfl), show FloatOps.absf (F := Ideal) (φ := .f32) ((D l h + b h : ℝ) : EReal) = _ from abs_coe _, zero_sub, ← EReal.coe_neg, log1p_exp,
    show (0 : EReal) = ((0 : ℝ) : EReal) from rfl, ← EReal.coe_strictMono.monotone.map_max, ← EReal.coe_add]
  rfl

/-- The running sums of the logarithms of the decay, on any `dt` that is real. -/
theorem cs_entry (h4 : ∀ h : Fin 128, x4 (ix2 0 h) = ((al h : ℝ) : EReal)) {v35 : IVec S128x128 1} {v37 v43 : FVec Ideal S128x128 .f32}
    (hd : ∀ l h : Fin 128, k0_pay15 v35 v37 v43 (ix2 l h) = ((dtv D b l h : ℝ) : EReal)) (l h : Fin 128) :
    k0_pay16 (k0_pay4 x4) k0_pay9 v35 v37 v43 (ix2 l h) = ((csv D b al l h : ℝ) : EReal) := by
  pointwise [k0_pay16, k0_pay4]
  simp only [h4, hd, tri_bit, bit_coe, Ideal.exp_coe, zero_sub, ← EReal.coe_neg, ← EReal.coe_mul, coe_sum]
  unfold csv av
  simp only [ite_mul, one_mul, zero_mul]

theorem csT_entry (v20 : FVec Ideal S1x128 .f32) (v28 v35 : IVec S128x128 1) (v37 v43 : FVec Ideal S128x128 .f32) (l h : Fin 128) :
    k0_pay23 v20 v28 v35 v37 v43 (ix2 h l) = k0_pay16 v20 v28 v35 v37 v43 (ix2 l h) := by
  pointwise [k0_pay23]

theorem cse_entry {v20 : FVec Ideal S1x128 .f32} {v28 v35 : IVec S128x128 1} {v37 v43 : FVec Ideal S128x128 .f32} {C : ℕ → ℕ → ℝ}
    (hc : ∀ l h : Fin 128, k0_pay16 v20 v28 v35 v37 v43 (ix2 l h) = ((C l h : ℝ) : EReal)) (l : Fin 128) (w : Fin 1024) :
    k0_pay17 k0_pay3 v20 v28 v35 v37 v43 (ix2 l w) = ((C l (w / 64) : ℝ) : EReal) := by
  pointwise [k0_pay17]
  simp only [hc]
  exact expand (fun x => C l x) w

theorem ecs_entry {v20 : FVec Ideal S1x128 .f32} {v28 v35 : IVec S128x128 1} {v37 v43 : FVec Ideal S128x128 .f32} {C : ℕ → ℕ → ℝ}
    (hc : ∀ l h : Fin 128, k0_pay16 v20 v28 v35 v37 v43 (ix2 l h) = ((C l h : ℝ) : EReal)) (l : Fin 128) (w : Fin 1024) :
    k0_pay19 k0_pay3 v20 v28 v35 v37 v43 (ix2 l w) = ((Real.exp (C l (w / 64)) : ℝ) : EReal) := by
  pointwise [k0_pay19]
  rw [cse_entry hc, Ideal.exp_coe]

theorem cd_entry {v20 : FVec Ideal S1x128 .f32} {v28 v35 : IVec S128x128 1} {v37 v43 : FVec Ideal S128x128 .f32} {C : ℕ → ℕ → ℝ}
    (hc : ∀ l h : Fin 128, k0_pay16 v20 v28 v35 v37 v43 (ix2 l h) = ((C l h : ℝ) : EReal)) (w : Fin 1024) :
    k0_pay20 k0_pay3 v20 v28 v35 v37 v43 (ix2 0 w) = ((Real.exp (C 127 (w / 64)) : ℝ) : EReal) := by
  pointwise [k0_pay20, k0_pay18]
  rw [cse_entry hc, Ideal.exp_coe]; rfl

theorem xc_entry {v23 : FVec Ideal S128x1024 .f32} {v35 : IVec S128x128 1} {v37 v43 : FVec Ideal S128x128 .f32} {X d : ℕ → ℕ → ℝ}
    (hx : ∀ (l : Fin 128) (w : Fin 1024), v23 (ix2 l w) = ((X l w : ℝ) : EReal))
    (hd : ∀ l h : Fin 128, k0_pay15 v35 v37 v43 (ix2 l h) = ((d l h : ℝ) : EReal)) (l : Fin 128) (w : Fin 1024) :
    k0_pay21 k0_pay3 v23 v35 v37 v43 (ix2 l w) = ((X l w * d l (w / 64) : ℝ) : EReal) := by
  pointwise [k0_pay21]
  simp only [hd, hx]
  rw [expand (fun x => d l x) w, ← EReal.coe_mul]

theorem xd_entry {v20 : FVec Ideal S1x128 .f32} {v23 : FVec Ideal S128x1024 .f32} {v28 v35 : IVec S128x128 1} {v37 v43 : FVec Ideal S128x128 .f32}
    {X C : ℕ → ℕ → ℝ} (hx : ∀ (l : Fin 128) (w : Fin 1024), k0_pay21 k0_pay3 v23 v35 v37 v43 (ix2 l w) = ((X l w : ℝ) : EReal))
    (hc : ∀ l h : Fin 128, k0_pay16 v20 v28 v35 v37 v43 (ix2 l h) = ((C l h : ℝ) : EReal)) (l : Fin 128) (w : Fin 1024) :
    k0_pay22 k0_pay3 v20 v23 v28 v35 v37 v43 (ix2 l w) = ((X l w * Real.exp (C 127 (w / 64) - C l (w / 64)) : ℝ) : EReal) := by
  pointwise [k0_pay22, k0_pay18]
  rw [cse_entry hc, cse_entry hc, hx, ← EReal.coe_sub, Ideal.exp_coe, ← EReal.coe_mul]; rfl

theorem g0_entry {v24 v25 : FVec Ideal S128x256 .f32} (h24 : ∀ (l : Fin 128) (w : Fin 256), v24 (ix2 l w) = ((act P l (1024 + w) : ℝ) : EReal))
    (h25 : ∀ (l : Fin 128) (w : Fin 256), v25 (ix2 l w) = ((act P l (1280 + w) : ℝ) : EReal)) (l s : Fin 128) :
    k0_pay29 v24 v25 (ix2 l s) = ((gv P 0 l s : ℝ) : EReal) := by
  pointwise [k0_pay29, k0_pay27, k0_pay28]
  simp only [h24, h25, ← EReal.coe_mul, coe_sum]
  rfl

theorem g1_entry {v24 v25 : FVec Ideal S128x256 .f32} (h24 : ∀ (l : Fin 128) (w : Fin 256), v24 (ix2 l w) = ((act P l (1024 + w) : ℝ) : EReal))
    (h25 : ∀ (l : Fin 128) (w : Fin 256), v25 (ix2 l w) = ((act P l (1280 + w) : ℝ) : EReal)) (l s : Fin 128) :
    k0_pay32 v24 v25 (ix2 l s) = ((gv P 1 l s : ℝ) : EReal) := by
  pointwise [k0_pay32, k0_pay30, k0_pay31]
  simp only [h24, h25, ← EReal.coe_mul, coe_sum, ← Nat.add_assoc]
  rfl

theorem yo_entry {v25 : FVec Ideal S128x256 .f32} {v78 : FVec Ideal S128x1024 .f32} {E : ℕ → ℕ → ℝ}
    (h25 : ∀ (l : Fin 128) (w : Fin 256), v25 (ix2 l w) = ((act P l (1280 + w) : ℝ) : EReal))
    (hs : ∀ (n : Fin 128) (w : Fin 1024), st (ix2 n w) = ((S n w : ℝ) : EReal))
    (h78 : ∀ (l : Fin 128) (w : Fin 1024), v78 (ix2 l w) = ((E l w : ℝ) : EReal)) (l : Fin 128) (w : Fin 1024) :
    k0_pay33 v25 v78 st (ix2 l w) = (((∑ n : Fin 128, act P l (1280 + 128 * (w / 512) + n) * S n w) * E l w : ℝ) : EReal) := by
  pointwise [k0_pay33, k0_pay28, k0_pay31]
  simp only [h25, hs, h78, ← EReal.coe_mul, coe_sum]
  have hw := w.isLt
  by_cases hp : (w : ℕ) < 512
  · rw [dif_pos hp, ← EReal.coe_mul, show (w : ℕ) / 512 = 0 by omega]
  · rw [dif_neg hp, ← EReal.coe_mul, show (w : ℕ) / 512 = 1 by omega, show 512 + ((w : ℕ) - 512) = w by omega]
    simp only [← Nat.add_assoc]

theorem new_entry {v24 : FVec Ideal S128x256 .f32} {v82 : FVec Ideal S1x1024 .f32} {v84 : FVec Ideal S128x1024 .f32} {E : ℕ → ℝ} {X : ℕ → ℕ → ℝ}
    (h24 : ∀ (l : Fin 128) (w : Fin 256), v24 (ix2 l w) = ((act P l (1024 + w) : ℝ) : EReal))
    (hs : ∀ (n : Fin 128) (w : Fin 1024), st (ix2 n w) = ((S n w : ℝ) : EReal))
    (h82 : ∀ (w : Fin 1024), v82 (ix2 0 w) = ((E w : ℝ) : EReal))
    (h84 : ∀ (l : Fin 128) (w : Fin 1024), v84 (ix2 l w) = ((X l w : ℝ) : EReal)) (n : Fin 128) (w : Fin 1024) :
    k0_pay34 v24 v82 v84 st (ix2 n w)
      = ((S n w * E w + ∑ s : Fin 128, act P s (1024 + 128 * (w / 512) + n) * X s w : ℝ) : EReal) := by
  pointwise [k0_pay34, k0_pay27, k0_pay30]
  simp only [h24, hs, h82, h84, ← EReal.coe_mul, coe_sum]
  have hw := w.isLt
  by_cases hp : (w : ℕ) < 512
  · rw [dif_pos hp, ← EReal.coe_add, show (w : ℕ) / 512 = 0 by omega]
  · rw [dif_neg hp, ← EReal.coe_add, show (w : ℕ) / 512 = 1 by omega, show 512 + ((w : ℕ) - 512) = w by omega]
    simp only [← Nat.add_assoc]

end Chunk

/-- What the rows of a chunk give a row through one head: column `w` of the inputs. -/
def hsum (G C X : ℕ → ℕ → ℝ) (l h w : ℕ) : ℝ :=
  ∑ s : Fin 128, G l s * (if (s : ℕ) ≤ l then Real.exp (C l h - C s h) else 0) * X s w

/-- The two heads of a pair of 64 lanes. -/
theorem pair_sum (G C X : ℕ → ℕ → ℝ) (l w : Fin 128) (h k w' : ℕ) :
    ∑ s : Fin 128, Scalar.select (k0_pay25 (ix2 0 w)) (((G l s : ℝ) : EReal) * Ideal.exp (Scalar.select (k0_pay9 (ix2 l s))
        (((C l h : ℝ) : EReal) - ((C s h : ℝ) : EReal)) ⊥) * ((X s w' : ℝ) : EReal)) 0
      + ∑ s : Fin 128, Scalar.select (k0_pay26 (ix2 0 w)) (((G l s : ℝ) : EReal) * Ideal.exp (Scalar.select (k0_pay9 (ix2 l s))
        (((C l k : ℝ) : EReal) - ((C s k : ℝ) : EReal)) ⊥) * ((X s w' : ℝ) : EReal)) 0
      = ((hsum G C X l (if (w : ℕ) < 64 then h else k) w' : ℝ) : EReal) := by
  rw [head_sum _ (fun s => G l s) (fun s => k0_pay9 (ix2 l s)) (fun s => (s : ℕ) ≤ l) (fun s => tri_bit l s) (C l h) (fun s => C s h) (fun s => X s w'),
    head_sum _ (fun s => G l s) (fun s => k0_pay9 (ix2 l s)) (fun s => (s : ℕ) ≤ l) (fun s => tri_bit l s) (C l k) (fun s => C s k) (fun s => X s w'),
    half0_bit, half1_bit, ← EReal.coe_add]
  by_cases hw : (w : ℕ) < 64
  · simp [hw, not_le.mpr hw, hsum]
  · simp [hw, not_lt.mp hw, hsum]

section Pairs

variable {C X G : ℕ → ℕ → ℝ} {cs cT g : FVec Ideal S128x128 .f32} {xc : FVec Ideal S128x1024 .f32}
variable (hc : ∀ l h : Fin 128, cs (ix2 l h) = ((C l h : ℝ) : EReal)) (hT : ∀ l h : Fin 128, cT (ix2 h l) = ((C l h : ℝ) : EReal))
variable (hg : ∀ l s : Fin 128, g (ix2 l s) = ((G l s : ℝ) : EReal)) (hx : ∀ (l : Fin 128) (w : Fin 1024), xc (ix2 l w) = ((X l w : ℝ) : EReal))
include hc hT hg hx

/-- Heads 0 and 1. -/
theorem pair0 (l w : Fin 128) :
    k0_pay38 k0_pay9 cs cT k0_pay25 k0_pay26 g (k0_pay35 xc) k0_pay36 (k0_pay37 cs cT) (Named.named (F := Ideal) (φ := .f32) κ "mask" 4048155338#32) (ix2 l w)
      = ((hsum G C X l (if (w : ℕ) < 64 then 0 else 1) w : ℝ) : EReal) := by
  pointwise [k0_pay38, k0_pay35, k0_pay36, k0_pay37]
  simp only [hc, hT, hg, hx, mask_bot]
  exact pair_sum G C X l w 0 1 w

/-- Heads 2 and 3. -/
theorem pair1 (l w : Fin 128) :
    k0_pay43 k0_pay9 k0_pay26 g (k0_pay39 xc) (k0_pay40 k0_pay9 cs xc cT k0_pay25 g) (k0_pay41 cT) (k0_pay42 cs) (ix2 l w)
      = ((hsum G C X l (if (w : ℕ) < 64 then 2 else 3) (128 + w) : ℝ) : EReal) := by
  pointwise [k0_pay43, k0_pay39, k0_pay40, k0_pay41, k0_pay42]
  simp only [hc, hT, hg, hx, mask_bot]
  exact pair_sum G C X l w 2 3 (128 + w)

/-- Heads 4 and 5. -/
theorem pair2 (l w : Fin 128) :
    k0_pay44 k0_pay9 cs xc cT k0_pay25 k0_pay26 g (ix2 l w)
      = ((hsum G C X l (if (w : ℕ) < 64 then 4 else 5) (256 + w) : ℝ) : EReal) := by
  pointwise [k0_pay44]
  simp only [hc, hT, hg, hx, mask_bot]
  exact pair_sum G C X l w 4 5 (256 + w)

/-- Heads 6 and 7. -/
theorem pair3 (l w : Fin 128) :
    k0_pay45 k0_pay9 cs xc cT k0_pay25 k0_pay26 g (ix2 l w)
      = ((hsum G C X l (if (w : ℕ) < 64 then 6 else 7) (384 + w) : ℝ) : EReal) := by
  pointwise [k0_pay45]
  simp only [hc, hT, hg, hx, mask_bot]
  exact pair_sum G C X l w 6 7 (384 + w)

/-- Heads 8 and 9. -/
theorem pair4 (l w : Fin 128) :
    k0_pay50 k0_pay9 cs cT k0_pay26 g (k0_pay46 xc) k0_pay47 (k0_pay48 k0_pay9 cs cT g) (Scalar.ofBits (F := Ideal) .f32 0x00000000#32) (k0_pay49 k0_pay25) (ix2 l w)
      = ((hsum G C X l (if (w : ℕ) < 64 then 8 else 9) (512 + w) : ℝ) : EReal) := by
  pointwise [k0_pay50, k0_pay46, k0_pay47, k0_pay48, k0_pay49]
  simp only [hc, hT, hg, hx, mask_bot]
  exact pair_sum G C X l w 8 9 (512 + w)

/-- Heads 10 and 11. -/
theorem pair5 (l w : Fin 128) :
    k0_pay54 k0_pay26 (k0_pay51 xc) (k0_pay52 k0_pay9 cs xc cT k0_pay25 g) (k0_pay53 k0_pay9 cs cT g) (ix2 l w)
      = ((hsum G C X l (if (w : ℕ) < 64 then 10 else 11) (640 + w) : ℝ) : EReal) := by
  pointwise [k0_pay54, k0_pay51, k0_pay52, k0_pay53]
  simp only [hc, hT, hg, hx, mask_bot]
  exact pair_sum G C X l w 10 11 (640 + w)

/-- Heads 12 and 13. -/
theorem pair6 (l w : Fin 128) :
    k0_pay55 k0_pay9 cs xc cT k0_pay25 k0_pay26 g (ix2 l w)
      = ((hsum G C X l (if (w : ℕ) < 64 then 12 else 13) (768 + w) : ℝ) : EReal) := by
  pointwise [k0_pay55]
  simp only [hc, hT, hg, hx, mask_bot]
  exact pair_sum G C X l w 12 13 (768 + w)

theorem y_entry {G0 Y0 A : ℕ → ℕ → ℝ} {dk : ℕ → ℝ} {v23 v122 : FVec Ideal S128x1024 .f32} {v420 : FVec Ideal S1x1024 .f32}
    {v165 v201 v237 v273 v309 v345 v381 : FVec Ideal S128x128 .f32}
    (h165 : ∀ l w : Fin 128, v165 (ix2 l w) = ((hsum G0 C X l (if (w : ℕ) < 64 then 0 else 1) (w) : ℝ) : EReal))
    (h201 : ∀ l w : Fin 128, v201 (ix2 l w) = ((hsum G0 C X l (if (w : ℕ) < 64 then 2 else 3) (128 + w) : ℝ) : EReal))
    (h237 : ∀ l w : Fin 128, v237 (ix2 l w) = ((hsum G0 C X l (if (w : ℕ) < 64 then 4 else 5) (256 + w) : ℝ) : EReal))
    (h273 : ∀ l w : Fin 128, v273 (ix2 l w) = ((hsum G0 C X l (if (w : ℕ) < 64 then 6 else 7) (384 + w) : ℝ) : EReal))
    (h309 : ∀ l w : Fin 128, v309 (ix2 l w) = ((hsum G C X l (if (w : ℕ) < 64 then 8 else 9) (512 + w) : ℝ) : EReal))
    (h345 : ∀ l w : Fin 128, v345 (ix2 l w) = ((hsum G C X l (if (w : ℕ) < 64 then 10 else 11) (640 + w) : ℝ) : EReal))
    (h381 : ∀ l w : Fin 128, v381 (ix2 l w) = ((hsum G C X l (if (w : ℕ) < 64 then 12 else 13) (768 + w) : ℝ) : EReal))
    (h122 : ∀ (l : Fin 128) (w : Fin 1024), v122 (ix2 l w) = ((Y0 l w : ℝ) : EReal))
    (h23 : ∀ (l : Fin 128) (w : Fin 1024), v23 (ix2 l w) = ((A l w : ℝ) : EReal))
    (h420 : ∀ w : Fin 1024, v420 (ix2 0 w) = ((dk w : ℝ) : EReal)) (l : Fin 128) (w : Fin 1024) :
    k0_pay59 v23 k0_pay9 cs cT k0_pay25 k0_pay26 g v122 v165 v201 v237 v273 v309 v345 v381 (k0_pay56 xc) k0_pay57 (k0_pay58 cs cT) v420 (ix2 l w)
      = ((hsum (if (w : ℕ) < 512 then G0 else G) C X l (w / 64) w + Y0 l w + A l w * dk w : ℝ) : EReal) := by
  pointwise [k0_pay59, k0_pay56, k0_pay57, k0_pay58]
  simp only [h122, h23, h420, h165, h201, h237, h273, h309, h345, h381]
  have hw := w.isLt
  have key : ∀ v : EReal, v = ((hsum (if (w : ℕ) < 512 then G0 else G) C X l (w / 64) w : ℝ) : EReal) →
      v + ((Y0 l w : ℝ) : EReal) + ((A l w : ℝ) : EReal) * ((dk w : ℝ) : EReal)
        = ((hsum (if (w : ℕ) < 512 then G0 else G) C X l (w / 64) w + Y0 l w + A l w * dk w : ℝ) : EReal) := by
    rintro _ rfl
    rw [← EReal.coe_mul, ← EReal.coe_add, ← EReal.coe_add]
  have e : ∀ h w' : ℕ, ∀ H : ℕ → ℕ → ℝ, H = (if (w : ℕ) < 512 then G0 else G) → h = w / 64 → w' = w →
      ((hsum H C X l h w' : ℝ) : EReal) = ((hsum (if (w : ℕ) < 512 then G0 else G) C X l (w / 64) w : ℝ) : EReal) := by
    rintro _ _ _ rfl rfl rfl; rfl
  refine key _ ?_
  split
  · exact e _ _ _ (by rw [if_pos (by omega)]) (by split <;> omega) (by omega)
  split
  · exact e _ _ _ (by rw [if_pos (by omega)]) (by split <;> omega) (by omega)
  split
  · exact e _ _ _ (by rw [if_pos (by omega)]) (by split <;> omega) (by omega)
  split
  · exact e _ _ _ (by rw [if_pos (by omega)]) (by split <;> omega) (by omega)
  split
  · exact e _ _ _ (by rw [if_neg (by omega)]) (by split <;> omega) (by omega)
  split
  · exact e _ _ _ (by rw [if_neg (by omega)]) (by split <;> omega) (by omega)
  split
  · exact e _ _ _ (by rw [if_neg (by omega)]) (by split <;> omega) (by omega)
  · simp only [hc, hT, hg, hx, mask_bot]
    exact (pair_sum G C X l ⟨_, by omega⟩ 14 15 _).trans (e _ _ _ (by rw [if_neg (by omega)]) (by dsimp only; split <;> omega) (by omega))

end Pairs

/-- The gated output and its norm, on any output that is real. -/
theorem ys_entry {Y Z : ℕ → ℕ → ℝ} {gn : ℕ → ℝ} {v23 : FVec Ideal S128x1024 .f32} {v28 : IVec S128x128 1} {v52 v85 : FVec Ideal S128x128 .f32} {v92 v94 : IVec S1x128 1}
    {v112 : FVec Ideal S128x128 .f32} {v122 : FVec Ideal S128x1024 .f32} {v165 v201 v237 v273 v309 v345 v381 v382 v383 v388 : FVec Ideal S128x128 .f32}
    {v420 : FVec Ideal S1x1024 .f32} {v426 : FVec Ideal S128x1024 .f32} {x6 : FVec Ideal S1x1024 .f32}
    (hy : ∀ (l : Fin 128) (w : Fin 1024),
      k0_pay59 v23 v28 v52 v85 v92 v94 v112 v122 v165 v201 v237 v273 v309 v345 v381 v382 v383 v388 v420 (ix2 l w) = ((Y l w : ℝ) : EReal))
    (hz : ∀ (l : Fin 128) (w : Fin 1024), v426 (ix2 l w) = ((Z l w : ℝ) : EReal))
    (hn : ∀ w : Fin 1024, x6 (ix2 0 w) = ((gn w : ℝ) : EReal)) (l : Fin 128) (w : Fin 1024) :
    k0_pay1 (k0_pay60 v23 v28 v52 v85 v92 v94 v112 v122 v165 v201 v237 v273 v309 v345 v381 v382 v383 v388 v420 v426)
        (k0_pay61 v23 v28 v52 v85 v92 v94 v112 v122 v165 v201 v237 v273 v309 v345 v381 v382 v383 v388 v420 v426)
        (k0_pay62 v23 v28 v52 v85 v92 v94 v112 v122 v165 v201 v237 v273 v309 v345 v381 v382 v383 v388 v420 v426)
        (Scalar.ofBits (F := Ideal) .f32 0x44000000#32) x6 (ix2 l w)
      = ((ysv (fun l w => Y l w * (Z l w * sigm (Z l w))) gn l w : ℝ) : EReal) := by
  pointwise [k0_pay1, k0_pay60, k0_pay61, k0_pay62]
  simp only [hy, hz, hn, Ideal.logistic_coe, ← EReal.coe_mul, coe_sum, c512, cEps, div_coe_coe (show (512 : ℝ) ≠ 0 by norm_num), ← EReal.coe_add]
  have hw := w.isLt
  have e : ∀ g : ℕ, g = (w : ℕ) / 512 → Ideal.rsqrt ((((∑ k : Fin 512, Y l (512 * g + k) * (Z l (512 * g + k) * sigm (Z l (512 * g + k)))
        * (Y l (512 * g + k) * (Z l (512 * g + k) * sigm (Z l (512 * g + k))))) / 512 + eps : ℝ)) : EReal)
      = (((Real.sqrt (msv (fun l w => Y l w * (Z l w * sigm (Z l w))) l (w / 512) + eps))⁻¹ : ℝ) : EReal) := by
    rintro _ rfl
    exact rsqrt_pos (msv_pos (fun l w => Y l w * (Z l w * sigm (Z l w))) l (w / 512))
  split
  · have e0 := e 0 (by omega)
    simp only [mul_zero, zero_add] at e0
    exact (congrArg (fun r : EReal => ((Y l w * (Z l w * sigm (Z l w)) : ℝ) : EReal) * r * ((gn w : ℝ) : EReal)) e0).trans
      (by rw [← EReal.coe_mul, ← EReal.coe_mul]; rfl)
  · have e0 := e 1 (by omega)
    simp only [mul_one] at e0
    rw [show 512 + ((w : ℕ) - 512) = w by omega]
    exact (congrArg (fun r : EReal => ((Y l w * (Z l w * sigm (Z l w)) : ℝ) : EReal) * r * ((gn w : ℝ) : EReal)) e0).trans
      (by rw [← EReal.coe_mul, ← EReal.coe_mul]; rfl)

end Cert.SsdIdeal.Fwd

end
end
-- ==== Proof.SsdVal.lean ====
/- The forward kernel at a point of its grid: what its body leaves in the output blocks and in the carried state. -/
module

public import proofs.«01_k».proof.Proof.SsdKer

@[expose] public section

set_option maxRecDepth 16384

noncomputable section

namespace Cert.SsdIdeal.Fwd

open Cert.SsdIdeal Cert.SsdIdeal.Gen Cert.Reals Cert.Ssd Idealize.ShloMosaic Idealize.ShloMosaic.TcCoe Idealize.SL.Sem

/-- The running sums of the decays' logarithms. -/
def csK (x1 : Vec Ideal S128x128 .f32) (x3 x4 : Vec Ideal S1x128 .f32) : FVec Ideal S128x128 .f32 :=
  k0_pay16 (k0_pay4 (F := Ideal) x4) k0_pay9 (k0_pay12 (F := Ideal) x1 x3) (k0_pay13 (F := Ideal) x1 x3) (k0_pay14 (F := Ideal) x1 x3)
/-- The same, transposed. -/
def cTK (x1 : Vec Ideal S128x128 .f32) (x3 x4 : Vec Ideal S1x128 .f32) : FVec Ideal S128x128 .f32 :=
  k0_pay23 (k0_pay4 (F := Ideal) x4) k0_pay9 (k0_pay12 (F := Ideal) x1 x3) (k0_pay13 (F := Ideal) x1 x3) (k0_pay14 (F := Ideal) x1 x3)
/-- The inputs times their step sizes. -/
def xcK (x0 : Vec Ideal S128x1536 .f32) (x1 : Vec Ideal S128x128 .f32) (x3 : Vec Ideal S1x128 .f32) : FVec Ideal S128x1024 .f32 :=
  k0_pay21 k0_pay3 (k0_pay6 (F := Ideal) x0) (k0_pay12 (F := Ideal) x1 x3) (k0_pay13 (F := Ideal) x1 x3) (k0_pay14 (F := Ideal) x1 x3)
/-- The products of the first group's rows. -/
def g0K (x0 : Vec Ideal S128x1536 .f32) : FVec Ideal S128x128 .f32 := k0_pay29 (k0_pay7 (F := Ideal) x0) (k0_pay8 (F := Ideal) x0)
/-- The products of the second group's rows. -/
def g1K (x0 : Vec Ideal S128x1536 .f32) : FVec Ideal S128x128 .f32 := k0_pay32 (k0_pay7 (F := Ideal) x0) (k0_pay8 (F := Ideal) x0)
/-- What the state before the chunk gives. -/
def yoK (x0 : Vec Ideal S128x1536 .f32) (x1 : Vec Ideal S128x128 .f32) (x3 x4 : Vec Ideal S1x128 .f32) (st : Vec Ideal S128x1024 .f32) : FVec Ideal S128x1024 .f32 :=
  k0_pay33 (k0_pay8 (F := Ideal) x0) (k0_pay19 k0_pay3 (k0_pay4 (F := Ideal) x4) k0_pay9 (k0_pay12 (F := Ideal) x1 x3) (k0_pay13 (F := Ideal) x1 x3) (k0_pay14 (F := Ideal) x1 x3)) st
/-- The state after the chunk. -/
def nK (x0 : Vec Ideal S128x1536 .f32) (x1 : Vec Ideal S128x128 .f32) (x3 x4 : Vec Ideal S1x128 .f32) (st : Vec Ideal S128x1024 .f32) : FVec Ideal S128x1024 .f32 :=
  k0_pay34 (k0_pay7 (F := Ideal) x0) (k0_pay20 k0_pay3 (k0_pay4 (F := Ideal) x4) k0_pay9 (k0_pay12 (F := Ideal) x1 x3) (k0_pay13 (F := Ideal) x1 x3) (k0_pay14 (F := Ideal) x1 x3))
    (k0_pay22 k0_pay3 (k0_pay4 (F := Ideal) x4) (k0_pay6 (F := Ideal) x0) k0_pay9 (k0_pay12 (F := Ideal) x1 x3) (k0_pay13 (F := Ideal) x1 x3) (k0_pay14 (F := Ideal) x1 x3)) st
/-- The layer's output. -/
def yK (x0 : Vec Ideal S128x1536 .f32) (x1 : Vec Ideal S128x128 .f32) (x3 x4 : Vec Ideal S1x128 .f32) (x5 : Vec Ideal S1x1024 .f32) (st : Vec Ideal S128x1024 .f32) : FVec Ideal S128x1024 .f32 :=
  k0_pay59 (k0_pay6 (F := Ideal) x0) k0_pay9 (csK x1 x3 x4) (cTK x1 x3 x4) k0_pay25 k0_pay26 (g1K x0) (yoK x0 x1 x3 x4 st)
      (k0_pay38 k0_pay9 (csK x1 x3 x4) (cTK x1 x3 x4) k0_pay25 k0_pay26 (g0K x0) (k0_pay35 (xcK x0 x1 x3)) k0_pay36 (k0_pay37 (csK x1 x3 x4) (cTK x1 x3 x4)) (Named.named (F := Ideal) (φ := .f32) κ "mask" 4048155338#32))
      (k0_pay43 k0_pay9 k0_pay26 (g0K x0) (k0_pay39 (xcK x0 x1 x3)) (k0_pay40 k0_pay9 (csK x1 x3 x4) (xcK x0 x1 x3) (cTK x1 x3 x4) k0_pay25 (g0K x0)) (k0_pay41 (cTK x1 x3 x4)) (k0_pay42 (csK x1 x3 x4)))
      (k0_pay44 k0_pay9 (csK x1 x3 x4) (xcK x0 x1 x3) (cTK x1 x3 x4) k0_pay25 k0_pay26 (g0K x0))
      (k0_pay45 k0_pay9 (csK x1 x3 x4) (xcK x0 x1 x3) (cTK x1 x3 x4) k0_pay25 k0_pay26 (g0K x0))
      (k0_pay50 k0_pay9 (csK x1 x3 x4) (cTK x1 x3 x4) k0_pay26 (g1K x0) (k0_pay46 (xcK x0 x1 x3)) k0_pay47 (k0_pay48 k0_pay9 (csK x1 x3 x4) (cTK x1 x3 x4) (g1K x0)) (Scalar.ofBits (F := Ideal) .f32 0x00000000#32) (k0_pay49 k0_pay25))
      (k0_pay54 k0_pay26 (k0_pay51 (xcK x0 x1 x3)) (k0_pay52 k0_pay9 (csK x1 x3 x4) (xcK x0 x1 x3) (cTK x1 x3 x4) k0_pay25 (g1K x0)) (k0_pay53 k0_pay9 (csK x1 x3 x4) (cTK x1 x3 x4) (g1K x0)))
      (k0_pay55 k0_pay9 (csK x1 x3 x4) (xcK x0 x1 x3) (cTK x1 x3 x4) k0_pay25 k0_pay26 (g1K x0))
      (k0_pay56 (xcK x0 x1 x3)) k0_pay57 (k0_pay58 (csK x1 x3 x4) (cTK x1 x3 x4)) x5
/-- The output gated and normalised. -/
def ysK (x0 : Vec Ideal S128x1536 .f32) (x1 : Vec Ideal S128x128 .f32) (x2 : Vec Ideal S128x1024 .f32) (x3 x4 : Vec Ideal S1x128 .f32) (x5 x6 : Vec Ideal S1x1024 .f32) (st : Vec Ideal S128x1024 .f32) : FVec Ideal S128x1024 .bf16 :=
  k0_pay1 (k0_pay60 (k0_pay6 (F := Ideal) x0) k0_pay9 (csK x1 x3 x4) (cTK x1 x3 x4) k0_pay25 k0_pay26 (g1K x0) (yoK x0 x1 x3 x4 st)
      (k0_pay38 k0_pay9 (csK x1 x3 x4) (cTK x1 x3 x4) k0_pay25 k0_pay26 (g0K x0) (k0_pay35 (xcK x0 x1 x3)) k0_pay36 (k0_pay37 (csK x1 x3 x4) (cTK x1 x3 x4)) (Named.named (F := Ideal) (φ := .f32) κ "mask" 4048155338#32))
      (k0_pay43 k0_pay9 k0_pay26 (g0K x0) (k0_pay39 (xcK x0 x1 x3)) (k0_pay40 k0_pay9 (csK x1 x3 x4) (xcK x0 x1 x3) (cTK x1 x3 x4) k0_pay25 (g0K x0)) (k0_pay41 (cTK x1 x3 x4)) (k0_pay42 (csK x1 x3 x4)))
      (k0_pay44 k0_pay9 (csK x1 x3 x4) (xcK x0 x1 x3) (cTK x1 x3 x4) k0_pay25 k0_pay26 (g0K x0))
      (k0_pay45 k0_pay9 (csK x1 x3 x4) (xcK x0 x1 x3) (cTK x1 x3 x4) k0_pay25 k0_pay26 (g0K x0))
      (k0_pay50 k0_pay9 (csK x1 x3 x4) (cTK x1 x3 x4) k0_pay26 (g1K x0) (k0_pay46 (xcK x0 x1 x3)) k0_pay47 (k0_pay48 k0_pay9 (csK x1 x3 x4) (cTK x1 x3 x4) (g1K x0)) (Scalar.ofBits (F := Ideal) .f32 0x00000000#32) (k0_pay49 k0_pay25))
      (k0_pay54 k0_pay26 (k0_pay51 (xcK x0 x1 x3)) (k0_pay52 k0_pay9 (csK x1 x3 x4) (xcK x0 x1 x3) (cTK x1 x3 x4) k0_pay25 (g1K x0)) (k0_pay53 k0_pay9 (csK x1 x3 x4) (cTK x1 x3 x4) (g1K x0)))
      (k0_pay55 k0_pay9 (csK x1 x3 x4) (xcK x0 x1 x3) (cTK x1 x3 x4) k0_pay25 k0_pay26 (g1K x0))
      (k0_pay56 (xcK x0 x1 x3)) k0_pay57 (k0_pay58 (csK x1 x3 x4) (cTK x1 x3 x4)) x5 x2)
    (k0_pay61 (k0_pay6 (F := Ideal) x0) k0_pay9 (csK x1 x3 x4) (cTK x1 x3 x4) k0_pay25 k0_pay26 (g1K x0) (yoK x0 x1 x3 x4 st)
      (k0_pay38 k0_pay9 (csK x1 x3 x4) (cTK x1 x3 x4) k0_pay25 k0_pay26 (g0K x0) (k0_pay35 (xcK x0 x1 x3)) k0_pay36 (k0_pay37 (csK x1 x3 x4) (cTK x1 x3 x4)) (Named.named (F := Ideal) (φ := .f32) κ "mask" 4048155338#32))
      (k0_pay43 k0_pay9 k0_pay26 (g0K x0) (k0_pay39 (xcK x0 x1 x3)) (k0_pay40 k0_pay9 (csK x1 x3 x4) (xcK x0 x1 x3) (cTK x1 x3 x4) k0_pay25 (g0K x0)) (k0_pay41 (cTK x1 x3 x4)) (k0_pay42 (csK x1 x3 x4)))
      (k0_pay44 k0_pay9 (csK x1 x3 x4) (xcK x0 x1 x3) (cTK x1 x3 x4) k0_pay25 k0_pay26 (g0K x0))
      (k0_pay45 k0_pay9 (csK x1 x3 x4) (xcK x0 x1 x3) (cTK x1 x3 x4) k0_pay25 k0_pay26 (g0K x0))
      (k0_pay50 k0_pay9 (csK x1 x3 x4) (cTK x1 x3 x4) k0_pay26 (g1K x0) (k0_pay46 (xcK x0 x1 x3)) k0_pay47 (k0_pay48 k0_pay9 (csK x1 x3 x4) (cTK x1 x3 x4) (g1K x0)) (Scalar.ofBits (F := Ideal) .f32 0x00000000#32) (k0_pay49 k0_pay25))
      (k0_pay54 k0_pay26 (k0_pay51 (xcK x0 x1 x3)) (k0_pay52 k0_pay9 (csK x1 x3 x4) (xcK x0 x1 x3) (cTK x1 x3 x4) k0_pay25 (g1K x0)) (k0_pay53 k0_pay9 (csK x1 x3 x4) (cTK x1 x3 x4) (g1K x0)))
      (k0_pay55 k0_pay9 (csK x1 x3 x4) (xcK x0 x1 x3) (cTK x1 x3 x4) k0_pay25 k0_pay26 (g1K x0))
      (k0_pay56 (xcK x0 x1 x3)) k0_pay57 (k0_pay58 (csK x1 x3 x4) (cTK x1 x3 x4)) x5 x2)
    (k0_pay62 (k0_pay6 (F := Ideal) x0) k0_pay9 (csK x1 x3 x4) (cTK x1 x3 x4) k0_pay25 k0_pay26 (g1K x0) (yoK x0 x1 x3 x4 st)
      (k0_pay38 k0_pay9 (csK x1 x3 x4) (cTK x1 x3 x4) k0_pay25 k0_pay26 (g0K x0) (k0_pay35 (xcK x0 x1 x3)) k0_pay36 (k0_pay37 (csK x1 x3 x4) (cTK x1 x3 x4)) (Named.named (F := Ideal) (φ := .f32) κ "mask" 4048155338#32))
      (k0_pay43 k0_pay9 k0_pay26 (g0K x0) (k0_pay39 (xcK x0 x1 x3)) (k0_pay40 k0_pay9 (csK x1 x3 x4) (xcK x0 x1 x3) (cTK x1 x3 x4) k0_pay25 (g0K x0)) (k0_pay41 (cTK x1 x3 x4)) (k0_pay42 (csK x1 x3 x4)))
      (k0_pay44 k0_pay9 (csK x1 x3 x4) (xcK x0 x1 x3) (cTK x1 x3 x4) k0_pay25 k0_pay26 (g0K x0))
      (k0_pay45 k0_pay9 (csK x1 x3 x4) (xcK x0 x1 x3) (cTK x1 x3 x4) k0_pay25 k0_pay26 (g0K x0))
      (k0_pay50 k0_pay9 (csK x1 x3 x4) (cTK x1 x3 x4) k0_pay26 (g1K x0) (k0_pay46 (xcK x0 x1 x3)) k0_pay47 (k0_pay48 k0_pay9 (csK x1 x3 x4) (cTK x1 x3 x4) (g1K x0)) (Scalar.ofBits (F := Ideal) .f32 0x00000000#32) (k0_pay49 k0_pay25))
      (k0_pay54 k0_pay26 (k0_pay51 (xcK x0 x1 x3)) (k0_pay52 k0_pay9 (csK x1 x3 x4) (xcK x0 x1 x3) (cTK x1 x3 x4) k0_pay25 (g1K x0)) (k0_pay53 k0_pay9 (csK x1 x3 x4) (cTK x1 x3 x4) (g1K x0)))
      (k0_pay55 k0_pay9 (csK x1 x3 x4) (xcK x0 x1 x3) (cTK x1 x3 x4) k0_pay25 k0_pay26 (g1K x0))
      (k0_pay56 (xcK x0 x1 x3)) k0_pay57 (k0_pay58 (csK x1 x3 x4) (cTK x1 x3 x4)) x5 x2)
    (Scalar.ofBits (F := Ideal) .f32 0x44000000#32) x6

section Entries

variable {P D Z : ℕ → ℕ → ℝ} {b al dk gn : ℕ → ℝ} {S : ℕ → ℕ → ℝ}
variable {x0 : Vec Ideal S128x1536 .f32} {x1 : Vec Ideal S128x128 .f32} {x2 : Vec Ideal S128x1024 .f32}
variable {x3 x4 : Vec Ideal S1x128 .f32} {x5 x6 : Vec Ideal S1x1024 .f32} {st : Vec Ideal S128x1024 .f32}
variable (h0 : ∀ (l : Fin 128) (w : Fin 1536), x0 (ix2 l w) = ((P l w : ℝ) : EReal))
variable (h1 : ∀ l h : Fin 128, x1 (ix2 l h) = ((D l h : ℝ) : EReal))
variable (h3 : ∀ h : Fin 128, x3 (ix2 0 h) = ((b h : ℝ) : EReal)) (h4 : ∀ h : Fin 128, x4 (ix2 0 h) = ((al h : ℝ) : EReal))
variable (hs : ∀ (n : Fin 128) (w : Fin 1024), st (ix2 n w) = ((S n w : ℝ) : EReal))

include h1 h3 h4 in
theorem csK_eq (l h : Fin 128) : csK x1 x3 x4 (ix2 l h) = ((csv D b al l h : ℝ) : EReal) := cs_entry h4 (dt_entry h1 h3) l h

include h1 h3 h4 in
theorem cTK_eq (l h : Fin 128) : cTK x1 x3 x4 (ix2 h l) = ((csv D b al l h : ℝ) : EReal) :=
  (csT_entry _ _ _ _ _ l h).trans (cs_entry h4 (dt_entry h1 h3) l h)

include h0 h1 h3 in
theorem xcK_eq (l : Fin 128) (w : Fin 1024) : xcK x0 x1 x3 (ix2 l w) = ((xcv P D b l w : ℝ) : EReal) :=
  xc_entry (X := act P) (d := dtv D b) (xs_entry h0) (dt_entry h1 h3) l w

include h0 in
theorem g0K_eq (l s : Fin 128) : g0K x0 (ix2 l s) = ((gv P 0 l s : ℝ) : EReal) := g0_entry (bm_entry h0) (cm_entry h0) l s

include h0 in
theorem g1K_eq (l s : Fin 128) : g1K x0 (ix2 l s) = ((gv P 1 l s : ℝ) : EReal) := g1_entry (bm_entry h0) (cm_entry h0) l s

include h0 h1 h3 h4 hs in
theorem yoK_eq (l : Fin 128) (w : Fin 1024) : yoK x0 x1 x3 x4 st (ix2 l w) = ((yov P D b al S l w : ℝ) : EReal) :=
  yo_entry (E := fun l w => Real.exp (csv D b al l (w / 64))) (cm_entry h0) hs (ecs_entry (cs_entry h4 (dt_entry h1 h3))) l w

include h0 h1 h3 h4 hs in
theorem nK_eq (n : Fin 128) (w : Fin 1024) : nK x0 x1 x3 x4 st (ix2 n w) = ((nextv P D b al S n w : ℝ) : EReal) :=
  new_entry (E := fun w => Real.exp (csv D b al 127 (w / 64)))
    (X := fun l w => xcv P D b l w * Real.exp (csv D b al 127 (w / 64) - csv D b al l (w / 64))) (bm_entry h0) hs
    (cd_entry (cs_entry h4 (dt_entry h1 h3))) (xd_entry (X := xcv P D b) (xc_entry (X := act P) (d := dtv D b) (xs_entry h0) (dt_entry h1 h3)) (cs_entry h4 (dt_entry h1 h3))) n w

include h0 h1 h3 h4 hs in
theorem yK_eq (h5 : ∀ w : Fin 1024, x5 (ix2 0 w) = ((dk (w / 64) : ℝ) : EReal)) (l : Fin 128) (w : Fin 1024) :
    yK x0 x1 x3 x4 x5 st (ix2 l w) = ((yv P D b al dk S l w : ℝ) : EReal) := by
  have hc := csK_eq (al := al) h1 h3 h4
  have hT := cTK_eq (al := al) h1 h3 h4
  have hx := xcK_eq h0 h1 h3
  have e := y_entry (G0 := gv P 0) (G := gv P 1) (Y0 := yov P D b al S) (A := act P) (dk := fun w => dk (w / 64)) hc hT (g1K_eq h0) hx
    (pair0 hc hT (g0K_eq h0) hx) (pair1 hc hT (g0K_eq h0) hx) (pair2 hc hT (g0K_eq h0) hx) (pair3 hc hT (g0K_eq h0) hx)
    (pair4 hc hT (g1K_eq h0) hx) (pair5 hc hT (g1K_eq h0) hx) (pair6 hc hT (g1K_eq h0) hx)
    (yoK_eq h0 h1 h3 h4 hs) (xs_entry h0) h5 l w
  refine e.trans (congrArg _ ?_)
  have hw := w.isLt
  unfold yv ydv hsum
  by_cases hp : (w : ℕ) < 512
  · rw [if_pos hp, show (w : ℕ) / 512 = 0 by omega]
  · rw [if_neg hp, show (w : ℕ) / 512 = 1 by omega]

include h0 h1 h3 h4 hs in
theorem ysK_eq (h2 : ∀ (l : Fin 128) (w : Fin 1024), x2 (ix2 l w) = ((Z l w : ℝ) : EReal))
    (h5 : ∀ w : Fin 1024, x5 (ix2 0 w) = ((dk (w / 64) : ℝ) : EReal)) (h6 : ∀ w : Fin 1024, x6 (ix2 0 w) = ((gn w : ℝ) : EReal))
    (l : Fin 128) (w : Fin 1024) :
    ysK x0 x1 x2 x3 x4 x5 x6 st (ix2 l w) = ((ysv (vv P D Z b al dk S) gn l w : ℝ) : EReal) :=
  ys_entry (yK_eq h0 h1 h3 h4 hs h5) h2 h6 l w

end Entries

/-! ## The body's stores, case by case -/

section Cases

variable (c : Dev nD) (i : grid0.Coords)
variable (arg1 : Memref sig .tc .vmem S128x1536 .f32) (h1 : arg1.IsWhole)
variable (arg2 : Memref sig .tc .vmem S128x128 .f32) (h2 : arg2.IsWhole)
variable (arg3 : Memref sig .tc .vmem S128x1024 .f32) (h3 : arg3.IsWhole)
variable (arg4 : Memref sig .tc .vmem S1x128 .f32) (h4 : arg4.IsWhole)
variable (arg5 : Memref sig .tc .vmem S1x128 .f32) (h5 : arg5.IsWhole)
variable (arg6 : Memref sig .tc .vmem S1x1024 .f32) (h6 : arg6.IsWhole)
variable (arg7 : Memref sig .tc .vmem S1x1024 .f32) (h7 : arg7.IsWhole)
variable (arg8 : Memref sig .tc .vmem S128x1024 .f32) (h8 : arg8.IsWhole)
variable (arg9 : Memref sig .tc .vmem S128x1024 .bf16) (h9 : arg9.IsWhole)
variable (arg10 : Memref sig .tc .vmem S1x128x1024 .f32) (h10 : arg10.IsWhole)
variable (arg11 : Memref sig .tc .vmem S128x1024 .f32) (h11 : arg11.IsWhole)
variable (x0 : Vec Ideal S128x1536 .f32) (x1 : Vec Ideal S128x128 .f32) (x2 : Vec Ideal S128x1024 .f32) (x3 x4 : Vec Ideal S1x128 .f32) (x5 x6 : Vec Ideal S1x1024 .f32) (st : Vec Ideal S128x1024 .f32)

theorem hz : (![(0 : ℕ), 0] : Fin 2 → ℕ) = fun _ => 0 := by decide
theorem hz3 : (![(0 : ℕ), 0, 0] : Fin 3 → ℕ) = fun _ => 0 := by decide

theorem out_B_7 (hc : ¬cond0_0 i) : out0_B_7 (F := Ideal) c i arg1 h1 arg2 h2 arg3 h3 arg4 h4 arg5 h5 arg6 h6 arg7 h7 arg8 h8 arg9 h9 arg10 h10 arg11 h11 hc x0 x1 x2 x3 x4 x5 x6 st = yK x0 x1 x3 x4 x5 st := by
  unfold out0_B_7
  rw [View.read_writes_eq_canon _ _ _ (cover0_B_7 c i arg1 h1 arg2 h2 arg3 h3 arg4 h4 arg5 h5 arg6 h6 arg7 h7 arg8 h8 arg9 h9 arg10 h10 arg11 h11 hc x0 x1 x2 x3 x4 x5 x6 st)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz]
  rfl

theorem out_B_8 (hc : ¬cond0_0 i) : out0_B_8 (F := Ideal) c i arg1 h1 arg2 h2 arg3 h3 arg4 h4 arg5 h5 arg6 h6 arg7 h7 arg8 h8 arg9 h9 arg10 h10 arg11 h11 hc x0 x1 x2 x3 x4 x5 x6 st = ysK x0 x1 x2 x3 x4 x5 x6 st := by
  unfold out0_B_8
  rw [View.read_writes_eq_canon _ _ _ (cover0_B_8 c i arg1 h1 arg2 h2 arg3 h3 arg4 h4 arg5 h5 arg6 h6 arg7 h7 arg8 h8 arg9 h9 arg10 h10 arg11 h11 hc x0 x1 x2 x3 x4 x5 x6 st)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz]
  rfl

theorem out_B_9 (hc : ¬cond0_0 i) : out0_B_9 (F := Ideal) c i arg1 h1 arg2 h2 arg3 h3 arg4 h4 arg5 h5 arg6 h6 arg7 h7 arg8 h8 arg9 h9 arg10 h10 arg11 h11 hc x0 x1 x2 x3 x4 x5 x6 st = k0_pay24 (F := Ideal) st := by
  unfold out0_B_9
  rw [View.read_writes_eq_canon _ _ _ (cover0_B_9 c i arg1 h1 arg2 h2 arg3 h3 arg4 h4 arg5 h5 arg6 h6 arg7 h7 arg8 h8 arg9 h9 arg10 h10 arg11 h11 hc x0 x1 x2 x3 x4 x5 x6 st)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz]

theorem sout_B_0 (hc : ¬cond0_0 i) : sout0_B_0 (F := Ideal) c i arg1 h1 arg2 h2 arg3 h3 arg4 h4 arg5 h5 arg6 h6 arg7 h7 arg8 h8 arg9 h9 arg10 h10 arg11 h11 hc x0 x1 x2 x3 x4 x5 x6 st = nK x0 x1 x3 x4 st := by
  unfold sout0_B_0
  rw [View.read_writes_eq_canon _ _ _ (scover0_B_0 c i arg1 h1 arg2 h2 arg3 h3 arg4 h4 arg5 h5 arg6 h6 arg7 h7 arg8 h8 arg9 h9 arg10 h10 arg11 h11 hc x0 x1 x2 x3 x4 x5 x6 st)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz]
  rfl

theorem out_A_7 (hc : cond0_0 i) : out0_A_7 (F := Ideal) c i arg1 h1 arg2 h2 arg3 h3 arg4 h4 arg5 h5 arg6 h6 arg7 h7 arg8 h8 arg9 h9 arg10 h10 arg11 h11 hc x0 x1 x2 x3 x4 x5 x6 = yK x0 x1 x3 x4 x5 (k0_pay2 (F := Ideal)) := by
  unfold out0_A_7
  rw [View.read_writes_eq_canon _ _ _ (cover0_A_7 c i arg1 h1 arg2 h2 arg3 h3 arg4 h4 arg5 h5 arg6 h6 arg7 h7 arg8 h8 arg9 h9 arg10 h10 arg11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz, View.readCov_unit_zero (S := S128x1024) _ hz]
  rfl

theorem out_A_8 (hc : cond0_0 i) : out0_A_8 (F := Ideal) c i arg1 h1 arg2 h2 arg3 h3 arg4 h4 arg5 h5 arg6 h6 arg7 h7 arg8 h8 arg9 h9 arg10 h10 arg11 h11 hc x0 x1 x2 x3 x4 x5 x6 = ysK x0 x1 x2 x3 x4 x5 x6 (k0_pay2 (F := Ideal)) := by
  unfold out0_A_8
  rw [View.read_writes_eq_canon _ _ _ (cover0_A_8 c i arg1 h1 arg2 h2 arg3 h3 arg4 h4 arg5 h5 arg6 h6 arg7 h7 arg8 h8 arg9 h9 arg10 h10 arg11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz, View.readCov_unit_zero (S := S128x1024) _ hz]
  rfl

theorem out_A_9 (hc : cond0_0 i) : out0_A_9 (F := Ideal) c i arg1 h1 arg2 h2 arg3 h3 arg4 h4 arg5 h5 arg6 h6 arg7 h7 arg8 h8 arg9 h9 arg10 h10 arg11 h11 hc x0 x1 x2 x3 x4 x5 x6 = k0_pay24 (F := Ideal) (k0_pay2 (F := Ideal)) := by
  unfold out0_A_9
  rw [View.read_writes_eq_canon _ _ _ (cover0_A_9 c i arg1 h1 arg2 h2 arg3 h3 arg4 h4 arg5 h5 arg6 h6 arg7 h7 arg8 h8 arg9 h9 arg10 h10 arg11 h11 hc x0 x1 x2 x3 x4 x5 x6)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz, View.readCov_unit_zero (S := S128x1024) _ hz]

theorem sout_A_0 (hc : cond0_0 i) : sout0_A_0 (F := Ideal) c i arg1 h1 arg2 h2 arg3 h3 arg4 h4 arg5 h5 arg6 h6 arg7 h7 arg8 h8 arg9 h9 arg10 h10 arg11 h11 hc x0 x1 x2 x3 x4 x5 x6 = nK x0 x1 x3 x4 (k0_pay2 (F := Ideal)) := by
  unfold sout0_A_0
  rw [View.read_writes_eq_canon _ _ _ (scover0_A_0 c i arg1 h1 arg2 h2 arg3 h3 arg4 h4 arg5 h5 arg6 h6 arg7 h7 arg8 h8 arg9 h9 arg10 h10 arg11 h11 hc x0 x1 x2 x3 x4 x5 x6)]
  unfold kernelRun0_A
  dsimp only
  sl_unfold_words
  rw [View.canon_cons_unit_zero (S := S128x1024) hz]
  simp only [View.readAt_eq_ld, h1.read_unread, h2.read_unread, h3.read_unread, h4.read_unread, h5.read_unread, h6.read_unread, h7.read_unread, h11.read_unread,
    View.ld_unit_zero (S := S128x1536) hz, View.ld_unit_zero (S := S128x128) hz, View.ld_unit_zero (S := S128x1024) hz, View.ld_unit_zero (S := S1x128) hz, View.ld_unit_zero (S := S1x1024) hz, View.readCov_unit_zero (S := S128x1024) _ hz]
  rfl

end Cases

end Cert.SsdIdeal.Fwd

end
end
-- ==== Proof.SsdFin.lean ====
/- The forward kernel's result arrays after its run, as the real layer. -/
module

public import proofs.«01_k».proof.Proof.SsdVal

@[expose] public section

set_option maxRecDepth 16384

noncomputable section

namespace Cert.SsdIdeal.Fwd

open Cert.SsdIdeal Cert.SsdIdeal.Gen Cert.Reals Cert.Ssd Idealize.ShloMosaic Idealize.ShloMosaic.TcCoe Idealize.SL.Sem

variable (m : (ℓ : Loc nD τ sig) → Buf (Elt Ideal) ℓ) (c : Dev nD)

/-- The arguments are these real numbers. -/
structure Args (P D Z : ℕ → ℕ → ℝ) (b al dk gn : ℕ → ℝ) : Prop where
  pre : ∀ (r : Fin 4096) (w : Fin 1536), (m ((c : Thread nD τ).loc main_arg0) : FVec Ideal S4096x1536 .f32) (ix2 r w) = ((P r w : ℝ) : EReal)
  dtr : ∀ (r : Fin 4096) (w : Fin 128), (m ((c : Thread nD τ).loc main_arg1) : FVec Ideal S4096x128 .f32) (ix2 r w) = ((D r w : ℝ) : EReal)
  gate : ∀ (r : Fin 4096) (w : Fin 1024), (m ((c : Thread nD τ).loc main_arg2) : FVec Ideal S4096x1024 .f32) (ix2 r w) = ((Z r w : ℝ) : EReal)
  bias : ∀ h : Fin 16, (m ((c : Thread nD τ).loc main_arg3) : FVec Ideal S16 .f32) (ix1 h) = ((b h : ℝ) : EReal)
  alog : ∀ h : Fin 16, (m ((c : Thread nD τ).loc main_arg4) : FVec Ideal S16 .f32) (ix1 h) = ((al h : ℝ) : EReal)
  skip : ∀ h : Fin 16, (m ((c : Thread nD τ).loc main_arg5) : FVec Ideal S16 .f32) (ix1 h) = ((dk h : ℝ) : EReal)
  norm : ∀ w : Fin 1024, (m ((c : Thread nD τ).loc main_arg6) : FVec Ideal S1024 .f32) (ix1 w) = ((gn w : ℝ) : EReal)
  bias0 : ∀ h : ℕ, 16 ≤ h → b h = 0
  alog0 : ∀ h : ℕ, 16 ≤ h → al h = 0

theorem V1 : V m c main_v1 = pad S1x128 ![0, 0] ![0, 112] ![0, 0]
    (shapeCast S1x16 (m ((c : Thread nD τ).loc main_arg3) : FVec Ideal S16 .f32) shapeCasts_S16_S1x16) (sitofp (F := Ideal) .f32 (constantI S_ 32 0#32)) pads_S1x16_S1x128_000_01120 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem V3 : V m c main_v3 = pad S1x128 ![0, 0] ![0, 112] ![0, 0]
    (shapeCast S1x16 (m ((c : Thread nD τ).loc main_arg4) : FVec Ideal S16 .f32) shapeCasts_S16_S1x16) (sitofp (F := Ideal) .f32 (constantI S_ 32 0#32)) pads_S1x16_S1x128_000_01120 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem V6 : V m c main_v6 = shapeCast S1x1024 (broadcastInDim S1x16x64 ![0, 1] bcast_S1x16_S1x16x64_0_1
    (shapeCast S1x16 (m ((c : Thread nD τ).loc main_arg5) : FVec Ideal S16 .f32) shapeCasts_S16_S1x16)) shapeCasts_S1x16x64_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem V7 : V m c main_v7 = shapeCast S1x1024 (m ((c : Thread nD τ).loc main_arg6) : FVec Ideal S1024 .f32) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

/-- A row of 16 numbers padded with zeros. -/
theorem padded {b : ℕ → ℝ} (x : FVec Ideal S16 .f32) (hx : ∀ h : Fin 16, x (ix1 h) = ((b h : ℝ) : EReal)) (h0 : ∀ h : ℕ, 16 ≤ h → b h = 0) (h : Fin 128) :
    pad S1x128 ![0, 0] ![0, 112] ![0, 0] (shapeCast S1x16 x shapeCasts_S16_S1x16) (sitofp (F := Ideal) .f32 (constantI S_ 32 0#32)) pads_S1x16_S1x128_000_01120 h_S_
      (ix2 0 h) = ((b h : ℝ) : EReal) := by
  pointwise
  split
  · exact hx _
  · rw [h0 h (by omega)]
    show (((0#32 : BitVec 32).toInt : ℝ) : EReal) = _
    norm_num

theorem repeated {b : ℕ → ℝ} (x : FVec Ideal S16 .f32) (hx : ∀ h : Fin 16, x (ix1 h) = ((b h : ℝ) : EReal)) (w : Fin 1024) :
    shapeCast S1x1024 (broadcastInDim S1x16x64 ![0, 1] bcast_S1x16_S1x16x64_0_1 (shapeCast S1x16 x shapeCasts_S16_S1x16)) shapeCasts_S1x16x64_S1x1024
      (ix2 0 w) = ((b (w / 64) : ℝ) : EReal) := by
  pointwise
  exact hx _

theorem asRow {g : ℕ → ℝ} (x : FVec Ideal S1024 .f32) (hx : ∀ h : Fin 1024, x (ix1 h) = ((g h : ℝ) : EReal)) (w : Fin 1024) :
    shapeCast S1x1024 x shapeCasts_S1024_S1x1024 (ix2 0 w) = ((g w : ℝ) : EReal) := by
  pointwise
  exact hx _

theorem row_lt (t : Fin cfg0.N) (r : Fin 128) : 128 * t.val + r.val < 4096 := by
  have : t.val < 32 := lt_of_lt_of_eq t.isLt N_0
  omega

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx9 : ∀ t : Fin grid0.N, win0_9.index t 0 = t.val ∧ win0_9.index t 1 = 0 ∧ win0_9.index t 2 = 0 := by decide +kernel

variable {P D Z : ℕ → ℕ → ℝ} {b al dk gn : ℕ → ℝ} (A : Args m c P D Z b al dk gn)
include A

theorem blk0 (t : Fin cfg0.N) (r : Fin 128) (l : Fin 1536) :
    (iblk m c 0 t : Vec Ideal S128x1536 .f32) (ix2 r l) = ((rows P t r l : ℝ) : EReal) := by
  refine Eq.trans ?_ (A.pre ⟨128 * t.val + r.val, row_lt t r⟩ l)
  unfold iblk
  rw [View.read_apply]
  show V m c main_arg0 _ = _
  rw [V_main_arg0]
  congr 1
  funext a
  apply Fin.ext
  match a with
  | ⟨0, _⟩ => show win0_0.index t 0 * 128 + 1 * r.val = 128 * t.val + r.val; rw [(idx0 t).1]; omega
  | ⟨1, _⟩ => show win0_0.index t 1 * 1536 + 1 * l.val = l.val; rw [(idx0 t).2]; omega

theorem blk1 (t : Fin cfg0.N) (r : Fin 128) (l : Fin 128) :
    (iblk m c 1 t : Vec Ideal S128x128 .f32) (ix2 r l) = ((rows D t r l : ℝ) : EReal) := by
  refine Eq.trans ?_ (A.dtr ⟨128 * t.val + r.val, row_lt t r⟩ l)
  unfold iblk
  rw [View.read_apply]
  show V m c main_arg1 _ = _
  rw [V_main_arg1]
  congr 1
  funext a
  apply Fin.ext
  match a with
  | ⟨0, _⟩ => show win0_1.index t 0 * 128 + 1 * r.val = 128 * t.val + r.val; rw [(idx1 t).1]; omega
  | ⟨1, _⟩ => show win0_1.index t 1 * 128 + 1 * l.val = l.val; rw [(idx1 t).2]; omega

theorem blk2 (t : Fin cfg0.N) (r : Fin 128) (l : Fin 1024) :
    (iblk m c 2 t : Vec Ideal S128x1024 .f32) (ix2 r l) = ((rows Z t r l : ℝ) : EReal) := by
  refine Eq.trans ?_ (A.gate ⟨128 * t.val + r.val, row_lt t r⟩ l)
  unfold iblk
  rw [View.read_apply]
  show V m c main_arg2 _ = _
  rw [V_main_arg2]
  congr 1
  funext a
  apply Fin.ext
  match a with
  | ⟨0, _⟩ => show win0_2.index t 0 * 128 + 1 * r.val = 128 * t.val + r.val; rw [(idx2 t).1]; omega
  | ⟨1, _⟩ => show win0_2.index t 1 * 1024 + 1 * l.val = l.val; rw [(idx2 t).2]; omega

theorem blk3 (t : Fin cfg0.N) (l : Fin 128) :
    (iblk m c 3 t : Vec Ideal S1x128 .f32) (ix2 0 l) = ((b l : ℝ) : EReal) := by
  refine Eq.trans ?_ ((congrFun (V1 m c) (ix2 0 l)).trans (padded _ A.bias A.bias0 l))
  unfold iblk
  rw [View.read_apply]
  show V m c main_v1 _ = _
  congr 1
  funext a
  apply Fin.ext
  match a with
  | ⟨0, _⟩ => show win0_3.index t 0 * 1 + 1 * 0 = 0; rw [(idx3 t).1]
  | ⟨1, _⟩ => show win0_3.index t 1 * 128 + 1 * l.val = l.val; rw [(idx3 t).2]; omega

theorem blk4 (t : Fin cfg0.N) (l : Fin 128) :
    (iblk m c 4 t : Vec Ideal S1x128 .f32) (ix2 0 l) = ((al l : ℝ) : EReal) := by
  refine Eq.trans ?_ ((congrFun (V3 m c) (ix2 0 l)).trans (padded _ A.alog A.alog0 l))
  unfold iblk
  rw [View.read_apply]
  show V m c main_v3 _ = _
  congr 1
  funext a
  apply Fin.ext
  match a with
  | ⟨0, _⟩ => show win0_4.index t 0 * 1 + 1 * 0 = 0; rw [(idx4 t).1]
  | ⟨1, _⟩ => show win0_4.index t 1 * 128 + 1 * l.val = l.val; rw [(idx4 t).2]; omega

theorem blk5 (t : Fin cfg0.N) (l : Fin 1024) :
    (iblk m c 5 t : Vec Ideal S1x1024 .f32) (ix2 0 l) = ((dk (l / 64) : ℝ) : EReal) := by
  refine Eq.trans ?_ ((congrFun (V6 m c) (ix2 0 l)).trans (repeated _ A.skip l))
  unfold iblk
  rw [View.read_apply]
  show V m c main_v6 _ = _
  congr 1
  funext a
  apply Fin.ext
  match a with
  | ⟨0, _⟩ => show win0_5.index t 0 * 1 + 1 * 0 = 0; rw [(idx5 t).1]
  | ⟨1, _⟩ => show win0_5.index t 1 * 1024 + 1 * l.val = l.val; rw [(idx5 t).2]; omega

theorem blk6 (t : Fin cfg0.N) (l : Fin 1024) :
    (iblk m c 6 t : Vec Ideal S1x1024 .f32) (ix2 0 l) = ((gn l : ℝ) : EReal) := by
  refine Eq.trans ?_ ((congrFun (V7 m c) (ix2 0 l)).trans (asRow _ A.norm l))
  unfold iblk
  rw [View.read_apply]
  show V m c main_v7 _ = _
  congr 1
  funext a
  apply Fin.ext
  match a with
  | ⟨0, _⟩ => show win0_6.index t 0 * 1 + 1 * 0 = 0; rw [(idx6 t).1]
  | ⟨1, _⟩ => show win0_6.index t 1 * 1024 + 1 * l.val = l.val; rw [(idx6 t).2]; omega

/-- The carried state after a point is the state before the next chunk. -/
theorem state (n : ℕ) (hn : n < cfg0.N) (i : Fin 128) (w : Fin 1024) :
    (outsAt0 m c n hn).2.2.2 (ix2 i w) = ((stv P D b al (n + 1) i w : ℝ) : EReal) := by
  induction n generalizing i w with
  | zero =>
    rw [outsAt0_A m c ⟨0, hn⟩ rfl]
    dsimp only
    rw [sout_A_0]
    exact nK_eq (S := fun _ _ => 0) (blk0 m c A _) (blk1 m c A _) (blk3 m c A _) (blk4 m c A _) (fun n w => by pointwise [k0_pay2]; rfl) i w
  | succ n ih =>
    have hN : n + 1 < 32 := lt_of_lt_of_eq hn N_0
    rw [outsAt0_B m c ⟨n + 1, hn⟩ (by show ¬(n + 1) % 32 = 0; omega)]
    dsimp only
    rw [sout_B_0]
    exact nK_eq (blk0 m c A _) (blk1 m c A _) (blk3 m c A _) (blk4 m c A _) (ih _) i w

/-- What a point leaves in its output blocks. -/
theorem outs (t : Fin cfg0.N) :
    (∀ (l : Fin 128) (w : Fin 1024), (outsAt0 m c t.val t.isLt).1 (ix2 l w) = ((yv (rows P t) (rows D t) b al dk (stv P D b al t) l w : ℝ) : EReal))
    ∧ (∀ (l : Fin 128) (w : Fin 1024), (outsAt0 m c t.val t.isLt).2.1 (ix2 l w)
        = ((ysv (vv (rows P t) (rows D t) (rows Z t) b al dk (stv P D b al t)) gn l w : ℝ) : EReal))
    ∧ (∀ (z : Fin 1) (l : Fin 128) (w : Fin 1024), (outsAt0 m c t.val t.isLt).2.2.1 (ix3 z l w) = ((stv P D b al t l w : ℝ) : EReal)) := by
  have hN : t.val < 32 := lt_of_lt_of_eq t.isLt N_0
  have key : ∀ st : Vec Ideal S128x1024 .f32, (∀ (n : Fin 128) (w : Fin 1024), st (ix2 n w) = ((stv P D b al t n w : ℝ) : EReal)) →
      (∀ (l : Fin 128) (w : Fin 1024), yK (iblk m c 0 t) (iblk m c 1 t) (iblk m c 3 t) (iblk m c 4 t) (iblk m c 5 t) st (ix2 l w)
          = ((yv (rows P t) (rows D t) b al dk (stv P D b al t) l w : ℝ) : EReal))
      ∧ (∀ (l : Fin 128) (w : Fin 1024), ysK (iblk m c 0 t) (iblk m c 1 t) (iblk m c 2 t) (iblk m c 3 t) (iblk m c 4 t) (iblk m c 5 t) (iblk m c 6 t) st (ix2 l w)
          = ((ysv (vv (rows P t) (rows D t) (rows Z t) b al dk (stv P D b al t)) gn l w : ℝ) : EReal))
      ∧ (∀ (z : Fin 1) (l : Fin 128) (w : Fin 1024), k0_pay24 (F := Ideal) st (ix3 z l w) = ((stv P D b al t l w : ℝ) : EReal)) := fun st hs =>
    ⟨yK_eq (blk0 m c A t) (blk1 m c A t) (blk3 m c A t) (blk4 m c A t) hs (blk5 m c A t),
     ysK_eq (blk0 m c A t) (blk1 m c A t) (blk3 m c A t) (blk4 m c A t) hs (blk2 m c A t) (blk5 m c A t) (blk6 m c A t),
     fun z l w => by pointwise [k0_pay24]; exact hs l w⟩
  by_cases h0 : t.val % 32 = 0
  · have e0 : t.val = 0 := by omega
    rw [outsAt0_A m c t h0]
    dsimp only
    rw [out_A_7, out_A_8, out_A_9]
    exact key _ (fun n w => by rw [e0]; pointwise [k0_pay2]; rfl)
  · rw [outsAt0_B m c t h0]
    dsimp only
    rw [out_B_7, out_B_8, out_B_9]
    refine key _ (fun n w => (state m c A (t.val - 1) _ n w).trans ?_)
    rw [show t.val - 1 + 1 = t.val by omega]

omit A in
/-- The grid point that computes row `R`. -/
def ptOf (R : Fin 4096) : Fin cfg0.N := ⟨R.val / 128, by rw [show cfg0.N = 32 from N_0]; omega⟩

theorem final7 (R : Fin 4096) (w : Fin 1024) :
    ((dats m 0 c).arrAt 7 cfg0.N : FVec Ideal S4096x1024 .f32) (ix2 R w) = ((yv (rows P (R / 128)) (rows D (R / 128)) b al dk (stv P D b al (R / 128)) (R % 128) w : ℝ) : EReal) := by
  have h := congrFun (Value.blocks7 m c (ptOf R) (flush0_7 _)) (ix2 ⟨R.val % 128, by omega⟩ w)
  rw [View.read_apply, Value.flushed7] at h
  refine Eq.trans (congrArg _ (funext fun a => Fin.ext ?_)) (h.trans ((outs m c A (ptOf R)).1 ⟨R.val % 128, by omega⟩ w))
  match a with
  | ⟨0, _⟩ => show R.val = win0_7.index (ptOf R) 0 * 128 + 1 * (R.val % 128); rw [(idx7 (ptOf R)).1]; show _ = R.val / 128 * 128 + _; omega
  | ⟨1, _⟩ => show w.val = win0_7.index (ptOf R) 1 * 1024 + 1 * w.val; rw [(idx7 (ptOf R)).2]; omega

theorem final8 (R : Fin 4096) (w : Fin 1024) :
    ((dats m 0 c).arrAt 8 cfg0.N : FVec Ideal S4096x1024 .bf16) (ix2 R w) = ((ysv (vv (rows P (R / 128)) (rows D (R / 128)) (rows Z (R / 128)) b al dk (stv P D b al (R / 128))) gn (R % 128) w : ℝ) : EReal) := by
  have h := congrFun (Value.blocks8 m c (ptOf R) (flush0_8 _)) (ix2 ⟨R.val % 128, by omega⟩ w)
  rw [View.read_apply, Value.flushed8] at h
  refine Eq.trans (congrArg _ (funext fun a => Fin.ext ?_)) (h.trans ((outs m c A (ptOf R)).2.1 ⟨R.val % 128, by omega⟩ w))
  match a with
  | ⟨0, _⟩ => show R.val = win0_8.index (ptOf R) 0 * 128 + 1 * (R.val % 128); rw [(idx8 (ptOf R)).1]; show _ = R.val / 128 * 128 + _; omega
  | ⟨1, _⟩ => show w.val = win0_8.index (ptOf R) 1 * 1024 + 1 * w.val; rw [(idx8 (ptOf R)).2]; omega

theorem final9 (k : Fin 32) (l : Fin 128) (w : Fin 1024) :
    ((dats m 0 c).arrAt 9 cfg0.N : FVec Ideal S32x128x1024 .f32) (ix3 k l w) = ((stv P D b al k l w : ℝ) : EReal) := by
  have h := congrFun (Value.blocks9 m c ⟨k.val, lt_of_lt_of_eq k.isLt N_0.symm⟩ (flush0_9 _)) (ix3 0 l w)
  rw [View.read_apply, Value.flushed9] at h
  refine Eq.trans (congrArg _ (funext fun a => Fin.ext ?_)) (h.trans ((outs m c A ⟨k.val, lt_of_lt_of_eq k.isLt N_0.symm⟩).2.2 0 l w))
  match a with
  | ⟨0, _⟩ => show k.val = win0_9.index ⟨k.val, _⟩ 0 * 1 + 1 * 0; rw [(idx9 ⟨k.val, _⟩).1]; show k.val = k.val * 1 + 1 * 0; omega
  | ⟨1, _⟩ => show l.val = win0_9.index ⟨k.val, _⟩ 1 * 128 + 1 * l.val; rw [(idx9 ⟨k.val, _⟩).2.1]; omega
  | ⟨2, _⟩ => show w.val = win0_9.index ⟨k.val, _⟩ 2 * 1024 + 1 * w.val; rw [(idx9 ⟨k.val, _⟩).2.2]; omega

end Cert.SsdIdeal.Fwd

end
end
-- ==== Proof.SsdRef.lean ====
/- The reference of the chunked state-space layer, read element by element on finite arguments. -/
module

public import proofs.«01_k».proof.Proof.SsdReal
public import proofs.«01_k».proof.Proof.Gen.SsdRefIdeal.Read
public import Idealize.ShloMosaic.Lib.WordCmp

@[expose] public section

set_option maxRecDepth 16384

noncomputable section

namespace Cert.SsdRefIdeal.Fwd

open Cert.SsdRefIdeal Cert.SsdRefIdeal.Gen Cert.SsdRefIdeal.Read Cert.Reals Cert.Ssd Idealize.ShloMosaic

/-! ## The running sum -/

theorem foldl_add {n : ℕ} (f : Fin n → EReal) (v : EReal) :
    (List.finRange n).foldl (fun r k => r + f k) v = v + ∑ k, f k := by
  have : ∀ (L : List (Fin n)) (v : EReal), L.foldl (fun r k => r + f k) v = v + (L.map f).sum := by
    intro L
    induction L with
    | nil => intro v; simp
    | cons a L ih => intro v; simp [ih, add_assoc]
  rw [this, ← List.ofFn_eq_map, List.sum_ofFn]

/-- The places of the window, numbered by its last axis. -/
def winEquiv : (⟨4, ![1, 1, 1, 128]⟩ : Shape).Idx ≃ Fin 128 where
  toFun i := i 3
  invFun w := ix4 (0 : Fin 1) (0 : Fin 1) (0 : Fin 1) w
  left_inv i := by
    have h : ∀ z : Fin 1, z = 0 := fun z => Subsingleton.elim _ _
    conv_rhs => rw [eq_ix4 i, h (i 0), h (i 1), h (i 2)]
  right_inv w := rfl

/-- The places of the window in the order they are added. -/
abbrev winIdx : Fin (⟨4, ![1, 1, 1, 128]⟩ : Shape).numel ≃ (⟨4, ![1, 1, 1, 128]⟩ : Shape).Idx := (Shape.rowMajor _).symm

/-- The window's sum, shifted along the axis, is the sum up to the row. -/
theorem shift_sum (f : Fin 128 → EReal) (l : Fin 128) :
    ∑ w : Fin 128, (if h : 127 ≤ (l : ℕ) + w then f ⟨l + w - 127, by omega⟩ else 0) = ∑ s : Fin 128, if (s : ℕ) ≤ l then f s else 0 := by
  rw [← Equiv.sum_comp (Equiv.addLeft (l + 1)) (fun s : Fin 128 => if (s : ℕ) ≤ l then f s else 0)]
  refine Finset.sum_congr rfl fun w _ => ?_
  have hv : ((Equiv.addLeft (l + 1) w : Fin 128) : ℕ) = ((l : ℕ) + 1 + w) % 128 := by
    show ((l + 1 + w : Fin 128) : ℕ) = _
    rw [Fin.val_add, Fin.val_add, Nat.mod_add_mod]; rfl
  by_cases h : 127 ≤ (l : ℕ) + w
  · rw [dif_pos h, if_pos (by rw [hv]; omega)]
    exact congrArg f (Fin.ext (by rw [hv]; show (l : ℕ) + w - 127 = _; omega))
  · rw [dif_neg h, if_neg (by rw [hv]; omega)]

theorem cumsum {x : FVec Ideal S2x8x32x128 .f32} {init : FVec Ideal S_ .f32} (h0 : ∀ i, init i = 0)
    (h : S2x8x32x128.ReduceWindows ![1, 1, 1, 128] ![1, 1, 1, 1] ![0, 0, 0, 127] ![0, 0, 0, 0] S2x8x32x128) (hu : 0 < S_.numel)
    (g : Fin 2) (e : Fin 8) (c : Fin 32) (l : Fin 128) :
    Host.reduceWindowAdd (F := Ideal) ![1, 1, 1, 128] ![1, 1, 1, 1] ![0, 0, 0, 127] ![0, 0, 0, 0] x init h hu (ix4 g e c l)
      = ∑ s : Fin 128, if (s : ℕ) ≤ l then x (ix4 g e c s) else 0 := by
  show Host.reduceWindow (· + ·) ![1, 1, 1, 128] ![1, 1, 1, 1] ![0, 0, 0, 127] ![0, 0, 0, 0] x (fun _ : (⟨0, ![]⟩ : Shape).Idx => init (Shape.Idx.first hu)) h Nat.one_pos (ix4 g e c l) = _
  unfold Host.reduceWindow
  dsimp only
  rw [foldl_add, h0, zero_add, ← shift_sum (fun s => x (ix4 g e c s)) l]
  refine Fintype.sum_equiv (winIdx.trans winEquiv) _ _ fun k => ?_
  have e0 : (winIdx k 0).val = 0 := Nat.lt_one_iff.mp (winIdx k 0).isLt
  have e1 : (winIdx k 1).val = 0 := Nat.lt_one_iff.mp (winIdx k 1).isLt
  have e2 : (winIdx k 2).val = 0 := Nat.lt_one_iff.mp (winIdx k 2).isLt
  have e3 : (winIdx k 3).val < 128 := (winIdx k 3).isLt
  show _ = if h : 127 ≤ (l : ℕ) + (winIdx k 3).val then
    x (ix4 g e c ⟨l + (winIdx k 3).val - 127, by omega⟩) else 0
  by_cases hl : 127 ≤ (l : ℕ) + (winIdx k 3).val
  · rw [dif_pos hl, dif_pos]
    · refine congrArg x (funext fun a => Fin.ext ?_)
      fin_cases a
      · show (g : ℕ) * 1 + (winIdx k 0).val - 0 = g; omega
      · show (e : ℕ) * 1 + (winIdx k 1).val - 0 = e; omega
      · show (c : ℕ) * 1 + (winIdx k 2).val - 0 = c; omega
      · show (l : ℕ) * 1 + (winIdx k 3).val - 127 = l + (winIdx k 3).val - 127; omega
    · intro a
      fin_cases a
      · show 0 ≤ (g : ℕ) * 1 + (winIdx k 0).val ∧ (g : ℕ) * 1 + (winIdx k 0).val - 0 < 2; omega
      · show 0 ≤ (e : ℕ) * 1 + (winIdx k 1).val ∧ (e : ℕ) * 1 + (winIdx k 1).val - 0 < 8; omega
      · show 0 ≤ (c : ℕ) * 1 + (winIdx k 2).val ∧ (c : ℕ) * 1 + (winIdx k 2).val - 0 < 32; omega
      · show 127 ≤ (l : ℕ) * 1 + (winIdx k 3).val ∧ (l : ℕ) * 1 + (winIdx k 3).val - 127 < 128; omega
  · rw [dif_neg hl, dif_neg]
    intro hin
    have h3 : 127 ≤ (l : ℕ) * 1 + (winIdx k 3).val := (hin 3).1
    omega

/-! ## The stages -/

theorem silu_coe (x : ℝ) : (x : EReal) * Ideal.div 1 (1 + Ideal.exp (-(x : EReal))) = ((x * sigm x : ℝ) : EReal) := by
  have h : (1 + Real.exp (-x)) ≠ 0 := by positivity
  rw [← EReal.coe_neg, Ideal.exp_coe, ← EReal.coe_one, ← EReal.coe_add, div_coe_coe h, ← EReal.coe_mul, one_div]
  rfl

theorem c0 : Ideal.ofBits .f32 0x00000000#32 = (0 : EReal) := by simp [Ideal.ofBits, Ideal.ieee]

theorem cNegInf : Ideal.ofBits .f32 0xFF800000#32 = (⊥ : EReal) := by simp [Ideal.ofBits, Ideal.ieee]

variable {x0 : FVec Ideal S4096x1536 .f32} {x1 : FVec Ideal S4096x128 .f32} {x2 : FVec Ideal S4096x1024 .f32} {x3 x4 x5 : FVec Ideal S16 .f32} {x6 : FVec Ideal S1024 .f32}
variable {P D Z : ℕ → ℕ → ℝ} {b al dk gn : ℕ → ℝ}

theorem v0_eq (h0 : ∀ r w, x0 (ix2 r w) = ((P r w : ℝ) : EReal)) (r : Fin 4096) (w : Fin 1536) :
    val_main_v0 (F := Ideal) x0 (ix2 r w) = ((act P r w : ℝ) : EReal) := by
  pointwise [val_main_v0, val_main_call0_v0, val_main_call0_v1, val_main_call0_v2, val_main_call0_v3, val_main_call0_v4, val_main_call0_v5, val_main_call0_cst, val_main_call0_cst_0]
  rw [h0, silu_coe]
  rfl

theorem v8_eq (h1 : ∀ r l, x1 (ix2 r l) = ((D r l : ℝ) : EReal)) (h3 : ∀ h, x3 (ix1 h) = ((b h : ℝ) : EReal)) (r : Fin 4096) (h : Fin 16) :
    val_main_v8 (F := Ideal) x1 x3 (ix2 r h) = ((dtv D b r h : ℝ) : EReal) := by
  have h1' := h1 r ⟨h, by omega⟩
  pointwise [val_main_v8, val_main_v7, val_main_v6, val_main_v5, val_main_v4, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_cst]
  rw [h1', h3, ← EReal.coe_add, if_neg (fun h => h rfl), show FloatOps.absf (F := Ideal) (φ := .f32) (((D r h + b h : ℝ) : EReal)) = _ from abs_coe _, ← EReal.coe_neg, log1p_exp,
    ← EReal.coe_zero, ← EReal.coe_strictMono.monotone.map_max, ← EReal.coe_add]
  rfl

theorem v24_eq (h1 : ∀ r l, x1 (ix2 r l) = ((D r l : ℝ) : EReal)) (h3 : ∀ h, x3 (ix1 h) = ((b h : ℝ) : EReal)) (h4 : ∀ h, x4 (ix1 h) = ((al h : ℝ) : EReal))
    (g : Fin 2) (e : Fin 8) (c : Fin 32) (l : Fin 128) :
    val_main_v24 (F := Ideal) x1 x3 x4 (ix4 g e c l) = ((av (rows D c) b al l (8 * g + e) : ℝ) : EReal) := by
  have h := v8_eq h1 h3
  pointwise [val_main_v24, val_main_v23, val_main_v22, val_main_v21, val_main_v20, val_main_v10, val_main_v9]
  rw [h, h4, Ideal.exp_coe, ← EReal.coe_neg, ← EReal.coe_mul]
  simp only [av, dtv, rows, mul_comm (c : ℕ) 128, mul_comm (g : ℕ) 8]

theorem v25_eq (h1 : ∀ r l, x1 (ix2 r l) = ((D r l : ℝ) : EReal)) (h3 : ∀ h, x3 (ix1 h) = ((b h : ℝ) : EReal)) (h4 : ∀ h, x4 (ix1 h) = ((al h : ℝ) : EReal))
    (g : Fin 2) (e : Fin 8) (c : Fin 32) (l : Fin 128) :
    val_main_v25 (F := Ideal) x1 x3 x4 (ix4 g e c l) = ((csv (rows D c) b al l (8 * g + e) : ℝ) : EReal) := by
  unfold val_main_v25
  rw [cumsum (x := val_main_v24 (F := Ideal) x1 x3 x4) (init := val_main_call2_call0_v0 (F := Ideal)) (fun i => c0)]
  unfold csv
  rw [← coe_sum]
  refine Finset.sum_congr rfl fun s _ => ?_
  rw [v24_eq h1 h3 h4]
  split <;> rfl

theorem v17_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (c : Fin 32) (l : Fin 128) (g : Fin 2) (e : Fin 8) (p : Fin 64) :
    val_main_v17 (F := Ideal) x0 x1 x3 (ix5 c l g e p) = ((xcv (rows P c) (rows D c) b l (64 * (8 * g + e) + p) : ℝ) : EReal) := by
  have h := v8_eq h1 h3
  have h' := v0_eq h0
  pointwise [val_main_v17, val_main_v16, val_main_v15, val_main_v14, val_main_v11, val_main_v1]
  rw [h, h', ← EReal.coe_mul]
  simp only [xcv, act, dtv, rows, mul_comm (c : ℕ) 128, mul_comm (g : ℕ) 8, mul_comm (8 * (g : ℕ) + e) 64, show (64 * (8 * (g : ℕ) + e) + p) / 64 = 8 * g + e from by omega]

theorem v18_eq (h0 : ∀ r w, x0 (ix2 r w) = ((P r w : ℝ) : EReal)) (c : Fin 32) (l : Fin 128) (g : Fin 2) (n : Fin 128) :
    val_main_v18 (F := Ideal) x0 (ix4 c l g n) = ((act (rows P c) l (1024 + 128 * g + n) : ℝ) : EReal) := by
  have h' := v0_eq h0
  pointwise [val_main_v18, val_main_v12, val_main_v2]
  rw [h']
  simp only [act, rows, mul_comm (c : ℕ) 128, mul_comm (g : ℕ) 128, ← add_assoc]

theorem v19_eq (h0 : ∀ r w, x0 (ix2 r w) = ((P r w : ℝ) : EReal)) (c : Fin 32) (l : Fin 128) (g : Fin 2) (n : Fin 128) :
    val_main_v19 (F := Ideal) x0 (ix4 c l g n) = ((act (rows P c) l (1280 + 128 * g + n) : ℝ) : EReal) := by
  have h' := v0_eq h0
  pointwise [val_main_v19, val_main_v13, val_main_v3]
  rw [h']
  simp only [act, rows, mul_comm (c : ℕ) 128, mul_comm (g : ℕ) 128, ← add_assoc]

theorem v27_eq (l s : Fin 128) : val_main_v27 (F := Ideal) (ix2 l s) = if (s : ℕ) ≤ l then 1#1 else 0#1 := by
  pointwise [val_main_v27, val_main_v26, val_main_c, val_main_call3_v0, val_main_call3_v1, val_main_call3_v2, val_main_call3_v3, val_main_call3_v4, val_main_call3_v5, val_main_call3_c, val_main_call3_c_0]
  rw [show IntOp.addi (BitVec.ofNat 32 (l : ℕ)) 0#32 = BitVec.ofNat 32 l from by simp [IntOp.addi], WordCmp.cmpi_sge_ofNat (by omega) (by omega)]
  by_cases hp : (s : ℕ) ≤ l <;> simp [hp, Scalar.select]

theorem v34_eq (h1 : ∀ r l, x1 (ix2 r l) = ((D r l : ℝ) : EReal)) (h3 : ∀ h, x3 (ix1 h) = ((b h : ℝ) : EReal)) (h4 : ∀ h, x4 (ix1 h) = ((al h : ℝ) : EReal))
    (g : Fin 2) (e : Fin 8) (c : Fin 32) (l s : Fin 128) :
    val_main_v34 (F := Ideal) x1 x3 x4 (ix5 g e c l s)
      = ((if (s : ℕ) ≤ l then Real.exp (csv (rows D c) b al l (8 * g + e) - csv (rows D c) b al s (8 * g + e)) else 0 : ℝ) : EReal) := by
  have h := v25_eq h1 h3 h4
  have h' := v27_eq l s
  pointwise [val_main_v34, val_main_v33, val_main_v32, val_main_v31, val_main_v30, val_main_v29, val_main_v28, val_main_call4_v0, val_main_call4_v1, val_main_call4_v2, val_main_cst]
  rw [h', h, h]
  by_cases hs : (s : ℕ) ≤ l
  · rw [if_pos hs, if_pos hs, ← EReal.coe_sub]
    simp only [Scalar.select, show ((1#1 : BitVec 1) = 1) = True from by simp, if_true, Ideal.exp_coe]
  · rw [if_neg hs, if_neg hs]
    simp only [Scalar.select, show ((0#1 : BitVec 1) = 1) = False from by simp, if_false]
    show Ideal.exp (Ideal.ofBits .f32 0xFF800000#32) = _
    rw [cNegInf, exp_bot]

theorem v40_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (h4 : ∀ h, x4 (ix1 h) = ((al h : ℝ) : EReal)) (c : Fin 32) (l : Fin 128) (g : Fin 2) (e : Fin 8) (p : Fin 64) :
    val_main_v40 (F := Ideal) x0 x1 x3 x4 (ix5 c l g e p) = ((ydv (rows P c) (rows D c) b al l (64 * (8 * g + e) + p) : ℝ) : EReal) := by
  have ha := v17_eq h0 h1 h3
  have hb := v18_eq h0
  have hc := v19_eq h0
  have hd := v34_eq h1 h3 h4
  pointwise [val_main_v40, val_main_v39, val_main_v38, val_main_v37, val_main_v36, val_main_v35]
  simp only [ha, hb, hc, hd, ← EReal.coe_mul, coe_sum]
  refine congrArg _ (Finset.sum_congr rfl fun s _ => ?_)
  rw [show (64 * (8 * (g : ℕ) + e) + p) / 64 = 8 * g + e from by omega, show (64 * (8 * (g : ℕ) + e) + p) / 512 = g from by omega, mul_comm]
  rfl

theorem v49_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (h4 : ∀ h, x4 (ix1 h) = ((al h : ℝ) : EReal)) (c : Fin 32) (g : Fin 2) (e : Fin 8) (p : Fin 64) (n : Fin 128) :
    val_main_v49 (F := Ideal) x0 x1 x3 x4 (ix5 c g e p n) = ((newv (rows P c) (rows D c) b al n (64 * (8 * g + e) + p) : ℝ) : EReal) := by
  have ha := v17_eq h0 h1 h3
  have hb := v18_eq h0
  have hc := v25_eq h1 h3 h4
  pointwise [val_main_v49, val_main_v48, val_main_v47, val_main_v46, val_main_v45, val_main_v44, val_main_v43, val_main_v42, val_main_v41]
  simp only [ha, hb, hc, ← EReal.coe_sub, Ideal.exp_coe, ← EReal.coe_mul, coe_sum]
  refine congrArg _ (Finset.sum_congr rfl fun s _ => ?_)
  rw [show (64 * (8 * (g : ℕ) + e) + p) / 64 = 8 * g + e from by omega, show (64 * (8 * (g : ℕ) + e) + p) / 512 = g from by omega, mul_comm, mul_comm (Real.exp _)]
  rfl

theorem v53_eq (h1 : ∀ r l, x1 (ix2 r l) = ((D r l : ℝ) : EReal)) (h3 : ∀ h, x3 (ix1 h) = ((b h : ℝ) : EReal)) (h4 : ∀ h, x4 (ix1 h) = ((al h : ℝ) : EReal))
    (c : Fin 32) (g : Fin 2) (e : Fin 8) :
    val_main_v53 (F := Ideal) x1 x3 x4 (ix3 c g e) = ((Real.exp (csv (rows D c) b al 127 (8 * g + e)) : ℝ) : EReal) := by
  have hc := v25_eq h1 h3 h4
  pointwise [val_main_v53, val_main_v52, val_main_v51, val_main_v50]
  rw [hc, Ideal.exp_coe]
  rfl

/-- The scan's carry, from the decays and what each chunk adds. -/
def carry (d n : ℕ → EReal) : ℕ → EReal
  | 0 => 0
  | c + 1 => carry d n c * d c + n c

theorem stack_eq (c : Fin 32) (g : Fin 2) (e : Fin 8) (p : Fin 64) (n : Fin 128) :
    val_main_v351 (F := Ideal) x0 x1 x3 x4 (ix5 c g e p n)
      = carry (fun k => val_main_v53 (F := Ideal) x1 x3 x4 (ix3 (Fin.ofNat 32 k) g e)) (fun k => val_main_v49 (F := Ideal) x0 x1 x3 x4 (ix5 (Fin.ofNat 32 k) g e p n)) c := by
  pointwise [val_main_v351, val_main_v350, val_main_v349, val_main_v348, val_main_v316, val_main_v317, val_main_v318, val_main_v319,
    val_main_v320, val_main_v321, val_main_v322, val_main_v323, val_main_v324, val_main_v325, val_main_v326, val_main_v327,
    val_main_v328, val_main_v329, val_main_v330, val_main_v331, val_main_v332, val_main_v333, val_main_v334, val_main_v335,
    val_main_v336, val_main_v337, val_main_v338, val_main_v339, val_main_v340, val_main_v341, val_main_v342, val_main_v343,
    val_main_v344, val_main_v345, val_main_v346, val_main_v347,
    val_main_v60, val_main_v61, val_main_v62, val_main_v63, val_main_v64, val_main_v65, val_main_v66, val_main_v67, val_main_v68,
    val_main_v69, val_main_v70, val_main_v71, val_main_v72, val_main_v73, val_main_v74, val_main_v75, val_main_v76, val_main_v77,
    val_main_v78, val_main_v79, val_main_v80, val_main_v81, val_main_v82, val_main_v83, val_main_v84, val_main_v85, val_main_v86,
    val_main_v87, val_main_v88, val_main_v89, val_main_v90, val_main_v91, val_main_v92, val_main_v93, val_main_v94, val_main_v95,
    val_main_v96, val_main_v97, val_main_v98, val_main_v99, val_main_v100, val_main_v101, val_main_v102, val_main_v103,
    val_main_v104, val_main_v105, val_main_v106, val_main_v107, val_main_v108, val_main_v109, val_main_v110, val_main_v111,
    val_main_v112, val_main_v113, val_main_v114, val_main_v115, val_main_v116, val_main_v117, val_main_v118, val_main_v119,
    val_main_v120, val_main_v121, val_main_v122, val_main_v123, val_main_v124, val_main_v125, val_main_v126, val_main_v127,
    val_main_v128, val_main_v129, val_main_v130, val_main_v131, val_main_v132, val_main_v133, val_main_v134, val_main_v135,
    val_main_v136, val_main_v137, val_main_v138, val_main_v139, val_main_v140, val_main_v141, val_main_v142, val_main_v143,
    val_main_v144, val_main_v145, val_main_v146, val_main_v147, val_main_v148, val_main_v149, val_main_v150, val_main_v151,
    val_main_v152, val_main_v153, val_main_v154, val_main_v155, val_main_v156, val_main_v157, val_main_v158, val_main_v159,
    val_main_v160, val_main_v161, val_main_v162, val_main_v163, val_main_v164, val_main_v165, val_main_v166, val_main_v167,
    val_main_v168, val_main_v169, val_main_v170, val_main_v171, val_main_v172, val_main_v173, val_main_v174, val_main_v175,
    val_main_v176, val_main_v177, val_main_v178, val_main_v179, val_main_v180, val_main_v181, val_main_v182, val_main_v183,
    val_main_v184, val_main_v185, val_main_v186, val_main_v187, val_main_v188, val_main_v189, val_main_v190, val_main_v191,
    val_main_v192, val_main_v193, val_main_v194, val_main_v195, val_main_v196, val_main_v197, val_main_v198, val_main_v199,
    val_main_v200, val_main_v201, val_main_v202, val_main_v203, val_main_v204, val_main_v205, val_main_v206, val_main_v207,
    val_main_v208, val_main_v209, val_main_v210, val_main_v211, val_main_v212, val_main_v213, val_main_v214, val_main_v215,
    val_main_v216, val_main_v217, val_main_v218, val_main_v219, val_main_v220, val_main_v221, val_main_v222, val_main_v223,
    val_main_v224, val_main_v225, val_main_v226, val_main_v227, val_main_v228, val_main_v229, val_main_v230, val_main_v231,
    val_main_v232, val_main_v233, val_main_v234, val_main_v235, val_main_v236, val_main_v237, val_main_v238, val_main_v239,
    val_main_v240, val_main_v241, val_main_v242, val_main_v243, val_main_v244, val_main_v245, val_main_v246, val_main_v247,
    val_main_v248, val_main_v249, val_main_v250, val_main_v251, val_main_v252, val_main_v253, val_main_v254, val_main_v255,
    val_main_v256, val_main_v257, val_main_v258, val_main_v259, val_main_v260, val_main_v261, val_main_v262, val_main_v263,
    val_main_v264, val_main_v265, val_main_v266, val_main_v267, val_main_v268, val_main_v269, val_main_v270, val_main_v271,
    val_main_v272, val_main_v273, val_main_v274, val_main_v275, val_main_v276, val_main_v277, val_main_v278, val_main_v279,
    val_main_v280, val_main_v281, val_main_v282, val_main_v283, val_main_v284, val_main_v285, val_main_v286, val_main_v287,
    val_main_v288, val_main_v289, val_main_v290, val_main_v291, val_main_v292, val_main_v293, val_main_v294, val_main_v295,
    val_main_v296, val_main_v297, val_main_v298, val_main_v299, val_main_v300, val_main_v301, val_main_v302, val_main_v303,
    val_main_v304, val_main_v305, val_main_v306, val_main_v307, val_main_v54, val_main_v56, val_main_v58,
    val_main_cst_0, val_main_cst_1]
  fin_cases c <;> rfl

theorem v351_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (h4 : ∀ h, x4 (ix1 h) = ((al h : ℝ) : EReal)) (c : Fin 32) (g : Fin 2) (e : Fin 8) (p : Fin 64) (n : Fin 128) :
    val_main_v351 (F := Ideal) x0 x1 x3 x4 (ix5 c g e p n) = ((stv P D b al c n (64 * (8 * g + e) + p) : ℝ) : EReal) := by
  rw [stack_eq]
  obtain ⟨c, hc⟩ := c
  show carry _ _ c = ((stv P D b al c n (64 * (8 * g + e) + p) : ℝ) : EReal)
  induction c with
  | zero => rfl
  | succ c ih =>
    have hm : ((Fin.ofNat 32 c : Fin 32) : ℕ) = c := Nat.mod_eq_of_lt (by omega)
    show carry _ _ c * val_main_v53 (F := Ideal) x1 x3 x4 (ix3 (Fin.ofNat 32 c) g e) + val_main_v49 (F := Ideal) x0 x1 x3 x4 (ix5 (Fin.ofNat 32 c) g e p n) = _
    rw [ih (by omega), v53_eq h1 h3 h4, v49_eq h0 h1 h3 h4, hm, ← EReal.coe_mul, ← EReal.coe_add]
    simp only [stv, nextv, show (64 * (8 * (g : ℕ) + e) + p) / 64 = 8 * g + e from by omega]

theorem v360_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (h4 : ∀ h, x4 (ix1 h) = ((al h : ℝ) : EReal)) (r : Fin 4096) (h : Fin 16) (p : Fin 64) :
    val_main_v360 (F := Ideal) x0 x1 x3 x4 (ix3 r h p)
      = ((ydv (rows P (r / 128)) (rows D (r / 128)) b al (r % 128) (64 * h + p)
          + yov (rows P (r / 128)) (rows D (r / 128)) b al (stv P D b al (r / 128)) (r % 128) (64 * h + p) : ℝ) : EReal) := by
  have ha := v40_eq h0 h1 h3 h4
  have hb := v351_eq h0 h1 h3 h4
  have hc := v19_eq h0
  have hd := v25_eq h1 h3 h4
  pointwise [val_main_v360, val_main_v359, val_main_v358, val_main_v357, val_main_v356, val_main_v355, val_main_v354, val_main_v353, val_main_v352]
  simp only [ha, hb, hc, hd, Ideal.exp_coe, ← EReal.coe_mul, coe_sum, ← EReal.coe_add]
  have h8 : 8 * ((h : ℕ) / 8) + h % 8 = h := by omega
  simp only [h8, yov, show (64 * (h : ℕ) + p) / 64 = h from by omega, show (64 * (h : ℕ) + p) / 512 = h / 8 from by omega]
  refine congrArg _ (congrArg _ (congrArg (· * _) (Finset.sum_congr rfl fun n _ => mul_comm _ _)))

theorem v366_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (h4 : ∀ h, x4 (ix1 h) = ((al h : ℝ) : EReal)) (h5 : ∀ h, x5 (ix1 h) = ((dk h : ℝ) : EReal)) (r : Fin 4096) (w : Fin 1024) :
    val_main_v366 (F := Ideal) x0 x1 x3 x4 x5 (ix2 r w)
      = ((yv (rows P (r / 128)) (rows D (r / 128)) b al dk (stv P D b al (r / 128)) (r % 128) w : ℝ) : EReal) := by
  have ha := v360_eq h0 h1 h3 h4
  have hb := v0_eq h0
  pointwise [val_main_v366, val_main_v365, val_main_v364, val_main_v363, val_main_v362, val_main_v361, val_main_v11, val_main_v1]
  rw [ha, hb, h5, ← EReal.coe_mul, ← EReal.coe_add]
  have hw : 64 * ((w : ℕ) / 64) + w % 64 = w := by omega
  have hr : 128 * ((r : ℕ) / 128) + r % 128 = r := by omega
  simp only [hw, yv, act, rows, hr]

theorem v368_eq (h0 : ∀ r w, x0 (ix2 r w) = ((P r w : ℝ) : EReal)) (h1 : ∀ r l, x1 (ix2 r l) = ((D r l : ℝ) : EReal)) (h2 : ∀ r l, x2 (ix2 r l) = ((Z r l : ℝ) : EReal))
    (h3 : ∀ h, x3 (ix1 h) = ((b h : ℝ) : EReal)) (h4 : ∀ h, x4 (ix1 h) = ((al h : ℝ) : EReal)) (h5 : ∀ h, x5 (ix1 h) = ((dk h : ℝ) : EReal)) (r : Fin 4096) (w : Fin 1024) :
    val_main_v368 (F := Ideal) x0 x1 x2 x3 x4 x5 (ix2 r w)
      = ((vv (rows P (r / 128)) (rows D (r / 128)) (rows Z (r / 128)) b al dk (stv P D b al (r / 128)) (r % 128) w : ℝ) : EReal) := by
  have ha := v366_eq h0 h1 h3 h4 h5
  pointwise [val_main_v368, val_main_v367, val_main_call5_v0, val_main_call5_v1, val_main_call5_v2, val_main_call5_v3, val_main_call5_v4, val_main_call5_v5, val_main_call5_cst, val_main_call5_cst_0]
  rw [ha, h2, silu_coe, ← EReal.coe_mul]
  have hr : 128 * ((r : ℕ) / 128) + r % 128 = r := by omega
  simp only [vv, rows, hr]

theorem v384_eq (h0 : ∀ r w, x0 (ix2 r w) = ((P r w : ℝ) : EReal)) (h1 : ∀ r l, x1 (ix2 r l) = ((D r l : ℝ) : EReal)) (h2 : ∀ r l, x2 (ix2 r l) = ((Z r l : ℝ) : EReal))
    (h3 : ∀ h, x3 (ix1 h) = ((b h : ℝ) : EReal)) (h4 : ∀ h, x4 (ix1 h) = ((al h : ℝ) : EReal)) (h5 : ∀ h, x5 (ix1 h) = ((dk h : ℝ) : EReal)) (h6 : ∀ w, x6 (ix1 w) = ((gn w : ℝ) : EReal))
    (r : Fin 4096) (w : Fin 1024) :
    val_main_v384 (F := Ideal) x0 x1 x2 x3 x4 x5 x6 (ix2 r w)
      = ((ysv (vv (rows P (r / 128)) (rows D (r / 128)) (rows Z (r / 128)) b al dk (stv P D b al (r / 128))) gn (r % 128) w : ℝ) : EReal) := by
  have ha := v368_eq h0 h1 h2 h3 h4 h5
  pointwise [val_main_v384, val_main_v383, val_main_v382, val_main_v381, val_main_v380, val_main_v379, val_main_v378, val_main_v377, val_main_v376, val_main_v375, val_main_v374, val_main_v373, val_main_v372, val_main_v371, val_main_v370, val_main_v369, val_main_cst_2, val_main_cst_3, val_main_cst_4]
  simp only [ha, h6, c512, cEps, ← EReal.coe_mul, coe_sum, div_coe_coe (show (512 : ℝ) ≠ 0 by norm_num), ← EReal.coe_add]
  simp only [mul_comm ((w : ℕ) / 512) 512]
  erw [rsqrt_pos (msv_pos _ _ _)]
  simp only [← EReal.coe_mul]
  rfl

theorem v386_eq (h0 : ∀ r w, x0 (ix2 r w) = ((P r w : ℝ) : EReal)) (h1 : ∀ r l, x1 (ix2 r l) = ((D r l : ℝ) : EReal)) (h3 : ∀ h, x3 (ix1 h) = ((b h : ℝ) : EReal))
    (h4 : ∀ h, x4 (ix1 h) = ((al h : ℝ) : EReal)) (c : Fin 32) (n : Fin 128) (w : Fin 1024) :
    val_main_v386 (F := Ideal) x0 x1 x3 x4 (ix3 c n w) = ((stv P D b al c n w : ℝ) : EReal) := by
  have ha := v351_eq h0 h1 h3 h4
  pointwise [val_main_v386, val_main_v385]
  rw [ha]
  exact congrArg _ (congrArg _ (by show 64 * (8 * ((w : ℕ) / 512) + w / 64 % 8) + w % 64 = w; omega))

end Cert.SsdRefIdeal.Fwd

end
end
-- ==== Proof.SsdClaim.lean ====
/- The chunked state-space layer: kernel and reference leave the same three arrays. -/
module

public import proofs.«01_k».proof.Defs
public import proofs.«01_k».proof.Proof.SsdFin
public import proofs.«01_k».proof.Proof.SsdRef
public import proofs.«01_k».proof.Proof.Gen.SsdRefIdeal.Run
public import proofs.«01_k».proof.Proof.Gen.Pre_ssd_finite

@[expose] public section

set_option maxRecDepth 16384

noncomputable section

namespace Cert.SsdFwd

open Cert.Reals Idealize.ShloMosaic Idealize.ShloMosaic.TcCoe Idealize.SL.Sem

/-- An array's entries as real numbers, zero outside it. -/
def grid {a b : ℕ} (x : FVec Ideal (⟨2, ![a, b]⟩ : Shape) .f32) (r w : ℕ) : ℝ :=
  if h : r < a ∧ w < b then (x (ix2 ⟨r, h.1⟩ ⟨w, h.2⟩)).toReal else 0
def line {a : ℕ} (x : FVec Ideal (⟨1, ![a]⟩ : Shape) .f32) (r : ℕ) : ℝ :=
  if h : r < a then (x (ix1 ⟨r, h⟩)).toReal else 0

theorem grid_coe {a b : ℕ} {x : FVec Ideal (⟨2, ![a, b]⟩ : Shape) .f32} (h : ∀ i j, x (ix2 i j) = ((x (ix2 i j)).toReal : EReal)) (r : Fin a) (w : Fin b) :
    x (ix2 r w) = ((grid x r w : ℝ) : EReal) := by
  unfold grid
  rw [dif_pos ⟨r.isLt, w.isLt⟩]
  exact h r w
theorem line_coe {a : ℕ} {x : FVec Ideal (⟨1, ![a]⟩ : Shape) .f32} (h : ∀ i, x (ix1 i) = ((x (ix1 i)).toReal : EReal)) (r : Fin a) :
    x (ix1 r) = ((line x r : ℝ) : EReal) := by
  unfold line
  rw [dif_pos r.isLt]
  exact h r

section
open Cert.SsdIdeal

/-- Where the precondition holds, the seven arrays the layer reads are real numbers. -/
theorem args_of_pre (m : (ℓ : Loc nD τ sig) → Buf (Elt Ideal) ℓ) (h : Pre_SsdIdeal_ssd_finite m) (c : Dev nD) :
    Cert.SsdIdeal.Fwd.Args m c
      (grid (m ((c.tc : Thread nD τ).loc main_arg0) : FVec Ideal S4096x1536 .f32))
      (grid (m ((c.tc : Thread nD τ).loc main_arg1) : FVec Ideal S4096x128 .f32))
      (grid (m ((c.tc : Thread nD τ).loc main_arg2) : FVec Ideal S4096x1024 .f32))
      (line (m ((c.tc : Thread nD τ).loc main_arg3) : FVec Ideal S16 .f32))
      (line (m ((c.tc : Thread nD τ).loc main_arg4) : FVec Ideal S16 .f32))
      (line (m ((c.tc : Thread nD τ).loc main_arg5) : FVec Ideal S16 .f32))
      (line (m ((c.tc : Thread nD τ).loc main_arg6) : FVec Ideal S1024 .f32)) := by
  obtain ⟨h0, h1, h2, h3, h4, h5, h6⟩ := h c
  exact ⟨grid_coe fun r l => coe_toReal_of_abs (congrFun h0 (ix2 r l)), grid_coe fun r l => coe_toReal_of_abs (congrFun h1 (ix2 r l)),
    grid_coe fun r l => coe_toReal_of_abs (congrFun h2 (ix2 r l)), line_coe fun l => coe_toReal_of_abs (congrFun h3 (ix1 l)),
    line_coe fun l => coe_toReal_of_abs (congrFun h4 (ix1 l)), line_coe fun l => coe_toReal_of_abs (congrFun h5 (ix1 l)),
    line_coe fun l => coe_toReal_of_abs (congrFun h6 (ix1 l)), fun h hh => dif_neg (not_lt.mpr hh), fun h hh => dif_neg (not_lt.mpr hh)⟩
end

theorem ext2 {φ : FTy} {a b : Nat} {f g : FVec Ideal (⟨2, ![a, b]⟩ : Shape) φ} (h : ∀ i j, f (ix2 i j) = g (ix2 i j)) : f = g := by
  funext i
  rw [eq_ix2 i]
  exact h _ _
theorem ext3 {φ : FTy} {a b c : Nat} {f g : FVec Ideal (⟨3, ![a, b, c]⟩ : Shape) φ} (h : ∀ i j k, f (ix3 i j k) = g (ix3 i j k)) : f = g := by
  funext i
  rw [eq_ix3 i]
  exact h _ _ _

theorem algebraic : Cert.algebraic_SsdIdeal_SsdRefIdeal_pre_ssd_finite := by
  intro m g m' g' hpre hargs
  refine ⟨fun c => (Cert.SsdIdeal.Gen.dats m 0 c).arrAt 7 Cert.SsdIdeal.cfg0.N, fun c => (Cert.SsdIdeal.Gen.dats m 0 c).arrAt 8 Cert.SsdIdeal.cfg0.N,
    fun c => (Cert.SsdIdeal.Gen.dats m 0 c).arrAt 9 Cert.SsdIdeal.cfg0.N, Cert.SsdIdeal.Value.run_blocks m g, ?_⟩
  refine (θ_run Cert.SsdRefIdeal.defs _ _).mono (fun r h c => ?_) (Cert.SsdRefIdeal.Value.run m' g')
  obtain ⟨e0, e1, e2, kept⟩ := h c
  obtain ⟨b0, b1, b2, b3, b4, b5, b6⟩ := hargs c
  have A := args_of_pre m hpre c
  have h0 := fun r l => (congrFun b0 (ix2 r l)).trans (A.pre r l)
  have h1 := fun r l => (congrFun b1 (ix2 r l)).trans (A.dtr r l)
  have h2 := fun r l => (congrFun b2 (ix2 r l)).trans (A.gate r l)
  have h3 := fun l => (congrFun b3 (ix1 l)).trans (A.bias l)
  have h4 := fun l => (congrFun b4 (ix1 l)).trans (A.alog l)
  have h5 := fun l => (congrFun b5 (ix1 l)).trans (A.skip l)
  have h6 := fun l => (congrFun b6 (ix1 l)).trans (A.norm l)
  refine ⟨(e0.trans (Cert.SsdRefIdeal.Read.val_main_v366_eq _)).trans ?_, (e1.trans (Cert.SsdRefIdeal.Read.val_main_v384_eq _)).trans ?_,
    (e2.trans (Cert.SsdRefIdeal.Read.val_main_v386_eq _)).trans ?_, kept⟩
  · refine ext2 (φ := .f32) (a := 4096) (b := 1024) fun i j => ?_
    exact (Cert.SsdRefIdeal.Fwd.v366_eq h0 h1 h3 h4 h5 i j).trans (Cert.SsdIdeal.Fwd.final7 m c A i j).symm
  · refine ext2 (φ := .bf16) (a := 4096) (b := 1024) fun i j => ?_
    exact (Cert.SsdRefIdeal.Fwd.v384_eq h0 h1 h2 h3 h4 h5 h6 i j).trans (Cert.SsdIdeal.Fwd.final8 m c A i j).symm
  · refine ext3 (φ := .f32) (a := 32) (b := 128) (c := 1024) fun i j k => ?_
    exact (Cert.SsdRefIdeal.Fwd.v386_eq h0 h1 h3 h4 i j k).trans (Cert.SsdIdeal.Fwd.final9 m c A i j k).symm

end Cert.SsdFwd

end
-- ==== Proof.SsdbIns.lean ====
/- The backward kernel's chunk: what its body computes from the blocks it reads, value by value. -/
module

public import proofs.«01_k».proof.Proof.Gen.SsdbIdeal.Value

@[expose] public section

set_option maxRecDepth 16384

noncomputable section

namespace Cert.SsdbIdeal.Bwd

open Cert.SsdbIdeal Cert.SsdbIdeal.Gen Idealize.ShloMosaic Idealize.ShloMosaic.TcCoe Idealize.SL.Sem

/-- What the body reads at a chunk: the blocks of its inputs, the sums so far, and the carried cotangent of the state. -/
structure Ins where
  zc : Ideal .f32
  dys : Vec Ideal S128x1024 .f32
  y : Vec Ideal S128x1024 .f32
  z : Vec Ideal S128x1024 .f32
  pre : Vec Ideal S128x1536 .f32
  dtr : Vec Ideal S128x128 .f32
  prev : Vec Ideal S1x128x1024 .f32
  dtb : Vec Ideal S1x128 .f32
  alog : Vec Ideal S1x128 .f32
  skip : Vec Ideal S1x1024 .f32
  gn : Vec Ideal S1x1024 .f32
  agn : Vec Ideal S1x1024 .f32
  ad : Vec Ideal S1x128 .f32
  aal : Vec Ideal S1x128 .f32
  adb : Vec Ideal S1x128 .f32
  ds : Vec Ideal S128x1024 .f32

/-- The lanes' numbers. -/
def lanesC : IVec S1x128 32 := iota .tc S1x128 32 [1] iota_S1x128_d1_w32
/-- The rows' numbers. -/
def rowsC : IVec S128x128 32 := iota .tc S128x128 32 [0] iota_S128x128_d0_w32

namespace Ins

variable (X : Ins)

def v20 : FVec Ideal S128x128 .f32 := k0_pay8 X.dtr X.dtb
def v25 : FVec Ideal S1x128 .f32 := k0_pay9 X.alog
def v28 : FVec Ideal S128x1024 .f32 := k0_pay11 X.pre
def v29 : FVec Ideal S128x256 .f32 := k0_pay12 X.pre
def v30 : FVec Ideal S128x256 .f32 := k0_pay13 X.pre
def v35 : FVec Ideal S128x128 .f32 := k0_pay15 X.dtr X.dtb
def v37 : FVec Ideal S128x128 .f32 := k0_pay16 X.dtr X.dtb
def v39 : FVec Ideal S128x128 .f32 := k0_pay17 X.dtr X.dtb
def v40 : IVec S128x128 1 := k0_pay18 X.dtr X.dtb
def v49 : FVec Ideal S128x128 .f32 := k0_pay19 X.v35 X.zc X.v37 X.v39 X.v40
def v52 : FVec Ideal S1x128 .f32 := k0_pay20 X.v25
def v57 : FVec Ideal S128x128 .f32 := k0_pay21 X.v25 k0_pay14 X.v35 X.zc X.v37 X.v39 X.v40
def v81 : FVec Ideal S128x1024 .f32 := k0_pay23 k0_pay7 X.v35 X.zc X.v37 X.v39 X.v40
def v83 : FVec Ideal S128x1024 .f32 := k0_pay25 k0_pay7 X.v25 k0_pay14 X.v35 X.zc X.v37 X.v39 X.v40
def v86 : FVec Ideal S128x1024 .f32 := k0_pay26 k0_pay7 X.v25 k0_pay14 X.v35 X.zc X.v37 X.v39 X.v40
def v87 : FVec Ideal S1x1024 .f32 := k0_pay27 k0_pay7 X.v25 k0_pay14 X.v35 X.zc X.v37 X.v39 X.v40
def v88 : FVec Ideal S128x1024 .f32 := k0_pay28 k0_pay7 X.v28 X.v35 X.zc X.v37 X.v39 X.v40
def v89 : FVec Ideal S128x1024 .f32 := k0_pay29 k0_pay7 X.v25 X.v28 k0_pay14 X.v35 X.zc X.v37 X.v39 X.v40
def v90 : FVec Ideal S128x128 .f32 := k0_pay30 X.v25 k0_pay14 X.v35 X.zc X.v37 X.v39 X.v40
def v92 : FVec Ideal S128x1024 .f32 := k0_pay31 X.prev
def v103 : FVec Ideal S128x1024 .f32 := k0_pay35 X.y
def v105 : FVec Ideal S128x1024 .f32 := k0_pay36 X.z
def v106 : FVec Ideal S128x1024 .f32 := k0_pay37 X.z
def v107 : FVec Ideal S128x1024 .f32 := k0_pay38 X.y X.z
def v110 : FVec Ideal S1x1024 .f32 := k0_pay39 X.gn
def v119 : FVec Ideal S128x1 .f32 := k0_pay41 X.y X.z
def v121 : FVec Ideal S128x512 .f32 := k0_pay42 X.y X.z
def v125 : FVec Ideal S128x512 .f32 := k0_pay43 X.dys X.gn
def v131 : FVec Ideal S128x512 .f32 := k0_pay44 X.y X.z X.dys X.gn
def ogn : FVec Ideal S1x1024 .f32 := k0_pay49 X.v107 X.dys X.v121 X.agn
def v170 : FVec Ideal S128x1024 .f32 := k0_pay50 X.v106 X.v107 X.dys X.v110 X.v119 X.v121 X.v125 X.v131
def v178 : FVec Ideal S128x1024 .f32 := k0_pay51 X.v103 X.z X.v105 X.v107 X.dys X.v110 X.v119 X.v121 X.v125 X.v131
def odz : FVec Ideal S128x1024 .bf16 := k0_pay52 X.v178
def od : FVec Ideal S1x128 .f32 := k0_pay53 k0_pay7 X.v28 X.v170 X.ad
def v201 : FVec Ideal S128x1024 .f32 := k0_pay54 X.v170 X.skip
def v202 : FVec Ideal S128x1024 .f32 := k0_pay55 X.v83 X.v170
def v205 : FVec Ideal S128x128 .bf16 := k0_pay57 X.v29
def v206 : FVec Ideal S128x128 .bf16 := k0_pay58 X.v30
def v210 : FVec Ideal S128x512 .bf16 := k0_pay60 X.ds
def v213 : FVec Ideal S128x128 .f32 := k0_pay62 X.v29 X.v30
def v214 : FVec Ideal S128x128 .f32 := k0_pay63 X.v29 X.v30
def v215 : FVec Ideal S128x512 .f32 := k0_pay64 X.v30 X.v92
def v216 : FVec Ideal S128x128 .f32 := k0_pay65 X.v83 X.v92 X.v170
def v219 : FVec Ideal S128x512 .f32 := k0_pay66 X.v30 X.v83 X.v170
def v220 : FVec Ideal S128x512 .f32 := k0_pay67 X.v89
def ods : FVec Ideal S128x1024 .f32 := k0_pay80 X.v30 X.v87 X.ds X.v202 X.v219
def v222 : FVec Ideal S128x128 .f32 := k0_pay68 X.v210 X.v220
def v226 : FVec Ideal S128x128 .bf16 := k0_pay70 X.v29
def v227 : FVec Ideal S128x128 .bf16 := k0_pay71 X.v30
def v234 : FVec Ideal S128x128 .f32 := k0_pay75 X.v29 X.v30
def v235 : FVec Ideal S128x128 .f32 := k0_pay76 X.v29 X.v30
def v237 : FVec Ideal S128x128 .f32 := k0_pay77 X.v92 X.v202
def v243 : FVec Ideal S128x128 .f32 := k0_pay78 X.v89 X.ds
def v247 : FVec Ideal S128x1024 .f32 := k0_pay79 X.v29 X.ds X.v205 X.v210
def v258 : FVec Ideal S1x1024 .f32 := k0_pay81 X.v87 X.v92 X.ds
def v259 : FVec Ideal S128x1024 .f32 := k0_pay82 X.v29 X.v89 X.ds X.v205 X.v210
def v265 : FVec Ideal S128x1024 .bf16 := k0_pay85 X.v29 X.v30 X.v83 X.v89 X.v92 X.ds X.v170 X.v205 X.v210 X.v215
def v266 : FVec Ideal S128x128 .f32 := k0_pay86 k0_pay7 X.v29 X.v30 X.v83 X.v89 X.v92 X.ds X.v170 X.v205 X.v210 X.v215
def v268 : FVec Ideal S128x128 .f32 := k0_pay87 k0_pay7 X.v265 X.v266
def v281 : FVec Ideal S1x128 .f32 := k0_pay88 k0_pay7 X.v258 X.v259
def v282 : FVec Ideal S128x1024 .f32 := k0_pay89 X.v86 X.v247
def v287 : FVec Ideal S128x128 .f32 := k0_pay94 X.v170
def v288 : FVec Ideal S128x128 .f32 := k0_pay95 X.v88
def v294 : FVec Ideal S128x128 .bf16 := k0_pay97 k0_pay32 X.v170
def v299 : FVec Ideal S128x128 .bf16 := k0_pay98 X.v88 k0_pay32
def v307 : FVec Ideal S128x128 .f32 := k0_pay99 k0_pay14 X.v57 X.v90
def v312 : FVec Ideal S128x128 .f32 := k0_pay100 X.v57 X.v90
def v323 : FVec Ideal S128x128 .f32 := k0_pay105 k0_pay34 X.v214 k0_pay96 X.v294 X.v312 k0_pay101
def v324 : FVec Ideal S128x128 .f32 := k0_pay106 k0_pay90 X.v294 X.v299 X.v307
def v325 : FVec Ideal S128x128 .f32 := k0_pay107 k0_pay34 k0_pay92 X.v294 X.v299 X.v312 k0_pay101
def v338 : FVec Ideal S128x128 .f32 := k0_pay108 lanesC k0_pay34 X.v213 X.v214 X.v268 X.v294 X.v299 X.v307 X.v312 k0_pay101
def v343 : FVec Ideal S128x128 .bf16 := k0_pay109 k0_pay33 X.v287
def v348 : FVec Ideal S128x128 .bf16 := k0_pay110 k0_pay33 X.v288
def v356 : FVec Ideal S128x128 .f32 := k0_pay111 k0_pay14 X.v57 X.v90
def v364 : FVec Ideal S128x128 .f32 := k0_pay112 X.v57 X.v90 k0_pay34
def v372 : FVec Ideal S128x128 .f32 := k0_pay115 X.v214 X.v323 X.v343 X.v364
def v373 : FVec Ideal S128x128 .f32 := k0_pay116 X.v324 X.v343 X.v348 X.v356
def v374 : FVec Ideal S128x128 .f32 := k0_pay117 X.v325 X.v343 X.v348 X.v364
def v387 : FVec Ideal S128x128 .f32 := k0_pay118 lanesC X.v213 X.v214 X.v338 X.v343 X.v348 X.v356 X.v364
def v388 : FVec Ideal S128x128 .f32 := k0_pay119 X.v170
def v389 : FVec Ideal S128x128 .f32 := k0_pay120 X.v88
def v395 : FVec Ideal S128x128 .bf16 := k0_pay122 k0_pay32 X.v170
def v400 : FVec Ideal S128x128 .bf16 := k0_pay123 X.v88 k0_pay32
def v408 : FVec Ideal S128x128 .f32 := k0_pay124 k0_pay14 X.v57 X.v90
def v413 : FVec Ideal S128x128 .f32 := k0_pay125 X.v57 X.v90
def v424 : FVec Ideal S128x128 .f32 := k0_pay130 k0_pay34 X.v214 k0_pay121 X.v395 X.v413 k0_pay126
def v425 : FVec Ideal S128x128 .f32 := k0_pay131 X.v373 X.v395 X.v400 X.v408
def v426 : FVec Ideal S128x128 .f32 := k0_pay132 k0_pay34 X.v374 X.v395 X.v400 X.v413 k0_pay126
def v439 : FVec Ideal S128x128 .f32 := k0_pay133 lanesC k0_pay34 X.v213 X.v214 X.v387 X.v395 X.v400 X.v408 X.v413 k0_pay126
def v444 : FVec Ideal S128x128 .bf16 := k0_pay134 k0_pay33 X.v388
def v449 : FVec Ideal S128x128 .bf16 := k0_pay135 k0_pay33 X.v389
def v457 : FVec Ideal S128x128 .f32 := k0_pay136 k0_pay14 X.v57 X.v90
def v465 : FVec Ideal S128x128 .f32 := k0_pay137 X.v57 X.v90 k0_pay34
def v473 : FVec Ideal S128x128 .f32 := k0_pay140 X.v214 X.v424 X.v444 X.v465
def v474 : FVec Ideal S128x128 .f32 := k0_pay141 X.v425 X.v444 X.v449 X.v457
def v475 : FVec Ideal S128x128 .f32 := k0_pay142 X.v426 X.v444 X.v449 X.v465
def v488 : FVec Ideal S128x128 .f32 := k0_pay143 lanesC X.v213 X.v214 X.v439 X.v444 X.v449 X.v457 X.v465
def v489 : FVec Ideal S128x128 .f32 := k0_pay144 X.v170
def v490 : FVec Ideal S128x128 .f32 := k0_pay145 X.v88
def v496 : FVec Ideal S128x128 .bf16 := k0_pay147 k0_pay32 X.v170
def v501 : FVec Ideal S128x128 .bf16 := k0_pay148 X.v88 k0_pay32
def v509 : FVec Ideal S128x128 .f32 := k0_pay149 k0_pay14 X.v57 X.v90
def v514 : FVec Ideal S128x128 .f32 := k0_pay150 X.v57 X.v90
def v525 : FVec Ideal S128x128 .f32 := k0_pay155 k0_pay34 X.v214 k0_pay146 X.v496 X.v514 k0_pay151
def v526 : FVec Ideal S128x128 .f32 := k0_pay156 X.v474 X.v496 X.v501 X.v509
def v527 : FVec Ideal S128x128 .f32 := k0_pay157 k0_pay34 X.v475 X.v496 X.v501 X.v514 k0_pay151
def v540 : FVec Ideal S128x128 .f32 := k0_pay158 lanesC k0_pay34 X.v213 X.v214 X.v488 X.v496 X.v501 X.v509 X.v514 k0_pay151
def v545 : FVec Ideal S128x128 .bf16 := k0_pay159 k0_pay33 X.v489
def v550 : FVec Ideal S128x128 .bf16 := k0_pay160 k0_pay33 X.v490
def v558 : FVec Ideal S128x128 .f32 := k0_pay161 k0_pay14 X.v57 X.v90
def v566 : FVec Ideal S128x128 .f32 := k0_pay162 X.v57 X.v90 k0_pay34
def v574 : FVec Ideal S128x128 .f32 := k0_pay165 X.v214 X.v525 X.v545 X.v566
def v575 : FVec Ideal S128x128 .f32 := k0_pay166 X.v526 X.v545 X.v550 X.v558
def v576 : FVec Ideal S128x128 .f32 := k0_pay167 X.v527 X.v545 X.v550 X.v566
def v589 : FVec Ideal S128x128 .f32 := k0_pay168 lanesC X.v213 X.v214 X.v540 X.v545 X.v550 X.v558 X.v566
def v590 : FVec Ideal S128x128 .f32 := k0_pay169 X.v170
def v591 : FVec Ideal S128x128 .f32 := k0_pay170 X.v88
def v597 : FVec Ideal S128x128 .bf16 := k0_pay172 k0_pay32 X.v170
def v602 : FVec Ideal S128x128 .bf16 := k0_pay173 X.v88 k0_pay32
def v610 : FVec Ideal S128x128 .f32 := k0_pay174 k0_pay14 X.v57 X.v90
def v615 : FVec Ideal S128x128 .f32 := k0_pay175 X.v57 X.v90
def v626 : FVec Ideal S128x128 .f32 := k0_pay180 k0_pay34 X.v214 k0_pay171 X.v597 X.v615 k0_pay176
def v627 : FVec Ideal S128x128 .f32 := k0_pay181 X.v575 X.v597 X.v602 X.v610
def v628 : FVec Ideal S128x128 .f32 := k0_pay182 k0_pay34 X.v576 X.v597 X.v602 X.v615 k0_pay176
def v641 : FVec Ideal S128x128 .f32 := k0_pay183 lanesC k0_pay34 X.v213 X.v214 X.v589 X.v597 X.v602 X.v610 X.v615 k0_pay176
def v646 : FVec Ideal S128x128 .bf16 := k0_pay184 k0_pay33 X.v590
def v651 : FVec Ideal S128x128 .bf16 := k0_pay185 k0_pay33 X.v591
def v659 : FVec Ideal S128x128 .f32 := k0_pay186 k0_pay14 X.v57 X.v90
def v667 : FVec Ideal S128x128 .f32 := k0_pay187 X.v57 X.v90 k0_pay34
def v675 : FVec Ideal S128x128 .f32 := k0_pay190 X.v214 X.v626 X.v646 X.v667
def v676 : FVec Ideal S128x128 .f32 := k0_pay191 X.v627 X.v646 X.v651 X.v659
def v677 : FVec Ideal S128x128 .f32 := k0_pay192 X.v628 X.v646 X.v651 X.v667
def v690 : FVec Ideal S128x128 .f32 := k0_pay193 lanesC X.v213 X.v214 X.v641 X.v646 X.v651 X.v659 X.v667
def v691 : FVec Ideal S128x128 .f32 := k0_pay194 X.v170
def v692 : FVec Ideal S128x128 .f32 := k0_pay195 X.v88
def v698 : FVec Ideal S128x128 .bf16 := k0_pay197 k0_pay32 X.v170
def v703 : FVec Ideal S128x128 .bf16 := k0_pay198 X.v88 k0_pay32
def v711 : FVec Ideal S128x128 .f32 := k0_pay199 k0_pay14 X.v57 X.v90
def v716 : FVec Ideal S128x128 .f32 := k0_pay200 X.v57 X.v90
def v727 : FVec Ideal S128x128 .f32 := k0_pay205 k0_pay34 X.v235 k0_pay196 X.v698 X.v716 k0_pay201
def v728 : FVec Ideal S128x128 .f32 := k0_pay206 k0_pay91 X.v698 X.v703 X.v711
def v729 : FVec Ideal S128x128 .f32 := k0_pay207 k0_pay34 k0_pay93 X.v698 X.v703 X.v716 k0_pay201
def v742 : FVec Ideal S128x128 .f32 := k0_pay208 lanesC k0_pay34 X.v234 X.v235 X.v690 X.v698 X.v703 X.v711 X.v716 k0_pay201
def v747 : FVec Ideal S128x128 .bf16 := k0_pay209 k0_pay33 X.v691
def v752 : FVec Ideal S128x128 .bf16 := k0_pay210 k0_pay33 X.v692
def v760 : FVec Ideal S128x128 .f32 := k0_pay211 k0_pay14 X.v57 X.v90
def v768 : FVec Ideal S128x128 .f32 := k0_pay212 X.v57 X.v90 k0_pay34
def v776 : FVec Ideal S128x128 .f32 := k0_pay215 X.v235 X.v727 X.v747 X.v768
def v777 : FVec Ideal S128x128 .f32 := k0_pay216 X.v728 X.v747 X.v752 X.v760
def v778 : FVec Ideal S128x128 .f32 := k0_pay217 X.v729 X.v747 X.v752 X.v768
def v791 : FVec Ideal S128x128 .f32 := k0_pay218 lanesC X.v234 X.v235 X.v742 X.v747 X.v752 X.v760 X.v768
def v792 : FVec Ideal S128x128 .f32 := k0_pay219 X.v170
def v793 : FVec Ideal S128x128 .f32 := k0_pay220 X.v88
def v799 : FVec Ideal S128x128 .bf16 := k0_pay222 k0_pay32 X.v170
def v804 : FVec Ideal S128x128 .bf16 := k0_pay223 X.v88 k0_pay32
def v812 : FVec Ideal S128x128 .f32 := k0_pay224 k0_pay14 X.v57 X.v90
def v817 : FVec Ideal S128x128 .f32 := k0_pay225 X.v57 X.v90
def v828 : FVec Ideal S128x128 .f32 := k0_pay230 k0_pay34 X.v235 k0_pay221 X.v799 X.v817 k0_pay226
def v829 : FVec Ideal S128x128 .f32 := k0_pay231 X.v777 X.v799 X.v804 X.v812
def v830 : FVec Ideal S128x128 .f32 := k0_pay232 k0_pay34 X.v778 X.v799 X.v804 X.v817 k0_pay226
def v843 : FVec Ideal S128x128 .f32 := k0_pay233 lanesC k0_pay34 X.v234 X.v235 X.v791 X.v799 X.v804 X.v812 X.v817 k0_pay226
def v848 : FVec Ideal S128x128 .bf16 := k0_pay234 k0_pay33 X.v792
def v853 : FVec Ideal S128x128 .bf16 := k0_pay235 k0_pay33 X.v793
def v861 : FVec Ideal S128x128 .f32 := k0_pay236 k0_pay14 X.v57 X.v90
def v869 : FVec Ideal S128x128 .f32 := k0_pay237 X.v57 X.v90 k0_pay34
def v877 : FVec Ideal S128x128 .f32 := k0_pay240 X.v235 X.v828 X.v848 X.v869
def v878 : FVec Ideal S128x128 .f32 := k0_pay241 X.v829 X.v848 X.v853 X.v861
def v879 : FVec Ideal S128x128 .f32 := k0_pay242 X.v830 X.v848 X.v853 X.v869
def v892 : FVec Ideal S128x128 .f32 := k0_pay243 lanesC X.v234 X.v235 X.v843 X.v848 X.v853 X.v861 X.v869
def v893 : FVec Ideal S128x128 .f32 := k0_pay244 X.v170
def v894 : FVec Ideal S128x128 .f32 := k0_pay245 X.v88
def v900 : FVec Ideal S128x128 .bf16 := k0_pay247 k0_pay32 X.v170
def v905 : FVec Ideal S128x128 .bf16 := k0_pay248 X.v88 k0_pay32
def v913 : FVec Ideal S128x128 .f32 := k0_pay249 k0_pay14 X.v57 X.v90
def v918 : FVec Ideal S128x128 .f32 := k0_pay250 X.v57 X.v90
def v929 : FVec Ideal S128x128 .f32 := k0_pay255 k0_pay34 X.v235 k0_pay246 X.v900 X.v918 k0_pay251
def v930 : FVec Ideal S128x128 .f32 := k0_pay256 X.v878 X.v900 X.v905 X.v913
def v931 : FVec Ideal S128x128 .f32 := k0_pay257 k0_pay34 X.v879 X.v900 X.v905 X.v918 k0_pay251
def v944 : FVec Ideal S128x128 .f32 := k0_pay258 lanesC k0_pay34 X.v234 X.v235 X.v892 X.v900 X.v905 X.v913 X.v918 k0_pay251
def v949 : FVec Ideal S128x128 .bf16 := k0_pay259 k0_pay33 X.v893
def v954 : FVec Ideal S128x128 .bf16 := k0_pay260 k0_pay33 X.v894
def v962 : FVec Ideal S128x128 .f32 := k0_pay261 k0_pay14 X.v57 X.v90
def v970 : FVec Ideal S128x128 .f32 := k0_pay262 X.v57 X.v90 k0_pay34
def v978 : FVec Ideal S128x128 .f32 := k0_pay265 X.v235 X.v929 X.v949 X.v970
def v979 : FVec Ideal S128x128 .f32 := k0_pay266 X.v930 X.v949 X.v954 X.v962
def v980 : FVec Ideal S128x128 .f32 := k0_pay267 X.v931 X.v949 X.v954 X.v970
def v993 : FVec Ideal S128x128 .f32 := k0_pay268 lanesC X.v234 X.v235 X.v944 X.v949 X.v954 X.v962 X.v970
def v994 : FVec Ideal S128x128 .f32 := k0_pay269 X.v170
def v995 : FVec Ideal S128x128 .f32 := k0_pay270 X.v88
def v1001 : FVec Ideal S128x128 .bf16 := k0_pay272 k0_pay32 X.v170
def v1006 : FVec Ideal S128x128 .bf16 := k0_pay273 X.v88 k0_pay32
def v1014 : FVec Ideal S128x128 .f32 := k0_pay274 k0_pay14 X.v57 X.v90
def v1019 : FVec Ideal S128x128 .f32 := k0_pay275 X.v57 X.v90
def v1030 : FVec Ideal S128x128 .f32 := k0_pay280 k0_pay34 X.v235 k0_pay271 X.v1001 X.v1019 k0_pay276
def v1031 : FVec Ideal S128x128 .f32 := k0_pay281 X.v979 X.v1001 X.v1006 X.v1014
def v1032 : FVec Ideal S128x128 .f32 := k0_pay282 k0_pay34 X.v980 X.v1001 X.v1006 X.v1019 k0_pay276
def v1045 : FVec Ideal S128x128 .f32 := k0_pay283 lanesC k0_pay34 X.v234 X.v235 X.v993 X.v1001 X.v1006 X.v1014 X.v1019 k0_pay276
def v1050 : FVec Ideal S128x128 .bf16 := k0_pay284 k0_pay33 X.v994
def v1055 : FVec Ideal S128x128 .bf16 := k0_pay285 k0_pay33 X.v995
def v1063 : FVec Ideal S128x128 .f32 := k0_pay286 k0_pay14 X.v57 X.v90
def v1071 : FVec Ideal S128x128 .f32 := k0_pay287 X.v57 X.v90 k0_pay34
def v1094 : FVec Ideal S128x128 .f32 := k0_pay290 lanesC X.v234 X.v235 X.v1045 X.v1050 X.v1055 X.v1063 X.v1071
def v1099 : FVec Ideal S128x128 .f32 := k0_pay292 X.v205 X.v216 X.v676
def v1102 : FVec Ideal S128x128 .f32 := k0_pay293 X.v206 X.v222 X.v677
def v1105 : FVec Ideal S128x128 .f32 := k0_pay294 X.v226 X.v237 X.v1031 X.v1050 X.v1055 X.v1063
def v1108 : FVec Ideal S128x128 .f32 := k0_pay295 X.v227 X.v243 X.v1032 X.v1050 X.v1055 X.v1071
def v1110 : FVec Ideal S128x1024 .f32 := k0_pay296 X.v81 X.v201 X.v235 X.v282 X.v372 X.v473 X.v574 X.v675 X.v776 X.v877 X.v978 X.v1030 X.v1050 X.v1071
def v1118 : FVec Ideal S128x128 .f32 := k0_pay297 k0_pay7 X.v28 X.v235 X.v282 X.v372 X.v473 X.v574 X.v675 X.v776 X.v877 X.v978 X.v1030 X.v1050 X.v1071
def oal : FVec Ideal S1x128 .f32 := k0_pay300 X.v49 X.v52 rowsC k0_pay34 X.v281 X.v1094 k0_pay298 X.aal
def odb : FVec Ideal S1x128 .f32 := k0_pay302 X.v20 X.v52 lanesC rowsC k0_pay34 X.v281 X.v1094 X.v1118 k0_pay298 X.adb
def odt : FVec Ideal S128x128 .bf16 := k0_pay303 X.v20 X.v52 lanesC rowsC k0_pay34 X.v281 X.v1094 X.v1118 k0_pay298
def v1156 : FVec Ideal S128x1536 .f32 := k0_pay304 X.v1099 X.v1102 X.v1105 X.v1108 X.v1110
def v1157 : FVec Ideal S128x1536 .f32 := k0_pay305 X.pre
def v1160 : FVec Ideal S128x1536 .f32 := k0_pay306 X.pre
def opre : FVec Ideal S128x1536 .f32 := k0_pay1 X.v1156 X.v1157 X.v1160

end Ins

end Cert.SsdbIdeal.Bwd

end
end
-- ==== Proof.SsdbVal.lean ====
/- The backward kernel at a point of its grid: what its body leaves in the output blocks and in the carried cotangent. -/
module

public import proofs.«01_k».proof.Proof.SsdbIns
public import proofs.«01_k».proof.Proof.Gen.SsdbIdeal.Value

@[expose] public section

set_option maxRecDepth 16384

noncomputable section

namespace Cert.SsdbIdeal.Bwd

open Cert.SsdbIdeal Cert.SsdbIdeal.Gen Idealize.ShloMosaic Idealize.ShloMosaic.TcCoe Idealize.SL.Sem

/-- The body's blocks, what the accumulators hold and the carried cotangent. -/
def insOf (x0 : Vec Ideal S128x1024 .f32) (x1 : Vec Ideal S128x1024 .f32) (x2 : Vec Ideal S128x1024 .f32) (x3 : Vec Ideal S128x1536 .f32) (x4 : Vec Ideal S128x128 .f32) (x5 : Vec Ideal S1x128x1024 .f32) (x6 : Vec Ideal S1x128 .f32) (x7 : Vec Ideal S1x128 .f32) (x8 : Vec Ideal S1x1024 .f32) (x9 : Vec Ideal S1x1024 .f32) (xo13 : Vec Ideal S1x1024 .f32) (xo14 xo15 xo16 : Vec Ideal S1x128 .f32) (xs0 : Vec Ideal S128x1024 .f32) : Ins where
  zc := Scalar.ofBits .f32 0x00000000#32
  dys := x0
  y := x1
  z := x2
  pre := x3
  dtr := x4
  prev := x5
  dtb := x6
  alog := x7
  skip := x8
  gn := x9
  agn := xo13
  ad := xo14
  aal := xo15
  adb := xo16
  ds := xs0

theorem hz : (![(0 : ℕ), 0] : Fin 2 → ℕ) = fun _ => 0 := by decide
theorem hz3 : (![(0 : ℕ), 0, 0] : Fin 3 → ℕ) = fun _ => 0 := by decide

section

variable {c : Dev nD} {i : grid0.Coords} {arg1 : Memref sig .tc .vmem S128x1024 .f32} (h1 : arg1.IsWhole) {arg2 : Memref sig .tc .vmem S128x1024 .f32} (h2 : arg2.IsWhole) {arg3 : Memref sig .tc .vmem S128x1024 .f32} (h3 : arg3.IsWhole) {arg4 : Memref sig .tc .vmem S128x1536 .f32} (h4 : arg4.IsWhole) {arg5 : Memref sig .tc .vmem S128x128 .f32} (h5 : arg5.IsWhole) {arg6 : Memref sig .tc .vmem S1x128x1024 .f32} (h6 : arg6.IsWhole) {arg7 : Memref sig .tc .vmem S1x128 .f32} (h7 : arg7.IsWhole) {arg8 : Memref sig .tc .vmem S1x128 .f32} (h8 : arg8.IsWhole) {arg9 : Memref sig .tc .vmem S1x1024 .f32} (h9 : arg9.IsWhole) {arg10 : Memref sig .tc .vmem S1x1024 .f32} (h10 : arg10.IsWhole) {arg11 : Memref sig .tc .vmem S128x1024 .bf16} (h11 : arg11.IsWhole) {arg12 : Memref sig .tc .vmem S128x1536 .f32} (h12 : arg12.IsWhole) {arg13 : Memref sig .tc .vmem S128x128 .bf16} (h13 : arg13.IsWhole) {arg14 : Memref sig .tc .vmem S1x1024 .f32} (h14 : arg14.IsWhole) {arg15 : Memref sig .tc .vmem S1x128 .f32} (h15 : arg15.IsWhole) {arg16 : Memref sig .tc .vmem S1x128 .f32} (h16 : arg16.IsWhole) {arg17 : Memref sig .tc .vmem S1x128 .f32} (h17 : arg17.IsWhole) {arg18 : Memref sig .tc .vmem S128x1024 .f32} (h18 : arg18.IsWhole)
  (x0 : Vec Ideal S128x1024 .f32) (x1 : Vec Ideal S128x1024 .f32) (x2 : Vec Ideal S128x1024 .f32) (x3 : Vec Ideal S128x1536 .f32) (x4 : Vec Ideal S128x128 .f32) (x5 : Vec Ideal S1x128x1024 .f32) (x6 : Vec Ideal S1x128 .f32) (x7 : Vec Ideal S1x128 .f32) (x8 : Vec Ideal S1x1024 .f32) (x9 : Vec Ideal S1x1024 .f32) (xo13 : Vec Ideal S1x1024 .f32) (xo14 xo15 xo16 : Vec Ideal S1x128 .f32) (xs0 : Vec Ideal S128x1024 .f32)

theorem out_A_10 (hc : cond0_0 i) : out0_A_10 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).odz := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_A_11 (hc : cond0_0 i) : out0_A_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).opre := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_A_12 (hc : cond0_0 i) : out0_A_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).odt := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_A_13 (hc : cond0_0 i) : out0_A_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).ogn := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_A_14 (hc : cond0_0 i) : out0_A_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).od := by
  unfold out0_A_14
  rw [View.read_writes_eq_canon _ _ _ (cover0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_A_15 (hc : cond0_0 i) : out0_A_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).oal := by
  unfold out0_A_15
  rw [View.read_writes_eq_canon _ _ _ (cover0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_A_16 (hc : cond0_0 i) : out0_A_16 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).odb := by
  unfold out0_A_16
  rw [View.read_writes_eq_canon _ _ _ (cover0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem sout_A_0 (hc : cond0_0 i) : sout0_A_0 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9
    = (insOf x0 x1 x2 x3 x4 x5 x6 x7 x8 x9 (k0_pay3 (F := Ideal)) (k0_pay4 (F := Ideal)) (k0_pay5 (F := Ideal)) (k0_pay6 (F := Ideal)) (k0_pay2 (F := Ideal))).ods := by
  unfold sout0_A_0
  rw [View.read_writes_eq_canon _ _ _ (scover0_A_0 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9)]
  unfold kernelRun0_A
  dsimp only
  sl_unfold_words
  rw [View.canon_cons_unit_zero (S := S128x1024) hz]
  simp only [View.readAt_eq_ld, h1.read_unread, h2.read_unread, h3.read_unread, h4.read_unread, h5.read_unread, h6.read_unread, h7.read_unread, h8.read_unread, h9.read_unread, h10.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3, View.readCov_unit_zero (S := S128x1024) _ hz, View.readCov_unit_zero (S := S1x128) _ hz, View.readCov_unit_zero (S := S1x1024) _ hz]
  rfl

theorem out_B_10 (hc : ¬cond0_0 i) : out0_B_10 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).odz := by
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem out_B_11 (hc : ¬cond0_0 i) : out0_B_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).opre := by
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem out_B_12 (hc : ¬cond0_0 i) : out0_B_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).odt := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem out_B_13 (hc : ¬cond0_0 i) : out0_B_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).ogn := by
  unfold out0_B_13
  rw [View.read_writes_eq_canon _ _ _ (cover0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem out_B_14 (hc : ¬cond0_0 i) : out0_B_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).od := by
  unfold out0_B_14
  rw [View.read_writes_eq_canon _ _ _ (cover0_B_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem out_B_15 (hc : ¬cond0_0 i) : out0_B_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).oal := by
  unfold out0_B_15
  rw [View.read_writes_eq_canon _ _ _ (cover0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem out_B_16 (hc : ¬cond0_0 i) : out0_B_16 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).odb := by
  unfold out0_B_16
  rw [View.read_writes_eq_canon _ _ _ (cover0_B_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

theorem sout_B_0 (hc : ¬cond0_0 i) : sout0_B_0 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0
    = (insOf x0 x1 x2 x3 x4 x5 x6 x7 x8 x9 xo13 xo14 xo15 xo16 xs0).ods := by
  unfold sout0_B_0
  rw [View.read_writes_eq_canon _ _ _ (scover0_B_0 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 xo13 xo14 xo15 xo16 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h14.read_unread, h15.read_unread, h16.read_unread, h17.read_unread, h18.read_unread,
    View.ld_unit_zero (S := S128x1024) hz, View.ld_unit_zero (S := S128x1536) hz, View.ld_unit_zero (S := S128x128) hz, View.ld_unit_zero (S := S1x128) hz, View.ld_unit_zero (S := S1x1024) hz, View.ld_unit_zero (S := S1x128x1024) hz3]
  rfl

end

end Cert.SsdbIdeal.Bwd

end
end
-- ==== Proof.SsdbHost.lean ====
/- What the host operations before the backward call compute: the layer output and the states the forward scan saved. -/
module

public import proofs.«01_k».proof.Proof.Gen.SsdbIdeal.Value
public import proofs.«01_k».proof.Proof.Gen.SsdRefIdeal.Read
public import Idealize.ShloMosaic.Lib.StableHlo.RunRead
public import Idealize.ShloMosaic.Lib.Pipeline.Frame

@[expose] public section

set_option maxRecDepth 16384

noncomputable section

namespace Cert.SsdbIdeal.Bwd.Host

open Cert.SsdRefIdeal.Read
open Cert.SsdbIdeal Cert.SsdbIdeal.Gen Idealize.ShloMosaic Idealize.ShloMosaic.TcCoe Idealize.SL.Sem Idealize.ShloMosaic.StableHlo

variable (V0 : Valuation τ sig (Elt Ideal))

abbrev A0 : (⟨S4096x1536, .f32⟩ : BufTy).Contents (Elt Ideal) := V0 (Proc.devRef .tc main_arg0)
abbrev A1 : (⟨S4096x128, .f32⟩ : BufTy).Contents (Elt Ideal) := V0 (Proc.devRef .tc main_arg1)
abbrev A3 : (⟨S16, .f32⟩ : BufTy).Contents (Elt Ideal) := V0 (Proc.devRef .tc main_arg3)
abbrev A4 : (⟨S16, .f32⟩ : BufTy).Contents (Elt Ideal) := V0 (Proc.devRef .tc main_arg4)
abbrev A5 : (⟨S16, .f32⟩ : BufTy).Contents (Elt Ideal) := V0 (Proc.devRef .tc main_arg5)

/-- Sixteen states, one under the other. -/
def stack16 (u : Fin 16 → (⟨S1x2x8x64x128, .f32⟩ : BufTy).Contents (Elt Ideal)) : (⟨S16x2x8x64x128, .f32⟩ : BufTy).Contents (Elt Ideal) :=
  concatenate S16x2x8x64x128 0 [⟨S1x2x8x64x128, u 0⟩, ⟨S1x2x8x64x128, u 1⟩, ⟨S1x2x8x64x128, u 2⟩, ⟨S1x2x8x64x128, u 3⟩, ⟨S1x2x8x64x128, u 4⟩, ⟨S1x2x8x64x128, u 5⟩, ⟨S1x2x8x64x128, u 6⟩, ⟨S1x2x8x64x128, u 7⟩, ⟨S1x2x8x64x128, u 8⟩, ⟨S1x2x8x64x128, u 9⟩, ⟨S1x2x8x64x128, u 10⟩, ⟨S1x2x8x64x128, u 11⟩, ⟨S1x2x8x64x128, u 12⟩, ⟨S1x2x8x64x128, u 13⟩, ⟨S1x2x8x64x128, u 14⟩, ⟨S1x2x8x64x128, u 15⟩] concatenates_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S16x2x8x64x128_d0

def stack (a b : (⟨S16x2x8x64x128, .f32⟩ : BufTy).Contents (Elt Ideal)) : (⟨S32x2x8x64x128, .f32⟩ : BufTy).Contents (Elt Ideal) :=
  concatenate S32x2x8x64x128 0 [⟨S16x2x8x64x128, a⟩, ⟨S16x2x8x64x128, b⟩] concatenates_S16x2x8x64x128_S16x2x8x64x128_S32x2x8x64x128_d0

def stack2 (a : (⟨S0x2x8x64x128, .f32⟩ : BufTy).Contents (Elt Ideal)) (b : (⟨S32x2x8x64x128, .f32⟩ : BufTy).Contents (Elt Ideal)) : (⟨S32x2x8x64x128, .f32⟩ : BufTy).Contents (Elt Ideal) :=
  concatenate S32x2x8x64x128 0 [⟨S0x2x8x64x128, a⟩, ⟨S32x2x8x64x128, b⟩] concatenates_S0x2x8x64x128_S32x2x8x64x128_S32x2x8x64x128_d0

/-- The operations before the scan's inner products. -/
abbrev part0 : List (HloOp τ sig (Elt Ideal)) := List.flatten [hostOps0, hostOps0_1, hostOps0_2, hostOps0_3, hostOps0_4, hostOps0_5, hostOps0_6, hostOps0_7, hostOps0_8]
abbrev part1 : List (HloOp τ sig (Elt Ideal)) := List.take 28 (List.drop 0 hostOps0_9)
abbrev part2 : List (HloOp τ sig (Elt Ideal)) := List.take 48 (List.drop 28 hostOps0_9)
abbrev part3 : List (HloOp τ sig (Elt Ideal)) := List.take 48 (List.drop 76 hostOps0_9)
abbrev part4 : List (HloOp τ sig (Elt Ideal)) := List.take 48 (List.drop 124 hostOps0_9)
abbrev part5 : List (HloOp τ sig (Elt Ideal)) := List.take 48 (List.drop 172 hostOps0_9)
abbrev part6 : List (HloOp τ sig (Elt Ideal)) := List.take 56 (List.drop 220 hostOps0_9)
abbrev part7 : List (HloOp τ sig (Elt Ideal)) := List.take 40 (List.drop 276 hostOps0_9)
abbrev part8 : List (HloOp τ sig (Elt Ideal)) := List.take 1 (List.drop 316 hostOps0_9)
abbrev part9 : List (HloOp τ sig (Elt Ideal)) := List.take 1 (List.drop 317 hostOps0_9)
abbrev part10 : List (HloOp τ sig (Elt Ideal)) := List.take 1 (List.drop 318 hostOps0_9)
abbrev part11 : List (HloOp τ sig (Elt Ideal)) := List.take 1 (List.drop 319 hostOps0_9)
abbrev part12 : List (HloOp τ sig (Elt Ideal)) := List.take 19 (List.drop 320 hostOps0_9)

def at0 : Valuation τ sig (Elt Ideal) := after part0 V0
def at1 : Valuation τ sig (Elt Ideal) := after part1 (at0 V0)
def at2 : Valuation τ sig (Elt Ideal) := after part2 (at1 V0)
def at3 : Valuation τ sig (Elt Ideal) := after part3 (at2 V0)
def at4 : Valuation τ sig (Elt Ideal) := after part4 (at3 V0)
def at5 : Valuation τ sig (Elt Ideal) := after part5 (at4 V0)
def at6 : Valuation τ sig (Elt Ideal) := after part6 (at5 V0)
def at7 : Valuation τ sig (Elt Ideal) := after part7 (at6 V0)
def at8 : Valuation τ sig (Elt Ideal) := after part8 (at7 V0)
def at9 : Valuation τ sig (Elt Ideal) := after part9 (at8 V0)
def at10 : Valuation τ sig (Elt Ideal) := after part10 (at9 V0)
def at11 : Valuation τ sig (Elt Ideal) := after part11 (at10 V0)
def at12 : Valuation τ sig (Elt Ideal) := after part12 (at11 V0)

/-- What part 0 writes. -/
abbrev writes0 : List (Ref sig .tc) :=
  [main_call0_v0, main_call0_v1, main_call0_cst, main_call0_v2, main_call0_v3, main_call0_cst_0, main_call0_v4, main_call0_v5, main_v0, main_v1, main_v2, main_v3, main_v4, main_v5, main_v6, main_v7, main_call1_cst, main_call1_v0, main_call1_v1, main_call1_v2, main_call1_v3, main_call1_v4, main_call1_v5, main_call1_v6, main_call1_v7, main_call1_v8, main_call1_v9, main_call1_v10, main_call1_v11, main_v8, main_v9, main_v10, main_v11, main_v12, main_v13, main_v14, main_v15, main_v16, main_v17, main_v18, main_v19, main_v20, main_v21, main_v22, main_v23, main_v24, main_call2_call0_cst, main_call2_call0_v0, main_v25, main_c, main_v26, main_call3_v0, main_call3_c, main_call3_v1, main_call3_v2, main_call3_v3, main_call3_v4, main_call3_c_0, main_call3_v5, main_v27, main_v28, main_v29, main_v30, main_v31, main_v32, main_cst, main_call4_v0, main_call4_v1, main_call4_v2, main_v33]

theorem at0_keep (r : Ref sig .tc) (h : r ∉ writes0) : at0 V0 (Proc.devRef .tc r) = V0 (Proc.devRef .tc r) :=
  after_unwritten (ops := part0) writes0 rfl h _

set_option maxHeartbeats 8000000 in
theorem at0_vals : at0 V0 (no_index (Proc.devRef .tc main_v11)) = val_main_v11 (F := Ideal) (A0 V0) ∧
    at0 V0 (no_index (Proc.devRef .tc main_v17)) = val_main_v17 (F := Ideal) (A0 V0) (A1 V0) (A3 V0) ∧
    at0 V0 (no_index (Proc.devRef .tc main_v18)) = val_main_v18 (F := Ideal) (A0 V0) ∧
    at0 V0 (no_index (Proc.devRef .tc main_v19)) = val_main_v19 (F := Ideal) (A0 V0) ∧
    at0 V0 (no_index (Proc.devRef .tc main_v25)) = val_main_v25 (F := Ideal) (A1 V0) (A3 V0) (A4 V0) ∧
    at0 V0 (no_index (Proc.devRef .tc main_v33)) = val_main_v33 (F := Ideal) (A1 V0) (A3 V0) (A4 V0) := by
  unfold at0
  simp only [part0, hostOps0, hostOps0_1, hostOps0_2, hostOps0_3, hostOps0_4, hostOps0_5, hostOps0_6, hostOps0_7, hostOps0_8, List.flatten_cons, List.flatten_nil, List.append_nil, List.cons_append, List.nil_append, TRef.binary, TRef.nullary, TRef.ternary, TRef.unary, TRef.toBuf, TRef.ofBuf, cast_eq]
  after_results_simp
  repeat' apply And.intro
  all_goals rfl

/-- What part 1 writes. -/
abbrev writes1 : List (Ref sig .tc) :=
  [main_v34, main_v35, main_v36, main_v37, main_v38, main_v39, main_v40, main_v41, main_v42, main_v43, main_v44, main_v45, main_v46, main_v47, main_v48, main_v49, main_v50, main_v51, main_v52, main_v53, main_cst_0, main_v54, main_v55, main_v56, main_v57, main_v58, main_cst_1, main_v59]

theorem at1_keep (r : Ref sig .tc) (h : r ∉ writes1) : at1 V0 (Proc.devRef .tc r) = at0 V0 (Proc.devRef .tc r) :=
  after_unwritten (ops := part1) writes1 rfl h _

set_option maxHeartbeats 8000000 in
theorem at1_vals : at1 V0 (no_index (Proc.devRef .tc main_v40)) = val_main_v40 (F := Ideal) (A0 V0) (A1 V0) (A3 V0) (A4 V0) ∧
    at1 V0 (no_index (Proc.devRef .tc main_v54)) = val_main_v54 (F := Ideal) ∧
    at1 V0 (no_index (Proc.devRef .tc main_v56)) = val_main_v56 (F := Ideal) (A1 V0) (A3 V0) (A4 V0) ∧
    at1 V0 (no_index (Proc.devRef .tc main_v58)) = val_main_v58 (F := Ideal) (A0 V0) (A1 V0) (A3 V0) (A4 V0) ∧
    at1 V0 (no_index (Proc.devRef .tc main_v59)) = val_main_v59 (F := Ideal) := by
  unfold at1
  simp only [part1, hostOps0_9, List.take_succ_cons, List.take_zero, List.drop_succ_cons, List.drop_zero]
  after_results_simp
  simp (discharger := decide) only [at0_vals V0]
  repeat' apply And.intro
  all_goals rfl

/-- What part 2 writes. -/
abbrev writes2 : List (Ref sig .tc) :=
  [main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107]

theorem at2_keep (r : Ref sig .tc) (h : r ∉ writes2) : at2 V0 (Proc.devRef .tc r) = at1 V0 (Proc.devRef .tc r) :=
  after_unwritten (ops := part2) writes2 rfl h _

set_option maxHeartbeats 8000000 in
theorem at2_vals : at2 V0 (no_index (Proc.devRef .tc main_v67)) = val_main_v67 (F := Ideal) (A0 V0) (A1 V0) (A3 V0) (A4 V0) ∧
    at2 V0 (no_index (Proc.devRef .tc main_v75)) = val_main_v75 (F := Ideal) (A0 V0) (A1 V0) (A3 V0) (A4 V0) ∧
    at2 V0 (no_index (Proc.devRef .tc main_v83)) = val_main_v83 (F := Ideal) (A0 V0) (A1 V0) (A3 V0) (A4 V0) ∧
    at2 V0 (no_index (Proc.devRef .tc main_v91)) = val_main_v91 (F := Ideal) (A0 V0) (A1 V0) (A3 V0) (A4 V0) ∧
    at2 V0 (no_index (Proc.devRef .tc main_v99)) = val_main_v99 (F := Ideal) (A0 V0) (A1 V0) (A3 V0) (A4 V0) ∧
    at2 V0 (no_index (Proc.devRef .tc main_v107)) = val_main_v107 (F := Ideal) (A0 V0) (A1 V0) (A3 V0) (A4 V0) := by
  unfold at2
  simp only [part2, hostOps0_9, List.take_succ_cons, List.take_zero, List.drop_succ_cons, List.drop_zero]
  after_results_simp
  simp (discharger := decide) only [at1_vals V0]
  repeat' apply And.intro
  all_goals rfl

/-- What part 3 writes. -/
abbrev writes3 : List (Ref sig .tc) :=
  [main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155]

theorem at3_keep (r : Ref sig .tc) (h : r ∉ writes3) : at3 V0 (Proc.devRef .tc r) = at2 V0 (Proc.devRef .tc r) :=
  after_unwritten (ops := part3) writes3 rfl h _

set_option maxHeartbeats 8000000 in
theorem at3_vals : at3 V0 (no_index (Proc.devRef .tc main_v115)) = val_main_v115 (F := Ideal) (A0 V0) (A1 V0) (A3 V0) (A4 V0) ∧
    at3 V0 (no_index (Proc.devRef .tc main_v123)) = val_main_v123 (F := Ideal) (A0 V0) (A1 V0) (A3 V0) (A4 V0) ∧
    at3 V0 (no_index (Proc.devRef .tc main_v131)) = val_main_v131 (F := Ideal) (A0 V0) (A1 V0) (A3 V0) (A4 V0) ∧
    at3 V0 (no_index (Proc.devRef .tc main_v139)) = val_main_v139 (F := Ideal) (A0 V0) (A1 V0) (A3 V0) (A4 V0) ∧
    at3 V0 (no_index (Proc.devRef .tc main_v147)) = val_main_v147 (F := Ideal) (A0 V0) (A1 V0) (A3 V0) (A4 V0) ∧
    at3 V0 (no_index (Proc.devRef .tc main_v155)) = val_main_v155 (F := Ideal) (A0 V0) (A1 V0) (A3 V0) (A4 V0) := by
  unfold at3
  simp only [part3, hostOps0_9, List.take_succ_cons, List.take_zero, List.drop_succ_cons, List.drop_zero]
  after_results_simp
  simp (discharger := decide) only [at2_keep V0, at1_vals V0, at2_vals V0]
  repeat' apply And.intro
  all_goals rfl

/-- What part 4 writes. -/
abbrev writes4 : List (Ref sig .tc) :=
  [main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203]

theorem at4_keep (r : Ref sig .tc) (h : r ∉ writes4) : at4 V0 (Proc.devRef .tc r) = at3 V0 (Proc.devRef .tc r) :=
  after_unwritten (ops := part4) writes4 rfl h _

set_option maxHeartbeats 8000000 in
theorem at4_vals : at4 V0 (no_index (Proc.devRef .tc main_v163)) = val_main_v163 (F := Ideal) (A0 V0) (A1 V0) (A3 V0) (A4 V0) ∧
    at4 V0 (no_index (Proc.devRef .tc main_v171)) = val_main_v171 (F := Ideal) (A0 V0) (A1 V0) (A3 V0) (A4 V0) ∧
    at4 V0 (no_index (Proc.devRef .tc main_v179)) = val_main_v179 (F := Ideal) (A0 V0) (A1 V0) (A3 V0) (A4 V0) ∧
    at4 V0 (no_index (Proc.devRef .tc main_v187)) = val_main_v187 (F := Ideal) (A0 V0) (A1 V0) (A3 V0) (A4 V0) ∧
    at4 V0 (no_index (Proc.devRef .tc main_v195)) = val_main_v195 (F := Ideal) (A0 V0) (A1 V0) (A3 V0) (A4 V0) ∧
    at4 V0 (no_index (Proc.devRef .tc main_v203)) = val_main_v203 (F := Ideal) (A0 V0) (A1 V0) (A3 V0) (A4 V0) := by
  unfold at4
  simp only [part4, hostOps0_9, List.take_succ_cons, List.take_zero, List.drop_succ_cons, List.drop_zero]
  after_results_simp
  simp (discharger := decide) only [at3_keep V0, at2_keep V0, at1_vals V0, at3_vals V0]
  repeat' apply And.intro
  all_goals rfl

/-- What part 5 writes. -/
abbrev writes5 : List (Ref sig .tc) :=
  [main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251]

theorem at5_keep (r : Ref sig .tc) (h : r ∉ writes5) : at5 V0 (Proc.devRef .tc r) = at4 V0 (Proc.devRef .tc r) :=
  after_unwritten (ops := part5) writes5 rfl h _

set_option maxHeartbeats 8000000 in
theorem at5_vals : at5 V0 (no_index (Proc.devRef .tc main_v211)) = val_main_v211 (F := Ideal) (A0 V0) (A1 V0) (A3 V0) (A4 V0) ∧
    at5 V0 (no_index (Proc.devRef .tc main_v219)) = val_main_v219 (F := Ideal) (A0 V0) (A1 V0) (A3 V0) (A4 V0) ∧
    at5 V0 (no_index (Proc.devRef .tc main_v227)) = val_main_v227 (F := Ideal) (A0 V0) (A1 V0) (A3 V0) (A4 V0) ∧
    at5 V0 (no_index (Proc.devRef .tc main_v235)) = val_main_v235 (F := Ideal) (A0 V0) (A1 V0) (A3 V0) (A4 V0) ∧
    at5 V0 (no_index (Proc.devRef .tc main_v243)) = val_main_v243 (F := Ideal) (A0 V0) (A1 V0) (A3 V0) (A4 V0) ∧
    at5 V0 (no_index (Proc.devRef .tc main_v251)) = val_main_v251 (F := Ideal) (A0 V0) (A1 V0) (A3 V0) (A4 V0) := by
  unfold at5
  simp only [part5, hostOps0_9, List.take_succ_cons, List.take_zero, List.drop_succ_cons, List.drop_zero]
  after_results_simp
  simp (discharger := decide) only [at4_keep V0, at3_keep V0, at2_keep V0, at1_vals V0, at4_vals V0]
  repeat' apply And.intro
  all_goals rfl

/-- What part 6 writes. -/
abbrev writes6 : List (Ref sig .tc) :=
  [main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307]

theorem at6_keep (r : Ref sig .tc) (h : r ∉ writes6) : at6 V0 (Proc.devRef .tc r) = at5 V0 (Proc.devRef .tc r) :=
  after_unwritten (ops := part6) writes6 rfl h _

set_option maxHeartbeats 8000000 in
theorem at6_vals : at6 V0 (no_index (Proc.devRef .tc main_v259)) = val_main_v259 (F := Ideal) (A0 V0) (A1 V0) (A3 V0) (A4 V0) ∧
    at6 V0 (no_index (Proc.devRef .tc main_v267)) = val_main_v267 (F := Ideal) (A0 V0) (A1 V0) (A3 V0) (A4 V0) ∧
    at6 V0 (no_index (Proc.devRef .tc main_v275)) = val_main_v275 (F := Ideal) (A0 V0) (A1 V0) (A3 V0) (A4 V0) ∧
    at6 V0 (no_index (Proc.devRef .tc main_v283)) = val_main_v283 (F := Ideal) (A0 V0) (A1 V0) (A3 V0) (A4 V0) ∧
    at6 V0 (no_index (Proc.devRef .tc main_v291)) = val_main_v291 (F := Ideal) (A0 V0) (A1 V0) (A3 V0) (A4 V0) ∧
    at6 V0 (no_index (Proc.devRef .tc main_v299)) = val_main_v299 (F := Ideal) (A0 V0) (A1 V0) (A3 V0) (A4 V0) ∧
    at6 V0 (no_index (Proc.devRef .tc main_v307)) = val_main_v307 (F := Ideal) (A0 V0) (A1 V0) (A3 V0) (A4 V0) := by
  unfold at6
  simp only [part6, hostOps0_9, List.take_succ_cons, List.take_zero, List.drop_succ_cons, List.drop_zero]
  after_results_simp
  simp (discharger := decide) only [at5_keep V0, at4_keep V0, at3_keep V0, at2_keep V0, at1_vals V0, at5_vals V0]
  repeat' apply And.intro
  all_goals rfl

/-- What part 7 writes. -/
abbrev writes7 : List (Ref sig .tc) :=
  [main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347]

theorem at7_keep (r : Ref sig .tc) (h : r ∉ writes7) : at7 V0 (Proc.devRef .tc r) = at6 V0 (Proc.devRef .tc r) :=
  after_unwritten (ops := part7) writes7 rfl h _

set_option maxHeartbeats 8000000 in
theorem at7_vals : at7 V0 (no_index (Proc.devRef .tc main_v316)) = val_main_v316 (F := Ideal) ∧
    at7 V0 (no_index (Proc.devRef .tc main_v317)) = val_main_v317 (F := Ideal) (A0 V0) (A1 V0) (A3 V0) (A4 V0) ∧
    at7 V0 (no_index (Proc.devRef .tc main_v318)) = val_main_v318 (F := Ideal) (A0 V0) (A1 V0) (A3 V0) (A4 V0) ∧
    at7 V0 (no_index (Proc.devRef .tc main_v319)) = val_main_v319 (F := Ideal) (A0 V0) (A1 V0) (A3 V0) (A4 V0) ∧
    at7 V0 (no_index (Proc.devRef .tc main_v320)) = val_main_v320 (F := Ideal) (A0 V0) (A1 V0) (A3 V0) (A4 V0) ∧
    at7 V0 (no_index (Proc.devRef .tc main_v321)) = val_main_v321 (F := Ideal) (A0 V0) (A1 V0) (A3 V0) (A4 V0) ∧
    at7 V0 (no_index (Proc.devRef .tc main_v322)) = val_main_v322 (F := Ideal) (A0 V0) (A1 V0) (A3 V0) (A4 V0) ∧
    at7 V0 (no_index (Proc.devRef .tc main_v323)) = val_main_v323 (F := Ideal) (A0 V0) (A1 V0) (A3 V0) (A4 V0) ∧
    at7 V0 (no_index (Proc.devRef .tc main_v324)) = val_main_v324 (F := Ideal) (A0 V0) (A1 V0) (A3 V0) (A4 V0) ∧
    at7 V0 (no_index (Proc.devRef .tc main_v325)) = val_main_v325 (F := Ideal) (A0 V0) (A1 V0) (A3 V0) (A4 V0) ∧
    at7 V0 (no_index (Proc.devRef .tc main_v326)) = val_main_v326 (F := Ideal) (A0 V0) (A1 V0) (A3 V0) (A4 V0) ∧
    at7 V0 (no_index (Proc.devRef .tc main_v327)) = val_main_v327 (F := Ideal) (A0 V0) (A1 V0) (A3 V0) (A4 V0) ∧
    at7 V0 (no_index (Proc.devRef .tc main_v328)) = val_main_v328 (F := Ideal) (A0 V0) (A1 V0) (A3 V0) (A4 V0) ∧
    at7 V0 (no_index (Proc.devRef .tc main_v329)) = val_main_v329 (F := Ideal) (A0 V0) (A1 V0) (A3 V0) (A4 V0) ∧
    at7 V0 (no_index (Proc.devRef .tc main_v330)) = val_main_v330 (F := Ideal) (A0 V0) (A1 V0) (A3 V0) (A4 V0) ∧
    at7 V0 (no_index (Proc.devRef .tc main_v331)) = val_main_v331 (F := Ideal) (A0 V0) (A1 V0) (A3 V0) (A4 V0) ∧
    at7 V0 (no_index (Proc.devRef .tc main_v332)) = val_main_v332 (F := Ideal) (A0 V0) (A1 V0) (A3 V0) (A4 V0) ∧
    at7 V0 (no_index (Proc.devRef .tc main_v333)) = val_main_v333 (F := Ideal) (A0 V0) (A1 V0) (A3 V0) (A4 V0) ∧
    at7 V0 (no_index (Proc.devRef .tc main_v334)) = val_main_v334 (F := Ideal) (A0 V0) (A1 V0) (A3 V0) (A4 V0) ∧
    at7 V0 (no_index (Proc.devRef .tc main_v335)) = val_main_v335 (F := Ideal) (A0 V0) (A1 V0) (A3 V0) (A4 V0) ∧
    at7 V0 (no_index (Proc.devRef .tc main_v336)) = val_main_v336 (F := Ideal) (A0 V0) (A1 V0) (A3 V0) (A4 V0) ∧
    at7 V0 (no_index (Proc.devRef .tc main_v337)) = val_main_v337 (F := Ideal) (A0 V0) (A1 V0) (A3 V0) (A4 V0) ∧
    at7 V0 (no_index (Proc.devRef .tc main_v338)) = val_main_v338 (F := Ideal) (A0 V0) (A1 V0) (A3 V0) (A4 V0) ∧
    at7 V0 (no_index (Proc.devRef .tc main_v339)) = val_main_v339 (F := Ideal) (A0 V0) (A1 V0) (A3 V0) (A4 V0) ∧
    at7 V0 (no_index (Proc.devRef .tc main_v340)) = val_main_v340 (F := Ideal) (A0 V0) (A1 V0) (A3 V0) (A4 V0) ∧
    at7 V0 (no_index (Proc.devRef .tc main_v341)) = val_main_v341 (F := Ideal) (A0 V0) (A1 V0) (A3 V0) (A4 V0) ∧
    at7 V0 (no_index (Proc.devRef .tc main_v342)) = val_main_v342 (F := Ideal) (A0 V0) (A1 V0) (A3 V0) (A4 V0) ∧
    at7 V0 (no_index (Proc.devRef .tc main_v343)) = val_main_v343 (F := Ideal) (A0 V0) (A1 V0) (A3 V0) (A4 V0) ∧
    at7 V0 (no_index (Proc.devRef .tc main_v344)) = val_main_v344 (F := Ideal) (A0 V0) (A1 V0) (A3 V0) (A4 V0) ∧
    at7 V0 (no_index (Proc.devRef .tc main_v345)) = val_main_v345 (F := Ideal) (A0 V0) (A1 V0) (A3 V0) (A4 V0) ∧
    at7 V0 (no_index (Proc.devRef .tc main_v346)) = val_main_v346 (F := Ideal) (A0 V0) (A1 V0) (A3 V0) (A4 V0) ∧
    at7 V0 (no_index (Proc.devRef .tc main_v347)) = val_main_v347 (F := Ideal) (A0 V0) (A1 V0) (A3 V0) (A4 V0) := by
  unfold at7
  simp only [part7, hostOps0_9, List.take_succ_cons, List.take_zero, List.drop_succ_cons, List.drop_zero]
  after_results_simp
  simp (discharger := decide) only [at6_keep V0, at5_keep V0, at4_keep V0, at3_keep V0, at2_keep V0, at1_vals V0, at2_vals V0, at3_vals V0, at4_vals V0, at5_vals V0, at6_vals V0]
  repeat' apply And.intro
  all_goals rfl

/-- What part 8 writes. -/
abbrev writes8 : List (Ref sig .tc) :=
  [main_v348]

theorem at8_keep (r : Ref sig .tc) (h : r ∉ writes8) : at8 V0 (Proc.devRef .tc r) = at7 V0 (Proc.devRef .tc r) :=
  after_unwritten (ops := part8) writes8 rfl h _

set_option maxHeartbeats 8000000 in
theorem at8_vals : at8 V0 (no_index (Proc.devRef .tc main_v348)) = val_main_v348 (F := Ideal) (A0 V0) (A1 V0) (A3 V0) (A4 V0) := by
  have e : at8 V0 (Proc.devRef .tc main_v348) = stack16 ![at7 V0 (Proc.devRef .tc main_v316), at7 V0 (Proc.devRef .tc main_v317), at7 V0 (Proc.devRef .tc main_v318), at7 V0 (Proc.devRef .tc main_v319), at7 V0 (Proc.devRef .tc main_v320), at7 V0 (Proc.devRef .tc main_v321), at7 V0 (Proc.devRef .tc main_v322), at7 V0 (Proc.devRef .tc main_v323), at7 V0 (Proc.devRef .tc main_v324), at7 V0 (Proc.devRef .tc main_v325), at7 V0 (Proc.devRef .tc main_v326), at7 V0 (Proc.devRef .tc main_v327), at7 V0 (Proc.devRef .tc main_v328), at7 V0 (Proc.devRef .tc main_v329), at7 V0 (Proc.devRef .tc main_v330), at7 V0 (Proc.devRef .tc main_v331)] := by
    unfold at8
    simp only [part8, hostOps0_9, List.take_succ_cons, List.take_zero, List.drop_succ_cons, List.drop_zero]
    rfl
  refine e.trans ?_
  simp (discharger := decide) only [at7_vals V0]
  rfl

/-- What part 9 writes. -/
abbrev writes9 : List (Ref sig .tc) :=
  [main_v349]

theorem at9_keep (r : Ref sig .tc) (h : r ∉ writes9) : at9 V0 (Proc.devRef .tc r) = at8 V0 (Proc.devRef .tc r) :=
  after_unwritten (ops := part9) writes9 rfl h _

set_option maxHeartbeats 8000000 in
theorem at9_vals : at9 V0 (no_index (Proc.devRef .tc main_v349)) = val_main_v349 (F := Ideal) (A0 V0) (A1 V0) (A3 V0) (A4 V0) := by
  have e : at9 V0 (Proc.devRef .tc main_v349) = stack16 ![at8 V0 (Proc.devRef .tc main_v332), at8 V0 (Proc.devRef .tc main_v333), at8 V0 (Proc.devRef .tc main_v334), at8 V0 (Proc.devRef .tc main_v335), at8 V0 (Proc.devRef .tc main_v336), at8 V0 (Proc.devRef .tc main_v337), at8 V0 (Proc.devRef .tc main_v338), at8 V0 (Proc.devRef .tc main_v339), at8 V0 (Proc.devRef .tc main_v340), at8 V0 (Proc.devRef .tc main_v341), at8 V0 (Proc.devRef .tc main_v342), at8 V0 (Proc.devRef .tc main_v343), at8 V0 (Proc.devRef .tc main_v344), at8 V0 (Proc.devRef .tc main_v345), at8 V0 (Proc.devRef .tc main_v346), at8 V0 (Proc.devRef .tc main_v347)] := by
    unfold at9
    simp only [part9, hostOps0_9, List.take_succ_cons, List.take_zero, List.drop_succ_cons, List.drop_zero]
    rfl
  refine e.trans ?_
  simp (discharger := decide) only [at8_keep V0, at7_vals V0]
  rfl

/-- What part 10 writes. -/
abbrev writes10 : List (Ref sig .tc) :=
  [main_v350]

theorem at10_keep (r : Ref sig .tc) (h : r ∉ writes10) : at10 V0 (Proc.devRef .tc r) = at9 V0 (Proc.devRef .tc r) :=
  after_unwritten (ops := part10) writes10 rfl h _

set_option maxHeartbeats 8000000 in
theorem at10_vals : at10 V0 (no_index (Proc.devRef .tc main_v350)) = val_main_v350 (F := Ideal) (A0 V0) (A1 V0) (A3 V0) (A4 V0) := by
  have e : at10 V0 (Proc.devRef .tc main_v350) = stack (at9 V0 (Proc.devRef .tc main_v348)) (at9 V0 (Proc.devRef .tc main_v349)) := by
    unfold at10
    simp only [part10, hostOps0_9, List.take_succ_cons, List.take_zero, List.drop_succ_cons, List.drop_zero]
    rfl
  refine e.trans ?_
  simp (discharger := decide) only [at9_keep V0, at8_vals V0, at9_vals V0]
  rfl

/-- What part 11 writes. -/
abbrev writes11 : List (Ref sig .tc) :=
  [main_v351]

theorem at11_keep (r : Ref sig .tc) (h : r ∉ writes11) : at11 V0 (Proc.devRef .tc r) = at10 V0 (Proc.devRef .tc r) :=
  after_unwritten (ops := part11) writes11 rfl h _

set_option maxHeartbeats 8000000 in
theorem at11_vals : at11 V0 (no_index (Proc.devRef .tc main_v351)) = val_main_v351 (F := Ideal) (A0 V0) (A1 V0) (A3 V0) (A4 V0) := by
  have e : at11 V0 (Proc.devRef .tc main_v351) = stack2 (at10 V0 (Proc.devRef .tc main_v59)) (at10 V0 (Proc.devRef .tc main_v350)) := by
    unfold at11
    simp only [part11, hostOps0_9, List.take_succ_cons, List.take_zero, List.drop_succ_cons, List.drop_zero]
    rfl
  refine e.trans ?_
  simp (discharger := decide) only [at10_keep V0, at9_keep V0, at8_keep V0, at7_keep V0, at6_keep V0, at5_keep V0, at4_keep V0, at3_keep V0, at2_keep V0, at1_vals V0, at10_vals V0]
  rfl

/-- What part 12 writes. -/
abbrev writes12 : List (Ref sig .tc) :=
  [main_v352, main_v353, main_v354, main_v355, main_v356, main_v357, main_v358, main_v359, main_v360, main_v361, main_v362, main_v363, main_v364, main_v365, main_v366, main_v367, main_v368, main_v369, main_c_2]

theorem at12_keep (r : Ref sig .tc) (h : r ∉ writes12) : at12 V0 (Proc.devRef .tc r) = at11 V0 (Proc.devRef .tc r) :=
  after_unwritten (ops := part12) writes12 rfl h _

set_option maxHeartbeats 8000000 in
theorem at12_vals : at12 V0 (no_index (Proc.devRef .tc main_v366)) = val_main_v366 (F := Ideal) (A0 V0) (A1 V0) (A3 V0) (A4 V0) (A5 V0) ∧
    at12 V0 (no_index (Proc.devRef .tc main_v368)) = val_main_v386 (F := Ideal) (A0 V0) (A1 V0) (A3 V0) (A4 V0) := by
  unfold at12
  simp only [part12, hostOps0_9, List.take_succ_cons, List.take_zero, List.drop_succ_cons, List.drop_zero]
  after_results_simp
  simp (discharger := decide) only [at11_keep V0, at10_keep V0, at9_keep V0, at8_keep V0, at7_keep V0, at6_keep V0, at5_keep V0, at4_keep V0, at3_keep V0, at2_keep V0, at1_keep V0, at0_keep V0, at0_vals V0, at1_vals V0, at11_vals V0]
  repeat' apply And.intro
  all_goals rfl

end Cert.SsdbIdeal.Bwd.Host

end
end
-- ==== Proof.SsdbReal.lean ====
/- The derivative of the chunked state-space layer of one chunk of 128 rows, in the real numbers: `F` is the cotangent
   of the layer's output, `S` the state before the chunk, `N` the cotangent of the state after it. -/
module

public import proofs.«01_k».proof.Proof.SsdReal

@[expose] public section

noncomputable section

namespace Cert.Ssd

open Idealize.ShloMosaic Cert.Reals

/-! ## The gated norm -/

/-- The gated output. -/
def vbv (Y Z : ℕ → ℕ → ℝ) (l w : ℕ) : ℝ := Y l w * (Z l w * sigm (Z l w))
/-- The inverse of a group's root mean square. -/
def rsv (Y Z : ℕ → ℕ → ℝ) (l g : ℕ) : ℝ := (Real.sqrt (msv (vbv Y Z) l g + eps))⁻¹
/-- The normalised gated output. -/
def vhv (Y Z : ℕ → ℕ → ℝ) (l w : ℕ) : ℝ := vbv Y Z l w * rsv Y Z l (w / 512)
/-- The cotangent of the normalised gated output. -/
def dhv (T : ℕ → ℕ → ℝ) (gn : ℕ → ℝ) (l w : ℕ) : ℝ := T l w * gn w
/-- The group's mean of its product with the normalised gated output. -/
def mnv (Y Z T : ℕ → ℕ → ℝ) (gn : ℕ → ℝ) (l g : ℕ) : ℝ :=
  (∑ k : Fin 512, dhv T gn l (512 * g + k) * vhv Y Z l (512 * g + k)) / 512
/-- The cotangent of the gated output. -/
def dvv (Y Z T : ℕ → ℕ → ℝ) (gn : ℕ → ℝ) (l w : ℕ) : ℝ :=
  rsv Y Z l (w / 512) * (dhv T gn l w - vhv Y Z l w * mnv Y Z T gn l (w / 512))
/-- The cotangent of the layer's output. -/
def dyv (Y Z T : ℕ → ℕ → ℝ) (gn : ℕ → ℝ) (l w : ℕ) : ℝ := dvv Y Z T gn l w * (Z l w * sigm (Z l w))
/-- The cotangent of the gate. -/
def dzv (Y Z T : ℕ → ℕ → ℝ) (gn : ℕ → ℝ) (l w : ℕ) : ℝ :=
  dvv Y Z T gn l w * Y l w * (sigm (Z l w) * (1 + Z l w * (1 - sigm (Z l w))))

/-! ## The layer -/

/-- The sum over the columns of a head. -/
def hsv (f : ℕ → ℝ) (h : ℕ) : ℝ := ∑ w : Fin 1024, if h = (w : ℕ) / 64 then f w else 0
/-- The cotangent of what the state before the chunk gives, undecayed. -/
def dnv (D : ℕ → ℕ → ℝ) (b al : ℕ → ℝ) (F : ℕ → ℕ → ℝ) (l w : ℕ) : ℝ := F l w * Real.exp (csv D b al l (w / 64))
/-- The row's input, decayed to the end of the chunk. -/
def xdv (P D : ℕ → ℕ → ℝ) (b al : ℕ → ℝ) (l w : ℕ) : ℝ :=
  xcv P D b l w * Real.exp (csv D b al 127 (w / 64) - csv D b al l (w / 64))
/-- Its cotangent. -/
def dxdv (P N : ℕ → ℕ → ℝ) (l w : ℕ) : ℝ := ∑ n : Fin 128, act P l (1024 + 128 * (w / 512) + n) * N n w
/-- The cotangent of the chunk's whole decay, column by column. -/
def rowv (D : ℕ → ℕ → ℝ) (b al : ℕ → ℝ) (S N : ℕ → ℕ → ℝ) (w : ℕ) : ℝ :=
  (∑ n : Fin 128, N n w * S n w) * Real.exp (csv D b al 127 (w / 64))
/-- What the last row's running sum receives besides. -/
def lastv (P D : ℕ → ℕ → ℝ) (b al : ℕ → ℝ) (S N : ℕ → ℕ → ℝ) (h : ℕ) : ℝ :=
  hsv (fun w => rowv D b al S N w + ∑ s : Fin 128, dxdv P N s w * xdv P D b al s w) h
/-- The decay from a row to a later one. -/
def lmv (D : ℕ → ℕ → ℝ) (b al : ℕ → ℝ) (h l s : ℕ) : ℝ :=
  if s ≤ l then Real.exp (csv D b al l h - csv D b al s h) else 0
/-- The cotangent of a head's scores. -/
def mv (P D : ℕ → ℕ → ℝ) (b al : ℕ → ℝ) (F : ℕ → ℕ → ℝ) (h l s : ℕ) : ℝ :=
  (∑ p : Fin 64, F l (64 * h + p) * xcv P D b s (64 * h + p)) * lmv D b al h l s
/-- What the scores give the cotangent of a row's running sum. -/
def qv (P D : ℕ → ℕ → ℝ) (b al : ℕ → ℝ) (F : ℕ → ℕ → ℝ) (h l : ℕ) : ℝ :=
  ∑ s : Fin 128, (mv P D b al F h l s * gv P (h / 8) l s - mv P D b al F h s l * gv P (h / 8) s l)
/-- The cotangent of the running sums of the decays' logarithms. -/
def dcsv (P D : ℕ → ℕ → ℝ) (b al : ℕ → ℝ) (S N F : ℕ → ℕ → ℝ) (l h : ℕ) : ℝ :=
  hsv (fun w => F l w * yov P D b al S l w - dxdv P N l w * xdv P D b al l w) h
    + (if h < 16 then qv P D b al F h l else 0) + (if l = 127 then lastv P D b al S N h else 0)
/-- The cotangent of the decays' logarithms: the sum of the rows below. -/
def dav (P D : ℕ → ℕ → ℝ) (b al : ℕ → ℝ) (S N F : ℕ → ℕ → ℝ) (l h : ℕ) : ℝ :=
  ∑ s : Fin 128, if l ≤ (s : ℕ) then dcsv P D b al S N F s h else 0
/-- The cotangent of the inputs times their step sizes. -/
def dxcv (P D : ℕ → ℕ → ℝ) (b al : ℕ → ℝ) (N F : ℕ → ℕ → ℝ) (l w : ℕ) : ℝ :=
  (∑ s : Fin 128, gv P (w / 512) s l * lmv D b al (w / 64) s l * F s w)
    + dxdv P N l w * Real.exp (csv D b al 127 (w / 64) - csv D b al l (w / 64))
/-- The cotangent of the inputs. -/
def dxsv (P D : ℕ → ℕ → ℝ) (b al dk : ℕ → ℝ) (N F : ℕ → ℕ → ℝ) (l w : ℕ) : ℝ :=
  F l w * dk (w / 64) + dxcv P D b al N F l w * dtv D b l (w / 64)
/-- The cotangent of the step sizes. -/
def ddtv (P D : ℕ → ℕ → ℝ) (b al : ℕ → ℝ) (S N F : ℕ → ℕ → ℝ) (l h : ℕ) : ℝ :=
  hsv (fun w => dxcv P D b al N F l w * act P l w) h + dav P D b al S N F l h * -Real.exp (al h)
/-- The cotangent of what the step sizes are made of; the lanes after the heads are zero. -/
def dtrv (P D : ℕ → ℕ → ℝ) (b al : ℕ → ℝ) (S N F : ℕ → ℕ → ℝ) (l h : ℕ) : ℝ :=
  ddtv P D b al S N F l h * sigm (D l h + b h) * (if h < 16 then 1 else 0)
/-- The cotangent of a group's `B` rows. -/
def dbv (P D : ℕ → ℕ → ℝ) (b al : ℕ → ℝ) (N F : ℕ → ℕ → ℝ) (g l n : ℕ) : ℝ :=
  (∑ k : Fin 512, xdv P D b al l (512 * g + k) * N n (512 * g + k))
    + ∑ s : Fin 128, (∑ e : Fin 8, mv P D b al F (8 * g + e) s l) * act P s (1280 + 128 * g + n)
/-- The cotangent of a group's `C` rows. -/
def dcv (P D : ℕ → ℕ → ℝ) (b al : ℕ → ℝ) (S F : ℕ → ℕ → ℝ) (g l n : ℕ) : ℝ :=
  (∑ k : Fin 512, dnv D b al F l (512 * g + k) * S n (512 * g + k))
    + ∑ s : Fin 128, (∑ e : Fin 8, mv P D b al F (8 * g + e) l s) * act P s (1024 + 128 * g + n)
/-- The cotangent of the activated projection. -/
def dxbv (P D : ℕ → ℕ → ℝ) (b al dk : ℕ → ℝ) (S N F : ℕ → ℕ → ℝ) (l w : ℕ) : ℝ :=
  if w < 1024 then dxsv P D b al dk N F l w
  else if w < 1152 then dbv P D b al N F 0 l (w - 1024)
  else if w < 1280 then dbv P D b al N F 1 l (w - 1152)
  else if w < 1408 then dcv P D b al S F 0 l (w - 1280)
  else dcv P D b al S F 1 l (w - 1408)
/-- The cotangent of the projection. -/
def dpv (P D : ℕ → ℕ → ℝ) (b al dk : ℕ → ℝ) (S N F : ℕ → ℕ → ℝ) (l w : ℕ) : ℝ :=
  dxbv P D b al dk S N F l w * (sigm (P l w) * (1 + P l w * (1 - sigm (P l w))))
/-- The cotangent of the state before the chunk. -/
def prevv (P D : ℕ → ℕ → ℝ) (b al : ℕ → ℝ) (N F : ℕ → ℕ → ℝ) (n w : ℕ) : ℝ :=
  N n w * Real.exp (csv D b al 127 (w / 64)) + ∑ l : Fin 128, act P l (1280 + 128 * (w / 512) + n) * dnv D b al F l w

/-! ## What a chunk gives the cotangents of the parameters -/

def dgnv (Y Z T : ℕ → ℕ → ℝ) (w : ℕ) : ℝ := ∑ l : Fin 128, T l w * vhv Y Z l w
def ddv (P F : ℕ → ℕ → ℝ) (h : ℕ) : ℝ := hsv (fun w => ∑ l : Fin 128, F l w * act P l w) h
def dalv (P D : ℕ → ℕ → ℝ) (b al : ℕ → ℝ) (S N F : ℕ → ℕ → ℝ) (h : ℕ) : ℝ :=
  (∑ l : Fin 128, dav P D b al S N F l h * dtv D b l h) * -Real.exp (al h)
def ddbv (P D : ℕ → ℕ → ℝ) (b al : ℕ → ℝ) (S N F : ℕ → ℕ → ℝ) (h : ℕ) : ℝ := ∑ l : Fin 128, dtrv P D b al S N F l h

/-! ## The whole sequence -/

/-- The cotangent of the state after the chunk `31 - j`. -/
def dsv (P D : ℕ → ℕ → ℝ) (b al : ℕ → ℝ) (F : ℕ → ℕ → ℕ → ℝ) : ℕ → ℕ → ℕ → ℝ
  | 0 => fun _ _ => 0
  | j + 1 => prevv (rows P (31 - j)) (rows D (31 - j)) b al (dsv P D b al F j) (F (31 - j))

/-- A chunk of the layer's output. -/
def chY (P D : ℕ → ℕ → ℝ) (b al dk : ℕ → ℝ) (k : ℕ) : ℕ → ℕ → ℝ := yv (rows P k) (rows D k) b al dk (stv P D b al k)
/-- A chunk of its cotangent. -/
def chF (P D Z T : ℕ → ℕ → ℝ) (b al dk gn : ℕ → ℝ) (k : ℕ) : ℕ → ℕ → ℝ := dyv (chY P D b al dk k) (rows Z k) (rows T k) gn

/-- A head's columns, picked out of all. -/
theorem hsv_eq (f : ℕ → ℝ) {h : ℕ} (hh : h < 16) : hsv f h = ∑ p : Fin 64, f (64 * h + p) := by
  unfold hsv
  rw [← Finset.sum_filter]
  refine (Finset.sum_nbij' (i := fun p : Fin 64 => (⟨64 * h + p, by omega⟩ : Fin 1024))
    (j := fun w : Fin 1024 => (⟨(w : ℕ) % 64, by omega⟩ : Fin 64)) ?_ ?_ ?_ ?_ ?_).symm
  · intro p _; simp only [Finset.mem_filter, Finset.mem_univ, true_and]; omega
  · intro w _; exact Finset.mem_univ _
  · intro p _; exact Fin.ext (by show (64 * h + (p : ℕ)) % 64 = p; omega)
  · intro w hw; rw [Finset.mem_filter] at hw; exact Fin.ext (by show 64 * h + (w : ℕ) % 64 = w; omega)
  · intro p _; rfl

/-- Beyond the heads there is nothing. -/
theorem hsv_zero (f : ℕ → ℝ) {h : ℕ} (hh : 16 ≤ h) : hsv f h = 0 := by
  unfold hsv
  exact Finset.sum_eq_zero fun w _ => if_neg (by have := w.isLt; omega)

end Cert.Ssd

end
end
-- ==== Proof.SsdbKer.lean ====
/- The backward kernel's values at one chunk, up to the heads' scores, read entry by entry as the real chunk functions. -/
module

public import proofs.«01_k».proof.Proof.SsdbIns
public import proofs.«01_k».proof.Proof.SsdbReal
public import Idealize.ShloMosaic.Lib.WordCmp

@[expose] public section

set_option maxRecDepth 16384

noncomputable section

namespace Cert.SsdbIdeal.Bwd

open Cert.SsdbIdeal Cert.SsdbIdeal.Gen Cert.Reals Cert.Ssd Idealize.ShloMosaic Idealize.ShloMosaic.TcCoe Idealize.SL.Sem

theorem mask_bot : Named.named (F := Ideal) (φ := .f32) κ "mask" 4048155338#32 = (⊥ : EReal) := rfl

/-! ## Index words -/

theorem bit_coe (p : Prop) [Decidable p] :
    (FloatOps.sitofp (F := Ideal) .f32 (BitVec.setWidth 32 (if p then 1#1 else 0#1)) : EReal) = (((if p then 1 else 0) : ℝ) : EReal) := by
  split
  · show (((1#32 : BitVec 32).toInt : ℝ) : EReal) = _
    norm_num
  · show (((0#32 : BitVec 32).toInt : ℝ) : EReal) = _
    norm_num

theorem ofBool_bit (p : Prop) [Decidable p] : BitVec.ofBool (decide p) = if p then 1#1 else 0#1 := by
  by_cases h : p <;> simp [h]

theorem tri_bit (h w : Fin 128) : k0_pay14 (ix2 h w) = if (w : ℕ) ≤ h then 1#1 else 0#1 := by
  pointwise [k0_pay14]
  rw [WordCmp.cmpi_sge_ofNat (by omega) (by omega), ofBool_bit]

theorem trit_bit (h w : Fin 128) : k0_pay34 (ix2 h w) = if (h : ℕ) ≤ w then 1#1 else 0#1 := by
  pointwise [k0_pay34]
  rw [WordCmp.cmpi_sge_ofNat (by omega) (by omega), ofBool_bit]

theorem half0_bit (w : Fin 128) : k0_pay32 (ix2 0 w) = if (w : ℕ) < 64 then 1#1 else 0#1 := by
  pointwise [k0_pay32]
  rw [WordCmp.cmpi_slt_ofNat (b := 64) (by omega) (by omega), ofBool_bit]

theorem half1_bit (w : Fin 128) : k0_pay33 (ix2 0 w) = if 64 ≤ (w : ℕ) then 1#1 else 0#1 := by
  pointwise [k0_pay33]
  rw [WordCmp.cmpi_sge_ofNat (by omega) (by omega), ofBool_bit]

theorem head_entry (h : Fin 128) (w : Fin 1024) :
    (k0_pay7 (F := Ideal)) (ix2 h w) = (((if (h : ℕ) = w / 64 then 1 else 0) : ℝ) : EReal) := by
  pointwise [k0_pay7]
  have h1 := h.isLt
  have h2 := w.isLt
  have e1 : IntOp.muli (BitVec.ofNat 32 ↑h) 64#32 = BitVec.ofNat 32 (↑h * 64) := by
    simp [IntOp.muli, ← BitVec.ofNat_mul]
  have e2 : IntOp.addi (BitVec.ofNat 32 (↑h * 64)) 64#32 = BitVec.ofNat 32 (↑h * 64 + 64) := by
    simp [IntOp.addi, ← BitVec.ofNat_add]
  rw [e1, e2, WordCmp.cmpi_sge_ofNat (by omega) (by omega), WordCmp.cmpi_slt_ofNat (by omega) (by omega),
    show IntOp.andi (BitVec.ofBool (decide (↑h * 64 ≤ ↑w))) (BitVec.ofBool (decide (↑w < ↑h * 64 + 64)))
      = if (h : ℕ) = w / 64 then 1#1 else 0#1 from ?_]
  · exact bit_coe _
  · have : ((h : ℕ) = w / 64) ↔ (↑h * 64 ≤ (w : ℕ) ∧ (w : ℕ) < ↑h * 64 + 64) := by omega
    by_cases a : ↑h * 64 ≤ (w : ℕ) <;> by_cases b : (w : ℕ) < ↑h * 64 + 64 <;> simp [this, a, b, IntOp.andi]

/-- A head's value, given to each of its columns; what the rounding leaves over is zero on real numbers. -/
theorem expand (f : Fin 128 → ℝ) (w : Fin 1024) :
    ∑ x, ((f x : ℝ) : EReal) * (k0_pay7 (F := Ideal)) (ix2 x w)
        + ∑ x, (((f x : ℝ) : EReal) - (f x : ℝ)) * (k0_pay7 (F := Ideal)) (ix2 x w)
      + ∑ x, (((f x : ℝ) : EReal) - (f x : ℝ) - (((f x : ℝ) : EReal) - (f x : ℝ))) * (k0_pay7 (F := Ideal)) (ix2 x w)
      = ((f ⟨w / 64, by have := w.isLt; omega⟩ : ℝ) : EReal) := by
  simp only [head_entry, ← EReal.coe_sub, ← EReal.coe_mul, coe_sum, ← EReal.coe_add, sub_self, zero_mul, Finset.sum_const_zero, add_zero]
  rw [Finset.sum_eq_single ⟨w / 64, by have := w.isLt; omega⟩]
  · simp
  · intro x _ hx
    rw [if_neg (fun h => hx (Fin.ext h)), mul_zero]
  · simp

/-- The sum of a head's columns; what the rounding leaves over is zero on real numbers. -/
theorem contract (f : ℕ → ℝ) (h : Fin 128) :
    ∑ w : Fin 1024, ((f w : ℝ) : EReal) * (k0_pay7 (F := Ideal)) (ix2 h w)
        + ∑ w : Fin 1024, (((f w : ℝ) : EReal) - (f w : ℝ)) * (k0_pay7 (F := Ideal)) (ix2 h w)
      = ((hsv f h : ℝ) : EReal) := by
  simp only [head_entry, ← EReal.coe_sub, ← EReal.coe_mul, coe_sum, ← EReal.coe_add, sub_self, zero_mul, Finset.sum_const_zero, add_zero]
  unfold hsv
  simp only [mul_ite, mul_one, mul_zero]

/-- The blocks hold real numbers. -/
structure Ins.Is (X : Ins) (P D Z Y T : ℕ → ℕ → ℝ) (b al dk gn : ℕ → ℝ) (S N : ℕ → ℕ → ℝ) : Prop where
  dys : ∀ (l : Fin 128) (w : Fin 1024), X.dys (ix2 l w) = ((T l w : ℝ) : EReal)
  y : ∀ (l : Fin 128) (w : Fin 1024), X.y (ix2 l w) = ((Y l w : ℝ) : EReal)
  z : ∀ (l : Fin 128) (w : Fin 1024), X.z (ix2 l w) = ((Z l w : ℝ) : EReal)
  pre : ∀ (l : Fin 128) (w : Fin 1536), X.pre (ix2 l w) = ((P l w : ℝ) : EReal)
  dtr : ∀ l h : Fin 128, X.dtr (ix2 l h) = ((D l h : ℝ) : EReal)
  prev : ∀ (n : Fin 128) (w : Fin 1024), X.prev (ix3 0 n w) = ((S n w : ℝ) : EReal)
  dtb : ∀ h : Fin 128, X.dtb (ix2 0 h) = ((b h : ℝ) : EReal)
  alog : ∀ h : Fin 128, X.alog (ix2 0 h) = ((al h : ℝ) : EReal)
  skip : ∀ w : Fin 1024, X.skip (ix2 0 w) = ((dk (w / 64) : ℝ) : EReal)
  gn : ∀ w : Fin 1024, X.gn (ix2 0 w) = ((gn w : ℝ) : EReal)
  ds : ∀ (n : Fin 128) (w : Fin 1024), X.ds (ix2 n w) = ((N n w : ℝ) : EReal)

namespace Ins

section Chunk

variable {P D Z Y T : ℕ → ℕ → ℝ} {b al dk gn : ℕ → ℝ} {S N : ℕ → ℕ → ℝ} {X : Ins} (H : X.Is P D Z Y T b al dk gn S N)
include H

theorem act_eq (l : Fin 128) (w : Fin 1536) : k0_pay10 X.pre (ix2 l w) = ((act P l w : ℝ) : EReal) := by
  pointwise [k0_pay10]
  simp only [H.pre, Ideal.logistic_coe, ← EReal.coe_mul]
  rfl

theorem v28_eq (l : Fin 128) (w : Fin 1024) : X.v28 (ix2 l w) = ((act P l w : ℝ) : EReal) := by
  pointwise [v28, k0_pay11]
  rw [act_eq H]

theorem v29_eq (l : Fin 128) (w : Fin 256) : X.v29 (ix2 l w) = ((act P l (1024 + w) : ℝ) : EReal) := by
  pointwise [v29, k0_pay12]
  rw [act_eq H]

theorem v30_eq (l : Fin 128) (w : Fin 256) : X.v30 (ix2 l w) = ((act P l (1280 + w) : ℝ) : EReal) := by
  pointwise [v30, k0_pay13]
  rw [act_eq H]

theorem v20_eq (l h : Fin 128) : X.v20 (ix2 l h) = ((D l h + b h : ℝ) : EReal) := by
  pointwise [v20, k0_pay8]
  rw [H.dtr, H.dtb, ← EReal.coe_add]

theorem v49_eq (l h : Fin 128) : X.v49 (ix2 l h) = ((dtv D b l h : ℝ) : EReal) := by
  pointwise [v49, k0_pay19, v40, k0_pay18, v39, k0_pay17, v37, k0_pay16, v35, k0_pay15]
  simp only [H.dtr, H.dtb, ← EReal.coe_add]
  rw [if_neg (fun h => h rfl), show FloatOps.absf (F := Ideal) (φ := .f32) ((D l h + b h : ℝ) : EReal) = _ from abs_coe _, zero_sub, ← EReal.coe_neg, log1p_exp,
    show (0 : EReal) = ((0 : ℝ) : EReal) from rfl, ← EReal.coe_strictMono.monotone.map_max, ← EReal.coe_add]
  rfl

theorem v52_eq (h : Fin 128) : X.v52 (ix2 0 h) = ((-Real.exp (al h) : ℝ) : EReal) := by
  pointwise [v52, k0_pay20, v25, k0_pay9]
  rw [H.alog, Ideal.exp_coe, zero_sub, ← EReal.coe_neg]

theorem v57_eq (l h : Fin 128) : X.v57 (ix2 l h) = ((csv D b al l h : ℝ) : EReal) := by
  pointwise [v57, k0_pay21]
  simp only [← v49.eq_1, ← v52.eq_1, v49_eq H, v52_eq H, tri_bit, bit_coe, ← EReal.coe_mul, coe_sum]
  unfold csv av
  simp only [ite_mul, one_mul, zero_mul]

theorem v81_eq (l : Fin 128) (w : Fin 1024) : X.v81 (ix2 l w) = ((dtv D b l (w / 64) : ℝ) : EReal) := by
  pointwise [v81, k0_pay23]
  simp only [← v49.eq_1, v49_eq H]
  exact expand (fun x => dtv D b l x) w

theorem cse_eq (l : Fin 128) (w : Fin 1024) :
    k0_pay22 k0_pay7 X.v25 k0_pay14 X.v35 X.zc X.v37 X.v39 X.v40 (ix2 l w) = ((csv D b al l (w / 64) : ℝ) : EReal) := by
  pointwise [k0_pay22]
  simp only [← v57.eq_1, v57_eq H]
  exact expand (fun x => csv D b al l x) w

theorem v83_eq (l : Fin 128) (w : Fin 1024) : X.v83 (ix2 l w) = ((Real.exp (csv D b al l (w / 64)) : ℝ) : EReal) := by
  pointwise [v83, k0_pay25]
  rw [cse_eq H, Ideal.exp_coe]

theorem v86_eq (l : Fin 128) (w : Fin 1024) :
    X.v86 (ix2 l w) = ((Real.exp (csv D b al 127 (w / 64) - csv D b al l (w / 64)) : ℝ) : EReal) := by
  pointwise [v86, k0_pay26, k0_pay24]
  rw [cse_eq H, cse_eq H, ← EReal.coe_sub, Ideal.exp_coe]
  rfl

theorem v87_eq (w : Fin 1024) : X.v87 (ix2 0 w) = ((Real.exp (csv D b al 127 (w / 64)) : ℝ) : EReal) := by
  pointwise [v87, k0_pay27, k0_pay24]
  rw [cse_eq H, Ideal.exp_coe]
  rfl

theorem v88_eq (l : Fin 128) (w : Fin 1024) : X.v88 (ix2 l w) = ((xcv P D b l w : ℝ) : EReal) := by
  pointwise [v88, k0_pay28]
  simp only [← v81.eq_1]
  rw [v28_eq H, v81_eq H, ← EReal.coe_mul]
  rfl

theorem v89_eq (l : Fin 128) (w : Fin 1024) : X.v89 (ix2 l w) = ((xdv P D b al l w : ℝ) : EReal) := by
  pointwise [v89, k0_pay29]
  simp only [← v88.eq_1, ← v86.eq_1]
  rw [v88_eq H, v86_eq H, ← EReal.coe_mul]
  rfl

theorem v90_eq (l h : Fin 128) : X.v90 (ix2 h l) = ((csv D b al l h : ℝ) : EReal) := by
  pointwise [v90, k0_pay30]
  simp only [← v57.eq_1]
  rw [v57_eq H]

theorem v92_eq (n : Fin 128) (w : Fin 1024) : X.v92 (ix2 n w) = ((S n w : ℝ) : EReal) := by
  pointwise [v92, k0_pay31]
  rw [H.prev]

/-! ## The gated norm -/

theorem v103_eq (l : Fin 128) (w : Fin 1024) : X.v103 (ix2 l w) = ((Y l w : ℝ) : EReal) := by
  pointwise [v103, k0_pay35]
  rw [H.y]

theorem v105_eq (l : Fin 128) (w : Fin 1024) : X.v105 (ix2 l w) = ((sigm (Z l w) : ℝ) : EReal) := by
  pointwise [v105, k0_pay36]
  rw [H.z, Ideal.logistic_coe]
  rfl

theorem v106_eq (l : Fin 128) (w : Fin 1024) : X.v106 (ix2 l w) = ((Z l w * sigm (Z l w) : ℝ) : EReal) := by
  pointwise [v106, k0_pay37]
  simp only [← v105.eq_1]
  rw [H.z, v105_eq H, ← EReal.coe_mul]

theorem v107_eq (l : Fin 128) (w : Fin 1024) : X.v107 (ix2 l w) = ((vbv Y Z l w : ℝ) : EReal) := by
  pointwise [v107, k0_pay38]
  simp only [← v103.eq_1, ← v106.eq_1]
  rw [v103_eq H, v106_eq H, ← EReal.coe_mul]
  rfl

theorem v110_eq (w : Fin 1024) : X.v110 (ix2 0 w) = ((gn w : ℝ) : EReal) := by
  pointwise [v110, k0_pay39]
  rw [H.gn]

theorem v119_eq (l : Fin 128) : X.v119 (ix2 l 0) = ((rsv Y Z l 0 : ℝ) : EReal) := by
  pointwise [v119, k0_pay41, k0_pay40]
  simp only [← v107.eq_1, v107_eq H, ← EReal.coe_mul, coe_sum]
  rw [c512, cEps, div_coe_coe (by norm_num : (512 : ℝ) ≠ 0), ← EReal.coe_add]
  have h0 := msv_pos (vbv Y Z) l 0
  simp only [msv, Nat.mul_zero, Nat.zero_add, mul_zero, zero_add] at h0
  rw [rsqrt_pos h0]
  unfold rsv msv
  simp only [mul_zero, zero_add]

theorem rs1_eq (l : Fin 128) : k0_pay46 X.v107 (ix2 l 0) = ((rsv Y Z l 1 : ℝ) : EReal) := by
  pointwise [k0_pay46, k0_pay45]
  simp only [v107_eq H, ← EReal.coe_mul, coe_sum]
  rw [c512, cEps, div_coe_coe (by norm_num : (512 : ℝ) ≠ 0), ← EReal.coe_add]
  have h0 := msv_pos (vbv Y Z) l 1
  simp only [msv, mul_one] at h0
  rw [rsqrt_pos h0]
  unfold rsv msv
  simp only [mul_one]

theorem v121_eq (l : Fin 128) (w : Fin 512) : X.v121 (ix2 l w) = ((vhv Y Z l w : ℝ) : EReal) := by
  pointwise [v121, k0_pay42, k0_pay40]
  simp only [← v107.eq_1, ← v119.eq_1]
  rw [v107_eq H, v119_eq H, ← EReal.coe_mul]
  unfold vhv
  rw [show (w : ℕ) / 512 = 0 by omega]

theorem vh1_eq (l : Fin 128) (w : Fin 512) : k0_pay47 X.v107 (ix2 l w) = ((vhv Y Z l (512 + w) : ℝ) : EReal) := by
  pointwise [k0_pay47, k0_pay45]
  rw [v107_eq H, rs1_eq H, ← EReal.coe_mul]
  unfold vhv
  rw [show (512 + (w : ℕ)) / 512 = 1 by omega]

theorem v125_eq (l : Fin 128) (w : Fin 512) : X.v125 (ix2 l w) = ((dhv T gn l w : ℝ) : EReal) := by
  pointwise [v125, k0_pay43]
  simp only [← v110.eq_1]
  rw [H.dys, v110_eq H, ← EReal.coe_mul]
  rfl

theorem v131_eq (l : Fin 128) (w : Fin 512) : X.v131 (ix2 l w) = ((mnv Y Z T gn l 0 : ℝ) : EReal) := by
  pointwise [v131, k0_pay44]
  simp only [← v125.eq_1, ← v121.eq_1, v125_eq H, v121_eq H, ← EReal.coe_mul, coe_sum]
  rw [c512, div_coe_coe (by norm_num : (512 : ℝ) ≠ 0)]
  unfold mnv
  simp only [mul_zero, zero_add]

theorem dv_eq (l : Fin 128) (w : Fin 1024) :
    k0_pay48 X.v107 X.dys X.v110 X.v119 X.v121 X.v125 X.v131 (ix2 l w) = ((dvv Y Z T gn l w : ℝ) : EReal) := by
  pointwise [k0_pay48]
  have hw := w.isLt
  simp only [H.dys, v110_eq H, v119_eq H, v121_eq H, v125_eq H, v131_eq H, rs1_eq H, vh1_eq H, ← EReal.coe_mul, coe_sum, ← EReal.coe_sub]
  by_cases hp : (w : ℕ) < 512
  · rw [dif_pos hp]
    unfold dvv
    rw [show (w : ℕ) / 512 = 0 by omega]
  · rw [dif_neg hp, c512, div_coe_coe (by norm_num : (512 : ℝ) ≠ 0), ← EReal.coe_mul, ← EReal.coe_sub, ← EReal.coe_mul]
    unfold dvv mnv dhv
    rw [show (w : ℕ) / 512 = 1 by omega, show 512 + ((w : ℕ) - 512) = w by omega]

theorem ogn_eq (w : Fin 1024) : X.ogn (ix2 0 w) = X.agn (ix2 0 w) + ((dgnv Y Z T w : ℝ) : EReal) := by
  pointwise [ogn, k0_pay49]
  congr 1
  unfold dgnv
  rw [← coe_sum]
  refine Finset.sum_congr rfl fun l _ => ?_
  simp only [H.dys, v121_eq H, vh1_eq H]
  by_cases hp : (w : ℕ) < 512
  · rw [dif_pos hp, ← EReal.coe_mul]
  · rw [dif_neg hp, ← EReal.coe_mul, show 512 + ((w : ℕ) - 512) = w by omega]

theorem v170_eq (l : Fin 128) (w : Fin 1024) : X.v170 (ix2 l w) = ((dyv Y Z T gn l w : ℝ) : EReal) := by
  pointwise [v170, k0_pay50]
  rw [dv_eq H, v106_eq H, ← EReal.coe_mul]
  rfl

theorem odz_eq (l : Fin 128) (w : Fin 1024) : X.odz (ix2 l w) = ((dzv Y Z T gn l w : ℝ) : EReal) := by
  pointwise [odz, k0_pay52, v178, k0_pay51]
  simp only [dv_eq H, v103_eq H, v105_eq H, H.z, ← EReal.coe_mul]
  rw [show (1 : EReal) = ((1 : ℝ) : EReal) from rfl, ← EReal.coe_sub, ← EReal.coe_mul, ← EReal.coe_add, ← EReal.coe_mul, ← EReal.coe_mul]
  rfl

/-! ## The layer, without its scores -/

theorem od_eq (h : Fin 128) : X.od (ix2 0 h) = X.ad (ix2 0 h) + ((ddv P (dyv Y Z T gn) h : ℝ) : EReal) := by
  pointwise [od, k0_pay53]
  simp only [v170_eq H, v28_eq H, ← EReal.coe_mul, coe_sum]
  rw [contract (fun w => ∑ l : Fin 128, dyv Y Z T gn l w * act P l w) h]
  rfl

theorem v201_eq (l : Fin 128) (w : Fin 1024) : X.v201 (ix2 l w) = ((dyv Y Z T gn l w * dk (w / 64) : ℝ) : EReal) := by
  pointwise [v201, k0_pay54]
  rw [v170_eq H, H.skip, ← EReal.coe_mul]

theorem v202_eq (l : Fin 128) (w : Fin 1024) : X.v202 (ix2 l w) = ((dnv D b al (dyv Y Z T gn) l w : ℝ) : EReal) := by
  pointwise [v202, k0_pay55]
  rw [v170_eq H, v83_eq H, ← EReal.coe_mul]
  rfl

theorem v205_eq (l n : Fin 128) : X.v205 (ix2 l n) = ((act P l (1024 + n) : ℝ) : EReal) := by
  pointwise [v205, k0_pay57]
  rw [v29_eq H]

theorem v206_eq (l n : Fin 128) : X.v206 (ix2 l n) = ((act P l (1280 + n) : ℝ) : EReal) := by
  pointwise [v206, k0_pay58, k0_pay56]
  rw [v30_eq H]

theorem v210_eq (n : Fin 128) (w : Fin 512) : X.v210 (ix2 n w) = ((N n w : ℝ) : EReal) := by
  pointwise [v210, k0_pay60]
  rw [H.ds]

theorem v213_eq (l s : Fin 128) : X.v213 (ix2 l s) = ((gv P 0 l s : ℝ) : EReal) := by
  pointwise [v213, k0_pay62, k0_pay58, k0_pay57, k0_pay56]
  simp only [v29_eq H, v30_eq H, ← EReal.coe_mul, coe_sum]
  rfl

theorem v214_eq (l s : Fin 128) : X.v214 (ix2 l s) = ((gv P 0 s l : ℝ) : EReal) := by
  pointwise [v214, k0_pay63, k0_pay58, k0_pay57, k0_pay56]
  simp only [v29_eq H, v30_eq H, ← EReal.coe_mul, coe_sum]
  unfold gv
  exact congrArg _ (Finset.sum_congr rfl fun k _ => mul_comm _ _)

theorem v215_eq (l : Fin 128) (w : Fin 512) : X.v215 (ix2 l w) = ((∑ n : Fin 128, act P l (1280 + n) * S n w : ℝ) : EReal) := by
  pointwise [v215, k0_pay64, k0_pay58, k0_pay59, k0_pay56]
  simp only [v30_eq H, v92_eq H, ← EReal.coe_mul, coe_sum]

theorem v216_eq (l n : Fin 128) : X.v216 (ix2 l n) = ((∑ k : Fin 512, dnv D b al (dyv Y Z T gn) l k * S n k : ℝ) : EReal) := by
  pointwise [v216, k0_pay65, k0_pay61, k0_pay59]
  simp only [← v202.eq_1, v202_eq H, v92_eq H, ← EReal.coe_mul, coe_sum]

theorem v219_eq (n : Fin 128) (w : Fin 512) :
    X.v219 (ix2 n w) = ((∑ l : Fin 128, act P l (1280 + n) * dnv D b al (dyv Y Z T gn) l w : ℝ) : EReal) := by
  pointwise [v219, k0_pay66, k0_pay61, k0_pay56]
  simp only [← v202.eq_1, v202_eq H, v30_eq H, ← EReal.coe_mul, coe_sum]

theorem v222_eq (l n : Fin 128) : X.v222 (ix2 l n) = ((∑ k : Fin 512, xdv P D b al l k * N n k : ℝ) : EReal) := by
  pointwise [v222, k0_pay68, v220, k0_pay67]
  simp only [v89_eq H, v210_eq H, ← EReal.coe_mul, coe_sum]

theorem v226_eq (l n : Fin 128) : X.v226 (ix2 l n) = ((act P l (1152 + n) : ℝ) : EReal) := by
  pointwise [v226, k0_pay70]
  rw [v29_eq H]
  simp only [← Nat.add_assoc]

theorem v227_eq (l n : Fin 128) : X.v227 (ix2 l n) = ((act P l (1408 + n) : ℝ) : EReal) := by
  pointwise [v227, k0_pay71, k0_pay69]
  rw [v30_eq H]
  simp only [← Nat.add_assoc]

theorem v234_eq (l s : Fin 128) : X.v234 (ix2 l s) = ((gv P 1 l s : ℝ) : EReal) := by
  pointwise [v234, k0_pay75]
  simp only [← v226.eq_1, ← v227.eq_1, v226_eq H, v227_eq H, ← EReal.coe_mul, coe_sum]
  rfl

theorem v235_eq (l s : Fin 128) : X.v235 (ix2 l s) = ((gv P 1 s l : ℝ) : EReal) := by
  pointwise [v235, k0_pay76]
  simp only [← v226.eq_1, ← v227.eq_1, v226_eq H, v227_eq H, ← EReal.coe_mul, coe_sum]
  unfold gv
  exact congrArg _ (Finset.sum_congr rfl fun k _ => mul_comm _ _)

theorem v237_eq (l n : Fin 128) :
    X.v237 (ix2 l n) = ((∑ k : Fin 512, dnv D b al (dyv Y Z T gn) l (512 + k) * S n (512 + k) : ℝ) : EReal) := by
  pointwise [v237, k0_pay77, k0_pay74, k0_pay72]
  simp only [v202_eq H, v92_eq H, ← EReal.coe_mul, coe_sum]

theorem v243_eq (l n : Fin 128) : X.v243 (ix2 l n) = ((∑ k : Fin 512, xdv P D b al l (512 + k) * N n (512 + k) : ℝ) : EReal) := by
  pointwise [v243, k0_pay78, k0_pay73]
  simp only [v89_eq H, H.ds, ← EReal.coe_mul, coe_sum]

theorem v247_eq (l : Fin 128) (w : Fin 1024) : X.v247 (ix2 l w) = ((dxdv P N l w : ℝ) : EReal) := by
  pointwise [v247, k0_pay79, k0_pay73]
  simp only [← v226.eq_1, v226_eq H, v205_eq H, v210_eq H, H.ds, ← EReal.coe_mul, coe_sum]
  have hw := w.isLt
  unfold dxdv
  by_cases hp : (w : ℕ) < 512
  · rw [dif_pos hp, show (w : ℕ) / 512 = 0 by omega]
  · rw [dif_neg hp, show (w : ℕ) / 512 = 1 by omega, show 512 + ((w : ℕ) - 512) = w by omega]

theorem ods_eq (n : Fin 128) (w : Fin 1024) : X.ods (ix2 n w) = ((prevv P D b al N (dyv Y Z T gn) n w : ℝ) : EReal) := by
  pointwise [ods, k0_pay80, k0_pay74, k0_pay69]
  simp only [v219_eq H, v30_eq H, v202_eq H, H.ds, v87_eq H, ← EReal.coe_mul, coe_sum]
  have hw := w.isLt
  unfold prevv
  by_cases hp : (w : ℕ) < 512
  · rw [dif_pos hp, ← EReal.coe_add, show (w : ℕ) / 512 = 0 by omega]
  · rw [dif_neg hp, ← EReal.coe_add, show (w : ℕ) / 512 = 1 by omega, show 512 + ((w : ℕ) - 512) = w by omega]
    simp only [← Nat.add_assoc]

theorem v258_eq (w : Fin 1024) : X.v258 (ix2 0 w) = ((rowv D b al S N w : ℝ) : EReal) := by
  pointwise [v258, k0_pay81]
  simp only [H.ds, v92_eq H, v87_eq H, ← EReal.coe_mul, coe_sum]
  rfl

theorem v259_eq (l : Fin 128) (w : Fin 1024) : X.v259 (ix2 l w) = ((dxdv P N l w * xdv P D b al l w : ℝ) : EReal) := by
  pointwise [v259, k0_pay82]
  simp only [← v247.eq_1]
  rw [v247_eq H, v89_eq H, ← EReal.coe_mul]

theorem off_eq (l : Fin 128) (w : Fin 1024) :
    k0_pay83 X.v29 X.v30 X.v83 X.v89 X.v92 X.ds X.v170 X.v205 X.v210 X.v215 (ix2 l w)
      = ((dyv Y Z T gn l w * yov P D b al S l w - dxdv P N l w * xdv P D b al l w : ℝ) : EReal) := by
  pointwise [k0_pay83, k0_pay72]
  simp only [← v227.eq_1, ← v259.eq_1, v259_eq H, v227_eq H, v92_eq H, v83_eq H, v170_eq H, v215_eq H, ← EReal.coe_mul, coe_sum]
  have hw := w.isLt
  unfold yov
  by_cases hp : (w : ℕ) < 512
  · rw [dif_pos hp, ← EReal.coe_mul, ← EReal.coe_mul, ← EReal.coe_sub, show (w : ℕ) / 512 = 0 by omega]
  · rw [dif_neg hp, ← EReal.coe_mul, ← EReal.coe_mul, ← EReal.coe_sub, show (w : ℕ) / 512 = 1 by omega, show 512 + ((w : ℕ) - 512) = w by omega]

theorem v268_eq (l h : Fin 128) :
    X.v268 (ix2 l h) = ((hsv (fun w => dyv Y Z T gn l w * yov P D b al S l w - dxdv P N l w * xdv P D b al l w) h : ℝ) : EReal) := by
  pointwise [v268, k0_pay87, v265, k0_pay85, v266, k0_pay86, k0_pay84]
  simp only [off_eq H]
  exact contract (fun w => dyv Y Z T gn l w * yov P D b al S l w - dxdv P N l w * xdv P D b al l w) h

theorem v281_eq (h : Fin 128) : X.v281 (ix2 0 h) = ((lastv P D b al S N h : ℝ) : EReal) := by
  pointwise [v281, k0_pay88]
  simp only [v258_eq H, v259_eq H, coe_sum, ← EReal.coe_add]
  exact contract (fun w => rowv D b al S N w + ∑ s : Fin 128, dxdv P N s w * xdv P D b al s w) h

theorem v282_eq (l : Fin 128) (w : Fin 1024) :
    X.v282 (ix2 l w) = ((dxdv P N l w * Real.exp (csv D b al 127 (w / 64) - csv D b al l (w / 64)) : ℝ) : EReal) := by
  pointwise [v282, k0_pay89]
  rw [v247_eq H, v86_eq H, ← EReal.coe_mul]

end Chunk

end Ins

end Cert.SsdbIdeal.Bwd

end
end
-- ==== Proof.SsdbHead.lean ====
/- The scores of the backward kernel's heads, read entry by entry, and what they leave in the chunk's outputs. -/
module

public import proofs.«01_k».proof.Proof.SsdbKer

@[expose] public section

set_option maxRecDepth 16384

noncomputable section

namespace Cert.SsdbIdeal.Bwd

open Cert.SsdbIdeal Cert.SsdbIdeal.Gen Cert.Reals Cert.Ssd Idealize.ShloMosaic Idealize.ShloMosaic.TcCoe Idealize.SL.Sem

/-- A half of a pair's 128 lanes, multiplied out. -/
theorem half_dot (f g : ℕ → ℝ) {o : ℕ} (ho : o < 2) :
    ∑ w : Fin 128, (if (w : ℕ) / 64 = o then f w else 0) * (if (w : ℕ) / 64 = o then g w else 0)
      = ∑ p : Fin 64, f (64 * o + p) * g (64 * o + p) := by
  have e : ∀ w : Fin 128, (if (w : ℕ) / 64 = o then f w else 0) * (if (w : ℕ) / 64 = o then g w else 0)
      = if (w : ℕ) / 64 = o then f w * g w else 0 := by intro w; split <;> simp
  simp only [e]
  rw [← Finset.sum_filter]
  refine (Finset.sum_nbij' (i := fun p : Fin 64 => (⟨64 * o + p, by omega⟩ : Fin 128))
    (j := fun w : Fin 128 => (⟨(w : ℕ) % 64, by omega⟩ : Fin 64)) ?_ ?_ ?_ ?_ ?_).symm
  · intro p _; simp only [Finset.mem_filter, Finset.mem_univ, true_and]; omega
  · intro w _; exact Finset.mem_univ _
  · intro p _; exact Fin.ext (by show (64 * o + (p : ℕ)) % 64 = p; omega)
  · intro w hw; rw [Finset.mem_filter] at hw; exact Fin.ext (by show 64 * o + (w : ℕ) % 64 = w; omega)
  · intro p _; rfl

/-- A selected half of the lanes. -/
theorem half_sel (r : ℝ) (w : Fin 128) :
    Scalar.select (k0_pay32 (ix2 0 w)) (r : EReal) 0 = ((if (w : ℕ) / 64 = 0 then r else 0 : ℝ) : EReal)
      ∧ Scalar.select (k0_pay33 (ix2 0 w)) (r : EReal) 0 = ((if (w : ℕ) / 64 = 1 then r else 0 : ℝ) : EReal) := by
  have hw := w.isLt
  rw [half0_bit, half1_bit]
  by_cases h : (w : ℕ) < 64
  · rw [if_pos h, if_neg (show ¬ 64 ≤ (w : ℕ) by omega), show (w : ℕ) / 64 = 0 by omega]; exact ⟨rfl, rfl⟩
  · rw [if_neg h, if_pos (show 64 ≤ (w : ℕ) by omega), show (w : ℕ) / 64 = 1 by omega]; exact ⟨rfl, rfl⟩

/-- The masked decays of a head. -/
theorem lm_sel (p : Prop) [Decidable p] (x y : ℝ) :
    Ideal.exp (Scalar.select (if p then 1#1 else 0#1) ((x : EReal) - (y : EReal)) ⊥) = ((if p then Real.exp (x - y) else 0 : ℝ) : EReal) := by
  by_cases h : p
  · rw [if_pos h, if_pos h]; show Ideal.exp ((x : EReal) - y) = _; rw [← EReal.coe_sub, Ideal.exp_coe]
  · rw [if_neg h, if_neg h]; rfl

section Heads

variable (P D : ℕ → ℕ → ℝ) (b al : ℕ → ℝ) (F : ℕ → ℕ → ℝ)

/-- What the body has made for a head: its half of the cotangent and of the inputs, and its decays both ways round. -/
structure Hd (h : ℕ) (dyp xcp : FVec Ideal S128x128 .bf16) (lm lmt : FVec Ideal S128x128 .f32) : Prop where
  dy : ∀ l w : Fin 128, dyp (ix2 l w) = ((if (w : ℕ) / 64 = h % 2 then F l (128 * (h / 2) + w) else 0 : ℝ) : EReal)
  xc : ∀ l w : Fin 128, xcp (ix2 l w) = ((if (w : ℕ) / 64 = h % 2 then xcv P D b l (128 * (h / 2) + w) else 0 : ℝ) : EReal)
  lm : ∀ l s : Fin 128, lm (ix2 l s) = ((lmv D b al h l s : ℝ) : EReal)
  lmt : ∀ l s : Fin 128, lmt (ix2 l s) = ((lmv D b al h s l : ℝ) : EReal)

variable {P D b al F} {h : ℕ} {dyp xcp : FVec Ideal S128x128 .bf16} {lm lmt : FVec Ideal S128x128 .f32}

theorem Hd.dot (Hh : Hd P D b al F h dyp xcp lm lmt) (l s : Fin 128) :
    ∑ k : Fin 128, dyp (ix2 l k) * xcp (ix2 s k) = ((∑ p : Fin 64, F l (64 * h + p) * xcv P D b s (64 * h + p) : ℝ) : EReal) := by
  simp only [Hh.dy, Hh.xc, ← EReal.coe_mul, coe_sum]
  rw [half_dot (fun w => F l (128 * (h / 2) + w)) (fun w => xcv P D b s (128 * (h / 2) + w)) (by omega)]
  simp only [← Nat.add_assoc, show 128 * (h / 2) + 64 * (h % 2) = 64 * h by omega]

theorem Hd.dot' (Hh : Hd P D b al F h dyp xcp lm lmt) (l s : Fin 128) :
    ∑ k : Fin 128, xcp (ix2 l k) * dyp (ix2 s k) = ((∑ p : Fin 64, F s (64 * h + p) * xcv P D b l (64 * h + p) : ℝ) : EReal) := by
  rw [← Hh.dot]
  exact Finset.sum_congr rfl fun k _ => mul_comm _ _

theorem Hd.dm (Hh : Hd P D b al F h dyp xcp lm lmt) (l s : Fin 128) :
    (∑ k : Fin 128, dyp (ix2 l k) * xcp (ix2 s k)) * lm (ix2 l s) = ((mv P D b al F h l s : ℝ) : EReal) := by
  rw [Hh.dot, Hh.lm, ← EReal.coe_mul]; rfl

theorem Hd.dmt (Hh : Hd P D b al F h dyp xcp lm lmt) (l s : Fin 128) :
    (∑ k : Fin 128, xcp (ix2 l k) * dyp (ix2 s k)) * lmt (ix2 l s) = ((mv P D b al F h s l : ℝ) : EReal) := by
  rw [Hh.dot', Hh.lmt, ← EReal.coe_mul]; rfl

/-- A head's share of the cotangent of the running sums, in the head's lane. -/
theorem Hd.q (Hh : Hd P D b al F h dyp xcp lm lmt) (hh : h < 16) {g gt : FVec Ideal S128x128 .f32}
    (hg : ∀ l s : Fin 128, g (ix2 l s) = ((gv P (h / 8) l s : ℝ) : EReal)) (hgt : ∀ l s : Fin 128, gt (ix2 l s) = ((gv P (h / 8) s l : ℝ) : EReal))
    (l i : Fin 128) :
    (∑ s : Fin 128, ((∑ k : Fin 128, dyp (ix2 l k) * xcp (ix2 s k)) * lm (ix2 l s) * g (ix2 l s)
        - (∑ k : Fin 128, xcp (ix2 l k) * dyp (ix2 s k)) * lmt (ix2 l s) * gt (ix2 l s)))
      * FloatOps.sitofp (F := Ideal) .f32 (BitVec.setWidth 32 (IntOp.cmpi .eq (lanesC (ix2 0 i)) (BitVec.ofNat 32 h)))
      = ((if (i : ℕ) = h then qv P D b al F h l else 0 : ℝ) : EReal) := by
  have hi := i.isLt
  have e : IntOp.cmpi .eq (lanesC (ix2 0 i)) (BitVec.ofNat 32 h) = if (i : ℕ) = h then 1#1 else 0#1 := by
    pointwise [lanesC]
    show BitVec.ofBool (decide (BitVec.ofNat 32 i = BitVec.ofNat 32 h)) = _
    have : (BitVec.ofNat 32 i = BitVec.ofNat 32 h) ↔ (i : ℕ) = h := by
      constructor
      · intro a; have := congrArg BitVec.toNat a; simp only [BitVec.toNat_ofNat] at this; omega
      · intro a; rw [a]
    by_cases a : (i : ℕ) = h <;> simp [this, a]
  simp only [Hh.dm, Hh.dmt, hg, hgt, ← EReal.coe_mul, ← EReal.coe_sub, coe_sum]
  rw [e, bit_coe, ← EReal.coe_mul]
  simp only [mul_ite, mul_one, mul_zero]
  rfl

/-- What a head gives the cotangent of the inputs in its pair's lanes. -/
theorem Hd.a (Hh : Hd P D b al F h dyp xcp lm lmt) {gt : FVec Ideal S128x128 .f32}
    (hgt : ∀ l s : Fin 128, gt (ix2 l s) = ((gv P (h / 8) s l : ℝ) : EReal)) (l w : Fin 128) :
    ∑ s : Fin 128, gt (ix2 l s) * lmt (ix2 l s) * dyp (ix2 s w)
      = ((if (w : ℕ) / 64 = h % 2 then ∑ s : Fin 128, gv P (h / 8) s l * lmv D b al h s l * F s (128 * (h / 2) + w) else 0 : ℝ) : EReal) := by
  simp only [hgt, Hh.lmt, Hh.dy, ← EReal.coe_mul, coe_sum]
  split <;> simp

/-! ## Two heads at a time -/

/-- The values of a pair of heads. -/
structure Pair (j : ℕ) (Q : ℕ → ℕ → ℝ) (acc dg dgt dcs : FVec Ideal S128x128 .f32) : Prop where
  acc : ∀ l w : Fin 128, acc (ix2 l w)
    = ((∑ s : Fin 128, gv P (j / 4) s l * lmv D b al (2 * j + w / 64) s l * F s (128 * j + w) : ℝ) : EReal)
  dg : ∀ l s : Fin 128, dg (ix2 l s) = ((∑ e ∈ Finset.range (2 * (j % 4) + 2), mv P D b al F (8 * (j / 4) + e) l s : ℝ) : EReal)
  dgt : ∀ l s : Fin 128, dgt (ix2 l s) = ((∑ e ∈ Finset.range (2 * (j % 4) + 2), mv P D b al F (8 * (j / 4) + e) s l : ℝ) : EReal)
  dcs : ∀ l i : Fin 128, dcs (ix2 l i)
    = ((Q l i + ∑ e ∈ Finset.range (2 * j + 2), (if (i : ℕ) = e then qv P D b al F e l else 0) : ℝ) : EReal)

theorem pair_step {j : ℕ} {Q : ℕ → ℕ → ℝ} (hj : j < 8) {dyp' xcp' : FVec Ideal S128x128 .bf16} {lm' lmt' d m g gt dg dgt dcs dcs1 dcs2 : FVec Ideal S128x128 .f32}
    (H0 : Hd P D b al F (2 * j) dyp xcp lm (k0_pay102 k0_pay34 d m)) (H1 : Hd P D b al F (2 * j + 1) dyp' xcp' lm' lmt')
    (hgt : ∀ l s : Fin 128, gt (ix2 l s) = ((gv P (j / 4) s l : ℝ) : EReal)) (hg : ∀ l s : Fin 128, g (ix2 l s) = ((gv P (j / 4) l s : ℝ) : EReal))
    (hdg : ∀ l s : Fin 128, dg (ix2 l s) = ((∑ e ∈ Finset.range (2 * (j % 4)), mv P D b al F (8 * (j / 4) + e) l s : ℝ) : EReal))
    (hdgt : ∀ l s : Fin 128, dgt (ix2 l s) = ((∑ e ∈ Finset.range (2 * (j % 4)), mv P D b al F (8 * (j / 4) + e) s l : ℝ) : EReal))
    (hdcs : ∀ l i : Fin 128, dcs (ix2 l i) = ((Q l i + ∑ e ∈ Finset.range (2 * j), (if (i : ℕ) = e then qv P D b al F e l else 0) : ℝ) : EReal))
    (h1 : ∀ l i : Fin 128, dcs1 (ix2 l i) = dcs (ix2 l i) + (∑ s : Fin 128, ((∑ k : Fin 128, dyp (ix2 l k) * xcp (ix2 s k)) * lm (ix2 l s) * g (ix2 l s)
        - (∑ k : Fin 128, xcp (ix2 l k) * dyp (ix2 s k)) * k0_pay102 k0_pay34 d m (ix2 l s) * gt (ix2 l s)))
      * FloatOps.sitofp (F := Ideal) .f32 (BitVec.setWidth 32 (IntOp.cmpi .eq (lanesC (ix2 0 i)) (BitVec.ofNat 32 (2 * j)))))
    (h2 : ∀ l i : Fin 128, dcs2 (ix2 l i) = dcs1 (ix2 l i) + (∑ s : Fin 128, ((∑ k : Fin 128, dyp' (ix2 l k) * xcp' (ix2 s k)) * lm' (ix2 l s) * g (ix2 l s)
        - (∑ k : Fin 128, xcp' (ix2 l k) * dyp' (ix2 s k)) * lmt' (ix2 l s) * gt (ix2 l s)))
      * FloatOps.sitofp (F := Ideal) .f32 (BitVec.setWidth 32 (IntOp.cmpi .eq (lanesC (ix2 0 i)) (BitVec.ofNat 32 (2 * j + 1))))) :
    Pair (P := P) (D := D) (b := b) (al := al) (F := F) j Q (k0_pay115 gt (k0_pay105 k0_pay34 gt k0_pay96 dyp d m) dyp' lmt')
      (k0_pay116 (k0_pay106 dg dyp xcp lm) dyp' xcp' lm') (k0_pay117 (k0_pay107 k0_pay34 dgt dyp xcp d m) dyp' xcp' lmt') dcs2 := by
  have hq : 2 * j / 8 = j / 4 := by omega
  have hq' : (2 * j + 1) / 8 = j / 4 := by omega
  refine ⟨fun l w => ?_, fun l s => ?_, fun l s => ?_, fun l i => ?_⟩
  · pointwise [k0_pay115, k0_pay105, k0_pay96]
    have hw := w.isLt
    have a0 := H0.a (gt := gt) (by rw [hq]; exact hgt) l w
    have a1 := H1.a (gt := gt) (by rw [hq']; exact hgt) l w
    rw [a0, a1, ← EReal.coe_add, hq, hq', show 2 * j % 2 = 0 by omega, show (2 * j + 1) % 2 = 1 by omega, show 2 * j / 2 = j by omega, show (2 * j + 1) / 2 = j by omega]
    by_cases hp : (w : ℕ) / 64 = 0
    · rw [if_pos hp, if_neg (by omega), add_zero, hp, Nat.add_zero]
    · rw [if_neg hp, if_pos (by omega), zero_add, show (w : ℕ) / 64 = 1 by omega]
  · pointwise [k0_pay116, k0_pay113, k0_pay106, k0_pay103]
    rw [H0.dm, H1.dm, hdg, Finset.sum_range_succ, Finset.sum_range_succ, EReal.coe_add, EReal.coe_add,
      show 8 * (j / 4) + 2 * (j % 4) = 2 * j by omega, show 8 * (j / 4) + (2 * (j % 4) + 1) = 2 * j + 1 by omega]
  · pointwise [k0_pay117, k0_pay114, k0_pay107, k0_pay104]
    rw [H0.dmt, H1.dmt, hdgt, Finset.sum_range_succ, Finset.sum_range_succ, EReal.coe_add, EReal.coe_add,
      show 8 * (j / 4) + 2 * (j % 4) = 2 * j by omega, show 8 * (j / 4) + (2 * (j % 4) + 1) = 2 * j + 1 by omega]
  · rw [h2, h1, H0.q (by omega) (by rw [hq]; exact hg) (by rw [hq]; exact hgt), H1.q (by omega) (by rw [hq']; exact hg) (by rw [hq']; exact hgt), hdcs,
      Finset.sum_range_succ, Finset.sum_range_succ, ← add_assoc, ← add_assoc, ← EReal.coe_add, ← EReal.coe_add]

end Heads

namespace Ins

section Chunk

variable {P D Z Y T : ℕ → ℕ → ℝ} {b al dk gn : ℕ → ℝ} {S N : ℕ → ℕ → ℝ} {X : Ins} (H : X.Is P D Z Y T b al dk gn S N)
include H

/-! ## The sixteen heads -/

theorem hd0 : Hd P D b al (dyv Y Z T gn) 0 X.v294 X.v299 X.v307 (k0_pay102 k0_pay34 X.v312 k0_pay101) := by
  refine ⟨fun l w => ?_, fun l w => ?_, fun l s => ?_, fun l s => ?_⟩
  · pointwise [v294, k0_pay97, k0_pay94]
    rw [v170_eq H]; exact (half_sel _ w).1
  · pointwise [v299, k0_pay98, k0_pay95]
    rw [v88_eq H]; exact (half_sel _ w).1
  · pointwise [v307, k0_pay99]
    rw [v57_eq H, v90_eq H, tri_bit, mask_bot]; exact lm_sel _ _ _
  · pointwise [k0_pay102, k0_pay101, v312, k0_pay100]
    rw [v57_eq H, v90_eq H, trit_bit, mask_bot]; exact lm_sel _ _ _

theorem hd1 : Hd P D b al (dyv Y Z T gn) 1 X.v343 X.v348 X.v356 X.v364 := by
  refine ⟨fun l w => ?_, fun l w => ?_, fun l s => ?_, fun l s => ?_⟩
  · pointwise [v343, k0_pay109, v287, k0_pay94]
    rw [v170_eq H]; exact (half_sel _ w).2
  · pointwise [v348, k0_pay110, v288, k0_pay95]
    rw [v88_eq H]; exact (half_sel _ w).2
  · pointwise [v356, k0_pay111]
    rw [v57_eq H, v90_eq H, tri_bit, mask_bot]; exact lm_sel _ _ _
  · pointwise [v364, k0_pay112]
    rw [v57_eq H, v90_eq H, trit_bit, mask_bot]; exact lm_sel _ _ _

theorem hd2 : Hd P D b al (dyv Y Z T gn) 2 X.v395 X.v400 X.v408 (k0_pay127 k0_pay34 X.v413 k0_pay126) := by
  refine ⟨fun l w => ?_, fun l w => ?_, fun l s => ?_, fun l s => ?_⟩
  · pointwise [v395, k0_pay122, k0_pay119]
    rw [v170_eq H]; exact (half_sel _ w).1
  · pointwise [v400, k0_pay123, k0_pay120]
    rw [v88_eq H]; exact (half_sel _ w).1
  · pointwise [v408, k0_pay124]
    rw [v57_eq H, v90_eq H, tri_bit, mask_bot]; exact lm_sel _ _ _
  · pointwise [k0_pay127, k0_pay126, v413, k0_pay125]
    rw [v57_eq H, v90_eq H, trit_bit, mask_bot]; exact lm_sel _ _ _

theorem hd3 : Hd P D b al (dyv Y Z T gn) 3 X.v444 X.v449 X.v457 X.v465 := by
  refine ⟨fun l w => ?_, fun l w => ?_, fun l s => ?_, fun l s => ?_⟩
  · pointwise [v444, k0_pay134, v388, k0_pay119]
    rw [v170_eq H]; exact (half_sel _ w).2
  · pointwise [v449, k0_pay135, v389, k0_pay120]
    rw [v88_eq H]; exact (half_sel _ w).2
  · pointwise [v457, k0_pay136]
    rw [v57_eq H, v90_eq H, tri_bit, mask_bot]; exact lm_sel _ _ _
  · pointwise [v465, k0_pay137]
    rw [v57_eq H, v90_eq H, trit_bit, mask_bot]; exact lm_sel _ _ _

theorem hd4 : Hd P D b al (dyv Y Z T gn) 4 X.v496 X.v501 X.v509 (k0_pay152 k0_pay34 X.v514 k0_pay151) := by
  refine ⟨fun l w => ?_, fun l w => ?_, fun l s => ?_, fun l s => ?_⟩
  · pointwise [v496, k0_pay147, k0_pay144]
    rw [v170_eq H]; exact (half_sel _ w).1
  · pointwise [v501, k0_pay148, k0_pay145]
    rw [v88_eq H]; exact (half_sel _ w).1
  · pointwise [v509, k0_pay149]
    rw [v57_eq H, v90_eq H, tri_bit, mask_bot]; exact lm_sel _ _ _
  · pointwise [k0_pay152, k0_pay151, v514, k0_pay150]
    rw [v57_eq H, v90_eq H, trit_bit, mask_bot]; exact lm_sel _ _ _

theorem hd5 : Hd P D b al (dyv Y Z T gn) 5 X.v545 X.v550 X.v558 X.v566 := by
  refine ⟨fun l w => ?_, fun l w => ?_, fun l s => ?_, fun l s => ?_⟩
  · pointwise [v545, k0_pay159, v489, k0_pay144]
    rw [v170_eq H]; exact (half_sel _ w).2
  · pointwise [v550, k0_pay160, v490, k0_pay145]
    rw [v88_eq H]; exact (half_sel _ w).2
  · pointwise [v558, k0_pay161]
    rw [v57_eq H, v90_eq H, tri_bit, mask_bot]; exact lm_sel _ _ _
  · pointwise [v566, k0_pay162]
    rw [v57_eq H, v90_eq H, trit_bit, mask_bot]; exact lm_sel _ _ _

theorem hd6 : Hd P D b al (dyv Y Z T gn) 6 X.v597 X.v602 X.v610 (k0_pay177 k0_pay34 X.v615 k0_pay176) := by
  refine ⟨fun l w => ?_, fun l w => ?_, fun l s => ?_, fun l s => ?_⟩
  · pointwise [v597, k0_pay172, k0_pay169]
    rw [v170_eq H]; exact (half_sel _ w).1
  · pointwise [v602, k0_pay173, k0_pay170]
    rw [v88_eq H]; exact (half_sel _ w).1
  · pointwise [v610, k0_pay174]
    rw [v57_eq H, v90_eq H, tri_bit, mask_bot]; exact lm_sel _ _ _
  · pointwise [k0_pay177, k0_pay176, v615, k0_pay175]
    rw [v57_eq H, v90_eq H, trit_bit, mask_bot]; exact lm_sel _ _ _

theorem hd7 : Hd P D b al (dyv Y Z T gn) 7 X.v646 X.v651 X.v659 X.v667 := by
  refine ⟨fun l w => ?_, fun l w => ?_, fun l s => ?_, fun l s => ?_⟩
  · pointwise [v646, k0_pay184, v590, k0_pay169]
    rw [v170_eq H]; exact (half_sel _ w).2
  · pointwise [v651, k0_pay185, v591, k0_pay170]
    rw [v88_eq H]; exact (half_sel _ w).2
  · pointwise [v659, k0_pay186]
    rw [v57_eq H, v90_eq H, tri_bit, mask_bot]; exact lm_sel _ _ _
  · pointwise [v667, k0_pay187]
    rw [v57_eq H, v90_eq H, trit_bit, mask_bot]; exact lm_sel _ _ _

theorem hd8 : Hd P D b al (dyv Y Z T gn) 8 X.v698 X.v703 X.v711 (k0_pay202 k0_pay34 X.v716 k0_pay201) := by
  refine ⟨fun l w => ?_, fun l w => ?_, fun l s => ?_, fun l s => ?_⟩
  · pointwise [v698, k0_pay197, k0_pay194]
    rw [v170_eq H]; exact (half_sel _ w).1
  · pointwise [v703, k0_pay198, k0_pay195]
    rw [v88_eq H]; exact (half_sel _ w).1
  · pointwise [v711, k0_pay199]
    rw [v57_eq H, v90_eq H, tri_bit, mask_bot]; exact lm_sel _ _ _
  · pointwise [k0_pay202, k0_pay201, v716, k0_pay200]
    rw [v57_eq H, v90_eq H, trit_bit, mask_bot]; exact lm_sel _ _ _

theorem hd9 : Hd P D b al (dyv Y Z T gn) 9 X.v747 X.v752 X.v760 X.v768 := by
  refine ⟨fun l w => ?_, fun l w => ?_, fun l s => ?_, fun l s => ?_⟩
  · pointwise [v747, k0_pay209, v691, k0_pay194]
    rw [v170_eq H]; exact (half_sel _ w).2
  · pointwise [v752, k0_pay210, v692, k0_pay195]
    rw [v88_eq H]; exact (half_sel _ w).2
  · pointwise [v760, k0_pay211]
    rw [v57_eq H, v90_eq H, tri_bit, mask_bot]; exact lm_sel _ _ _
  · pointwise [v768, k0_pay212]
    rw [v57_eq H, v90_eq H, trit_bit, mask_bot]; exact lm_sel _ _ _

theorem hd10 : Hd P D b al (dyv Y Z T gn) 10 X.v799 X.v804 X.v812 (k0_pay227 k0_pay34 X.v817 k0_pay226) := by
  refine ⟨fun l w => ?_, fun l w => ?_, fun l s => ?_, fun l s => ?_⟩
  · pointwise [v799, k0_pay222, k0_pay219]
    rw [v170_eq H]; exact (half_sel _ w).1
  · pointwise [v804, k0_pay223, k0_pay220]
    rw [v88_eq H]; exact (half_sel _ w).1
  · pointwise [v812, k0_pay224]
    rw [v57_eq H, v90_eq H, tri_bit, mask_bot]; exact lm_sel _ _ _
  · pointwise [k0_pay227, k0_pay226, v817, k0_pay225]
    rw [v57_eq H, v90_eq H, trit_bit, mask_bot]; exact lm_sel _ _ _

theorem hd11 : Hd P D b al (dyv Y Z T gn) 11 X.v848 X.v853 X.v861 X.v869 := by
  refine ⟨fun l w => ?_, fun l w => ?_, fun l s => ?_, fun l s => ?_⟩
  · pointwise [v848, k0_pay234, v792, k0_pay219]
    rw [v170_eq H]; exact (half_sel _ w).2
  · pointwise [v853, k0_pay235, v793, k0_pay220]
    rw [v88_eq H]; exact (half_sel _ w).2
  · pointwise [v861, k0_pay236]
    rw [v57_eq H, v90_eq H, tri_bit, mask_bot]; exact lm_sel _ _ _
  · pointwise [v869, k0_pay237]
    rw [v57_eq H, v90_eq H, trit_bit, mask_bot]; exact lm_sel _ _ _

theorem hd12 : Hd P D b al (dyv Y Z T gn) 12 X.v900 X.v905 X.v913 (k0_pay252 k0_pay34 X.v918 k0_pay251) := by
  refine ⟨fun l w => ?_, fun l w => ?_, fun l s => ?_, fun l s => ?_⟩
  · pointwise [v900, k0_pay247, k0_pay244]
    rw [v170_eq H]; exact (half_sel _ w).1
  · pointwise [v905, k0_pay248, k0_pay245]
    rw [v88_eq H]; exact (half_sel _ w).1
  · pointwise [v913, k0_pay249]
    rw [v57_eq H, v90_eq H, tri_bit, mask_bot]; exact lm_sel _ _ _
  · pointwise [k0_pay252, k0_pay251, v918, k0_pay250]
    rw [v57_eq H, v90_eq H, trit_bit, mask_bot]; exact lm_sel _ _ _

theorem hd13 : Hd P D b al (dyv Y Z T gn) 13 X.v949 X.v954 X.v962 X.v970 := by
  refine ⟨fun l w => ?_, fun l w => ?_, fun l s => ?_, fun l s => ?_⟩
  · pointwise [v949, k0_pay259, v893, k0_pay244]
    rw [v170_eq H]; exact (half_sel _ w).2
  · pointwise [v954, k0_pay260, v894, k0_pay245]
    rw [v88_eq H]; exact (half_sel _ w).2
  · pointwise [v962, k0_pay261]
    rw [v57_eq H, v90_eq H, tri_bit, mask_bot]; exact lm_sel _ _ _
  · pointwise [v970, k0_pay262]
    rw [v57_eq H, v90_eq H, trit_bit, mask_bot]; exact lm_sel _ _ _

theorem hd14 : Hd P D b al (dyv Y Z T gn) 14 X.v1001 X.v1006 X.v1014 (k0_pay277 k0_pay34 X.v1019 k0_pay276) := by
  refine ⟨fun l w => ?_, fun l w => ?_, fun l s => ?_, fun l s => ?_⟩
  · pointwise [v1001, k0_pay272, k0_pay269]
    rw [v170_eq H]; exact (half_sel _ w).1
  · pointwise [v1006, k0_pay273, k0_pay270]
    rw [v88_eq H]; exact (half_sel _ w).1
  · pointwise [v1014, k0_pay274]
    rw [v57_eq H, v90_eq H, tri_bit, mask_bot]; exact lm_sel _ _ _
  · pointwise [k0_pay277, k0_pay276, v1019, k0_pay275]
    rw [v57_eq H, v90_eq H, trit_bit, mask_bot]; exact lm_sel _ _ _

theorem hd15 : Hd P D b al (dyv Y Z T gn) 15 X.v1050 X.v1055 X.v1063 X.v1071 := by
  refine ⟨fun l w => ?_, fun l w => ?_, fun l s => ?_, fun l s => ?_⟩
  · pointwise [v1050, k0_pay284, v994, k0_pay269]
    rw [v170_eq H]; exact (half_sel _ w).2
  · pointwise [v1055, k0_pay285, v995, k0_pay270]
    rw [v88_eq H]; exact (half_sel _ w).2
  · pointwise [v1063, k0_pay286]
    rw [v57_eq H, v90_eq H, tri_bit, mask_bot]; exact lm_sel _ _ _
  · pointwise [v1071, k0_pay287]
    rw [v57_eq H, v90_eq H, trit_bit, mask_bot]; exact lm_sel _ _ _

/-! ## The eight pairs -/

theorem pair0 : Pair (P := P) (D := D) (b := b) (al := al) (F := dyv Y Z T gn) 0
    (fun l i => hsv (fun w => dyv Y Z T gn l w * yov P D b al S l w - dxdv P N l w * xdv P D b al l w) i)
    X.v372 X.v373 X.v374 X.v387 :=
  pair_step (dcs1 := X.v338) (by norm_num) (hd0 H) (hd1 H) (v214_eq H) (v213_eq H)
    (fun l s => by pointwise [k0_pay90]; simp) (fun l s => by pointwise [k0_pay92]; simp) (fun l i => (v268_eq H l i).trans (by simp))
    (fun l i => by pointwise [v338, k0_pay108, k0_pay103, k0_pay104])
    (fun l i => by pointwise [v387, k0_pay118, k0_pay113, k0_pay114])

theorem pair1 : Pair (P := P) (D := D) (b := b) (al := al) (F := dyv Y Z T gn) 1
    (fun l i => hsv (fun w => dyv Y Z T gn l w * yov P D b al S l w - dxdv P N l w * xdv P D b al l w) i)
    X.v473 X.v474 X.v475 X.v488 :=
  pair_step (dcs1 := X.v439) (by norm_num) (hd2 H) (hd3 H) (v214_eq H) (v213_eq H)
    (pair0 H).dg (pair0 H).dgt (pair0 H).dcs
    (fun l i => by pointwise [v439, k0_pay133, k0_pay128, k0_pay129]; rfl)
    (fun l i => by pointwise [v488, k0_pay143, k0_pay138, k0_pay139])

theorem pair2 : Pair (P := P) (D := D) (b := b) (al := al) (F := dyv Y Z T gn) 2
    (fun l i => hsv (fun w => dyv Y Z T gn l w * yov P D b al S l w - dxdv P N l w * xdv P D b al l w) i)
    X.v574 X.v575 X.v576 X.v589 :=
  pair_step (dcs1 := X.v540) (by norm_num) (hd4 H) (hd5 H) (v214_eq H) (v213_eq H)
    (pair1 H).dg (pair1 H).dgt (pair1 H).dcs
    (fun l i => by pointwise [v540, k0_pay158, k0_pay153, k0_pay154]; rfl)
    (fun l i => by pointwise [v589, k0_pay168, k0_pay163, k0_pay164])

theorem pair3 : Pair (P := P) (D := D) (b := b) (al := al) (F := dyv Y Z T gn) 3
    (fun l i => hsv (fun w => dyv Y Z T gn l w * yov P D b al S l w - dxdv P N l w * xdv P D b al l w) i)
    X.v675 X.v676 X.v677 X.v690 :=
  pair_step (dcs1 := X.v641) (by norm_num) (hd6 H) (hd7 H) (v214_eq H) (v213_eq H)
    (pair2 H).dg (pair2 H).dgt (pair2 H).dcs
    (fun l i => by pointwise [v641, k0_pay183, k0_pay178, k0_pay179]; rfl)
    (fun l i => by pointwise [v690, k0_pay193, k0_pay188, k0_pay189])

theorem pair4 : Pair (P := P) (D := D) (b := b) (al := al) (F := dyv Y Z T gn) 4
    (fun l i => hsv (fun w => dyv Y Z T gn l w * yov P D b al S l w - dxdv P N l w * xdv P D b al l w) i)
    X.v776 X.v777 X.v778 X.v791 :=
  pair_step (dcs1 := X.v742) (by norm_num) (hd8 H) (hd9 H) (v235_eq H) (v234_eq H)
    (fun l s => by pointwise [k0_pay91]; simp) (fun l s => by pointwise [k0_pay93]; simp) (pair3 H).dcs
    (fun l i => by pointwise [v742, k0_pay208, k0_pay203, k0_pay204]; rfl)
    (fun l i => by pointwise [v791, k0_pay218, k0_pay213, k0_pay214])

theorem pair5 : Pair (P := P) (D := D) (b := b) (al := al) (F := dyv Y Z T gn) 5
    (fun l i => hsv (fun w => dyv Y Z T gn l w * yov P D b al S l w - dxdv P N l w * xdv P D b al l w) i)
    X.v877 X.v878 X.v879 X.v892 :=
  pair_step (dcs1 := X.v843) (by norm_num) (hd10 H) (hd11 H) (v235_eq H) (v234_eq H)
    (pair4 H).dg (pair4 H).dgt (pair4 H).dcs
    (fun l i => by pointwise [v843, k0_pay233, k0_pay228, k0_pay229]; rfl)
    (fun l i => by pointwise [v892, k0_pay243, k0_pay238, k0_pay239])

theorem pair6 : Pair (P := P) (D := D) (b := b) (al := al) (F := dyv Y Z T gn) 6
    (fun l i => hsv (fun w => dyv Y Z T gn l w * yov P D b al S l w - dxdv P N l w * xdv P D b al l w) i)
    X.v978 X.v979 X.v980 X.v993 :=
  pair_step (dcs1 := X.v944) (by norm_num) (hd12 H) (hd13 H) (v235_eq H) (v234_eq H)
    (pair5 H).dg (pair5 H).dgt (pair5 H).dcs
    (fun l i => by pointwise [v944, k0_pay258, k0_pay253, k0_pay254]; rfl)
    (fun l i => by pointwise [v993, k0_pay268, k0_pay263, k0_pay264])

theorem pair7 : Pair (P := P) (D := D) (b := b) (al := al) (F := dyv Y Z T gn) 7
    (fun l i => hsv (fun w => dyv Y Z T gn l w * yov P D b al S l w - dxdv P N l w * xdv P D b al l w) i)
    (k0_pay115 X.v235 X.v1030 X.v1050 X.v1071) (k0_pay116 X.v1031 X.v1050 X.v1055 X.v1063) (k0_pay117 X.v1032 X.v1050 X.v1055 X.v1071) X.v1094 :=
  pair_step (dcs1 := X.v1045) (by norm_num) (hd14 H) (hd15 H) (v235_eq H) (v234_eq H)
    (pair6 H).dg (pair6 H).dgt (pair6 H).dcs
    (fun l i => by pointwise [v1045, k0_pay283, k0_pay278, k0_pay279]; rfl)
    (fun l i => by pointwise [v1094, k0_pay290, k0_pay288, k0_pay289])

end Chunk

end Ins

end Cert.SsdbIdeal.Bwd

end
end
-- ==== Proof.SsdbTail.lean ====
/- The end of the backward kernel's body: what the chunk's outputs hold. -/
module

public import proofs.«01_k».proof.Proof.SsdbHead

@[expose] public section

set_option maxRecDepth 16384

noncomputable section

namespace Cert.SsdbIdeal.Bwd

open Cert.SsdbIdeal Cert.SsdbIdeal.Gen Cert.Reals Cert.Ssd Idealize.ShloMosaic Idealize.ShloMosaic.TcCoe Idealize.SL.Sem

namespace Ins

section Chunk

variable {P D Z Y T : ℕ → ℕ → ℝ} {b al dk gn : ℕ → ℝ} {S N : ℕ → ℕ → ℝ} {X : Ins} (H : X.Is P D Z Y T b al dk gn S N)

/-- A pair's columns among all of them. -/
theorem shift_acc (P D : ℕ → ℕ → ℝ) (b al : ℕ → ℝ) (F : ℕ → ℕ → ℝ) (l j u w : ℕ) (hj : 128 * j + u = w) (hu : u < 128) :
    ∑ s : Fin 128, gv P (j / 4) s l * lmv D b al (2 * j + u / 64) s l * F s (128 * j + u)
      = ∑ s : Fin 128, gv P (w / 512) s l * lmv D b al (w / 64) s l * F s w := by
  rw [hj, show j / 4 = w / 512 by omega, show 2 * j + u / 64 = w / 64 by omega]

include H

theorem acc7 (l w : Fin 128) : X.v1030 (ix2 l w) + ∑ s : Fin 128, X.v235 (ix2 l s) * X.v1071 (ix2 l s) * X.v1050 (ix2 s w)
    = ((∑ s : Fin 128, gv P (7 / 4) s l * lmv D b al (2 * 7 + w / 64) s l * dyv Y Z T gn s (128 * 7 + w) : ℝ) : EReal) := by
  rw [← (pair7 H).acc l w]
  pointwise [k0_pay115]

theorem dxc_eq (l : Fin 128) (w : Fin 1024) :
    k0_pay291 X.v235 X.v282 X.v372 X.v473 X.v574 X.v675 X.v776 X.v877 X.v978 X.v1030 X.v1050 X.v1071 (ix2 l w)
      = ((dxcv P D b al N (dyv Y Z T gn) l w : ℝ) : EReal) := by
  pointwise [k0_pay291]
  have hw := w.isLt
  rw [v282_eq H]
  refine (congrArg (· + ((_ : ℝ) : EReal)) (?_ : _ = ((∑ s : Fin 128, gv P (w / 512) s l * lmv D b al (w / 64) s l * dyv Y Z T gn s w : ℝ) : EReal))).trans
    (EReal.coe_add _ _).symm
  by_cases h0 : (w : ℕ) < 128
  · rw [dif_pos (by omega)]; rw [(pair0 H).acc, EReal.coe_eq_coe_iff]; exact shift_acc P D b al _ l 0 _ w (by dsimp only; omega) (by dsimp only; omega)
  rw [dif_neg (by omega)]
  by_cases h1 : (w : ℕ) < 256
  · rw [dif_pos (by omega)]; rw [(pair1 H).acc, EReal.coe_eq_coe_iff]; exact shift_acc P D b al _ l 1 _ w (by dsimp only; omega) (by dsimp only; omega)
  rw [dif_neg (by omega)]
  by_cases h2 : (w : ℕ) < 384
  · rw [dif_pos (by omega)]; rw [(pair2 H).acc, EReal.coe_eq_coe_iff]; exact shift_acc P D b al _ l 2 _ w (by dsimp only; omega) (by dsimp only; omega)
  rw [dif_neg (by omega)]
  by_cases h3 : (w : ℕ) < 512
  · rw [dif_pos (by omega)]; rw [(pair3 H).acc, EReal.coe_eq_coe_iff]; exact shift_acc P D b al _ l 3 _ w (by dsimp only; omega) (by dsimp only; omega)
  rw [dif_neg (by omega)]
  by_cases h4 : (w : ℕ) < 640
  · rw [dif_pos (by omega)]; rw [(pair4 H).acc, EReal.coe_eq_coe_iff]; exact shift_acc P D b al _ l 4 _ w (by dsimp only; omega) (by dsimp only; omega)
  rw [dif_neg (by omega)]
  by_cases h5 : (w : ℕ) < 768
  · rw [dif_pos (by omega)]; rw [(pair5 H).acc, EReal.coe_eq_coe_iff]; exact shift_acc P D b al _ l 5 _ w (by dsimp only; omega) (by dsimp only; omega)
  rw [dif_neg (by omega)]
  by_cases h6 : (w : ℕ) < 896
  · rw [dif_pos (by omega)]; rw [(pair6 H).acc, EReal.coe_eq_coe_iff]; exact shift_acc P D b al _ l 6 _ w (by dsimp only; omega) (by dsimp only; omega)
  rw [dif_neg (by omega)]
  rw [acc7 H, EReal.coe_eq_coe_iff]; exact shift_acc P D b al _ l 7 _ w (by dsimp only; omega) (by dsimp only; omega)

theorem v1094_eq (l i : Fin 128) : X.v1094 (ix2 l i)
    = ((hsv (fun w => dyv Y Z T gn l w * yov P D b al S l w - dxdv P N l w * xdv P D b al l w) i
        + (if (i : ℕ) < 16 then qv P D b al (dyv Y Z T gn) i l else 0) : ℝ) : EReal) := by
  rw [(pair7 H).dcs, Finset.sum_ite_eq]
  simp only [Finset.mem_range]

theorem dcs_eq (l i : Fin 128) :
    X.v1094 (ix2 l i) + Scalar.select (IntOp.cmpi .eq (rowsC (ix2 l i)) 127#32) (X.v281 (ix2 0 i)) 0
      = ((dcsv P D b al S N (dyv Y Z T gn) l i : ℝ) : EReal) := by
  have hl := l.isLt
  rw [v1094_eq H, v281_eq H]
  have e : IntOp.cmpi .eq (rowsC (ix2 l i)) 127#32 = if (l : ℕ) = 127 then 1#1 else 0#1 := by
    pointwise [rowsC]
    show BitVec.ofBool (decide (BitVec.ofNat 32 l = BitVec.ofNat 32 127)) = _
    have : (BitVec.ofNat 32 l = BitVec.ofNat 32 127) ↔ (l : ℕ) = 127 := by
      constructor
      · intro a; have := congrArg BitVec.toNat a; simp only [BitVec.toNat_ofNat] at this; omega
      · intro a; rw [a]
    by_cases a : (l : ℕ) = 127 <;> simp [this, a]
  rw [e]
  unfold dcsv
  by_cases h : (l : ℕ) = 127
  · rw [if_pos h, if_pos h]; exact (EReal.coe_add _ _).symm
  · rw [if_neg h, if_neg h, add_zero]; exact add_zero _

theorem da_eq (l i : Fin 128) :
    k0_pay299 rowsC k0_pay34 X.v281 X.v1094 k0_pay298 (ix2 l i) = ((dav P D b al S N (dyv Y Z T gn) l i : ℝ) : EReal) := by
  pointwise [k0_pay299, k0_pay298]
  simp only [dcs_eq H, trit_bit, bit_coe, ← EReal.coe_mul, coe_sum, ite_mul, one_mul, zero_mul]
  rfl

theorem oal_eq (h : Fin 128) : X.oal (ix2 0 h) = X.aal (ix2 0 h) + ((dalv P D b al S N (dyv Y Z T gn) h : ℝ) : EReal) := by
  pointwise [oal, k0_pay300]
  simp only [da_eq H, v49_eq H, v52_eq H, ← EReal.coe_mul, coe_sum]
  rfl

theorem v1118_eq (l h : Fin 128) : X.v1118 (ix2 l h) = ((hsv (fun w => dxcv P D b al N (dyv Y Z T gn) l w * act P l w) h : ℝ) : EReal) := by
  pointwise [v1118, k0_pay297]
  simp only [dxc_eq H, v28_eq H, ← EReal.coe_mul]
  exact contract (fun w => dxcv P D b al N (dyv Y Z T gn) l w * act P l w) h

theorem dt_eq (l h : Fin 128) : k0_pay301 X.v20 X.v52 lanesC rowsC k0_pay34 X.v281 X.v1094 X.v1118 k0_pay298 (ix2 l h)
    = ((dtrv P D b al S N (dyv Y Z T gn) l h : ℝ) : EReal) := by
  have hh := h.isLt
  pointwise [k0_pay301, lanesC]
  rw [WordCmp.cmpi_slt_ofNat (b := 16) (by omega) (by omega), ofBool_bit, bit_coe]
  simp only [v1118_eq H, da_eq H, v20_eq H, v52_eq H, Ideal.logistic_coe, ← EReal.coe_mul, ← EReal.coe_add]
  rfl

theorem odt_eq (l h : Fin 128) : X.odt (ix2 l h) = ((dtrv P D b al S N (dyv Y Z T gn) l h : ℝ) : EReal) := by
  pointwise [odt, k0_pay303]
  exact dt_eq H l h

theorem odb_eq (h : Fin 128) : X.odb (ix2 0 h) = X.adb (ix2 0 h) + ((ddbv P D b al S N (dyv Y Z T gn) h : ℝ) : EReal) := by
  pointwise [odb, k0_pay302]
  simp only [dt_eq H, coe_sum]
  rfl

theorem dc0_eq (l n : Fin 128) : X.v1099 (ix2 l n) = ((dcv P D b al S (dyv Y Z T gn) 0 l n : ℝ) : EReal) := by
  pointwise [v1099, k0_pay292]
  simp only [v216_eq H, (pair3 H).dg, v205_eq H, ← EReal.coe_mul, coe_sum, ← EReal.coe_add]
  unfold dcv
  simp only [Finset.sum_range, Nat.mul_zero, zero_add, Nat.add_zero, Nat.reduceDiv]

theorem db0_eq (l n : Fin 128) : X.v1102 (ix2 l n) = ((dbv P D b al N (dyv Y Z T gn) 0 l n : ℝ) : EReal) := by
  pointwise [v1102, k0_pay293]
  simp only [v222_eq H, (pair3 H).dgt, v206_eq H, ← EReal.coe_mul, coe_sum, ← EReal.coe_add]
  unfold dbv
  simp only [Finset.sum_range, Nat.mul_zero, zero_add, Nat.add_zero, Nat.reduceDiv]

theorem dg7 (l s : Fin 128) : X.v1031 (ix2 l s) + k0_pay288 X.v1050 X.v1055 X.v1063 (ix2 l s)
    = ((∑ e : Fin 8, mv P D b al (dyv Y Z T gn) (8 * 1 + e) l s : ℝ) : EReal) := by
  rw [← Finset.sum_range (fun e => mv P D b al (dyv Y Z T gn) (8 * 1 + e) l s)]
  refine Eq.trans ?_ ((pair7 H).dg l s)
  pointwise [k0_pay116]
  rfl

theorem dgt7 (l s : Fin 128) : X.v1032 (ix2 l s) + k0_pay289 X.v1050 X.v1055 X.v1071 (ix2 l s)
    = ((∑ e : Fin 8, mv P D b al (dyv Y Z T gn) (8 * 1 + e) s l : ℝ) : EReal) := by
  rw [← Finset.sum_range (fun e => mv P D b al (dyv Y Z T gn) (8 * 1 + e) s l)]
  refine Eq.trans ?_ ((pair7 H).dgt l s)
  pointwise [k0_pay117]
  rfl

theorem dc1_eq (l n : Fin 128) : X.v1105 (ix2 l n) = ((dcv P D b al S (dyv Y Z T gn) 1 l n : ℝ) : EReal) := by
  pointwise [v1105, k0_pay294]
  simp only [v237_eq H, dg7 H, v226_eq H, ← EReal.coe_mul, coe_sum, ← EReal.coe_add]
  rfl

theorem db1_eq (l n : Fin 128) : X.v1108 (ix2 l n) = ((dbv P D b al N (dyv Y Z T gn) 1 l n : ℝ) : EReal) := by
  pointwise [v1108, k0_pay295]
  simp only [v243_eq H, dgt7 H, v227_eq H, ← EReal.coe_mul, coe_sum, ← EReal.coe_add]
  rfl

theorem dxs_eq (l : Fin 128) (w : Fin 1024) : X.v1110 (ix2 l w) = ((dxsv P D b al dk N (dyv Y Z T gn) l w : ℝ) : EReal) := by
  pointwise [v1110, k0_pay296]
  rw [dxc_eq H, v201_eq H, v81_eq H, ← EReal.coe_mul, ← EReal.coe_add]
  rfl

theorem v1156_eq (l : Fin 128) (w : Fin 1536) : X.v1156 (ix2 l w) = ((dxbv P D b al dk S N (dyv Y Z T gn) l w : ℝ) : EReal) := by
  pointwise [v1156, k0_pay304]
  have hw := w.isLt
  simp only [dxs_eq H, db0_eq H, db1_eq H, dc0_eq H, dc1_eq H]
  unfold dxbv
  by_cases h0 : (w : ℕ) < 1024
  · rw [dif_pos h0, if_pos h0]
  rw [dif_neg h0, if_neg h0]
  by_cases h1 : (w : ℕ) < 1152
  · rw [dif_pos (by omega), if_pos h1]
  rw [dif_neg (by omega), if_neg h1]
  by_cases h2 : (w : ℕ) < 1280
  · rw [dif_pos (by omega), if_pos h2, show (w : ℕ) - 1024 - 128 = w - 1152 by omega]
  rw [dif_neg (by omega), if_neg h2]
  by_cases h3 : (w : ℕ) < 1408
  · rw [dif_pos (by omega), if_pos h3, show (w : ℕ) - 1024 - 128 - 128 = w - 1280 by omega]
  · rw [dif_neg (by omega), if_neg h3, show (w : ℕ) - 1024 - 128 - 128 - 128 = w - 1408 by omega]

theorem opre_eq (l : Fin 128) (w : Fin 1536) : X.opre (ix2 l w) = ((dpv P D b al dk S N (dyv Y Z T gn) l w : ℝ) : EReal) := by
  pointwise [opre, k0_pay1, v1157, v1160, k0_pay306, k0_pay305]
  simp only [v1156_eq H, H.pre, Ideal.logistic_coe, ← EReal.coe_mul]
  rw [← EReal.coe_one]
  simp only [← EReal.coe_mul, ← EReal.coe_sub, ← EReal.coe_add]
  unfold dpv
  rw [EReal.coe_eq_coe_iff]
  unfold sigm
  ring

end Chunk

end Ins

end Cert.SsdbIdeal.Bwd

end
end
-- ==== Proof.SsdbFin.lean ====
/- The backward kernel's result arrays after its run, as the real layer's cotangents. -/
module

public import proofs.«01_k».proof.Proof.SsdbVal
public import proofs.«01_k».proof.Proof.SsdbHost
public import proofs.«01_k».proof.Proof.SsdbTail
public import proofs.«01_k».proof.Proof.SsdRef

@[expose] public section

set_option maxRecDepth 16384

noncomputable section

namespace Cert.SsdbIdeal.Bwd

open Cert.SsdbIdeal Cert.SsdbIdeal.Gen Cert.Reals Cert.Ssd Idealize.ShloMosaic Idealize.ShloMosaic.TcCoe Idealize.SL.Sem

variable (m : (ℓ : Loc nD τ sig) → Buf (Elt Ideal) ℓ) (c : Dev nD)

/-- The arguments are these real numbers. -/
structure Args (P D Z T : ℕ → ℕ → ℝ) (b al dk gn : ℕ → ℝ) : Prop where
  pre : ∀ (r : Fin 4096) (w : Fin 1536), (m ((c : Thread nD τ).loc main_arg0) : FVec Ideal S4096x1536 .f32) (ix2 r w) = ((P r w : ℝ) : EReal)
  dtr : ∀ (r : Fin 4096) (w : Fin 128), (m ((c : Thread nD τ).loc main_arg1) : FVec Ideal S4096x128 .f32) (ix2 r w) = ((D r w : ℝ) : EReal)
  gate : ∀ (r : Fin 4096) (w : Fin 1024), (m ((c : Thread nD τ).loc main_arg2) : FVec Ideal S4096x1024 .f32) (ix2 r w) = ((Z r w : ℝ) : EReal)
  bias : ∀ h : Fin 16, (m ((c : Thread nD τ).loc main_arg3) : FVec Ideal S16 .f32) (ix1 h) = ((b h : ℝ) : EReal)
  alog : ∀ h : Fin 16, (m ((c : Thread nD τ).loc main_arg4) : FVec Ideal S16 .f32) (ix1 h) = ((al h : ℝ) : EReal)
  skip : ∀ h : Fin 16, (m ((c : Thread nD τ).loc main_arg5) : FVec Ideal S16 .f32) (ix1 h) = ((dk h : ℝ) : EReal)
  norm : ∀ w : Fin 1024, (m ((c : Thread nD τ).loc main_arg6) : FVec Ideal S1024 .f32) (ix1 w) = ((gn w : ℝ) : EReal)
  cot : ∀ (r : Fin 4096) (w : Fin 1024), (m ((c : Thread nD τ).loc main_arg7) : FVec Ideal S4096x1024 .f32) (ix2 r w) = ((T r w : ℝ) : EReal)
  bias0 : ∀ h : ℕ, 16 ≤ h → b h = 0
  alog0 : ∀ h : ℕ, 16 ≤ h → al h = 0

/-- The operations after the scan write neither what it gave nor its states. -/
theorem V_at (r : Ref sig .tc) (h : r ∉ [main_call5_v0, main_v370, main_v371, main_c_3, main_call6_v0, main_v372, main_v373, main_v374, main_v375, main_v376]) : V m c r = Host.at12 (fun b => m (c, b)) (Proc.devRef .tc r) := by
  have e : (List.flatten [hostOps0, hostOps0_1, hostOps0_2, hostOps0_3, hostOps0_4, hostOps0_5, hostOps0_6, hostOps0_7, hostOps0_8, hostOps0_9, hostOps0_10, hostOps0_11, hostOps0_12, hostOps0_13] : List (HloOp τ sig (Elt Ideal)))
      = (Host.part0 ++ Host.part1 ++ Host.part2 ++ Host.part3 ++ Host.part4 ++ Host.part5 ++ Host.part6 ++ Host.part7 ++ Host.part8 ++ Host.part9 ++ Host.part10 ++ Host.part11 ++ Host.part12) ++ List.flatten [hostOps0_10, hostOps0_11, hostOps0_12, hostOps0_13] := rfl
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) _ _ = _
  rw [e, StableHlo.after_append, StableHlo.after_unwritten (ops := List.flatten [hostOps0_10, hostOps0_11, hostOps0_12, hostOps0_13]) [main_call5_v0, main_v370, main_v371, main_c_3, main_call6_v0, main_v372, main_v373, main_v374, main_v375, main_v376] rfl h]
  simp only [StableHlo.after_append]
  rfl

theorem V366 : V m c main_v366 = Cert.SsdRefIdeal.Read.val_main_v366 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) :=
  (V_at m c main_v366 (by decide)).trans (Host.at12_vals _).1

theorem V368 : V m c main_v368 = Cert.SsdRefIdeal.Read.val_main_v386 (F := Ideal) (m ((c : Thread nD τ).loc main_arg0)) (m ((c : Thread nD τ).loc main_arg1))
    (m ((c : Thread nD τ).loc main_arg3)) (m ((c : Thread nD τ).loc main_arg4)) :=
  (V_at m c main_v368 (by decide)).trans (Host.at12_vals _).2

theorem V370 : V m c main_v370 = pad S1x128 ![0, 0] ![0, 112] ![0, 0]
    (shapeCast S1x16 (m ((c : Thread nD τ).loc main_arg3) : FVec Ideal S16 .f32) shapeCasts_S16_S1x16) (sitofp (F := Ideal) .f32 (constantI S_ 32 0#32)) pads_S1x16_S1x128_000_01120 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) _ _ = _
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp <;> rfl

theorem V372 : V m c main_v372 = pad S1x128 ![0, 0] ![0, 112] ![0, 0]
    (shapeCast S1x16 (m ((c : Thread nD τ).loc main_arg4) : FVec Ideal S16 .f32) shapeCasts_S16_S1x16) (sitofp (F := Ideal) .f32 (constantI S_ 32 0#32)) pads_S1x16_S1x128_000_01120 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) _ _ = _
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp <;> rfl

theorem V375 : V m c main_v375 = shapeCast S1x1024 (broadcastInDim S1x16x64 ![0, 1] bcast_S1x16_S1x16x64_0_1
    (shapeCast S1x16 (m ((c : Thread nD τ).loc main_arg5) : FVec Ideal S16 .f32) shapeCasts_S16_S1x16)) shapeCasts_S1x16x64_S1x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) _ _ = _
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp <;> rfl

theorem V376 : V m c main_v376 = shapeCast S1x1024 (m ((c : Thread nD τ).loc main_arg6) : FVec Ideal S1024 .f32) shapeCasts_S1024_S1x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) _ _ = _
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp <;> rfl

/-- A row of 16 numbers padded with zeros. -/
theorem padded {b : ℕ → ℝ} (x : FVec Ideal S16 .f32) (hx : ∀ h : Fin 16, x (ix1 h) = ((b h : ℝ) : EReal)) (h0 : ∀ h : ℕ, 16 ≤ h → b h = 0) (h : Fin 128) :
    pad S1x128 ![0, 0] ![0, 112] ![0, 0] (shapeCast S1x16 x shapeCasts_S16_S1x16) (sitofp (F := Ideal) .f32 (constantI S_ 32 0#32)) pads_S1x16_S1x128_000_01120 h_S_
      (ix2 0 h) = ((b h : ℝ) : EReal) := by
  pointwise
  split
  · exact hx _
  · rw [h0 h (by omega)]
    show (((0#32 : BitVec 32).toInt : ℝ) : EReal) = _
    norm_num

theorem repeated {b : ℕ → ℝ} (x : FVec Ideal S16 .f32) (hx : ∀ h : Fin 16, x (ix1 h) = ((b h : ℝ) : EReal)) (w : Fin 1024) :
    shapeCast S1x1024 (broadcastInDim S1x16x64 ![0, 1] bcast_S1x16_S1x16x64_0_1 (shapeCast S1x16 x shapeCasts_S16_S1x16)) shapeCasts_S1x16x64_S1x1024
      (ix2 0 w) = ((b (w / 64) : ℝ) : EReal) := by
  pointwise
  exact hx _

theorem asRow {g : ℕ → ℝ} (x : FVec Ideal S1024 .f32) (hx : ∀ h : Fin 1024, x (ix1 h) = ((g h : ℝ) : EReal)) (w : Fin 1024) :
    shapeCast S1x1024 x shapeCasts_S1024_S1x1024 (ix2 0 w) = ((g w : ℝ) : EReal) := by
  pointwise
  exact hx _

theorem row_lt (t : Fin cfg0.N) (r : Fin 128) : 128 * (31 - t.val) + r.val < 4096 := by omega

theorem idx0 : ∀ t : Fin grid0.N, win0_0.index t 0 = 31 - t.val ∧ win0_0.index t 1 = 0 := by decide +kernel
theorem idx1 : ∀ t : Fin grid0.N, win0_1.index t 0 = 31 - t.val ∧ win0_1.index t 1 = 0 := by decide +kernel
theorem idx2 : ∀ t : Fin grid0.N, win0_2.index t 0 = 31 - t.val ∧ win0_2.index t 1 = 0 := by decide +kernel
theorem idx3 : ∀ t : Fin grid0.N, win0_3.index t 0 = 31 - t.val ∧ win0_3.index t 1 = 0 := by decide +kernel
theorem idx4 : ∀ t : Fin grid0.N, win0_4.index t 0 = 31 - t.val ∧ win0_4.index t 1 = 0 := by decide +kernel
theorem idx10 : ∀ t : Fin grid0.N, win0_10.index t 0 = 31 - t.val ∧ win0_10.index t 1 = 0 := by decide +kernel
theorem idx11 : ∀ t : Fin grid0.N, win0_11.index t 0 = 31 - t.val ∧ win0_11.index t 1 = 0 := by decide +kernel
theorem idx12 : ∀ t : Fin grid0.N, win0_12.index t 0 = 31 - t.val ∧ win0_12.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx5 : ∀ t : Fin grid0.N, win0_5.index t 0 = 31 - t.val ∧ win0_5.index t 1 = 0 ∧ win0_5.index t 2 = 0 := by decide +kernel

variable {P D Z T : ℕ → ℕ → ℝ} {b al dk gn : ℕ → ℝ} (A : Args m c P D Z T b al dk gn)
include A

theorem blk0 (t : Fin cfg0.N) (r : Fin 128) (l : Fin 1024) :
    (iblk m c 0 t : Vec Ideal S128x1024 .f32) (ix2 r l) = ((rows T (31 - t) r l : ℝ) : EReal) := by
  refine Eq.trans ?_ (A.cot ⟨128 * (31 - t.val) + r.val, row_lt t r⟩ l)
  unfold iblk
  rw [View.read_apply]
  show V m c main_arg7 _ = _
  rw [V_main_arg7]
  congr 1
  funext a
  apply Fin.ext
  match a with
  | ⟨0, _⟩ => show win0_0.index t 0 * 128 + 1 * r.val = 128 * (31 - t.val) + r.val; rw [(idx0 t).1]; omega
  | ⟨1, _⟩ => show win0_0.index t 1 * 1024 + 1 * l.val = l.val; rw [(idx0 t).2]; omega

theorem blk2 (t : Fin cfg0.N) (r : Fin 128) (l : Fin 1024) :
    (iblk m c 2 t : Vec Ideal S128x1024 .f32) (ix2 r l) = ((rows Z (31 - t) r l : ℝ) : EReal) := by
  refine Eq.trans ?_ (A.gate ⟨128 * (31 - t.val) + r.val, row_lt t r⟩ l)
  unfold iblk
  rw [View.read_apply]
  show V m c main_arg2 _ = _
  rw [V_main_arg2]
  congr 1
  funext a
  apply Fin.ext
  match a with
  | ⟨0, _⟩ => show win0_2.index t 0 * 128 + 1 * r.val = 128 * (31 - t.val) + r.val; rw [(idx2 t).1]; omega
  | ⟨1, _⟩ => show win0_2.index t 1 * 1024 + 1 * l.val = l.val; rw [(idx2 t).2]; omega

theorem blk3 (t : Fin cfg0.N) (r : Fin 128) (l : Fin 1536) :
    (iblk m c 3 t : Vec Ideal S128x1536 .f32) (ix2 r l) = ((rows P (31 - t) r l : ℝ) : EReal) := by
  refine Eq.trans ?_ (A.pre ⟨128 * (31 - t.val) + r.val, row_lt t r⟩ l)
  unfold iblk
  rw [View.read_apply]
  show V m c main_arg0 _ = _
  rw [V_main_arg0]
  congr 1
  funext a
  apply Fin.ext
  match a with
  | ⟨0, _⟩ => show win0_3.index t 0 * 128 + 1 * r.val = 128 * (31 - t.val) + r.val; rw [(idx3 t).1]; omega
  | ⟨1, _⟩ => show win0_3.index t 1 * 1536 + 1 * l.val = l.val; rw [(idx3 t).2]; omega

theorem blk4 (t : Fin cfg0.N) (r : Fin 128) (l : Fin 128) :
    (iblk m c 4 t : Vec Ideal S128x128 .f32) (ix2 r l) = ((rows D (31 - t) r l : ℝ) : EReal) := by
  refine Eq.trans ?_ (A.dtr ⟨128 * (31 - t.val) + r.val, row_lt t r⟩ l)
  unfold iblk
  rw [View.read_apply]
  show V m c main_arg1 _ = _
  rw [V_main_arg1]
  congr 1
  funext a
  apply Fin.ext
  match a with
  | ⟨0, _⟩ => show win0_4.index t 0 * 128 + 1 * r.val = 128 * (31 - t.val) + r.val; rw [(idx4 t).1]; omega
  | ⟨1, _⟩ => show win0_4.index t 1 * 128 + 1 * l.val = l.val; rw [(idx4 t).2]; omega

theorem blk1 (t : Fin cfg0.N) (r : Fin 128) (l : Fin 1024) :
    (iblk m c 1 t : Vec Ideal S128x1024 .f32) (ix2 r l) = ((chY P D b al dk (31 - t) r l : ℝ) : EReal) := by
  refine Eq.trans ?_ ((congrFun (V366 m c) (ix2 ⟨128 * (31 - t.val) + r.val, row_lt t r⟩ l)).trans
    ((Cert.SsdRefIdeal.Fwd.v366_eq A.pre A.dtr A.bias A.alog A.skip ⟨128 * (31 - t.val) + r.val, row_lt t r⟩ l).trans ?_))
  · unfold iblk
    rw [View.read_apply]
    show V m c main_v366 _ = _
    congr 1
    funext a
    apply Fin.ext
    match a with
    | ⟨0, _⟩ => show win0_1.index t 0 * 128 + 1 * r.val = 128 * (31 - t.val) + r.val; rw [(idx1 t).1]; omega
    | ⟨1, _⟩ => show win0_1.index t 1 * 1024 + 1 * l.val = l.val; rw [(idx1 t).2]; omega
  · unfold chY
    dsimp only
    rw [show (128 * (31 - t.val) + r.val) / 128 = 31 - t.val by omega, show (128 * (31 - t.val) + r.val) % 128 = r.val by omega]

theorem blk5 (t : Fin cfg0.N) (n : Fin 128) (w : Fin 1024) :
    (iblk m c 5 t : Vec Ideal S1x128x1024 .f32) (ix3 0 n w) = ((stv P D b al (31 - t) n w : ℝ) : EReal) := by
  refine Eq.trans ?_ ((congrFun (V368 m c) (ix3 ⟨31 - t.val, by omega⟩ n w)).trans
    (Cert.SsdRefIdeal.Fwd.v386_eq A.pre A.dtr A.bias A.alog ⟨31 - t.val, by omega⟩ n w))
  unfold iblk
  rw [View.read_apply]
  show V m c main_v368 _ = _
  congr 1
  funext a
  apply Fin.ext
  match a with
  | ⟨0, _⟩ => show win0_5.index t 0 * 1 + 1 * 0 = 31 - t.val; rw [(idx5 t).1]; omega
  | ⟨1, _⟩ => show win0_5.index t 1 * 128 + 1 * n.val = n.val; rw [(idx5 t).2.1]; omega
  | ⟨2, _⟩ => show win0_5.index t 2 * 1024 + 1 * w.val = w.val; rw [(idx5 t).2.2]; omega

theorem blk6 (t : Fin cfg0.N) (l : Fin 128) :
    (iblk m c 6 t : Vec Ideal S1x128 .f32) (ix2 0 l) = ((b l : ℝ) : EReal) := by
  refine Eq.trans ?_ ((congrFun (V370 m c) (ix2 0 l)).trans (padded _ A.bias A.bias0 l))
  unfold iblk
  rw [View.read_apply]
  show V m c main_v370 _ = _
  congr 1
  funext a
  apply Fin.ext
  match a with
  | ⟨0, _⟩ => show win0_6.index t 0 * 1 + 1 * 0 = 0; rw [(idx6 t).1]
  | ⟨1, _⟩ => show win0_6.index t 1 * 128 + 1 * l.val = l.val; rw [(idx6 t).2]; omega

theorem blk7 (t : Fin cfg0.N) (l : Fin 128) :
    (iblk m c 7 t : Vec Ideal S1x128 .f32) (ix2 0 l) = ((al l : ℝ) : EReal) := by
  refine Eq.trans ?_ ((congrFun (V372 m c) (ix2 0 l)).trans (padded _ A.alog A.alog0 l))
  unfold iblk
  rw [View.read_apply]
  show V m c main_v372 _ = _
  congr 1
  funext a
  apply Fin.ext
  match a with
  | ⟨0, _⟩ => show win0_7.index t 0 * 1 + 1 * 0 = 0; rw [(idx7 t).1]
  | ⟨1, _⟩ => show win0_7.index t 1 * 128 + 1 * l.val = l.val; rw [(idx7 t).2]; omega

theorem blk8 (t : Fin cfg0.N) (l : Fin 1024) :
    (iblk m c 8 t : Vec Ideal S1x1024 .f32) (ix2 0 l) = ((dk (l / 64) : ℝ) : EReal) := by
  refine Eq.trans ?_ ((congrFun (V375 m c) (ix2 0 l)).trans (repeated _ A.skip l))
  unfold iblk
  rw [View.read_apply]
  show V m c main_v375 _ = _
  congr 1
  funext a
  apply Fin.ext
  match a with
  | ⟨0, _⟩ => show win0_8.index t 0 * 1 + 1 * 0 = 0; rw [(idx8 t).1]
  | ⟨1, _⟩ => show win0_8.index t 1 * 1024 + 1 * l.val = l.val; rw [(idx8 t).2]; omega

theorem blk9 (t : Fin cfg0.N) (l : Fin 1024) :
    (iblk m c 9 t : Vec Ideal S1x1024 .f32) (ix2 0 l) = ((gn l : ℝ) : EReal) := by
  refine Eq.trans ?_ ((congrFun (V376 m c) (ix2 0 l)).trans (asRow _ A.norm l))
  unfold iblk
  rw [View.read_apply]
  show V m c main_v376 _ = _
  congr 1
  funext a
  apply Fin.ext
  match a with
  | ⟨0, _⟩ => show win0_9.index t 0 * 1 + 1 * 0 = 0; rw [(idx9 t).1]
  | ⟨1, _⟩ => show win0_9.index t 1 * 1024 + 1 * l.val = l.val; rw [(idx9 t).2]; omega

set_option maxHeartbeats 4000000 in
/-- The body's blocks at a point are the real chunk `31 - t`. -/
theorem isAt (t : Fin cfg0.N) (xo13 : Vec Ideal S1x1024 .f32) (xo14 xo15 xo16 : Vec Ideal S1x128 .f32) (xs0 : Vec Ideal S128x1024 .f32)
    (hs : ∀ (n : Fin 128) (w : Fin 1024), xs0 (ix2 n w) = ((dsv P D b al (chF P D Z T b al dk gn) t n w : ℝ) : EReal)) :
    (insOf (iblk m c 0 t) (iblk m c 1 t) (iblk m c 2 t) (iblk m c 3 t) (iblk m c 4 t) (iblk m c 5 t) (iblk m c 6 t) (iblk m c 7 t) (iblk m c 8 t) (iblk m c 9 t) xo13 xo14 xo15 xo16 xs0).Is (rows P (31 - t)) (rows D (31 - t)) (rows Z (31 - t)) (chY P D b al dk (31 - t)) (rows T (31 - t)) b al dk gn
      (stv P D b al (31 - t)) (dsv P D b al (chF P D Z T b al dk gn) t) :=
  ⟨blk0 m c A t, blk1 m c A t, blk2 m c A t, blk3 m c A t, blk4 m c A t, blk5 m c A t, blk6 m c A t, blk7 m c A t, blk8 m c A t, blk9 m c A t, hs⟩

omit A in
/-- What the points up to `n` have added to the cotangents of the norm's weight, the skips, the decays and the biases. -/
def accs (P D Z T : ℕ → ℕ → ℝ) (b al dk gn : ℕ → ℝ) (n : ℕ) : (ℕ → ℝ) × (ℕ → ℝ) × (ℕ → ℝ) × (ℕ → ℝ) :=
  (fun w => ∑ j ∈ Finset.range n, dgnv (chY P D b al dk (31 - j)) (rows Z (31 - j)) (rows T (31 - j)) w,
   fun h => ∑ j ∈ Finset.range n, ddv (rows P (31 - j)) (chF P D Z T b al dk gn (31 - j)) h,
   fun h => ∑ j ∈ Finset.range n, dalv (rows P (31 - j)) (rows D (31 - j)) b al (stv P D b al (31 - j)) (dsv P D b al (chF P D Z T b al dk gn) j) (chF P D Z T b al dk gn (31 - j)) h,
   fun h => ∑ j ∈ Finset.range n, ddbv (rows P (31 - j)) (rows D (31 - j)) b al (stv P D b al (31 - j)) (dsv P D b al (chF P D Z T b al dk gn) j) (chF P D Z T b al dk gn (31 - j)) h)

omit A in
/-- The accumulators and the carried cotangent hold what the points up to `n` gave. -/
structure Carried (P D Z T : ℕ → ℕ → ℝ) (b al dk gn : ℕ → ℝ) (n : ℕ) (x13 : Vec Ideal S1x1024 .f32) (x14 x15 x16 : Vec Ideal S1x128 .f32) (xs : Vec Ideal S128x1024 .f32) : Prop where
  n13 : ∀ w : Fin 1024, x13 (ix2 0 w) = (((accs P D Z T b al dk gn n).1 w : ℝ) : EReal)
  n14 : ∀ h : Fin 128, x14 (ix2 0 h) = (((accs P D Z T b al dk gn n).2.1 h : ℝ) : EReal)
  n15 : ∀ h : Fin 128, x15 (ix2 0 h) = (((accs P D Z T b al dk gn n).2.2.1 h : ℝ) : EReal)
  n16 : ∀ h : Fin 128, x16 (ix2 0 h) = (((accs P D Z T b al dk gn n).2.2.2 h : ℝ) : EReal)
  ns : ∀ (k : Fin 128) (w : Fin 1024), xs (ix2 k w) = ((dsv P D b al (chF P D Z T b al dk gn) n k w : ℝ) : EReal)

/-- One point. -/
theorem carry (t : Fin cfg0.N) (x13 : Vec Ideal S1x1024 .f32) (x14 x15 x16 : Vec Ideal S1x128 .f32) (xs : Vec Ideal S128x1024 .f32)
    (h : Carried P D Z T b al dk gn t.val x13 x14 x15 x16 xs) :
    Carried P D Z T b al dk gn (t.val + 1) (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).ogn (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).od
      (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).oal (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).odb (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).ods := by
  have H := isAt m c A t x13 x14 x15 x16 xs h.ns
  refine ⟨fun w => ?_, fun k => ?_, fun k => ?_, fun k => ?_, fun k w => ?_⟩
  · rw [Ins.ogn_eq H w, show (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).agn = x13 from rfl, h.n13, ← EReal.coe_add]
    simp only [accs, Finset.sum_range_succ]
  · rw [Ins.od_eq H k, show (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).ad = x14 from rfl, h.n14, ← EReal.coe_add]
    simp only [accs, Finset.sum_range_succ, chF]
  · rw [Ins.oal_eq H k, show (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).aal = x15 from rfl, h.n15, ← EReal.coe_add]
    simp only [accs, Finset.sum_range_succ]
    rfl
  · rw [Ins.odb_eq H k, show (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).adb = x16 from rfl, h.n16, ← EReal.coe_add]
    simp only [accs, Finset.sum_range_succ]
    rfl
  · exact Ins.ods_eq H k w

omit A in
/-- The first point starts from zeros. -/
theorem start : Carried P D Z T b al dk gn 0 (k0_pay3 (F := Ideal)) (k0_pay4 (F := Ideal)) (k0_pay5 (F := Ideal)) (k0_pay6 (F := Ideal)) (k0_pay2 (F := Ideal)) := by
  refine ⟨fun w => ?_, fun k => ?_, fun k => ?_, fun k => ?_, fun k w => ?_⟩
  · pointwise [k0_pay3]; simp only [accs, Finset.range_zero, Finset.sum_empty]; rfl
  · pointwise [k0_pay4]; simp only [accs, Finset.range_zero, Finset.sum_empty]; rfl
  · pointwise [k0_pay5]; simp only [accs, Finset.range_zero, Finset.sum_empty]; rfl
  · pointwise [k0_pay6]; simp only [accs, Finset.range_zero, Finset.sum_empty]; rfl
  · pointwise [k0_pay2]; rfl

/-- What the points up to `n` leave in the accumulators and the carried cotangent. -/
theorem carried (n : ℕ) (hn : n < cfg0.N) :
    Carried P D Z T b al dk gn (n + 1) (outsAt0 m c n hn).2.2.2.1 (outsAt0 m c n hn).2.2.2.2.1 (outsAt0 m c n hn).2.2.2.2.2.1 (outsAt0 m c n hn).2.2.2.2.2.2.1 (outsAt0 m c n hn).2.2.2.2.2.2.2 := by
  induction n with
  | zero =>
    rw [outsAt0_A m c ⟨0, hn⟩ rfl]
    dsimp only
    rw [out_A_13, out_A_14, out_A_15, out_A_16, sout_A_0]
    exact carry m c A ⟨0, hn⟩ _ _ _ _ _ start
  | succ n ih =>
    have hN : n + 1 < 32 := lt_of_lt_of_eq hn N_0
    rw [outsAt0_B m c ⟨n + 1, hn⟩ (by show ¬(n + 1) % 32 = 0; omega)]
    dsimp only
    rw [out_B_13, out_B_14, out_B_15, out_B_16, sout_B_0]
    exact carry m c A ⟨n + 1, hn⟩ _ _ _ _ _ (ih _)

/-- What a point leaves in its output blocks. -/
theorem outs (t : Fin cfg0.N) :
    (∀ (l : Fin 128) (w : Fin 1024), (outsAt0 m c t.val t.isLt).1 (ix2 l w) = ((dzv (chY P D b al dk (31 - t)) (rows Z (31 - t)) (rows T (31 - t)) gn l w : ℝ) : EReal))
    ∧ (∀ (l : Fin 128) (w : Fin 1536), (outsAt0 m c t.val t.isLt).2.1 (ix2 l w)
        = ((dpv (rows P (31 - t)) (rows D (31 - t)) b al dk (stv P D b al (31 - t)) (dsv P D b al (chF P D Z T b al dk gn) t) (chF P D Z T b al dk gn (31 - t)) l w : ℝ) : EReal))
    ∧ (∀ l h : Fin 128, (outsAt0 m c t.val t.isLt).2.2.1 (ix2 l h)
        = ((dtrv (rows P (31 - t)) (rows D (31 - t)) b al (stv P D b al (31 - t)) (dsv P D b al (chF P D Z T b al dk gn) t) (chF P D Z T b al dk gn (31 - t)) l h : ℝ) : EReal)) := by
  have hN : t.val < 32 := lt_of_lt_of_eq t.isLt N_0
  have key : ∀ x13 x14 x15 x16 xs, Carried P D Z T b al dk gn t.val x13 x14 x15 x16 xs →
      (∀ (l : Fin 128) (w : Fin 1024), (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).odz (ix2 l w) = ((dzv (chY P D b al dk (31 - t)) (rows Z (31 - t)) (rows T (31 - t)) gn l w : ℝ) : EReal))
      ∧ (∀ (l : Fin 128) (w : Fin 1536), (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).opre (ix2 l w)
        = ((dpv (rows P (31 - t)) (rows D (31 - t)) b al dk (stv P D b al (31 - t)) (dsv P D b al (chF P D Z T b al dk gn) t) (chF P D Z T b al dk gn (31 - t)) l w : ℝ) : EReal))
      ∧ (∀ l h : Fin 128, (insOf (iblk m c 0 t) (iblk m c 1 t) (iblk m c 2 t) (iblk m c 3 t) (iblk m c 4 t) (iblk m c 5 t) (iblk m c 6 t) (iblk m c 7 t) (iblk m c 8 t) (iblk m c 9 t) x13 x14 x15 x16 xs).odt (ix2 l h)
        = ((dtrv (rows P (31 - t)) (rows D (31 - t)) b al (stv P D b al (31 - t)) (dsv P D b al (chF P D Z T b al dk gn) t) (chF P D Z T b al dk gn (31 - t)) l h : ℝ) : EReal)) :=
    fun x13 x14 x15 x16 xs h => have H := isAt m c A t x13 x14 x15 x16 xs h.ns
      ⟨Ins.odz_eq H, Ins.opre_eq H, Ins.odt_eq H⟩
  by_cases h0 : t.val % 32 = 0
  · have e0 : t.val = 0 := by omega
    rw [outsAt0_A m c t h0]
    dsimp only
    rw [out_A_10, out_A_11, out_A_12]
    exact key _ _ _ _ _ (by rw [e0]; exact start)
  · rw [outsAt0_B m c t h0]
    dsimp only
    rw [out_B_10, out_B_11, out_B_12]
    refine key _ _ _ _ _ ?_
    have h := carried m c A (t.val - 1) (by omega)
    rw [show t.val - 1 + 1 = t.val by omega] at h
    exact h

omit A in
/-- The grid point that computes row `R`. -/
def ptOf (R : Fin 4096) : Fin cfg0.N := ⟨31 - R.val / 128, by rw [show cfg0.N = 32 from N_0]; omega⟩

omit A in
theorem pt_eq (R : Fin 4096) : 31 - ((ptOf R : Fin cfg0.N) : ℕ) = R.val / 128 := by
  show 31 - (31 - R.val / 128) = _; omega

theorem final10 (R : Fin 4096) (w : Fin 1024) :
    ((dats m 0 c).arrAt 10 cfg0.N : FVec Ideal S4096x1024 .bf16) (ix2 R w) = ((dzv (chY P D b al dk (R / 128)) (rows Z (R / 128)) (rows T (R / 128)) gn (R % 128) w : ℝ) : EReal) := by
  have h := congrFun (Value.blocks10 m c (ptOf R) (flush0_10 _)) (ix2 ⟨R.val % 128, by omega⟩ w)
  rw [View.read_apply, Value.flushed10] at h
  refine Eq.trans (congrArg _ (funext fun a => Fin.ext ?_)) (h.trans (((outs m c A (ptOf R)).1 ⟨R.val % 128, by omega⟩ w).trans ?_))
  · match a with
    | ⟨0, _⟩ => show R.val = win0_10.index (ptOf R) 0 * 128 + 1 * (R.val % 128); rw [(idx10 (ptOf R)).1, pt_eq]; omega
    | ⟨1, _⟩ => show w.val = win0_10.index (ptOf R) 1 * 1024 + 1 * w.val; rw [(idx10 (ptOf R)).2]; omega
  · rw [pt_eq] <;> rfl

theorem final11 (R : Fin 4096) (w : Fin 1536) :
    ((dats m 0 c).arrAt 11 cfg0.N : FVec Ideal S4096x1536 .f32) (ix2 R w) = ((dpv (rows P (R / 128)) (rows D (R / 128)) b al dk (stv P D b al (R / 128)) (dsv P D b al (chF P D Z T b al dk gn) (31 - R / 128)) (chF P D Z T b al dk gn (R / 128)) (R % 128) w : ℝ) : EReal) := by
  have h := congrFun (Value.blocks11 m c (ptOf R) (flush0_11 _)) (ix2 ⟨R.val % 128, by omega⟩ w)
  rw [View.read_apply, Value.flushed11] at h
  refine Eq.trans (congrArg _ (funext fun a => Fin.ext ?_)) (h.trans (((outs m c A (ptOf R)).2.1 ⟨R.val % 128, by omega⟩ w).trans ?_))
  · match a with
    | ⟨0, _⟩ => show R.val = win0_11.index (ptOf R) 0 * 128 + 1 * (R.val % 128); rw [(idx11 (ptOf R)).1, pt_eq]; omega
    | ⟨1, _⟩ => show w.val = win0_11.index (ptOf R) 1 * 1536 + 1 * w.val; rw [(idx11 (ptOf R)).2]; omega
  · rw [pt_eq] <;> rfl

theorem final12 (R : Fin 4096) (w : Fin 128) :
    ((dats m 0 c).arrAt 12 cfg0.N : FVec Ideal S4096x128 .bf16) (ix2 R w) = ((dtrv (rows P (R / 128)) (rows D (R / 128)) b al (stv P D b al (R / 128)) (dsv P D b al (chF P D Z T b al dk gn) (31 - R / 128)) (chF P D Z T b al dk gn (R / 128)) (R % 128) w : ℝ) : EReal) := by
  have h := congrFun (Value.blocks12 m c (ptOf R) (flush0_12 _)) (ix2 ⟨R.val % 128, by omega⟩ w)
  rw [View.read_apply, Value.flushed12] at h
  refine Eq.trans (congrArg _ (funext fun a => Fin.ext ?_)) (h.trans (((outs m c A (ptOf R)).2.2 ⟨R.val % 128, by omega⟩ w).trans ?_))
  · match a with
    | ⟨0, _⟩ => show R.val = win0_12.index (ptOf R) 0 * 128 + 1 * (R.val % 128); rw [(idx12 (ptOf R)).1, pt_eq]; omega
    | ⟨1, _⟩ => show w.val = win0_12.index (ptOf R) 1 * 128 + 1 * w.val; rw [(idx12 (ptOf R)).2]; omega
  · rw [pt_eq] <;> rfl

omit A in
def tLast : Fin cfg0.N := ⟨31, by rw [show cfg0.N = 32 from N_0]; omega⟩

omit A in
theorem last (t : Fin cfg0.N) (h : t.val % 32 = 31) : t = tLast := by
  have : t.val < 32 := lt_of_lt_of_eq t.isLt N_0
  exact Fin.ext (by show t.val = 31; omega)

omit A in
theorem final13' : (dats m 0 c).arrAt 13 cfg0.N = (outsAt0 m c tLast.val tLast.isLt).2.2.2.1 := by
  refine (dats m 0 c).arrAt_eq_of_cover 13 (outsAt0 m c tLast.val tLast.isLt).2.2.2.1 (fun t hf => ?_) fun i => ⟨tLast, (flush0_13 tLast).mpr rfl, ?_⟩
  · obtain rfl := last t ((flush0_13 t).mp hf)
    rw [Value.flushed13]
    have hz' : (fun a => win0_13.index tLast a * main_v377_3.ty.shape.size a) = fun _ => 0 := funext fun a => by fin_cases a <;> decide
    exact (Memref.read_access_unit_zero (Elt Ideal) main_v377_3 hz' (fun a => by rw [congrFun hz' a]; simp) _).symm
  · show i ∈ ((View.whole main_v377_3).slice (win0_13.rect tLast)).set
    rw [View.set_slice_whole, Rect.mem_set_unit]
    intro a
    have h0 : (i 0 : Nat) < 1 := (i 0).isLt
    have h1 : (i 1 : Nat) < 1024 := (i 1).isLt
    match a with
    | ⟨0, _⟩ => show win0_13.index tLast 0 * win0_13.size 0 ≤ (i 0 : Nat) ∧ (i 0 : Nat) < win0_13.index tLast 0 * win0_13.size 0 + win0_13.xsize (grid0.coords tLast) 0
                rw [show win0_13.index tLast 0 * win0_13.size 0 = 0 from by decide +kernel, show win0_13.xsize (grid0.coords tLast) 0 = 1 from by decide +kernel]; omega
    | ⟨1, _⟩ => show win0_13.index tLast 1 * win0_13.size 1 ≤ (i 1 : Nat) ∧ (i 1 : Nat) < win0_13.index tLast 1 * win0_13.size 1 + win0_13.xsize (grid0.coords tLast) 1
                rw [show win0_13.index tLast 1 * win0_13.size 1 = 0 from by decide +kernel, show win0_13.xsize (grid0.coords tLast) 1 = 1024 from by decide +kernel]; omega

theorem final13 (w : Fin 1024) : ((dats m 0 c).arrAt 13 cfg0.N : FVec Ideal S1x1024 .f32) (ix2 0 w) = (((accs P D Z T b al dk gn 32).1 w : ℝ) : EReal) := by
  rw [final13']
  exact (carried m c A 31 tLast.isLt).n13 w

omit A in
theorem final14' : (dats m 0 c).arrAt 14 cfg0.N = (outsAt0 m c tLast.val tLast.isLt).2.2.2.2.1 := by
  refine (dats m 0 c).arrAt_eq_of_cover 14 (outsAt0 m c tLast.val tLast.isLt).2.2.2.2.1 (fun t hf => ?_) fun i => ⟨tLast, (flush0_14 tLast).mpr rfl, ?_⟩
  · obtain rfl := last t ((flush0_14 t).mp hf)
    rw [Value.flushed14]
    have hz' : (fun a => win0_14.index tLast a * main_v377_4.ty.shape.size a) = fun _ => 0 := funext fun a => by fin_cases a <;> decide
    exact (Memref.read_access_unit_zero (Elt Ideal) main_v377_4 hz' (fun a => by rw [congrFun hz' a]; simp) _).symm
  · show i ∈ ((View.whole main_v377_4).slice (win0_14.rect tLast)).set
    rw [View.set_slice_whole, Rect.mem_set_unit]
    intro a
    have h0 : (i 0 : Nat) < 1 := (i 0).isLt
    have h1 : (i 1 : Nat) < 128 := (i 1).isLt
    match a with
    | ⟨0, _⟩ => show win0_14.index tLast 0 * win0_14.size 0 ≤ (i 0 : Nat) ∧ (i 0 : Nat) < win0_14.index tLast 0 * win0_14.size 0 + win0_14.xsize (grid0.coords tLast) 0
                rw [show win0_14.index tLast 0 * win0_14.size 0 = 0 from by decide +kernel, show win0_14.xsize (grid0.coords tLast) 0 = 1 from by decide +kernel]; omega
    | ⟨1, _⟩ => show win0_14.index tLast 1 * win0_14.size 1 ≤ (i 1 : Nat) ∧ (i 1 : Nat) < win0_14.index tLast 1 * win0_14.size 1 + win0_14.xsize (grid0.coords tLast) 1
                rw [show win0_14.index tLast 1 * win0_14.size 1 = 0 from by decide +kernel, show win0_14.xsize (grid0.coords tLast) 1 = 128 from by decide +kernel]; omega

theorem final14 (w : Fin 128) : ((dats m 0 c).arrAt 14 cfg0.N : FVec Ideal S1x128 .f32) (ix2 0 w) = (((accs P D Z T b al dk gn 32).2.1 w : ℝ) : EReal) := by
  rw [final14']
  exact (carried m c A 31 tLast.isLt).n14 w

omit A in
theorem final15' : (dats m 0 c).arrAt 15 cfg0.N = (outsAt0 m c tLast.val tLast.isLt).2.2.2.2.2.1 := by
  refine (dats m 0 c).arrAt_eq_of_cover 15 (outsAt0 m c tLast.val tLast.isLt).2.2.2.2.2.1 (fun t hf => ?_) fun i => ⟨tLast, (flush0_15 tLast).mpr rfl, ?_⟩
  · obtain rfl := last t ((flush0_15 t).mp hf)
    rw [Value.flushed15]
    have hz' : (fun a => win0_15.index tLast a * main_v377_5.ty.shape.size a) = fun _ => 0 := funext fun a => by fin_cases a <;> decide
    exact (Memref.read_access_unit_zero (Elt Ideal) main_v377_5 hz' (fun a => by rw [congrFun hz' a]; simp) _).symm
  · show i ∈ ((View.whole main_v377_5).slice (win0_15.rect tLast)).set
    rw [View.set_slice_whole, Rect.mem_set_unit]
    intro a
    have h0 : (i 0 : Nat) < 1 := (i 0).isLt
    have h1 : (i 1 : Nat) < 128 := (i 1).isLt
    match a with
    | ⟨0, _⟩ => show win0_15.index tLast 0 * win0_15.size 0 ≤ (i 0 : Nat) ∧ (i 0 : Nat) < win0_15.index tLast 0 * win0_15.size 0 + win0_15.xsize (grid0.coords tLast) 0
                rw [show win0_15.index tLast 0 * win0_15.size 0 = 0 from by decide +kernel, show win0_15.xsize (grid0.coords tLast) 0 = 1 from by decide +kernel]; omega
    | ⟨1, _⟩ => show win0_15.index tLast 1 * win0_15.size 1 ≤ (i 1 : Nat) ∧ (i 1 : Nat) < win0_15.index tLast 1 * win0_15.size 1 + win0_15.xsize (grid0.coords tLast) 1
                rw [show win0_15.index tLast 1 * win0_15.size 1 = 0 from by decide +kernel, show win0_15.xsize (grid0.coords tLast) 1 = 128 from by decide +kernel]; omega

theorem final15 (w : Fin 128) : ((dats m 0 c).arrAt 15 cfg0.N : FVec Ideal S1x128 .f32) (ix2 0 w) = (((accs P D Z T b al dk gn 32).2.2.1 w : ℝ) : EReal) := by
  rw [final15']
  exact (carried m c A 31 tLast.isLt).n15 w

omit A in
theorem final16' : (dats m 0 c).arrAt 16 cfg0.N = (outsAt0 m c tLast.val tLast.isLt).2.2.2.2.2.2.1 := by
  refine (dats m 0 c).arrAt_eq_of_cover 16 (outsAt0 m c tLast.val tLast.isLt).2.2.2.2.2.2.1 (fun t hf => ?_) fun i => ⟨tLast, (flush0_16 tLast).mpr rfl, ?_⟩
  · obtain rfl := last t ((flush0_16 t).mp hf)
    rw [Value.flushed16]
    have hz' : (fun a => win0_16.index tLast a * main_v377_6.ty.shape.size a) = fun _ => 0 := funext fun a => by fin_cases a <;> decide
    exact (Memref.read_access_unit_zero (Elt Ideal) main_v377_6 hz' (fun a => by rw [congrFun hz' a]; simp) _).symm
  · show i ∈ ((View.whole main_v377_6).slice (win0_16.rect tLast)).set
    rw [View.set_slice_whole, Rect.mem_set_unit]
    intro a
    have h0 : (i 0 : Nat) < 1 := (i 0).isLt
    have h1 : (i 1 : Nat) < 128 := (i 1).isLt
    match a with
    | ⟨0, _⟩ => show win0_16.index tLast 0 * win0_16.size 0 ≤ (i 0 : Nat) ∧ (i 0 : Nat) < win0_16.index tLast 0 * win0_16.size 0 + win0_16.xsize (grid0.coords tLast) 0
                rw [show win0_16.index tLast 0 * win0_16.size 0 = 0 from by decide +kernel, show win0_16.xsize (grid0.coords tLast) 0 = 1 from by decide +kernel]; omega
    | ⟨1, _⟩ => show win0_16.index tLast 1 * win0_16.size 1 ≤ (i 1 : Nat) ∧ (i 1 : Nat) < win0_16.index tLast 1 * win0_16.size 1 + win0_16.xsize (grid0.coords tLast) 1
                rw [show win0_16.index tLast 1 * win0_16.size 1 = 0 from by decide +kernel, show win0_16.xsize (grid0.coords tLast) 1 = 128 from by decide +kernel]; omega

theorem final16 (w : Fin 128) : ((dats m 0 c).arrAt 16 cfg0.N : FVec Ideal S1x128 .f32) (ix2 0 w) = (((accs P D Z T b al dk gn 32).2.2.2 w : ℝ) : EReal) := by
  rw [final16']
  exact (carried m c A 31 tLast.isLt).n16 w

end Cert.SsdbIdeal.Bwd

end
end
-- ==== Proof.SsdbRefA.lean ====
/- The forward lines of the reference of the state-space layer's derivative, read element by element on finite arguments. -/
module

public import proofs.«01_k».proof.Proof.SsdbReal
public import proofs.«01_k».proof.Proof.SsdRef
public import proofs.«01_k».proof.Proof.Gen.SsdbRefIdeal.Read

@[expose] public section

set_option maxRecDepth 16384

noncomputable section

namespace Cert.SsdbRefIdeal.Bwd

open Cert.SsdbRefIdeal Cert.SsdbRefIdeal.Gen Cert.SsdbRefIdeal.Read Cert.Reals Cert.Ssd Idealize.ShloMosaic
open Cert.SsdRefIdeal.Fwd (c0 cNegInf carry)

/-- The finite arguments and what they hold. -/
structure Args (x0 : FVec Ideal S4096x1536 .f32) (x1 : FVec Ideal S4096x128 .f32) (x2 : FVec Ideal S4096x1024 .f32) (x3 x4 x5 : FVec Ideal S16 .f32)
    (x6 : FVec Ideal S1024 .f32) (x7 : FVec Ideal S4096x1024 .f32) (P D Z T : ℕ → ℕ → ℝ) (b al dk gn : ℕ → ℝ) : Prop where
  h0 : ∀ r w, x0 (ix2 r w) = ((P r w : ℝ) : EReal)
  h1 : ∀ r l, x1 (ix2 r l) = ((D r l : ℝ) : EReal)
  h2 : ∀ r w, x2 (ix2 r w) = ((Z r w : ℝ) : EReal)
  h3 : ∀ h, x3 (ix1 h) = ((b h : ℝ) : EReal)
  h4 : ∀ h, x4 (ix1 h) = ((al h : ℝ) : EReal)
  h5 : ∀ h, x5 (ix1 h) = ((dk h : ℝ) : EReal)
  h6 : ∀ w, x6 (ix1 w) = ((gn w : ℝ) : EReal)
  h7 : ∀ r w, x7 (ix2 r w) = ((T r w : ℝ) : EReal)

theorem sigm_coe (x : ℝ) : Ideal.div 1 (1 + Ideal.exp (-(x : EReal))) = ((sigm x : ℝ) : EReal) := by
  have h : (1 + Real.exp (-x)) ≠ 0 := by positivity
  rw [← EReal.coe_neg, Ideal.exp_coe, ← EReal.coe_one, ← EReal.coe_add, div_coe_coe h, one_div]
  rfl

theorem cTop : Ideal.ofBits .f32 0x7F800000#32 = (⊤ : EReal) := by simp [Ideal.ofBits, Ideal.ieee]

theorem cHalf : Ideal.ofBits .f32 0xBF000000#32 = ((-(1 / 2) : ℝ) : EReal) := by
  simp [Ideal.ofBits, Ideal.ieee]
  rw [← EReal.coe_mul]
  norm_num

/-- The slope of the softplus. -/
theorem exp_sub_sp (x : ℝ) : Real.exp (x - sp x) = sigm x := by
  unfold sp sigm
  rw [← sub_sub, Real.exp_sub, Real.exp_log (by positivity)]
  rcases le_total 0 x with h | h
  · rw [max_eq_left h, abs_of_nonneg h, sub_self, Real.exp_zero, one_div]
  · have e : Real.exp (-x) * Real.exp x = 1 := by rw [← Real.exp_add, neg_add_cancel, Real.exp_zero]
    rw [max_eq_right h, abs_of_nonpos h, neg_neg, sub_zero, div_eq_iff (by positivity), eq_comm, inv_mul_eq_iff_eq_mul₀ (by positivity), add_mul, e]
    ring

/-! A sum over the first and the last axis of three. -/

theorem drop02 {n0 n2 : ℕ} (h : (⟨3, ![n0, 16, n2]⟩ : Shape).ReducesTo [0, 2] ⟨1, ![16]⟩) (i : (⟨3, ![n0, 16, n2]⟩ : Shape).Idx) : h.drop i = ix1 (i 1) := by
  funext a
  fin_cases a
  rfl

theorem reduce02 {n0 n2 : ℕ} (h : (⟨3, ![n0, 16, n2]⟩ : Shape).ReducesTo [0, 2] ⟨1, ![16]⟩) (v : (⟨3, ![n0, 16, n2]⟩ : Shape).Idx → EReal) (init : EReal)
    (j : Fin 16) : Ideal.hostReduceAdd h v init (ix1 j) = init + ∑ a : Fin n0, ∑ c : Fin n2, v (ix3 a j c) := by
  unfold Ideal.hostReduceAdd
  refine congrArg (init + ·) ?_
  rw [← Finset.sum_product' Finset.univ Finset.univ (fun a c => v (ix3 a j c))]
  refine Finset.sum_nbij' (i := fun i => (i 0, i 2)) (j := fun q => ix3 q.1 j q.2) ?_ ?_ ?_ ?_ ?_
  · intro i _; exact Finset.mem_product.2 ⟨Finset.mem_univ _, Finset.mem_univ _⟩
  · intro q _; exact Finset.mem_filter.2 ⟨Finset.mem_univ _, drop02 h _⟩
  · intro i hi
    have e : i 1 = j := congrFun ((drop02 h i).symm.trans (Finset.mem_filter.1 hi).2) 0
    conv_rhs => rw [eq_ix3 i, e]
  · intro q _; rfl
  · intro i hi
    have e : i 1 = j := congrFun ((drop02 h i).symm.trans (Finset.mem_filter.1 hi).2) 0
    conv_lhs => rw [eq_ix3 i, e]

/-- The derivative of the gated norm, in the form of the reference. -/
theorem dvv_eq (Y Z T : ℕ → ℕ → ℝ) (gn : ℕ → ℝ) (l w : ℕ) :
    dvv Y Z T gn l w
      = dhv T gn l w * rsv Y Z l (w / 512)
        + vbv Y Z l w * ((∑ k : Fin 512, vbv Y Z l (512 * (w / 512) + k) * dhv T gn l (512 * (w / 512) + k))
            * (-(1 / 2) * (rsv Y Z l (w / 512) / (msv (vbv Y Z) l (w / 512) + eps))) / 512)
        + (∑ k : Fin 512, vbv Y Z l (512 * (w / 512) + k) * dhv T gn l (512 * (w / 512) + k))
            * (-(1 / 2) * (rsv Y Z l (w / 512) / (msv (vbv Y Z) l (w / 512) + eps))) / 512 * vbv Y Z l w := by
  have hm := msv_pos (vbv Y Z) l (w / 512)
  have hs : rsv Y Z l (w / 512) / (msv (vbv Y Z) l (w / 512) + eps) = rsv Y Z l (w / 512) * (rsv Y Z l (w / 512) * rsv Y Z l (w / 512)) := by
    unfold rsv
    rw [← mul_inv, Real.mul_self_sqrt hm.le, div_eq_mul_inv]
  have hk : mnv Y Z T gn l (w / 512) = (∑ k : Fin 512, vbv Y Z l (512 * (w / 512) + k) * dhv T gn l (512 * (w / 512) + k)) * rsv Y Z l (w / 512) / 512 := by
    unfold mnv
    rw [Finset.sum_mul]
    refine congrArg (· / 512) (Finset.sum_congr rfl fun k _ => ?_)
    have hg : (512 * (w / 512) + (k : ℕ)) / 512 = w / 512 := by omega
    rw [vhv, hg]
    ring
  rw [hs, dvv, hk, vhv]
  ring

variable {x0 : FVec Ideal S4096x1536 .f32} {x1 : FVec Ideal S4096x128 .f32} {x2 : FVec Ideal S4096x1024 .f32} {x3 x4 x5 : FVec Ideal S16 .f32}
  {x6 : FVec Ideal S1024 .f32} {x7 : FVec Ideal S4096x1024 .f32} {P D Z T : ℕ → ℕ → ℝ} {b al dk gn : ℕ → ℝ}

namespace Args

theorem v0_2_eq (A : Args x0 x1 x2 x3 x4 x5 x6 x7 P D Z T b al dk gn) (r : Fin 4096) (w : Fin 1536) :
    val_main_v0_2 (F := Ideal) x0 (ix2 r w)
      = ((sigm (P r w) : ℝ) : EReal) := by
  pointwise [val_main_v0_2, val_main_call0_v0, val_main_call0_v1, val_main_call0_v2, val_main_call0_v3, val_main_call0_v4, val_main_call0_cst, val_main_call0_cst_0]
  rw [A.h0, sigm_coe]

theorem v0_1_eq (A : Args x0 x1 x2 x3 x4 x5 x6 x7 P D Z T b al dk gn) (r : Fin 4096) (w : Fin 1536) :
    val_main_v0_1 (F := Ideal) x0 (ix2 r w)
      = ((sigm (P r w) * (1 - sigm (P r w)) : ℝ) : EReal) := by
  have h := A.v0_2_eq
  pointwise [val_main_v0_1, val_main_call0_v7, val_main_call0_v6, val_main_call0_cst_1]
  rw [h, ← EReal.coe_one, ← EReal.coe_sub, ← EReal.coe_mul]

theorem v0_0_eq (A : Args x0 x1 x2 x3 x4 x5 x6 x7 P D Z T b al dk gn) (r : Fin 4096) (w : Fin 1536) :
    val_main_v0_0 (F := Ideal) x0 (ix2 r w)
      = ((act P r w : ℝ) : EReal) := by
  have h := A.v0_2_eq
  pointwise [val_main_v0_0]
  rw [h, A.h0, ← EReal.coe_mul]
  rfl

theorem v7_eq (A : Args x0 x1 x2 x3 x4 x5 x6 x7 P D Z T b al dk gn) (r : Fin 4096) (h : Fin 16) :
    val_main_v7 (F := Ideal) x1 x3 (ix2 r h)
      = ((D r h + b h : ℝ) : EReal) := by
  have h1 := A.h1 r ⟨h, by omega⟩
  pointwise [val_main_v7, val_main_v6, val_main_v5, val_main_v4]
  rw [h1, A.h3, ← EReal.coe_add]

theorem v8_0_eq (A : Args x0 x1 x2 x3 x4 x5 x6 x7 P D Z T b al dk gn) (r : Fin 4096) (h : Fin 16) :
    val_main_v8_0 (F := Ideal) x1 x3 (ix2 r h)
      = ((dtv D b r h : ℝ) : EReal) := by
  have h1 := A.v7_eq
  pointwise [val_main_v8_0, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_cst]
  rw [h1, if_neg (fun h => h rfl), show FloatOps.absf (F := Ideal) (φ := .f32) (((D r h + b h : ℝ) : EReal)) = _ from abs_coe _, ← EReal.coe_neg, log1p_exp,
    ← EReal.coe_zero, ← EReal.coe_strictMono.monotone.map_max, ← EReal.coe_add]
  rfl

theorem v8_1_eq (A : Args x0 x1 x2 x3 x4 x5 x6 x7 P D Z T b al dk gn) (r : Fin 4096) (h : Fin 16) :
    val_main_v8_1 (F := Ideal) x1 x3 (ix2 r h)
      = ((sigm (D r h + b h) : ℝ) : EReal) := by
  have h1 := A.v7_eq
  have h2 := A.v8_0_eq
  pointwise [val_main_v8_1, val_main_call1_v13, val_main_call1_v14, val_main_call1_v15, val_main_call1_v16, val_main_call1_v17, val_main_call1_v18, val_main_call1_v19, val_main_call1_v20, val_main_call1_v21, val_main_call1_cst_0, val_main_call1_cst_1, val_main_call1_cst_2, val_main_call1_cst_3]
  rw [h1, h2]
  rw [cTop, if_neg (EReal.coe_ne_top _), if_neg (EReal.coe_ne_top _), ← EReal.coe_sub, Ideal.exp_coe]
  exact congrArg _ (exp_sub_sp _)

theorem v24_eq (A : Args x0 x1 x2 x3 x4 x5 x6 x7 P D Z T b al dk gn) (g : Fin 2) (e : Fin 8) (c : Fin 32) (l : Fin 128) :
    val_main_v24 (F := Ideal) x1 x3 x4 (ix4 g e c l)
      = ((av (rows D c) b al l (8 * g + e) : ℝ) : EReal) := by
  have h := A.v8_0_eq
  pointwise [val_main_v24, val_main_v23, val_main_v22, val_main_v21, val_main_v20, val_main_v10, val_main_v9]
  rw [h, A.h4, Ideal.exp_coe, ← EReal.coe_neg, ← EReal.coe_mul]
  simp only [av, dtv, rows, mul_comm (c : ℕ) 128, mul_comm (g : ℕ) 8]

theorem v25_eq (A : Args x0 x1 x2 x3 x4 x5 x6 x7 P D Z T b al dk gn) (g : Fin 2) (e : Fin 8) (c : Fin 32) (l : Fin 128) :
    val_main_v25 (F := Ideal) x1 x3 x4 (ix4 g e c l)
      = ((csv (rows D c) b al l (8 * g + e) : ℝ) : EReal) := by
  unfold val_main_v25
  refine (Cert.SsdRefIdeal.Fwd.cumsum (x := val_main_v24 (F := Ideal) x1 x3 x4) (init := val_main_call2_call0_v0 (F := Ideal)) (fun i => c0) _ _ g e c l).trans ?_
  unfold csv
  rw [← coe_sum]
  refine Finset.sum_congr rfl fun s _ => ?_
  rw [A.v24_eq]
  split <;> rfl

theorem v11_eq (A : Args x0 x1 x2 x3 x4 x5 x6 x7 P D Z T b al dk gn) (r : Fin 4096) (h : Fin 16) (p : Fin 64) :
    val_main_v11 (F := Ideal) x0 (ix3 r h p)
      = ((act P r (64 * h + p) : ℝ) : EReal) := by
  have h' := A.v0_0_eq
  pointwise [val_main_v11, val_main_v1]
  rw [h']
  simp only [mul_comm (h : ℕ) 64]

theorem v17_eq (A : Args x0 x1 x2 x3 x4 x5 x6 x7 P D Z T b al dk gn) (c : Fin 32) (l : Fin 128) (g : Fin 2) (e : Fin 8) (p : Fin 64) :
    val_main_v17 (F := Ideal) x0 x1 x3 (ix5 c l g e p)
      = ((xcv (rows P c) (rows D c) b l (64 * (8 * g + e) + p) : ℝ) : EReal) := by
  have h := A.v8_0_eq
  have h' := A.v0_0_eq
  pointwise [val_main_v17, val_main_v16, val_main_v15, val_main_v14, val_main_v11, val_main_v1]
  rw [h, h', ← EReal.coe_mul]
  simp only [xcv, act, dtv, rows, mul_comm (c : ℕ) 128, mul_comm (g : ℕ) 8, mul_comm (8 * (g : ℕ) + e) 64, show (64 * (8 * (g : ℕ) + e) + p) / 64 = 8 * g + e from by omega]

theorem v18_eq (A : Args x0 x1 x2 x3 x4 x5 x6 x7 P D Z T b al dk gn) (c : Fin 32) (l : Fin 128) (g : Fin 2) (n : Fin 128) :
    val_main_v18 (F := Ideal) x0 (ix4 c l g n)
      = ((act (rows P c) l (1024 + 128 * g + n) : ℝ) : EReal) := by
  have h' := A.v0_0_eq
  pointwise [val_main_v18, val_main_v12, val_main_v2]
  rw [h']
  simp only [act, rows, mul_comm (c : ℕ) 128, mul_comm (g : ℕ) 128, ← add_assoc]

theorem v19_eq (A : Args x0 x1 x2 x3 x4 x5 x6 x7 P D Z T b al dk gn) (c : Fin 32) (l : Fin 128) (g : Fin 2) (n : Fin 128) :
    val_main_v19 (F := Ideal) x0 (ix4 c l g n)
      = ((act (rows P c) l (1280 + 128 * g + n) : ℝ) : EReal) := by
  have h' := A.v0_0_eq
  pointwise [val_main_v19, val_main_v13, val_main_v3]
  rw [h']
  simp only [act, rows, mul_comm (c : ℕ) 128, mul_comm (g : ℕ) 128, ← add_assoc]

theorem v27_eq (l s : Fin 128) : val_main_v27 (F := Ideal) (ix2 l s) = if (s : ℕ) ≤ l then 1#1 else 0#1 := by
  pointwise [val_main_v27, val_main_v26, val_main_c, val_main_call3_v0, val_main_call3_v1, val_main_call3_v2, val_main_call3_v3, val_main_call3_v4, val_main_call3_v5, val_main_call3_c, val_main_call3_c_0]
  rw [show IntOp.addi (BitVec.ofNat 32 (l : ℕ)) 0#32 = BitVec.ofNat 32 l from by simp [IntOp.addi], WordCmp.cmpi_sge_ofNat (by omega) (by omega)]
  by_cases hp : (s : ℕ) ≤ l <;> simp [hp, Scalar.select]

theorem v34_eq (A : Args x0 x1 x2 x3 x4 x5 x6 x7 P D Z T b al dk gn) (g : Fin 2) (e : Fin 8) (c : Fin 32) (l s : Fin 128) :
    val_main_v34 (F := Ideal) x1 x3 x4 (ix5 g e c l s)
      = ((lmv (rows D c) b al (8 * g + e) l s : ℝ) : EReal) := by
  have h := A.v25_eq
  have h' := v27_eq l s
  unfold lmv
  pointwise [val_main_v34, val_main_v33_0, val_main_v33_1, val_main_v32, val_main_v31, val_main_v30, val_main_v29, val_main_v28, val_main_call4_v0, val_main_call4_v2, val_main_cst]
  rw [h', h, h]
  by_cases hs : (s : ℕ) ≤ l
  · rw [if_pos hs, if_pos hs, ← EReal.coe_sub]
    simp only [Scalar.select, show ((1#1 : BitVec 1) = 1) = True from by simp, if_true, Ideal.exp_coe]
  · rw [if_neg hs, if_neg hs]
    simp only [Scalar.select, show ((0#1 : BitVec 1) = 1) = False from by simp, if_false]
    show Ideal.exp (Ideal.ofBits .f32 0xFF800000#32) = _
    rw [cNegInf, exp_bot]

theorem v36_eq (A : Args x0 x1 x2 x3 x4 x5 x6 x7 P D Z T b al dk gn) (g : Fin 2) (e : Fin 1) (c : Fin 32) (l s : Fin 128) :
    val_main_v36 (F := Ideal) x0 (ix5 g e c l s)
      = ((gv (rows P c) g l s : ℝ) : EReal) := by
  have hb := A.v18_eq
  have hc := A.v19_eq
  pointwise [val_main_v36, val_main_v35]
  simp only [hb, hc, ← EReal.coe_mul, coe_sum]
  rfl

theorem v38_eq (A : Args x0 x1 x2 x3 x4 x5 x6 x7 P D Z T b al dk gn) (g : Fin 2) (e : Fin 8) (c : Fin 32) (l s : Fin 128) :
    val_main_v38 (F := Ideal) x0 x1 x3 x4 (ix5 g e c l s)
      = ((gv (rows P c) g l s * lmv (rows D c) b al (8 * g + e) l s : ℝ) : EReal) := by
  have hb := A.v36_eq
  have hc := A.v34_eq
  pointwise [val_main_v38, val_main_v37]
  rw [hb, hc, ← EReal.coe_mul]

theorem v40_eq (A : Args x0 x1 x2 x3 x4 x5 x6 x7 P D Z T b al dk gn) (c : Fin 32) (l : Fin 128) (g : Fin 2) (e : Fin 8) (p : Fin 64) :
    val_main_v40 (F := Ideal) x0 x1 x3 x4 (ix5 c l g e p)
      = ((ydv (rows P c) (rows D c) b al l (64 * (8 * g + e) + p) : ℝ) : EReal) := by
  have ha := A.v17_eq
  have hb := A.v38_eq
  pointwise [val_main_v40, val_main_v39]
  simp only [ha, hb, ← EReal.coe_mul, coe_sum]
  refine congrArg _ (Finset.sum_congr rfl fun s _ => ?_)
  rw [show (64 * (8 * (g : ℕ) + e) + p) / 64 = 8 * g + e from by omega, show (64 * (8 * (g : ℕ) + e) + p) / 512 = g from by omega, mul_comm]
  rfl

theorem v44_eq (A : Args x0 x1 x2 x3 x4 x5 x6 x7 P D Z T b al dk gn) (g : Fin 2) (e : Fin 8) (c : Fin 32) (l : Fin 128) :
    val_main_v44 (F := Ideal) x1 x3 x4 (ix4 g e c l)
      = ((Real.exp (csv (rows D c) b al 127 (8 * g + e) - csv (rows D c) b al l (8 * g + e)) : ℝ) : EReal) := by
  have h := A.v25_eq
  pointwise [val_main_v44, val_main_v43, val_main_v42, val_main_v41]
  rw [h, h, ← EReal.coe_sub, Ideal.exp_coe]
  rfl

theorem v48_eq (A : Args x0 x1 x2 x3 x4 x5 x6 x7 P D Z T b al dk gn) (c : Fin 32) (l : Fin 128) (g : Fin 2) (e : Fin 8) (p : Fin 64) :
    val_main_v48 (F := Ideal) x0 x1 x3 x4 (ix5 c l g e p)
      = ((xdv (rows P c) (rows D c) b al l (64 * (8 * g + e) + p) : ℝ) : EReal) := by
  have h := A.v44_eq
  have h' := A.v17_eq
  pointwise [val_main_v48, val_main_v47, val_main_v46, val_main_v45]
  rw [h, h', ← EReal.coe_mul, mul_comm]
  simp only [xdv, show (64 * (8 * (g : ℕ) + e) + p) / 64 = 8 * g + e from by omega]

theorem v49_eq (A : Args x0 x1 x2 x3 x4 x5 x6 x7 P D Z T b al dk gn) (c : Fin 32) (g : Fin 2) (e : Fin 8) (p : Fin 64) (n : Fin 128) :
    val_main_v49 (F := Ideal) x0 x1 x3 x4 (ix5 c g e p n)
      = ((newv (rows P c) (rows D c) b al n (64 * (8 * g + e) + p) : ℝ) : EReal) := by
  have ha := A.v48_eq
  have hb := A.v18_eq
  pointwise [val_main_v49]
  simp only [ha, hb, ← EReal.coe_mul, coe_sum]
  refine congrArg _ (Finset.sum_congr rfl fun s _ => ?_)
  simp only [xdv]
  rw [show (64 * (8 * (g : ℕ) + e) + p) / 64 = 8 * g + e from by omega, show (64 * (8 * (g : ℕ) + e) + p) / 512 = g from by omega, mul_comm]

theorem v52_eq (A : Args x0 x1 x2 x3 x4 x5 x6 x7 P D Z T b al dk gn) (g : Fin 2) (e : Fin 8) (c : Fin 32) :
    val_main_v52 (F := Ideal) x1 x3 x4 (ix3 g e c)
      = ((Real.exp (csv (rows D c) b al 127 (8 * g + e)) : ℝ) : EReal) := by
  have hc := A.v25_eq
  pointwise [val_main_v52, val_main_v51, val_main_v50]
  rw [hc, Ideal.exp_coe]
  rfl

theorem v53_eq (A : Args x0 x1 x2 x3 x4 x5 x6 x7 P D Z T b al dk gn) (c : Fin 32) (g : Fin 2) (e : Fin 8) :
    val_main_v53 (F := Ideal) x1 x3 x4 (ix3 c g e)
      = ((Real.exp (csv (rows D c) b al 127 (8 * g + e)) : ℝ) : EReal) := by
  have hc := A.v52_eq
  pointwise [val_main_v53]
  rw [hc]

theorem stack_eq (c : Fin 32) (g : Fin 2) (e : Fin 8) (p : Fin 64) (n : Fin 128) :
    val_main_v351 (F := Ideal) x0 x1 x3 x4 (ix5 c g e p n)
      = carry (fun k => val_main_v53 (F := Ideal) x1 x3 x4 (ix3 (Fin.ofNat 32 k) g e)) (fun k => val_main_v49 (F := Ideal) x0 x1 x3 x4 (ix5 (Fin.ofNat 32 k) g e p n)) c := by
  pointwise [val_main_v351, val_main_v350, val_main_v349, val_main_v348, val_main_v347, val_main_v346, val_main_v345, val_main_v344, val_main_v343, val_main_v342, val_main_v341, val_main_v340, val_main_v339, val_main_v338, val_main_v337, val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v54, val_main_v56, val_main_v58, val_main_cst_0]
  fin_cases c <;> rfl

theorem v351_eq (A : Args x0 x1 x2 x3 x4 x5 x6 x7 P D Z T b al dk gn) (c : Fin 32) (g : Fin 2) (e : Fin 8) (p : Fin 64) (n : Fin 128) :
    val_main_v351 (F := Ideal) x0 x1 x3 x4 (ix5 c g e p n)
      = ((stv P D b al c n (64 * (8 * g + e) + p) : ℝ) : EReal) := by
  rw [stack_eq]
  obtain ⟨c, hc⟩ := c
  show carry _ _ c = ((stv P D b al c n (64 * (8 * g + e) + p) : ℝ) : EReal)
  induction c with
  | zero => rfl
  | succ c ih =>
    have hm : ((Fin.ofNat 32 c : Fin 32) : ℕ) = c := Nat.mod_eq_of_lt (by omega)
    show carry _ _ c * val_main_v53 (F := Ideal) x1 x3 x4 (ix3 (Fin.ofNat 32 c) g e) + val_main_v49 (F := Ideal) x0 x1 x3 x4 (ix5 (Fin.ofNat 32 c) g e p n) = _
    rw [ih (by omega), A.v53_eq, A.v49_eq, hm, ← EReal.coe_mul, ← EReal.coe_add]
    simp only [stv, nextv, show (64 * (8 * (g : ℕ) + e) + p) / 64 = 8 * g + e from by omega]

theorem v387_eq (A : Args x0 x1 x2 x3 x4 x5 x6 x7 P D Z T b al dk gn) (c : Fin 32) (g : Fin 2) (e : Fin 8) (p : Fin 64) (n : Fin 128) :
    val_main_v387 (F := Ideal) x0 x1 x3 x4 (ix5 c g e p n)
      = ((stv P D b al c n (64 * (8 * g + e) + p) : ℝ) : EReal) := by
  have h := A.v351_eq
  pointwise [val_main_v387]
  rw [dif_neg (by omega)]
  exact h c g e p n

theorem v388_eq (A : Args x0 x1 x2 x3 x4 x5 x6 x7 P D Z T b al dk gn) (c : Fin 32) (g : Fin 2) (e : Fin 8) (i j : Fin 1) :
    val_main_v388 (F := Ideal) x1 x3 x4 (ix5 c g e i j)
      = ((Real.exp (csv (rows D c) b al 127 (8 * g + e)) : ℝ) : EReal) := by
  refine Eq.trans (b := val_main_v53 (F := Ideal) x1 x3 x4 (ix3 c g e)) ?_ (A.v53_eq c g e)
  pointwise [val_main_v388, val_main_v386, val_main_v385, val_main_v384, val_main_v383, val_main_v382, val_main_v381, val_main_v380, val_main_v379, val_main_v378, val_main_v377, val_main_v376, val_main_v375, val_main_v374, val_main_v373, val_main_v372, val_main_v371, val_main_v370, val_main_v369, val_main_v368, val_main_v367, val_main_v366, val_main_v365, val_main_v364, val_main_v363, val_main_v362, val_main_v361, val_main_v360, val_main_v359, val_main_v358, val_main_v357, val_main_v356, val_main_v355, val_main_v354, val_main_v353, val_main_v352, val_main_v61, val_main_v62, val_main_v65, val_main_v69, val_main_v70, val_main_v73, val_main_v77, val_main_v78, val_main_v81, val_main_v85, val_main_v86, val_main_v89, val_main_v93, val_main_v94, val_main_v97, val_main_v101, val_main_v102, val_main_v105, val_main_v109, val_main_v110, val_main_v113, val_main_v117, val_main_v118, val_main_v121, val_main_v125, val_main_v126, val_main_v129, val_main_v133, val_main_v134, val_main_v137, val_main_v141, val_main_v142, val_main_v145, val_main_v149, val_main_v150, val_main_v153, val_main_v157, val_main_v158, val_main_v161, val_main_v165, val_main_v166, val_main_v169, val_main_v173, val_main_v174, val_main_v177, val_main_v181, val_main_v182, val_main_v185, val_main_v189, val_main_v190, val_main_v193, val_main_v197, val_main_v198, val_main_v201, val_main_v205, val_main_v206, val_main_v209, val_main_v213, val_main_v214, val_main_v217, val_main_v221, val_main_v222, val_main_v225, val_main_v229, val_main_v230, val_main_v233, val_main_v237, val_main_v238, val_main_v241, val_main_v245, val_main_v246, val_main_v249, val_main_v253, val_main_v254, val_main_v257, val_main_v261, val_main_v262, val_main_v265, val_main_v269, val_main_v270, val_main_v273, val_main_v277, val_main_v278, val_main_v281, val_main_v285, val_main_v286, val_main_v289, val_main_v293, val_main_v294, val_main_v297, val_main_v301, val_main_v302, val_main_v305, val_main_v309, val_main_v310, val_main_v313, val_main_v56]
  fin_cases c <;> rfl

theorem v391_eq (A : Args x0 x1 x2 x3 x4 x5 x6 x7 P D Z T b al dk gn) (c : Fin 32) (l : Fin 128) (g : Fin 2) (e : Fin 8) (p : Fin 64) :
    val_main_v391 (F := Ideal) x0 x1 x3 x4 (ix5 c l g e p)
      = ((∑ n : Fin 128, act (rows P c) l (1280 + 128 * g + n) * stv P D b al c n (64 * (8 * g + e) + p) : ℝ) : EReal) := by
  have ha := A.v387_eq
  have hb := A.v19_eq
  pointwise [val_main_v391, val_main_v390]
  simp only [ha, hb, ← EReal.coe_mul, coe_sum]
  exact congrArg _ (Finset.sum_congr rfl fun n _ => mul_comm _ _)

theorem v393_eq (A : Args x0 x1 x2 x3 x4 x5 x6 x7 P D Z T b al dk gn) (c : Fin 32) (l : Fin 128) (g : Fin 2) (e : Fin 8) (i : Fin 1) :
    val_main_v393 (F := Ideal) x1 x3 x4 (ix5 c l g e i)
      = ((Real.exp (csv (rows D c) b al l (8 * g + e)) : ℝ) : EReal) := by
  have ha := A.v25_eq
  pointwise [val_main_v393, val_main_v392, val_main_v389]
  rw [ha, Ideal.exp_coe]

theorem v396_eq (A : Args x0 x1 x2 x3 x4 x5 x6 x7 P D Z T b al dk gn) (c : Fin 32) (l : Fin 128) (g : Fin 2) (e : Fin 8) (p : Fin 64) :
    val_main_v396 (F := Ideal) x0 x1 x3 x4 (ix5 c l g e p)
      = ((ydv (rows P c) (rows D c) b al l (64 * (8 * g + e) + p) + yov (rows P c) (rows D c) b al (stv P D b al c) l (64 * (8 * g + e) + p) : ℝ) : EReal) := by
  have ha := A.v40_eq
  have hb := A.v391_eq
  have hc := A.v393_eq
  pointwise [val_main_v396, val_main_v395, val_main_v394]
  rw [ha, hb, hc, ← EReal.coe_mul, ← EReal.coe_add]
  simp only [yov, show (64 * (8 * (g : ℕ) + e) + p) / 64 = 8 * g + e from by omega, show (64 * (8 * (g : ℕ) + e) + p) / 512 = g from by omega]

theorem v403_eq (A : Args x0 x1 x2 x3 x4 x5 x6 x7 P D Z T b al dk gn) (r : Fin 4096) (w : Fin 1024) :
    val_main_v403 (F := Ideal) x0 x1 x3 x4 x5 (ix2 r w)
      = ((chY P D b al dk (r / 128) (r % 128) w : ℝ) : EReal) := by
  have ha := A.v396_eq
  have hb := A.v11_eq
  pointwise [val_main_v403, val_main_v402, val_main_v401, val_main_v400, val_main_v399, val_main_v398, val_main_v397]
  rw [ha, hb, A.h5, ← EReal.coe_mul, ← EReal.coe_add]
  have hw : 64 * ((w : ℕ) / 64) + w % 64 = w := by omega
  have hr : 128 * ((r : ℕ) / 128) + r % 128 = r := by omega
  have h8 : 8 * ((w : ℕ) / 64 / 8) + w / 64 % 8 = w / 64 := by omega
  simp only [h8, hw, chY, yv, act, rows, hr]

theorem v404_2_eq (A : Args x0 x1 x2 x3 x4 x5 x6 x7 P D Z T b al dk gn) (r : Fin 4096) (w : Fin 1024) :
    val_main_v404_2 (F := Ideal) x2 (ix2 r w)
      = ((sigm (Z r w) : ℝ) : EReal) := by
  pointwise [val_main_v404_2, val_main_call5_v0, val_main_call5_v1, val_main_call5_v2, val_main_call5_v3, val_main_call5_v4, val_main_call5_cst, val_main_call5_cst_0]
  rw [A.h2, sigm_coe]

theorem v404_1_eq (A : Args x0 x1 x2 x3 x4 x5 x6 x7 P D Z T b al dk gn) (r : Fin 4096) (w : Fin 1024) :
    val_main_v404_1 (F := Ideal) x2 (ix2 r w)
      = ((sigm (Z r w) * (1 - sigm (Z r w)) : ℝ) : EReal) := by
  have h := A.v404_2_eq
  pointwise [val_main_v404_1, val_main_call5_v7, val_main_call5_v6, val_main_call5_cst_1]
  rw [h, ← EReal.coe_one, ← EReal.coe_sub, ← EReal.coe_mul]

theorem v404_0_eq (A : Args x0 x1 x2 x3 x4 x5 x6 x7 P D Z T b al dk gn) (r : Fin 4096) (w : Fin 1024) :
    val_main_v404_0 (F := Ideal) x2 (ix2 r w)
      = ((Z r w * sigm (Z r w) : ℝ) : EReal) := by
  have h := A.v404_2_eq
  pointwise [val_main_v404_0]
  rw [h, A.h2, ← EReal.coe_mul]

theorem v406_eq (A : Args x0 x1 x2 x3 x4 x5 x6 x7 P D Z T b al dk gn) (r : Fin 4096) (g : Fin 2) (k : Fin 512) :
    val_main_v406 (F := Ideal) x0 x1 x2 x3 x4 x5 (ix3 r g k)
      = ((vbv (chY P D b al dk (r / 128)) (rows Z (r / 128)) (r % 128) (512 * g + k) : ℝ) : EReal) := by
  have h := A.v403_eq
  have h' := A.v404_0_eq
  pointwise [val_main_v406, val_main_v405]
  rw [h, h', ← EReal.coe_mul]
  have hr : 128 * ((r : ℕ) / 128) + r % 128 = r := by omega
  simp only [vbv, rows, hr, mul_comm (g : ℕ) 512]

theorem v413_eq (A : Args x0 x1 x2 x3 x4 x5 x6 x7 P D Z T b al dk gn) (r : Fin 4096) (g : Fin 2) (i : Fin 1) :
    val_main_v413 (F := Ideal) x0 x1 x2 x3 x4 x5 (ix3 r g i)
      = ((msv (vbv (chY P D b al dk (r / 128)) (rows Z (r / 128))) (r % 128) g + eps : ℝ) : EReal) := by
  have h := A.v406_eq
  pointwise [val_main_v413, val_main_v412, val_main_v411, val_main_v410, val_main_v409, val_main_v408, val_main_v407, val_main_cst_3, val_main_cst_4, val_main_cst_5]
  simp only [h, c512, cEps, ← EReal.coe_mul, coe_sum, div_coe_coe (show (512 : ℝ) ≠ 0 by norm_num), ← EReal.coe_add]
  rfl

theorem v414_eq (A : Args x0 x1 x2 x3 x4 x5 x6 x7 P D Z T b al dk gn) (r : Fin 4096) (g : Fin 2) (i : Fin 1) :
    val_main_v414 (F := Ideal) x0 x1 x2 x3 x4 x5 (ix3 r g i)
      = ((rsv (chY P D b al dk (r / 128)) (rows Z (r / 128)) (r % 128) g : ℝ) : EReal) := by
  have h := A.v413_eq
  pointwise [val_main_v414]
  rw [h]
  erw [rsqrt_pos (msv_pos _ _ _)]
  rfl

theorem v417_eq (A : Args x0 x1 x2 x3 x4 x5 x6 x7 P D Z T b al dk gn) (r : Fin 4096) (g : Fin 2) (i : Fin 1) :
    val_main_v417 (F := Ideal) x0 x1 x2 x3 x4 x5 (ix3 r g i)
      = ((-(1 / 2) * (rsv (chY P D b al dk (r / 128)) (rows Z (r / 128)) (r % 128) g / (msv (vbv (chY P D b al dk (r / 128)) (rows Z (r / 128))) (r % 128) g + eps)) : ℝ) : EReal) := by
  have h := A.v414_eq
  have h' := A.v413_eq
  pointwise [val_main_v417, val_main_v416, val_main_v415, val_main_cst_6]
  rw [h, h', div_coe_coe (msv_pos _ _ _).ne', cHalf, ← EReal.coe_mul]

theorem v420_eq (A : Args x0 x1 x2 x3 x4 x5 x6 x7 P D Z T b al dk gn) (r : Fin 4096) (w : Fin 1024) :
    val_main_v420 (F := Ideal) x0 x1 x2 x3 x4 x5 (ix2 r w)
      = ((vhv (chY P D b al dk (r / 128)) (rows Z (r / 128)) (r % 128) w : ℝ) : EReal) := by
  have h := A.v414_eq
  have h' := A.v406_eq
  pointwise [val_main_v420, val_main_v419, val_main_v418]
  rw [h, h', ← EReal.coe_mul]
  have hw : 512 * ((w : ℕ) / 512) + w % 512 = w := by omega
  simp only [vhv, hw]

theorem v430_eq (A : Args x0 x1 x2 x3 x4 x5 x6 x7 P D Z T b al dk gn) (w : Fin 1024) :
    val_main_v430 (F := Ideal) x0 x1 x2 x3 x4 x5 x7 (ix1 w)
      = ((∑ r : Fin 4096, vhv (chY P D b al dk (r / 128)) (rows Z (r / 128)) (r % 128) w * T r w : ℝ) : EReal) := by
  have h := A.v420_eq
  pointwise [val_main_v430, val_main_v427, val_main_v426, val_main_v425, val_main_cst_8, val_main_cst_9]
  simp only [h, A.h7, Fin.sum_univ_one, ← EReal.coe_mul, coe_sum]

theorem v431_eq (A : Args x0 x1 x2 x3 x4 x5 x6 x7 P D Z T b al dk gn) (r : Fin 4096) (g : Fin 2) (k : Fin 512) :
    val_main_v431 (F := Ideal) x6 x7 (ix3 r g k)
      = ((dhv (rows T (r / 128)) gn (r % 128) (512 * g + k) : ℝ) : EReal) := by
  have h7 := A.h7
  have h6 := A.h6
  pointwise [val_main_v431, val_main_v430, val_main_v429, val_main_v428, val_main_v421]
  rw [h6, h7, ← EReal.coe_mul]
  have hr : 128 * ((r : ℕ) / 128) + r % 128 = r := by omega
  simp only [dhv, rows, hr, mul_comm (g : ℕ) 512]

theorem v440_eq (A : Args x0 x1 x2 x3 x4 x5 x6 x7 P D Z T b al dk gn) (r : Fin 4096) (g : Fin 2) :
    val_main_v440 (F := Ideal) x0 x1 x2 x3 x4 x5 x6 x7 (ix2 r g)
      = (((∑ k : Fin 512, vbv (chY P D b al dk (r / 128)) (rows Z (r / 128)) (r % 128) (512 * g + k) * dhv (rows T (r / 128)) gn (r % 128) (512 * g + k))
          * (-(1 / 2) * (rsv (chY P D b al dk (r / 128)) (rows Z (r / 128)) (r % 128) g / (msv (vbv (chY P D b al dk (r / 128)) (rows Z (r / 128))) (r % 128) g + eps))) / 512 : ℝ) : EReal) := by
  have ha := A.v406_eq
  have hb := A.v431_eq
  have hc := A.v417_eq
  pointwise [val_main_v440, val_main_v439, val_main_v438, val_main_v437, val_main_v434, val_main_v433, val_main_v432, val_main_cst_10, val_main_cst_11, val_main_cst_12]
  simp only [ha, hb, hc, c512, Fin.sum_univ_one, ← EReal.coe_mul, coe_sum, div_coe_coe (show (512 : ℝ) ≠ 0 by norm_num)]

theorem v446_eq (A : Args x0 x1 x2 x3 x4 x5 x6 x7 P D Z T b al dk gn) (r : Fin 4096) (w : Fin 1024) :
    val_main_v446 (F := Ideal) x0 x1 x2 x3 x4 x5 x6 x7 (ix2 r w)
      = ((dvv (chY P D b al dk (r / 128)) (rows Z (r / 128)) (rows T (r / 128)) gn (r % 128) w : ℝ) : EReal) := by
  have ha := A.v406_eq
  have hb := A.v431_eq
  have hc := A.v440_eq
  have hd := A.v414_eq
  pointwise [val_main_v446, val_main_v445, val_main_v444, val_main_v443, val_main_v442, val_main_v441, val_main_v436, val_main_v435]
  rw [ha, hb, hc, hd]
  have hw : 512 * ((w : ℕ) / 512) + w % 512 = w := by omega
  simp only [← EReal.coe_mul, ← EReal.coe_add, hw]
  exact congrArg _ (dvv_eq _ _ _ _ _ _).symm

theorem v449_eq (A : Args x0 x1 x2 x3 x4 x5 x6 x7 P D Z T b al dk gn) (r : Fin 4096) (w : Fin 1024) :
    val_main_v449 (F := Ideal) x0 x1 x2 x3 x4 x5 x6 x7 (ix2 r w)
      = ((dzv (chY P D b al dk (r / 128)) (rows Z (r / 128)) (rows T (r / 128)) gn (r % 128) w : ℝ) : EReal) := by
  have ha := A.v446_eq
  have hb := A.v403_eq
  have hc := A.v404_2_eq
  have hd := A.v404_1_eq
  pointwise [val_main_v449, val_main_v447, val_main_call6_v0, val_main_call6_v1, val_main_call6_v2]
  rw [ha, hb, hc, hd, A.h2]
  have hr : 128 * ((r : ℕ) / 128) + r % 128 = r := by omega
  simp only [← EReal.coe_mul, ← EReal.coe_add, dzv, rows, hr]
  refine congrArg _ ?_
  ring

theorem v450_eq (A : Args x0 x1 x2 x3 x4 x5 x6 x7 P D Z T b al dk gn) (r : Fin 4096) (h : Fin 16) (p : Fin 64) :
    val_main_v450 (F := Ideal) x0 x1 x2 x3 x4 x5 x6 x7 (ix3 r h p)
      = ((chF P D Z T b al dk gn (r / 128) (r % 128) (64 * h + p) : ℝ) : EReal) := by
  have ha := A.v446_eq
  have hb := A.v404_0_eq
  pointwise [val_main_v450, val_main_v448]
  rw [ha, hb]
  have hr : 128 * ((r : ℕ) / 128) + r % 128 = r := by omega
  simp only [← EReal.coe_mul, chF, dyv, rows, hr, mul_comm (h : ℕ) 64]

theorem v451_eq (A : Args x0 x1 x2 x3 x4 x5 x6 x7 P D Z T b al dk gn) (r : Fin 4096) (h : Fin 16) (p : Fin 64) :
    val_main_v451 (F := Ideal) x0 x1 x2 x3 x4 x5 x6 x7 (ix3 r h p)
      = ((act P r (64 * h + p) * chF P D Z T b al dk gn (r / 128) (r % 128) (64 * h + p) : ℝ) : EReal) := by
  have ha := A.v450_eq
  have hb := A.v11_eq
  pointwise [val_main_v451]
  rw [ha, hb, ← EReal.coe_mul]

theorem v452_eq (A : Args x0 x1 x2 x3 x4 x5 x6 x7 P D Z T b al dk gn) (h : Fin 16) :
    val_main_v452 (F := Ideal) x0 x1 x2 x3 x4 x5 x6 x7 (ix1 h)
      = ((∑ r : Fin 4096, ∑ p : Fin 64, act P r (64 * h + p) * chF P D Z T b al dk gn (r / 128) (r % 128) (64 * h + p) : ℝ) : EReal) := by
  refine (ValueIdx.hostReduceAdd_apply _ _ _ _ _).trans ((reduce02 _ _ _ h).trans ?_)
  rw [show val_main_cst_13 (F := Ideal) _ = 0 from c0, zero_add]
  simp only [A.v451_eq, coe_sum]

theorem v458_eq (A : Args x0 x1 x2 x3 x4 x5 x6 x7 P D Z T b al dk gn) (h : Fin 16) :
    val_main_v458 (F := Ideal) x0 x1 x2 x3 x4 x5 x6 x7 (ix1 h)
      = ((∑ r : Fin 4096, ∑ p : Fin 64, act P r (64 * h + p) * chF P D Z T b al dk gn (r / 128) (r % 128) (64 * h + p) : ℝ) : EReal) := by
  have e : val_main_v456 (F := Ideal) x0 x1 x2 x3 x4 x5 x6 x7 (ix1 h) = val_main_v452 (F := Ideal) x0 x1 x2 x3 x4 x5 x6 x7 (ix1 h) := by
    refine (ValueIdx.hostReduceAdd_apply _ _ _ _ _).trans ((reduce02 _ _ _ h).trans ?_)
    rw [show val_main_cst_14 (F := Ideal) _ = 0 from c0, zero_add, Fin.sum_univ_one, Fin.sum_univ_one]
    pointwise [val_main_v453]
  have h' := A.v452_eq h
  rw [← e] at h'
  pointwise [val_main_v458, val_main_v457, val_main_cst_15]
  rw [Fin.sum_univ_one]
  exact h'

theorem v455_eq (A : Args x0 x1 x2 x3 x4 x5 x6 x7 P D Z T b al dk gn) (r : Fin 4096) (h : Fin 16) (p : Fin 64) :
    val_main_v455 (F := Ideal) x0 x1 x2 x3 x4 x5 x6 x7 (ix3 r h p)
      = ((chF P D Z T b al dk gn (r / 128) (r % 128) (64 * h + p) * dk h : ℝ) : EReal) := by
  have ha := A.v450_eq
  pointwise [val_main_v455, val_main_v454, val_main_v399, val_main_v398]
  rw [ha, A.h5, ← EReal.coe_mul]

theorem v459_eq (A : Args x0 x1 x2 x3 x4 x5 x6 x7 P D Z T b al dk gn) (c : Fin 32) (l : Fin 128) (g : Fin 2) (e : Fin 8) (p : Fin 64) :
    val_main_v459 (F := Ideal) x0 x1 x2 x3 x4 x5 x6 x7 (ix5 c l g e p)
      = ((chF P D Z T b al dk gn c l (64 * (8 * g + e) + p) : ℝ) : EReal) := by
  have ha := A.v450_eq
  pointwise [val_main_v459]
  rw [ha]
  simp only [show ((c : ℕ) * 128 + l) / 128 = c from by omega, show ((c : ℕ) * 128 + l) % 128 = l from by omega, mul_comm (g : ℕ) 8]

end Args

end Cert.SsdbRefIdeal.Bwd

end
end
-- ==== Proof.SsdbRefS.lean ====
/- The backward scan of the reference of the state-space layer's derivative, read element by element. -/
module

public import proofs.«01_k».proof.Proof.SsdbRefA

@[expose] public section

set_option maxRecDepth 16384

noncomputable section

namespace Cert.SsdbRefIdeal.Bwd

open Cert.SsdbRefIdeal Cert.SsdbRefIdeal.Gen Cert.SsdbRefIdeal.Read Cert.Reals Cert.Ssd Idealize.ShloMosaic
open Cert.SsdRefIdeal.Fwd (c0)

/-- The backward scan's carry, from the decays and what each chunk adds, after `j` chunks from the last. -/
def back (d n : ℕ → EReal) : ℕ → EReal
  | 0 => 0
  | j + 1 => n (31 - j) + back d n j * d (31 - j)

variable {x0 : FVec Ideal S4096x1536 .f32} {x1 : FVec Ideal S4096x128 .f32} {x2 : FVec Ideal S4096x1024 .f32} {x3 x4 x5 : FVec Ideal S16 .f32}
  {x6 : FVec Ideal S1024 .f32} {x7 : FVec Ideal S4096x1024 .f32}

theorem back_eq (c : Fin 32) (g : Fin 2) (e : Fin 8) (p : Fin 64) (n : Fin 128) :
    val_main_v968 (F := Ideal) x0 x1 x2 x3 x4 x5 x6 x7 (ix5 c g e p n)
      = back (fun k => val_main_v388 (F := Ideal) x1 x3 x4 (ix5 (Fin.ofNat 32 k) g e 0 0)) (fun k => val_main_v470 (F := Ideal) x0 x1 x2 x3 x4 x5 x6 x7 (ix5 (Fin.ofNat 32 k) g e p n)) (31 - c) := by
  pointwise [val_main_v968, val_main_v966, val_main_v965, val_main_v964, val_main_v963, val_main_v962, val_main_v961, val_main_v960, val_main_v959, val_main_v958, val_main_v957, val_main_v956, val_main_v955, val_main_v954, val_main_v953, val_main_v952, val_main_v951, val_main_v950, val_main_v949, val_main_v948, val_main_v947, val_main_v946, val_main_v945, val_main_v944, val_main_v943, val_main_v942, val_main_v941, val_main_v940, val_main_v939, val_main_v938, val_main_v937, val_main_v936, val_main_v935, val_main_v934, val_main_v933, val_main_v932, val_main_v481, val_main_v482, val_main_v483, val_main_v484, val_main_v490, val_main_v491, val_main_v492, val_main_v494, val_main_v495, val_main_v496, val_main_v497, val_main_v503, val_main_v504, val_main_v505, val_main_v507, val_main_v508, val_main_v509, val_main_v510, val_main_v516, val_main_v517, val_main_v518, val_main_v520, val_main_v521, val_main_v522, val_main_v523, val_main_v529, val_main_v530, val_main_v531, val_main_v533, val_main_v534, val_main_v535, val_main_v536, val_main_v542, val_main_v543, val_main_v544, val_main_v546, val_main_v547, val_main_v548, val_main_v549, val_main_v555, val_main_v556, val_main_v557, val_main_v559, val_main_v560, val_main_v561, val_main_v562, val_main_v568, val_main_v569, val_main_v570, val_main_v572, val_main_v573, val_main_v574, val_main_v575, val_main_v581, val_main_v582, val_main_v583, val_main_v585, val_main_v586, val_main_v587, val_main_v588, val_main_v594, val_main_v595, val_main_v596, val_main_v598, val_main_v599, val_main_v600, val_main_v601, val_main_v607, val_main_v608, val_main_v609, val_main_v611, val_main_v612, val_main_v613, val_main_v614, val_main_v620, val_main_v621, val_main_v622, val_main_v624, val_main_v625, val_main_v626, val_main_v627, val_main_v633, val_main_v634, val_main_v635, val_main_v637, val_main_v638, val_main_v639, val_main_v640, val_main_v646, val_main_v647, val_main_v648, val_main_v650, val_main_v651, val_main_v652, val_main_v653, val_main_v659, val_main_v660, val_main_v661, val_main_v663, val_main_v664, val_main_v665, val_main_v666, val_main_v672, val_main_v673, val_main_v674, val_main_v676, val_main_v677, val_main_v678, val_main_v679, val_main_v685, val_main_v686, val_main_v687, val_main_v689, val_main_v690, val_main_v691, val_main_v692, val_main_v698, val_main_v699, val_main_v700, val_main_v702, val_main_v703, val_main_v704, val_main_v705, val_main_v711, val_main_v712, val_main_v713, val_main_v715, val_main_v716, val_main_v717, val_main_v718, val_main_v724, val_main_v725, val_main_v726, val_main_v728, val_main_v729, val_main_v730, val_main_v731, val_main_v737, val_main_v738, val_main_v739, val_main_v741, val_main_v742, val_main_v743, val_main_v744, val_main_v750, val_main_v751, val_main_v752, val_main_v754, val_main_v755, val_main_v756, val_main_v757, val_main_v763, val_main_v764, val_main_v765, val_main_v767, val_main_v768, val_main_v769, val_main_v770, val_main_v776, val_main_v777, val_main_v778, val_main_v780, val_main_v781, val_main_v782, val_main_v783, val_main_v789, val_main_v790, val_main_v791, val_main_v793, val_main_v794, val_main_v795, val_main_v796, val_main_v802, val_main_v803, val_main_v804, val_main_v806, val_main_v807, val_main_v808, val_main_v809, val_main_v815, val_main_v816, val_main_v817, val_main_v819, val_main_v820, val_main_v821, val_main_v822, val_main_v828, val_main_v829, val_main_v830, val_main_v832, val_main_v833, val_main_v834, val_main_v835, val_main_v841, val_main_v842, val_main_v843, val_main_v845, val_main_v846, val_main_v847, val_main_v848, val_main_v854, val_main_v855, val_main_v856, val_main_v858, val_main_v859, val_main_v860, val_main_v861, val_main_v867, val_main_v868, val_main_v869, val_main_v871, val_main_v872, val_main_v873, val_main_v874, val_main_v880, val_main_v881, val_main_v882, val_main_v884, val_main_v885, val_main_v886, val_main_v887, val_main_v893, val_main_v894, val_main_v895, val_main_v472, val_main_v473, val_main_v475, val_main_cst_18]
  fin_cases c <;> rfl

/-- The sum of a state over its columns and rows. -/
theorem sum_state (u : FVec Ideal S2x8x64x128 .f32) (g : Fin 2) (e : Fin 8) :
    Host.reduceAdd (shapeCast S2x8x1x1 (Host.reduceAdd u (constant S_ .f32 0x00000000#32) reducesTo_S2x8x64x128_S2x8_d2_3 h_S_) shapeCasts_S2x8_S2x8x1x1)
      (constant S_ .f32 0x00000000#32) reducesTo_S2x8x1x1_S2x8_d2_3 h_S_ (ix2 g e) = ∑ p : Fin 64, ∑ n : Fin 128, u (ix4 g e p n) := by
  pointwise []
  simp only [Fin.sum_univ_one]

theorem after_eq (c : Fin 32) (g : Fin 2) (e : Fin 8) (p : Fin 64) (n : Fin 128) : val_main_v968 (F := Ideal) x0 x1 x2 x3 x4 x5 x6 x7 (ix5 c g e p n)
      = (![val_main_v882 (F := Ideal) x0 x1 x2 x3 x4 x5 x6 x7, val_main_v869 (F := Ideal) x0 x1 x2 x3 x4 x5 x6 x7, val_main_v856 (F := Ideal) x0 x1 x2 x3 x4 x5 x6 x7, val_main_v843 (F := Ideal) x0 x1 x2 x3 x4 x5 x6 x7, val_main_v830 (F := Ideal) x0 x1 x2 x3 x4 x5 x6 x7, val_main_v817 (F := Ideal) x0 x1 x2 x3 x4 x5 x6 x7, val_main_v804 (F := Ideal) x0 x1 x2 x3 x4 x5 x6 x7, val_main_v791 (F := Ideal) x0 x1 x2 x3 x4 x5 x6 x7, val_main_v778 (F := Ideal) x0 x1 x2 x3 x4 x5 x6 x7, val_main_v765 (F := Ideal) x0 x1 x2 x3 x4 x5 x6 x7, val_main_v752 (F := Ideal) x0 x1 x2 x3 x4 x5 x6 x7, val_main_v739 (F := Ideal) x0 x1 x2 x3 x4 x5 x6 x7, val_main_v726 (F := Ideal) x0 x1 x2 x3 x4 x5 x6 x7, val_main_v713 (F := Ideal) x0 x1 x2 x3 x4 x5 x6 x7, val_main_v700 (F := Ideal) x0 x1 x2 x3 x4 x5 x6 x7, val_main_v687 (F := Ideal) x0 x1 x2 x3 x4 x5 x6 x7, val_main_v674 (F := Ideal) x0 x1 x2 x3 x4 x5 x6 x7, val_main_v661 (F := Ideal) x0 x1 x2 x3 x4 x5 x6 x7, val_main_v648 (F := Ideal) x0 x1 x2 x3 x4 x5 x6 x7, val_main_v635 (F := Ideal) x0 x1 x2 x3 x4 x5 x6 x7, val_main_v622 (F := Ideal) x0 x1 x2 x3 x4 x5 x6 x7, val_main_v609 (F := Ideal) x0 x1 x2 x3 x4 x5 x6 x7, val_main_v596 (F := Ideal) x0 x1 x2 x3 x4 x5 x6 x7, val_main_v583 (F := Ideal) x0 x1 x2 x3 x4 x5 x6 x7, val_main_v570 (F := Ideal) x0 x1 x2 x3 x4 x5 x6 x7, val_main_v557 (F := Ideal) x0 x1 x2 x3 x4 x5 x6 x7, val_main_v544 (F := Ideal) x0 x1 x2 x3 x4 x5 x6 x7, val_main_v531 (F := Ideal) x0 x1 x2 x3 x4 x5 x6 x7, val_main_v518 (F := Ideal) x0 x1 x2 x3 x4 x5 x6 x7, val_main_v505 (F := Ideal) x0 x1 x2 x3 x4 x5 x6 x7, val_main_v492 (F := Ideal) x0 x1 x2 x3 x4 x5 x6 x7, val_main_v472 (F := Ideal)] : Fin 32 → FVec Ideal S2x8x64x128 .f32) c (ix4 g e p n) := by
  pointwise [val_main_v968, val_main_v966, val_main_v965, val_main_v964, val_main_v963, val_main_v962, val_main_v961, val_main_v960, val_main_v959, val_main_v958, val_main_v957, val_main_v956, val_main_v955, val_main_v954, val_main_v953, val_main_v952, val_main_v951, val_main_v950, val_main_v949, val_main_v948, val_main_v947, val_main_v946, val_main_v945, val_main_v944, val_main_v943, val_main_v942, val_main_v941, val_main_v940, val_main_v939, val_main_v938, val_main_v937, val_main_v936, val_main_v935, val_main_v934, val_main_v933, val_main_v932]
  fin_cases c <;> rfl

theorem decays_eq (c : Fin 32) (g : Fin 2) (e : Fin 8) :
    val_main_v967 (F := Ideal) x0 x1 x2 x3 x4 x5 x6 x7 (ix3 c g e) = (![val_main_v896 (F := Ideal) x0 x1 x2 x3 x4 x5 x6 x7, val_main_v883 (F := Ideal) x0 x1 x2 x3 x4 x5 x6 x7, val_main_v870 (F := Ideal) x0 x1 x2 x3 x4 x5 x6 x7, val_main_v857 (F := Ideal) x0 x1 x2 x3 x4 x5 x6 x7, val_main_v844 (F := Ideal) x0 x1 x2 x3 x4 x5 x6 x7, val_main_v831 (F := Ideal) x0 x1 x2 x3 x4 x5 x6 x7, val_main_v818 (F := Ideal) x0 x1 x2 x3 x4 x5 x6 x7, val_main_v805 (F := Ideal) x0 x1 x2 x3 x4 x5 x6 x7, val_main_v792 (F := Ideal) x0 x1 x2 x3 x4 x5 x6 x7, val_main_v779 (F := Ideal) x0 x1 x2 x3 x4 x5 x6 x7, val_main_v766 (F := Ideal) x0 x1 x2 x3 x4 x5 x6 x7, val_main_v753 (F := Ideal) x0 x1 x2 x3 x4 x5 x6 x7, val_main_v740 (F := Ideal) x0 x1 x2 x3 x4 x5 x6 x7, val_main_v727 (F := Ideal) x0 x1 x2 x3 x4 x5 x6 x7, val_main_v714 (F := Ideal) x0 x1 x2 x3 x4 x5 x6 x7, val_main_v701 (F := Ideal) x0 x1 x2 x3 x4 x5 x6 x7, val_main_v688 (F := Ideal) x0 x1 x2 x3 x4 x5 x6 x7, val_main_v675 (F := Ideal) x0 x1 x2 x3 x4 x5 x6 x7, val_main_v662 (F := Ideal) x0 x1 x2 x3 x4 x5 x6 x7, val_main_v649 (F := Ideal) x0 x1 x2 x3 x4 x5 x6 x7, val_main_v636 (F := Ideal) x0 x1 x2 x3 x4 x5 x6 x7, val_main_v623 (F := Ideal) x0 x1 x2 x3 x4 x5 x6 x7, val_main_v610 (F := Ideal) x0 x1 x2 x3 x4 x5 x6 x7, val_main_v597 (F := Ideal) x0 x1 x2 x3 x4 x5 x6 x7, val_main_v584 (F := Ideal) x0 x1 x2 x3 x4 x5 x6 x7, val_main_v571 (F := Ideal) x0 x1 x2 x3 x4 x5 x6 x7, val_main_v558 (F := Ideal) x0 x1 x2 x3 x4 x5 x6 x7, val_main_v545 (F := Ideal) x0 x1 x2 x3 x4 x5 x6 x7, val_main_v532 (F := Ideal) x0 x1 x2 x3 x4 x5 x6 x7, val_main_v519 (F := Ideal) x0 x1 x2 x3 x4 x5 x6 x7, val_main_v506 (F := Ideal) x0 x1 x2 x3 x4 x5 x6 x7, val_main_v493 (F := Ideal) x0 x1 x3 x4] : Fin 32 → FVec Ideal S2x8 .f32) c (ix2 g e) := by
  pointwise [val_main_v967, val_main_v931, val_main_v930, val_main_v929, val_main_v928, val_main_v927, val_main_v926, val_main_v925, val_main_v924, val_main_v923, val_main_v922, val_main_v921, val_main_v920, val_main_v919, val_main_v918, val_main_v917, val_main_v916, val_main_v915, val_main_v914, val_main_v913, val_main_v912, val_main_v911, val_main_v910, val_main_v909, val_main_v908, val_main_v907, val_main_v906, val_main_v905, val_main_v904, val_main_v903, val_main_v902, val_main_v901, val_main_v900, val_main_v899, val_main_v898, val_main_v897]
  fin_cases c <;> rfl

theorem before_eq (c : Fin 32) (g : Fin 2) (e : Fin 8) (p : Fin 64) (n : Fin 128) :
    (![val_main_v889 (F := Ideal) x0 x1 x3 x4, val_main_v876 (F := Ideal) x0 x1 x3 x4, val_main_v863 (F := Ideal) x0 x1 x3 x4, val_main_v850 (F := Ideal) x0 x1 x3 x4, val_main_v837 (F := Ideal) x0 x1 x3 x4, val_main_v824 (F := Ideal) x0 x1 x3 x4, val_main_v811 (F := Ideal) x0 x1 x3 x4, val_main_v798 (F := Ideal) x0 x1 x3 x4, val_main_v785 (F := Ideal) x0 x1 x3 x4, val_main_v772 (F := Ideal) x0 x1 x3 x4, val_main_v759 (F := Ideal) x0 x1 x3 x4, val_main_v746 (F := Ideal) x0 x1 x3 x4, val_main_v733 (F := Ideal) x0 x1 x3 x4, val_main_v720 (F := Ideal) x0 x1 x3 x4, val_main_v707 (F := Ideal) x0 x1 x3 x4, val_main_v694 (F := Ideal) x0 x1 x3 x4, val_main_v681 (F := Ideal) x0 x1 x3 x4, val_main_v668 (F := Ideal) x0 x1 x3 x4, val_main_v655 (F := Ideal) x0 x1 x3 x4, val_main_v642 (F := Ideal) x0 x1 x3 x4, val_main_v629 (F := Ideal) x0 x1 x3 x4, val_main_v616 (F := Ideal) x0 x1 x3 x4, val_main_v603 (F := Ideal) x0 x1 x3 x4, val_main_v590 (F := Ideal) x0 x1 x3 x4, val_main_v577 (F := Ideal) x0 x1 x3 x4, val_main_v564 (F := Ideal) x0 x1 x3 x4, val_main_v551 (F := Ideal) x0 x1 x3 x4, val_main_v538 (F := Ideal) x0 x1 x3 x4, val_main_v525 (F := Ideal) x0 x1 x3 x4, val_main_v512 (F := Ideal) x0 x1 x3 x4, val_main_v499 (F := Ideal) x0 x1 x3 x4, val_main_v486 (F := Ideal) x0 x1 x3 x4] : Fin 32 → FVec Ideal S2x8x64x128 .f32) c (ix4 g e p n) = val_main_v477 (F := Ideal) x0 x1 x3 x4 (ix5 c g e p n) := by
  fin_cases c <;> simp only [Fin.reduceFinMk, Matrix.cons_val] <;>
  pointwise [val_main_v485, val_main_v486, val_main_v498, val_main_v499, val_main_v511, val_main_v512, val_main_v524, val_main_v525, val_main_v537, val_main_v538, val_main_v550, val_main_v551, val_main_v563, val_main_v564, val_main_v576, val_main_v577, val_main_v589, val_main_v590, val_main_v602, val_main_v603, val_main_v615, val_main_v616, val_main_v628, val_main_v629, val_main_v641, val_main_v642, val_main_v654, val_main_v655, val_main_v667, val_main_v668, val_main_v680, val_main_v681, val_main_v693, val_main_v694, val_main_v706, val_main_v707, val_main_v719, val_main_v720, val_main_v732, val_main_v733, val_main_v745, val_main_v746, val_main_v758, val_main_v759, val_main_v771, val_main_v772, val_main_v784, val_main_v785, val_main_v797, val_main_v798, val_main_v810, val_main_v811, val_main_v823, val_main_v824, val_main_v836, val_main_v837, val_main_v849, val_main_v850, val_main_v862, val_main_v863, val_main_v875, val_main_v876, val_main_v888, val_main_v889]

theorem sums_eq (c : Fin 32) (g : Fin 2) (e : Fin 8) :
    (![val_main_v896 (F := Ideal) x0 x1 x2 x3 x4 x5 x6 x7, val_main_v883 (F := Ideal) x0 x1 x2 x3 x4 x5 x6 x7, val_main_v870 (F := Ideal) x0 x1 x2 x3 x4 x5 x6 x7, val_main_v857 (F := Ideal) x0 x1 x2 x3 x4 x5 x6 x7, val_main_v844 (F := Ideal) x0 x1 x2 x3 x4 x5 x6 x7, val_main_v831 (F := Ideal) x0 x1 x2 x3 x4 x5 x6 x7, val_main_v818 (F := Ideal) x0 x1 x2 x3 x4 x5 x6 x7, val_main_v805 (F := Ideal) x0 x1 x2 x3 x4 x5 x6 x7, val_main_v792 (F := Ideal) x0 x1 x2 x3 x4 x5 x6 x7, val_main_v779 (F := Ideal) x0 x1 x2 x3 x4 x5 x6 x7, val_main_v766 (F := Ideal) x0 x1 x2 x3 x4 x5 x6 x7, val_main_v753 (F := Ideal) x0 x1 x2 x3 x4 x5 x6 x7, val_main_v740 (F := Ideal) x0 x1 x2 x3 x4 x5 x6 x7, val_main_v727 (F := Ideal) x0 x1 x2 x3 x4 x5 x6 x7, val_main_v714 (F := Ideal) x0 x1 x2 x3 x4 x5 x6 x7, val_main_v701 (F := Ideal) x0 x1 x2 x3 x4 x5 x6 x7, val_main_v688 (F := Ideal) x0 x1 x2 x3 x4 x5 x6 x7, val_main_v675 (F := Ideal) x0 x1 x2 x3 x4 x5 x6 x7, val_main_v662 (F := Ideal) x0 x1 x2 x3 x4 x5 x6 x7, val_main_v649 (F := Ideal) x0 x1 x2 x3 x4 x5 x6 x7, val_main_v636 (F := Ideal) x0 x1 x2 x3 x4 x5 x6 x7, val_main_v623 (F := Ideal) x0 x1 x2 x3 x4 x5 x6 x7, val_main_v610 (F := Ideal) x0 x1 x2 x3 x4 x5 x6 x7, val_main_v597 (F := Ideal) x0 x1 x2 x3 x4 x5 x6 x7, val_main_v584 (F := Ideal) x0 x1 x2 x3 x4 x5 x6 x7, val_main_v571 (F := Ideal) x0 x1 x2 x3 x4 x5 x6 x7, val_main_v558 (F := Ideal) x0 x1 x2 x3 x4 x5 x6 x7, val_main_v545 (F := Ideal) x0 x1 x2 x3 x4 x5 x6 x7, val_main_v532 (F := Ideal) x0 x1 x2 x3 x4 x5 x6 x7, val_main_v519 (F := Ideal) x0 x1 x2 x3 x4 x5 x6 x7, val_main_v506 (F := Ideal) x0 x1 x2 x3 x4 x5 x6 x7, val_main_v493 (F := Ideal) x0 x1 x3 x4] : Fin 32 → FVec Ideal S2x8 .f32) c (ix2 g e)
      = ∑ p : Fin 64, ∑ n : Fin 128, (![val_main_v889 (F := Ideal) x0 x1 x3 x4, val_main_v876 (F := Ideal) x0 x1 x3 x4, val_main_v863 (F := Ideal) x0 x1 x3 x4, val_main_v850 (F := Ideal) x0 x1 x3 x4, val_main_v837 (F := Ideal) x0 x1 x3 x4, val_main_v824 (F := Ideal) x0 x1 x3 x4, val_main_v811 (F := Ideal) x0 x1 x3 x4, val_main_v798 (F := Ideal) x0 x1 x3 x4, val_main_v785 (F := Ideal) x0 x1 x3 x4, val_main_v772 (F := Ideal) x0 x1 x3 x4, val_main_v759 (F := Ideal) x0 x1 x3 x4, val_main_v746 (F := Ideal) x0 x1 x3 x4, val_main_v733 (F := Ideal) x0 x1 x3 x4, val_main_v720 (F := Ideal) x0 x1 x3 x4, val_main_v707 (F := Ideal) x0 x1 x3 x4, val_main_v694 (F := Ideal) x0 x1 x3 x4, val_main_v681 (F := Ideal) x0 x1 x3 x4, val_main_v668 (F := Ideal) x0 x1 x3 x4, val_main_v655 (F := Ideal) x0 x1 x3 x4, val_main_v642 (F := Ideal) x0 x1 x3 x4, val_main_v629 (F := Ideal) x0 x1 x3 x4, val_main_v616 (F := Ideal) x0 x1 x3 x4, val_main_v603 (F := Ideal) x0 x1 x3 x4, val_main_v590 (F := Ideal) x0 x1 x3 x4, val_main_v577 (F := Ideal) x0 x1 x3 x4, val_main_v564 (F := Ideal) x0 x1 x3 x4, val_main_v551 (F := Ideal) x0 x1 x3 x4, val_main_v538 (F := Ideal) x0 x1 x3 x4, val_main_v525 (F := Ideal) x0 x1 x3 x4, val_main_v512 (F := Ideal) x0 x1 x3 x4, val_main_v499 (F := Ideal) x0 x1 x3 x4, val_main_v486 (F := Ideal) x0 x1 x3 x4] : Fin 32 → FVec Ideal S2x8x64x128 .f32) c (ix4 g e p n) * (![val_main_v882 (F := Ideal) x0 x1 x2 x3 x4 x5 x6 x7, val_main_v869 (F := Ideal) x0 x1 x2 x3 x4 x5 x6 x7, val_main_v856 (F := Ideal) x0 x1 x2 x3 x4 x5 x6 x7, val_main_v843 (F := Ideal) x0 x1 x2 x3 x4 x5 x6 x7, val_main_v830 (F := Ideal) x0 x1 x2 x3 x4 x5 x6 x7, val_main_v817 (F := Ideal) x0 x1 x2 x3 x4 x5 x6 x7, val_main_v804 (F := Ideal) x0 x1 x2 x3 x4 x5 x6 x7, val_main_v791 (F := Ideal) x0 x1 x2 x3 x4 x5 x6 x7, val_main_v778 (F := Ideal) x0 x1 x2 x3 x4 x5 x6 x7, val_main_v765 (F := Ideal) x0 x1 x2 x3 x4 x5 x6 x7, val_main_v752 (F := Ideal) x0 x1 x2 x3 x4 x5 x6 x7, val_main_v739 (F := Ideal) x0 x1 x2 x3 x4 x5 x6 x7, val_main_v726 (F := Ideal) x0 x1 x2 x3 x4 x5 x6 x7, val_main_v713 (F := Ideal) x0 x1 x2 x3 x4 x5 x6 x7, val_main_v700 (F := Ideal) x0 x1 x2 x3 x4 x5 x6 x7, val_main_v687 (F := Ideal) x0 x1 x2 x3 x4 x5 x6 x7, val_main_v674 (F := Ideal) x0 x1 x2 x3 x4 x5 x6 x7, val_main_v661 (F := Ideal) x0 x1 x2 x3 x4 x5 x6 x7, val_main_v648 (F := Ideal) x0 x1 x2 x3 x4 x5 x6 x7, val_main_v635 (F := Ideal) x0 x1 x2 x3 x4 x5 x6 x7, val_main_v622 (F := Ideal) x0 x1 x2 x3 x4 x5 x6 x7, val_main_v609 (F := Ideal) x0 x1 x2 x3 x4 x5 x6 x7, val_main_v596 (F := Ideal) x0 x1 x2 x3 x4 x5 x6 x7, val_main_v583 (F := Ideal) x0 x1 x2 x3 x4 x5 x6 x7, val_main_v570 (F := Ideal) x0 x1 x2 x3 x4 x5 x6 x7, val_main_v557 (F := Ideal) x0 x1 x2 x3 x4 x5 x6 x7, val_main_v544 (F := Ideal) x0 x1 x2 x3 x4 x5 x6 x7, val_main_v531 (F := Ideal) x0 x1 x2 x3 x4 x5 x6 x7, val_main_v518 (F := Ideal) x0 x1 x2 x3 x4 x5 x6 x7, val_main_v505 (F := Ideal) x0 x1 x2 x3 x4 x5 x6 x7, val_main_v492 (F := Ideal) x0 x1 x2 x3 x4 x5 x6 x7, val_main_v472 (F := Ideal)] : Fin 32 → FVec Ideal S2x8x64x128 .f32) c (ix4 g e p n) := by
  refine Eq.trans ?_ (sum_state (mulf ((![val_main_v889 (F := Ideal) x0 x1 x3 x4, val_main_v876 (F := Ideal) x0 x1 x3 x4, val_main_v863 (F := Ideal) x0 x1 x3 x4, val_main_v850 (F := Ideal) x0 x1 x3 x4, val_main_v837 (F := Ideal) x0 x1 x3 x4, val_main_v824 (F := Ideal) x0 x1 x3 x4, val_main_v811 (F := Ideal) x0 x1 x3 x4, val_main_v798 (F := Ideal) x0 x1 x3 x4, val_main_v785 (F := Ideal) x0 x1 x3 x4, val_main_v772 (F := Ideal) x0 x1 x3 x4, val_main_v759 (F := Ideal) x0 x1 x3 x4, val_main_v746 (F := Ideal) x0 x1 x3 x4, val_main_v733 (F := Ideal) x0 x1 x3 x4, val_main_v720 (F := Ideal) x0 x1 x3 x4, val_main_v707 (F := Ideal) x0 x1 x3 x4, val_main_v694 (F := Ideal) x0 x1 x3 x4, val_main_v681 (F := Ideal) x0 x1 x3 x4, val_main_v668 (F := Ideal) x0 x1 x3 x4, val_main_v655 (F := Ideal) x0 x1 x3 x4, val_main_v642 (F := Ideal) x0 x1 x3 x4, val_main_v629 (F := Ideal) x0 x1 x3 x4, val_main_v616 (F := Ideal) x0 x1 x3 x4, val_main_v603 (F := Ideal) x0 x1 x3 x4, val_main_v590 (F := Ideal) x0 x1 x3 x4, val_main_v577 (F := Ideal) x0 x1 x3 x4, val_main_v564 (F := Ideal) x0 x1 x3 x4, val_main_v551 (F := Ideal) x0 x1 x3 x4, val_main_v538 (F := Ideal) x0 x1 x3 x4, val_main_v525 (F := Ideal) x0 x1 x3 x4, val_main_v512 (F := Ideal) x0 x1 x3 x4, val_main_v499 (F := Ideal) x0 x1 x3 x4, val_main_v486 (F := Ideal) x0 x1 x3 x4] : Fin 32 → FVec Ideal S2x8x64x128 .f32) c) ((![val_main_v882 (F := Ideal) x0 x1 x2 x3 x4 x5 x6 x7, val_main_v869 (F := Ideal) x0 x1 x2 x3 x4 x5 x6 x7, val_main_v856 (F := Ideal) x0 x1 x2 x3 x4 x5 x6 x7, val_main_v843 (F := Ideal) x0 x1 x2 x3 x4 x5 x6 x7, val_main_v830 (F := Ideal) x0 x1 x2 x3 x4 x5 x6 x7, val_main_v817 (F := Ideal) x0 x1 x2 x3 x4 x5 x6 x7, val_main_v804 (F := Ideal) x0 x1 x2 x3 x4 x5 x6 x7, val_main_v791 (F := Ideal) x0 x1 x2 x3 x4 x5 x6 x7, val_main_v778 (F := Ideal) x0 x1 x2 x3 x4 x5 x6 x7, val_main_v765 (F := Ideal) x0 x1 x2 x3 x4 x5 x6 x7, val_main_v752 (F := Ideal) x0 x1 x2 x3 x4 x5 x6 x7, val_main_v739 (F := Ideal) x0 x1 x2 x3 x4 x5 x6 x7, val_main_v726 (F := Ideal) x0 x1 x2 x3 x4 x5 x6 x7, val_main_v713 (F := Ideal) x0 x1 x2 x3 x4 x5 x6 x7, val_main_v700 (F := Ideal) x0 x1 x2 x3 x4 x5 x6 x7, val_main_v687 (F := Ideal) x0 x1 x2 x3 x4 x5 x6 x7, val_main_v674 (F := Ideal) x0 x1 x2 x3 x4 x5 x6 x7, val_main_v661 (F := Ideal) x0 x1 x2 x3 x4 x5 x6 x7, val_main_v648 (F := Ideal) x0 x1 x2 x3 x4 x5 x6 x7, val_main_v635 (F := Ideal) x0 x1 x2 x3 x4 x5 x6 x7, val_main_v622 (F := Ideal) x0 x1 x2 x3 x4 x5 x6 x7, val_main_v609 (F := Ideal) x0 x1 x2 x3 x4 x5 x6 x7, val_main_v596 (F := Ideal) x0 x1 x2 x3 x4 x5 x6 x7, val_main_v583 (F := Ideal) x0 x1 x2 x3 x4 x5 x6 x7, val_main_v570 (F := Ideal) x0 x1 x2 x3 x4 x5 x6 x7, val_main_v557 (F := Ideal) x0 x1 x2 x3 x4 x5 x6 x7, val_main_v544 (F := Ideal) x0 x1 x2 x3 x4 x5 x6 x7, val_main_v531 (F := Ideal) x0 x1 x2 x3 x4 x5 x6 x7, val_main_v518 (F := Ideal) x0 x1 x2 x3 x4 x5 x6 x7, val_main_v505 (F := Ideal) x0 x1 x2 x3 x4 x5 x6 x7, val_main_v492 (F := Ideal) x0 x1 x2 x3 x4 x5 x6 x7, val_main_v472 (F := Ideal)] : Fin 32 → FVec Ideal S2x8x64x128 .f32) c)) g e)
  fin_cases c <;> rfl

theorem decay_eq (c : Fin 32) (g : Fin 2) (e : Fin 8) :
    val_main_v967 (F := Ideal) x0 x1 x2 x3 x4 x5 x6 x7 (ix3 c g e)
      = ∑ p : Fin 64, ∑ n : Fin 128, val_main_v387 (F := Ideal) x0 x1 x3 x4 (ix5 c g e p n) * val_main_v968 (F := Ideal) x0 x1 x2 x3 x4 x5 x6 x7 (ix5 c g e p n) := by
  rw [decays_eq, sums_eq]
  simp only [before_eq, ← after_eq]
  refine Finset.sum_congr rfl fun p _ => Finset.sum_congr rfl fun n _ => congrArg (· * _) ?_
  pointwise [val_main_v477]

end Cert.SsdbRefIdeal.Bwd

end
end
-- ==== Proof.SsdbRefB.lean ====
/- The backward lines of the reference of the state-space layer's derivative, down to the cotangents of the running sums
   of the decays' logarithms, read element by element on finite arguments. -/
module

public import proofs.«01_k».proof.Proof.SsdbRefS

@[expose] public section

set_option maxRecDepth 16384

noncomputable section

namespace Cert.SsdbRefIdeal.Bwd

open Cert.SsdbRefIdeal Cert.SsdbRefIdeal.Gen Cert.SsdbRefIdeal.Read Cert.Reals Cert.Ssd Idealize.ShloMosaic
open Cert.SsdRefIdeal.Fwd (c0)

/-- A sum over the heads of a group and a head's columns is one over the group's columns. -/
theorem sum_heads (g : ℕ) (f : ℕ → ℝ) : ∑ e : Fin 8, ∑ p : Fin 64, f (64 * (8 * g + e) + p) = ∑ k : Fin 512, f (512 * g + k) := by
  rw [← Finset.sum_product' Finset.univ Finset.univ (fun (e : Fin 8) (p : Fin 64) => f (64 * (8 * g + e) + p))]
  refine Finset.sum_nbij' (i := fun q : Fin 8 × Fin 64 => (⟨64 * q.1 + q.2, by omega⟩ : Fin 512))
    (j := fun k : Fin 512 => ((⟨(k : ℕ) / 64, by omega⟩ : Fin 8), (⟨(k : ℕ) % 64, by omega⟩ : Fin 64))) ?_ ?_ ?_ ?_ ?_
  · intro q _; exact Finset.mem_univ _
  · intro k _; exact Finset.mem_product.2 ⟨Finset.mem_univ _, Finset.mem_univ _⟩
  · intro q _
    have := q.2.isLt
    exact Prod.ext (Fin.ext (by show (64 * (q.1 : ℕ) + q.2) / 64 = q.1; omega)) (Fin.ext (by show (64 * (q.1 : ℕ) + q.2) % 64 = q.2; omega))
  · intro k _; exact Fin.ext (by show 64 * ((k : ℕ) / 64) + k % 64 = k; omega)
  · intro q _; exact congrArg f (by show 64 * (8 * g + (q.1 : ℕ)) + q.2 = 512 * g + (64 * q.1 + q.2); ring)

variable {x0 : FVec Ideal S4096x1536 .f32} {x1 : FVec Ideal S4096x128 .f32} {x2 : FVec Ideal S4096x1024 .f32} {x3 x4 x5 : FVec Ideal S16 .f32}
  {x6 : FVec Ideal S1024 .f32} {x7 : FVec Ideal S4096x1024 .f32} {P D Z T : ℕ → ℕ → ℝ} {b al dk gn : ℕ → ℝ}

namespace Args

theorem v464_eq (A : Args x0 x1 x2 x3 x4 x5 x6 x7 P D Z T b al dk gn) (c : Fin 32) (l : Fin 128) (g : Fin 2) (e : Fin 8) (p : Fin 64) :
    val_main_v464 (F := Ideal) x0 x1 x2 x3 x4 x5 x6 x7 (ix5 c l g e p)
      = ((dnv (rows D c) b al (chF P D Z T b al dk gn c) l (64 * (8 * g + e) + p) : ℝ) : EReal) := by
  have ha := A.v459_eq
  have hb := A.v393_eq
  pointwise [val_main_v464, val_main_v463]
  rw [ha, hb, ← EReal.coe_mul]
  simp only [dnv, show (64 * (8 * (g : ℕ) + e) + p) / 64 = 8 * g + e from by omega]

theorem v471_eq (A : Args x0 x1 x2 x3 x4 x5 x6 x7 P D Z T b al dk gn) (g : Fin 2) (e : Fin 8) (c : Fin 32) (l : Fin 128) :
    val_main_v471 (F := Ideal) x0 x1 x2 x3 x4 x5 x6 x7 (ix4 g e c l)
      = ((∑ p : Fin 64, (chF P D Z T b al dk gn c) l (64 * (8 * g + e) + p) * yov (rows P c) (rows D c) b al (stv P D b al c) l (64 * (8 * g + e) + p) : ℝ) : EReal) := by
  have ha := A.v459_eq
  have hb := A.v391_eq
  have hc := A.v25_eq
  pointwise [val_main_v471, val_main_v466, val_main_v465, val_main_v462, val_main_v461, val_main_v460, val_main_v389, val_main_cst_16, val_main_cst_17]
  simp only [ha, hb, hc, Ideal.exp_coe, Fin.sum_univ_one, ← EReal.coe_mul, coe_sum]
  rw [Finset.sum_mul]
  refine congrArg _ (Finset.sum_congr rfl fun p _ => ?_)
  simp only [yov, show (64 * (8 * (g : ℕ) + e) + p) / 64 = 8 * g + e from by omega, show (64 * (8 * (g : ℕ) + e) + p) / 512 = g from by omega]
  ring

theorem v469_eq (A : Args x0 x1 x2 x3 x4 x5 x6 x7 P D Z T b al dk gn) (c : Fin 32) (l : Fin 128) (g : Fin 2) (n : Fin 128) :
    val_main_v469 (F := Ideal) x0 x1 x2 x3 x4 x5 x6 x7 (ix4 c l g n)
      = ((∑ k : Fin 512, dnv (rows D c) b al (chF P D Z T b al dk gn c) l (512 * g + k) * stv P D b al c n (512 * g + k) : ℝ) : EReal) := by
  have ha := A.v464_eq
  have hb := A.v387_eq
  pointwise [val_main_v469, val_main_v468, val_main_v467]
  simp only [ha, hb, ← EReal.coe_mul, coe_sum]
  exact congrArg _ (sum_heads g fun w => dnv (rows D c) b al (chF P D Z T b al dk gn c) l w * stv P D b al c n w)

theorem v470_eq (A : Args x0 x1 x2 x3 x4 x5 x6 x7 P D Z T b al dk gn) (c : Fin 32) (g : Fin 2) (e : Fin 8) (p : Fin 64) (n : Fin 128) :
    val_main_v470 (F := Ideal) x0 x1 x2 x3 x4 x5 x6 x7 (ix5 c g e p n)
      = ((∑ l : Fin 128, act (rows P c) l (1280 + 128 * g + n) * dnv (rows D c) b al (chF P D Z T b al dk gn c) l (64 * (8 * g + e) + p) : ℝ) : EReal) := by
  have ha := A.v464_eq
  have hb := A.v19_eq
  pointwise [val_main_v470, val_main_v467]
  simp only [ha, hb, ← EReal.coe_mul, coe_sum]
  exact congrArg _ (Finset.sum_congr rfl fun l _ => mul_comm _ _)

theorem v968_eq (A : Args x0 x1 x2 x3 x4 x5 x6 x7 P D Z T b al dk gn) (c : Fin 32) (g : Fin 2) (e : Fin 8) (p : Fin 64) (n : Fin 128) :
    val_main_v968 (F := Ideal) x0 x1 x2 x3 x4 x5 x6 x7 (ix5 c g e p n)
      = ((dsv P D b al (chF P D Z T b al dk gn) (31 - c) n (64 * (8 * g + e) + p) : ℝ) : EReal) := by
  rw [back_eq]
  have key : ∀ j : ℕ, j < 32 → back (fun k => val_main_v388 (F := Ideal) x1 x3 x4 (ix5 (Fin.ofNat 32 k) g e 0 0)) (fun k => val_main_v470 (F := Ideal) x0 x1 x2 x3 x4 x5 x6 x7 (ix5 (Fin.ofNat 32 k) g e p n)) j
      = ((dsv P D b al (chF P D Z T b al dk gn) j n (64 * (8 * g + e) + p) : ℝ) : EReal) := by
    intro j hj
    induction j with
    | zero => rfl
    | succ j ih =>
      have hm : ((Fin.ofNat 32 (31 - j) : Fin 32) : ℕ) = 31 - j := Nat.mod_eq_of_lt (by omega)
      show val_main_v470 (F := Ideal) x0 x1 x2 x3 x4 x5 x6 x7 (ix5 (Fin.ofNat 32 (31 - j)) g e p n) + back _ _ j * val_main_v388 (F := Ideal) x1 x3 x4 (ix5 (Fin.ofNat 32 (31 - j)) g e 0 0) = _
      rw [ih (by omega), A.v388_eq, A.v470_eq, hm, ← EReal.coe_mul, ← EReal.coe_add, add_comm]
      simp only [dsv, prevv, show (64 * (8 * (g : ℕ) + e) + p) / 64 = 8 * g + e from by omega, show (64 * (8 * (g : ℕ) + e) + p) / 512 = g from by omega]
  exact key _ (by omega)

theorem v970_eq (A : Args x0 x1 x2 x3 x4 x5 x6 x7 P D Z T b al dk gn) (g : Fin 2) (e : Fin 8) (c : Fin 32) :
    val_main_v970 (F := Ideal) x0 x1 x2 x3 x4 x5 x6 x7 (ix3 g e c)
      = ((∑ p : Fin 64, rowv (rows D c) b al (stv P D b al c) (dsv P D b al (chF P D Z T b al dk gn) (31 - c)) (64 * (8 * g + e) + p) : ℝ) : EReal) := by
  have ha := A.v387_eq
  have hb := A.v968_eq
  have hc := A.v52_eq
  have hd := fun c => decay_eq (x0 := x0) (x1 := x1) (x2 := x2) (x3 := x3) (x4 := x4) (x5 := x5) (x6 := x6) (x7 := x7) c g e
  pointwise [val_main_v970, val_main_v969]
  simp only [hd, ha, hb, hc, ← EReal.coe_mul, coe_sum, Finset.sum_mul]
  refine congrArg _ (Finset.sum_congr rfl fun p _ => ?_)
  simp only [rowv, show (64 * (8 * (g : ℕ) + e) + p) / 64 = 8 * g + e from by omega, Finset.sum_mul]
  exact Finset.sum_congr rfl fun n _ => by ring

theorem v973_eq (A : Args x0 x1 x2 x3 x4 x5 x6 x7 P D Z T b al dk gn) (g : Fin 2) (e : Fin 8) (c : Fin 32) (l : Fin 128) :
    val_main_v973 (F := Ideal) x0 x1 x2 x3 x4 x5 x6 x7 (ix4 g e c l)
      = (((∑ p : Fin 64, (chF P D Z T b al dk gn c) l (64 * (8 * g + e) + p) * yov (rows P c) (rows D c) b al (stv P D b al c) l (64 * (8 * g + e) + p))
          + (if (l : ℕ) = 127 then ∑ p : Fin 64, rowv (rows D c) b al (stv P D b al c) (dsv P D b al (chF P D Z T b al dk gn) (31 - c)) (64 * (8 * g + e) + p) else 0) : ℝ) : EReal) := by
  have ha := A.v471_eq
  have hb := A.v970_eq
  pointwise [val_main_v973, val_main_v972, val_main_v971, val_main_cst_85]
  rw [ha, hb]
  by_cases h : (l : ℕ) = 127
  · rw [dif_pos (show 127 ≤ (l : ℕ) ∧ (l : ℕ) - 127 < 1 from by omega), if_pos h, ← EReal.coe_add]
  · rw [dif_neg (show ¬(127 ≤ (l : ℕ) ∧ (l : ℕ) - 127 < 1) from by omega), if_neg h, ← EReal.coe_zero, ← EReal.coe_add]

theorem v975_eq (A : Args x0 x1 x2 x3 x4 x5 x6 x7 P D Z T b al dk gn) (c : Fin 32) (l : Fin 128) (g : Fin 2) (n : Fin 128) :
    val_main_v975 (F := Ideal) x0 x1 x2 x3 x4 x5 x6 x7 (ix4 c l g n)
      = ((∑ k : Fin 512, xdv (rows P c) (rows D c) b al l (512 * g + k) * (dsv P D b al (chF P D Z T b al dk gn) (31 - c)) n (512 * g + k) : ℝ) : EReal) := by
  have ha := A.v968_eq
  have hb := A.v48_eq
  pointwise [val_main_v975, val_main_v974]
  simp only [ha, hb, ← EReal.coe_mul, coe_sum]
  refine congrArg _ ((sum_heads g fun w => (dsv P D b al (chF P D Z T b al dk gn) (31 - c)) n w * xdv (rows P c) (rows D c) b al l w).trans (Finset.sum_congr rfl fun k _ => mul_comm _ _))

theorem v977_eq (A : Args x0 x1 x2 x3 x4 x5 x6 x7 P D Z T b al dk gn) (c : Fin 32) (l : Fin 128) (g : Fin 2) (e : Fin 8) (p : Fin 64) :
    val_main_v977 (F := Ideal) x0 x1 x2 x3 x4 x5 x6 x7 (ix5 c l g e p)
      = ((dxdv (rows P c) (dsv P D b al (chF P D Z T b al dk gn) (31 - c)) l (64 * (8 * g + e) + p) : ℝ) : EReal) := by
  have ha := A.v968_eq
  have hb := A.v18_eq
  pointwise [val_main_v977, val_main_v976]
  simp only [ha, hb, ← EReal.coe_mul, coe_sum, dxdv, show (64 * (8 * (g : ℕ) + e) + p) / 512 = g from by omega]
  exact congrArg _ (Finset.sum_congr rfl fun n _ => mul_comm _ _)

theorem v985_eq (A : Args x0 x1 x2 x3 x4 x5 x6 x7 P D Z T b al dk gn) (g : Fin 2) (e : Fin 8) (c : Fin 32) (l : Fin 128) :
    val_main_v985 (F := Ideal) x0 x1 x2 x3 x4 x5 x6 x7 (ix4 g e c l)
      = ((∑ p : Fin 64, dxdv (rows P c) (dsv P D b al (chF P D Z T b al dk gn) (31 - c)) l (64 * (8 * g + e) + p) * xdv (rows P c) (rows D c) b al l (64 * (8 * g + e) + p) : ℝ) : EReal) := by
  have ha := A.v977_eq
  have hb := A.v17_eq
  have hc := A.v44_eq
  pointwise [val_main_v985, val_main_v984, val_main_v983, val_main_v982, val_main_v981, val_main_v980, val_main_cst_86, val_main_cst_87]
  simp only [ha, hb, hc, Fin.sum_univ_one, ← EReal.coe_mul, coe_sum, Finset.sum_mul]
  refine congrArg _ (Finset.sum_congr rfl fun p _ => ?_)
  simp only [xdv, show (64 * (8 * (g : ℕ) + e) + p) / 64 = 8 * g + e from by omega]
  ring

theorem v991_eq (A : Args x0 x1 x2 x3 x4 x5 x6 x7 P D Z T b al dk gn) (g : Fin 2) (e : Fin 8) (c : Fin 32) (l : Fin 128) :
    val_main_v991 (F := Ideal) x0 x1 x2 x3 x4 x5 x6 x7 (ix4 g e c l)
      = (((∑ p : Fin 64, (chF P D Z T b al dk gn c) l (64 * (8 * g + e) + p) * yov (rows P c) (rows D c) b al (stv P D b al c) l (64 * (8 * g + e) + p))
          + (if (l : ℕ) = 127 then ∑ p : Fin 64, rowv (rows D c) b al (stv P D b al c) (dsv P D b al (chF P D Z T b al dk gn) (31 - c)) (64 * (8 * g + e) + p) else 0)
          + -(∑ p : Fin 64, dxdv (rows P c) (dsv P D b al (chF P D Z T b al dk gn) (31 - c)) l (64 * (8 * g + e) + p) * xdv (rows P c) (rows D c) b al l (64 * (8 * g + e) + p))
          + (if (l : ℕ) = 127 then ∑ s : Fin 128, ∑ p : Fin 64, dxdv (rows P c) (dsv P D b al (chF P D Z T b al dk gn) (31 - c)) s (64 * (8 * g + e) + p) * xdv (rows P c) (rows D c) b al s (64 * (8 * g + e) + p) else 0) : ℝ) : EReal) := by
  have ha := A.v973_eq
  have hb := A.v985_eq
  pointwise [val_main_v991, val_main_v990, val_main_v989, val_main_v988, val_main_v987, val_main_v986, val_main_cst_88, val_main_cst_89]
  simp only [ha, hb, coe_sum]
  by_cases h : (l : ℕ) = 127
  · rw [dif_pos (show 127 ≤ (l : ℕ) ∧ (l : ℕ) - 127 < 1 from by omega), if_pos h, if_pos h, ← EReal.coe_neg, ← EReal.coe_add, ← EReal.coe_add]
  · rw [dif_neg (show ¬(127 ≤ (l : ℕ) ∧ (l : ℕ) - 127 < 1) from by omega), if_neg h, if_neg h, ← EReal.coe_zero, ← EReal.coe_neg, ← EReal.coe_add, ← EReal.coe_add]

theorem v994_eq (A : Args x0 x1 x2 x3 x4 x5 x6 x7 P D Z T b al dk gn) (g : Fin 2) (e : Fin 8) (c : Fin 32) (l s : Fin 128) :
    val_main_v994 (F := Ideal) x0 x1 x2 x3 x4 x5 x6 x7 (ix5 g e c l s)
      = ((∑ p : Fin 64, (chF P D Z T b al dk gn c) l (64 * (8 * g + e) + p) * xcv (rows P c) (rows D c) b s (64 * (8 * g + e) + p) : ℝ) : EReal) := by
  have ha := A.v459_eq
  have hb := A.v17_eq
  pointwise [val_main_v994, val_main_v993, val_main_v992]
  simp only [ha, hb, ← EReal.coe_mul, coe_sum]

theorem v996_eq (A : Args x0 x1 x2 x3 x4 x5 x6 x7 P D Z T b al dk gn) (c : Fin 32) (l : Fin 128) (g : Fin 2) (e : Fin 8) (p : Fin 64) :
    val_main_v996 (F := Ideal) x0 x1 x2 x3 x4 x5 x6 x7 (ix5 c l g e p)
      = ((∑ s : Fin 128, gv (rows P c) g s l * lmv (rows D c) b al (8 * g + e) s l * (chF P D Z T b al dk gn c) s (64 * (8 * g + e) + p) : ℝ) : EReal) := by
  have ha := A.v459_eq
  have hb := A.v38_eq
  pointwise [val_main_v996, val_main_v995, val_main_v992]
  simp only [ha, hb, ← EReal.coe_mul, coe_sum]
  exact congrArg _ (Finset.sum_congr rfl fun n _ => mul_comm _ _)

theorem v997_eq (A : Args x0 x1 x2 x3 x4 x5 x6 x7 P D Z T b al dk gn) (c : Fin 32) (l : Fin 128) (g : Fin 2) (e : Fin 8) (p : Fin 64) :
    val_main_v997 (F := Ideal) x0 x1 x2 x3 x4 x5 x6 x7 (ix5 c l g e p)
      = ((dxcv (rows P c) (rows D c) b al (dsv P D b al (chF P D Z T b al dk gn) (31 - c)) (chF P D Z T b al dk gn c) l (64 * (8 * g + e) + p) : ℝ) : EReal) := by
  have ha := A.v996_eq
  have hb := A.v977_eq
  have hc := A.v44_eq
  pointwise [val_main_v997, val_main_v979, val_main_v978, val_main_v46, val_main_v45]
  rw [ha, hb, hc, ← EReal.coe_mul, ← EReal.coe_add, add_comm]
  simp only [dxcv, show (64 * (8 * (g : ℕ) + e) + p) / 64 = 8 * g + e from by omega, show (64 * (8 * (g : ℕ) + e) + p) / 512 = g from by omega]
  rw [mul_comm (Real.exp _)]

theorem v1003_eq (A : Args x0 x1 x2 x3 x4 x5 x6 x7 P D Z T b al dk gn) (g : Fin 2) (c : Fin 32) (l s : Fin 128) :
    val_main_v1003 (F := Ideal) x0 x1 x2 x3 x4 x5 x6 x7 (ix4 g c l s)
      = ((∑ e : Fin 8, mv (rows P c) (rows D c) b al (chF P D Z T b al dk gn c) (8 * g + e) l s : ℝ) : EReal) := by
  have ha := A.v994_eq
  have hb := A.v34_eq
  pointwise [val_main_v1003, val_main_v1002, val_main_v1001, val_main_v1000, val_main_cst_90, val_main_cst_91]
  simp only [ha, hb, Fin.sum_univ_one, ← EReal.coe_mul, coe_sum]
  rfl

theorem v1006_eq (A : Args x0 x1 x2 x3 x4 x5 x6 x7 P D Z T b al dk gn) (c : Fin 32) (l : Fin 128) (g : Fin 2) (n : Fin 128) :
    val_main_v1006 (F := Ideal) x0 x1 x2 x3 x4 x5 x6 x7 (ix4 c l g n)
      = ((dbv (rows P c) (rows D c) b al (dsv P D b al (chF P D Z T b al dk gn) (31 - c)) (chF P D Z T b al dk gn c) g l n : ℝ) : EReal) := by
  have ha := A.v975_eq
  have hb := A.v1003_eq
  have hc := A.v19_eq
  pointwise [val_main_v1006, val_main_v1005, val_main_v1004]
  simp only [ha, hb, hc, ← EReal.coe_mul, coe_sum, ← EReal.coe_add]
  rfl

theorem v1009_eq (A : Args x0 x1 x2 x3 x4 x5 x6 x7 P D Z T b al dk gn) (c : Fin 32) (l : Fin 128) (g : Fin 2) (n : Fin 128) :
    val_main_v1009 (F := Ideal) x0 x1 x2 x3 x4 x5 x6 x7 (ix4 c l g n)
      = ((dcv (rows P c) (rows D c) b al (stv P D b al c) (chF P D Z T b al dk gn c) g l n : ℝ) : EReal) := by
  have ha := A.v469_eq
  have hb := A.v1003_eq
  have hc := A.v18_eq
  pointwise [val_main_v1009, val_main_v1008, val_main_v1007]
  simp only [ha, hb, hc, ← EReal.coe_mul, coe_sum, ← EReal.coe_add]
  rfl

theorem v1011_eq (A : Args x0 x1 x2 x3 x4 x5 x6 x7 P D Z T b al dk gn) (g : Fin 2) (e : Fin 8) (c : Fin 32) (l s : Fin 128) :
    val_main_v1011 (F := Ideal) x0 x1 x2 x3 x4 x5 x6 x7 (ix5 g e c l s)
      = ((mv (rows P c) (rows D c) b al (chF P D Z T b al dk gn c) (8 * g + e) l s * gv (rows P c) g l s : ℝ) : EReal) := by
  have ha := A.v994_eq
  have hb := A.v34_eq
  have hc := A.v36_eq
  have h' := v27_eq l s
  pointwise [val_main_v1011, val_main_v1010, val_main_v999, val_main_v998, val_main_v33_1, val_main_call7_v0, val_main_call7_cst]
  rw [h', ha, hb, hc]
  by_cases hs : (s : ℕ) ≤ l
  · rw [if_pos hs]
    simp only [Scalar.select, show ((1#1 : BitVec 1) = 1) = True from by simp, if_true, ← EReal.coe_mul, mv]
    exact congrArg _ (by ring)
  · rw [if_neg hs]
    simp only [Scalar.select, show ((0#1 : BitVec 1) = 1) = False from by simp, if_false, mv, lmv, if_neg hs, mul_zero, zero_mul]
    rfl

theorem v1020_eq (A : Args x0 x1 x2 x3 x4 x5 x6 x7 P D Z T b al dk gn) (g : Fin 2) (e : Fin 8) (c : Fin 32) (l : Fin 128) :
    val_main_v1020 (F := Ideal) x0 x1 x2 x3 x4 x5 x6 x7 (ix4 g e c l)
      = ((dcsv (rows P c) (rows D c) b al (stv P D b al c) (dsv P D b al (chF P D Z T b al dk gn) (31 - c)) (chF P D Z T b al dk gn c) l (8 * g + e) : ℝ) : EReal) := by
  have ha := A.v991_eq
  have hb := A.v1011_eq
  pointwise [val_main_v1020, val_main_v1019, val_main_v1018, val_main_v1017, val_main_v1016, val_main_v1015, val_main_v1014, val_main_v1013, val_main_v1012, val_main_cst_92, val_main_cst_93, val_main_cst_94, val_main_cst_95]
  simp only [ha, hb, Fin.sum_univ_one, ← EReal.coe_neg, coe_sum, ← EReal.coe_add]
  refine congrArg _ ?_
  rw [dcsv, hsv_eq _ (show 8 * (g : ℕ) + e < 16 by omega), if_pos (show 8 * (g : ℕ) + e < 16 by omega), lastv, hsv_eq _ (show 8 * (g : ℕ) + e < 16 by omega), qv, show (8 * (g : ℕ) + e) / 8 = g from by omega,
    Finset.sum_sub_distrib, Finset.sum_sub_distrib, Finset.sum_add_distrib, Finset.sum_neg_distrib, Finset.sum_comm (s := (Finset.univ : Finset (Fin 64)))]
  by_cases h : (l : ℕ) = 127
  · simp only [if_pos h]; ring
  · simp only [if_neg h]; ring

end Args

end Cert.SsdbRefIdeal.Bwd

end
end
-- ==== Proof.SsdbRefC.lean ====
/- The last lines of the reference of the state-space layer's derivative: the cotangents of its arguments, read element by
   element on finite arguments. -/
module

public import proofs.«01_k».proof.Proof.SsdbRefB

@[expose] public section

set_option maxRecDepth 16384

noncomputable section

namespace Cert.SsdbRefIdeal.Bwd

open Cert.SsdbRefIdeal Cert.SsdbRefIdeal.Gen Cert.SsdbRefIdeal.Read Cert.Reals Cert.Ssd Idealize.ShloMosaic
open Cert.SsdRefIdeal.Fwd (c0 foldl_add winIdx winEquiv)

/-- The window's sum, from the row on, is the sum over the rows that are not above it. -/
theorem shift_below (f : Fin 128 → EReal) (l : Fin 128) :
    ∑ w : Fin 128, (if h : (l : ℕ) + w < 128 then f ⟨l + w, h⟩ else 0) = ∑ s : Fin 128, if (l : ℕ) ≤ s then f s else 0 := by
  rw [← Equiv.sum_comp (Equiv.addLeft l) (fun s : Fin 128 => if (l : ℕ) ≤ s then f s else 0)]
  refine Finset.sum_congr rfl fun w _ => ?_
  have hv : ((Equiv.addLeft l w : Fin 128) : ℕ) = ((l : ℕ) + w) % 128 := rfl
  by_cases h : (l : ℕ) + w < 128
  · rw [dif_pos h, if_pos (by rw [hv]; omega)]
    exact congrArg f (Fin.ext (by rw [hv]; show (l : ℕ) + w = _; omega))
  · rw [dif_neg h, if_neg (by rw [hv]; omega)]

/-- The running sum up the chunk. -/
theorem below {x : FVec Ideal S2x8x32x128 .f32} {init : FVec Ideal S_ .f32} (h0 : ∀ i, init i = 0)
    (h : S2x8x32x128.ReduceWindows ![1, 1, 1, 128] ![1, 1, 1, 1] ![0, 0, 0, 0] ![0, 0, 0, 127] S2x8x32x128) (hu : 0 < S_.numel)
    (g : Fin 2) (e : Fin 8) (c : Fin 32) (l : Fin 128) :
    Host.reduceWindowAdd (F := Ideal) ![1, 1, 1, 128] ![1, 1, 1, 1] ![0, 0, 0, 0] ![0, 0, 0, 127] x init h hu (ix4 g e c l)
      = ∑ s : Fin 128, if (l : ℕ) ≤ s then x (ix4 g e c s) else 0 := by
  show Host.reduceWindow (· + ·) ![1, 1, 1, 128] ![1, 1, 1, 1] ![0, 0, 0, 0] ![0, 0, 0, 127] x (fun _ : (⟨0, ![]⟩ : Shape).Idx => init (Shape.Idx.first hu)) h Nat.one_pos (ix4 g e c l) = _
  unfold Host.reduceWindow
  dsimp only
  rw [foldl_add, h0, zero_add, ← shift_below (fun s => x (ix4 g e c s)) l]
  refine Fintype.sum_equiv (winIdx.trans winEquiv) _ _ fun k => ?_
  have e0 : (winIdx k 0).val = 0 := Nat.lt_one_iff.mp (winIdx k 0).isLt
  have e1 : (winIdx k 1).val = 0 := Nat.lt_one_iff.mp (winIdx k 1).isLt
  have e2 : (winIdx k 2).val = 0 := Nat.lt_one_iff.mp (winIdx k 2).isLt
  have e3 : (winIdx k 3).val < 128 := (winIdx k 3).isLt
  show _ = if h : (l : ℕ) + (winIdx k 3).val < 128 then x (ix4 g e c ⟨l + (winIdx k 3).val, h⟩) else 0
  by_cases hl : (l : ℕ) + (winIdx k 3).val < 128
  · rw [dif_pos hl, dif_pos]
    · refine congrArg x (funext fun a => Fin.ext ?_)
      fin_cases a
      · show (g : ℕ) * 1 + (winIdx k 0).val - 0 = g; omega
      · show (e : ℕ) * 1 + (winIdx k 1).val - 0 = e; omega
      · show (c : ℕ) * 1 + (winIdx k 2).val - 0 = c; omega
      · show (l : ℕ) * 1 + (winIdx k 3).val - 0 = l + (winIdx k 3).val; omega
    · intro a
      fin_cases a
      · show 0 ≤ (g : ℕ) * 1 + (winIdx k 0).val ∧ (g : ℕ) * 1 + (winIdx k 0).val - 0 < 2; omega
      · show 0 ≤ (e : ℕ) * 1 + (winIdx k 1).val ∧ (e : ℕ) * 1 + (winIdx k 1).val - 0 < 8; omega
      · show 0 ≤ (c : ℕ) * 1 + (winIdx k 2).val ∧ (c : ℕ) * 1 + (winIdx k 2).val - 0 < 32; omega
      · show 0 ≤ (l : ℕ) * 1 + (winIdx k 3).val ∧ (l : ℕ) * 1 + (winIdx k 3).val - 0 < 128; omega
  · rw [dif_neg hl, dif_neg]
    intro hin
    have h3 : (l : ℕ) * 1 + (winIdx k 3).val - 0 < 128 := (hin 3).2
    omega

/-- A sum over the rows, chunk by chunk. -/
theorem sum_rows (f : ℕ → ℝ) : ∑ r : Fin 4096, f r = ∑ c : Fin 32, ∑ l : Fin 128, f (128 * c + l) := by
  rw [← Finset.sum_product' Finset.univ Finset.univ (fun (c : Fin 32) (l : Fin 128) => f (128 * c + l))]
  refine (Finset.sum_nbij' (i := fun q : Fin 32 × Fin 128 => (⟨128 * q.1 + q.2, by omega⟩ : Fin 4096))
    (j := fun k : Fin 4096 => ((⟨(k : ℕ) / 128, by omega⟩ : Fin 32), (⟨(k : ℕ) % 128, by omega⟩ : Fin 128))) ?_ ?_ ?_ ?_ ?_).symm
  · intro q _; exact Finset.mem_univ _
  · intro k _; exact Finset.mem_product.2 ⟨Finset.mem_univ _, Finset.mem_univ _⟩
  · intro q _
    have := q.2.isLt
    exact Prod.ext (Fin.ext (by show (128 * (q.1 : ℕ) + q.2) / 128 = q.1; omega)) (Fin.ext (by show (128 * (q.1 : ℕ) + q.2) % 128 = q.2; omega))
  · intro k _; exact Fin.ext (by show 128 * ((k : ℕ) / 128) + k % 128 = k; omega)
  · intro q _; rfl

/-- The lanes after the heads receive nothing. -/
theorem dalv_zero {P D : ℕ → ℕ → ℝ} {b al : ℕ → ℝ} {S N F : ℕ → ℕ → ℝ} {h : ℕ} (hh : 16 ≤ h) : dalv P D b al S N F h = 0 := by
  have h1 : ∀ l, dcsv P D b al S N F l h = 0 := by
    intro l
    rw [dcsv, hsv_zero _ hh, if_neg (show ¬h < 16 by omega), lastv, hsv_zero _ hh]
    split <;> ring
  have h2 : ∀ l, dav P D b al S N F l h = 0 := fun l => Finset.sum_eq_zero fun s _ => by rw [h1]; split <;> rfl
  unfold dalv
  simp only [h2, zero_mul, Finset.sum_const_zero]

variable {x0 : FVec Ideal S4096x1536 .f32} {x1 : FVec Ideal S4096x128 .f32} {x2 : FVec Ideal S4096x1024 .f32} {x3 x4 x5 : FVec Ideal S16 .f32}
  {x6 : FVec Ideal S1024 .f32} {x7 : FVec Ideal S4096x1024 .f32} {P D Z T : ℕ → ℕ → ℝ} {b al dk gn : ℕ → ℝ}

namespace Args

theorem v1021_eq (A : Args x0 x1 x2 x3 x4 x5 x6 x7 P D Z T b al dk gn) (g : Fin 2) (e : Fin 8) (c : Fin 32) (l : Fin 128) :
    val_main_v1021 (F := Ideal) x0 x1 x2 x3 x4 x5 x6 x7 (ix4 g e c l)
      = ((dav (rows P c) (rows D c) b al (stv P D b al c) (dsv P D b al (chF P D Z T b al dk gn) (31 - c)) (chF P D Z T b al dk gn c) l (8 * g + e) : ℝ) : EReal) := by
  unfold val_main_v1021
  refine (below (x := val_main_v1020 (F := Ideal) x0 x1 x2 x3 x4 x5 x6 x7) (init := val_main_call8_call0_v0 (F := Ideal)) (fun i => c0) _ _ g e c l).trans ?_
  unfold dav
  rw [← coe_sum]
  refine Finset.sum_congr rfl fun s _ => ?_
  rw [A.v1020_eq]
  split <;> rfl

theorem v1023_eq (A : Args x0 x1 x2 x3 x4 x5 x6 x7 P D Z T b al dk gn) (r : Fin 4096) (h : Fin 16) :
    val_main_v1023 (F := Ideal) x0 x1 x2 x3 x4 x5 x6 x7 (ix2 r h)
      = ((dav (rows P (r / 128)) (rows D (r / 128)) b al (stv P D b al (r / 128)) (dsv P D b al (chF P D Z T b al dk gn) (31 - r / 128)) (chF P D Z T b al dk gn (r / 128)) (r % 128) h : ℝ) : EReal) := by
  have ha := A.v1021_eq
  pointwise [val_main_v1023, val_main_v1022]
  rw [ha]
  have h8 : 8 * ((h : ℕ) / 8) + h % 8 = h := by omega
  simp only [h8]

theorem v1045_eq (A : Args x0 x1 x2 x3 x4 x5 x6 x7 P D Z T b al dk gn) (h : Fin 16) :
    val_main_v1045 (F := Ideal) x0 x1 x2 x3 x4 x5 x6 x7 (ix1 h)
      = (((∑ r : Fin 4096, dtv D b r h * dav (rows P (r / 128)) (rows D (r / 128)) b al (stv P D b al (r / 128)) (dsv P D b al (chF P D Z T b al dk gn) (31 - r / 128)) (chF P D Z T b al dk gn (r / 128)) (r % 128) h) * -Real.exp (al h) : ℝ) : EReal) := by
  have ha := A.v1023_eq
  have hb := A.v8_0_eq
  have h4 := A.h4
  pointwise [val_main_v1045, val_main_v1044, val_main_v1029, val_main_v1026, val_main_v1025, val_main_v1024, val_main_v9, val_main_cst_96, val_main_cst_97]
  simp only [ha, hb, h4, Ideal.exp_coe, Fin.sum_univ_one, ← EReal.coe_mul, coe_sum, ← EReal.coe_neg]
  exact congrArg _ (by ring)

theorem v1032_eq (A : Args x0 x1 x2 x3 x4 x5 x6 x7 P D Z T b al dk gn) (r : Fin 4096) (h : Fin 16) (p : Fin 64) :
    val_main_v1032 (F := Ideal) x0 x1 x2 x3 x4 x5 x6 x7 (ix3 r h p)
      = ((dxcv (rows P (r / 128)) (rows D (r / 128)) b al (dsv P D b al (chF P D Z T b al dk gn) (31 - r / 128)) (chF P D Z T b al dk gn (r / 128)) (r % 128) (64 * h + p) : ℝ) : EReal) := by
  have ha := A.v997_eq
  pointwise [val_main_v1032]
  rw [ha]
  have h8 : 8 * ((h : ℕ) / 8) + h % 8 = h := by omega
  simp only [h8]

theorem v1040_eq (A : Args x0 x1 x2 x3 x4 x5 x6 x7 P D Z T b al dk gn) (r : Fin 4096) (h : Fin 16) :
    val_main_v1040 (F := Ideal) x0 x1 x2 x3 x4 x5 x6 x7 (ix2 r h)
      = ((ddtv (rows P (r / 128)) (rows D (r / 128)) b al (stv P D b al (r / 128)) (dsv P D b al (chF P D Z T b al dk gn) (31 - r / 128)) (chF P D Z T b al dk gn (r / 128)) (r % 128) h : ℝ) : EReal) := by
  have ha := A.v1023_eq
  have hb := A.v1032_eq
  have hc := A.v11_eq
  have h4 := A.h4
  pointwise [val_main_v1040, val_main_v1039, val_main_v1035, val_main_v1034, val_main_v1033, val_main_v1028, val_main_v1027, val_main_v20, val_main_v10, val_main_v9, val_main_cst_98, val_main_cst_99]
  simp only [ha, hb, hc, h4, Ideal.exp_coe, Fin.sum_univ_one, ← EReal.coe_mul, coe_sum, ← EReal.coe_neg, ← EReal.coe_add]
  have hr : 128 * ((r : ℕ) / 128) + r % 128 = r := by omega
  refine congrArg _ ?_
  rw [ddtv, hsv_eq _ h.isLt, add_comm]
  refine congrArg (· + _) (Finset.sum_congr rfl fun p _ => ?_)
  simp only [act, rows, hr]
  ring

theorem v1046_eq (A : Args x0 x1 x2 x3 x4 x5 x6 x7 P D Z T b al dk gn) (r : Fin 4096) (h : Fin 16) :
    val_main_v1046 (F := Ideal) x0 x1 x2 x3 x4 x5 x6 x7 (ix2 r h)
      = ((dtrv (rows P (r / 128)) (rows D (r / 128)) b al (stv P D b al (r / 128)) (dsv P D b al (chF P D Z T b al dk gn) (31 - r / 128)) (chF P D Z T b al dk gn (r / 128)) (r % 128) h : ℝ) : EReal) := by
  have ha := A.v1040_eq
  have hb := A.v8_1_eq
  pointwise [val_main_v1046]
  rw [ha, hb, ← EReal.coe_mul]
  have hr : 128 * ((r : ℕ) / 128) + r % 128 = r := by omega
  simp only [dtrv, rows, hr, if_pos h.isLt, mul_one]

theorem v1049_eq (A : Args x0 x1 x2 x3 x4 x5 x6 x7 P D Z T b al dk gn) (h : Fin 16) :
    val_main_v1049 (F := Ideal) x0 x1 x2 x3 x4 x5 x6 x7 (ix1 h)
      = ((∑ r : Fin 4096, dtrv (rows P (r / 128)) (rows D (r / 128)) b al (stv P D b al (r / 128)) (dsv P D b al (chF P D Z T b al dk gn) (31 - r / 128)) (chF P D Z T b al dk gn (r / 128)) (r % 128) h : ℝ) : EReal) := by
  have ha := A.v1046_eq
  pointwise [val_main_v1049, val_main_v1048, val_main_v1047, val_main_cst_100, val_main_cst_101]
  simp only [ha, Fin.sum_univ_one, coe_sum]

theorem v1054_eq (A : Args x0 x1 x2 x3 x4 x5 x6 x7 P D Z T b al dk gn) (r : Fin 4096) (w : Fin 128) :
    val_main_v1054 (F := Ideal) x0 x1 x2 x3 x4 x5 x6 x7 (ix2 r w)
      = ((dtrv (rows P (r / 128)) (rows D (r / 128)) b al (stv P D b al (r / 128)) (dsv P D b al (chF P D Z T b al dk gn) (31 - r / 128)) (chF P D Z T b al dk gn (r / 128)) (r % 128) w : ℝ) : EReal) := by
  have ha := A.v1046_eq
  pointwise [val_main_v1054, val_main_v1050, val_main_cst_102]
  by_cases h : (w : ℕ) < 16
  · rw [dif_pos h, ha]
  · rw [dif_neg h, dtrv, if_neg h, mul_zero]
    rfl

theorem v1043_eq (A : Args x0 x1 x2 x3 x4 x5 x6 x7 P D Z T b al dk gn) (r : Fin 4096) (w : Fin 1024) :
    val_main_v1043 (F := Ideal) x0 x1 x2 x3 x4 x5 x6 x7 (ix2 r w)
      = ((dxsv (rows P (r / 128)) (rows D (r / 128)) b al dk (dsv P D b al (chF P D Z T b al dk gn) (31 - r / 128)) (chF P D Z T b al dk gn (r / 128)) (r % 128) w : ℝ) : EReal) := by
  have ha := A.v455_eq
  have hb := A.v1032_eq
  have hc := A.v8_0_eq
  pointwise [val_main_v1043, val_main_v1038, val_main_v1037, val_main_v1036, val_main_v14]
  rw [ha, hb, hc, ← EReal.coe_mul, ← EReal.coe_add]
  have hr : 128 * ((r : ℕ) / 128) + r % 128 = r := by omega
  have hw : 64 * ((w : ℕ) / 64) + w % 64 = w := by omega
  simp only [dxsv, hw, dtv, rows, hr]

theorem v1042_eq (A : Args x0 x1 x2 x3 x4 x5 x6 x7 P D Z T b al dk gn) (r : Fin 4096) (w : Fin 256) :
    val_main_v1042 (F := Ideal) x0 x1 x2 x3 x4 x5 x6 x7 (ix2 r w)
      = ((dbv (rows P (r / 128)) (rows D (r / 128)) b al (dsv P D b al (chF P D Z T b al dk gn) (31 - r / 128)) (chF P D Z T b al dk gn (r / 128)) (w / 128) (r % 128) (w % 128) : ℝ) : EReal) := by
  have ha := A.v1006_eq
  pointwise [val_main_v1042, val_main_v1031]
  rw [ha]

theorem v1041_eq (A : Args x0 x1 x2 x3 x4 x5 x6 x7 P D Z T b al dk gn) (r : Fin 4096) (w : Fin 256) :
    val_main_v1041 (F := Ideal) x0 x1 x2 x3 x4 x5 x6 x7 (ix2 r w)
      = ((dcv (rows P (r / 128)) (rows D (r / 128)) b al (stv P D b al (r / 128)) (chF P D Z T b al dk gn (r / 128)) (w / 128) (r % 128) (w % 128) : ℝ) : EReal) := by
  have ha := A.v1009_eq
  pointwise [val_main_v1041, val_main_v1030]
  rw [ha]

theorem v1051_eq (A : Args x0 x1 x2 x3 x4 x5 x6 x7 P D Z T b al dk gn) (r : Fin 4096) (w : Fin 1536) :
    val_main_v1051 (F := Ideal) x0 x1 x2 x3 x4 x5 x6 x7 (ix2 r w)
      = ((dxbv (rows P (r / 128)) (rows D (r / 128)) b al dk (stv P D b al (r / 128)) (dsv P D b al (chF P D Z T b al dk gn) (31 - r / 128)) (chF P D Z T b al dk gn (r / 128)) (r % 128) w : ℝ) : EReal) := by
  have ha := A.v1043_eq
  have hb := A.v1042_eq
  have hc := A.v1041_eq
  have hw := w.isLt
  pointwise [val_main_v1051]
  unfold dxbv
  by_cases h1 : (w : ℕ) < 1024
  · rw [dif_pos h1, if_pos h1, ha]
  rw [dif_neg h1, if_neg h1]
  by_cases h2 : (w : ℕ) - 1024 < 256
  · rw [dif_pos h2, hb]
    by_cases h3 : (w : ℕ) < 1152
    · rw [if_pos h3]
      simp only [show ((w : ℕ) - 1024) / 128 = 0 from by omega, show ((w : ℕ) - 1024) % 128 = w - 1024 from by omega]
    · rw [if_neg h3, if_pos (show (w : ℕ) < 1280 by omega)]
      simp only [show ((w : ℕ) - 1024) / 128 = 1 from by omega, show ((w : ℕ) - 1024) % 128 = w - 1152 from by omega]
  · rw [dif_neg h2, hc, if_neg (show ¬(w : ℕ) < 1152 by omega), if_neg (show ¬(w : ℕ) < 1280 by omega)]
    by_cases h3 : (w : ℕ) < 1408
    · rw [if_pos h3]
      simp only [show ((w : ℕ) - 1024 - 256) / 128 = 0 from by omega, show ((w : ℕ) - 1024 - 256) % 128 = w - 1280 from by omega]
    · rw [if_neg h3]
      simp only [show ((w : ℕ) - 1024 - 256) / 128 = 1 from by omega, show ((w : ℕ) - 1024 - 256) % 128 = w - 1408 from by omega]

theorem v1052_eq (A : Args x0 x1 x2 x3 x4 x5 x6 x7 P D Z T b al dk gn) (r : Fin 4096) (w : Fin 1536) :
    val_main_v1052 (F := Ideal) x0 x1 x2 x3 x4 x5 x6 x7 (ix2 r w)
      = ((dpv (rows P (r / 128)) (rows D (r / 128)) b al dk (stv P D b al (r / 128)) (dsv P D b al (chF P D Z T b al dk gn) (31 - r / 128)) (chF P D Z T b al dk gn (r / 128)) (r % 128) w : ℝ) : EReal) := by
  have ha := A.v1051_eq
  have hb := A.v0_2_eq
  have hc := A.v0_1_eq
  pointwise [val_main_v1052, val_main_call10_v0, val_main_call10_v1, val_main_call10_v2]
  rw [ha, hb, hc, A.h0]
  have hr : 128 * ((r : ℕ) / 128) + r % 128 = r := by omega
  simp only [← EReal.coe_mul, ← EReal.coe_add, dpv, rows, hr]
  exact congrArg _ (by ring)

theorem v1053_eq (A : Args x0 x1 x2 x3 x4 x5 x6 x7 P D Z T b al dk gn) (r : Fin 4096) (w : Fin 1024) :
    val_main_v1053 (F := Ideal) x0 x1 x2 x3 x4 x5 x6 x7 (ix2 r w)
      = ((dzv (chY P D b al dk (r / 128)) (rows Z (r / 128)) (rows T (r / 128)) gn (r % 128) w : ℝ) : EReal) := by
  have ha := A.v449_eq
  pointwise [val_main_v1053]
  rw [ha]

theorem v1055_eq (A : Args x0 x1 x2 x3 x4 x5 x6 x7 P D Z T b al dk gn) (w : Fin 1024) :
    val_main_v1055 (F := Ideal) x0 x1 x2 x3 x4 x5 x7 (ix2 (0 : Fin 1) w)
      = ((∑ c : Fin 32, dgnv (chY P D b al dk c) (rows Z c) (rows T c) w : ℝ) : EReal) := by
  have ha := A.v430_eq
  pointwise [val_main_v1055]
  rw [ha]
  refine congrArg _ ((sum_rows fun r => vhv (chY P D b al dk (r / 128)) (rows Z (r / 128)) (r % 128) w * T r w).trans (Finset.sum_congr rfl fun c _ => Finset.sum_congr rfl fun l _ => ?_))
  simp only [show (128 * (c : ℕ) + l) / 128 = c from by omega, show (128 * (c : ℕ) + l) % 128 = l from by omega, rows]
  rw [mul_comm]

theorem v1058_eq (A : Args x0 x1 x2 x3 x4 x5 x6 x7 P D Z T b al dk gn) (w : Fin 128) :
    val_main_v1058 (F := Ideal) x0 x1 x2 x3 x4 x5 x6 x7 (ix2 (0 : Fin 1) w)
      = ((∑ c : Fin 32, ddv (rows P c) (chF P D Z T b al dk gn c) w : ℝ) : EReal) := by
  have ha := A.v458_eq
  pointwise [val_main_v1058, val_main_v1057, val_main_v1056, val_main_cst_103]
  by_cases h : (w : ℕ) < 16
  · rw [dif_pos h, ha]
    refine congrArg _ ((sum_rows fun r => ∑ p : Fin 64, act P r (64 * w + p) * chF P D Z T b al dk gn (r / 128) (r % 128) (64 * w + p)).trans (Finset.sum_congr rfl fun c _ => ?_))
    rw [ddv, hsv_eq _ h, Finset.sum_comm]
    refine Finset.sum_congr rfl fun p _ => Finset.sum_congr rfl fun l _ => ?_
    simp only [show (128 * (c : ℕ) + l) / 128 = c from by omega, show (128 * (c : ℕ) + l) % 128 = l from by omega, act, rows]
    ring
  · rw [dif_neg h]
    exact EReal.coe_zero.symm.trans (congrArg (fun x : ℝ => (x : EReal)) (Finset.sum_eq_zero fun c _ => hsv_zero _ (Nat.le_of_not_lt h)).symm)

theorem v1061_eq (A : Args x0 x1 x2 x3 x4 x5 x6 x7 P D Z T b al dk gn) (w : Fin 128) :
    val_main_v1061 (F := Ideal) x0 x1 x2 x3 x4 x5 x6 x7 (ix2 (0 : Fin 1) w)
      = ((∑ c : Fin 32, dalv (rows P c) (rows D c) b al (stv P D b al c) (dsv P D b al (chF P D Z T b al dk gn) (31 - c)) (chF P D Z T b al dk gn c) w : ℝ) : EReal) := by
  have ha := A.v1045_eq
  pointwise [val_main_v1061, val_main_v1060, val_main_v1059, val_main_cst_104]
  by_cases h : (w : ℕ) < 16
  · rw [dif_pos h, ha]
    refine congrArg _ ((congrArg (· * -Real.exp (al w)) (sum_rows fun r => dtv D b r w * dav (rows P (r / 128)) (rows D (r / 128)) b al (stv P D b al (r / 128)) (dsv P D b al (chF P D Z T b al dk gn) (31 - r / 128)) (chF P D Z T b al dk gn (r / 128)) (r % 128) w)).trans
      ((Finset.sum_mul _ _ _).trans (Finset.sum_congr rfl fun c _ => congrArg (· * _) (Finset.sum_congr rfl fun l _ => ?_))))
    simp only [show (128 * (c : ℕ) + l) / 128 = c from by omega, show (128 * (c : ℕ) + l) % 128 = l from by omega, dtv, rows]
    rw [mul_comm]
  · rw [dif_neg h]
    exact EReal.coe_zero.symm.trans (congrArg (fun x : ℝ => (x : EReal)) (Finset.sum_eq_zero fun c _ => dalv_zero (Nat.le_of_not_lt h)).symm)

theorem v1064_eq (A : Args x0 x1 x2 x3 x4 x5 x6 x7 P D Z T b al dk gn) (w : Fin 128) :
    val_main_v1064 (F := Ideal) x0 x1 x2 x3 x4 x5 x6 x7 (ix2 (0 : Fin 1) w)
      = ((∑ c : Fin 32, ddbv (rows P c) (rows D c) b al (stv P D b al c) (dsv P D b al (chF P D Z T b al dk gn) (31 - c)) (chF P D Z T b al dk gn c) w : ℝ) : EReal) := by
  have ha := A.v1049_eq
  pointwise [val_main_v1064, val_main_v1063, val_main_v1062, val_main_cst_105]
  by_cases h : (w : ℕ) < 16
  · rw [dif_pos h, ha]
    refine congrArg _ ((sum_rows fun r => dtrv (rows P (r / 128)) (rows D (r / 128)) b al (stv P D b al (r / 128)) (dsv P D b al (chF P D Z T b al dk gn) (31 - r / 128)) (chF P D Z T b al dk gn (r / 128)) (r % 128) w).trans (Finset.sum_congr rfl fun c _ => Finset.sum_congr rfl fun l _ => ?_))
    simp only [show (128 * (c : ℕ) + l) / 128 = c from by omega, show (128 * (c : ℕ) + l) % 128 = l from by omega]
  · rw [dif_neg h]
    refine (EReal.coe_zero.symm.trans (congrArg _ ?_))
    refine (Finset.sum_eq_zero fun c _ => Finset.sum_eq_zero fun l _ => ?_).symm
    rw [dtrv, if_neg h, mul_zero]

end Args

end Cert.SsdbRefIdeal.Bwd

end
end
-- ==== Proof.SsdbClaim.lean ====
/- The derivative of the chunked state-space layer: kernel and reference leave the same seven arrays. -/
module

public import proofs.«01_k».proof.Defs
public import proofs.«01_k».proof.Proof.SsdClaim
public import proofs.«01_k».proof.Proof.SsdbFin
public import proofs.«01_k».proof.Proof.SsdbRefC
public import proofs.«01_k».proof.Proof.Gen.SsdbRefIdeal.Run
public import proofs.«01_k».proof.Proof.Gen.Pre_ssdb_finite

@[expose] public section

set_option maxRecDepth 16384

noncomputable section

namespace Cert.SsdBwd

open Cert.Reals Cert.Ssd Cert.SsdFwd Idealize.ShloMosaic Idealize.ShloMosaic.TcCoe Idealize.SL.Sem

section
open Cert.SsdbIdeal

/-- Where the precondition holds, the eight arrays the layer and its cotangent give are real numbers. -/
theorem args_of_pre (m : (ℓ : Loc Cert.SsdbIdeal.nD Cert.SsdbIdeal.τ Cert.SsdbIdeal.sig) → Buf (Elt Ideal) ℓ) (h : Pre_SsdbIdeal_ssdb_finite m) (c : Dev Cert.SsdbIdeal.nD) :
    ∃ (P D Z T : ℕ → ℕ → ℝ) (b al dk gn : ℕ → ℝ), Cert.SsdbIdeal.Bwd.Args m c P D Z T b al dk gn := by
  obtain ⟨h0, h1, h2, h3, h4, h5, h6, h7⟩ := h c
  exact ⟨_, _, _, _, _, _, _, _, grid_coe fun r l => coe_toReal_of_abs (congrFun h0 (ix2 r l)), grid_coe fun r l => coe_toReal_of_abs (congrFun h1 (ix2 r l)),
    grid_coe fun r l => coe_toReal_of_abs (congrFun h2 (ix2 r l)), line_coe fun l => coe_toReal_of_abs (congrFun h3 (ix1 l)),
    line_coe fun l => coe_toReal_of_abs (congrFun h4 (ix1 l)), line_coe fun l => coe_toReal_of_abs (congrFun h5 (ix1 l)),
    line_coe fun l => coe_toReal_of_abs (congrFun h6 (ix1 l)), grid_coe fun r l => coe_toReal_of_abs (congrFun h7 (ix2 r l)),
    fun h hh => dif_neg (not_lt.mpr hh), fun h hh => dif_neg (not_lt.mpr hh)⟩
end

/-- The chunks in either order. -/
theorem sum_rev (f : ℕ → ℕ → ℝ) : ∑ c : Fin 32, f (31 - c) c = ∑ j ∈ Finset.range 32, f j (31 - j) := by
  rw [Finset.sum_range, ← Equiv.sum_comp Fin.revPerm]
  refine Finset.sum_congr rfl fun c _ => ?_
  have hv : ((Fin.revPerm c : Fin 32) : ℕ) = 31 - c := by
    rw [Fin.revPerm_apply, Fin.val_rev]
    omega
  rw [hv, show 31 - (31 - (c : ℕ)) = c from by omega]

theorem algebraic : Cert.algebraic_SsdbIdeal_SsdbRefIdeal_pre_ssdb_finite := by
  intro m g m' g' hpre hargs
  refine ⟨fun c => (Cert.SsdbIdeal.Gen.dats m 0 c).arrAt 10 Cert.SsdbIdeal.cfg0.N, fun c => (Cert.SsdbIdeal.Gen.dats m 0 c).arrAt 11 Cert.SsdbIdeal.cfg0.N,
    fun c => (Cert.SsdbIdeal.Gen.dats m 0 c).arrAt 12 Cert.SsdbIdeal.cfg0.N, fun c => (Cert.SsdbIdeal.Gen.dats m 0 c).arrAt 13 Cert.SsdbIdeal.cfg0.N,
    fun c => (Cert.SsdbIdeal.Gen.dats m 0 c).arrAt 14 Cert.SsdbIdeal.cfg0.N, fun c => (Cert.SsdbIdeal.Gen.dats m 0 c).arrAt 15 Cert.SsdbIdeal.cfg0.N,
    fun c => (Cert.SsdbIdeal.Gen.dats m 0 c).arrAt 16 Cert.SsdbIdeal.cfg0.N, Cert.SsdbIdeal.Value.run_blocks m g, ?_⟩
  refine (θ_run Cert.SsdbRefIdeal.defs _ _).mono (fun r h c => ?_) (Cert.SsdbRefIdeal.Value.run m' g')
  obtain ⟨e0, e1, e2, e3, e4, e5, e6, kept⟩ := h c
  obtain ⟨b0, b1, b2, b3, b4, b5, b6, b7⟩ := hargs c
  obtain ⟨P, D, Z, T, b, al, dk, gn, A⟩ := args_of_pre m hpre c
  have B : Cert.SsdbRefIdeal.Bwd.Args (m' ((c.tc : Thread Cert.SsdbRefIdeal.nD Cert.SsdbRefIdeal.τ).loc Cert.SsdbRefIdeal.main_arg0))
      (m' ((c.tc : Thread Cert.SsdbRefIdeal.nD Cert.SsdbRefIdeal.τ).loc Cert.SsdbRefIdeal.main_arg1))
      (m' ((c.tc : Thread Cert.SsdbRefIdeal.nD Cert.SsdbRefIdeal.τ).loc Cert.SsdbRefIdeal.main_arg2))
      (m' ((c.tc : Thread Cert.SsdbRefIdeal.nD Cert.SsdbRefIdeal.τ).loc Cert.SsdbRefIdeal.main_arg3))
      (m' ((c.tc : Thread Cert.SsdbRefIdeal.nD Cert.SsdbRefIdeal.τ).loc Cert.SsdbRefIdeal.main_arg4))
      (m' ((c.tc : Thread Cert.SsdbRefIdeal.nD Cert.SsdbRefIdeal.τ).loc Cert.SsdbRefIdeal.main_arg5))
      (m' ((c.tc : Thread Cert.SsdbRefIdeal.nD Cert.SsdbRefIdeal.τ).loc Cert.SsdbRefIdeal.main_arg6))
      (m' ((c.tc : Thread Cert.SsdbRefIdeal.nD Cert.SsdbRefIdeal.τ).loc Cert.SsdbRefIdeal.main_arg7)) P D Z T b al dk gn :=
    ⟨fun r l => (congrFun b0 (ix2 r l)).trans (A.pre r l), fun r l => (congrFun b1 (ix2 r l)).trans (A.dtr r l),
      fun r l => (congrFun b2 (ix2 r l)).trans (A.gate r l), fun l => (congrFun b3 (ix1 l)).trans (A.bias l),
      fun l => (congrFun b4 (ix1 l)).trans (A.alog l), fun l => (congrFun b5 (ix1 l)).trans (A.skip l),
      fun l => (congrFun b6 (ix1 l)).trans (A.norm l), fun r l => (congrFun b7 (ix2 r l)).trans (A.cot r l)⟩
  clear b0 b1 b2 b3 b4 b5 b6 b7 hargs
  have k0 := e0.trans (Cert.SsdbRefIdeal.Read.val_main_v1053_eq _)
  have k1 := e1.trans (Cert.SsdbRefIdeal.Read.val_main_v1052_eq _)
  have k2 := e2.trans (Cert.SsdbRefIdeal.Read.val_main_v1054_eq _)
  have k3 := e3.trans (Cert.SsdbRefIdeal.Read.val_main_v1055_eq _)
  have k4 := e4.trans (Cert.SsdbRefIdeal.Read.val_main_v1058_eq _)
  have k5 := e5.trans (Cert.SsdbRefIdeal.Read.val_main_v1061_eq _)
  have k6 := e6.trans (Cert.SsdbRefIdeal.Read.val_main_v1064_eq _)
  clear h e0 e1 e2 e3 e4 e5 e6
  refine ⟨k0.trans ?_, k1.trans ?_, k2.trans ?_, k3.trans ?_, k4.trans ?_, k5.trans ?_, k6.trans ?_, kept⟩
  · refine ext2 (φ := .bf16) (a := 4096) (b := 1024) fun i j => ?_
    exact (B.v1053_eq i j).trans (Cert.SsdbIdeal.Bwd.final10 m c A i j).symm
  · refine ext2 (φ := .f32) (a := 4096) (b := 1536) fun i j => ?_
    exact (B.v1052_eq i j).trans (Cert.SsdbIdeal.Bwd.final11 m c A i j).symm
  · refine ext2 (φ := .bf16) (a := 4096) (b := 128) fun i j => ?_
    exact (B.v1054_eq i j).trans (Cert.SsdbIdeal.Bwd.final12 m c A i j).symm
  · refine ext2 (φ := .f32) (a := 1) (b := 1024) fun i j => ?_
    obtain rfl : i = 0 := Subsingleton.elim _ _
    exact ((B.v1055_eq j).trans (congrArg _ (sum_rev fun _ k => dgnv (chY P D b al dk k) (rows Z k) (rows T k) j))).trans
      (Cert.SsdbIdeal.Bwd.final13 m c A j).symm
  · refine ext2 (φ := .f32) (a := 1) (b := 128) fun i j => ?_
    obtain rfl : i = 0 := Subsingleton.elim _ _
    exact ((B.v1058_eq j).trans (congrArg _ (sum_rev fun _ k => ddv (rows P k) (chF P D Z T b al dk gn k) j))).trans
      (Cert.SsdbIdeal.Bwd.final14 m c A j).symm
  · refine ext2 (φ := .f32) (a := 1) (b := 128) fun i j => ?_
    obtain rfl : i = 0 := Subsingleton.elim _ _
    exact ((B.v1061_eq j).trans (congrArg _ (sum_rev fun n k => dalv (rows P k) (rows D k) b al (stv P D b al k)
      (dsv P D b al (chF P D Z T b al dk gn) n) (chF P D Z T b al dk gn k) j))).trans (Cert.SsdbIdeal.Bwd.final15 m c A j).symm
  · refine ext2 (φ := .f32) (a := 1) (b := 128) fun i j => ?_
    obtain rfl : i = 0 := Subsingleton.elim _ _
    exact ((B.v1064_eq j).trans (congrArg _ (sum_rev fun n k => ddbv (rows P k) (rows D k) b al (stv P D b al k)
      (dsv P D b al (chF P D Z T b al dk gn) n) (chF P D Z T b al dk gn k) j))).trans (Cert.SsdbIdeal.Bwd.final16 m c A j).symm

end Cert.SsdBwd

end
-- ==== Proof.Rms.lean ====
/- The root-mean-square norm of a row of 1024 numbers and its gradient, in the real numbers. -/
module

public import proofs.«01_k».proof.Proof.Reals

@[expose] public section

noncomputable section

namespace Cert.Reals

open Idealize.ShloMosaic

/-- The row over its root mean square. -/
def nrm (x : Fin 1024 → ℝ) (l : Fin 1024) : ℝ := x l * rs x

/-- The gradient of the norm at the row `x`, on the gradient `d` of the normalised row. -/
def rmsBwd (x d : Fin 1024 → ℝ) (l : Fin 1024) : ℝ := rs x * (d l - nrm x l * mean (fun k => d k * nrm x k))

/-- What the chain rule multiplies the row by, once for each factor of its square. -/
def rmsC (x d : Fin 1024 → ℝ) : ℝ := (∑ k, x k * d k) * (-(1 / 2) * (rs x / (mean (fun k => x k * x k) + eps))) / 1024

/-- The derivative of the norm as the chain rule writes it out, through the mean square, is `rmsBwd`. -/
theorem rmsBwd_eq (x d : Fin 1024 → ℝ) (l : Fin 1024) : d l * rs x + x l * rmsC x d + rmsC x d * x l = rmsBwd x d l := by
  have h2 : ∑ k, d k * nrm x k = (∑ k, x k * d k) * rs x := by
    rw [Finset.sum_mul]; exact Finset.sum_congr rfl fun k _ => by unfold nrm; ring
  unfold rmsC rmsBwd
  rw [rs_div, show mean (fun k => d k * nrm x k) = (∑ k, d k * nrm x k) / 1024 from rfl, h2, show nrm x l = x l * rs x from rfl]
  ring

theorem c2 : Ideal.ofBits .f32 0x40000000#32 = ((2 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem coe_max (a b : ℝ) : max (a : EReal) (b : EReal) = ((max a b : ℝ) : EReal) :=
  (EReal.coe_strictMono.monotone.map_max).symm

/-- `1/1024`. -/
theorem cRec : Ideal.ofBits .f32 0x3A800000#32 = ((1 / 1024 : ℝ) : EReal) := by
  simp [Ideal.ofBits, Ideal.ieee, -EReal.coe_mul]; norm_num

/-- `1/2048`. -/
theorem cRecHalf : Ideal.ofBits .f32 0x3A000000#32 = ((1 / 2048 : ℝ) : EReal) := by
  simp [Ideal.ofBits, Ideal.ieee, -EReal.coe_mul]; norm_num

end Cert.Reals

end
-- ==== Proof.MlpRef.lean ====
/- The reference of the feed-forward block's gradient, read element by element on finite arguments. -/
module

public import proofs.«01_k».proof.Proof.Rms
public import proofs.«01_k».proof.Proof.Gen.MlpRefIdeal.Read

@[expose] public section

set_option maxRecDepth 16384

noncomputable section

namespace Cert.Mlp

open Cert.Reals Idealize.ShloMosaic

/-! ## The block in the real numbers -/

variable (X DH : Fin 4096 → Fin 1024 → ℝ) (G : Fin 1024 → ℝ) (U : Fin 1024 → Fin 4096 → ℝ) (D : Fin 4096 → Fin 1024 → ℝ)

/-- The hidden row before its activation. -/
def pre (r : Fin 4096) (f : Fin 4096) : ℝ := ∑ k, nrm (X r) k * G k * U k f
/-- The gradient of the hidden row before its activation. -/
def dhp (r : Fin 4096) (f : Fin 4096) : ℝ := (∑ k, DH r k * D f k) * 2 * max (pre X G U r f) 0
/-- The gradient of the scaled normalised row. -/
def du (r : Fin 4096) (l : Fin 1024) : ℝ := ∑ f, dhp X DH G U D r f * U l f
/-- The gradient of the block's input. -/
def dx (r : Fin 4096) (l : Fin 1024) : ℝ := DH r l + rmsBwd (X r) (fun k => du X DH G U D r k * G k) l
/-- The gradient of the norm's weight. -/
def dg (l : Fin 1024) : ℝ := ∑ r, du X DH G U D r l * nrm (X r) l

end Cert.Mlp

namespace Cert.MlpRefIdeal.Val

open Cert.MlpRefIdeal Cert.MlpRefIdeal.Gen Cert.MlpRefIdeal.Read Cert.Reals Cert.Mlp Idealize.ShloMosaic

variable {X DH : Fin 4096 → Fin 1024 → ℝ} {G : Fin 1024 → ℝ} {U : Fin 1024 → Fin 4096 → ℝ} {D : Fin 4096 → Fin 1024 → ℝ}
variable {x0 x4 : FVec Ideal S4096x1024 .f32} {x1 : FVec Ideal S1024 .f32} {x2 : FVec Ideal S1024x4096 .f32} {x3 : FVec Ideal S4096x1024 .f32}

theorem v6_eq (h0 : ∀ r l, x0 (ix2 r l) = ((X r l : ℝ) : EReal)) (r : Fin 4096) (z : Fin 1) :
    val_main_v6 (F := Ideal) x0 (ix2 r z) = ((mean (fun k => X r k * X r k) + eps : ℝ) : EReal) := by
  pointwise [val_main_v6, val_main_v5, val_main_v4, val_main_v3, val_main_v2, val_main_v1, val_main_v0, val_main_cst, val_main_cst_0, val_main_cst_1]
  simp only [h0, coe_sum, c1024, cEps, div_coe_coe (show (1024 : ℝ) ≠ 0 by norm_num), ← EReal.coe_mul, ← EReal.coe_add]
  rfl

theorem v7_eq (h0 : ∀ r l, x0 (ix2 r l) = ((X r l : ℝ) : EReal)) (r : Fin 4096) (z : Fin 1) :
    val_main_v7 (F := Ideal) x0 (ix2 r z) = ((rs (X r) : ℝ) : EReal) := by
  have h := v6_eq h0 r z
  pointwise [val_main_v7]
  rw [h, rsqrt_pos (msq_eps_pos _)]
  rfl

theorem v10_eq (h0 : ∀ r l, x0 (ix2 r l) = ((X r l : ℝ) : EReal)) (r : Fin 4096) (z : Fin 1) :
    val_main_v10 (F := Ideal) x0 (ix2 r z) = ((-(1 / 2) * (rs (X r) / (mean (fun k => X r k * X r k) + eps)) : ℝ) : EReal) := by
  have h := v6_eq h0 r z
  have h' := v7_eq h0 r z
  pointwise [val_main_v10, val_main_v9, val_main_v8, val_main_cst_2]
  rw [h, h', cNegHalf, div_coe_coe (msq_eps_pos _).ne', ← EReal.coe_mul]

theorem v12_eq (h0 : ∀ r l, x0 (ix2 r l) = ((X r l : ℝ) : EReal)) (r : Fin 4096) (l : Fin 1024) :
    val_main_v12 (F := Ideal) x0 (ix2 r l) = ((nrm (X r) l : ℝ) : EReal) := by
  have h := v7_eq h0
  pointwise [val_main_v12, val_main_v11]
  simp only [h, h0, ← EReal.coe_mul]
  rfl

theorem v16_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (r : Fin 4096) (f : Fin 4096) :
    val_main_v16 (F := Ideal) x0 x1 x2 (ix2 r f) = ((pre X G U r f : ℝ) : EReal) := by
  have h := v12_eq h0
  pointwise [val_main_v16, val_main_v15, val_main_v14, val_main_v13]
  simp only [h, h1, h2, ← EReal.coe_mul, coe_sum]
  rfl

theorem v30_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r : Fin 4096) (f : Fin 4096) :
    val_main_v30 (F := Ideal) x0 x1 x2 x3 x4 (ix2 r f) = ((dhp X DH G U D r f : ℝ) : EReal) := by
  have h := v16_eq h0 h1 h2
  pointwise [val_main_v30, val_main_v29, val_main_v28, val_main_v27, val_main_v26, val_main_v25, val_main_v24, val_main_v19, val_main_v18, val_main_v17,
    val_main_cst_3, val_main_cst_5, val_main_call0_v0, val_main_call0_cst]
  simp only [h, h3, h4, ← EReal.coe_mul, ← EReal.coe_zero, Reals.coe_max, ← EReal.coe_add, coe_sum]
  unfold dhp
  rcases lt_or_ge 0 (pre X G U r f) with hp | hp
  · rw [if_pos (EReal.coe_lt_coe_iff.mpr hp)]
    exact congrArg _ (by ring)
  · rw [if_neg (fun hc => absurd (EReal.coe_lt_coe_iff.mp hc) (not_lt.mpr hp)), max_eq_right hp, mul_zero]

theorem v31_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r : Fin 4096) (l : Fin 1024) :
    val_main_v31 (F := Ideal) x0 x1 x2 x3 x4 (ix2 r l) = ((du X DH G U D r l : ℝ) : EReal) := by
  have h := v30_eq h0 h1 h2 h3 h4
  pointwise [val_main_v31]
  simp only [h, h2, ← EReal.coe_mul, coe_sum]
  rfl

theorem v55_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (z : Fin 1) (l : Fin 1024) :
    val_main_v55 (F := Ideal) x0 x1 x2 x3 x4 (ix2 z l) = ((dg X DH G U D l : ℝ) : EReal) := by
  have h := v31_eq h0 h1 h2 h3 h4
  have h' := v12_eq h0
  pointwise [val_main_v55, val_main_v37, val_main_v34, val_main_v33, val_main_v32, val_main_cst_6, val_main_cst_7]
  simp only [h, h', ← EReal.coe_mul, coe_sum, Finset.univ_unique, Finset.sum_singleton]
  exact congrArg _ (Finset.sum_congr rfl fun r _ => mul_comm _ _)

theorem v36_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r : Fin 4096) (l : Fin 1024) :
    val_main_v36 (F := Ideal) x0 x1 x2 x3 x4 (ix2 r l) = ((du X DH G U D r l * G l : ℝ) : EReal) := by
  have h := v31_eq h0 h1 h2 h3 h4
  pointwise [val_main_v36, val_main_v35, val_main_v13]
  simp only [h, h1, ← EReal.coe_mul]

theorem v48_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r : Fin 4096) (l : Fin 1024) :
    val_main_v48 (F := Ideal) x0 x1 x2 x3 x4 (ix2 r l) = ((rmsC (X r) (fun k => du X DH G U D r k * G k) : ℝ) : EReal) := by
  have h := v36_eq h0 h1 h2 h3 h4
  have h' := v10_eq h0
  pointwise [val_main_v48, val_main_v47, val_main_v46, val_main_v45, val_main_v44, val_main_v40, val_main_v39, val_main_v38, val_main_cst_8, val_main_cst_9, val_main_cst_10]
  simp only [h, h0, h', ← EReal.coe_mul, coe_sum, c1024, div_coe_coe (show (1024 : ℝ) ≠ 0 by norm_num), Finset.univ_unique, Finset.sum_singleton]
  rfl

theorem v52_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r : Fin 4096) (l : Fin 1024) :
    val_main_v52 (F := Ideal) x0 x1 x2 x3 x4 (ix2 r l) = ((dx X DH G U D r l : ℝ) : EReal) := by
  have h := v36_eq h0 h1 h2 h3 h4
  have h' := v7_eq h0
  have hc := v48_eq h0 h1 h2 h3 h4
  pointwise [val_main_v52, val_main_v51, val_main_v50, val_main_v49, val_main_v43, val_main_v42, val_main_v41]
  simp only [h, h0, h4, h', hc, ← EReal.coe_mul, ← EReal.coe_add]
  unfold dx
  rw [← rmsBwd_eq]
  exact congrArg _ (by ring)

theorem v53_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r f : Fin 4096) :
    val_main_v53 (F := Ideal) x0 x1 x2 x3 x4 (ix2 r f) = ((dhp X DH G U D r f : ℝ) : EReal) := by
  have h := v30_eq h0 h1 h2 h3 h4
  pointwise [val_main_v53]
  exact h r f

theorem v54_eq (h0 : ∀ r l, x0 (ix2 r l) = ((X r l : ℝ) : EReal)) (h1 : ∀ l, x1 (ix1 l) = ((G l : ℝ) : EReal))
    (h2 : ∀ l f, x2 (ix2 l f) = ((U l f : ℝ) : EReal)) (h3 : ∀ f l, x3 (ix2 f l) = ((D f l : ℝ) : EReal))
    (h4 : ∀ r l, x4 (ix2 r l) = ((DH r l : ℝ) : EReal)) (r : Fin 4096) (f : Fin 1024) :
    val_main_v54 (F := Ideal) x0 x1 x2 x3 x4 (ix2 r f) = ((dx X DH G U D r f : ℝ) : EReal) := by
  have h := v52_eq h0 h1 h2 h3 h4
  pointwise [val_main_v54]
  exact h r f

end Cert.MlpRefIdeal.Val

end
-- ==== Proof.MlpKer.lean ====
/- The kernel of the feed-forward block's gradient: what each grid point leaves in its output blocks and in its accumulator. -/
module

public import proofs.«01_k».proof.Proof.Rms
public import proofs.«01_k».proof.Proof.MlpRef
public import proofs.«01_k».proof.Proof.Gen.MlpIdeal.Value

@[expose] public section

set_option maxRecDepth 16384

noncomputable section

namespace Cert.MlpIdeal.Out

open Cert.MlpIdeal Cert.MlpIdeal.Gen Cert.Reals Cert.Mlp Idealize.ShloMosaic Idealize.ShloMosaic.TcCoe

section Cases

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x1024 .f32) (h2 : arg2.IsWhole) (arg3 : Memref sig .tc .vmem S512x1024 .bf16) (h3 : arg3.IsWhole) (arg4 : Memref sig .tc .vmem S1x1024x1024 .bf16) (h4 : arg4.IsWhole) (arg5 : Memref sig .tc .vmem S1x1024x1024 .bf16) (h5 : arg5.IsWhole) (arg6 : Memref sig .tc .vmem S512x1024 .f32) (h6 : arg6.IsWhole) (arg7 : Memref sig .tc .vmem S1x1024 .f32) (h7 : arg7.IsWhole) (arg8 : Memref sig .tc .vmem S512x1024 .bf16) (h8 : arg8.IsWhole) (arg9 : Memref sig .tc .vmem S512x1024 .f32) (h9 : arg9.IsWhole) (arg10 : Memref sig .tc .vmem S512x1024 .bf16) (h10 : arg10.IsWhole) (arg11 : Memref sig .tc .vmem S1x1024 .f32) (h11 : arg11.IsWhole) (arg12 : Memref sig .tc .vmem S512x1024 .f32) (h12 : arg12.IsWhole)
  (x0 : Vec F S512x1024 .f32) (x1 : Vec F S512x1024 .bf16) (x2 x3 : Vec F S1x1024x1024 .bf16) (x4 : Vec F S512x1024 .f32) (x5 xo : Vec F S1x1024 .f32) (xs : Vec F S512x1024 .f32)

theorem out_A_6 (hc0 : cond0_0 i) (hc1 : cond0_1 i) (hc2 : ¬cond0_2 i) : out0_A_6 c i arg2 h2 arg3 h3 arg4 h4 arg5 h5 arg6 h6 arg7 h7 arg8 h8 arg9 h9 arg10 h10 arg11 h11 arg12 h12 hc0 hc1 hc2 x0 x1 x2 x3 x4 x5 = k0_pay8 x0 x2 x1 := by
  unfold out0_A_6
  rw [View.read_writes_eq_canon _ _ _ (cover0_A_6 c i arg2 h2 arg3 h3 arg4 h4 arg5 h5 arg6 h6 arg7 h7 arg8 h8 arg9 h9 arg10 h10 arg11 h11 arg12 h12 hc0 hc1 hc2 x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem out_B_6 (hc0 : ¬cond0_0 i) (hc1 : ¬cond0_1 i) (hc2 : ¬cond0_2 i) : out0_B_6 c i arg2 h2 arg3 h3 arg4 h4 arg5 h5 arg6 h6 arg7 h7 arg8 h8 arg9 h9 arg10 h10 arg11 h11 arg12 h12 hc0 hc1 hc2 x0 x1 x2 x3 x4 x5 xs = k0_pay8 x0 x2 x1 := by
  unfold out0_B_6
  rw [View.read_writes_eq_canon _ _ _ (cover0_B_6 c i arg2 h2 arg3 h3 arg4 h4 arg5 h5 arg6 h6 arg7 h7 arg8 h8 arg9 h9 arg10 h10 arg11 h11 arg12 h12 hc0 hc1 hc2 x0 x1 x2 x3 x4 x5 xs)]
  unfold kernelRun0_B
  dsimp only
  sl_unfold_words
  rw [View.canon_unit_zero hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem out_C_6 (hc0 : ¬cond0_0 i) (hc1 : ¬cond0_1 i) (hc2 : cond0_2 i) : out0_C_6 c i arg2 h2 arg3 h3 arg4 h4 arg5 h5 arg6 h6 arg7 h7 arg8 h8 arg9 h9 arg10 h10 arg11 h11 arg12 h12 hc0 hc1 hc2 x0 x1 x2 x3 x4 x5 xo xs = k0_pay8 x0 x2 x1 := by
  unfold out0_C_6
  rw [View.read_writes_eq_canon _ _ _ (cover0_C_6 c i arg2 h2 arg3 h3 arg4 h4 arg5 h5 arg6 h6 arg7 h7 arg8 h8 arg9 h9 arg10 h10 arg11 h11 arg12 h12 hc0 hc1 hc2 x0 x1 x2 x3 x4 x5 xo xs)]
  unfold kernelRun0_C
  dsimp only
  sl_unfold_words
  rw [View.canon_unit_zero hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem out_D_6 (hc0 : cond0_0 i) (hc1 : ¬cond0_1 i) (hc2 : ¬cond0_2 i) : out0_D_6 c i arg2 h2 arg3 h3 arg4 h4 arg5 h5 arg6 h6 arg7 h7 arg8 h8 arg9 h9 arg10 h10 arg11 h11 arg12 h12 hc0 hc1 hc2 x0 x1 x2 x3 x4 x5 = k0_pay8 x0 x2 x1 := by
  unfold out0_D_6
  rw [View.read_writes_eq_canon _ _ _ (cover0_D_6 c i arg2 h2 arg3 h3 arg4 h4 arg5 h5 arg6 h6 arg7 h7 arg8 h8 arg9 h9 arg10 h10 arg11 h11 arg12 h12 hc0 hc1 hc2 x0 x1 x2 x3 x4 x5)]
  unfold kernelRun0_D
  dsimp only
  sl_unfold_words
  rw [View.canon_unit_zero hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem sout_A_0 (hc0 : cond0_0 i) (hc1 : cond0_1 i) (hc2 : ¬cond0_2 i) : sout0_A_0 c i arg2 h2 arg3 h3 arg4 h4 arg5 h5 arg6 h6 arg7 h7 arg8 h8 arg9 h9 arg10 h10 arg11 h11 arg12 h12 hc0 hc1 hc2 x0 x1 x2 x3 x4 x5 = k0_pay9 x0 x2 x1 k0_pay6 x3 := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 hc0 hc1 hc2 x0 x1 x2 x3 x4 x5)]
  unfold kernelRun0_A
  dsimp only
  sl_unfold_words
  rw [View.canon_cons_unit_zero (S := S512x1024) hz, View.readCov_unit_zero (S := S512x1024) _ hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem sout_D_0 (hc0 : cond0_0 i) (hc1 : ¬cond0_1 i) (hc2 : ¬cond0_2 i) : sout0_D_0 c i arg2 h2 arg3 h3 arg4 h4 arg5 h5 arg6 h6 arg7 h7 arg8 h8 arg9 h9 arg10 h10 arg11 h11 arg12 h12 hc0 hc1 hc2 x0 x1 x2 x3 x4 x5 = k0_pay9 x0 x2 x1 k0_pay6 x3 := by
  unfold sout0_D_0
  rw [View.read_writes_eq_canon _ _ _ (scover0_D_0 c i arg2 h2 arg3 h3 arg4 h4 arg5 h5 arg6 h6 arg7 h7 arg8 h8 arg9 h9 arg10 h10 arg11 h11 arg12 h12 hc0 hc1 hc2 x0 x1 x2 x3 x4 x5)]
  unfold kernelRun0_D
  dsimp only
  sl_unfold_words
  rw [View.canon_cons_unit_zero (S := S512x1024) hz, View.readCov_unit_zero (S := S512x1024) _ hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem sout_B_0 (hc0 : ¬cond0_0 i) (hc1 : ¬cond0_1 i) (hc2 : ¬cond0_2 i) : sout0_B_0 c i arg2 h2 arg3 h3 arg4 h4 arg5 h5 arg6 h6 arg7 h7 arg8 h8 arg9 h9 arg10 h10 arg11 h11 arg12 h12 hc0 hc1 hc2 x0 x1 x2 x3 x4 x5 xs = k0_pay9 x0 x2 x1 xs x3 := by
  unfold sout0_B_0
  rw [View.read_writes_eq_canon _ _ _ (scover0_B_0 c i arg2 h2 arg3 h3 arg4 h4 arg5 h5 arg6 h6 arg7 h7 arg8 h8 arg9 h9 arg10 h10 arg11 h11 arg12 h12 hc0 hc1 hc2 x0 x1 x2 x3 x4 x5 xs)]
  unfold kernelRun0_B
  dsimp only
  sl_unfold_words
  rw [View.canon_unit_zero hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem sout_C_0 (hc0 : ¬cond0_0 i) (hc1 : ¬cond0_1 i) (hc2 : cond0_2 i) : sout0_C_0 c i arg2 h2 arg3 h3 arg4 h4 arg5 h5 arg6 h6 arg7 h7 arg8 h8 arg9 h9 arg10 h10 arg11 h11 arg12 h12 hc0 hc1 hc2 x0 x1 x2 x3 x4 x5 xo xs = k0_pay9 x0 x2 x1 xs x3 := by
  unfold sout0_C_0
  rw [View.read_writes_eq_canon _ _ _ (scover0_C_0 c i arg2 h2 arg3 h3 arg4 h4 arg5 h5 arg6 h6 arg7 h7 arg8 h8 arg9 h9 arg10 h10 arg11 h11 arg12 h12 hc0 hc1 hc2 x0 x1 x2 x3 x4 x5 xo xs)]
  unfold kernelRun0_C
  dsimp only
  sl_unfold_words
  rw [View.canon_unit_zero hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem out_A_9 (hc0 : cond0_0 i) (hc1 : cond0_1 i) (hc2 : ¬cond0_2 i) : out0_A_9 c i arg2 h2 arg3 h3 arg4 h4 arg5 h5 arg6 h6 arg7 h7 arg8 h8 arg9 h9 arg10 h10 arg11 h11 arg12 h12 hc0 hc1 hc2 x0 x1 x2 x3 x4 x5 = k0_pay7 := by
  unfold out0_A_9
  rw [View.read_writes_eq_canon _ _ _ (cover0_A_9 c i arg2 h2 arg3 h3 arg4 h4 arg5 h5 arg6 h6 arg7 h7 arg8 h8 arg9 h9 arg10 h10 arg11 h11 arg12 h12 hc0 hc1 hc2 x0 x1 x2 x3 x4 x5)]
  unfold kernelRun0_A
  dsimp only
  sl_unfold_words
  rw [View.canon_unit_zero hz]

theorem out_C_7 (hc0 : ¬cond0_0 i) (hc1 : ¬cond0_1 i) (hc2 : cond0_2 i) : out0_C_7 c i arg2 h2 arg3 h3 arg4 h4 arg5 h5 arg6 h6 arg7 h7 arg8 h8 arg9 h9 arg10 h10 arg11 h11 arg12 h12 hc0 hc1 hc2 x0 x1 x2 x3 x4 x5 xo xs = k0_pay4 (k0_pay9 x0 x2 x1 xs x3) x4 x5 x0 := by
  unfold out0_C_7
  rw [View.read_writes_eq_canon _ _ _ (cover0_C_7 c i arg2 h2 arg3 h3 arg4 h4 arg5 h5 arg6 h6 arg7 h7 arg8 h8 arg9 h9 arg10 h10 arg11 h11 arg12 h12 hc0 hc1 hc2 x0 x1 x2 x3 x4 x5 xo xs)]
  unfold kernelRun0_C
  dsimp only
  sl_unfold_words
  rw [View.canon_unit_zero hz, View.readCov_unit_zero (S := S512x1024) _ hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem out_C_8 (hc0 : ¬cond0_0 i) (hc1 : ¬cond0_1 i) (hc2 : cond0_2 i) : out0_C_8 c i arg2 h2 arg3 h3 arg4 h4 arg5 h5 arg6 h6 arg7 h7 arg8 h8 arg9 h9 arg10 h10 arg11 h11 arg12 h12 hc0 hc1 hc2 x0 x1 x2 x3 x4 x5 xo xs = k0_pay5 (k0_pay9 x0 x2 x1 xs x3) x4 x5 x0 := by
  unfold out0_C_8
  rw [View.read_writes_eq_canon _ _ _ (cover0_C_8 c i arg2 h2 arg3 h3 arg4 h4 arg5 h5 arg6 h6 arg7 h7 arg8 h8 arg9 h9 arg10 h10 arg11 h11 arg12 h12 hc0 hc1 hc2 x0 x1 x2 x3 x4 x5 xo xs)]
  unfold kernelRun0_C
  dsimp only
  sl_unfold_words
  rw [View.canon_unit_zero hz, View.readCov_unit_zero (S := S512x1024) _ hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

theorem out_C_9 (hc0 : ¬cond0_0 i) (hc1 : ¬cond0_1 i) (hc2 : cond0_2 i) : out0_C_9 c i arg2 h2 arg3 h3 arg4 h4 arg5 h5 arg6 h6 arg7 h7 arg8 h8 arg9 h9 arg10 h10 arg11 h11 arg12 h12 hc0 hc1 hc2 x0 x1 x2 x3 x4 x5 xo xs = k0_pay3 (k0_pay9 x0 x2 x1 xs x3) x4 xo := by
  unfold out0_C_9
  rw [View.read_writes_eq_canon _ _ _ (cover0_C_9 c i arg2 h2 arg3 h3 arg4 h4 arg5 h5 arg6 h6 arg7 h7 arg8 h8 arg9 h9 arg10 h10 arg11 h11 arg12 h12 hc0 hc1 hc2 x0 x1 x2 x3 x4 x5 xo xs)]
  unfold kernelRun0_C
  dsimp only
  sl_unfold_words
  rw [View.canon_unit_zero hz, View.readCov_unit_zero (S := S512x1024) _ hz]
  simp only [View.readAt_eq_ld, h2.read_unread, h3.read_unread, h4.read_unread, h5.read_unread, h6.read_unread, h7.read_unread, h11.read_unread, h12.read_unread,
    View.ld_unit_zero (S := S512x1024) hz, View.ld_unit_zero (S := S1x1024) hz, View.ld_unit_zero (S := S1x1024x1024) hz3]

end Cases

/-! ## The payloads on real numbers -/

section Real

variable {X DH R A : Fin 512 → Fin 1024 → ℝ} {G : Fin 1024 → ℝ} {D U : Fin 1024 → Fin 1024 → ℝ}
variable {x0 x4 a : FVec Ideal S512x1024 .f32} {x1 : FVec Ideal S512x1024 .bf16} {x2 x3 : FVec Ideal S1x1024x1024 .bf16} {x5 : FVec Ideal S1x1024 .f32}

theorem pay8_eq (h0 : ∀ r l, x0 (ix2 r l) = ((DH r l : ℝ) : EReal)) (h1 : ∀ r f, x1 (ix2 r f) = ((R r f : ℝ) : EReal))
    (h2 : ∀ z f l, x2 (ix3 z f l) = ((D f l : ℝ) : EReal)) (r : Fin 512) (f : Fin 1024) :
    k0_pay8 (F := Ideal) x0 x2 x1 (ix2 r f) = (((∑ k, DH r k * D f k) * 2 * R r f : ℝ) : EReal) := by
  pointwise [k0_pay8]
  simp only [h0, h1, h2, c2, coe_sum, ← EReal.coe_mul]

theorem pay9_eq (h0 : ∀ r l, x0 (ix2 r l) = ((DH r l : ℝ) : EReal)) (h1 : ∀ r f, x1 (ix2 r f) = ((R r f : ℝ) : EReal))
    (h2 : ∀ z f l, x2 (ix3 z f l) = ((D f l : ℝ) : EReal)) (h3 : ∀ z l f, x3 (ix3 z l f) = ((U l f : ℝ) : EReal)) (p : FVec Ideal S512x1024 .f32)
    (r : Fin 512) (l : Fin 1024) :
    k0_pay9 (F := Ideal) x0 x2 x1 p x3 (ix2 r l) = p (ix2 r l) + ((∑ f, (∑ k, DH r k * D f k) * 2 * R r f * U l f : ℝ) : EReal) := by
  have h := pay8_eq h0 h1 h2
  generalize hq : k0_pay8 (F := Ideal) x0 x2 x1 = q at h
  unfold k0_pay9
  rw [hq]
  pointwise []
  simp only [h, h3, coe_sum, ← EReal.coe_mul]

theorem pay1_eq (h4 : ∀ r l, x4 (ix2 r l) = ((X r l : ℝ) : EReal)) (r : Fin 512) (z : Fin 1) :
    k0_pay1 (F := Ideal) x4 (ix2 r z) = ((rs (X r) : ℝ) : EReal) := by
  pointwise [k0_pay1]
  simp only [h4, coe_sum, c1024, cEps, div_coe_coe (show (1024 : ℝ) ≠ 0 by norm_num), ← EReal.coe_mul, ← EReal.coe_add]
  exact rsqrt_pos (msq_eps_pos _)

theorem pay2_eq (h4 : ∀ r l, x4 (ix2 r l) = ((X r l : ℝ) : EReal)) (r : Fin 512) (l : Fin 1024) :
    k0_pay2 (F := Ideal) x4 (ix2 r l) = ((nrm (X r) l : ℝ) : EReal) := by
  have h := pay1_eq h4
  generalize hq : k0_pay1 (F := Ideal) x4 = q at h
  unfold k0_pay2
  rw [hq]
  pointwise []
  simp only [h, h4, ← EReal.coe_mul]
  rfl

theorem pay3_eq (ha : ∀ r l, a (ix2 r l) = ((A r l : ℝ) : EReal)) (h4 : ∀ r l, x4 (ix2 r l) = ((X r l : ℝ) : EReal)) (xo : FVec Ideal S1x1024 .f32)
    (z : Fin 1) (l : Fin 1024) :
    k0_pay3 (F := Ideal) a x4 xo (ix2 z l) = xo (ix2 z l) + ((∑ r, A r l * nrm (X r) l : ℝ) : EReal) := by
  have h := pay2_eq h4
  generalize hq : k0_pay2 (F := Ideal) x4 = q at h
  unfold k0_pay3
  rw [hq]
  pointwise []
  simp only [h, ha, coe_sum, ← EReal.coe_mul]

theorem pay4_eq (ha : ∀ r l, a (ix2 r l) = ((A r l : ℝ) : EReal)) (h4 : ∀ r l, x4 (ix2 r l) = ((X r l : ℝ) : EReal))
    (h5 : ∀ z l, x5 (ix2 z l) = ((G l : ℝ) : EReal)) (h0 : ∀ r l, x0 (ix2 r l) = ((DH r l : ℝ) : EReal)) (r : Fin 512) (l : Fin 1024) :
    k0_pay4 (F := Ideal) a x4 x5 x0 (ix2 r l) = ((DH r l + rmsBwd (X r) (fun k => A r k * G k) l : ℝ) : EReal) := by
  have h := pay2_eq h4
  have h' := pay1_eq h4
  generalize hq : k0_pay2 (F := Ideal) x4 = q at h
  generalize hp : k0_pay1 (F := Ideal) x4 = p at h'
  unfold k0_pay4
  rw [hq, hp]
  pointwise []
  simp only [h, h', ha, h0, h5, coe_sum, c1024, div_coe_coe (show (1024 : ℝ) ≠ 0 by norm_num), ← EReal.coe_mul, ← EReal.coe_sub, ← EReal.coe_add]
  exact congrArg (fun s : ℝ => ((DH r l + rs (X r) * (A r l * G l - nrm (X r) l * (s / 1024)) : ℝ) : EReal)) rfl

theorem pay5_eq (ha : ∀ r l, a (ix2 r l) = ((A r l : ℝ) : EReal)) (h4 : ∀ r l, x4 (ix2 r l) = ((X r l : ℝ) : EReal))
    (h5 : ∀ z l, x5 (ix2 z l) = ((G l : ℝ) : EReal)) (h0 : ∀ r l, x0 (ix2 r l) = ((DH r l : ℝ) : EReal)) (r : Fin 512) (l : Fin 1024) :
    k0_pay5 (F := Ideal) a x4 x5 x0 (ix2 r l) = ((DH r l + rmsBwd (X r) (fun k => A r k * G k) l : ℝ) : EReal) := by
  have h := pay4_eq ha h4 h5 h0
  generalize hq : k0_pay4 (F := Ideal) a x4 x5 x0 = q at h
  unfold k0_pay5
  rw [hq]
  pointwise []
  exact h r l

end Real

end Cert.MlpIdeal.Out

end
-- ==== Proof.MlpVal.lean ====
/- The kernel of the feed-forward block's gradient: its accumulator and its output blocks, element by element, on finite arguments. -/
module

public import proofs.«01_k».proof.Proof.MlpKer

@[expose] public section

set_option maxRecDepth 16384

noncomputable section

namespace Cert.MlpIdeal.Out

open Cert.MlpIdeal Cert.MlpIdeal.Gen Cert.Reals Cert.Mlp Idealize.ShloMosaic Idealize.ShloMosaic.TcCoe Idealize.SL.Sem

variable (m : (ℓ : Loc nD τ sig) → Buf (Elt Ideal) ℓ) (c : Dev nD)

/-- The inverse root mean square of each row, as the host computes it. -/
abbrev hRs (x : FVec Ideal S4096x1024 .f32) : FVec Ideal S4096x1 .f32 :=
  Host.rsqrt (addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))

/-- The scaled normalised rows, as the host computes them. -/
abbrev hU (x : FVec Ideal S4096x1024 .f32) (g : FVec Ideal S1024 .f32) : FVec Ideal S4096x1024 .f32 :=
  extf .f32 (truncf .bf16 (mulf (mulf x (broadcastInDim S4096x1024 ![0, 1] bcast_S4096x1_S4096x1024_0_1 (hRs x)))
    (broadcastInDim S4096x1024 ![0, 1] bcast_S1x1024_S4096x1024_0_1 (shapeCast S1x1024 g shapeCasts_S1024_S1x1024))) bitsLt_bf16_f32) bitsLt_bf16_f32

/-- The saved hidden rows. -/
abbrev hR (x : FVec Ideal S4096x1024 .f32) (g : FVec Ideal S1024 .f32) (w : FVec Ideal S1024x4096 .f32) : FVec Ideal S4096x4096 .bf16 :=
  truncf .bf16 (maximumf (Host.dotGeneral dot_S4096x1024_S1024x4096_S4096x4096_1_0_0_1_n_n none (hU x g) (extf .f32 (truncf .bf16 w bitsLt_bf16_f32) bitsLt_bf16_f32))
    (broadcastInDim S4096x4096 ![] bcast_S_S4096x4096 (constant S_ .f32 0x00000000#32))) bitsLt_bf16_f32

/-- The slab of the two weights. -/
abbrev hW (w : FVec Ideal S1024x4096 .f32) (d : FVec Ideal S4096x1024 .f32) : FVec Ideal S4x2048x1024 .bf16 :=
  concatenate S4x2048x1024 1
    [⟨S4x1024x1024, transpose S4x1024x1024 [1, 0, 2] (shapeCast S1024x4x1024 (truncf .bf16 w bitsLt_bf16_f32) shapeCasts_S1024x4096_S1024x4x1024) transposes_S1024x4x1024_S4x1024x1024_1_0_2⟩,
     ⟨S4x1024x1024, shapeCast S4x1024x1024 (truncf .bf16 d bitsLt_bf16_f32) shapeCasts_S4096x1024_S4x1024x1024⟩]
    concatenates_S4x1024x1024_S4x1024x1024_S4x2048x1024_d1

theorem V5 : V m c main_v5 = hW (m ((c : Thread nD τ).loc main_arg2)) (m ((c : Thread nD τ).loc main_arg3)) := by
  simp only [V, hostOps0]; after_results_simp <;> rfl

theorem V6 : V m c main_v6 = shapeCast S1x1024 (m ((c : Thread nD τ).loc main_arg1) : FVec Ideal S1024 .f32) shapeCasts_S1024_S1x1024 := by
  simp only [V, hostOps0]; after_results_simp <;> rfl

theorem V26 : V m c main_v26 = hR (m ((c : Thread nD τ).loc main_arg0)) (m ((c : Thread nD τ).loc main_arg1)) (m ((c : Thread nD τ).loc main_arg2)) := by
  simp only [V, hostOps0]; after_results_simp <;> rfl

section Host

variable {X : Fin 4096 → Fin 1024 → ℝ} {G : Fin 1024 → ℝ} {U : Fin 1024 → Fin 4096 → ℝ}
variable {x : FVec Ideal S4096x1024 .f32} {g : FVec Ideal S1024 .f32} {w : FVec Ideal S1024x4096 .f32}

theorem hRs_eq (h0 : ∀ r l, x (ix2 r l) = ((X r l : ℝ) : EReal)) (r : Fin 4096) (z : Fin 1) : hRs x (ix2 r z) = ((rs (X r) : ℝ) : EReal) := by
  unfold hRs
  pointwise []
  simp only [h0, coe_sum, c1024, cEps, div_coe_coe (show (1024 : ℝ) ≠ 0 by norm_num), ← EReal.coe_mul, ← EReal.coe_add]
  exact rsqrt_pos (msq_eps_pos _)

theorem hU_eq (h0 : ∀ r l, x (ix2 r l) = ((X r l : ℝ) : EReal)) (h1 : ∀ l, g (ix1 l) = ((G l : ℝ) : EReal)) (r : Fin 4096) (l : Fin 1024) :
    hU x g (ix2 r l) = ((nrm (X r) l * G l : ℝ) : EReal) := by
  have h := hRs_eq h0
  unfold hU
  generalize hRs x = q at h ⊢
  pointwise []
  simp only [h, h0, h1, ← EReal.coe_mul]
  rfl

theorem hR_eq (h0 : ∀ r l, x (ix2 r l) = ((X r l : ℝ) : EReal)) (h1 : ∀ l, g (ix1 l) = ((G l : ℝ) : EReal)) (h2 : ∀ l f, w (ix2 l f) = ((U l f : ℝ) : EReal))
    (r f : Fin 4096) : hR x g w (ix2 r f) = ((max (pre X G U r f) 0 : ℝ) : EReal) := by
  have h := hU_eq h0 h1
  unfold hR
  generalize hU x g = q at h ⊢
  pointwise []
  simp only [h, h2, coe_sum, ← EReal.coe_mul, ← EReal.coe_zero, Reals.coe_max]
  rfl

theorem hW_up (d : FVec Ideal S4096x1024 .f32) (p : Fin 4) (q : Fin 2048) (k : Fin 1024) (hq : q.val < 1024) :
    hW w d (ix3 p q k) = w (ix2 ⟨q.val, hq⟩ ⟨1024 * p.val + k.val, by omega⟩) := by
  unfold hW
  pointwise []
  rw [dif_pos (by omega)]
  exact congrArg w (funext fun a => Fin.ext (match a with | ⟨0, _⟩ => rfl | ⟨1, _⟩ => by dsimp; omega))

theorem hW_down (d : FVec Ideal S4096x1024 .f32) (p : Fin 4) (q : Fin 2048) (k : Fin 1024) (hq : 1024 ≤ q.val) :
    hW w d (ix3 p q k) = d (ix2 ⟨1024 * p.val + (q.val - 1024), by omega⟩ k) := by
  unfold hW
  pointwise []
  rw [dif_neg (by omega)]
  exact congrArg d (funext fun a => Fin.ext (match a with | ⟨0, _⟩ => by dsimp; omega | ⟨1, _⟩ => rfl))

end Host

theorem idx0 : ∀ t : Fin grid0.N, win0_0.index t 0 = t.val / 4 ∧ win0_0.index t 1 = 0 := by decide +kernel
theorem idx1 : ∀ t : Fin grid0.N, win0_1.index t 0 = t.val / 4 ∧ win0_1.index t 1 = t.val % 4 := by decide +kernel
theorem idx2 : ∀ t : Fin grid0.N, win0_2.index t 0 = t.val % 4 ∧ win0_2.index t 1 = 1 ∧ win0_2.index t 2 = 0 := by decide +kernel
theorem idx3 : ∀ t : Fin grid0.N, win0_3.index t 0 = t.val % 4 ∧ win0_3.index t 1 = 0 ∧ win0_3.index t 2 = 0 := by decide +kernel
theorem idx4 : ∀ t : Fin grid0.N, win0_4.index t 0 = t.val / 4 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val / 4 ∧ win0_6.index t 1 = t.val % 4 := by decide +kernel
theorem idx7 : ∀ t : Fin grid0.N, win0_7.index t 0 = t.val / 4 ∧ win0_7.index t 1 = 0 := by decide +kernel
theorem idx8 : ∀ t : Fin grid0.N, win0_8.index t 0 = t.val / 4 ∧ win0_8.index t 1 = 0 := by decide +kernel
theorem idx9 : ∀ t : Fin grid0.N, win0_9.index t 0 = 0 ∧ win0_9.index t 1 = 0 := by decide +kernel

theorem lt32 (t : Fin cfg0.N) : t.val < 32 := lt_of_lt_of_eq t.isLt N_0

/-- Row `r` of a point's block of rows. -/
def rowOf (t : Fin cfg0.N) (r : Fin 512) : Fin 4096 := ⟨512 * (t.val / 4) + r.val, by have := lt32 t; omega⟩
/-- Hidden unit `f` of a point's block of units. -/
def colOf (t : Fin cfg0.N) (f : Fin 1024) : Fin 4096 := ⟨1024 * (t.val % 4) + f.val, by omega⟩

theorem blk0 (t : Fin cfg0.N) (r : Fin 512) (l : Fin 1024) :
    (iblk m c 0 t : Vec Ideal S512x1024 .f32) (ix2 r l) = m ((c : Thread nD τ).loc main_arg4) (ix2 (rowOf t r) l) := by
  unfold iblk
  rw [View.read_apply]
  show V m c main_arg4 _ = _
  rw [V_main_arg4]
  congr 1
  funext a
  apply Fin.ext
  match a with
  | ⟨0, _⟩ => show win0_0.index t 0 * 512 + 1 * r.val = 512 * (t.val / 4) + r.val; rw [(idx0 t).1]; omega
  | ⟨1, _⟩ => show win0_0.index t 1 * 1024 + 1 * l.val = l.val; rw [(idx0 t).2]; omega

theorem blk4 (t : Fin cfg0.N) (r : Fin 512) (l : Fin 1024) :
    (iblk m c 4 t : Vec Ideal S512x1024 .f32) (ix2 r l) = m ((c : Thread nD τ).loc main_arg0) (ix2 (rowOf t r) l) := by
  unfold iblk
  rw [View.read_apply]
  show V m c main_arg0 _ = _
  rw [V_main_arg0]
  congr 1
  funext a
  apply Fin.ext
  match a with
  | ⟨0, _⟩ => show win0_4.index t 0 * 512 + 1 * r.val = 512 * (t.val / 4) + r.val; rw [(idx4 t).1]; omega
  | ⟨1, _⟩ => show win0_4.index t 1 * 1024 + 1 * l.val = l.val; rw [(idx4 t).2]; omega

theorem blk5 (t : Fin cfg0.N) (z : Fin 1) (l : Fin 1024) :
    (iblk m c 5 t : Vec Ideal S1x1024 .f32) (ix2 z l) = m ((c : Thread nD τ).loc main_arg1) (ix1 l) := by
  unfold iblk
  rw [View.read_apply]
  show V m c main_v6 _ = _
  rw [V6]
  have : ∀ y : S1x1024.Idx, y = ix2 z l → shapeCast S1x1024 (m ((c : Thread nD τ).loc main_arg1) : FVec Ideal S1024 .f32) shapeCasts_S1024_S1x1024 y
      = m ((c : Thread nD τ).loc main_arg1) (ix1 l) := by
    rintro _ rfl
    pointwise []
  refine this _ (funext fun a => Fin.ext ?_)
  match a with
  | ⟨0, _⟩ => show win0_5.index t 0 * 1 + 1 * z.val = z.val; rw [(idx5 t).1]; omega
  | ⟨1, _⟩ => show win0_5.index t 1 * 1024 + 1 * l.val = l.val; rw [(idx5 t).2]; omega

theorem blk1 (t : Fin cfg0.N) (r : Fin 512) (f : Fin 1024) :
    (iblk m c 1 t : Vec Ideal S512x1024 .bf16) (ix2 r f)
      = hR (m ((c : Thread nD τ).loc main_arg0)) (m ((c : Thread nD τ).loc main_arg1)) (m ((c : Thread nD τ).loc main_arg2)) (ix2 (rowOf t r) (colOf t f)) := by
  unfold iblk
  rw [View.read_apply]
  show V m c main_v26 _ = _
  rw [V26]
  refine congrArg _ (funext fun a => Fin.ext ?_)
  match a with
  | ⟨0, _⟩ => show win0_1.index t 0 * 512 + 1 * r.val = 512 * (t.val / 4) + r.val; rw [(idx1 t).1]; omega
  | ⟨1, _⟩ => show win0_1.index t 1 * 1024 + 1 * f.val = 1024 * (t.val % 4) + f.val; rw [(idx1 t).2]; omega

theorem blk2 (t : Fin cfg0.N) (z : Fin 1) (f l : Fin 1024) :
    (iblk m c 2 t : Vec Ideal S1x1024x1024 .bf16) (ix3 z f l) = (m ((c : Thread nD τ).loc main_arg3) : FVec Ideal S4096x1024 .f32) (ix2 (colOf t f) l) := by
  unfold iblk
  rw [View.read_apply]
  show V m c main_v5 _ = _
  rw [V5]
  refine Eq.trans (congrArg _ (a₂ := ix3 ⟨t.val % 4, by omega⟩ ⟨1024 + f.val, by omega⟩ l) (funext fun a => Fin.ext ?_))
    ((hW_down _ ⟨t.val % 4, by omega⟩ ⟨1024 + f.val, by omega⟩ l (by simp)).trans (congrArg _ (funext fun a => Fin.ext ?_)))
  · match a with
    | ⟨0, _⟩ => show win0_2.index t 0 * 1 + 1 * z.val = t.val % 4; rw [(idx2 t).1]; omega
    | ⟨1, _⟩ => show win0_2.index t 1 * 1024 + 1 * f.val = 1024 + f.val; rw [(idx2 t).2.1]; omega
    | ⟨2, _⟩ => show win0_2.index t 2 * 1024 + 1 * l.val = l.val; rw [(idx2 t).2.2]; omega
  · match a with
    | ⟨0, _⟩ => show 1024 * (t.val % 4) + (1024 + f.val - 1024) = 1024 * (t.val % 4) + f.val; omega
    | ⟨1, _⟩ => rfl

theorem blk3 (t : Fin cfg0.N) (z : Fin 1) (l f : Fin 1024) :
    (iblk m c 3 t : Vec Ideal S1x1024x1024 .bf16) (ix3 z l f) = (m ((c : Thread nD τ).loc main_arg2) : FVec Ideal S1024x4096 .f32) (ix2 l (colOf t f)) := by
  unfold iblk
  rw [View.read_apply]
  show V m c main_v5 _ = _
  rw [V5]
  refine Eq.trans (congrArg _ (a₂ := ix3 ⟨t.val % 4, by omega⟩ ⟨l.val, by omega⟩ f) (funext fun a => Fin.ext ?_))
    (hW_up _ ⟨t.val % 4, by omega⟩ ⟨l.val, by omega⟩ f l.isLt)
  match a with
  | ⟨0, _⟩ => show win0_3.index t 0 * 1 + 1 * z.val = t.val % 4; rw [(idx3 t).1]; omega
  | ⟨1, _⟩ => show win0_3.index t 1 * 1024 + 1 * l.val = l.val; rw [(idx3 t).2.1]; omega
  | ⟨2, _⟩ => show win0_3.index t 2 * 1024 + 1 * f.val = f.val; rw [(idx3 t).2.2]; omega

/-! ## The arguments as real numbers -/

/-- The launched memory holds these real numbers. -/
structure Args (X DH : Fin 4096 → Fin 1024 → ℝ) (G : Fin 1024 → ℝ) (U : Fin 1024 → Fin 4096 → ℝ) (D : Fin 4096 → Fin 1024 → ℝ) : Prop where
  a0 : ∀ r l, (m ((c : Thread nD τ).loc main_arg0) : FVec Ideal S4096x1024 .f32) (ix2 r l) = ((X r l : ℝ) : EReal)
  a1 : ∀ l, (m ((c : Thread nD τ).loc main_arg1) : FVec Ideal S1024 .f32) (ix1 l) = ((G l : ℝ) : EReal)
  a2 : ∀ l f, (m ((c : Thread nD τ).loc main_arg2) : FVec Ideal S1024x4096 .f32) (ix2 l f) = ((U l f : ℝ) : EReal)
  a3 : ∀ f l, (m ((c : Thread nD τ).loc main_arg3) : FVec Ideal S4096x1024 .f32) (ix2 f l) = ((D f l : ℝ) : EReal)
  a4 : ∀ r l, (m ((c : Thread nD τ).loc main_arg4) : FVec Ideal S4096x1024 .f32) (ix2 r l) = ((DH r l : ℝ) : EReal)

variable {X DH : Fin 4096 → Fin 1024 → ℝ} {G : Fin 1024 → ℝ} {U : Fin 1024 → Fin 4096 → ℝ} {D : Fin 4096 → Fin 1024 → ℝ} (A : Args m c X DH G U D)

/-- A function of the rows, continued by zero past the last. -/
def ext (f : Fin 4096 → ℝ) (n : ℕ) : ℝ := if h : n < 4096 then f ⟨n, h⟩ else 0

theorem ext_pos (f : Fin 4096 → ℝ) (r : Fin 4096) : ext f r.val = f r := dif_pos r.isLt

theorem sum_ext (f : Fin 4096 → ℝ) : ∑ n ∈ Finset.range 4096, ext f n = ∑ r, f r := by
  rw [Finset.sum_range]
  exact Finset.sum_congr rfl fun r _ => dif_pos r.isLt

theorem sum_row (f : Fin 4096 → ℝ) (t : Fin cfg0.N) : ∑ r : Fin 512, f (rowOf t r) = ∑ n ∈ Finset.range 512, ext f (512 * (t.val / 4) + n) := by
  rw [Finset.sum_range]
  exact Finset.sum_congr rfl fun r _ => (ext_pos f (rowOf t r)).symm

theorem sum_col (f : Fin 4096 → ℝ) (t : Fin cfg0.N) : ∑ r : Fin 1024, f (colOf t r) = ∑ n ∈ Finset.range 1024, ext f (1024 * (t.val % 4) + n) := by
  rw [Finset.sum_range]
  exact Finset.sum_congr rfl fun r _ => (ext_pos f (colOf t r)).symm

include A

theorem out6 (t : Fin cfg0.N) (r : Fin 512) (f : Fin 1024) :
    (outsAt0 m c t.val t.isLt).1 (ix2 r f) = ((dhp X DH G U D (rowOf t r) (colOf t f) : ℝ) : EReal) := by
  have key := pay8_eq (x0 := iblk m c 0 t) (x1 := iblk m c 1 t) (x2 := iblk m c 2 t) (DH := fun r k => DH (rowOf t r) k)
    (R := fun r f => max (pre X G U (rowOf t r) (colOf t f)) 0) (D := fun f k => D (colOf t f) k)
    (fun r l => (blk0 m c t r l).trans (A.a4 _ _)) (fun r f => (blk1 m c t r f).trans (hR_eq A.a0 A.a1 A.a2 _ _)) (fun z f l => (blk2 m c t z f l).trans (A.a3 _ _)) r f
  by_cases h : t.val % 4 = 0
  · by_cases h1 : t.val % 32 = 0
    · rw [outsAt0_A m c t h h1 (by omega)]; dsimp only; rw [out_A_6]; exact key
    · rw [outsAt0_D m c t h h1 (by omega)]; dsimp only; rw [out_D_6]; exact key
  · by_cases h2 : t.val % 4 = 3
    · rw [outsAt0_C m c t h (by omega) h2]; dsimp only; rw [out_C_6]; exact key
    · rw [outsAt0_B m c t h (by omega) h2]; dsimp only; rw [out_B_6]; exact key

/-- What a point adds to its accumulator. -/
theorem step (t : Fin cfg0.N) (p : FVec Ideal S512x1024 .f32) (r : Fin 512) (l : Fin 1024) :
    k0_pay9 (F := Ideal) (iblk m c 0 t) (iblk m c 2 t) (iblk m c 1 t) p (iblk m c 3 t) (ix2 r l)
      = p (ix2 r l) + ((∑ n ∈ Finset.range 1024, ext (fun f => dhp X DH G U D (rowOf t r) f * U l f) (1024 * (t.val % 4) + n) : ℝ) : EReal) := by
  refine (pay9_eq (x0 := iblk m c 0 t) (x1 := iblk m c 1 t) (x2 := iblk m c 2 t) (x3 := iblk m c 3 t) (DH := fun r k => DH (rowOf t r) k)
    (R := fun r f => max (pre X G U (rowOf t r) (colOf t f)) 0) (D := fun f k => D (colOf t f) k) (U := fun l f => U l (colOf t f))
    (fun r l => (blk0 m c t r l).trans (A.a4 _ _)) (fun r f => (blk1 m c t r f).trans (hR_eq A.a0 A.a1 A.a2 _ _)) (fun z f l => (blk2 m c t z f l).trans (A.a3 _ _))
    (fun z l f => (blk3 m c t z l f).trans (A.a2 _ _)) p r l).trans ?_
  rw [← sum_col (fun f => dhp X DH G U D (rowOf t r) f * U l f) t]
  rfl

theorem acc (r : Fin 512) (l : Fin 1024) : ∀ (n : ℕ) (h : n < cfg0.N),
    (outsAt0 m c n h).2.2.2.2 (ix2 r l)
      = ((∑ k ∈ Finset.range (1024 * (n % 4 + 1)), ext (fun f => dhp X DH G U D (rowOf ⟨n, h⟩ r) f * U l f) k : ℝ) : EReal) := by
  have first : ∀ t : Fin cfg0.N, t.val % 4 = 0 → k0_pay9 (F := Ideal) (iblk m c 0 t) (iblk m c 2 t) (iblk m c 1 t) (k0_pay6 (F := Ideal)) (iblk m c 3 t) (ix2 r l)
      = ((∑ k ∈ Finset.range (1024 * (t.val % 4 + 1)), ext (fun f => dhp X DH G U D (rowOf t r) f * U l f) k : ℝ) : EReal) := by
    intro t ht
    have h6 : k0_pay6 (F := Ideal) (ix2 r l) = 0 := by pointwise [k0_pay6]
    rw [step m c A t (k0_pay6 (F := Ideal)) r l, h6, zero_add, ht]
    simp
  intro n
  induction n with
  | zero =>
    intro h
    rw [outsAt0_A m c ⟨0, h⟩ rfl rfl (by dsimp only; omega)]
    dsimp only
    rw [sout_A_0]
    exact first ⟨0, h⟩ rfl
  | succ n ih =>
    intro h
    have hN : n + 1 < 32 := lt32 ⟨n + 1, h⟩
    by_cases h0 : (n + 1) % 4 = 0
    · rw [outsAt0_D m c ⟨n + 1, h⟩ h0 (by dsimp only; omega) (by dsimp only; omega)]
      dsimp only
      rw [sout_D_0]
      exact first ⟨n + 1, h⟩ h0
    · have i := ih (Nat.lt_of_succ_lt h)
      have hr : rowOf ⟨n, Nat.lt_of_succ_lt h⟩ r = rowOf ⟨n + 1, h⟩ r := Fin.ext (by show 512 * (n / 4) + _ = 512 * ((n + 1) / 4) + _; omega)
      have hm : (n + 1) % 4 = n % 4 + 1 := by omega
      have next : k0_pay9 (F := Ideal) (iblk m c 0 ⟨n + 1, h⟩) (iblk m c 2 ⟨n + 1, h⟩) (iblk m c 1 ⟨n + 1, h⟩) (outsAt0 m c n (Nat.lt_of_succ_lt h)).2.2.2.2 (iblk m c 3 ⟨n + 1, h⟩) (ix2 r l)
          = ((∑ k ∈ Finset.range (1024 * ((n + 1) % 4 + 1)), ext (fun f => dhp X DH G U D (rowOf ⟨n + 1, h⟩ r) f * U l f) k : ℝ) : EReal) := by
        rw [step m c A ⟨n + 1, h⟩ _ r l, i, hr, ← EReal.coe_add, show 1024 * ((n + 1) % 4 + 1) = 1024 * (n % 4 + 1) + 1024 by rw [hm]; ring, Finset.sum_range_add]
        dsimp only
        rw [hm]
      by_cases h2 : (n + 1) % 4 = 3
      · rw [outsAt0_C m c ⟨n + 1, h⟩ h0 (by dsimp only; omega) h2]
        dsimp only
        rw [sout_C_0]
        exact next
      · rw [outsAt0_B m c ⟨n + 1, h⟩ h0 (by dsimp only; omega) h2]
        dsimp only
        rw [sout_B_0]
        exact next

/-- At a row block's last point the accumulator holds the gradient of the scaled normalised rows. -/
theorem acc_last (t : Fin cfg0.N) (h : t.val % 4 = 3) (r : Fin 512) (l : Fin 1024) :
    k0_pay9 (F := Ideal) (iblk m c 0 t) (iblk m c 2 t) (iblk m c 1 t) (outsAt0 m c (t.val - 1) (Nat.lt_of_le_of_lt (Nat.sub_le _ _) t.isLt)).2.2.2.2 (iblk m c 3 t) (ix2 r l)
      = ((du X DH G U D (rowOf t r) l : ℝ) : EReal) := by
  have i := acc m c A r l t.val t.isLt
  rw [outsAt0_C m c t (by omega) (by omega) h] at i
  dsimp only at i
  rw [sout_C_0] at i
  refine i.trans ?_
  rw [h, show 1024 * (3 + 1) = 4096 by norm_num, sum_ext]
  rfl

theorem out7 (t : Fin cfg0.N) (h : t.val % 4 = 3) (r : Fin 512) (l : Fin 1024) :
    (outsAt0 m c t.val t.isLt).2.1 (ix2 r l) = ((dx X DH G U D (rowOf t r) l : ℝ) : EReal) := by
  rw [outsAt0_C m c t (by omega) (by omega) h]
  dsimp only
  rw [out_C_7]
  exact pay4_eq (A := fun r l => du X DH G U D (rowOf t r) l) (X := fun r => X (rowOf t r)) (acc_last m c A t h) (fun r l => (blk4 m c t r l).trans (A.a0 _ _))
    (fun z l => (blk5 m c t z l).trans (A.a1 _)) (fun r l => (blk0 m c t r l).trans (A.a4 _ _)) r l

theorem out8 (t : Fin cfg0.N) (h : t.val % 4 = 3) (r : Fin 512) (l : Fin 1024) :
    (outsAt0 m c t.val t.isLt).2.2.1 (ix2 r l) = ((dx X DH G U D (rowOf t r) l : ℝ) : EReal) := by
  rw [outsAt0_C m c t (by omega) (by omega) h]
  dsimp only
  rw [out_C_8]
  exact pay5_eq (A := fun r l => du X DH G U D (rowOf t r) l) (X := fun r => X (rowOf t r)) (acc_last m c A t h) (fun r l => (blk4 m c t r l).trans (A.a0 _ _))
    (fun z l => (blk5 m c t z l).trans (A.a1 _)) (fun r l => (blk0 m c t r l).trans (A.a4 _ _)) r l

theorem gain (z : Fin 1) (l : Fin 1024) : ∀ (n : ℕ) (h : n < cfg0.N),
    (outsAt0 m c n h).2.2.2.1 (ix2 z l)
      = ((∑ k ∈ Finset.range (512 * ((n + 1) / 4)), ext (fun r => du X DH G U D r l * nrm (X r) l) k : ℝ) : EReal) := by
  intro n
  induction n with
  | zero =>
    intro h
    rw [outsAt0_A m c ⟨0, h⟩ rfl rfl (by dsimp only; omega)]
    dsimp only
    rw [out_A_9]
    pointwise [k0_pay7]
    simp
  | succ n ih =>
    intro h
    have hN : n + 1 < 32 := lt32 ⟨n + 1, h⟩
    have i := ih (Nat.lt_of_succ_lt h)
    by_cases h0 : (n + 1) % 4 = 0
    · rw [outsAt0_D m c ⟨n + 1, h⟩ h0 (by dsimp only; omega) (by dsimp only; omega), show (n + 1 + 1) / 4 = (n + 1) / 4 by omega]
      exact i
    · by_cases h2 : (n + 1) % 4 = 3
      · have hp := pay3_eq (A := fun r l => du X DH G U D (rowOf ⟨n + 1, h⟩ r) l) (X := fun r => X (rowOf ⟨n + 1, h⟩ r)) (acc_last m c A ⟨n + 1, h⟩ h2)
          (fun r l => (blk4 m c ⟨n + 1, h⟩ r l).trans (A.a0 _ _)) (outsAt0 m c n (Nat.lt_of_succ_lt h)).2.2.2.1 z l
        rw [outsAt0_C m c ⟨n + 1, h⟩ h0 (by dsimp only; omega) h2]
        dsimp only
        rw [out_C_9]
        refine hp.trans ?_
        rw [i, ← EReal.coe_add, show 512 * ((n + 1 + 1) / 4) = 512 * ((n + 1) / 4) + 512 by omega, Finset.sum_range_add]
        exact congrArg (fun q : ℝ => ((_ + q : ℝ) : EReal)) (sum_row (fun r => du X DH G U D r l * nrm (X r) l) ⟨n + 1, h⟩)
      · rw [outsAt0_B m c ⟨n + 1, h⟩ h0 (by dsimp only; omega) h2, show (n + 1 + 1) / 4 = (n + 1) / 4 by omega]
        exact i

end Cert.MlpIdeal.Out

end
-- ==== Proof.MlpFin.lean ====
/- The kernel of the feed-forward block's gradient: its four result arrays after the run. -/
module

public import proofs.«01_k».proof.Proof.MlpVal

@[expose] public section

set_option maxRecDepth 16384

noncomputable section

namespace Cert.MlpIdeal.Out

open Cert.MlpIdeal Cert.MlpIdeal.Gen Cert.Reals Cert.Mlp Idealize.ShloMosaic Idealize.ShloMosaic.TcCoe Idealize.SL.Sem

variable (m : (ℓ : Loc nD τ sig) → Buf (Elt Ideal) ℓ) (c : Dev nD)
variable {X DH : Fin 4096 → Fin 1024 → ℝ} {G : Fin 1024 → ℝ} {U : Fin 1024 → Fin 4096 → ℝ} {D : Fin 4096 → Fin 1024 → ℝ} (A : Args m c X DH G U D)

/-- The grid point that computes row `R` and hidden unit `C`. -/
def ptOf (R C : Fin 4096) : Fin cfg0.N := ⟨4 * (R.val / 512) + C.val / 1024, by rw [show cfg0.N = 32 from N_0]; omega⟩

theorem rowOf_pt (R C : Fin 4096) : rowOf (ptOf R C) ⟨R.val % 512, by omega⟩ = R :=
  Fin.ext (by show 512 * ((4 * (R.val / 512) + C.val / 1024) / 4) + R.val % 512 = R.val; omega)

theorem colOf_pt (R C : Fin 4096) : colOf (ptOf R C) ⟨C.val % 1024, by omega⟩ = C :=
  Fin.ext (by show 1024 * ((4 * (R.val / 512) + C.val / 1024) % 4) + C.val % 1024 = C.val; omega)

include A in
theorem final6 (R C : Fin 4096) : ((dats m 0 c).arrAt 6 cfg0.N : FVec Ideal S4096x4096 .bf16) (ix2 R C) = ((dhp X DH G U D R C : ℝ) : EReal) := by
  have h := congrFun (Value.blocks6 m c (ptOf R C) (flush0_6 _)) (ix2 ⟨R.val % 512, by omega⟩ ⟨C.val % 1024, by omega⟩)
  rw [View.read_apply, Value.flushed6] at h
  refine Eq.trans (congrArg _ (funext fun a => Fin.ext ?_)) (h.trans ((out6 m c A (ptOf R C) ⟨R.val % 512, by omega⟩ ⟨C.val % 1024, by omega⟩).trans ?_))
  · match a with
    | ⟨0, _⟩ => show R.val = win0_6.index (ptOf R C) 0 * 512 + 1 * (R.val % 512); rw [(idx6 (ptOf R C)).1]; show _ = (4 * (R.val / 512) + C.val / 1024) / 4 * 512 + _; omega
    | ⟨1, _⟩ => show C.val = win0_6.index (ptOf R C) 1 * 1024 + 1 * (C.val % 1024); rw [(idx6 (ptOf R C)).2]; show _ = (4 * (R.val / 512) + C.val / 1024) % 4 * 1024 + _; omega
  · rw [rowOf_pt, colOf_pt]

/-- The last point of the row block of row `R`. -/
def ptR (R : Fin 4096) : Fin cfg0.N := ⟨4 * (R.val / 512) + 3, by rw [show cfg0.N = 32 from N_0]; omega⟩

include A in
theorem final7 : (dats m 0 c).arrAt 7 cfg0.N = (fun i => ((dx X DH G U D (i 0) (i 1) : ℝ) : EReal) : FVec Ideal S4096x1024 .f32) := by
  refine (dats m 0 c).arrAt_eq_of_cover 7 (fun i => ((dx X DH G U D (i 0) (i 1) : ℝ) : EReal) : FVec Ideal S4096x1024 .f32) (fun t hf => ?_) fun i => ⟨ptR (i 0), (flush0_7 _).mpr (by show (4 * ((i 0).val / 512) + 3) % 4 = 3; omega), ?_⟩
  · have h3 := (flush0_7 t).mp hf
    rw [Value.flushed7]
    refine funext fun y => ?_
    rw [View.read_apply]
    refine Eq.trans (congrArg _ (eq_ix2 (n0 := 512) (n1 := 1024) y)) ((out7 m c A t h3 (y 0) (y 1)).trans ?_)
    refine congrArg₂ (fun p q => ((dx X DH G U D p q : ℝ) : EReal)) (Fin.ext ?_) (Fin.ext ?_)
    · show 512 * (t.val / 4) + (y 0).val = win0_7.index t 0 * 512 + 1 * (y 0).val; rw [(idx7 t).1]; omega
    · show (y 1).val = win0_7.index t 1 * 1024 + 1 * (y 1).val; rw [(idx7 t).2]; omega
  · show i ∈ ((View.whole main_v27_1).slice (win0_7.rect (ptR (i 0)))).set
    rw [View.set_slice_whole, Rect.mem_set_unit]
    intro a
    have h0 : (i 0 : Nat) < 4096 := (i 0).isLt
    have h1 : (i 1 : Nat) < 1024 := (i 1).isLt
    have hi : win0_7.index (ptR (i 0)) 0 = (i 0 : Nat) / 512 := by rw [(idx7 _).1]; show (4 * ((i 0 : Nat) / 512) + 3) / 4 = _; omega
    match a with
    | ⟨0, _⟩ => show win0_7.index (ptR (i 0)) 0 * 512 ≤ (i 0 : Nat) ∧ (i 0 : Nat) < win0_7.index (ptR (i 0)) 0 * 512 + 512
                rw [hi]; omega
    | ⟨1, _⟩ => show win0_7.index (ptR (i 0)) 1 * 1024 ≤ (i 1 : Nat) ∧ (i 1 : Nat) < win0_7.index (ptR (i 0)) 1 * 1024 + 1024
                rw [(idx7 _).2]; omega

include A in
theorem final8 : (dats m 0 c).arrAt 8 cfg0.N = (fun i => ((dx X DH G U D (i 0) (i 1) : ℝ) : EReal) : FVec Ideal S4096x1024 .bf16) := by
  refine (dats m 0 c).arrAt_eq_of_cover 8 (fun i => ((dx X DH G U D (i 0) (i 1) : ℝ) : EReal) : FVec Ideal S4096x1024 .bf16) (fun t hf => ?_) fun i => ⟨ptR (i 0), (flush0_8 _).mpr (by show (4 * ((i 0).val / 512) + 3) % 4 = 3; omega), ?_⟩
  · have h3 := (flush0_8 t).mp hf
    rw [Value.flushed8]
    refine funext fun y => ?_
    rw [View.read_apply]
    refine Eq.trans (congrArg _ (eq_ix2 (n0 := 512) (n1 := 1024) y)) ((out8 m c A t h3 (y 0) (y 1)).trans ?_)
    refine congrArg₂ (fun p q => ((dx X DH G U D p q : ℝ) : EReal)) (Fin.ext ?_) (Fin.ext ?_)
    · show 512 * (t.val / 4) + (y 0).val = win0_8.index t 0 * 512 + 1 * (y 0).val; rw [(idx8 t).1]; omega
    · show (y 1).val = win0_8.index t 1 * 1024 + 1 * (y 1).val; rw [(idx8 t).2]; omega
  · show i ∈ ((View.whole main_v27_2).slice (win0_8.rect (ptR (i 0)))).set
    rw [View.set_slice_whole, Rect.mem_set_unit]
    intro a
    have h0 : (i 0 : Nat) < 4096 := (i 0).isLt
    have h1 : (i 1 : Nat) < 1024 := (i 1).isLt
    have hi : win0_8.index (ptR (i 0)) 0 = (i 0 : Nat) / 512 := by rw [(idx8 _).1]; show (4 * ((i 0 : Nat) / 512) + 3) / 4 = _; omega
    match a with
    | ⟨0, _⟩ => show win0_8.index (ptR (i 0)) 0 * 512 ≤ (i 0 : Nat) ∧ (i 0 : Nat) < win0_8.index (ptR (i 0)) 0 * 512 + 512
                rw [hi]; omega
    | ⟨1, _⟩ => show win0_8.index (ptR (i 0)) 1 * 1024 ≤ (i 1 : Nat) ∧ (i 1 : Nat) < win0_8.index (ptR (i 0)) 1 * 1024 + 1024
                rw [(idx8 _).2]; omega

/-- The last grid point. -/
def tEnd : Fin cfg0.N := ⟨31, by rw [show cfg0.N = 32 from N_0]; omega⟩

theorem last (t : Fin cfg0.N) (h : t.val % 32 = 31) : t = tEnd := by
  have := lt32 t
  exact Fin.ext (by show t.val = 31; omega)

/-- The gradient of the norm's weight: the one block, written back after the last point. -/
theorem final9' : (dats m 0 c).arrAt 9 cfg0.N = (outsAt0 m c tEnd.val tEnd.isLt).2.2.2.1 := by
  refine (dats m 0 c).arrAt_eq_of_cover 9 (outsAt0 m c tEnd.val tEnd.isLt).2.2.2.1 (fun t hf => ?_) fun i => ⟨tEnd, (flush0_9 tEnd).mpr rfl, ?_⟩
  · obtain rfl := last t ((flush0_9 t).mp hf)
    rw [Value.flushed9]
    have hz' : (fun a => win0_9.index tEnd a * main_v27_3.ty.shape.size a) = fun _ => 0 := funext fun a => match a with
      | ⟨0, _⟩ => by show win0_9.index tEnd 0 * _ = 0; rw [(idx9 _).1, zero_mul]
      | ⟨1, _⟩ => by show win0_9.index tEnd 1 * _ = 0; rw [(idx9 _).2, zero_mul]
    exact (Memref.read_access_unit_zero (Elt Ideal) main_v27_3 hz' (fun a => by rw [congrFun hz' a]; simp) _).symm
  · show i ∈ ((View.whole main_v27_3).slice (win0_9.rect tEnd)).set
    rw [View.set_slice_whole, Rect.mem_set_unit]
    intro a
    have h0 : (i 0 : Nat) < 1 := (i 0).isLt
    have h1 : (i 1 : Nat) < 1024 := (i 1).isLt
    match a with
    | ⟨0, _⟩ => show win0_9.index tEnd 0 * 1 ≤ (i 0 : Nat) ∧ (i 0 : Nat) < win0_9.index tEnd 0 * 1 + 1
                rw [(idx9 _).1]; omega
    | ⟨1, _⟩ => show win0_9.index tEnd 1 * 1024 ≤ (i 1 : Nat) ∧ (i 1 : Nat) < win0_9.index tEnd 1 * 1024 + 1024
                rw [(idx9 _).2]; omega

include A in
theorem final9 (z : Fin 1) (l : Fin 1024) : ((dats m 0 c).arrAt 9 cfg0.N : FVec Ideal S1x1024 .f32) (ix2 z l) = ((dg X DH G U D l : ℝ) : EReal) := by
  rw [final9']
  refine (gain m c A z l 31 tEnd.isLt).trans ?_
  rw [show 512 * ((31 + 1) / 4) = 4096 by norm_num, sum_ext]
  rfl

end Cert.MlpIdeal.Out

end
-- ==== Proof.MlpClaim.lean ====
/- The feed-forward block's gradient: kernel and reference leave the same four arrays. -/
module

public import proofs.«01_k».proof.Defs
public import proofs.«01_k».proof.Proof.MlpFin
public import proofs.«01_k».proof.Proof.MlpRef
public import proofs.«01_k».proof.Proof.Gen.MlpRefIdeal.Run
public import proofs.«01_k».proof.Proof.Gen.Pre_mlp_finite

@[expose] public section

set_option maxRecDepth 16384

noncomputable section

namespace Cert.Mlp

open Cert.Reals Idealize.ShloMosaic Idealize.ShloMosaic.TcCoe Idealize.SL.Sem

section
open Cert.MlpIdeal

/-- Where the precondition holds, the five arrays are real numbers. -/
theorem args_of_pre (m : (ℓ : Loc nD τ sig) → Buf (Elt Ideal) ℓ) (h : Pre_MlpIdeal_mlp_finite m) (c : Dev nD) :
    ∃ X DH G U D, Cert.MlpIdeal.Out.Args m c X DH G U D := by
  obtain ⟨h0, h1, h2, h3, h4⟩ := h c
  exact ⟨_, _, _, _, _, fun r l => coe_toReal_of_abs (congrFun h0 (ix2 r l)), fun l => coe_toReal_of_abs (congrFun h1 (ix1 l)),
    fun l f => coe_toReal_of_abs (congrFun h2 (ix2 l f)), fun f l => coe_toReal_of_abs (congrFun h3 (ix2 f l)),
    fun r l => coe_toReal_of_abs (congrFun h4 (ix2 r l))⟩
end

/-- Two arrays of two axes that agree at every pair of indices are equal. -/
theorem ext2 {φ : FTy} {a b : Nat} {f g : FVec Ideal (⟨2, ![a, b]⟩ : Shape) φ} (h : ∀ i j, f (ix2 i j) = g (ix2 i j)) : f = g := by
  funext i
  rw [eq_ix2 i]
  exact h _ _

theorem algebraic : Cert.algebraic_MlpIdeal_MlpRefIdeal_pre_mlp_finite := by
  intro m g m' g' hpre hargs
  refine ⟨fun c => (Cert.MlpIdeal.Gen.dats m 0 c).arrAt 6 Cert.MlpIdeal.cfg0.N, fun c => (Cert.MlpIdeal.Gen.dats m 0 c).arrAt 7 Cert.MlpIdeal.cfg0.N,
    fun c => (Cert.MlpIdeal.Gen.dats m 0 c).arrAt 8 Cert.MlpIdeal.cfg0.N, fun c => (Cert.MlpIdeal.Gen.dats m 0 c).arrAt 9 Cert.MlpIdeal.cfg0.N,
    Cert.MlpIdeal.Value.run_blocks m g, ?_⟩
  refine (θ_run Cert.MlpRefIdeal.defs _ _).mono (fun r h c => ?_) (Cert.MlpRefIdeal.Value.run m' g')
  obtain ⟨e0, e1, e2, e3, kept⟩ := h c
  obtain ⟨b0, b1, b2, b3, b4⟩ := hargs c
  obtain ⟨X, DH, G, U, D, A⟩ := args_of_pre m hpre c
  have h0 := fun r l => (congrFun b0 (ix2 r l)).trans (A.a0 r l)
  have h1 := fun l => (congrFun b1 (ix1 l)).trans (A.a1 l)
  have h2 := fun l f => (congrFun b2 (ix2 l f)).trans (A.a2 l f)
  have h3 := fun f l => (congrFun b3 (ix2 f l)).trans (A.a3 f l)
  have h4 := fun r l => (congrFun b4 (ix2 r l)).trans (A.a4 r l)
  have k0 := e0.trans (Cert.MlpRefIdeal.Read.val_main_v53_eq _ _ _ _ _)
  clear hargs hpre h e0
  refine ⟨k0.trans ?_, (e1.trans (Cert.MlpRefIdeal.Read.val_main_v52_eq _ _)).trans ?_,
    (e2.trans (Cert.MlpRefIdeal.Read.val_main_v54_eq _ _)).trans ?_, (e3.trans (Cert.MlpRefIdeal.Read.val_main_v55_eq _ _)).trans ?_, kept⟩
  · refine ext2 (φ := .bf16) (a := 4096) (b := 4096) fun i j => ?_
    refine Eq.trans ?_ (Cert.MlpIdeal.Out.final6 m c A i j).symm
    exact Cert.MlpRefIdeal.Val.v53_eq h0 h1 h2 h3 h4 i j
  · refine ext2 (φ := .f32) (a := 4096) (b := 1024) fun i j => ?_
    refine (Cert.MlpRefIdeal.Val.v52_eq h0 h1 h2 h3 h4 i j).trans ?_
    exact (congrFun (Cert.MlpIdeal.Out.final7 m c A) (ix2 i j)).symm
  · refine ext2 (φ := .bf16) (a := 4096) (b := 1024) fun i j => ?_
    refine (Cert.MlpRefIdeal.Val.v54_eq h0 h1 h2 h3 h4 i j).trans ?_
    exact (congrFun (Cert.MlpIdeal.Out.final8 m c A) (ix2 i j)).symm
  · refine ext2 (φ := .f32) (a := 1) (b := 1024) fun i j => ?_
    exact (Cert.MlpRefIdeal.Val.v55_eq h0 h1 h2 h3 h4 i j).trans (Cert.MlpIdeal.Out.final9 m c A i j).symm

end Cert.Mlp

end
-- ==== Proof.PleRef.lean ====
/- The reference of the loss and of the gated per-layer input's gradient, read element by element on finite arguments. -/
module

public import proofs.«01_k».proof.Proof.Rms
public import proofs.«01_k».proof.Proof.Gen.PleRefIdeal.Read

@[expose] public section

set_option maxRecDepth 16384

noncomputable section

namespace Cert.Ple

open Cert.Reals Idealize.ShloMosaic

/-! ## The head in the real numbers -/

/-- One row: the residual stream, the per-layer input and the target. -/
structure Row where
  h : Fin 1024 → ℝ
  p : Fin 256 → ℝ
  t : Fin 1024 → ℝ

/-- The weights: the three norms', the gate's bias and the two projections. -/
structure Wt where
  gpg : Fin 1024 → ℝ
  b : Fin 1024 → ℝ
  gple : Fin 1024 → ℝ
  gfin : Fin 1024 → ℝ
  w : Fin 1024 → Fin 1024 → ℝ
  wp : Fin 256 → Fin 1024 → ℝ

variable (K : Wt) (R : Row)

/-- The gate before the logistic function. -/
def gp (l : Fin 1024) : ℝ := ∑ j, nrm R.h j * K.gpg j * K.w j l + K.b l
/-- The gate. -/
def gate (l : Fin 1024) : ℝ := sigm (gp K R l)
/-- The projected per-layer input. -/
def ep (l : Fin 1024) : ℝ := ∑ j, R.p j * K.wp j l
/-- … normalised and scaled. -/
def emb (l : Fin 1024) : ℝ := nrm (ep K R) l * K.gple l
/-- The residual stream after the gate. -/
def h3 (l : Fin 1024) : ℝ := R.h l + gate K R l * emb K R l
/-- The error. -/
def df (l : Fin 1024) : ℝ := nrm (h3 K R) l * K.gfin l - R.t l
/-- The gradient of `h3`. -/
def dh3 (l : Fin 1024) : ℝ := rmsBwd (h3 K R) (fun j => df K R j / 1024 * K.gfin j) l
/-- The gradient of the gate before the logistic function. -/
def dgp (l : Fin 1024) : ℝ := dh3 K R l * emb K R l * (gate K R l * (1 - gate K R l))
/-- The gradient of the projected per-layer input. -/
def dep (l : Fin 1024) : ℝ := rmsBwd (ep K R) (fun j => gate K R j * dh3 K R j * K.gple j) l
/-- The gradient of the gate's input. -/
def du (l : Fin 1024) : ℝ := ∑ j, dgp K R j * K.w l j
/-- The gradient of the residual stream. -/
def dh2 (l : Fin 1024) : ℝ := dh3 K R l + rmsBwd R.h (fun j => du K R j * K.gpg j) l
/-- The row's share of the loss. -/
def ls : ℝ := 1 / 2 * ((∑ l, df K R l * df K R l) / 1024)

end Cert.Ple

namespace Cert.PleRefIdeal.Val

open Cert.PleRefIdeal Cert.PleRefIdeal.Gen Cert.PleRefIdeal.Read Cert.Reals Cert.Ple Idealize.ShloMosaic

/-- The arrays hold these real numbers. -/
structure In (x0 : FVec Ideal S4096x1024 .f32) (x1 : FVec Ideal S4096x256 .f32) (x2 : FVec Ideal S4096x1024 .f32) (x3 : FVec Ideal S1024 .f32)
    (x4 : FVec Ideal S1024x1024 .f32) (x5 : FVec Ideal S1024 .f32) (x6 : FVec Ideal S256x1024 .f32) (x7 x8 : FVec Ideal S1024 .f32)
    (H : Fin 4096 → Row) (K : Wt) : Prop where
  a0 : ∀ r l, x0 (ix2 r l) = (((H r).h l : ℝ) : EReal)
  a1 : ∀ r l, x1 (ix2 r l) = (((H r).p l : ℝ) : EReal)
  a2 : ∀ r l, x2 (ix2 r l) = (((H r).t l : ℝ) : EReal)
  a3 : ∀ l, x3 (ix1 l) = ((K.gpg l : ℝ) : EReal)
  a4 : ∀ j l, x4 (ix2 j l) = ((K.w j l : ℝ) : EReal)
  a5 : ∀ l, x5 (ix1 l) = ((K.b l : ℝ) : EReal)
  a6 : ∀ j l, x6 (ix2 j l) = ((K.wp j l : ℝ) : EReal)
  a7 : ∀ l, x7 (ix1 l) = ((K.gple l : ℝ) : EReal)
  a8 : ∀ l, x8 (ix1 l) = ((K.gfin l : ℝ) : EReal)

variable {x0 : FVec Ideal S4096x1024 .f32} {x1 : FVec Ideal S4096x256 .f32} {x2 : FVec Ideal S4096x1024 .f32} {x3 : FVec Ideal S1024 .f32}
  {x4 : FVec Ideal S1024x1024 .f32} {x5 : FVec Ideal S1024 .f32} {x6 : FVec Ideal S256x1024 .f32} {x7 x8 : FVec Ideal S1024 .f32}
  {H : Fin 4096 → Row} {K : Wt} (A : In x0 x1 x2 x3 x4 x5 x6 x7 x8 H K)
include A

theorem v6_eq (r : Fin 4096) (z : Fin 1) : val_main_v6 (F := Ideal) x0 (ix2 r z) = ((mean (fun k => (H r).h k * (H r).h k) + eps : ℝ) : EReal) := by
  pointwise [val_main_v6, val_main_v5, val_main_v4, val_main_v3, val_main_v2, val_main_v1, val_main_v0, val_main_cst, val_main_cst_0, val_main_cst_1]
  simp only [A.a0, coe_sum, c1024, cEps, div_coe_coe (show (1024 : ℝ) ≠ 0 by norm_num), ← EReal.coe_mul, ← EReal.coe_add]
  rfl

theorem v7_eq (r : Fin 4096) (z : Fin 1) : val_main_v7 (F := Ideal) x0 (ix2 r z) = ((rs ((H r).h) : ℝ) : EReal) := by
  have h0 := v6_eq A
  pointwise [val_main_v7]
  rw [h0, rsqrt_pos (msq_eps_pos _)]
  rfl

theorem v10_eq (r : Fin 4096) (z : Fin 1) : val_main_v10 (F := Ideal) x0 (ix2 r z) = ((-(1 / 2) * (rs ((H r).h) / (mean (fun k => (H r).h k * (H r).h k) + eps)) : ℝ) : EReal) := by
  have h0 := v6_eq A
  have h1 := v7_eq A
  pointwise [val_main_v10, val_main_v9, val_main_v8, val_main_cst_2]
  rw [h0, h1, cNegHalf, div_coe_coe (msq_eps_pos _).ne', ← EReal.coe_mul]

theorem v12_eq (r : Fin 4096) (l : Fin 1024) : val_main_v12 (F := Ideal) x0 (ix2 r l) = ((nrm ((H r).h) l : ℝ) : EReal) := by
  have h0 := v7_eq A
  pointwise [val_main_v12, val_main_v11]
  simp only [h0, A.a0, ← EReal.coe_mul]
  rfl

theorem v19_eq (r : Fin 4096) (l : Fin 1024) : val_main_v19 (F := Ideal) x0 x3 x4 x5 (ix2 r l) = ((gp K (H r) l : ℝ) : EReal) := by
  have h0 := v12_eq A
  pointwise [val_main_v19, val_main_v18, val_main_v17, val_main_v16, val_main_v15, val_main_v14, val_main_v13]
  simp only [h0, A.a3, A.a4, A.a5, ← EReal.coe_mul, ← EReal.coe_add, coe_sum]
  rfl

theorem v20_eq (r : Fin 4096) (l : Fin 1024) : val_main_v20 (F := Ideal) x1 x6 (ix2 r l) = ((ep K (H r) l : ℝ) : EReal) := by
  pointwise [val_main_v20]
  simp only [A.a1, A.a6, ← EReal.coe_mul, coe_sum]
  rfl

theorem v26_eq (r : Fin 4096) (l : Fin 1024) : val_main_v26 (F := Ideal) x0 x3 x4 x5 (ix2 r l) = ((gate K (H r) l : ℝ) : EReal) := by
  have h0 := v19_eq A
  pointwise [val_main_v26, val_main_v25, val_main_v24, val_main_v23, val_main_v22, val_main_v21, val_main_cst_3, val_main_cst_4]
  simp only [h0, ← EReal.coe_one, ← EReal.coe_neg, Ideal.exp_coe, ← EReal.coe_add]
  rw [div_coe_coe (by positivity)]
  unfold gate sigm
  rw [one_div]

theorem v36_eq (r : Fin 4096) (z : Fin 1) : val_main_v36 (F := Ideal) x1 x6 (ix2 r z) = ((mean (fun k => ep K (H r) k * ep K (H r) k) + eps : ℝ) : EReal) := by
  have h0 := v20_eq A
  pointwise [val_main_v36, val_main_v35, val_main_v34, val_main_v33, val_main_v32, val_main_v31, val_main_v30, val_main_cst_6, val_main_cst_7, val_main_cst_8]
  simp only [h0, coe_sum, c1024, cEps, div_coe_coe (show (1024 : ℝ) ≠ 0 by norm_num), ← EReal.coe_mul, ← EReal.coe_add]
  rfl

theorem v37_eq (r : Fin 4096) (z : Fin 1) : val_main_v37 (F := Ideal) x1 x6 (ix2 r z) = ((rs (ep K (H r)) : ℝ) : EReal) := by
  have h0 := v36_eq A
  pointwise [val_main_v37]
  rw [h0, rsqrt_pos (msq_eps_pos _)]
  rfl

theorem v40_eq (r : Fin 4096) (z : Fin 1) : val_main_v40 (F := Ideal) x1 x6 (ix2 r z) = ((-(1 / 2) * (rs (ep K (H r)) / (mean (fun k => ep K (H r) k * ep K (H r) k) + eps)) : ℝ) : EReal) := by
  have h0 := v36_eq A
  have h1 := v37_eq A
  pointwise [val_main_v40, val_main_v39, val_main_v38, val_main_cst_9]
  rw [h0, h1, cNegHalf, div_coe_coe (msq_eps_pos _).ne', ← EReal.coe_mul]

theorem v42_eq (r : Fin 4096) (l : Fin 1024) : val_main_v42 (F := Ideal) x1 x6 (ix2 r l) = ((nrm (ep K (H r)) l : ℝ) : EReal) := by
  have h0 := v20_eq A
  have h1 := v37_eq A
  pointwise [val_main_v42, val_main_v41]
  simp only [h0, h1, ← EReal.coe_mul]
  rfl

theorem v45_eq (r : Fin 4096) (l : Fin 1024) : val_main_v45 (F := Ideal) x1 x6 x7 (ix2 r l) = ((emb K (H r) l : ℝ) : EReal) := by
  have h0 := v42_eq A
  pointwise [val_main_v45, val_main_v44, val_main_v43]
  simp only [h0, A.a7, ← EReal.coe_mul]
  rfl

theorem v47_eq (r : Fin 4096) (l : Fin 1024) : val_main_v47 (F := Ideal) x0 x1 x3 x4 x5 x6 x7 (ix2 r l) = ((h3 K (H r) l : ℝ) : EReal) := by
  have h0 := v26_eq A
  have h1 := v45_eq A
  pointwise [val_main_v47, val_main_v46]
  simp only [h0, h1, A.a0, ← EReal.coe_mul, ← EReal.coe_add]
  rfl

theorem v54_eq (r : Fin 4096) (z : Fin 1) : val_main_v54 (F := Ideal) x0 x1 x3 x4 x5 x6 x7 (ix2 r z) = ((mean (fun k => h3 K (H r) k * h3 K (H r) k) + eps : ℝ) : EReal) := by
  have h0 := v47_eq A
  pointwise [val_main_v54, val_main_v53, val_main_v52, val_main_v51, val_main_v50, val_main_v49, val_main_v48, val_main_cst_10, val_main_cst_11, val_main_cst_12]
  simp only [h0, coe_sum, c1024, cEps, div_coe_coe (show (1024 : ℝ) ≠ 0 by norm_num), ← EReal.coe_mul, ← EReal.coe_add]
  rfl

theorem v55_eq (r : Fin 4096) (z : Fin 1) : val_main_v55 (F := Ideal) x0 x1 x3 x4 x5 x6 x7 (ix2 r z) = ((rs (h3 K (H r)) : ℝ) : EReal) := by
  have h0 := v54_eq A
  pointwise [val_main_v55]
  rw [h0, rsqrt_pos (msq_eps_pos _)]
  rfl

theorem v58_eq (r : Fin 4096) (z : Fin 1) : val_main_v58 (F := Ideal) x0 x1 x3 x4 x5 x6 x7 (ix2 r z) = ((-(1 / 2) * (rs (h3 K (H r)) / (mean (fun k => h3 K (H r) k * h3 K (H r) k) + eps)) : ℝ) : EReal) := by
  have h0 := v54_eq A
  have h1 := v55_eq A
  pointwise [val_main_v58, val_main_v57, val_main_v56, val_main_cst_13]
  rw [h0, h1, cNegHalf, div_coe_coe (msq_eps_pos _).ne', ← EReal.coe_mul]

theorem v60_eq (r : Fin 4096) (l : Fin 1024) : val_main_v60 (F := Ideal) x0 x1 x3 x4 x5 x6 x7 (ix2 r l) = ((nrm (h3 K (H r)) l : ℝ) : EReal) := by
  have h0 := v47_eq A
  have h1 := v55_eq A
  pointwise [val_main_v60, val_main_v59]
  simp only [h0, h1, ← EReal.coe_mul]
  rfl

theorem v64_eq (r : Fin 4096) (l : Fin 1024) : val_main_v64 (F := Ideal) x0 x1 x2 x3 x4 x5 x6 x7 x8 (ix2 r l) = ((df K (H r) l : ℝ) : EReal) := by
  have h0 := v60_eq A
  pointwise [val_main_v64, val_main_v63, val_main_v62, val_main_v61]
  simp only [h0, A.a8, A.a2, ← EReal.coe_mul, ← EReal.coe_sub]
  rfl

theorem v78_eq (r : Fin 4096) (l : Fin 1024) : val_main_v78 (F := Ideal) x0 x1 x2 x3 x4 x5 x6 x7 x8 (ix2 r l) = ((df K (H r) l / 1024 : ℝ) : EReal) := by
  have h0 := v64_eq A
  pointwise [val_main_v78, val_main_v77, val_main_v76, val_main_v75, val_main_v74, val_main_v73, val_main_v67, val_main_v66, val_main_cst_14, val_main_cst_19, val_main_cst_20, val_main_cst_21]
  simp only [h0, c1024, c2, cHalf, ← EReal.coe_one, ← EReal.coe_mul, div_coe_coe (show (1024 : ℝ) ≠ 0 by norm_num)]
  exact congrArg _ (by ring)

theorem v151_eq (z : Fin 1) (l : Fin 1024) : val_main_v151 (F := Ideal) x0 x1 x2 x3 x4 x5 x6 x7 x8 (ix2 z l) = ((∑ r, df K (H r) l / 1024 * nrm (h3 K (H r)) l : ℝ) : EReal) := by
  have h0 := v60_eq A
  have h1 := v78_eq A
  pointwise [val_main_v151, val_main_v84, val_main_v81, val_main_v80, val_main_v79, val_main_cst_22, val_main_cst_23]
  simp only [h0, h1, ← EReal.coe_mul, coe_sum, Finset.univ_unique, Finset.sum_singleton]
  exact congrArg _ (Finset.sum_congr rfl fun r _ => mul_comm _ _)

theorem v83_eq (r : Fin 4096) (l : Fin 1024) : val_main_v83 (F := Ideal) x0 x1 x2 x3 x4 x5 x6 x7 x8 (ix2 r l) = ((df K (H r) l / 1024 * K.gfin l : ℝ) : EReal) := by
  have h0 := v78_eq A
  pointwise [val_main_v83, val_main_v82, val_main_v61]
  simp only [h0, A.a8, ← EReal.coe_mul]

theorem v94_eq (r : Fin 4096) (l : Fin 1024) : val_main_v94 (F := Ideal) x0 x1 x2 x3 x4 x5 x6 x7 x8 (ix2 r l) = ((rmsC (h3 K (H r)) (fun j => df K (H r) j / 1024 * K.gfin j) : ℝ) : EReal) := by
  have h0 := v83_eq A
  have h1 := v58_eq A
  have h2 := v47_eq A
  pointwise [val_main_v94, val_main_v93, val_main_v92, val_main_v91, val_main_v90, val_main_v87, val_main_v86, val_main_v85, val_main_cst_24, val_main_cst_25, val_main_cst_26]
  simp only [h0, h1, h2, ← EReal.coe_mul, coe_sum, c1024, div_coe_coe (show (1024 : ℝ) ≠ 0 by norm_num), Finset.univ_unique, Finset.sum_singleton]
  rfl

theorem v98_eq (r : Fin 4096) (l : Fin 1024) : val_main_v98 (F := Ideal) x0 x1 x2 x3 x4 x5 x6 x7 x8 (ix2 r l) = ((dh3 K (H r) l : ℝ) : EReal) := by
  have h0 := v83_eq A
  have h1 := v94_eq A
  have h2 := v55_eq A
  have h3 := v47_eq A
  pointwise [val_main_v98, val_main_v97, val_main_v96, val_main_v95, val_main_v89, val_main_v88]
  simp only [h0, h1, h2, h3, ← EReal.coe_mul, ← EReal.coe_add]
  unfold dh3
  rw [← rmsBwd_eq]

theorem v99_eq (r : Fin 4096) (l : Fin 1024) : val_main_v99 (F := Ideal) x0 x1 x2 x3 x4 x5 x6 x7 x8 (ix2 r l) = ((gate K (H r) l * dh3 K (H r) l : ℝ) : EReal) := by
  have h0 := v26_eq A
  have h1 := v98_eq A
  pointwise [val_main_v99]
  simp only [h0, h1, ← EReal.coe_mul]

theorem v121_eq (r : Fin 4096) (l : Fin 1024) : val_main_v121 (F := Ideal) x0 x1 x2 x3 x4 x5 x6 x7 x8 (ix2 r l) = ((dgp K (H r) l : ℝ) : EReal) := by
  have h0 := v26_eq A
  have h1 := v45_eq A
  have h2 := v98_eq A
  pointwise [val_main_v121, val_main_v100, val_main_v29, val_main_v28, val_main_v27, val_main_cst_5]
  simp only [h0, h1, h2, ← EReal.coe_one, ← EReal.coe_sub, ← EReal.coe_mul]
  rfl

theorem v152_eq (z : Fin 1) (l : Fin 1024) : val_main_v152 (F := Ideal) x0 x1 x2 x3 x4 x5 x6 x7 x8 (ix2 z l) = ((∑ r, gate K (H r) l * dh3 K (H r) l * nrm (ep K (H r)) l : ℝ) : EReal) := by
  have h0 := v42_eq A
  have h1 := v99_eq A
  pointwise [val_main_v152, val_main_v106, val_main_v103, val_main_v102, val_main_v101, val_main_cst_27, val_main_cst_28]
  simp only [h0, h1, ← EReal.coe_mul, coe_sum, Finset.univ_unique, Finset.sum_singleton]
  exact congrArg _ (Finset.sum_congr rfl fun r _ => mul_comm _ _)

theorem v105_eq (r : Fin 4096) (l : Fin 1024) : val_main_v105 (F := Ideal) x0 x1 x2 x3 x4 x5 x6 x7 x8 (ix2 r l) = ((gate K (H r) l * dh3 K (H r) l * K.gple l : ℝ) : EReal) := by
  have h0 := v99_eq A
  pointwise [val_main_v105, val_main_v104, val_main_v43]
  simp only [h0, A.a7, ← EReal.coe_mul]

theorem v116_eq (r : Fin 4096) (l : Fin 1024) : val_main_v116 (F := Ideal) x0 x1 x2 x3 x4 x5 x6 x7 x8 (ix2 r l) = ((rmsC (ep K (H r)) (fun j => gate K (H r) j * dh3 K (H r) j * K.gple j) : ℝ) : EReal) := by
  have h0 := v105_eq A
  have h1 := v40_eq A
  have h2 := v20_eq A
  pointwise [val_main_v116, val_main_v115, val_main_v114, val_main_v113, val_main_v112, val_main_v109, val_main_v108, val_main_v107, val_main_cst_29, val_main_cst_30, val_main_cst_31]
  simp only [h0, h1, h2, ← EReal.coe_mul, coe_sum, c1024, div_coe_coe (show (1024 : ℝ) ≠ 0 by norm_num), Finset.univ_unique, Finset.sum_singleton]
  rfl

theorem v120_eq (r : Fin 4096) (l : Fin 1024) : val_main_v120 (F := Ideal) x0 x1 x2 x3 x4 x5 x6 x7 x8 (ix2 r l) = ((dep K (H r) l : ℝ) : EReal) := by
  have h0 := v105_eq A
  have h1 := v116_eq A
  have h2 := v37_eq A
  have h3 := v20_eq A
  pointwise [val_main_v120, val_main_v119, val_main_v118, val_main_v117, val_main_v111, val_main_v110]
  simp only [h0, h1, h2, h3, ← EReal.coe_mul, ← EReal.coe_add]
  unfold dep
  rw [← rmsBwd_eq]

theorem v153_eq (z : Fin 1) (l : Fin 1024) : val_main_v153 (F := Ideal) x0 x1 x2 x3 x4 x5 x6 x7 x8 (ix2 z l) = ((∑ r, dgp K (H r) l : ℝ) : EReal) := by
  have h0 := v121_eq A
  pointwise [val_main_v153, val_main_v124, val_main_v123, val_main_v122, val_main_cst_32, val_main_cst_33]
  simp only [h0, coe_sum, Finset.univ_unique, Finset.sum_singleton]

theorem v125_eq (r : Fin 4096) (l : Fin 1024) : val_main_v125 (F := Ideal) x0 x1 x2 x3 x4 x5 x6 x7 x8 (ix2 r l) = ((du K (H r) l : ℝ) : EReal) := by
  have h0 := v121_eq A
  pointwise [val_main_v125]
  simp only [h0, A.a4, ← EReal.coe_mul, coe_sum]
  rfl

theorem v154_eq (z : Fin 1) (l : Fin 1024) : val_main_v154 (F := Ideal) x0 x1 x2 x3 x4 x5 x6 x7 x8 (ix2 z l) = ((∑ r, du K (H r) l * nrm (H r).h l : ℝ) : EReal) := by
  have h0 := v12_eq A
  have h1 := v125_eq A
  pointwise [val_main_v154, val_main_v131, val_main_v128, val_main_v127, val_main_v126, val_main_cst_34, val_main_cst_35]
  simp only [h0, h1, ← EReal.coe_mul, coe_sum, Finset.univ_unique, Finset.sum_singleton]
  exact congrArg _ (Finset.sum_congr rfl fun r _ => mul_comm _ _)

theorem v130_eq (r : Fin 4096) (l : Fin 1024) : val_main_v130 (F := Ideal) x0 x1 x2 x3 x4 x5 x6 x7 x8 (ix2 r l) = ((du K (H r) l * K.gpg l : ℝ) : EReal) := by
  have h0 := v125_eq A
  pointwise [val_main_v130, val_main_v129, val_main_v13]
  simp only [h0, A.a3, ← EReal.coe_mul]

theorem v142_eq (r : Fin 4096) (l : Fin 1024) : val_main_v142 (F := Ideal) x0 x1 x2 x3 x4 x5 x6 x7 x8 (ix2 r l) = ((rmsC ((H r).h) (fun j => du K (H r) j * K.gpg j) : ℝ) : EReal) := by
  have h0 := v130_eq A
  have h1 := v10_eq A
  pointwise [val_main_v142, val_main_v141, val_main_v140, val_main_v139, val_main_v138, val_main_v134, val_main_v133, val_main_v132, val_main_cst_36, val_main_cst_37, val_main_cst_38]
  simp only [h0, h1, A.a0, ← EReal.coe_mul, coe_sum, c1024, div_coe_coe (show (1024 : ℝ) ≠ 0 by norm_num), Finset.univ_unique, Finset.sum_singleton]
  rfl

theorem v146_eq (r : Fin 4096) (l : Fin 1024) : val_main_v146 (F := Ideal) x0 x1 x2 x3 x4 x5 x6 x7 x8 (ix2 r l) = ((dh2 K (H r) l : ℝ) : EReal) := by
  have h0 := v98_eq A
  have h1 := v130_eq A
  have h2 := v142_eq A
  have h3 := v7_eq A
  pointwise [val_main_v146, val_main_v145, val_main_v144, val_main_v143, val_main_v137, val_main_v136, val_main_v135]
  simp only [h0, h1, h2, h3, A.a0, ← EReal.coe_mul, ← EReal.coe_add]
  unfold dh2
  rw [← rmsBwd_eq]
  exact congrArg _ (by ring)

theorem v147_eq (i : Fin 8) (j : Fin 128) : val_main_v147 (F := Ideal) x0 x1 x2 x3 x4 x5 x6 x7 x8 (ix2 i j) = ((∑ r, ls K (H r) : ℝ) : EReal) := by
  have h0 := v64_eq A
  pointwise [val_main_v147, val_main_v72, val_main_v71, val_main_v70, val_main_v69, val_main_v68, val_main_v65, val_main_cst_15, val_main_cst_16, val_main_cst_17, val_main_cst_18]
  simp only [h0, cHalf, ← EReal.coe_mul, coe_sum, c1024, div_coe_coe (show (1024 : ℝ) ≠ 0 by norm_num)]
  unfold ls
  rw [Finset.mul_sum]

theorem v148_eq (r : Fin 4096) (l : Fin 1024) : val_main_v148 (F := Ideal) x0 x1 x2 x3 x4 x5 x6 x7 x8 (ix2 r l) = ((dh2 K (H r) l : ℝ) : EReal) := by
  have h := v146_eq A
  pointwise [val_main_v148]
  exact h r l

theorem v149_eq (r : Fin 4096) (l : Fin 1024) : val_main_v149 (F := Ideal) x0 x1 x2 x3 x4 x5 x6 x7 x8 (ix2 r l) = ((dgp K (H r) l : ℝ) : EReal) := by
  have h := v121_eq A
  pointwise [val_main_v149]
  exact h r l

theorem v150_eq (r : Fin 4096) (l : Fin 1024) : val_main_v150 (F := Ideal) x0 x1 x2 x3 x4 x5 x6 x7 x8 (ix2 r l) = ((dep K (H r) l : ℝ) : EReal) := by
  have h := v120_eq A
  pointwise [val_main_v150]
  exact h r l

end Cert.PleRefIdeal.Val

end
-- ==== Proof.PleKer.lean ====
/- The kernel of the loss and of the gated per-layer input's gradient: what each grid point leaves in its output blocks. -/
module

public import proofs.«01_k».proof.Proof.Rms
public import proofs.«01_k».proof.Proof.PleRef
public import proofs.«01_k».proof.Proof.Gen.PleIdeal.Value

@[expose] public section

set_option maxRecDepth 16384

noncomputable section

namespace Cert.PleIdeal.Out

open Cert.PleIdeal Cert.PleIdeal.Gen Cert.Reals Cert.Ple Idealize.ShloMosaic Idealize.ShloMosaic.TcCoe

section Cases

variable {F : FTy → Type} [FloatOps F]

theorem hz : (![0, 0] : Fin 2 → Nat) = fun _ => 0 := funext fun a => by fin_cases a <;> rfl

/-- The gate before the logistic function, over the first three slabs. -/
abbrev q24 (x1 : Vec F S256x1024 .bf16) (x4 : Vec F S4x256x1024 .bf16) (x5 : Vec F S1x1024 .f32) : FVec F S256x1024 .f32 :=
  k0_pay11 x5 (View.ld x1 (Rect.unit ![0, 0] ![256, 256] inb_S256x1024_S256x256_0_0)) (View.ld x4 (Rect.unit ![0, 0, 0] ![1, 256, 1024] inb_S4x256x1024_S1x256x1024_0_0_0)) (View.ld x1 (Rect.unit ![0, 256] ![256, 256] inb_S256x1024_S256x256_0_256)) (View.ld x4 (Rect.unit ![1, 0, 0] ![1, 256, 1024] inb_S4x256x1024_S1x256x1024_1_0_0)) (View.ld x1 (Rect.unit ![0, 512] ![256, 256] inb_S256x1024_S256x256_0_512)) (View.ld x4 (Rect.unit ![2, 0, 0] ![1, 256, 1024] inb_S4x256x1024_S1x256x1024_2_0_0))

/-- The gate. -/
abbrev kGate (x1 : Vec F S256x1024 .bf16) (x4 : Vec F S4x256x1024 .bf16) (x5 : Vec F S1x1024 .f32) : FVec F S256x1024 .f32 :=
  k0_pay14 (q24 x1 x4 x5) (k0_pay12 (View.ld x1 (Rect.unit ![0, 768] ![256, 256] inb_S256x1024_S256x256_0_768))) (k0_pay13 (View.ld x4 (Rect.unit ![3, 0, 0] ![1, 256, 1024] inb_S4x256x1024_S1x256x1024_3_0_0)))

/-- The residual stream after the gate. -/
abbrev kH3 (x0 : Vec F S256x1024 .f32) (x1 : Vec F S256x1024 .bf16) (x2 : Vec F S256x256 .f32) (x4 : Vec F S4x256x1024 .bf16) (x5 : Vec F S1x1024 .f32) (x6 : Vec F S256x1024 .bf16) (x7 : Vec F S1x1024 .f32) : FVec F S256x1024 .f32 :=
  k0_pay17 x0 (q24 x1 x4 x5) (k0_pay12 (View.ld x1 (Rect.unit ![0, 768] ![256, 256] inb_S256x1024_S256x256_0_768))) (k0_pay13 (View.ld x4 (Rect.unit ![3, 0, 0] ![1, 256, 1024] inb_S4x256x1024_S1x256x1024_3_0_0))) x2 x6 x7

/-- The error. -/
abbrev kDf (x0 : Vec F S256x1024 .f32) (x1 : Vec F S256x1024 .bf16) (x2 : Vec F S256x256 .f32) (x3 : Vec F S256x1024 .f32) (x4 : Vec F S4x256x1024 .bf16) (x5 : Vec F S1x1024 .f32) (x6 : Vec F S256x1024 .bf16) (x7 : Vec F S1x1024 .f32) (x8 : Vec F S1x1024 .f32) : FVec F S256x1024 .f32 :=
  k0_pay18 x0 (q24 x1 x4 x5) (k0_pay12 (View.ld x1 (Rect.unit ![0, 768] ![256, 256] inb_S256x1024_S256x256_0_768))) (k0_pay13 (View.ld x4 (Rect.unit ![3, 0, 0] ![1, 256, 1024] inb_S4x256x1024_S1x256x1024_3_0_0))) x2 x6 x7 x8 x3

/-- Its square. -/
abbrev kSq (x0 : Vec F S256x1024 .f32) (x1 : Vec F S256x1024 .bf16) (x2 : Vec F S256x256 .f32) (x3 : Vec F S256x1024 .f32) (x4 : Vec F S4x256x1024 .bf16) (x5 : Vec F S1x1024 .f32) (x6 : Vec F S256x1024 .bf16) (x7 : Vec F S1x1024 .f32) (x8 : Vec F S1x1024 .f32) : FVec F S256x1024 .f32 :=
  k0_pay19 x0 (q24 x1 x4 x5) (k0_pay12 (View.ld x1 (Rect.unit ![0, 768] ![256, 256] inb_S256x1024_S256x256_0_768))) (k0_pay13 (View.ld x4 (Rect.unit ![3, 0, 0] ![1, 256, 1024] inb_S4x256x1024_S1x256x1024_3_0_0))) x2 x6 x7 x8 x3

/-- The gradient of the residual stream after the gate. -/
abbrev kD3 (x0 : Vec F S256x1024 .f32) (x1 : Vec F S256x1024 .bf16) (x2 : Vec F S256x256 .f32) (x3 : Vec F S256x1024 .f32) (x4 : Vec F S4x256x1024 .bf16) (x5 : Vec F S1x1024 .f32) (x6 : Vec F S256x1024 .bf16) (x7 : Vec F S1x1024 .f32) (x8 : Vec F S1x1024 .f32) : FVec F S256x1024 .f32 :=
  k0_pay25 (kH3 x0 x1 x2 x4 x5 x6 x7) (kDf x0 x1 x2 x3 x4 x5 x6 x7 x8) x8

/-- The gradient of the gate before the logistic function. -/
abbrev kGp (x0 : Vec F S256x1024 .f32) (x1 : Vec F S256x1024 .bf16) (x2 : Vec F S256x256 .f32) (x3 : Vec F S256x1024 .f32) (x4 : Vec F S4x256x1024 .bf16) (x5 : Vec F S1x1024 .f32) (x6 : Vec F S256x1024 .bf16) (x7 : Vec F S1x1024 .f32) (x8 : Vec F S1x1024 .f32) : FVec F S256x1024 .f32 :=
  k0_pay28 (kGate x1 x4 x5) (k0_pay16 x2 x6 x7) (kD3 x0 x1 x2 x3 x4 x5 x6 x7 x8)

/-- The gradient of the gate's input. -/
abbrev kDu (x0 : Vec F S256x1024 .f32) (x1 : Vec F S256x1024 .bf16) (x2 : Vec F S256x256 .f32) (x3 : Vec F S256x1024 .f32) (x4 : Vec F S4x256x1024 .bf16) (x5 : Vec F S1x1024 .f32) (x6 : Vec F S256x1024 .bf16) (x7 : Vec F S1x1024 .f32) (x8 : Vec F S1x1024 .f32) : FVec F S256x1024 .f32 :=
  k0_pay38 (kGp x0 x1 x2 x3 x4 x5 x6 x7 x8) (View.ld x4 (Rect.unit ![0, 0, 0] ![1, 256, 1024] inb_S4x256x1024_S1x256x1024_0_0_0)) (View.ld x4 (Rect.unit ![1, 0, 0] ![1, 256, 1024] inb_S4x256x1024_S1x256x1024_1_0_0)) (View.ld x4 (Rect.unit ![2, 0, 0] ![1, 256, 1024] inb_S4x256x1024_S1x256x1024_2_0_0)) (View.ld x4 (Rect.unit ![3, 0, 0] ![1, 256, 1024] inb_S4x256x1024_S1x256x1024_3_0_0))

variable (c : Dev nD) (i : grid0.Coords) (arg1 : Memref sig .tc .vmem S256x1024 .f32) (h1 : arg1.IsWhole) (arg2 : Memref sig .tc .vmem S256x1024 .bf16) (h2 : arg2.IsWhole) (arg3 : Memref sig .tc .vmem S256x256 .f32) (h3 : arg3.IsWhole) (arg4 : Memref sig .tc .vmem S256x1024 .f32) (h4 : arg4.IsWhole) (arg5 : Memref sig .tc .vmem S4x256x1024 .bf16) (h5 : arg5.IsWhole) (arg6 : Memref sig .tc .vmem S1x1024 .f32) (h6 : arg6.IsWhole) (arg7 : Memref sig .tc .vmem S256x1024 .bf16) (h7 : arg7.IsWhole) (arg8 : Memref sig .tc .vmem S1x1024 .f32) (h8 : arg8.IsWhole) (arg9 : Memref sig .tc .vmem S1x1024 .f32) (h9 : arg9.IsWhole) (arg10 : Memref sig .tc .vmem S1x1024 .f32) (h10 : arg10.IsWhole) (arg11 : Memref sig .tc .vmem S8x128 .f32) (h11 : arg11.IsWhole) (arg12 : Memref sig .tc .vmem S256x1024 .f32) (h12 : arg12.IsWhole) (arg13 : Memref sig .tc .vmem S256x1024 .bf16) (h13 : arg13.IsWhole) (arg14 : Memref sig .tc .vmem S256x1024 .bf16) (h14 : arg14.IsWhole) (arg15 : Memref sig .tc .vmem S256x1024 .bf16) (h15 : arg15.IsWhole) (arg16 : Memref sig .tc .vmem S1x1024 .f32) (h16 : arg16.IsWhole) (arg17 : Memref sig .tc .vmem S1x1024 .f32) (h17 : arg17.IsWhole) (arg18 : Memref sig .tc .vmem S1x1024 .f32) (h18 : arg18.IsWhole) (arg19 : Memref sig .tc .vmem S1x1024 .f32) (h19 : arg19.IsWhole)
  (x0 : Vec F S256x1024 .f32) (x1 : Vec F S256x1024 .bf16) (x2 : Vec F S256x256 .f32) (x3 : Vec F S256x1024 .f32) (x4 : Vec F S4x256x1024 .bf16) (x5 : Vec F S1x1024 .f32) (x6 : Vec F S256x1024 .bf16) (x7 : Vec F S1x1024 .f32) (x8 : Vec F S1x1024 .f32) (x9 : Vec F S1x1024 .f32) (xo10 : Vec F S8x128 .f32) (xo15 xo16 xo17 xo18 : Vec F S1x1024 .f32)

theorem out_A_10 (hc : cond0_0 i) : out0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay20 (kSq x0 x1 x2 x3 x4 x5 x6 x7 x8) k0_pay6 := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_cons_unit_zero (S := S8x128) hz, View.readCov_unit_zero (S := S8x128) _ hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_11 (hc : cond0_0 i) : out0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay4 x0 (kD3 x0 x1 x2 x3 x4 x5 x6 x7 x8) (kDu x0 x1 x2 x3 x4 x5 x6 x7 x8) (k0_pay39 x9) (k0_pay40 x0) k0_pay41 := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_12 (hc : cond0_0 i) : out0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay5 x0 (kD3 x0 x1 x2 x3 x4 x5 x6 x7 x8) (kDu x0 x1 x2 x3 x4 x5 x6 x7 x8) (k0_pay39 x9) (k0_pay40 x0) k0_pay41 := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_13 (hc : cond0_0 i) : out0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay36 (kGp x0 x1 x2 x3 x4 x5 x6 x7 x8) := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_14 (hc : cond0_0 i) : out0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay37 (k0_pay34 (kGate x1 x4 x5) (k0_pay15 x2 x6) (kD3 x0 x1 x2 x3 x4 x5 x6 x7 x8) x7) := by
  unfold out0_A_14
  rw [View.read_writes_eq_canon _ _ _ (cover0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_15 (hc : cond0_0 i) : out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay27 (k0_pay24 (kH3 x0 x1 x2 x4 x5 x6 x7) (kDf x0 x1 x2 x3 x4 x5 x6 x7 x8)) (k0_pay26 k0_pay7) := by
  unfold out0_A_15
  rw [View.read_writes_eq_canon _ _ _ (cover0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_16 (hc : cond0_0 i) : out0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay35 (k0_pay33 (kGate x1 x4 x5) (k0_pay15 x2 x6) (kD3 x0 x1 x2 x3 x4 x5 x6 x7 x8)) k0_pay8 := by
  unfold out0_A_16
  rw [View.read_writes_eq_canon _ _ _ (cover0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_17 (hc : cond0_0 i) : out0_A_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay29 (kGate x1 x4 x5) (k0_pay16 x2 x6 x7) (kD3 x0 x1 x2 x3 x4 x5 x6 x7 x8) k0_pay9 := by
  unfold out0_A_17
  rw [View.read_writes_eq_canon _ _ _ (cover0_A_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_A_18 (hc : cond0_0 i) : out0_A_18 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 = k0_pay3 x0 (kDu x0 x1 x2 x3 x4 x5 x6 x7 x8) (k0_pay40 x0) k0_pay41 k0_pay10 := by
  unfold out0_A_18
  rw [View.read_writes_eq_canon _ _ _ (cover0_A_18 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_10 (hc : ¬cond0_0 i) : out0_B_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay20 (kSq x0 x1 x2 x3 x4 x5 x6 x7 x8) xo10 := by
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_11 (hc : ¬cond0_0 i) : out0_B_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay4 x0 (kD3 x0 x1 x2 x3 x4 x5 x6 x7 x8) (kDu x0 x1 x2 x3 x4 x5 x6 x7 x8) (k0_pay39 x9) (k0_pay40 x0) k0_pay41 := by
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_12 (hc : ¬cond0_0 i) : out0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay5 x0 (kD3 x0 x1 x2 x3 x4 x5 x6 x7 x8) (kDu x0 x1 x2 x3 x4 x5 x6 x7 x8) (k0_pay39 x9) (k0_pay40 x0) k0_pay41 := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_13 (hc : ¬cond0_0 i) : out0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay36 (kGp x0 x1 x2 x3 x4 x5 x6 x7 x8) := by
  unfold out0_B_13
  rw [View.read_writes_eq_canon _ _ _ (cover0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_14 (hc : ¬cond0_0 i) : out0_B_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay37 (k0_pay34 (kGate x1 x4 x5) (k0_pay15 x2 x6) (kD3 x0 x1 x2 x3 x4 x5 x6 x7 x8) x7) := by
  unfold out0_B_14
  rw [View.read_writes_eq_canon _ _ _ (cover0_B_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_15 (hc : ¬cond0_0 i) : out0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay27 (k0_pay24 (kH3 x0 x1 x2 x4 x5 x6 x7) (kDf x0 x1 x2 x3 x4 x5 x6 x7 x8)) (k0_pay26 xo15) := by
  unfold out0_B_15
  rw [View.read_writes_eq_canon _ _ _ (cover0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_16 (hc : ¬cond0_0 i) : out0_B_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay35 (k0_pay33 (kGate x1 x4 x5) (k0_pay15 x2 x6) (kD3 x0 x1 x2 x3 x4 x5 x6 x7 x8)) xo16 := by
  unfold out0_B_16
  rw [View.read_writes_eq_canon _ _ _ (cover0_B_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_17 (hc : ¬cond0_0 i) : out0_B_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay29 (kGate x1 x4 x5) (k0_pay16 x2 x6 x7) (kD3 x0 x1 x2 x3 x4 x5 x6 x7 x8) xo17 := by
  unfold out0_B_17
  rw [View.read_writes_eq_canon _ _ _ (cover0_B_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

theorem out_B_18 (hc : ¬cond0_0 i) : out0_B_18 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18 = k0_pay3 x0 (kDu x0 x1 x2 x3 x4 x5 x6 x7 x8) (k0_pay40 x0) k0_pay41 xo18 := by
  unfold out0_B_18
  rw [View.read_writes_eq_canon _ _ _ (cover0_B_18 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo10 xo15 xo16 xo17 xo18)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, h17.read_unread, h18.read_unread, h19.read_unread,
    View.ld_unit_zero (S := S256x1024) hz, View.ld_unit_zero (S := S1x1024) hz, View.ld_unit_zero (S := S256x256) hz, View.ld_unit_zero (S := S8x128) hz]

end Cases

end Cert.PleIdeal.Out

end
-- ==== Proof.PlePay.lean ====
/- The kernel of the loss and of the gated per-layer input's gradient: its payloads on finite arguments. -/
module

public import proofs.«01_k».proof.Proof.PleKer

@[expose] public section

set_option maxRecDepth 16384

noncomputable section

namespace Cert.PleIdeal.Out

open Cert.PleIdeal Cert.PleIdeal.Gen Cert.Reals Cert.Ple Idealize.ShloMosaic Idealize.ShloMosaic.TcCoe

theorem sum4 (f : Fin 1024 → ℝ) : ∑ j, f j = (∑ j : Fin 256, f ⟨j.val, by omega⟩) + (∑ j : Fin 256, f ⟨256 + j.val, by omega⟩)
    + (∑ j : Fin 256, f ⟨512 + j.val, by omega⟩) + ∑ j : Fin 256, f ⟨768 + j.val, by omega⟩ :=
  (Fin.sum_univ_add (a := 768) (b := 256) f).trans (congrArg (· + _) ((Fin.sum_univ_add (a := 512) (b := 256) _).trans
    (congrArg (· + _) (Fin.sum_univ_add (a := 256) (b := 256) _))))

/-! ## The payloads, one by one -/

section Pay

variable {X Y Z T : Fin 256 → Fin 1024 → ℝ} {G : Fin 1024 → ℝ}
variable {x y z t : FVec Ideal S256x1024 .f32} {g : FVec Ideal S1x1024 .f32}
variable {v24 : FVec Ideal S256x1024 .f32} {v26 : FVec Ideal S256x256 .bf16} {v28 v34 : FVec Ideal S256x1024 .bf16} {v32 : FVec Ideal S256x256 .f32} {v37 : FVec Ideal S1x1024 .f32}

theorem pay16_eq (h : ∀ r l, k0_pay15 (F := Ideal) v32 v34 (ix2 r l) = ((X r l : ℝ) : EReal)) (hg : ∀ z l, v37 (ix2 z l) = ((G l : ℝ) : EReal)) (r : Fin 256) (l : Fin 1024) :
    k0_pay16 (F := Ideal) v32 v34 v37 (ix2 r l) = ((nrm (X r) l * G l : ℝ) : EReal) := by
  generalize hq : k0_pay15 (F := Ideal) v32 v34 = q at h
  unfold k0_pay16
  rw [hq]
  pointwise []
  simp only [h, hg, coe_sum, c1024, cEps, div_coe_coe (show (1024 : ℝ) ≠ 0 by norm_num), ← EReal.coe_mul, ← EReal.coe_add]
  rw [show Ideal.rsqrt (((∑ k, X r k * X r k) / 1024 + eps : ℝ) : EReal) = ((rs (X r) : ℝ) : EReal) from rsqrt_pos (msq_eps_pos (X r)), ← EReal.coe_mul, ← EReal.coe_mul]
  rfl

theorem pay17_eq (hx : ∀ r l, x (ix2 r l) = ((X r l : ℝ) : EReal)) (hy : ∀ r l, k0_pay14 (F := Ideal) v24 v26 v28 (ix2 r l) = ((Y r l : ℝ) : EReal))
    (hz : ∀ r l, k0_pay16 (F := Ideal) v32 v34 v37 (ix2 r l) = ((Z r l : ℝ) : EReal)) (r : Fin 256) (l : Fin 1024) :
    k0_pay17 (F := Ideal) x v24 v26 v28 v32 v34 v37 (ix2 r l) = ((X r l + Y r l * Z r l : ℝ) : EReal) := by
  generalize hq : k0_pay14 (F := Ideal) v24 v26 v28 = q at hy
  generalize hp : k0_pay16 (F := Ideal) v32 v34 v37 = p at hz
  unfold k0_pay17
  rw [hq, hp]
  pointwise []
  simp only [hx, hy, hz, ← EReal.coe_mul, ← EReal.coe_add]

theorem pay18_eq (h : ∀ r l, k0_pay17 (F := Ideal) x v24 v26 v28 v32 v34 v37 (ix2 r l) = ((X r l : ℝ) : EReal)) (hg : ∀ z l, g (ix2 z l) = ((G l : ℝ) : EReal))
    (ht : ∀ r l, t (ix2 r l) = ((T r l : ℝ) : EReal)) (r : Fin 256) (l : Fin 1024) :
    k0_pay18 (F := Ideal) x v24 v26 v28 v32 v34 v37 g t (ix2 r l) = ((nrm (X r) l * G l - T r l : ℝ) : EReal) := by
  generalize hq : k0_pay17 (F := Ideal) x v24 v26 v28 v32 v34 v37 = q at h
  unfold k0_pay18
  rw [hq]
  pointwise []
  simp only [h, hg, ht, coe_sum, c1024, cEps, div_coe_coe (show (1024 : ℝ) ≠ 0 by norm_num), ← EReal.coe_mul, ← EReal.coe_add]
  rw [show Ideal.rsqrt (((∑ k, X r k * X r k) / 1024 + eps : ℝ) : EReal) = ((rs (X r) : ℝ) : EReal) from rsqrt_pos (msq_eps_pos (X r)), ← EReal.coe_mul, ← EReal.coe_mul, ← EReal.coe_sub]
  rfl

theorem pay19_eq (h : ∀ r l, k0_pay18 (F := Ideal) x v24 v26 v28 v32 v34 v37 g t (ix2 r l) = ((X r l : ℝ) : EReal)) (r : Fin 256) (l : Fin 1024) :
    k0_pay19 (F := Ideal) x v24 v26 v28 v32 v34 v37 g t (ix2 r l) = ((X r l * X r l : ℝ) : EReal) := by
  generalize hq : k0_pay18 (F := Ideal) x v24 v26 v28 v32 v34 v37 g t = q at h
  unfold k0_pay19
  rw [hq]
  pointwise []
  simp only [h, ← EReal.coe_mul]

theorem pay20_eq (h : ∀ r l, x (ix2 r l) = ((X r l * X r l : ℝ) : EReal)) (xo : FVec Ideal S8x128 .f32) (i : Fin 8) (j : Fin 128) :
    k0_pay20 (F := Ideal) x xo (ix2 i j) = xo (ix2 i j) + ((∑ r, 1 / 2 * ((∑ l, X r l * X r l) / 1024) : ℝ) : EReal) := by
  pointwise [k0_pay20]
  simp only [h, coe_sum, cRecHalf, ← EReal.coe_mul]
  refine congrArg (fun q : ℝ => xo (ix2 i j) + (q : EReal)) ?_
  rw [Finset.mul_sum]
  exact Finset.sum_congr rfl fun r _ => by ring

theorem pay21_eq (h : ∀ r l, y (ix2 r l) = ((Y r l : ℝ) : EReal)) (r : Fin 256) (l : Fin 1024) :
    k0_pay21 (F := Ideal) y (ix2 r l) = ((Y r l / 1024 : ℝ) : EReal) := by
  pointwise [k0_pay21]
  rw [h, cRec, ← EReal.coe_mul, mul_one_div]

theorem pay22_eq (h : ∀ r l, x (ix2 r l) = ((X r l : ℝ) : EReal)) (r : Fin 256) (z : Fin 1) : k0_pay22 (F := Ideal) x (ix2 r z) = ((rs (X r) : ℝ) : EReal) := by
  pointwise [k0_pay22]
  simp only [h, coe_sum, c1024, cEps, div_coe_coe (show (1024 : ℝ) ≠ 0 by norm_num), ← EReal.coe_mul, ← EReal.coe_add]
  exact rsqrt_pos (msq_eps_pos _)

theorem pay23_eq (hx : ∀ r l, x (ix2 r l) = ((X r l : ℝ) : EReal)) (r : Fin 256) (l : Fin 1024) : k0_pay23 (F := Ideal) x (ix2 r l) = ((nrm (X r) l : ℝ) : EReal) := by
  have h := pay22_eq hx
  generalize hq : k0_pay22 (F := Ideal) x = q at h
  unfold k0_pay23
  rw [hq]
  pointwise []
  simp only [h, hx, ← EReal.coe_mul]
  rfl

theorem pay24_eq (hx : ∀ r l, x (ix2 r l) = ((X r l : ℝ) : EReal)) (hy : ∀ r l, y (ix2 r l) = ((Y r l : ℝ) : EReal)) (z : Fin 1) (l : Fin 1024) :
    k0_pay24 (F := Ideal) x y (ix2 z l) = ((∑ r, Y r l / 1024 * nrm (X r) l : ℝ) : EReal) := by
  have h := pay23_eq hx
  have h' := pay21_eq hy
  generalize hq : k0_pay23 (F := Ideal) x = q at h
  generalize hp : k0_pay21 (F := Ideal) y = p at h'
  unfold k0_pay24
  rw [hq, hp]
  pointwise []
  simp only [h, h', coe_sum, ← EReal.coe_mul]

theorem pay25_eq (hx : ∀ r l, x (ix2 r l) = ((X r l : ℝ) : EReal)) (hy : ∀ r l, y (ix2 r l) = ((Y r l : ℝ) : EReal))
    (hg : ∀ z l, g (ix2 z l) = ((G l : ℝ) : EReal)) (r : Fin 256) (l : Fin 1024) :
    k0_pay25 (F := Ideal) x y g (ix2 r l) = ((rmsBwd (X r) (fun k => Y r k / 1024 * G k) l : ℝ) : EReal) := by
  have h := pay23_eq hx
  have h' := pay21_eq hy
  have h2 := pay22_eq hx
  generalize hq : k0_pay23 (F := Ideal) x = q at h
  generalize hp : k0_pay21 (F := Ideal) y = p at h'
  generalize hs : k0_pay22 (F := Ideal) x = s at h2
  unfold k0_pay25
  rw [hq, hp, hs]
  pointwise []
  simp only [h, h', h2, hg, coe_sum, c1024, div_coe_coe (show (1024 : ℝ) ≠ 0 by norm_num), ← EReal.coe_mul, ← EReal.coe_sub]
  rfl

theorem pay28_eq (hx : ∀ r l, x (ix2 r l) = ((X r l : ℝ) : EReal)) (hy : ∀ r l, y (ix2 r l) = ((Y r l : ℝ) : EReal))
    (hz : ∀ r l, z (ix2 r l) = ((Z r l : ℝ) : EReal)) (r : Fin 256) (l : Fin 1024) :
    k0_pay28 (F := Ideal) x y z (ix2 r l) = ((Z r l * Y r l * (X r l * (1 - X r l)) : ℝ) : EReal) := by
  pointwise [k0_pay28]
  simp only [hx, hy, hz, ← EReal.coe_one, ← EReal.coe_mul, ← EReal.coe_sub]
  exact congrArg _ (mul_assoc _ _ _)

theorem pay29_eq (h : ∀ r l, k0_pay28 (F := Ideal) x y z (ix2 r l) = ((X r l : ℝ) : EReal)) (xo : FVec Ideal S1x1024 .f32) (o : Fin 1) (l : Fin 1024) :
    k0_pay29 (F := Ideal) x y z xo (ix2 o l) = xo (ix2 o l) + ((∑ r, X r l : ℝ) : EReal) := by
  generalize hq : k0_pay28 (F := Ideal) x y z = q at h
  unfold k0_pay29
  rw [hq]
  pointwise []
  simp only [h, coe_sum]

theorem pay30_eq (hx : ∀ r l, x (ix2 r l) = ((X r l : ℝ) : EReal)) (hz : ∀ r l, z (ix2 r l) = ((Z r l : ℝ) : EReal)) (r : Fin 256) (l : Fin 1024) :
    k0_pay30 (F := Ideal) x z (ix2 r l) = ((X r l * Z r l : ℝ) : EReal) := by
  pointwise [k0_pay30]
  rw [hx, hz, ← EReal.coe_mul, mul_comm]

theorem pay31_eq (h : ∀ r l, x (ix2 r l) = ((X r l : ℝ) : EReal)) (r : Fin 256) (z : Fin 1) : k0_pay31 (F := Ideal) x (ix2 r z) = ((rs (X r) : ℝ) : EReal) := by
  pointwise [k0_pay31]
  simp only [h, coe_sum, c1024, cEps, div_coe_coe (show (1024 : ℝ) ≠ 0 by norm_num), ← EReal.coe_mul, ← EReal.coe_add]
  exact rsqrt_pos (msq_eps_pos _)

theorem pay32_eq (hx : ∀ r l, x (ix2 r l) = ((X r l : ℝ) : EReal)) (r : Fin 256) (l : Fin 1024) : k0_pay32 (F := Ideal) x (ix2 r l) = ((nrm (X r) l : ℝ) : EReal) := by
  have h := pay31_eq hx
  generalize hq : k0_pay31 (F := Ideal) x = q at h
  unfold k0_pay32
  rw [hq]
  pointwise []
  simp only [h, hx, ← EReal.coe_mul]
  rfl

theorem pay33_eq (hx : ∀ r l, x (ix2 r l) = ((X r l : ℝ) : EReal)) (hy : ∀ r l, y (ix2 r l) = ((Y r l : ℝ) : EReal))
    (hz : ∀ r l, z (ix2 r l) = ((Z r l : ℝ) : EReal)) (o : Fin 1) (l : Fin 1024) :
    k0_pay33 (F := Ideal) x y z (ix2 o l) = ((∑ r, X r l * Z r l * nrm (Y r) l : ℝ) : EReal) := by
  have h := pay30_eq hx hz
  have h' := pay32_eq hy
  generalize hq : k0_pay30 (F := Ideal) x z = q at h
  generalize hp : k0_pay32 (F := Ideal) y = p at h'
  unfold k0_pay33
  rw [hq, hp]
  pointwise []
  simp only [h, h', coe_sum, ← EReal.coe_mul]

theorem pay34_eq (hx : ∀ r l, x (ix2 r l) = ((X r l : ℝ) : EReal)) (hy : ∀ r l, y (ix2 r l) = ((Y r l : ℝ) : EReal))
    (hz : ∀ r l, z (ix2 r l) = ((Z r l : ℝ) : EReal)) (hg : ∀ z l, g (ix2 z l) = ((G l : ℝ) : EReal)) (r : Fin 256) (l : Fin 1024) :
    k0_pay34 (F := Ideal) x y z g (ix2 r l) = ((rmsBwd (Y r) (fun k => X r k * Z r k * G k) l : ℝ) : EReal) := by
  have h := pay30_eq hx hz
  have h' := pay32_eq hy
  have h2 := pay31_eq hy
  generalize hq : k0_pay30 (F := Ideal) x z = q at h
  generalize hp : k0_pay32 (F := Ideal) y = p at h'
  generalize hs : k0_pay31 (F := Ideal) y = s at h2
  unfold k0_pay34
  rw [hq, hp, hs]
  pointwise []
  simp only [h, h', h2, hg, coe_sum, c1024, div_coe_coe (show (1024 : ℝ) ≠ 0 by norm_num), ← EReal.coe_mul, ← EReal.coe_sub]
  rfl

theorem pay1_eq (h : ∀ r l, x (ix2 r l) = ((X r l : ℝ) : EReal)) (r : Fin 256) (z : Fin 1) :
    k0_pay1 (F := Ideal) (k0_pay40 x) k0_pay41 (ix2 r z) = ((rs (X r) : ℝ) : EReal) := by
  pointwise [k0_pay1, k0_pay40, k0_pay41]
  simp only [h, coe_sum, c1024, cEps, div_coe_coe (show (1024 : ℝ) ≠ 0 by norm_num), ← EReal.coe_mul, ← EReal.coe_add]
  exact rsqrt_pos (msq_eps_pos _)

theorem pay2_eq (hx : ∀ r l, x (ix2 r l) = ((X r l : ℝ) : EReal)) (r : Fin 256) (l : Fin 1024) :
    k0_pay2 (F := Ideal) x (k0_pay40 x) k0_pay41 (ix2 r l) = ((nrm (X r) l : ℝ) : EReal) := by
  have h := pay1_eq hx
  generalize hq : k0_pay1 (F := Ideal) (k0_pay40 x) k0_pay41 = q at h
  unfold k0_pay2
  rw [hq]
  pointwise []
  simp only [h, hx, ← EReal.coe_mul]
  rfl

theorem pay3_eq (hx : ∀ r l, x (ix2 r l) = ((X r l : ℝ) : EReal)) (hy : ∀ r l, y (ix2 r l) = ((Y r l : ℝ) : EReal)) (xo : FVec Ideal S1x1024 .f32) (o : Fin 1) (l : Fin 1024) :
    k0_pay3 (F := Ideal) x y (k0_pay40 x) k0_pay41 xo (ix2 o l) = xo (ix2 o l) + ((∑ r, Y r l * nrm (X r) l : ℝ) : EReal) := by
  have h := pay2_eq hx
  generalize hq : k0_pay2 (F := Ideal) x (k0_pay40 x) k0_pay41 = q at h
  unfold k0_pay3
  rw [hq]
  pointwise []
  simp only [h, hy, coe_sum, ← EReal.coe_mul]

theorem pay4_eq (hx : ∀ r l, x (ix2 r l) = ((X r l : ℝ) : EReal)) (hy : ∀ r l, y (ix2 r l) = ((Y r l : ℝ) : EReal))
    (hz : ∀ r l, z (ix2 r l) = ((Z r l : ℝ) : EReal)) (hg : ∀ z l, g (ix2 z l) = ((G l : ℝ) : EReal)) (r : Fin 256) (l : Fin 1024) :
    k0_pay4 (F := Ideal) x z y (k0_pay39 g) (k0_pay40 x) k0_pay41 (ix2 r l) = ((Z r l + rmsBwd (X r) (fun k => Y r k * G k) l : ℝ) : EReal) := by
  have h := pay2_eq hx
  have h' := pay1_eq hx
  generalize hq : k0_pay2 (F := Ideal) x (k0_pay40 x) k0_pay41 = q at h
  generalize hp : k0_pay1 (F := Ideal) (k0_pay40 x) k0_pay41 = p at h'
  unfold k0_pay4
  rw [hq, hp]
  pointwise [k0_pay39]
  simp only [h, h', hy, hz, hg, coe_sum, c1024, div_coe_coe (show (1024 : ℝ) ≠ 0 by norm_num), ← EReal.coe_mul, ← EReal.coe_sub, ← EReal.coe_add]
  rfl

end Pay

/-! ## A point's blocks as real numbers -/

/-- The blocks a point reads hold these real numbers. -/
structure Blk (H : Fin 256 → Row) (K : Wt) (x0 : FVec Ideal S256x1024 .f32) (x1 : FVec Ideal S256x1024 .bf16) (x2 : FVec Ideal S256x256 .f32) (x3 : FVec Ideal S256x1024 .f32)
    (x4 : FVec Ideal S4x256x1024 .bf16) (x5 : FVec Ideal S1x1024 .f32) (x6 : FVec Ideal S256x1024 .bf16) (x7 x8 x9 : FVec Ideal S1x1024 .f32) : Prop where
  a0 : ∀ r l, x0 (ix2 r l) = (((H r).h l : ℝ) : EReal)
  a1 : ∀ r l, x1 (ix2 r l) = ((nrm (H r).h l * K.gpg l : ℝ) : EReal)
  a2 : ∀ r l, x2 (ix2 r l) = (((H r).p l : ℝ) : EReal)
  a3 : ∀ r l, x3 (ix2 r l) = (((H r).t l : ℝ) : EReal)
  a4 : ∀ (p : Fin 4) (j : Fin 256) l, x4 (ix3 p j l) = ((K.w ⟨256 * p.val + j.val, by omega⟩ l : ℝ) : EReal)
  a5 : ∀ z l, x5 (ix2 z l) = ((K.b l : ℝ) : EReal)
  a6 : ∀ j l, x6 (ix2 j l) = ((K.wp j l : ℝ) : EReal)
  a7 : ∀ z l, x7 (ix2 z l) = ((K.gple l : ℝ) : EReal)
  a8 : ∀ z l, x8 (ix2 z l) = ((K.gfin l : ℝ) : EReal)
  a9 : ∀ z l, x9 (ix2 z l) = ((K.gpg l : ℝ) : EReal)

section Block

variable {H : Fin 256 → Row} {K : Wt} {x0 : FVec Ideal S256x1024 .f32} {x1 : FVec Ideal S256x1024 .bf16} {x2 : FVec Ideal S256x256 .f32} {x3 : FVec Ideal S256x1024 .f32}
  {x4 : FVec Ideal S4x256x1024 .bf16} {x5 : FVec Ideal S1x1024 .f32} {x6 : FVec Ideal S256x1024 .bf16} {x7 x8 x9 : FVec Ideal S1x1024 .f32}
  (B : Blk H K x0 x1 x2 x3 x4 x5 x6 x7 x8 x9)
include B

theorem kGate_eq (r : Fin 256) (l : Fin 1024) : kGate (F := Ideal) x1 x4 x5 (ix2 r l) = ((gate K (H r) l : ℝ) : EReal) := by
  unfold kGate q24
  pointwise [k0_pay11, k0_pay12, k0_pay13, k0_pay14]
  simp only [B.a1, B.a4, B.a5, ← EReal.coe_mul, coe_sum, ← EReal.coe_add, Ideal.logistic_coe]
  unfold gate gp
  rw [sum4, add_comm _ (K.b l), ← add_assoc, ← add_assoc, ← add_assoc]
  rfl

theorem kEp_eq (r : Fin 256) (l : Fin 1024) : k0_pay15 (F := Ideal) x2 x6 (ix2 r l) = ((ep K (H r) l : ℝ) : EReal) := by
  pointwise [k0_pay15]
  simp only [B.a2, B.a6, ← EReal.coe_mul, coe_sum]
  rfl

theorem kEmb_eq (r : Fin 256) (l : Fin 1024) : k0_pay16 (F := Ideal) x2 x6 x7 (ix2 r l) = ((emb K (H r) l : ℝ) : EReal) :=
  pay16_eq (X := fun r => ep K (H r)) (kEp_eq B) B.a7 r l

theorem kH3_eq (r : Fin 256) (l : Fin 1024) : kH3 (F := Ideal) x0 x1 x2 x4 x5 x6 x7 (ix2 r l) = ((h3 K (H r) l : ℝ) : EReal) :=
  pay17_eq (X := fun r => (H r).h) (Y := fun r => gate K (H r)) (Z := fun r => emb K (H r)) B.a0 (kGate_eq B) (kEmb_eq B) r l

theorem kDf_eq (r : Fin 256) (l : Fin 1024) : kDf (F := Ideal) x0 x1 x2 x3 x4 x5 x6 x7 x8 (ix2 r l) = ((df K (H r) l : ℝ) : EReal) :=
  pay18_eq (X := fun r => h3 K (H r)) (T := fun r => (H r).t) (kH3_eq B) B.a8 B.a3 r l

theorem kD3_eq (r : Fin 256) (l : Fin 1024) : kD3 (F := Ideal) x0 x1 x2 x3 x4 x5 x6 x7 x8 (ix2 r l) = ((dh3 K (H r) l : ℝ) : EReal) :=
  pay25_eq (X := fun r => h3 K (H r)) (Y := fun r => df K (H r)) (kH3_eq B) (kDf_eq B) B.a8 r l

theorem kGp_eq (r : Fin 256) (l : Fin 1024) : kGp (F := Ideal) x0 x1 x2 x3 x4 x5 x6 x7 x8 (ix2 r l) = ((dgp K (H r) l : ℝ) : EReal) :=
  pay28_eq (X := fun r => gate K (H r)) (Y := fun r => emb K (H r)) (Z := fun r => dh3 K (H r)) (kGate_eq B) (kEmb_eq B) (kD3_eq B) r l

theorem kDu_eq (r : Fin 256) (l : Fin 1024) : kDu (F := Ideal) x0 x1 x2 x3 x4 x5 x6 x7 x8 (ix2 r l) = ((du K (H r) l : ℝ) : EReal) := by
  have h := kGp_eq B
  unfold kDu
  generalize kGp (F := Ideal) x0 x1 x2 x3 x4 x5 x6 x7 x8 = q at h
  have hw : ∀ (i j : Fin 1024), i = j → ((∑ k, dgp K (H r) k * K.w i k : ℝ) : EReal) = ((du K (H r) j : ℝ) : EReal) := by rintro _ _ rfl; rfl
  pointwise [k0_pay38, k0_pay36]
  simp only [h, B.a4, ← EReal.coe_mul, coe_sum]
  split
  · exact hw _ _ (Fin.ext (by dsimp; omega))
  · split
    · exact hw _ _ (Fin.ext (by dsimp; omega))
    · split
      · exact hw _ _ (Fin.ext (by dsimp; omega))
      · exact hw _ _ (Fin.ext (by dsimp; omega))

/-! ## What a point leaves -/

theorem o10_eq (xo : FVec Ideal S8x128 .f32) (i : Fin 8) (j : Fin 128) :
    k0_pay20 (F := Ideal) (kSq x0 x1 x2 x3 x4 x5 x6 x7 x8) xo (ix2 i j) = xo (ix2 i j) + ((∑ r, ls K (H r) : ℝ) : EReal) :=
  pay20_eq (X := fun r => df K (H r)) (pay19_eq (X := fun r => df K (H r)) (kDf_eq B)) xo i j

theorem o11_eq (r : Fin 256) (l : Fin 1024) :
    k0_pay4 (F := Ideal) x0 (kD3 x0 x1 x2 x3 x4 x5 x6 x7 x8) (kDu x0 x1 x2 x3 x4 x5 x6 x7 x8) (k0_pay39 x9) (k0_pay40 x0) k0_pay41 (ix2 r l) = ((dh2 K (H r) l : ℝ) : EReal) :=
  pay4_eq (X := fun r => (H r).h) (Y := fun r => du K (H r)) (Z := fun r => dh3 K (H r)) B.a0 (kDu_eq B) (kD3_eq B) B.a9 r l

theorem o12_eq (r : Fin 256) (l : Fin 1024) :
    k0_pay5 (F := Ideal) x0 (kD3 x0 x1 x2 x3 x4 x5 x6 x7 x8) (kDu x0 x1 x2 x3 x4 x5 x6 x7 x8) (k0_pay39 x9) (k0_pay40 x0) k0_pay41 (ix2 r l) = ((dh2 K (H r) l : ℝ) : EReal) := by
  have h := o11_eq B
  unfold k0_pay5
  generalize k0_pay4 (F := Ideal) x0 _ _ _ _ _ = q at h ⊢
  pointwise []
  exact h r l

theorem o13_eq (r : Fin 256) (l : Fin 1024) : k0_pay36 (F := Ideal) (kGp x0 x1 x2 x3 x4 x5 x6 x7 x8) (ix2 r l) = ((dgp K (H r) l : ℝ) : EReal) := by
  have h := kGp_eq B
  generalize kGp (F := Ideal) x0 x1 x2 x3 x4 x5 x6 x7 x8 = q at h
  pointwise [k0_pay36]
  exact h r l

theorem o14_eq (r : Fin 256) (l : Fin 1024) :
    k0_pay37 (F := Ideal) (k0_pay34 (kGate x1 x4 x5) (k0_pay15 x2 x6) (kD3 x0 x1 x2 x3 x4 x5 x6 x7 x8) x7) (ix2 r l) = ((dep K (H r) l : ℝ) : EReal) := by
  have h := pay34_eq (X := fun r => gate K (H r)) (Y := fun r => ep K (H r)) (Z := fun r => dh3 K (H r)) (kGate_eq B) (kEp_eq B) (kD3_eq B) B.a7
  generalize k0_pay34 (F := Ideal) (kGate x1 x4 x5) (k0_pay15 x2 x6) (kD3 x0 x1 x2 x3 x4 x5 x6 x7 x8) x7 = q at h
  pointwise [k0_pay37]
  exact h r l

theorem o15_eq (xo : FVec Ideal S1x1024 .f32) (z : Fin 1) (l : Fin 1024) :
    k0_pay27 (F := Ideal) (k0_pay24 (kH3 x0 x1 x2 x4 x5 x6 x7) (kDf x0 x1 x2 x3 x4 x5 x6 x7 x8)) (k0_pay26 xo) (ix2 z l)
      = xo (ix2 z l) + ((∑ r, df K (H r) l / 1024 * nrm (h3 K (H r)) l : ℝ) : EReal) := by
  have h := pay24_eq (X := fun r => h3 K (H r)) (Y := fun r => df K (H r)) (kH3_eq B) (kDf_eq B) z l
  generalize k0_pay24 (F := Ideal) (kH3 x0 x1 x2 x4 x5 x6 x7) (kDf x0 x1 x2 x3 x4 x5 x6 x7 x8) = q at h
  pointwise [k0_pay27, k0_pay26]
  rw [h]

theorem o16_eq (xo : FVec Ideal S1x1024 .f32) (z : Fin 1) (l : Fin 1024) :
    k0_pay35 (F := Ideal) (k0_pay33 (kGate x1 x4 x5) (k0_pay15 x2 x6) (kD3 x0 x1 x2 x3 x4 x5 x6 x7 x8)) xo (ix2 z l)
      = xo (ix2 z l) + ((∑ r, gate K (H r) l * dh3 K (H r) l * nrm (ep K (H r)) l : ℝ) : EReal) := by
  have h := pay33_eq (X := fun r => gate K (H r)) (Y := fun r => ep K (H r)) (Z := fun r => dh3 K (H r)) (kGate_eq B) (kEp_eq B) (kD3_eq B) z l
  generalize k0_pay33 (F := Ideal) (kGate x1 x4 x5) (k0_pay15 x2 x6) (kD3 x0 x1 x2 x3 x4 x5 x6 x7 x8) = q at h
  pointwise [k0_pay35]
  rw [h]

theorem o17_eq (xo : FVec Ideal S1x1024 .f32) (z : Fin 1) (l : Fin 1024) :
    k0_pay29 (F := Ideal) (kGate x1 x4 x5) (k0_pay16 x2 x6 x7) (kD3 x0 x1 x2 x3 x4 x5 x6 x7 x8) xo (ix2 z l) = xo (ix2 z l) + ((∑ r, dgp K (H r) l : ℝ) : EReal) :=
  pay29_eq (X := fun r => dgp K (H r)) (kGp_eq B) xo z l

theorem o18_eq (xo : FVec Ideal S1x1024 .f32) (z : Fin 1) (l : Fin 1024) :
    k0_pay3 (F := Ideal) x0 (kDu x0 x1 x2 x3 x4 x5 x6 x7 x8) (k0_pay40 x0) k0_pay41 xo (ix2 z l) = xo (ix2 z l) + ((∑ r, du K (H r) l * nrm (H r).h l : ℝ) : EReal) :=
  pay3_eq (X := fun r => (H r).h) (Y := fun r => du K (H r)) B.a0 (kDu_eq B) xo z l

end Block

end Cert.PleIdeal.Out

end
-- ==== Proof.PleVal.lean ====
/- The kernel of the loss and of the gated per-layer input's gradient: its output blocks, element by element, on finite arguments. -/
module

public import proofs.«01_k».proof.Proof.PlePay

@[expose] public section

set_option maxRecDepth 16384

noncomputable section

namespace Cert.PleIdeal.Out

open Cert.PleIdeal Cert.PleIdeal.Gen Cert.Reals Cert.Ple Idealize.ShloMosaic Idealize.ShloMosaic.TcCoe Idealize.SL.Sem

variable (m : (ℓ : Loc nD τ sig) → Buf (Elt Ideal) ℓ) (c : Dev nD)

/-- The inverse root mean square of each row, as the host computes it. -/
abbrev hRs (x : FVec Ideal S4096x1024 .f32) : FVec Ideal S4096x1 .f32 :=
  Host.rsqrt (addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))

/-- The gate's input, as the host computes it. -/
abbrev hU (x : FVec Ideal S4096x1024 .f32) (g : FVec Ideal S1024 .f32) : FVec Ideal S4096x1024 .bf16 :=
  truncf .bf16 (mulf (mulf x (broadcastInDim S4096x1024 ![0, 1] bcast_S4096x1_S4096x1024_0_1 (hRs x)))
    (broadcastInDim S4096x1024 ![0, 1] bcast_S1x1024_S4096x1024_0_1 (shapeCast S1x1024 g shapeCasts_S1024_S1x1024))) bitsLt_bf16_f32

/-- The slab that holds the gate's weight. -/
abbrev hW (w : FVec Ideal S1024x1024 .f32) : FVec Ideal S4x2816x1024 .bf16 :=
  concatenate S4x2816x1024 1
    [⟨S4x2560x1024, broadcastInDim S4x2560x1024 ![] bcast_S_S4x2560x1024 (constant (F := Ideal) S_ .bf16 0x0000#16)⟩,
     ⟨S4x256x1024, shapeCast S4x256x1024 (truncf .bf16 w bitsLt_bf16_f32) shapeCasts_S1024x1024_S4x256x1024⟩]
    concatenates_S4x2560x1024_S4x256x1024_S4x2816x1024_d1

theorem V13 : V m c main_v13 = hU (m ((c : Thread nD τ).loc main_arg0)) (m ((c : Thread nD τ).loc main_arg3)) := by
  simp only [V, hostOps0]; after_results_simp <;> rfl

theorem V17 : V m c main_v17 = hW (m ((c : Thread nD τ).loc main_arg4)) := by
  simp only [V, hostOps0]; after_results_simp <;> rfl

theorem V19 : V m c main_v19 = (truncf .bf16 (m ((c : Thread nD τ).loc main_arg6) : FVec Ideal S256x1024 .f32) bitsLt_bf16_f32 : FVec Ideal S256x1024 .bf16) := by
  simp only [V, hostOps0]; after_results_simp <;> rfl

theorem V18 : V m c main_v18 = shapeCast S1x1024 (m ((c : Thread nD τ).loc main_arg5) : FVec Ideal S1024 .f32) shapeCasts_S1024_S1x1024 := by
  simp only [V, hostOps0]; after_results_simp <;> rfl

theorem V20 : V m c main_v20 = shapeCast S1x1024 (m ((c : Thread nD τ).loc main_arg7) : FVec Ideal S1024 .f32) shapeCasts_S1024_S1x1024 := by
  simp only [V, hostOps0]; after_results_simp <;> rfl

theorem V21 : V m c main_v21 = shapeCast S1x1024 (m ((c : Thread nD τ).loc main_arg8) : FVec Ideal S1024 .f32) shapeCasts_S1024_S1x1024 := by
  simp only [V, hostOps0]; after_results_simp <;> rfl

theorem V22 : V m c main_v22 = shapeCast S1x1024 (m ((c : Thread nD τ).loc main_arg3) : FVec Ideal S1024 .f32) shapeCasts_S1024_S1x1024 := by
  simp only [V, hostOps0]; after_results_simp <;> rfl

section Host

variable {X : Fin 4096 → Fin 1024 → ℝ} {G : Fin 1024 → ℝ} {x : FVec Ideal S4096x1024 .f32} {g : FVec Ideal S1024 .f32}

theorem hRs_eq (h0 : ∀ r l, x (ix2 r l) = ((X r l : ℝ) : EReal)) (r : Fin 4096) (z : Fin 1) : hRs x (ix2 r z) = ((rs (X r) : ℝ) : EReal) := by
  unfold hRs
  pointwise []
  simp only [h0, coe_sum, c1024, cEps, div_coe_coe (show (1024 : ℝ) ≠ 0 by norm_num), ← EReal.coe_mul, ← EReal.coe_add]
  exact rsqrt_pos (msq_eps_pos _)

theorem hU_eq (h0 : ∀ r l, x (ix2 r l) = ((X r l : ℝ) : EReal)) (h1 : ∀ l, g (ix1 l) = ((G l : ℝ) : EReal)) (r : Fin 4096) (l : Fin 1024) :
    hU x g (ix2 r l) = ((nrm (X r) l * G l : ℝ) : EReal) := by
  have h := hRs_eq h0
  unfold hU
  generalize hRs x = q at h ⊢
  pointwise []
  simp only [h, h0, h1, ← EReal.coe_mul]
  rfl

theorem hW_eq (w : FVec Ideal S1024x1024 .f32) (p : Fin 4) (q : Fin 2816) (k : Fin 1024) (hq : 2560 ≤ q.val) :
    hW w (ix3 p q k) = w (ix2 ⟨256 * p.val + (q.val - 2560), by omega⟩ k) := by
  unfold hW
  generalize broadcastInDim S4x2560x1024 ![] bcast_S_S4x2560x1024 (constant (F := Ideal) S_ .bf16 0x0000#16) = z
  pointwise []
  rw [dif_neg (by omega)]
  exact congrArg w (funext fun a => Fin.ext (match a with | ⟨0, _⟩ => by dsimp; omega | ⟨1, _⟩ => rfl))

/-- A vector as an array of one row. -/
theorem row_apply (g : FVec Ideal S1024 .f32) (y : S1x1024.Idx) (l : Fin 1024) (h : (y 1).val = l.val) :
    shapeCast S1x1024 g shapeCasts_S1024_S1x1024 y = g (ix1 l) := by
  obtain ⟨z, hz⟩ : ∃ z : Fin 1, y = ix2 z l := ⟨y 0, (eq_ix2 (n0 := 1) (n1 := 1024) y).trans (congrArg (ix2 (y 0)) (Fin.ext h))⟩
  rw [hz]
  pointwise []

end Host

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx15 : ∀ t : Fin grid0.N, win0_15.index t 0 = 0 ∧ win0_15.index t 1 = 0 := by decide +kernel
theorem idx16 : ∀ t : Fin grid0.N, win0_16.index t 0 = 0 ∧ win0_16.index t 1 = 0 := by decide +kernel
theorem idx17 : ∀ t : Fin grid0.N, win0_17.index t 0 = 0 ∧ win0_17.index t 1 = 0 := by decide +kernel
theorem idx18 : ∀ t : Fin grid0.N, win0_18.index t 0 = 0 ∧ win0_18.index t 1 = 0 := by decide +kernel
theorem idx4 : ∀ t : Fin grid0.N, win0_4.index t 0 = 0 ∧ win0_4.index t 1 = 10 ∧ win0_4.index t 2 = 0 := by decide +kernel

theorem lt16 (t : Fin cfg0.N) : t.val < 16 := lt_of_lt_of_eq t.isLt N_0

/-- Row `r` of a point's block of rows. -/
def rowOf (t : Fin cfg0.N) (r : Fin 256) : Fin 4096 := ⟨256 * t.val + r.val, by have := lt16 t; omega⟩

theorem blk0 (t : Fin cfg0.N) (r : Fin 256) (l : Fin 1024) :
    (iblk m c 0 t : Vec Ideal S256x1024 .f32) (ix2 r l) = m ((c : Thread nD τ).loc main_arg0) (ix2 (rowOf t r) l) := by
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [(idx0 t).1]; omega
  | ⟨1, _⟩ => show win0_0.index t 1 * 1024 + 1 * l.val = l.val; rw [(idx0 t).2]; omega

theorem blk2 (t : Fin cfg0.N) (r : Fin 256) (l : Fin 256) :
    (iblk m c 2 t : Vec Ideal S256x256 .f32) (ix2 r l) = m ((c : Thread nD τ).loc main_arg1) (ix2 (rowOf t r) l) := by
  unfold iblk
  rw [View.read_apply]
  show V m c main_arg1 _ = _
  rw [V_main_arg1]
  congr 1
  funext a
  apply Fin.ext
  match a with
  | ⟨0, _⟩ => show win0_2.index t 0 * 256 + 1 * r.val = 256 * t.val + r.val; rw [(idx2 t).1]; omega
  | ⟨1, _⟩ => show win0_2.index t 1 * 256 + 1 * l.val = l.val; rw [(idx2 t).2]; omega

theorem blk3 (t : Fin cfg0.N) (r : Fin 256) (l : Fin 1024) :
    (iblk m c 3 t : Vec Ideal S256x1024 .f32) (ix2 r l) = m ((c : Thread nD τ).loc main_arg2) (ix2 (rowOf t r) l) := by
  unfold iblk
  rw [View.read_apply]
  show V m c main_arg2 _ = _
  rw [V_main_arg2]
  congr 1
  funext a
  apply Fin.ext
  match a with
  | ⟨0, _⟩ => show win0_3.index t 0 * 256 + 1 * r.val = 256 * t.val + r.val; rw [(idx3 t).1]; omega
  | ⟨1, _⟩ => show win0_3.index t 1 * 1024 + 1 * l.val = l.val; rw [(idx3 t).2]; omega

theorem blk1 (t : Fin cfg0.N) (r : Fin 256) (l : Fin 1024) :
    (iblk m c 1 t : Vec Ideal S256x1024 .bf16) (ix2 r l) = hU (m ((c : Thread nD τ).loc main_arg0)) (m ((c : Thread nD τ).loc main_arg3)) (ix2 (rowOf t r) l) := by
  unfold iblk
  rw [View.read_apply]
  show V m c main_v13 _ = _
  rw [V13]
  refine congrArg _ (funext fun a => Fin.ext ?_)
  match a with
  | ⟨0, _⟩ => show win0_1.index t 0 * 256 + 1 * r.val = 256 * t.val + r.val; rw [(idx1 t).1]; omega
  | ⟨1, _⟩ => show win0_1.index t 1 * 1024 + 1 * l.val = l.val; rw [(idx1 t).2]; omega

theorem blk4 (t : Fin cfg0.N) (p : Fin 4) (j : Fin 256) (l : Fin 1024) :
    (iblk m c 4 t : Vec Ideal S4x256x1024 .bf16) (ix3 p j l) = (m ((c : Thread nD τ).loc main_arg4) : FVec Ideal S1024x1024 .f32) (ix2 ⟨256 * p.val + j.val, by omega⟩ l) := by
  unfold iblk
  rw [View.read_apply]
  show V m c main_v17 _ = _
  rw [V17]
  refine Eq.trans (congrArg _ (a₂ := ix3 p ⟨2560 + j.val, by omega⟩ l) (funext fun a => Fin.ext ?_))
    ((hW_eq _ p ⟨2560 + j.val, by omega⟩ l (by simp)).trans (congrArg _ (funext fun a => Fin.ext ?_)))
  · match a with
    | ⟨0, _⟩ => show win0_4.index t 0 * 4 + 1 * p.val = p.val; rw [(idx4 t).1]; omega
    | ⟨1, _⟩ => show win0_4.index t 1 * 256 + 1 * j.val = 2560 + j.val; rw [(idx4 t).2.1]; omega
    | ⟨2, _⟩ => show win0_4.index t 2 * 1024 + 1 * l.val = l.val; rw [(idx4 t).2.2]; omega
  · match a with
    | ⟨0, _⟩ => show 256 * p.val + (2560 + j.val - 2560) = 256 * p.val + j.val; omega
    | ⟨1, _⟩ => rfl

theorem blk6 (t : Fin cfg0.N) (j : Fin 256) (l : Fin 1024) :
    (iblk m c 6 t : Vec Ideal S256x1024 .bf16) (ix2 j l) = (m ((c : Thread nD τ).loc main_arg6) : FVec Ideal S256x1024 .f32) (ix2 j l) := by
  unfold iblk
  rw [View.read_apply]
  show V m c main_v19 _ = _
  rw [V19]
  refine (congrArg (m ((c : Thread nD τ).loc main_arg6) : FVec Ideal S256x1024 .f32) (funext fun a => Fin.ext ?_) : _)
  match a with
  | ⟨0, _⟩ => show win0_6.index t 0 * 256 + 1 * j.val = j.val; rw [(idx6 t).1]; omega
  | ⟨1, _⟩ => show win0_6.index t 1 * 1024 + 1 * l.val = l.val; rw [(idx6 t).2]; omega

theorem blk5 (t : Fin cfg0.N) (z : Fin 1) (l : Fin 1024) :
    (iblk m c 5 t : Vec Ideal S1x1024 .f32) (ix2 z l) = m ((c : Thread nD τ).loc main_arg5) (ix1 l) := by
  unfold iblk
  rw [View.read_apply]
  show V m c main_v18 _ = _
  rw [V18]
  exact row_apply _ _ l (by show win0_5.index t 1 * 1024 + 1 * l.val = l.val; rw [(idx5 t).2]; omega)

theorem blk7 (t : Fin cfg0.N) (z : Fin 1) (l : Fin 1024) :
    (iblk m c 7 t : Vec Ideal S1x1024 .f32) (ix2 z l) = m ((c : Thread nD τ).loc main_arg7) (ix1 l) := by
  unfold iblk
  rw [View.read_apply]
  show V m c main_v20 _ = _
  rw [V20]
  exact row_apply _ _ l (by show win0_7.index t 1 * 1024 + 1 * l.val = l.val; rw [(idx7 t).2]; omega)

theorem blk8 (t : Fin cfg0.N) (z : Fin 1) (l : Fin 1024) :
    (iblk m c 8 t : Vec Ideal S1x1024 .f32) (ix2 z l) = m ((c : Thread nD τ).loc main_arg8) (ix1 l) := by
  unfold iblk
  rw [View.read_apply]
  show V m c main_v21 _ = _
  rw [V21]
  exact row_apply _ _ l (by show win0_8.index t 1 * 1024 + 1 * l.val = l.val; rw [(idx8 t).2]; omega)

theorem blk9 (t : Fin cfg0.N) (z : Fin 1) (l : Fin 1024) :
    (iblk m c 9 t : Vec Ideal S1x1024 .f32) (ix2 z l) = m ((c : Thread nD τ).loc main_arg3) (ix1 l) := by
  unfold iblk
  rw [View.read_apply]
  show V m c main_v22 _ = _
  rw [V22]
  exact row_apply _ _ l (by show win0_9.index t 1 * 1024 + 1 * l.val = l.val; rw [(idx9 t).2]; omega)

/-! ## The arguments as real numbers -/

/-- The launched memory holds these real numbers. -/
structure Args (H : Fin 4096 → Row) (K : Wt) : Prop where
  a0 : ∀ r l, (m ((c : Thread nD τ).loc main_arg0) : FVec Ideal S4096x1024 .f32) (ix2 r l) = (((H r).h l : ℝ) : EReal)
  a1 : ∀ r l, (m ((c : Thread nD τ).loc main_arg1) : FVec Ideal S4096x256 .f32) (ix2 r l) = (((H r).p l : ℝ) : EReal)
  a2 : ∀ r l, (m ((c : Thread nD τ).loc main_arg2) : FVec Ideal S4096x1024 .f32) (ix2 r l) = (((H r).t l : ℝ) : EReal)
  a3 : ∀ l, (m ((c : Thread nD τ).loc main_arg3) : FVec Ideal S1024 .f32) (ix1 l) = ((K.gpg l : ℝ) : EReal)
  a4 : ∀ j l, (m ((c : Thread nD τ).loc main_arg4) : FVec Ideal S1024x1024 .f32) (ix2 j l) = ((K.w j l : ℝ) : EReal)
  a5 : ∀ l, (m ((c : Thread nD τ).loc main_arg5) : FVec Ideal S1024 .f32) (ix1 l) = ((K.b l : ℝ) : EReal)
  a6 : ∀ j l, (m ((c : Thread nD τ).loc main_arg6) : FVec Ideal S256x1024 .f32) (ix2 j l) = ((K.wp j l : ℝ) : EReal)
  a7 : ∀ l, (m ((c : Thread nD τ).loc main_arg7) : FVec Ideal S1024 .f32) (ix1 l) = ((K.gple l : ℝ) : EReal)
  a8 : ∀ l, (m ((c : Thread nD τ).loc main_arg8) : FVec Ideal S1024 .f32) (ix1 l) = ((K.gfin l : ℝ) : EReal)

variable {H : Fin 4096 → Row} {K : Wt} (A : Args m c H K)

/-- A function of the rows, continued by zero past the last. -/
def ext (f : Fin 4096 → ℝ) (n : ℕ) : ℝ := if h : n < 4096 then f ⟨n, h⟩ else 0

theorem sum_ext (f : Fin 4096 → ℝ) : ∑ n ∈ Finset.range 4096, ext f n = ∑ r, f r := by
  rw [Finset.sum_range]
  exact Finset.sum_congr rfl fun r _ => dif_pos r.isLt

theorem sum_row (f : Fin 4096 → ℝ) (t : Fin cfg0.N) : ∑ r : Fin 256, f (rowOf t r) = ∑ n ∈ Finset.range 256, ext f (256 * t.val + n) := by
  rw [Finset.sum_range]
  refine Finset.sum_congr rfl fun r _ => Eq.symm ?_
  exact dif_pos (rowOf t r).isLt

/-- What starts at zero and takes on each point's rows holds the sum over all rows so far. -/
theorem acc_of (f : Fin 4096 → ℝ) (o : (n : ℕ) → n < cfg0.N → EReal) (h0 : ∀ h, o 0 h = 0 + ((∑ r, f (rowOf ⟨0, h⟩ r) : ℝ) : EReal))
    (hs : ∀ n h, o (n + 1) h = o n (Nat.lt_of_succ_lt h) + ((∑ r, f (rowOf ⟨n + 1, h⟩ r) : ℝ) : EReal)) :
    ∀ (n : ℕ) (h : n < cfg0.N), o n h = ((∑ k ∈ Finset.range (256 * (n + 1)), ext f k : ℝ) : EReal) := by
  intro n
  induction n with
  | zero =>
    intro h
    rw [h0, zero_add, sum_row]
    simp
  | succ n ih =>
    intro h
    rw [hs, ih, sum_row, ← EReal.coe_add, show 256 * (n + 1 + 1) = 256 * (n + 1) + 256 by ring, Finset.sum_range_add]

include A

theorem blk (t : Fin cfg0.N) : Blk (fun r => H (rowOf t r)) K (iblk m c 0 t) (iblk m c 1 t) (iblk m c 2 t) (iblk m c 3 t) (iblk m c 4 t) (iblk m c 5 t) (iblk m c 6 t)
    (iblk m c 7 t) (iblk m c 8 t) (iblk m c 9 t) where
  a0 r l := (blk0 m c t r l).trans (A.a0 _ _)
  a1 r l := (blk1 m c t r l).trans (hU_eq (X := fun r => (H r).h) A.a0 A.a3 _ _)
  a2 r l := (blk2 m c t r l).trans (A.a1 _ _)
  a3 r l := (blk3 m c t r l).trans (A.a2 _ _)
  a4 p j l := (blk4 m c t p j l).trans (A.a4 _ _)
  a5 z l := (blk5 m c t z l).trans (A.a5 _)
  a6 j l := (blk6 m c t j l).trans (A.a6 _ _)
  a7 z l := (blk7 m c t z l).trans (A.a7 _)
  a8 z l := (blk8 m c t z l).trans (A.a8 _)
  a9 z l := (blk9 m c t z l).trans (A.a3 _)

theorem row11 (t : Fin cfg0.N) (r : Fin 256) (l : Fin 1024) : (outsAt0 m c t.val t.isLt).2.1 (ix2 r l) = ((dh2 K (H (rowOf t r)) l : ℝ) : EReal) := by
  by_cases h : t.val % 16 = 0
  · rw [outsAt0_A m c t h]; dsimp only; rw [out_A_11]; exact o11_eq (blk m c A t) r l
  · rw [outsAt0_B m c t h]; dsimp only; rw [out_B_11]; exact o11_eq (blk m c A t) r l

theorem row12 (t : Fin cfg0.N) (r : Fin 256) (l : Fin 1024) : (outsAt0 m c t.val t.isLt).2.2.1 (ix2 r l) = ((dh2 K (H (rowOf t r)) l : ℝ) : EReal) := by
  by_cases h : t.val % 16 = 0
  · rw [outsAt0_A m c t h]; dsimp only; rw [out_A_12]; exact o12_eq (blk m c A t) r l
  · rw [outsAt0_B m c t h]; dsimp only; rw [out_B_12]; exact o12_eq (blk m c A t) r l

theorem row13 (t : Fin cfg0.N) (r : Fin 256) (l : Fin 1024) : (outsAt0 m c t.val t.isLt).2.2.2.1 (ix2 r l) = ((dgp K (H (rowOf t r)) l : ℝ) : EReal) := by
  by_cases h : t.val % 16 = 0
  · rw [outsAt0_A m c t h]; dsimp only; rw [out_A_13]; exact o13_eq (blk m c A t) r l
  · rw [outsAt0_B m c t h]; dsimp only; rw [out_B_13]; exact o13_eq (blk m c A t) r l

theorem row14 (t : Fin cfg0.N) (r : Fin 256) (l : Fin 1024) : (outsAt0 m c t.val t.isLt).2.2.2.2.1 (ix2 r l) = ((dep K (H (rowOf t r)) l : ℝ) : EReal) := by
  by_cases h : t.val % 16 = 0
  · rw [outsAt0_A m c t h]; dsimp only; rw [out_A_14]; exact o14_eq (blk m c A t) r l
  · rw [outsAt0_B m c t h]; dsimp only; rw [out_B_14]; exact o14_eq (blk m c A t) r l

theorem acc10 (i : Fin 8) (j : Fin 128) : ∀ (n : ℕ) (h : n < cfg0.N),
    (outsAt0 m c n h).1 (ix2 i j) = ((∑ k ∈ Finset.range (256 * (n + 1)), ext (fun r => ls K (H r)) k : ℝ) : EReal) := by
  refine acc_of (fun r => ls K (H r)) (fun n h => (outsAt0 m c n h).1 (ix2 i j)) (fun h => ?_) fun n h => ?_
  · rw [outsAt0_A m c ⟨0, h⟩ rfl]
    dsimp only
    rw [out_A_10]
    refine (o10_eq (blk m c A ⟨0, h⟩) _ i j).trans (congrArg (· + _) ?_)
    pointwise [k0_pay6]
  · have := lt16 ⟨n + 1, h⟩
    dsimp only at this ⊢
    rw [outsAt0_B m c ⟨n + 1, h⟩ (by dsimp only; omega)]
    dsimp only
    rw [out_B_10]
    exact o10_eq (blk m c A ⟨n + 1, h⟩) _ i j

theorem acc15 (z : Fin 1) (l : Fin 1024) : ∀ (n : ℕ) (h : n < cfg0.N),
    (outsAt0 m c n h).2.2.2.2.2.1 (ix2 z l) = ((∑ k ∈ Finset.range (256 * (n + 1)), ext (fun r => df K (H r) l / 1024 * nrm (h3 K (H r)) l) k : ℝ) : EReal) := by
  refine acc_of (fun r => df K (H r) l / 1024 * nrm (h3 K (H r)) l) (fun n h => (outsAt0 m c n h).2.2.2.2.2.1 (ix2 z l)) (fun h => ?_) fun n h => ?_
  · rw [outsAt0_A m c ⟨0, h⟩ rfl]
    dsimp only
    rw [out_A_15]
    refine (o15_eq (blk m c A ⟨0, h⟩) _ z l).trans (congrArg (· + _) ?_)
    pointwise [k0_pay7]
  · have := lt16 ⟨n + 1, h⟩
    dsimp only at this ⊢
    rw [outsAt0_B m c ⟨n + 1, h⟩ (by dsimp only; omega)]
    dsimp only
    rw [out_B_15]
    exact o15_eq (blk m c A ⟨n + 1, h⟩) _ z l

theorem acc16 (z : Fin 1) (l : Fin 1024) : ∀ (n : ℕ) (h : n < cfg0.N),
    (outsAt0 m c n h).2.2.2.2.2.2.1 (ix2 z l) = ((∑ k ∈ Finset.range (256 * (n + 1)), ext (fun r => gate K (H r) l * dh3 K (H r) l * nrm (ep K (H r)) l) k : ℝ) : EReal) := by
  refine acc_of (fun r => gate K (H r) l * dh3 K (H r) l * nrm (ep K (H r)) l) (fun n h => (outsAt0 m c n h).2.2.2.2.2.2.1 (ix2 z l)) (fun h => ?_) fun n h => ?_
  · rw [outsAt0_A m c ⟨0, h⟩ rfl]
    dsimp only
    rw [out_A_16]
    refine (o16_eq (blk m c A ⟨0, h⟩) _ z l).trans (congrArg (· + _) ?_)
    pointwise [k0_pay8]
  · have := lt16 ⟨n + 1, h⟩
    dsimp only at this ⊢
    rw [outsAt0_B m c ⟨n + 1, h⟩ (by dsimp only; omega)]
    dsimp only
    rw [out_B_16]
    exact o16_eq (blk m c A ⟨n + 1, h⟩) _ z l

theorem acc17 (z : Fin 1) (l : Fin 1024) : ∀ (n : ℕ) (h : n < cfg0.N),
    (outsAt0 m c n h).2.2.2.2.2.2.2.1 (ix2 z l) = ((∑ k ∈ Finset.range (256 * (n + 1)), ext (fun r => dgp K (H r) l) k : ℝ) : EReal) := by
  refine acc_of (fun r => dgp K (H r) l) (fun n h => (outsAt0 m c n h).2.2.2.2.2.2.2.1 (ix2 z l)) (fun h => ?_) fun n h => ?_
  · rw [outsAt0_A m c ⟨0, h⟩ rfl]
    dsimp only
    rw [out_A_17]
    refine (o17_eq (blk m c A ⟨0, h⟩) _ z l).trans (congrArg (· + _) ?_)
    pointwise [k0_pay9]
  · have := lt16 ⟨n + 1, h⟩
    dsimp only at this ⊢
    rw [outsAt0_B m c ⟨n + 1, h⟩ (by dsimp only; omega)]
    dsimp only
    rw [out_B_17]
    exact o17_eq (blk m c A ⟨n + 1, h⟩) _ z l

theorem acc18 (z : Fin 1) (l : Fin 1024) : ∀ (n : ℕ) (h : n < cfg0.N),
    (outsAt0 m c n h).2.2.2.2.2.2.2.2 (ix2 z l) = ((∑ k ∈ Finset.range (256 * (n + 1)), ext (fun r => du K (H r) l * nrm (H r).h l) k : ℝ) : EReal) := by
  refine acc_of (fun r => du K (H r) l * nrm (H r).h l) (fun n h => (outsAt0 m c n h).2.2.2.2.2.2.2.2 (ix2 z l)) (fun h => ?_) fun n h => ?_
  · rw [outsAt0_A m c ⟨0, h⟩ rfl]
    dsimp only
    rw [out_A_18]
    refine (o18_eq (blk m c A ⟨0, h⟩) _ z l).trans (congrArg (· + _) ?_)
    pointwise [k0_pay10]
  · have := lt16 ⟨n + 1, h⟩
    dsimp only at this ⊢
    rw [outsAt0_B m c ⟨n + 1, h⟩ (by dsimp only; omega)]
    dsimp only
    rw [out_B_18]
    exact o18_eq (blk m c A ⟨n + 1, h⟩) _ z l

end Cert.PleIdeal.Out

end
-- ==== Proof.PleFin.lean ====
/- The kernel of the loss and of the gated per-layer input's gradient: its nine result arrays after the run. -/
module

public import proofs.«01_k».proof.Proof.PleVal

@[expose] public section

set_option maxRecDepth 16384

noncomputable section

namespace Cert.PleIdeal.Out

open Cert.PleIdeal Cert.PleIdeal.Gen Cert.Reals Cert.Ple Idealize.ShloMosaic Idealize.ShloMosaic.TcCoe Idealize.SL.Sem

variable (m : (ℓ : Loc nD τ sig) → Buf (Elt Ideal) ℓ) (c : Dev nD)
variable {H : Fin 4096 → Row} {K : Wt} (A : Args m c H K)

/-- The grid point that computes row `R`. -/
def ptOf (R : Fin 4096) : Fin cfg0.N := ⟨R.val / 256, by rw [show cfg0.N = 16 from N_0]; omega⟩

theorem rowOf_pt (R : Fin 4096) : rowOf (ptOf R) ⟨R.val % 256, by omega⟩ = R :=
  Fin.ext (by show 256 * (R.val / 256) + R.val % 256 = R.val; omega)

/-- The last grid point. -/
def tEnd : Fin cfg0.N := ⟨15, by rw [show cfg0.N = 16 from N_0]; omega⟩

theorem last (t : Fin cfg0.N) (h : t.val % 16 = 15) : t = tEnd := by
  have := lt16 t
  exact Fin.ext (by show t.val = 15; omega)

include A in
theorem final11 (R : Fin 4096) (C : Fin 1024) : ((dats m 0 c).arrAt 11 cfg0.N : FVec Ideal S4096x1024 .f32) (ix2 R C) = ((dh2 K (H R) C : ℝ) : EReal) := by
  have h := congrFun (Value.blocks11 m c (ptOf R) (flush0_11 _)) (ix2 ⟨R.val % 256, by omega⟩ C)
  rw [View.read_apply, Value.flushed11] at h
  refine Eq.trans (congrArg _ (funext fun a => Fin.ext ?_)) (h.trans ((row11 m c A (ptOf R) ⟨R.val % 256, by omega⟩ C).trans ?_))
  · match a with
    | ⟨0, _⟩ => show R.val = win0_11.index (ptOf R) 0 * 256 + 1 * (R.val % 256); rw [(idx11 (ptOf R)).1]; show _ = R.val / 256 * 256 + _; omega
    | ⟨1, _⟩ => show C.val = win0_11.index (ptOf R) 1 * 1024 + 1 * C.val; rw [(idx11 (ptOf R)).2]; omega
  · rw [rowOf_pt]

include A in
theorem final12 (R : Fin 4096) (C : Fin 1024) : ((dats m 0 c).arrAt 12 cfg0.N : FVec Ideal S4096x1024 .bf16) (ix2 R C) = ((dh2 K (H R) C : ℝ) : EReal) := by
  have h := congrFun (Value.blocks12 m c (ptOf R) (flush0_12 _)) (ix2 ⟨R.val % 256, by omega⟩ C)
  rw [View.read_apply, Value.flushed12] at h
  refine Eq.trans (congrArg _ (funext fun a => Fin.ext ?_)) (h.trans ((row12 m c A (ptOf R) ⟨R.val % 256, by omega⟩ C).trans ?_))
  · match a with
    | ⟨0, _⟩ => show R.val = win0_12.index (ptOf R) 0 * 256 + 1 * (R.val % 256); rw [(idx12 (ptOf R)).1]; show _ = R.val / 256 * 256 + _; omega
    | ⟨1, _⟩ => show C.val = win0_12.index (ptOf R) 1 * 1024 + 1 * C.val; rw [(idx12 (ptOf R)).2]; omega
  · rw [rowOf_pt]

include A in
theorem final13 (R : Fin 4096) (C : Fin 1024) : ((dats m 0 c).arrAt 13 cfg0.N : FVec Ideal S4096x1024 .bf16) (ix2 R C) = ((dgp K (H R) C : ℝ) : EReal) := by
  have h := congrFun (Value.blocks13 m c (ptOf R) (flush0_13 _)) (ix2 ⟨R.val % 256, by omega⟩ C)
  rw [View.read_apply, Value.flushed13] at h
  refine Eq.trans (congrArg _ (funext fun a => Fin.ext ?_)) (h.trans ((row13 m c A (ptOf R) ⟨R.val % 256, by omega⟩ C).trans ?_))
  · match a with
    | ⟨0, _⟩ => show R.val = win0_13.index (ptOf R) 0 * 256 + 1 * (R.val % 256); rw [(idx13 (ptOf R)).1]; show _ = R.val / 256 * 256 + _; omega
    | ⟨1, _⟩ => show C.val = win0_13.index (ptOf R) 1 * 1024 + 1 * C.val; rw [(idx13 (ptOf R)).2]; omega
  · rw [rowOf_pt]

include A in
theorem final14 (R : Fin 4096) (C : Fin 1024) : ((dats m 0 c).arrAt 14 cfg0.N : FVec Ideal S4096x1024 .bf16) (ix2 R C) = ((dep K (H R) C : ℝ) : EReal) := by
  have h := congrFun (Value.blocks14 m c (ptOf R) (flush0_14 _)) (ix2 ⟨R.val % 256, by omega⟩ C)
  rw [View.read_apply, Value.flushed14] at h
  refine Eq.trans (congrArg _ (funext fun a => Fin.ext ?_)) (h.trans ((row14 m c A (ptOf R) ⟨R.val % 256, by omega⟩ C).trans ?_))
  · match a with
    | ⟨0, _⟩ => show R.val = win0_14.index (ptOf R) 0 * 256 + 1 * (R.val % 256); rw [(idx14 (ptOf R)).1]; show _ = R.val / 256 * 256 + _; omega
    | ⟨1, _⟩ => show C.val = win0_14.index (ptOf R) 1 * 1024 + 1 * C.val; rw [(idx14 (ptOf R)).2]; omega
  · rw [rowOf_pt]

theorem whole10 : (dats m 0 c).arrAt 10 cfg0.N = (outsAt0 m c tEnd.val tEnd.isLt).1 := by
  refine (dats m 0 c).arrAt_eq_of_cover 10 (outsAt0 m c tEnd.val tEnd.isLt).1 (fun t hf => ?_) fun i => ⟨tEnd, (flush0_10 tEnd).mpr rfl, ?_⟩
  · obtain rfl := last t ((flush0_10 t).mp hf)
    rw [Value.flushed10]
    have hz' : (fun a => win0_10.index tEnd a * main_v23_0.ty.shape.size a) = fun _ => 0 := funext fun a => match a with
      | ⟨0, _⟩ => by show win0_10.index tEnd 0 * _ = 0; rw [(idx10 _).1, zero_mul]
      | ⟨1, _⟩ => by show win0_10.index tEnd 1 * _ = 0; rw [(idx10 _).2, zero_mul]
    exact (Memref.read_access_unit_zero (Elt Ideal) main_v23_0 hz' (fun a => by rw [congrFun hz' a]; simp) _).symm
  · show i ∈ ((View.whole main_v23_0).slice (win0_10.rect tEnd)).set
    rw [View.set_slice_whole, Rect.mem_set_unit]
    intro a
    have h0 : (i 0 : Nat) < 8 := (i 0).isLt
    have h1 : (i 1 : Nat) < 128 := (i 1).isLt
    match a with
    | ⟨0, _⟩ => show win0_10.index tEnd 0 * 8 ≤ (i 0 : Nat) ∧ (i 0 : Nat) < win0_10.index tEnd 0 * 8 + 8
                rw [(idx10 _).1]; omega
    | ⟨1, _⟩ => show win0_10.index tEnd 1 * 128 ≤ (i 1 : Nat) ∧ (i 1 : Nat) < win0_10.index tEnd 1 * 128 + 128
                rw [(idx10 _).2]; omega

include A in
theorem final10 (i : Fin 8) (j : Fin 128) : ((dats m 0 c).arrAt 10 cfg0.N : FVec Ideal S8x128 .f32) (ix2 i j) = ((∑ r, ls K (H r) : ℝ) : EReal) := by
  rw [whole10]
  refine (acc10 m c A i j 15 tEnd.isLt).trans ?_
  rw [show 256 * (15 + 1) = 4096 by norm_num, sum_ext]

theorem whole15 : (dats m 0 c).arrAt 15 cfg0.N = (outsAt0 m c tEnd.val tEnd.isLt).2.2.2.2.2.1 := by
  refine (dats m 0 c).arrAt_eq_of_cover 15 (outsAt0 m c tEnd.val tEnd.isLt).2.2.2.2.2.1 (fun t hf => ?_) fun i => ⟨tEnd, (flush0_15 tEnd).mpr rfl, ?_⟩
  · obtain rfl := last t ((flush0_15 t).mp hf)
    rw [Value.flushed15]
    have hz' : (fun a => win0_15.index tEnd a * main_v23_5.ty.shape.size a) = fun _ => 0 := funext fun a => match a with
      | ⟨0, _⟩ => by show win0_15.index tEnd 0 * _ = 0; rw [(idx15 _).1, zero_mul]
      | ⟨1, _⟩ => by show win0_15.index tEnd 1 * _ = 0; rw [(idx15 _).2, zero_mul]
    exact (Memref.read_access_unit_zero (Elt Ideal) main_v23_5 hz' (fun a => by rw [congrFun hz' a]; simp) _).symm
  · show i ∈ ((View.whole main_v23_5).slice (win0_15.rect tEnd)).set
    rw [View.set_slice_whole, Rect.mem_set_unit]
    intro a
    have h0 : (i 0 : Nat) < 1 := (i 0).isLt
    have h1 : (i 1 : Nat) < 1024 := (i 1).isLt
    match a with
    | ⟨0, _⟩ => show win0_15.index tEnd 0 * 1 ≤ (i 0 : Nat) ∧ (i 0 : Nat) < win0_15.index tEnd 0 * 1 + 1
                rw [(idx15 _).1]; omega
    | ⟨1, _⟩ => show win0_15.index tEnd 1 * 1024 ≤ (i 1 : Nat) ∧ (i 1 : Nat) < win0_15.index tEnd 1 * 1024 + 1024
                rw [(idx15 _).2]; omega

include A in
theorem final15 (z : Fin 1) (l : Fin 1024) : ((dats m 0 c).arrAt 15 cfg0.N : FVec Ideal S1x1024 .f32) (ix2 z l) = ((∑ r, df K (H r) l / 1024 * nrm (h3 K (H r)) l : ℝ) : EReal) := by
  rw [whole15]
  refine (acc15 m c A z l 15 tEnd.isLt).trans ?_
  rw [show 256 * (15 + 1) = 4096 by norm_num, sum_ext]

theorem whole16 : (dats m 0 c).arrAt 16 cfg0.N = (outsAt0 m c tEnd.val tEnd.isLt).2.2.2.2.2.2.1 := by
  refine (dats m 0 c).arrAt_eq_of_cover 16 (outsAt0 m c tEnd.val tEnd.isLt).2.2.2.2.2.2.1 (fun t hf => ?_) fun i => ⟨tEnd, (flush0_16 tEnd).mpr rfl, ?_⟩
  · obtain rfl := last t ((flush0_16 t).mp hf)
    rw [Value.flushed16]
    have hz' : (fun a => win0_16.index tEnd a * main_v23_6.ty.shape.size a) = fun _ => 0 := funext fun a => match a with
      | ⟨0, _⟩ => by show win0_16.index tEnd 0 * _ = 0; rw [(idx16 _).1, zero_mul]
      | ⟨1, _⟩ => by show win0_16.index tEnd 1 * _ = 0; rw [(idx16 _).2, zero_mul]
    exact (Memref.read_access_unit_zero (Elt Ideal) main_v23_6 hz' (fun a => by rw [congrFun hz' a]; simp) _).symm
  · show i ∈ ((View.whole main_v23_6).slice (win0_16.rect tEnd)).set
    rw [View.set_slice_whole, Rect.mem_set_unit]
    intro a
    have h0 : (i 0 : Nat) < 1 := (i 0).isLt
    have h1 : (i 1 : Nat) < 1024 := (i 1).isLt
    match a with
    | ⟨0, _⟩ => show win0_16.index tEnd 0 * 1 ≤ (i 0 : Nat) ∧ (i 0 : Nat) < win0_16.index tEnd 0 * 1 + 1
                rw [(idx16 _).1]; omega
    | ⟨1, _⟩ => show win0_16.index tEnd 1 * 1024 ≤ (i 1 : Nat) ∧ (i 1 : Nat) < win0_16.index tEnd 1 * 1024 + 1024
                rw [(idx16 _).2]; omega

include A in
theorem final16 (z : Fin 1) (l : Fin 1024) : ((dats m 0 c).arrAt 16 cfg0.N : FVec Ideal S1x1024 .f32) (ix2 z l) = ((∑ r, gate K (H r) l * dh3 K (H r) l * nrm (ep K (H r)) l : ℝ) : EReal) := by
  rw [whole16]
  refine (acc16 m c A z l 15 tEnd.isLt).trans ?_
  rw [show 256 * (15 + 1) = 4096 by norm_num, sum_ext]

theorem whole17 : (dats m 0 c).arrAt 17 cfg0.N = (outsAt0 m c tEnd.val tEnd.isLt).2.2.2.2.2.2.2.1 := by
  refine (dats m 0 c).arrAt_eq_of_cover 17 (outsAt0 m c tEnd.val tEnd.isLt).2.2.2.2.2.2.2.1 (fun t hf => ?_) fun i => ⟨tEnd, (flush0_17 tEnd).mpr rfl, ?_⟩
  · obtain rfl := last t ((flush0_17 t).mp hf)
    rw [Value.flushed17]
    have hz' : (fun a => win0_17.index tEnd a * main_v23_7.ty.shape.size a) = fun _ => 0 := funext fun a => match a with
      | ⟨0, _⟩ => by show win0_17.index tEnd 0 * _ = 0; rw [(idx17 _).1, zero_mul]
      | ⟨1, _⟩ => by show win0_17.index tEnd 1 * _ = 0; rw [(idx17 _).2, zero_mul]
    exact (Memref.read_access_unit_zero (Elt Ideal) main_v23_7 hz' (fun a => by rw [congrFun hz' a]; simp) _).symm
  · show i ∈ ((View.whole main_v23_7).slice (win0_17.rect tEnd)).set
    rw [View.set_slice_whole, Rect.mem_set_unit]
    intro a
    have h0 : (i 0 : Nat) < 1 := (i 0).isLt
    have h1 : (i 1 : Nat) < 1024 := (i 1).isLt
    match a with
    | ⟨0, _⟩ => show win0_17.index tEnd 0 * 1 ≤ (i 0 : Nat) ∧ (i 0 : Nat) < win0_17.index tEnd 0 * 1 + 1
                rw [(idx17 _).1]; omega
    | ⟨1, _⟩ => show win0_17.index tEnd 1 * 1024 ≤ (i 1 : Nat) ∧ (i 1 : Nat) < win0_17.index tEnd 1 * 1024 + 1024
                rw [(idx17 _).2]; omega

include A in
theorem final17 (z : Fin 1) (l : Fin 1024) : ((dats m 0 c).arrAt 17 cfg0.N : FVec Ideal S1x1024 .f32) (ix2 z l) = ((∑ r, dgp K (H r) l : ℝ) : EReal) := by
  rw [whole17]
  refine (acc17 m c A z l 15 tEnd.isLt).trans ?_
  rw [show 256 * (15 + 1) = 4096 by norm_num, sum_ext]

theorem whole18 : (dats m 0 c).arrAt 18 cfg0.N = (outsAt0 m c tEnd.val tEnd.isLt).2.2.2.2.2.2.2.2 := by
  refine (dats m 0 c).arrAt_eq_of_cover 18 (outsAt0 m c tEnd.val tEnd.isLt).2.2.2.2.2.2.2.2 (fun t hf => ?_) fun i => ⟨tEnd, (flush0_18 tEnd).mpr rfl, ?_⟩
  · obtain rfl := last t ((flush0_18 t).mp hf)
    rw [Value.flushed18]
    have hz' : (fun a => win0_18.index tEnd a * main_v23_8.ty.shape.size a) = fun _ => 0 := funext fun a => match a with
      | ⟨0, _⟩ => by show win0_18.index tEnd 0 * _ = 0; rw [(idx18 _).1, zero_mul]
      | ⟨1, _⟩ => by show win0_18.index tEnd 1 * _ = 0; rw [(idx18 _).2, zero_mul]
    exact (Memref.read_access_unit_zero (Elt Ideal) main_v23_8 hz' (fun a => by rw [congrFun hz' a]; simp) _).symm
  · show i ∈ ((View.whole main_v23_8).slice (win0_18.rect tEnd)).set
    rw [View.set_slice_whole, Rect.mem_set_unit]
    intro a
    have h0 : (i 0 : Nat) < 1 := (i 0).isLt
    have h1 : (i 1 : Nat) < 1024 := (i 1).isLt
    match a with
    | ⟨0, _⟩ => show win0_18.index tEnd 0 * 1 ≤ (i 0 : Nat) ∧ (i 0 : Nat) < win0_18.index tEnd 0 * 1 + 1
                rw [(idx18 _).1]; omega
    | ⟨1, _⟩ => show win0_18.index tEnd 1 * 1024 ≤ (i 1 : Nat) ∧ (i 1 : Nat) < win0_18.index tEnd 1 * 1024 + 1024
                rw [(idx18 _).2]; omega

include A in
theorem final18 (z : Fin 1) (l : Fin 1024) : ((dats m 0 c).arrAt 18 cfg0.N : FVec Ideal S1x1024 .f32) (ix2 z l) = ((∑ r, du K (H r) l * nrm (H r).h l : ℝ) : EReal) := by
  rw [whole18]
  refine (acc18 m c A z l 15 tEnd.isLt).trans ?_
  rw [show 256 * (15 + 1) = 4096 by norm_num, sum_ext]

end Cert.PleIdeal.Out

end
-- ==== Proof.PleClaim.lean ====
/- The loss and the gated per-layer input's gradient: kernel and reference leave the same nine arrays. -/
module

public import proofs.«01_k».proof.Defs
public import proofs.«01_k».proof.Proof.PleFin
public import proofs.«01_k».proof.Proof.PleRef
public import proofs.«01_k».proof.Proof.Gen.PleRefIdeal.Run
public import proofs.«01_k».proof.Proof.Gen.Pre_ple_finite

@[expose] public section

set_option maxRecDepth 16384

noncomputable section

namespace Cert.PleLoss

open Cert.Reals Cert.Ple Idealize.ShloMosaic Idealize.ShloMosaic.TcCoe Idealize.SL.Sem

section
open Cert.PleIdeal

/-- Where the precondition holds, the nine arrays are real numbers. -/
theorem args_of_pre (m : (ℓ : Loc Cert.PleIdeal.nD Cert.PleIdeal.τ Cert.PleIdeal.sig) → Buf (Elt Ideal) ℓ) (h : Pre_PleIdeal_ple_finite m) (c : Dev Cert.PleIdeal.nD) :
    ∃ H K, Cert.PleIdeal.Out.Args m c H K := by
  obtain ⟨h0, h1, h2, h3, h4, h5, h6, h7, h8⟩ := h c
  exact ⟨fun r => ⟨_, _, _⟩, ⟨_, _, _, _, _, _⟩, fun r l => coe_toReal_of_abs (congrFun h0 (ix2 r l)), fun r l => coe_toReal_of_abs (congrFun h1 (ix2 r l)),
    fun r l => coe_toReal_of_abs (congrFun h2 (ix2 r l)), fun l => coe_toReal_of_abs (congrFun h3 (ix1 l)),
    fun j l => coe_toReal_of_abs (congrFun h4 (ix2 j l)), fun l => coe_toReal_of_abs (congrFun h5 (ix1 l)),
    fun j l => coe_toReal_of_abs (congrFun h6 (ix2 j l)), fun l => coe_toReal_of_abs (congrFun h7 (ix1 l)), fun l => coe_toReal_of_abs (congrFun h8 (ix1 l))⟩
end

/-- Two arrays of two axes that agree at every pair of indices are equal. -/
theorem ext2 {φ : FTy} {a b : Nat} {f g : FVec Ideal (⟨2, ![a, b]⟩ : Shape) φ} (h : ∀ i j, f (ix2 i j) = g (ix2 i j)) : f = g := by
  funext i
  rw [eq_ix2 i]
  exact h _ _

theorem algebraic : Cert.algebraic_PleIdeal_PleRefIdeal_pre_ple_finite := by
  intro m g m' g' hpre hargs
  refine ⟨fun c => (Cert.PleIdeal.Gen.dats m 0 c).arrAt 10 Cert.PleIdeal.cfg0.N,
    fun c => (Cert.PleIdeal.Gen.dats m 0 c).arrAt 11 Cert.PleIdeal.cfg0.N,
    fun c => (Cert.PleIdeal.Gen.dats m 0 c).arrAt 12 Cert.PleIdeal.cfg0.N,
    fun c => (Cert.PleIdeal.Gen.dats m 0 c).arrAt 13 Cert.PleIdeal.cfg0.N,
    fun c => (Cert.PleIdeal.Gen.dats m 0 c).arrAt 14 Cert.PleIdeal.cfg0.N,
    fun c => (Cert.PleIdeal.Gen.dats m 0 c).arrAt 15 Cert.PleIdeal.cfg0.N,
    fun c => (Cert.PleIdeal.Gen.dats m 0 c).arrAt 16 Cert.PleIdeal.cfg0.N,
    fun c => (Cert.PleIdeal.Gen.dats m 0 c).arrAt 17 Cert.PleIdeal.cfg0.N,
    fun c => (Cert.PleIdeal.Gen.dats m 0 c).arrAt 18 Cert.PleIdeal.cfg0.N,
    Cert.PleIdeal.Value.run_blocks m g, ?_⟩
  refine (θ_run Cert.PleRefIdeal.defs _ _).mono (fun r h c => ?_) (Cert.PleRefIdeal.Value.run m' g')
  obtain ⟨e0, e1, e2, e3, e4, e5, e6, e7, e8, kept⟩ := h c
  obtain ⟨b0, b1, b2, b3, b4, b5, b6, b7, b8⟩ := hargs c
  obtain ⟨H, K, A⟩ := args_of_pre m hpre c
  have I : Cert.PleRefIdeal.Val.In (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2))
      (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5))
      (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) (m' ((c.tc : Thread Cert.PleRefIdeal.nD Cert.PleRefIdeal.τ).loc Cert.PleRefIdeal.main_arg8)) H K :=
    ⟨fun r l => (congrFun b0 (ix2 r l)).trans (A.a0 r l), fun r l => (congrFun b1 (ix2 r l)).trans (A.a1 r l), fun r l => (congrFun b2 (ix2 r l)).trans (A.a2 r l),
      fun l => (congrFun b3 (ix1 l)).trans (A.a3 l), fun j l => (congrFun b4 (ix2 j l)).trans (A.a4 j l), fun l => (congrFun b5 (ix1 l)).trans (A.a5 l),
      fun j l => (congrFun b6 (ix2 j l)).trans (A.a6 j l), fun l => (congrFun b7 (ix1 l)).trans (A.a7 l), fun l => (congrFun b8 (ix1 l)).trans (A.a8 l)⟩
  have k0 := e0.trans (Cert.PleRefIdeal.Read.val_main_v147_eq _)
  have k1 := e1.trans (Cert.PleRefIdeal.Read.val_main_v146_eq _)
  have k2 := e2.trans (Cert.PleRefIdeal.Read.val_main_v148_eq _)
  have k3 := e3.trans (Cert.PleRefIdeal.Read.val_main_v149_eq _)
  have k4 := e4.trans (Cert.PleRefIdeal.Read.val_main_v150_eq _)
  have k5 := e5.trans (Cert.PleRefIdeal.Read.val_main_v151_eq _)
  have k6 := e6.trans (Cert.PleRefIdeal.Read.val_main_v152_eq _)
  have k7 := e7.trans (Cert.PleRefIdeal.Read.val_main_v153_eq _)
  have k8 := e8.trans (Cert.PleRefIdeal.Read.val_main_v154_eq _)
  clear e0 e1 e2 e3 e4 e5 e6 e7 e8 hargs hpre h b0 b1 b2 b3 b4 b5 b6 b7 b8
  refine ⟨k0.trans ?_, k1.trans ?_, k2.trans ?_, k3.trans ?_, k4.trans ?_, k5.trans ?_, k6.trans ?_, k7.trans ?_, k8.trans ?_, kept⟩
  · refine ext2 (φ := .f32) (a := 8) (b := 128) fun i j => ?_
    exact (Cert.PleRefIdeal.Val.v147_eq I i j).trans (Cert.PleIdeal.Out.final10 m c A i j).symm
  · refine ext2 (φ := .f32) (a := 4096) (b := 1024) fun i j => ?_
    exact (Cert.PleRefIdeal.Val.v146_eq I i j).trans (Cert.PleIdeal.Out.final11 m c A i j).symm
  · refine ext2 (φ := .bf16) (a := 4096) (b := 1024) fun i j => ?_
    exact (Cert.PleRefIdeal.Val.v148_eq I i j).trans (Cert.PleIdeal.Out.final12 m c A i j).symm
  · refine ext2 (φ := .bf16) (a := 4096) (b := 1024) fun i j => ?_
    exact (Cert.PleRefIdeal.Val.v149_eq I i j).trans (Cert.PleIdeal.Out.final13 m c A i j).symm
  · refine ext2 (φ := .bf16) (a := 4096) (b := 1024) fun i j => ?_
    exact (Cert.PleRefIdeal.Val.v150_eq I i j).trans (Cert.PleIdeal.Out.final14 m c A i j).symm
  · refine ext2 (φ := .f32) (a := 1) (b := 1024) fun i j => ?_
    exact (Cert.PleRefIdeal.Val.v151_eq I i j).trans (Cert.PleIdeal.Out.final15 m c A i j).symm
  · refine ext2 (φ := .f32) (a := 1) (b := 1024) fun i j => ?_
    exact (Cert.PleRefIdeal.Val.v152_eq I i j).trans (Cert.PleIdeal.Out.final16 m c A i j).symm
  · refine ext2 (φ := .f32) (a := 1) (b := 1024) fun i j => ?_
    exact (Cert.PleRefIdeal.Val.v153_eq I i j).trans (Cert.PleIdeal.Out.final17 m c A i j).symm
  · refine ext2 (φ := .f32) (a := 1) (b := 1024) fun i j => ?_
    exact (Cert.PleRefIdeal.Val.v154_eq I i j).trans (Cert.PleIdeal.Out.final18 m c A i j).symm

end Cert.PleLoss

end
-- ==== Proof.InpRef.lean ====
/- The reference of the input projection's gradient, read element by element on finite arguments. -/
module

public import proofs.«01_k».proof.Proof.Rms
public import proofs.«01_k».proof.Proof.Gen.InpRefIdeal.Read

@[expose] public section

set_option maxRecDepth 16384

noncomputable section

namespace Cert.Inp

open Cert.Reals Idealize.ShloMosaic

/-! ## The gradient in the real numbers -/

variable {n : ℕ} (Z V C : Fin n → Fin 1024 → ℝ) (B : Fin n → Fin 1536 → ℝ) (T : Fin n → Fin 16 → ℝ) (W : Fin 1024 → Fin 4624 → ℝ)

/-- The gradient of the scaled normalised row: the five cotangents against their columns of the weight. -/
def du (r : Fin n) (l : Fin 1024) : ℝ :=
  ∑ k, Z r k * W l ⟨k, by omega⟩ + ∑ k, B r k * W l ⟨1024 + k, by omega⟩ + ∑ k, V r k * W l ⟨2576 + k, by omega⟩ + ∑ k, C r k * W l ⟨3600 + k, by omega⟩
    + ∑ k, T r k * W l ⟨2560 + k, by omega⟩

/-- A sum over all columns, by the five groups. -/
theorem sum_split (f : Fin 4624 → ℝ) : ∑ k, f k = ∑ k : Fin 1024, f ⟨k, by omega⟩ + ∑ k : Fin 1536, f ⟨1024 + k, by omega⟩
    + ∑ k : Fin 1024, f ⟨2576 + k, by omega⟩ + ∑ k : Fin 1024, f ⟨3600 + k, by omega⟩ + ∑ k : Fin 16, f ⟨2560 + k, by omega⟩ := by
  have e1 := Fin.sum_univ_add (M := ℝ) (a := 3600) (b := 1024) f
  have e2 := Fin.sum_univ_add (M := ℝ) (a := 2576) (b := 1024) fun k => f (Fin.castAdd 1024 k)
  have e3 := Fin.sum_univ_add (M := ℝ) (a := 2560) (b := 16) fun k => f (Fin.castAdd 1024 (Fin.castAdd 1024 k))
  have e4 := Fin.sum_univ_add (M := ℝ) (a := 1024) (b := 1536) fun k => f (Fin.castAdd 1024 (Fin.castAdd 1024 (Fin.castAdd 16 k)))
  refine e1.trans ?_
  rw [e2, e3, e4]
  exact (fun a b c d e => by ring : ∀ a b c d e : ℝ, a + b + c + d + e = a + b + d + e + c) _ _ _ _ _

/-- A sum over the padded step-size lanes stops at the sixteen that carry something. -/
theorem sum_lanes (g : Fin 16 → ℝ) (w : Fin 128 → ℝ) : ∑ k : Fin 128, (if h : k.1 < 16 then g ⟨k, h⟩ else 0) * w k = ∑ k : Fin 16, g k * w ⟨k, by omega⟩ := by
  refine (Fin.sum_univ_add (M := ℝ) (a := 16) (b := 112) _).trans ?_
  rw [Finset.sum_eq_zero (s := (Finset.univ : Finset (Fin 112))) (fun k _ => by
    rw [dif_neg (show ¬(Fin.natAdd 16 k).1 < 16 by simp), zero_mul]), add_zero]
  exact Finset.sum_congr rfl fun k _ => by rw [dif_pos (show (Fin.castAdd 112 k).1 < 16 from k.2)]; rfl

variable (X DH : Fin n → Fin 1024 → ℝ) (G : Fin 1024 → ℝ)

/-- The gradient of the layer's input. -/
def dx (r : Fin n) (l : Fin 1024) : ℝ := DH r l + rmsBwd (X r) (fun k => du Z V C B T W r k * G k) l
/-- The gradient of the norm's weight. -/
def dg (l : Fin 1024) : ℝ := ∑ r, du Z V C B T W r l * nrm (X r) l

end Cert.Inp

namespace Cert.InpRefIdeal.Val

open Cert.InpRefIdeal Cert.InpRefIdeal.Gen Cert.InpRefIdeal.Read Cert.Reals Cert.Inp Idealize.ShloMosaic

variable {X DH Z V C : Fin 4096 → Fin 1024 → ℝ} {G : Fin 1024 → ℝ} {B : Fin 4096 → Fin 1536 → ℝ} {T : Fin 4096 → Fin 16 → ℝ} {W : Fin 1024 → Fin 4624 → ℝ}
variable {x0 x3 : FVec Ideal S4096x1024 .f32} {x1 : FVec Ideal S1024 .f32} {x2 : FVec Ideal S1024x4624 .f32} {x4 x7 x8 : FVec Ideal S4096x1024 .bf16}
  {x5 : FVec Ideal S4096x1536 .bf16} {x6 : FVec Ideal S4096x16 .bf16}

theorem v11_eq (h0 : ∀ r l, x0 (ix2 r l) = ((X r l : ℝ) : EReal)) (r : Fin 4096) (z : Fin 1) :
    val_main_v11 (F := Ideal) x0 (ix2 r z) = ((mean (fun k => X r k * X r k) + eps : ℝ) : EReal) := by
  pointwise [val_main_v11, val_main_v10, val_main_v9, val_main_v8, val_main_v7, val_main_v6, val_main_v5, val_main_cst, val_main_cst_0, val_main_cst_1]
  simp only [h0, coe_sum, c1024, cEps, div_coe_coe (show (1024 : ℝ) ≠ 0 by norm_num), ← EReal.coe_mul, ← EReal.coe_add]
  rfl

theorem v12_eq (h0 : ∀ r l, x0 (ix2 r l) = ((X r l : ℝ) : EReal)) (r : Fin 4096) (z : Fin 1) :
    val_main_v12 (F := Ideal) x0 (ix2 r z) = ((rs (X r) : ℝ) : EReal) := by
  have h := v11_eq h0 r z
  pointwise [val_main_v12]
  rw [h, rsqrt_pos (msq_eps_pos _)]
  rfl

theorem v15_eq (h0 : ∀ r l, x0 (ix2 r l) = ((X r l : ℝ) : EReal)) (r : Fin 4096) (z : Fin 1) :
    val_main_v15 (F := Ideal) x0 (ix2 r z) = ((-(1 / 2) * (rs (X r) / (mean (fun k => X r k * X r k) + eps)) : ℝ) : EReal) := by
  have h := v11_eq h0 r z
  have h' := v12_eq h0 r z
  pointwise [val_main_v15, val_main_v14, val_main_v13, val_main_cst_2]
  rw [h, h', cNegHalf, div_coe_coe (msq_eps_pos _).ne', ← EReal.coe_mul]

theorem v17_eq (h0 : ∀ r l, x0 (ix2 r l) = ((X r l : ℝ) : EReal)) (r : Fin 4096) (l : Fin 1024) :
    val_main_v17 (F := Ideal) x0 (ix2 r l) = ((nrm (X r) l : ℝ) : EReal) := by
  have h := v12_eq h0
  pointwise [val_main_v17, val_main_v16]
  simp only [h, h0, ← EReal.coe_mul]
  rfl

/-- The five cotangents side by side. -/
def ct (Z V C : Fin 4096 → Fin 1024 → ℝ) (B : Fin 4096 → Fin 1536 → ℝ) (T : Fin 4096 → Fin 16 → ℝ) (r : Fin 4096) (k : Fin 4624) : ℝ :=
  if h : k.1 < 1024 then Z r ⟨k.1, h⟩
  else if h : k.1 - 1024 < 1536 then B r ⟨k.1 - 1024, h⟩
  else if h : k.1 - 1024 - 1536 < 16 then T r ⟨k.1 - 1024 - 1536, h⟩
  else if h : k.1 - 1024 - 1536 - 16 < 1024 then V r ⟨k.1 - 1024 - 1536 - 16, h⟩
  else C r ⟨k.1 - 1024 - 1536 - 16 - 1024, by omega⟩

theorem ct_sum (r : Fin 4096) (l : Fin 1024) : ∑ k, ct Z V C B T r k * W l k = du Z V C B T W r l := by
  rw [sum_split]
  unfold du
  congr 1

theorem v28_eq (h4 : ∀ r l, x4 (ix2 r l) = ((Z r l : ℝ) : EReal)) (h5 : ∀ r l, x5 (ix2 r l) = ((B r l : ℝ) : EReal))
    (h6 : ∀ r l, x6 (ix2 r l) = ((T r l : ℝ) : EReal)) (h7 : ∀ r l, x7 (ix2 r l) = ((V r l : ℝ) : EReal)) (h8 : ∀ r l, x8 (ix2 r l) = ((C r l : ℝ) : EReal))
    (h2 : ∀ l f, x2 (ix2 l f) = ((W l f : ℝ) : EReal)) (r : Fin 4096) (l : Fin 1024) :
    val_main_v28 (F := Ideal) x2 x4 x5 x6 x7 x8 (ix2 r l) = ((du Z V C B T W r l : ℝ) : EReal) := by
  pointwise [val_main_v28, val_main_v27, val_main_v4, val_main_v3, val_main_v2, val_main_v1, val_main_v0]
  refine (Finset.sum_congr rfl (g := fun k => ((ct Z V C B T r k * W l k : ℝ) : EReal)) fun k _ => ?_).trans ?_
  · unfold ct
    split_ifs <;> simp only [h2, h4, h5, h6, h7, h8, ← EReal.coe_mul]
  · rw [coe_sum, ct_sum]

theorem v50_eq (h0 : ∀ r l, x0 (ix2 r l) = ((X r l : ℝ) : EReal)) (h1 : ∀ l, x1 (ix1 l) = ((G l : ℝ) : EReal)) (h3 : ∀ r l, x3 (ix2 r l) = ((DH r l : ℝ) : EReal))
    (h4 : ∀ r l, x4 (ix2 r l) = ((Z r l : ℝ) : EReal)) (h5 : ∀ r l, x5 (ix2 r l) = ((B r l : ℝ) : EReal))
    (h6 : ∀ r l, x6 (ix2 r l) = ((T r l : ℝ) : EReal)) (h7 : ∀ r l, x7 (ix2 r l) = ((V r l : ℝ) : EReal)) (h8 : ∀ r l, x8 (ix2 r l) = ((C r l : ℝ) : EReal))
    (h2 : ∀ l f, x2 (ix2 l f) = ((W l f : ℝ) : EReal)) (z : Fin 1) (l : Fin 1024) :
    val_main_v50 (F := Ideal) x0 x2 x4 x5 x6 x7 x8 (ix2 z l) = ((dg Z V C B T W X l : ℝ) : EReal) := by
  have h := v28_eq h4 h5 h6 h7 h8 h2
  have h' := v17_eq h0
  pointwise [val_main_v50, val_main_v34, val_main_v31, val_main_v30, val_main_v29, val_main_cst_3, val_main_cst_4]
  simp only [h, h', ← EReal.coe_mul, coe_sum, Finset.univ_unique, Finset.sum_singleton]
  exact congrArg _ (Finset.sum_congr rfl fun r _ => mul_comm _ _)

theorem v33_eq (h0 : ∀ r l, x0 (ix2 r l) = ((X r l : ℝ) : EReal)) (h1 : ∀ l, x1 (ix1 l) = ((G l : ℝ) : EReal)) (h3 : ∀ r l, x3 (ix2 r l) = ((DH r l : ℝ) : EReal))
    (h4 : ∀ r l, x4 (ix2 r l) = ((Z r l : ℝ) : EReal)) (h5 : ∀ r l, x5 (ix2 r l) = ((B r l : ℝ) : EReal))
    (h6 : ∀ r l, x6 (ix2 r l) = ((T r l : ℝ) : EReal)) (h7 : ∀ r l, x7 (ix2 r l) = ((V r l : ℝ) : EReal)) (h8 : ∀ r l, x8 (ix2 r l) = ((C r l : ℝ) : EReal))
    (h2 : ∀ l f, x2 (ix2 l f) = ((W l f : ℝ) : EReal)) (r : Fin 4096) (l : Fin 1024) :
    val_main_v33 (F := Ideal) x1 x2 x4 x5 x6 x7 x8 (ix2 r l) = ((du Z V C B T W r l * G l : ℝ) : EReal) := by
  have h := v28_eq h4 h5 h6 h7 h8 h2
  pointwise [val_main_v33, val_main_v32, val_main_v18]
  simp only [h, h1, ← EReal.coe_mul]

theorem v45_eq (h0 : ∀ r l, x0 (ix2 r l) = ((X r l : ℝ) : EReal)) (h1 : ∀ l, x1 (ix1 l) = ((G l : ℝ) : EReal)) (h3 : ∀ r l, x3 (ix2 r l) = ((DH r l : ℝ) : EReal))
    (h4 : ∀ r l, x4 (ix2 r l) = ((Z r l : ℝ) : EReal)) (h5 : ∀ r l, x5 (ix2 r l) = ((B r l : ℝ) : EReal))
    (h6 : ∀ r l, x6 (ix2 r l) = ((T r l : ℝ) : EReal)) (h7 : ∀ r l, x7 (ix2 r l) = ((V r l : ℝ) : EReal)) (h8 : ∀ r l, x8 (ix2 r l) = ((C r l : ℝ) : EReal))
    (h2 : ∀ l f, x2 (ix2 l f) = ((W l f : ℝ) : EReal)) (r : Fin 4096) (l : Fin 1024) :
    val_main_v45 (F := Ideal) x0 x1 x2 x4 x5 x6 x7 x8 (ix2 r l) = ((rmsC (X r) (fun k => du Z V C B T W r k * G k) : ℝ) : EReal) := by
  have h := v33_eq h0 h1 h3 h4 h5 h6 h7 h8 h2
  have h' := v15_eq h0
  pointwise [val_main_v45, val_main_v44, val_main_v43, val_main_v42, val_main_v41, val_main_v37, val_main_v36, val_main_v35, val_main_cst_5, val_main_cst_6, val_main_cst_7]
  simp only [h, h0, h', ← EReal.coe_mul, coe_sum, c1024, div_coe_coe (show (1024 : ℝ) ≠ 0 by norm_num), Finset.univ_unique, Finset.sum_singleton]
  rfl

theorem v49_eq (h0 : ∀ r l, x0 (ix2 r l) = ((X r l : ℝ) : EReal)) (h1 : ∀ l, x1 (ix1 l) = ((G l : ℝ) : EReal)) (h3 : ∀ r l, x3 (ix2 r l) = ((DH r l : ℝ) : EReal))
    (h4 : ∀ r l, x4 (ix2 r l) = ((Z r l : ℝ) : EReal)) (h5 : ∀ r l, x5 (ix2 r l) = ((B r l : ℝ) : EReal))
    (h6 : ∀ r l, x6 (ix2 r l) = ((T r l : ℝ) : EReal)) (h7 : ∀ r l, x7 (ix2 r l) = ((V r l : ℝ) : EReal)) (h8 : ∀ r l, x8 (ix2 r l) = ((C r l : ℝ) : EReal))
    (h2 : ∀ l f, x2 (ix2 l f) = ((W l f : ℝ) : EReal)) (r : Fin 4096) (l : Fin 1024) :
    val_main_v49 (F := Ideal) x0 x1 x2 x3 x4 x5 x6 x7 x8 (ix2 r l) = ((dx Z V C B T W X DH G r l : ℝ) : EReal) := by
  have h := v33_eq h0 h1 h3 h4 h5 h6 h7 h8 h2
  have h' := v12_eq h0
  have hc := v45_eq h0 h1 h3 h4 h5 h6 h7 h8 h2
  pointwise [val_main_v49, val_main_v48, val_main_v47, val_main_v46, val_main_v40, val_main_v39, val_main_v38]
  simp only [h, h0, h3, h', hc, ← EReal.coe_mul, ← EReal.coe_add]
  unfold dx
  rw [← rmsBwd_eq]
  exact congrArg _ (by ring)

end Cert.InpRefIdeal.Val

end
-- ==== Proof.InpKer.lean ====
/- The kernel of the input projection's gradient: what each grid point leaves in its output blocks and in the assembled weight. -/
module

public import proofs.«01_k».proof.Proof.Rms
public import proofs.«01_k».proof.Proof.InpRef
public import proofs.«01_k».proof.Proof.Gen.InpIdeal.Value

@[expose] public section

set_option maxRecDepth 16384

noncomputable section

namespace Cert.InpIdeal.Out

open Cert.InpIdeal Cert.InpIdeal.Gen Cert.Reals Cert.Inp Idealize.ShloMosaic Idealize.ShloMosaic.TcCoe

section Cases

variable {F : FTy → Type} [FloatOps F]

theorem hz : (![0, 0] : Fin 2 → Nat) = fun _ => 0 := funext fun a => by fin_cases a <;> rfl

/-- The product of the five cotangents with the rows of the assembled weight. -/
def duk (x0 : Vec F S512x1024 .bf16) (x1 : Vec F S512x1536 .bf16) (x2 x3 : Vec F S512x1024 .bf16) (x4 : Vec F S512x128 .bf16) (w : Vec F S4624x1024 .bf16) :
    FVec F S512x1024 .f32 :=
  k0_pay10 x0 (View.ld w (Rect.unit (s := S4624x1024) ![0, 0] S1024x1024.size inb_S4624x1024_S1024x1024_0_0))
    x1 (View.ld w (Rect.unit (s := S4624x1024) ![1024, 0] S1536x1024.size inb_S4624x1024_S1536x1024_1024_0))
    x2 (View.ld w (Rect.unit (s := S4624x1024) ![2576, 0] S1024x1024.size inb_S4624x1024_S1024x1024_2576_0))
    x3 (View.ld w (Rect.unit (s := S4624x1024) ![3600, 0] S1024x1024.size inb_S4624x1024_S1024x1024_3600_0))
    x4 (View.ld w (Rect.unit (s := S4624x1024) ![2560, 0] S128x1024.size inb_S4624x1024_S128x1024_2560_0))

/-- The four slabs of the gathered weight, one below the other. -/
def asmL (x5 : Vec F S4x1184x1024 .bf16) : List (View.Piece (Elt F) S4624x1024 .bf16) :=
  [⟨Rect.unit ![3468, 0] S1156x1024.size inb_S4624x1024_S1156x1024_3468_0, k0_pay9 (View.ld x5 (Rect.unit ![3, 0, 0] S1x1156x1024.size inb_S4x1184x1024_S1x1156x1024_3_0_0))⟩,
    ⟨Rect.unit ![2312, 0] S1156x1024.size inb_S4624x1024_S1156x1024_2312_0, k0_pay8 (View.ld x5 (Rect.unit ![2, 0, 0] S1x1156x1024.size inb_S4x1184x1024_S1x1156x1024_2_0_0))⟩,
    ⟨Rect.unit ![1156, 0] S1156x1024.size inb_S4624x1024_S1156x1024_1156_0, k0_pay7 (View.ld x5 (Rect.unit ![1, 0, 0] S1x1156x1024.size inb_S4x1184x1024_S1x1156x1024_1_0_0))⟩,
    ⟨Rect.unit ![0, 0] S1156x1024.size inb_S4624x1024_S1156x1024_0_0, k0_pay6 (View.ld x5 (Rect.unit ![0, 0, 0] S1x1156x1024.size inb_S4x1184x1024_S1x1156x1024_0_0_0))⟩]

/-- The weight the first point assembles. -/
def asm (x5 : Vec F S4x1184x1024 .bf16) : Vec F S4624x1024 .bf16 := View.canon (asmL x5)

variable (c : Dev nD) (i : grid0.Coords) (arg1 : Memref sig .tc .vmem S512x1024 .bf16) (h1 : arg1.IsWhole) (arg2 : Memref sig .tc .vmem S512x1536 .bf16) (h2 : arg2.IsWhole) (arg3 : Memref sig .tc .vmem S512x1024 .bf16) (h3 : arg3.IsWhole) (arg4 : Memref sig .tc .vmem S512x1024 .bf16) (h4 : arg4.IsWhole) (arg5 : Memref sig .tc .vmem S512x128 .bf16) (h5 : arg5.IsWhole) (arg6 : Memref sig .tc .vmem S4x1184x1024 .bf16) (h6 : arg6.IsWhole) (arg7 : Memref sig .tc .vmem S512x1024 .f32) (h7 : arg7.IsWhole) (arg8 : Memref sig .tc .vmem S512x1024 .f32) (h8 : arg8.IsWhole) (arg9 : Memref sig .tc .vmem S1x1024 .f32) (h9 : arg9.IsWhole) (arg10 : Memref sig .tc .vmem S512x1024 .f32) (h10 : arg10.IsWhole) (arg11 : Memref sig .tc .vmem S1x1024 .f32) (h11 : arg11.IsWhole) (arg12 : Memref sig .tc .vmem S4624x1024 .bf16) (h12 : arg12.IsWhole)
  (x0 : Vec F S512x1024 .bf16) (x1 : Vec F S512x1536 .bf16) (x2 x3 : Vec F S512x1024 .bf16) (x4 : Vec F S512x128 .bf16) (x5 : Vec F S4x1184x1024 .bf16) (x6 x7 : Vec F S512x1024 .f32) (x8 xo : Vec F S1x1024 .f32) (xs : Vec F S4624x1024 .bf16)

theorem out_B_9 (hc0 : ¬cond0_0 i) : out0_B_9 c i arg1 h1 arg2 h2 arg3 h3 arg4 h4 arg5 h5 arg6 h6 arg7 h7 arg8 h8 arg9 h9 arg10 h10 arg11 h11 arg12 h12 hc0 x0 x1 x2 x3 x4 x5 x6 x7 x8 xo xs = k0_pay4 (duk x0 x1 x2 x3 x4 xs) x6 (k0_pay11 x8) (k0_pay12 x6) x7 := by
  unfold out0_B_9
  rw [View.read_writes_eq_canon _ _ _ (cover0_B_9 c i arg1 h1 arg2 h2 arg3 h3 arg4 h4 arg5 h5 arg6 h6 arg7 h7 arg8 h8 arg9 h9 arg10 h10 arg11 h11 arg12 h12 hc0 x0 x1 x2 x3 x4 x5 x6 x7 x8 xo xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, h12.read_unread,
    View.ld_unit_zero (S := S512x1024) hz, View.ld_unit_zero (S := S512x1536) hz, View.ld_unit_zero (S := S512x128) hz, View.ld_unit_zero (S := S1x1024) hz]
  rfl

theorem out_B_10 (hc0 : ¬cond0_0 i) : out0_B_10 c i arg1 h1 arg2 h2 arg3 h3 arg4 h4 arg5 h5 arg6 h6 arg7 h7 arg8 h8 arg9 h9 arg10 h10 arg11 h11 arg12 h12 hc0 x0 x1 x2 x3 x4 x5 x6 x7 x8 xo xs = k0_pay3 (duk x0 x1 x2 x3 x4 xs) x6 (k0_pay12 x6) xo := by
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 hc0 x0 x1 x2 x3 x4 x5 x6 x7 x8 xo xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, h12.read_unread,
    View.ld_unit_zero (S := S512x1024) hz, View.ld_unit_zero (S := S512x1536) hz, View.ld_unit_zero (S := S512x128) hz, View.ld_unit_zero (S := S1x1024) hz]
  rfl

theorem sout_A_0 (hc0 : cond0_0 i) : sout0_A_0 c i arg1 h1 arg2 h2 arg3 h3 arg4 h4 arg5 h5 arg6 h6 arg7 h7 arg8 h8 arg9 h9 arg10 h10 arg11 h11 arg12 h12 hc0 x0 x1 x2 x3 x4 x5 x6 x7 x8 = asm x5 := by
  unfold sout0_A_0
  rw [View.read_writes_eq_canon _ _ _ (scover0_A_0 c i arg1 h1 arg2 h2 arg3 h3 arg4 h4 arg5 h5 arg6 h6 arg7 h7 arg8 h8 arg9 h9 arg10 h10 arg11 h11 arg12 h12 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h11.read_unread, h12.read_unread,
    View.ld_unit_zero (S := S512x1024) hz, View.ld_unit_zero (S := S512x1536) hz, View.ld_unit_zero (S := S512x128) hz, View.ld_unit_zero (S := S1x1024) hz]
  rfl

theorem out_A_9 (hc0 : cond0_0 i) : out0_A_9 c i arg1 h1 arg2 h2 arg3 h3 arg4 h4 arg5 h5 arg6 h6 arg7 h7 arg8 h8 arg9 h9 arg10 h10 arg11 h11 arg12 h12 hc0 x0 x1 x2 x3 x4 x5 x6 x7 x8 = k0_pay4 (duk x0 x1 x2 x3 x4 (asm x5)) x6 (k0_pay11 x8) (k0_pay12 x6) x7 := by
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 hc0 x0 x1 x2 x3 x4 x5 x6 x7 x8)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h11.read_unread, h12.read_unread,
    View.ld_unit_zero (S := S512x1024) hz, View.ld_unit_zero (S := S512x1536) hz, View.ld_unit_zero (S := S512x128) hz, View.ld_unit_zero (S := S1x1024) hz]
  rfl

theorem out_A_10 (hc0 : cond0_0 i) : out0_A_10 c i arg1 h1 arg2 h2 arg3 h3 arg4 h4 arg5 h5 arg6 h6 arg7 h7 arg8 h8 arg9 h9 arg10 h10 arg11 h11 arg12 h12 hc0 x0 x1 x2 x3 x4 x5 x6 x7 x8 = k0_pay3 (duk x0 x1 x2 x3 x4 (asm x5)) x6 (k0_pay12 x6) k0_pay5 := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 hc0 x0 x1 x2 x3 x4 x5 x6 x7 x8)]
  unfold kernelRun0_A
  dsimp only
  sl_unfold_words
  rw [View.canon_cons_unit_zero (S := S1x1024) hz, View.readCov_unit_zero (S := S1x1024) _ hz]
  simp only [View.readCov_eq_canon', View.readAt_eq_ld, h1.read_unread, h2.read_unread, h3.read_unread, h4.read_unread, h5.read_unread, h6.read_unread, h7.read_unread, h8.read_unread, h9.read_unread, h11.read_unread, h12.read_unread,
    View.ld_unit_zero (S := S512x1024) hz, View.ld_unit_zero (S := S512x1536) hz, View.ld_unit_zero (S := S512x128) hz, View.ld_unit_zero (S := S1x1024) hz]
  rfl

end Cases

/-! ## The payloads on real numbers -/

section Real

variable {X DH Z V C A : Fin 512 → Fin 1024 → ℝ} {G : Fin 1024 → ℝ} {B : Fin 512 → Fin 1536 → ℝ} {T : Fin 512 → Fin 16 → ℝ} {W : Fin 1024 → Fin 4624 → ℝ}
variable {x0 x2 x3 : FVec Ideal S512x1024 .bf16} {x1 : FVec Ideal S512x1536 .bf16} {x4 : FVec Ideal S512x128 .bf16} {x5 : FVec Ideal S4x1184x1024 .bf16}
  {x6 x7 a : FVec Ideal S512x1024 .f32} {x8 : FVec Ideal S1x1024 .f32} {w : FVec Ideal S4624x1024 .bf16}

theorem pay10_eq {v4 v11 v15 : FVec Ideal S1024x1024 .bf16} {v7 : FVec Ideal S1536x1024 .bf16} {v20 : FVec Ideal S128x1024 .bf16}
    (h0 : ∀ r l, x0 (ix2 r l) = ((Z r l : ℝ) : EReal)) (h1 : ∀ r l, x1 (ix2 r l) = ((B r l : ℝ) : EReal))
    (h2 : ∀ r l, x2 (ix2 r l) = ((V r l : ℝ) : EReal)) (h3 : ∀ r l, x3 (ix2 r l) = ((C r l : ℝ) : EReal))
    (h4 : ∀ r (k : Fin 128), x4 (ix2 r k) = (((if h : k.1 < 16 then T r ⟨k.1, h⟩ else 0 : ℝ)) : EReal))
    (g4 : ∀ k l, v4 (ix2 k l) = ((W l ⟨k.1, by omega⟩ : ℝ) : EReal)) (g7 : ∀ k l, v7 (ix2 k l) = ((W l ⟨1024 + k.1, by omega⟩ : ℝ) : EReal))
    (g11 : ∀ k l, v11 (ix2 k l) = ((W l ⟨2576 + k.1, by omega⟩ : ℝ) : EReal)) (g15 : ∀ k l, v15 (ix2 k l) = ((W l ⟨3600 + k.1, by omega⟩ : ℝ) : EReal))
    (g20 : ∀ k l, v20 (ix2 k l) = ((W l ⟨2560 + k.1, by omega⟩ : ℝ) : EReal)) (r : Fin 512) (l : Fin 1024) :
    k0_pay10 (F := Ideal) x0 v4 x1 v7 x2 v11 x3 v15 x4 v20 (ix2 r l) = ((du Z V C B T W r l : ℝ) : EReal) := by
  pointwise [k0_pay10]
  simp only [h0, h1, h2, h3, h4, g4, g7, g11, g15, g20, ← EReal.coe_mul, coe_sum, ← EReal.coe_add]
  refine congrArg _ ?_
  unfold du
  rw [sum_lanes (T r) fun k : Fin 128 => W l ⟨2560 + k.1, by omega⟩]

/-- Rows of the assembled weight, from a given one on. -/
theorem ld_rows {n : ℕ} (hw : ∀ q l, w (ix2 q l) = ((W l q : ℝ) : EReal)) (off : ℕ) (inb) (k : Fin n) (l : Fin 1024) (hk : off + k.1 < 4624) :
    View.ld (Val := Elt Ideal) (e' := .bf16) w (Rect.unit (s := S4624x1024) ![off, 0] (⟨2, ![n, 1024]⟩ : Shape).size inb) (ix2 k l) = ((W l ⟨off + k.1, hk⟩ : ℝ) : EReal) := by
  refine Eq.trans (congrArg w (funext fun a => Fin.ext ?_)) (hw ⟨off + k.1, hk⟩ l)
  match a with
  | ⟨0, _⟩ => show off + 1 * k.1 = off + k.1; omega
  | ⟨1, _⟩ => show 0 + 1 * l.1 = l.1; omega

theorem duk_eq (h0 : ∀ r l, x0 (ix2 r l) = ((Z r l : ℝ) : EReal)) (h1 : ∀ r l, x1 (ix2 r l) = ((B r l : ℝ) : EReal))
    (h2 : ∀ r l, x2 (ix2 r l) = ((V r l : ℝ) : EReal)) (h3 : ∀ r l, x3 (ix2 r l) = ((C r l : ℝ) : EReal))
    (h4 : ∀ r (k : Fin 128), x4 (ix2 r k) = (((if h : k.1 < 16 then T r ⟨k.1, h⟩ else 0 : ℝ)) : EReal))
    (hw : ∀ q l, w (ix2 q l) = ((W l q : ℝ) : EReal)) (r : Fin 512) (l : Fin 1024) :
    duk (F := Ideal) x0 x1 x2 x3 x4 w (ix2 r l) = ((du Z V C B T W r l : ℝ) : EReal) := by
  unfold duk
  exact pay10_eq h0 h1 h2 h3 h4
    (fun k l => (ld_rows hw 0 inb_S4624x1024_S1024x1024_0_0 k l (by omega)).trans (congrArg (fun q => ((W l q : ℝ) : EReal)) (Fin.ext (Nat.zero_add _))))
    (fun k l => ld_rows hw 1024 inb_S4624x1024_S1536x1024_1024_0 k l (by omega)) (fun k l => ld_rows hw 2576 inb_S4624x1024_S1024x1024_2576_0 k l (by omega))
    (fun k l => ld_rows hw 3600 inb_S4624x1024_S1024x1024_3600_0 k l (by omega)) (fun k l => ld_rows hw 2560 inb_S4624x1024_S128x1024_2560_0 k l (by omega)) r l

/-- One slab of the assembled weight. -/
theorem slab (h5 : ∀ (p : Fin 4) (q : Fin 1184) l (hq : q.1 < 1156), x5 (ix3 p q l) = ((W l ⟨1156 * p.1 + q.1, by omega⟩ : ℝ) : EReal))
    (p : ℕ) (hp : p < 4) (inb) (x : S1156x1024.Idx) :
    k0_pay6 (F := Ideal) (View.ld (Val := Elt Ideal) (e' := .bf16) x5 (Rect.unit (s := S4x1184x1024) ![p, 0, 0] S1x1156x1024.size inb)) x
      = ((W (x 1) ⟨1156 * p + (x 0).1, by have : (x 0).1 < 1156 := (x 0).2; omega⟩ : ℝ) : EReal) := by
  obtain ⟨q, l, rfl⟩ : ∃ (q : Fin 1156) (l : Fin 1024), x = ix2 q l := ⟨_, _, eq_ix2 (n0 := 1156) (n1 := 1024) x⟩
  have e : ∀ v : FVec Ideal S1x1156x1024 .bf16, k0_pay6 (F := Ideal) v (ix2 q l) = v (ix3 0 q l) := fun v => by pointwise [k0_pay6]
  refine (e _).trans (Eq.trans (congrArg x5 (funext fun a => Fin.ext ?_)) (h5 ⟨p, hp⟩ ⟨q.1, by omega⟩ l q.2))
  match a with
  | ⟨0, _⟩ => show p + 1 * 0 = p; omega
  | ⟨1, _⟩ => show 0 + 1 * q.1 = q.1; omega
  | ⟨2, _⟩ => show 0 + 1 * l.1 = l.1; omega

theorem asm_eq (h5 : ∀ (p : Fin 4) (q : Fin 1184) l (hq : q.1 < 1156), x5 (ix3 p q l) = ((W l ⟨1156 * p.1 + q.1, by omega⟩ : ℝ) : EReal))
    (q : Fin 4624) (l : Fin 1024) : asm (F := Ideal) x5 (ix2 q l) = ((W l q : ℝ) : EReal) := by
  unfold asm
  refine View.canon_apply_of_pieces (Val := Elt Ideal) (fun y : S4624x1024.Idx => ((W (y 1) (y 0) : ℝ) : EReal)) (asmL (F := Ideal) x5) ?_ (ix2 q l)
    (View.cover_of_tiledL (asmL (F := Ideal) x5) S1156x1024.size (by sl_kernel_rfl) (ix2 q l))
  intro p hp
  unfold asmL at hp
  simp only [List.mem_cons, List.not_mem_nil, or_false] at hp
  have at' : ∀ (off : ℕ) (x : S1156x1024.Idx) (y : S4624x1024.Idx) (h : off + (x 0).1 < 4624), (y 0).1 = off + 1 * (x 0).1 → (y 1).1 = 0 + 1 * (x 1).1 →
      ((W (x 1) ⟨off + (x 0).1, h⟩ : ℝ) : EReal) = ((W (y 1) (y 0) : ℝ) : EReal) := fun off x y h e0 e1 =>
    congrArg₂ (fun p q => ((W p q : ℝ) : EReal)) (Fin.ext (by rw [e1]; omega)) (Fin.ext (by rw [e0]; dsimp only; omega))
  rcases hp with rfl | rfl | rfl | rfl
  · exact fun x => (slab h5 3 (by omega) _ x).trans (at' 3468 x _ _ rfl rfl)
  · exact fun x => (slab h5 2 (by omega) _ x).trans (at' 2312 x _ _ rfl rfl)
  · exact fun x => (slab h5 1 (by omega) _ x).trans (at' 1156 x _ _ rfl rfl)
  · exact fun x => (slab h5 0 (by omega) _ x).trans (at' 0 x _ _ rfl rfl)

theorem pay12_eq (h6 : ∀ r l, x6 (ix2 r l) = ((X r l : ℝ) : EReal)) (r : Fin 512) (l : Fin 1024) :
    k0_pay12 (F := Ideal) x6 (ix2 r l) = ((X r l * X r l : ℝ) : EReal) := by
  pointwise [k0_pay12]
  rw [h6, ← EReal.coe_mul]

theorem pay1_eq (h6 : ∀ r l, x6 (ix2 r l) = ((X r l : ℝ) : EReal)) (r : Fin 512) (z : Fin 1) :
    k0_pay1 (F := Ideal) (k0_pay12 x6) (ix2 r z) = ((rs (X r) : ℝ) : EReal) := by
  have h := pay12_eq h6
  generalize k0_pay12 (F := Ideal) x6 = q at h ⊢
  pointwise [k0_pay1]
  simp only [h, coe_sum, c1024, cEps, div_coe_coe (show (1024 : ℝ) ≠ 0 by norm_num), ← EReal.coe_add]
  exact rsqrt_pos (msq_eps_pos _)

theorem pay2_eq (h6 : ∀ r l, x6 (ix2 r l) = ((X r l : ℝ) : EReal)) (r : Fin 512) (l : Fin 1024) :
    k0_pay2 (F := Ideal) x6 (k0_pay12 x6) (ix2 r l) = ((nrm (X r) l : ℝ) : EReal) := by
  have h := pay1_eq h6
  generalize hq : k0_pay1 (F := Ideal) (k0_pay12 x6) = q at h
  unfold k0_pay2
  rw [hq]
  pointwise []
  simp only [h, h6, ← EReal.coe_mul]
  rfl

theorem pay3_eq (ha : ∀ r l, a (ix2 r l) = ((A r l : ℝ) : EReal)) (h6 : ∀ r l, x6 (ix2 r l) = ((X r l : ℝ) : EReal)) (xo : FVec Ideal S1x1024 .f32)
    (z : Fin 1) (l : Fin 1024) :
    k0_pay3 (F := Ideal) a x6 (k0_pay12 x6) xo (ix2 z l) = xo (ix2 z l) + ((∑ r, A r l * nrm (X r) l : ℝ) : EReal) := by
  have h := pay2_eq h6
  generalize hq : k0_pay2 (F := Ideal) x6 (k0_pay12 x6) = q at h
  unfold k0_pay3
  rw [hq]
  pointwise []
  simp only [h, ha, coe_sum, ← EReal.coe_mul]

theorem pay4_eq (ha : ∀ r l, a (ix2 r l) = ((A r l : ℝ) : EReal)) (h6 : ∀ r l, x6 (ix2 r l) = ((X r l : ℝ) : EReal))
    (h8 : ∀ z l, x8 (ix2 z l) = ((G l : ℝ) : EReal)) (h7 : ∀ r l, x7 (ix2 r l) = ((DH r l : ℝ) : EReal)) (r : Fin 512) (l : Fin 1024) :
    k0_pay4 (F := Ideal) a x6 (k0_pay11 x8) (k0_pay12 x6) x7 (ix2 r l) = ((DH r l + rmsBwd (X r) (fun k => A r k * G k) l : ℝ) : EReal) := by
  have h := pay2_eq h6
  have h' := pay1_eq h6
  generalize hq : k0_pay2 (F := Ideal) x6 (k0_pay12 x6) = q at h
  generalize hp : k0_pay1 (F := Ideal) (k0_pay12 x6) = p at h'
  unfold k0_pay4
  rw [hq, hp]
  pointwise [k0_pay11]
  simp only [h, h', ha, h7, h8, coe_sum, c1024, div_coe_coe (show (1024 : ℝ) ≠ 0 by norm_num), ← EReal.coe_mul, ← EReal.coe_sub, ← EReal.coe_add]
  exact congrArg (fun s : ℝ => ((DH r l + rs (X r) * (A r l * G l - nrm (X r) l * (s / 1024)) : ℝ) : EReal)) rfl

end Real

end Cert.InpIdeal.Out

end
-- ==== Proof.InpVal.lean ====
/- The kernel of the input projection's gradient: its blocks, element by element, on finite arguments. -/
module

public import proofs.«01_k».proof.Proof.InpKer

@[expose] public section

set_option maxRecDepth 16384

noncomputable section

namespace Cert.InpIdeal.Out

open Cert.InpIdeal Cert.InpIdeal.Gen Cert.Reals Cert.Inp Idealize.ShloMosaic Idealize.ShloMosaic.TcCoe Idealize.SL.Sem

variable (m : (ℓ : Loc nD τ sig) → Buf (Elt Ideal) ℓ) (c : Dev nD)

/-- The step sizes' cotangent in 128 lanes. -/
abbrev hT (x : FVec Ideal S4096x16 .bf16) : FVec Ideal S4096x128 .bf16 :=
  pad S4096x128 ![0, 0] ![0, 112] ![0, 0] x (sitofp (F := Ideal) .bf16 (constantI S_ 32 0#32)) pads_S4096x16_S4096x128_000_01120 h_S_

/-- The four slabs of the gathered weight. -/
abbrev hW (w : FVec Ideal S1024x4624 .f32) : FVec Ideal S4x1184x1024 .bf16 :=
  pad S4x1184x1024 ![0, 0, 0] ![0, 28, 0] ![0, 0, 0]
    (shapeCast S4x1156x1024 (truncf .bf16 (transpose S4624x1024 [1, 0] w transposes_S1024x4624_S4624x1024_1_0) bitsLt_bf16_f32) shapeCasts_S4624x1024_S4x1156x1024)
    (sitofp (F := Ideal) .bf16 (constantI S_ 32 0#32)) pads_S4x1156x1024_S4x1184x1024_000_0280_000 h_S_

theorem V0 : V m c main_v0 = hT (m ((c : Thread nD τ).loc main_arg6)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem V4 : V m c main_v4 = hW (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

theorem V5 : V m c main_v5 = shapeCast S1x1024 (m ((c : Thread nD τ).loc main_arg1) : FVec Ideal S1024 .f32) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp <;> rfl

section Host

variable {T : Fin 4096 → Fin 16 → ℝ} {W : Fin 1024 → Fin 4624 → ℝ} {x : FVec Ideal S4096x16 .bf16} {w : FVec Ideal S1024x4624 .f32}

theorem hT_eq (h : ∀ r k, x (ix2 r k) = ((T r k : ℝ) : EReal)) (r : Fin 4096) (k : Fin 128) :
    hT x (ix2 r k) = (((if h : k.1 < 16 then T r ⟨k.1, h⟩ else 0 : ℝ)) : EReal) := by
  unfold hT
  pointwise
  split
  · exact h _ _
  · show (((0#32 : BitVec 32).toInt : ℝ) : EReal) = _
    norm_num

theorem hW_eq (h : ∀ l q, w (ix2 l q) = ((W l q : ℝ) : EReal)) (p : Fin 4) (q : Fin 1184) (l : Fin 1024) (hq : q.1 < 1156) :
    hW w (ix3 p q l) = ((W l ⟨1156 * p.1 + q.1, by omega⟩ : ℝ) : EReal) := by
  unfold hW
  pointwise
  rw [dif_pos (by omega)]
  refine Eq.trans (congrArg w (funext fun a => Fin.ext ?_)) (h l ⟨1156 * p.1 + q.1, by omega⟩)
  match a with
  | ⟨0, _⟩ => first | rfl | (dsimp; omega)
  | ⟨1, _⟩ => first | rfl | (dsimp; omega)

end Host

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx9 : ∀ t : Fin grid0.N, win0_9.index t 0 = t.val ∧ win0_9.index t 1 = 0 := by decide +kernel
theorem idx5 : ∀ t : Fin grid0.N, win0_5.index t 0 = 0 ∧ win0_5.index t 1 = 0 ∧ win0_5.index t 2 = 0 := by decide +kernel
theorem idx8 : ∀ t : Fin grid0.N, win0_8.index t 0 = 0 ∧ win0_8.index t 1 = 0 := by decide +kernel
theorem idx10 : ∀ t : Fin grid0.N, win0_10.index t 0 = 0 ∧ win0_10.index t 1 = 0 := by decide +kernel

theorem lt8 (t : Fin cfg0.N) : t.val < 8 := lt_of_lt_of_eq t.isLt N_0

/-- Row `r` of a point's block of rows. -/
def rowOf (t : Fin cfg0.N) (r : Fin 512) : Fin 4096 := ⟨512 * t.val + r.val, by have := lt8 t; omega⟩

theorem blk0 (t : Fin cfg0.N) (r : Fin 512) (l : Fin 1024) :
    (iblk m c 0 t : Vec Ideal S512x1024 .bf16) (ix2 r l) = m ((c : Thread nD τ).loc main_arg4) (ix2 (rowOf t r) l) := by
  unfold iblk
  rw [View.read_apply]
  show V m c main_arg4 _ = _
  rw [V_main_arg4]
  refine congrArg _ (funext fun a => Fin.ext ?_)
  match a with
  | ⟨0, _⟩ => show win0_0.index t 0 * 512 + 1 * r.val = 512 * t.val + r.val; rw [(idx0 t).1]; omega
  | ⟨1, _⟩ => show win0_0.index t 1 * 1024 + 1 * l.val = l.val; rw [(idx0 t).2]; omega

theorem blk1 (t : Fin cfg0.N) (r : Fin 512) (l : Fin 1536) :
    (iblk m c 1 t : Vec Ideal S512x1536 .bf16) (ix2 r l) = m ((c : Thread nD τ).loc main_arg5) (ix2 (rowOf t r) l) := by
  unfold iblk
  rw [View.read_apply]
  show V m c main_arg5 _ = _
  rw [V_main_arg5]
  refine congrArg _ (funext fun a => Fin.ext ?_)
  match a with
  | ⟨0, _⟩ => show win0_1.index t 0 * 512 + 1 * r.val = 512 * t.val + r.val; rw [(idx1 t).1]; omega
  | ⟨1, _⟩ => show win0_1.index t 1 * 1536 + 1 * l.val = l.val; rw [(idx1 t).2]; omega

theorem blk2 (t : Fin cfg0.N) (r : Fin 512) (l : Fin 1024) :
    (iblk m c 2 t : Vec Ideal S512x1024 .bf16) (ix2 r l) = m ((c : Thread nD τ).loc main_arg7) (ix2 (rowOf t r) l) := by
  unfold iblk
  rw [View.read_apply]
  show V m c main_arg7 _ = _
  rw [V_main_arg7]
  refine congrArg _ (funext fun a => Fin.ext ?_)
  match a with
  | ⟨0, _⟩ => show win0_2.index t 0 * 512 + 1 * r.val = 512 * t.val + r.val; rw [(idx2 t).1]; omega
  | ⟨1, _⟩ => show win0_2.index t 1 * 1024 + 1 * l.val = l.val; rw [(idx2 t).2]; omega

theorem blk3 (t : Fin cfg0.N) (r : Fin 512) (l : Fin 1024) :
    (iblk m c 3 t : Vec Ideal S512x1024 .bf16) (ix2 r l) = m ((c : Thread nD τ).loc main_arg8) (ix2 (rowOf t r) l) := by
  unfold iblk
  rw [View.read_apply]
  show V m c main_arg8 _ = _
  rw [V_main_arg8]
  refine congrArg _ (funext fun a => Fin.ext ?_)
  match a with
  | ⟨0, _⟩ => show win0_3.index t 0 * 512 + 1 * r.val = 512 * t.val + r.val; rw [(idx3 t).1]; omega
  | ⟨1, _⟩ => show win0_3.index t 1 * 1024 + 1 * l.val = l.val; rw [(idx3 t).2]; omega

theorem blk6 (t : Fin cfg0.N) (r : Fin 512) (l : Fin 1024) :
    (iblk m c 6 t : Vec Ideal S512x1024 .f32) (ix2 r l) = m ((c : Thread nD τ).loc main_arg0) (ix2 (rowOf t r) l) := by
  unfold iblk
  rw [View.read_apply]
  show V m c main_arg0 _ = _
  rw [V_main_arg0]
  refine congrArg _ (funext fun a => Fin.ext ?_)
  match a with
  | ⟨0, _⟩ => show win0_6.index t 0 * 512 + 1 * r.val = 512 * t.val + r.val; rw [(idx6 t).1]; omega
  | ⟨1, _⟩ => show win0_6.index t 1 * 1024 + 1 * l.val = l.val; rw [(idx6 t).2]; omega

theorem blk7 (t : Fin cfg0.N) (r : Fin 512) (l : Fin 1024) :
    (iblk m c 7 t : Vec Ideal S512x1024 .f32) (ix2 r l) = m ((c : Thread nD τ).loc main_arg3) (ix2 (rowOf t r) l) := by
  unfold iblk
  rw [View.read_apply]
  show V m c main_arg3 _ = _
  rw [V_main_arg3]
  refine congrArg _ (funext fun a => Fin.ext ?_)
  match a with
  | ⟨0, _⟩ => show win0_7.index t 0 * 512 + 1 * r.val = 512 * t.val + r.val; rw [(idx7 t).1]; omega
  | ⟨1, _⟩ => show win0_7.index t 1 * 1024 + 1 * l.val = l.val; rw [(idx7 t).2]; omega

theorem blk4 (t : Fin cfg0.N) (r : Fin 512) (l : Fin 128) :
    (iblk m c 4 t : Vec Ideal S512x128 .bf16) (ix2 r l) = hT (m ((c : Thread nD τ).loc main_arg6)) (ix2 (rowOf t r) l) := by
  unfold iblk
  rw [View.read_apply]
  show V m c main_v0 _ = _
  rw [V0]
  refine congrArg _ (funext fun a => Fin.ext ?_)
  match a with
  | ⟨0, _⟩ => show win0_4.index t 0 * 512 + 1 * r.val = 512 * t.val + r.val; rw [(idx4 t).1]; omega
  | ⟨1, _⟩ => show win0_4.index t 1 * 128 + 1 * l.val = l.val; rw [(idx4 t).2]; omega

theorem blk5 (t : Fin cfg0.N) (p : Fin 4) (q : Fin 1184) (l : Fin 1024) :
    (iblk m c 5 t : Vec Ideal S4x1184x1024 .bf16) (ix3 p q l) = hW (m ((c : Thread nD τ).loc main_arg2)) (ix3 p q l) := by
  unfold iblk
  rw [View.read_apply]
  show V m c main_v4 _ = _
  rw [V4]
  refine congrArg _ (funext fun a => Fin.ext ?_)
  match a with
  | ⟨0, _⟩ => show win0_5.index t 0 * 4 + 1 * p.val = p.val; rw [(idx5 t).1]; omega
  | ⟨1, _⟩ => show win0_5.index t 1 * 1184 + 1 * q.val = q.val; rw [(idx5 t).2.1]; omega
  | ⟨2, _⟩ => show win0_5.index t 2 * 1024 + 1 * l.val = l.val; rw [(idx5 t).2.2]; omega

theorem blk8 (t : Fin cfg0.N) (z : Fin 1) (l : Fin 1024) :
    (iblk m c 8 t : Vec Ideal S1x1024 .f32) (ix2 z l) = m ((c : Thread nD τ).loc main_arg1) (ix1 l) := by
  unfold iblk
  rw [View.read_apply]
  show V m c main_v5 _ = _
  rw [V5]
  have : ∀ y : S1x1024.Idx, y = ix2 z l → shapeCast S1x1024 (m ((c : Thread nD τ).loc main_arg1) : FVec Ideal S1024 .f32) shapeCasts_S1024_S1x1024 y
      = m ((c : Thread nD τ).loc main_arg1) (ix1 l) := by
    rintro _ rfl
    pointwise []
  refine this _ (funext fun a => Fin.ext ?_)
  match a with
  | ⟨0, _⟩ => show win0_8.index t 0 * 1 + 1 * z.val = z.val; rw [(idx8 t).1]; omega
  | ⟨1, _⟩ => show win0_8.index t 1 * 1024 + 1 * l.val = l.val; rw [(idx8 t).2]; omega

/-! ## The arguments as real numbers -/

variable {X DH Z V C : Fin 4096 → Fin 1024 → ℝ} {G : Fin 1024 → ℝ} {B : Fin 4096 → Fin 1536 → ℝ} {T : Fin 4096 → Fin 16 → ℝ} {W : Fin 1024 → Fin 4624 → ℝ}

/-- The launched memory holds these real numbers. -/
structure Args (X DH Z V C : Fin 4096 → Fin 1024 → ℝ) (G : Fin 1024 → ℝ) (B : Fin 4096 → Fin 1536 → ℝ) (T : Fin 4096 → Fin 16 → ℝ) (W : Fin 1024 → Fin 4624 → ℝ) : Prop where
  a0 : ∀ r l, (m ((c : Thread nD τ).loc main_arg0) : FVec Ideal S4096x1024 .f32) (ix2 r l) = ((X r l : ℝ) : EReal)
  a1 : ∀ l, (m ((c : Thread nD τ).loc main_arg1) : FVec Ideal S1024 .f32) (ix1 l) = ((G l : ℝ) : EReal)
  a2 : ∀ l q, (m ((c : Thread nD τ).loc main_arg2) : FVec Ideal S1024x4624 .f32) (ix2 l q) = ((W l q : ℝ) : EReal)
  a3 : ∀ r l, (m ((c : Thread nD τ).loc main_arg3) : FVec Ideal S4096x1024 .f32) (ix2 r l) = ((DH r l : ℝ) : EReal)
  a4 : ∀ r l, (m ((c : Thread nD τ).loc main_arg4) : FVec Ideal S4096x1024 .bf16) (ix2 r l) = ((Z r l : ℝ) : EReal)
  a5 : ∀ r l, (m ((c : Thread nD τ).loc main_arg5) : FVec Ideal S4096x1536 .bf16) (ix2 r l) = ((B r l : ℝ) : EReal)
  a6 : ∀ r l, (m ((c : Thread nD τ).loc main_arg6) : FVec Ideal S4096x16 .bf16) (ix2 r l) = ((T r l : ℝ) : EReal)
  a7 : ∀ r l, (m ((c : Thread nD τ).loc main_arg7) : FVec Ideal S4096x1024 .bf16) (ix2 r l) = ((V r l : ℝ) : EReal)
  a8 : ∀ r l, (m ((c : Thread nD τ).loc main_arg8) : FVec Ideal S4096x1024 .bf16) (ix2 r l) = ((C r l : ℝ) : EReal)

variable (A : Args m c X DH Z V C G B T W)

/-- A function of the rows, continued by zero past the last. -/
def ext (f : Fin 4096 → ℝ) (n : ℕ) : ℝ := if h : n < 4096 then f ⟨n, h⟩ else 0

theorem sum_ext (f : Fin 4096 → ℝ) : ∑ n ∈ Finset.range 4096, ext f n = ∑ r, f r := by
  rw [Finset.sum_range]
  exact Finset.sum_congr rfl fun r _ => dif_pos r.isLt

theorem sum_row (f : Fin 4096 → ℝ) (t : Fin cfg0.N) : ∑ r : Fin 512, f (rowOf t r) = ∑ n ∈ Finset.range 512, ext f (512 * t.val + n) := by
  rw [Finset.sum_range]
  refine Finset.sum_congr rfl fun r _ => ?_
  have h : 512 * t.val + r.val < 4096 := (rowOf t r).isLt
  unfold ext
  rw [dif_pos h]
  rfl

include A

theorem asm_blk (t : Fin cfg0.N) (q : Fin 4624) (l : Fin 1024) : asm (F := Ideal) (iblk m c 5 t) (ix2 q l) = ((W l q : ℝ) : EReal) :=
  asm_eq (x5 := iblk m c 5 t) (fun p q l hq => (blk5 m c t p q l).trans (hW_eq A.a2 p q l hq)) q l

/-- After every point the scratch holds the transposed weight. -/
theorem weight : ∀ (n : ℕ) (h : n < cfg0.N) (q : Fin 4624) (l : Fin 1024), (outsAt0 m c n h).2.2 (ix2 q l) = ((W l q : ℝ) : EReal)
  | 0, h, q, l => by
    rw [outsAt0_A m c ⟨0, h⟩ rfl]
    dsimp only
    rw [sout_A_0]
    exact asm_blk m c A ⟨0, h⟩ q l
  | n + 1, h, q, l => by
    have hN := lt8 ⟨n + 1, h⟩
    rw [outsAt0_B m c ⟨n + 1, h⟩ (by dsimp only at hN ⊢; omega)]
    exact weight n (Nat.lt_of_succ_lt h) q l

theorem du_blk (t : Fin cfg0.N) (w : FVec Ideal S4624x1024 .bf16) (hw : ∀ q l, w (ix2 q l) = ((W l q : ℝ) : EReal)) (r : Fin 512) (l : Fin 1024) :
    duk (F := Ideal) (iblk m c 0 t) (iblk m c 1 t) (iblk m c 2 t) (iblk m c 3 t) (iblk m c 4 t) w (ix2 r l) = ((du Z V C B T W (rowOf t r) l : ℝ) : EReal) :=
  duk_eq (x0 := iblk m c 0 t) (x1 := iblk m c 1 t) (x2 := iblk m c 2 t) (x3 := iblk m c 3 t) (x4 := iblk m c 4 t)
    (Z := fun r => Z (rowOf t r)) (V := fun r => V (rowOf t r)) (C := fun r => C (rowOf t r)) (B := fun r => B (rowOf t r)) (T := fun r => T (rowOf t r))
    (fun r l => (blk0 m c t r l).trans (A.a4 _ _)) (fun r l => (blk1 m c t r l).trans (A.a5 _ _)) (fun r l => (blk2 m c t r l).trans (A.a7 _ _))
    (fun r l => (blk3 m c t r l).trans (A.a8 _ _)) (fun r k => (blk4 m c t r k).trans (hT_eq A.a6 _ _)) hw r l

theorem out9 (t : Fin cfg0.N) (r : Fin 512) (l : Fin 1024) :
    (outsAt0 m c t.val t.isLt).1 (ix2 r l) = ((dx Z V C B T W X DH G (rowOf t r) l : ℝ) : EReal) := by
  have key := fun w hw => pay4_eq (A := fun r l => du Z V C B T W (rowOf t r) l) (X := fun r => X (rowOf t r)) (DH := fun r => DH (rowOf t r)) (x6 := iblk m c 6 t)
    (x7 := iblk m c 7 t) (x8 := iblk m c 8 t) (du_blk m c A t w hw)
    (fun r l => (blk6 m c t r l).trans (A.a0 _ _)) (fun z l => (blk8 m c t z l).trans (A.a1 _)) (fun r l => (blk7 m c t r l).trans (A.a3 _ _)) r l
  by_cases h : t.val % 8 = 0
  · rw [outsAt0_A m c t h]; dsimp only; rw [out_A_9]; exact key _ (asm_blk m c A t)
  · rw [outsAt0_B m c t h]; dsimp only; rw [out_B_9]; exact key _ (weight m c A _ _)

/-- What a point adds to the gradient of the norm's weight. -/
theorem step (t : Fin cfg0.N) (w : FVec Ideal S4624x1024 .bf16) (hw : ∀ q l, w (ix2 q l) = ((W l q : ℝ) : EReal)) (xo : FVec Ideal S1x1024 .f32) (z : Fin 1) (l : Fin 1024) :
    k0_pay3 (F := Ideal) (duk (F := Ideal) (iblk m c 0 t) (iblk m c 1 t) (iblk m c 2 t) (iblk m c 3 t) (iblk m c 4 t) w) (iblk m c 6 t) (k0_pay12 (iblk m c 6 t)) xo (ix2 z l)
      = xo (ix2 z l) + ((∑ n ∈ Finset.range 512, ext (fun r => du Z V C B T W r l * nrm (X r) l) (512 * t.val + n) : ℝ) : EReal) := by
  refine (pay3_eq (A := fun r l => du Z V C B T W (rowOf t r) l) (X := fun r => X (rowOf t r)) (x6 := iblk m c 6 t) (du_blk m c A t w hw)
    (fun r l => (blk6 m c t r l).trans (A.a0 _ _)) xo z l).trans ?_
  rw [← sum_row (fun r => du Z V C B T W r l * nrm (X r) l) t]

theorem gain (z : Fin 1) (l : Fin 1024) : ∀ (n : ℕ) (h : n < cfg0.N),
    (outsAt0 m c n h).2.1 (ix2 z l) = ((∑ k ∈ Finset.range (512 * (n + 1)), ext (fun r => du Z V C B T W r l * nrm (X r) l) k : ℝ) : EReal) := by
  intro n
  induction n with
  | zero =>
    intro h
    have h5 : k0_pay5 (F := Ideal) (ix2 z l) = 0 := by pointwise [k0_pay5]
    rw [outsAt0_A m c ⟨0, h⟩ rfl]
    dsimp only
    rw [out_A_10]
    refine (step m c A ⟨0, h⟩ _ (asm_blk m c A ⟨0, h⟩) _ z l).trans ?_
    rw [h5, zero_add]
    simp
  | succ n ih =>
    intro h
    have hN := lt8 ⟨n + 1, h⟩
    have i := ih (Nat.lt_of_succ_lt h)
    rw [outsAt0_B m c ⟨n + 1, h⟩ (by dsimp only at hN ⊢; omega)]
    dsimp only
    rw [out_B_10]
    refine (step m c A ⟨n + 1, h⟩ _ (weight m c A _ _) _ z l).trans ?_
    refine (congrArg (· + _) i).trans ?_
    rw [← EReal.coe_add, show 512 * (n + 1 + 1) = 512 * (n + 1) + 512 by ring, Finset.sum_range_add]

end Cert.InpIdeal.Out

end
-- ==== Proof.InpFin.lean ====
/- The kernel of the input projection's gradient: its two result arrays after the run. -/
module

public import proofs.«01_k».proof.Proof.InpVal

@[expose] public section

set_option maxRecDepth 16384

noncomputable section

namespace Cert.InpIdeal.Out

open Cert.InpIdeal Cert.InpIdeal.Gen Cert.Reals Cert.Inp Idealize.ShloMosaic Idealize.ShloMosaic.TcCoe Idealize.SL.Sem

variable (m : (ℓ : Loc nD τ sig) → Buf (Elt Ideal) ℓ) (c : Dev nD)
variable {X DH Z V C : Fin 4096 → Fin 1024 → ℝ} {G : Fin 1024 → ℝ} {B : Fin 4096 → Fin 1536 → ℝ} {T : Fin 4096 → Fin 16 → ℝ} {W : Fin 1024 → Fin 4624 → ℝ} (A : Args m c X DH Z V C G B T W)

/-- The grid point that computes row `R`. -/
def ptR (R : Fin 4096) : Fin cfg0.N := ⟨R.val / 512, by rw [show cfg0.N = 8 from N_0]; omega⟩

include A in
theorem gx_final : (dats m 0 c).arrAt 9 cfg0.N = (fun i => ((dx Z V C B T W X DH G (i 0) (i 1) : ℝ) : EReal) : FVec Ideal S4096x1024 .f32) := by
  refine (dats m 0 c).arrAt_eq_of_cover 9 (fun i => ((dx Z V C B T W X DH G (i 0) (i 1) : ℝ) : EReal) : FVec Ideal S4096x1024 .f32) (fun t hf => ?_) fun i => ⟨ptR (i 0), flush0_9 _, ?_⟩
  · rw [Value.flushed9]
    refine funext fun y => ?_
    rw [View.read_apply]
    refine Eq.trans (congrArg _ (eq_ix2 (n0 := 512) (n1 := 1024) y)) ((out9 m c A t (y 0) (y 1)).trans ?_)
    refine congrArg₂ (fun p q => ((dx Z V C B T W X DH G p q : ℝ) : EReal)) (Fin.ext ?_) (Fin.ext ?_)
    · show 512 * t.val + (y 0).val = win0_9.index t 0 * 512 + 1 * (y 0).val; rw [(idx9 t).1]; omega
    · show (y 1).val = win0_9.index t 1 * 1024 + 1 * (y 1).val; rw [(idx9 t).2]; omega
  · show i ∈ ((View.whole main_v6_0).slice (win0_9.rect (ptR (i 0)))).set
    rw [View.set_slice_whole, Rect.mem_set_unit]
    intro a
    have h0 : (i 0 : Nat) < 4096 := (i 0).isLt
    have h1 : (i 1 : Nat) < 1024 := (i 1).isLt
    have hi : win0_9.index (ptR (i 0)) 0 = (i 0 : Nat) / 512 := (idx9 _).1
    match a with
    | ⟨0, _⟩ => show win0_9.index (ptR (i 0)) 0 * 512 ≤ (i 0 : Nat) ∧ (i 0 : Nat) < win0_9.index (ptR (i 0)) 0 * 512 + 512
                rw [hi]; omega
    | ⟨1, _⟩ => show win0_9.index (ptR (i 0)) 1 * 1024 ≤ (i 1 : Nat) ∧ (i 1 : Nat) < win0_9.index (ptR (i 0)) 1 * 1024 + 1024
                rw [(idx9 _).2]; omega

/-- The last grid point. -/
def tEnd : Fin cfg0.N := ⟨7, by rw [show cfg0.N = 8 from N_0]; omega⟩

theorem last (t : Fin cfg0.N) (h : t.val % 8 = 7) : t = tEnd := by
  have := lt8 t
  exact Fin.ext (by show t.val = 7; omega)

/-- The gradient of the norm's weight: the one block, written back after the last point. -/
theorem dg_block : (dats m 0 c).arrAt 10 cfg0.N = (outsAt0 m c tEnd.val tEnd.isLt).2.1 := by
  refine (dats m 0 c).arrAt_eq_of_cover 10 (outsAt0 m c tEnd.val tEnd.isLt).2.1 (fun t hf => ?_) fun i => ⟨tEnd, (flush0_10 tEnd).mpr rfl, ?_⟩
  · obtain rfl := last t ((flush0_10 t).mp hf)
    rw [Value.flushed10]
    have hz' : (fun a => win0_10.index tEnd a * main_v6_1.ty.shape.size a) = fun _ => 0 := funext fun a => match a with
      | ⟨0, _⟩ => by show win0_10.index tEnd 0 * _ = 0; rw [(idx10 _).1, zero_mul]
      | ⟨1, _⟩ => by show win0_10.index tEnd 1 * _ = 0; rw [(idx10 _).2, zero_mul]
    exact (Memref.read_access_unit_zero (Elt Ideal) main_v6_1 hz' (fun a => by rw [congrFun hz' a]; simp) _).symm
  · show i ∈ ((View.whole main_v6_1).slice (win0_10.rect tEnd)).set
    rw [View.set_slice_whole, Rect.mem_set_unit]
    intro a
    have h0 : (i 0 : Nat) < 1 := (i 0).isLt
    have h1 : (i 1 : Nat) < 1024 := (i 1).isLt
    match a with
    | ⟨0, _⟩ => show win0_10.index tEnd 0 * 1 ≤ (i 0 : Nat) ∧ (i 0 : Nat) < win0_10.index tEnd 0 * 1 + 1
                rw [(idx10 _).1]; omega
    | ⟨1, _⟩ => show win0_10.index tEnd 1 * 1024 ≤ (i 1 : Nat) ∧ (i 1 : Nat) < win0_10.index tEnd 1 * 1024 + 1024
                rw [(idx10 _).2]; omega

include A in
theorem dg_final (z : Fin 1) (l : Fin 1024) : ((dats m 0 c).arrAt 10 cfg0.N : FVec Ideal S1x1024 .f32) (ix2 z l) = ((dg Z V C B T W X l : ℝ) : EReal) := by
  rw [dg_block]
  refine (gain m c A z l 7 tEnd.isLt).trans ?_
  rw [show 512 * (7 + 1) = 4096 by norm_num, sum_ext]
  rfl

end Cert.InpIdeal.Out

end
-- ==== Proof.InpClaim.lean ====
/- The input projection's gradient: kernel and reference leave the same two arrays. -/
module

public import proofs.«01_k».proof.Defs
public import proofs.«01_k».proof.Proof.InpFin
public import proofs.«01_k».proof.Proof.Gen.InpRefIdeal.Run
public import proofs.«01_k».proof.Proof.Gen.Pre_inp_finite

@[expose] public section

set_option maxRecDepth 16384

noncomputable section

namespace Cert.Inp

open Cert.Reals Idealize.ShloMosaic Idealize.ShloMosaic.TcCoe Idealize.SL.Sem

section
open Cert.InpIdeal

/-- Where the precondition holds, the nine arrays are real numbers. -/
theorem args_of_pre (m : (ℓ : Loc nD τ sig) → Buf (Elt Ideal) ℓ) (h : Pre_InpIdeal_inp_finite m) (c : Dev nD) :
    ∃ X DH Z V C G B T W, Cert.InpIdeal.Out.Args m c X DH Z V C G B T W := by
  obtain ⟨h0, h1, h2, h3, h4, h5, h6, h7, h8⟩ := h c
  exact ⟨_, _, _, _, _, _, _, _, _, fun r l => coe_toReal_of_abs (congrFun h0 (ix2 r l)), fun l => coe_toReal_of_abs (congrFun h1 (ix1 l)),
    fun l q => coe_toReal_of_abs (congrFun h2 (ix2 l q)), fun r l => coe_toReal_of_abs (congrFun h3 (ix2 r l)),
    fun r l => coe_toReal_of_abs (congrFun h4 (ix2 r l)), fun r l => coe_toReal_of_abs (congrFun h5 (ix2 r l)),
    fun r l => coe_toReal_of_abs (congrFun h6 (ix2 r l)), fun r l => coe_toReal_of_abs (congrFun h7 (ix2 r l)),
    fun r l => coe_toReal_of_abs (congrFun h8 (ix2 r l))⟩
end

theorem algebraic : Cert.algebraic_InpIdeal_InpRefIdeal_pre_inp_finite := by
  intro m g m' g' hpre hargs
  refine ⟨fun c => (Cert.InpIdeal.Gen.dats m 0 c).arrAt 9 Cert.InpIdeal.cfg0.N, fun c => (Cert.InpIdeal.Gen.dats m 0 c).arrAt 10 Cert.InpIdeal.cfg0.N,
    Cert.InpIdeal.Value.run_blocks m g, ?_⟩
  refine (θ_run Cert.InpRefIdeal.defs _ _).mono (fun r h c => ?_) (Cert.InpRefIdeal.Value.run m' g')
  obtain ⟨e0, e1, kept⟩ := h c
  obtain ⟨b0, b1, b2, b3, b4, b5, b6, b7, b8⟩ := hargs c
  obtain ⟨X, DH, Z, V, C, G, B, T, W, A⟩ := args_of_pre m hpre c
  have h0 := fun r l => (congrFun b0 (ix2 r l)).trans (A.a0 r l)
  have h1 := fun l => (congrFun b1 (ix1 l)).trans (A.a1 l)
  have h2 := fun l q => (congrFun b2 (ix2 l q)).trans (A.a2 l q)
  have h3 := fun r l => (congrFun b3 (ix2 r l)).trans (A.a3 r l)
  have h4 := fun r l => (congrFun b4 (ix2 r l)).trans (A.a4 r l)
  have h5 := fun r l => (congrFun b5 (ix2 r l)).trans (A.a5 r l)
  have h6 := fun r l => (congrFun b6 (ix2 r l)).trans (A.a6 r l)
  have h7 := fun r l => (congrFun b7 (ix2 r l)).trans (A.a7 r l)
  have h8 := fun r l => (congrFun b8 (ix2 r l)).trans (A.a8 r l)
  clear hargs hpre h
  refine ⟨(e0.trans (Cert.InpRefIdeal.Read.val_main_v49_eq _ _)).trans ?_, (e1.trans (Cert.InpRefIdeal.Read.val_main_v50_eq _ _ _ _ _ _ _)).trans ?_, kept⟩
  · funext y
    obtain ⟨i, j, rfl⟩ : ∃ (i : Fin 4096) (j : Fin 1024), y = ix2 i j := ⟨_, _, eq_ix2 (n0 := 4096) (n1 := 1024) y⟩
    refine (Cert.InpRefIdeal.Val.v49_eq h0 h1 h3 h4 h5 h6 h7 h8 h2 i j).trans ?_
    exact (congrFun (Cert.InpIdeal.Out.gx_final m c A) (ix2 i j)).symm
  · funext y
    obtain ⟨i, j, rfl⟩ : ∃ (i : Fin 1) (j : Fin 1024), y = ix2 i j := ⟨_, _, eq_ix2 (n0 := 1) (n1 := 1024) y⟩
    exact (Cert.InpRefIdeal.Val.v50_eq h0 h1 h3 h4 h5 h6 h7 h8 h2 i j).trans (Cert.InpIdeal.Out.dg_final m c A i j).symm

end Cert.Inp

end
-- ==== Proof.SconvDef.lean ====
/- The gradients of a causal convolution with four taps, as sums over rows continued by zero. -/
module

public import proofs.«01_k».proof.Proof.Reals

@[expose] public section

set_option maxRecDepth 16384

noncomputable section

namespace Cert.Sconv

/-- A row of the cotangent, zero past the last. -/
def dz (D : Fin 4096 → Fin 1536 → EReal) (n : ℕ) (l : Fin 1536) : EReal := if h : n < 4096 then D ⟨n, h⟩ l else 0

/-- A row of the input, eight rows late, zero before the first and past the last. -/
def xq (X : Fin 4096 → Fin 1536 → EReal) (n : ℕ) (l : Fin 1536) : EReal := if h : 8 ≤ n ∧ n - 8 < 4096 then X ⟨n - 8, h.2⟩ l else 0

/-- The gradient of the input: a row collects the four cotangent rows it fed. -/
def dx (W : Fin 4 → Fin 1536 → EReal) (D : Fin 4096 → Fin 1536 → EReal) (n : ℕ) (l : Fin 1536) : EReal :=
  W 0 l * dz D (n + 3) l + W 1 l * dz D (n + 2) l + W 2 l * dz D (n + 1) l + W 3 l * dz D n l

/-- The first `n` rows' part of the gradient of tap `k`. -/
def dw (X D : Fin 4096 → Fin 1536 → EReal) (k : ℕ) (l : Fin 1536) (n : ℕ) : EReal :=
  ∑ r ∈ Finset.range n, xq X (r + k + 5) l * dz D r l

/-- The gradient of the offset. -/
def db (D : Fin 4096 → Fin 1536 → EReal) (l : Fin 1536) (n : ℕ) : EReal := ∑ r ∈ Finset.range n, dz D r l

theorem db_all (D : Fin 4096 → Fin 1536 → EReal) (l : Fin 1536) : db D l 4096 = ∑ r, D r l := by
  unfold db
  rw [Finset.sum_range]
  exact Finset.sum_congr rfl fun r _ => dif_pos r.isLt

theorem dw_all (X D : Fin 4096 → Fin 1536 → EReal) (k : ℕ) (l : Fin 1536) : dw X D k l 4096 = ∑ r : Fin 4096, xq X (r.val + k + 5) l * D r l := by
  unfold dw
  rw [Finset.sum_range]
  exact Finset.sum_congr rfl fun r _ => congrArg _ (dif_pos r.isLt)

end Cert.Sconv

end
-- ==== Proof.SconvTrip.lean ====
/- One grid point of the gradient of the short convolution: what its buffers hold, one trip of each loop, and the values it leaves. -/
module

public import proofs.«01_k».proof.Proof.Reals
public import Idealize.ShloMosaic.Lib.Pipeline.ValueKit.Tiles
public import Idealize.ShloMosaic.Lib.WritesUnit
public import proofs.«01_k».proof.Proof.Gen.SconvIdeal.Value

@[expose] public section

set_option maxRecDepth 16384

noncomputable section

namespace Cert.SconvIdeal.Out

open Cert.SconvIdeal Cert.SconvIdeal.Gen Cert.Reals Idealize.ShloMosaic Idealize.ShloMosaic.TcCoe Idealize.SL.Sem
variable (c : Dev nD) (i : grid0.Coords) (arg1 : Memref sig .tc .vmem S256x1536 .f32) (h1 : arg1.IsWhole) (arg2 : Memref sig .tc .vmem S8x1536 .f32) (h2 : arg2.IsWhole) (arg3 : Memref sig .tc .vmem S256x1536 .f32) (h3 : arg3.IsWhole) (arg4 : Memref sig .tc .vmem S8x1536 .f32) (h4 : arg4.IsWhole) (arg5 : Memref sig .tc .vmem S32x1536 .f32) (h5 : arg5.IsWhole) (arg6 : Memref sig .tc .vmem S256x1536 .bf16) (h6 : arg6.IsWhole) (arg7 : Memref sig .tc .vmem S8x1536 .f32) (h7 : arg7.IsWhole) (arg8 : Memref sig .tc .vmem S1x1536 .f32) (h8 : arg8.IsWhole) (arg9 : Memref sig .tc .vmem S264x1536 .f32) (h9 : arg9.IsWhole) (arg10 : Memref sig .tc .vmem S264x1536 .f32) (h10 : arg10.IsWhole) (arg11 : Memref sig .tc .vmem S3x256x1536 .f32) (h11 : arg11.IsWhole) (arg12 : Memref sig .tc .vmem S3x256x1536 .f32) (h12 : arg12.IsWhole)

/-- A load of rows from a scratch buffer of rows reads the rows from its offset on. -/
theorem rd2 {n m : ℕ} {arg : Memref sig .tc .vmem ⟨2, ![n, 1536]⟩ .f32} (X : BufTy.Contents (Elt Ideal) arg.view.ty)
    (D : ℕ → Fin 1536 → Elt Ideal .f32) (hD : ∀ (q : Fin n) (l : Fin 1536), arg.view.read (Elt Ideal) X (ix2 q l) = D q.val l)
    (off : Fin 2 → ℕ) (inb : ∀ a, off a + (![m, 1536] : Fin 2 → ℕ) a ≤ (![n, 1536] : Fin 2 → ℕ) a) (o : ℕ) (ho : off = ![o, 0])
    (s : Fin m) (l : Fin 1536) :
    View.readAt (Elt Ideal) arg.view (Rect.unit (s := ⟨2, ![n, 1536]⟩) off ![m, 1536] inb).toLoadRect X (ix2 s l) = D (o + s.val) l := by
  subst ho
  have hq : o + s.val < n := by
    have h := inb 0
    have hs := s.isLt
    simp only [Matrix.cons_val_zero] at h
    omega
  rw [View.readAt_eq_ld, ← hD ⟨o + s.val, hq⟩ l]
  refine View.ld_unit_apply_of _ _ _ _ _ _ fun a => ?_
  fin_cases a
  · rfl
  · exact (Nat.zero_add _).symm

/-- A load of rows of one plane of a phase buffer reads that plane's rows from its offset on. -/
theorem rd3 {arg : Memref sig .tc .vmem S3x256x1536 .f32} (X : BufTy.Contents (Elt Ideal) arg.view.ty)
    (D : ℕ → ℕ → Fin 1536 → Elt Ideal .f32)
    (hD : ∀ (p : Fin 3) (q : Fin 256) (l : Fin 1536), arg.view.read (Elt Ideal) X (ix3 p q l) = D p.val q.val l)
    (off : Fin 3 → ℕ) (inb : ∀ a, off a + (![1, 8, 1536] : Fin 3 → ℕ) a ≤ (![3, 256, 1536] : Fin 3 → ℕ) a) (p o : ℕ)
    (ho : off = ![p, o, 0]) (s : Fin 8) (l : Fin 1536) :
    View.readAt (Elt Ideal) arg.view (Rect.unit (s := S3x256x1536) off ![1, 8, 1536] inb).toLoadRect X (ix3 (0 : Fin 1) s l)
      = D p (o + s.val) l := by
  subst ho
  have hq : o + s.val < 256 := by
    have h := inb 1
    have hs := s.isLt
    simp only [Matrix.cons_val_one, Matrix.cons_val_zero] at h
    omega
  have hp : p < 3 := by
    have h := inb 0
    simp only [Matrix.cons_val_zero] at h
    omega
  rw [View.readAt_eq_ld, ← hD ⟨p, hp⟩ ⟨o + s.val, hq⟩ l]
  refine View.ld_unit_apply_of _ _ _ _ _ _ fun a => ?_
  fin_cases a
  · rfl
  · rfl
  · exact (Nat.zero_add _).symm

section Trips

variable (X5 : BufTy.Contents (Elt Ideal) arg5.view.ty) (X9 : BufTy.Contents (Elt Ideal) arg9.view.ty)
  (X10 : BufTy.Contents (Elt Ideal) arg10.view.ty) (X11 : BufTy.Contents (Elt Ideal) arg11.view.ty)
  (X12 : BufTy.Contents (Elt Ideal) arg12.view.ty) (D P : ℕ → Fin 1536 → Elt Ideal .f32)
  (e9 : ∀ (q : Fin 264) (l : Fin 1536), arg9.view.read (Elt Ideal) X9 (ix2 q l) = D q.val l)
  (e10 : ∀ (q : Fin 264) (l : Fin 1536), arg10.view.read (Elt Ideal) X10 (ix2 q l) = P q.val l)
  (e12 : ∀ (p : Fin 3) (q : Fin 256) (l : Fin 1536), arg12.view.read (Elt Ideal) X12 (ix3 p q l) = P (q.val + p.val + 5) l)

include e9 e12 in
/-- One trip of the first loop over the rows, for the first tap. -/
theorem trip2_1 (k : Fin k0_t2_loop.trips) (acc : FVec Ideal S8x1536 .f32 × FVec Ideal S8x1536 .f32) (s : Fin 8) (l : Fin 1536) :
    (tripR_k0_t2 (F := Ideal) Variants.none c none i arg1 h1 arg2 h2 arg3 h3 arg4 h4 arg5 h5 arg6 h6 arg7 h7 arg8 h8 arg9 h9 arg10 h10 arg11 h11 arg12 h12 0#32 X9 X12 k acc).1 (ix2 s l)
      = acc.1 (ix2 s l) + ∑ u ∈ Finset.range 16, P (128 * k.val + 8 * u + s.val + 0 + 5) l * D (128 * k.val + 8 * u + s.val) l := by
  unfold tripR_k0_t2 trip_k0_t2
  dsimp only
  pointwise [k0_pay52, k0_pay53, trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  have r12 : ∀ (u : ℕ) (_ : u < 16) (inb), View.readAt (Elt Ideal) arg12.view
      (Rect.unit (s := S3x256x1536) (k0_off7 k (BitVec.ofNat 32 u)) ![1, 8, 1536] inb).toLoadRect X12 (ix3 (0 : Fin 1) s l)
        = P (128 * k.val + 8 * u + s.val + 0 + 5) l := fun u hu inb =>
    rd3 X12 (fun p q l => P (q + p + 5) l) e12 _ inb _ _ (k0_off7_eq k ⟨u, hu⟩) s l
  have r9 : ∀ (u : ℕ) (_ : u < 16) (inb), View.readAt (Elt Ideal) arg9.view
      (Rect.unit (s := S264x1536) (k0_off6 k (BitVec.ofNat 32 u)) ![8, 1536] inb).toLoadRect X9 (ix2 s l)
        = D (128 * k.val + 8 * u + s.val) l := fun u hu inb =>
    rd2 X9 D e9 _ inb _ (k0_off6_eq k ⟨u, hu⟩) s l
  simp (disch := decide) only [r9, r12, Finset.sum_range_succ, Finset.sum_range_zero, zero_add, ← add_assoc]

include e9 e12 in
/-- The same for the second tap. -/
theorem trip2_2 (k : Fin k0_t2_loop.trips) (acc : FVec Ideal S8x1536 .f32 × FVec Ideal S8x1536 .f32) (s : Fin 8) (l : Fin 1536) :
    (tripR_k0_t2 (F := Ideal) Variants.none c none i arg1 h1 arg2 h2 arg3 h3 arg4 h4 arg5 h5 arg6 h6 arg7 h7 arg8 h8 arg9 h9 arg10 h10 arg11 h11 arg12 h12 0#32 X9 X12 k acc).2 (ix2 s l)
      = acc.2 (ix2 s l) + ∑ u ∈ Finset.range 16, P (128 * k.val + 8 * u + s.val + 1 + 5) l * D (128 * k.val + 8 * u + s.val) l := by
  unfold tripR_k0_t2 trip_k0_t2
  dsimp only
  pointwise [k0_pay52, k0_pay53, trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  have r12 : ∀ (u : ℕ) (_ : u < 16) (inb), View.readAt (Elt Ideal) arg12.view
      (Rect.unit (s := S3x256x1536) (k0_off8 k (BitVec.ofNat 32 u)) ![1, 8, 1536] inb).toLoadRect X12 (ix3 (0 : Fin 1) s l)
        = P (128 * k.val + 8 * u + s.val + 1 + 5) l := fun u hu inb =>
    rd3 X12 (fun p q l => P (q + p + 5) l) e12 _ inb _ _ (k0_off8_eq k ⟨u, hu⟩) s l
  have r9 : ∀ (u : ℕ) (_ : u < 16) (inb), View.readAt (Elt Ideal) arg9.view
      (Rect.unit (s := S264x1536) (k0_off6 k (BitVec.ofNat 32 u)) ![8, 1536] inb).toLoadRect X9 (ix2 s l)
        = D (128 * k.val + 8 * u + s.val) l := fun u hu inb =>
    rd2 X9 D e9 _ inb _ (k0_off6_eq k ⟨u, hu⟩) s l
  simp (disch := decide) only [r9, r12, Finset.sum_range_succ, Finset.sum_range_zero, zero_add, ← add_assoc]

include e9 e12 in
/-- One trip of the second loop over the rows, for the third tap. -/
theorem trip3_1 (k : Fin k0_t3_loop.trips) (acc : FVec Ideal S8x1536 .f32 × FVec Ideal S8x1536 .f32) (s : Fin 8) (l : Fin 1536) :
    (tripR_k0_t3 (F := Ideal) Variants.none c none i arg1 h1 arg2 h2 arg3 h3 arg4 h4 arg5 h5 arg6 h6 arg7 h7 arg8 h8 arg9 h9 arg10 h10 arg11 h11 arg12 h12 0#32 X9 X10 X12 k acc).1 (ix2 s l)
      = acc.1 (ix2 s l) + ∑ u ∈ Finset.range 16, P (128 * k.val + 8 * u + s.val + 2 + 5) l * D (128 * k.val + 8 * u + s.val) l := by
  unfold tripR_k0_t3 trip_k0_t3
  dsimp only
  pointwise [k0_pay58, trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  have r12 : ∀ (u : ℕ) (_ : u < 16) (inb), View.readAt (Elt Ideal) arg12.view
      (Rect.unit (s := S3x256x1536) (k0_off10 k (BitVec.ofNat 32 u)) ![1, 8, 1536] inb).toLoadRect X12 (ix3 (0 : Fin 1) s l)
        = P (128 * k.val + 8 * u + s.val + 2 + 5) l := fun u hu inb =>
    rd3 X12 (fun p q l => P (q + p + 5) l) e12 _ inb _ _ (k0_off10_eq k ⟨u, hu⟩) s l
  have r9 : ∀ (u : ℕ) (_ : u < 16) (inb), View.readAt (Elt Ideal) arg9.view
      (Rect.unit (s := S264x1536) (k0_off9 k (BitVec.ofNat 32 u)) ![8, 1536] inb).toLoadRect X9 (ix2 s l)
        = D (128 * k.val + 8 * u + s.val) l := fun u hu inb =>
    rd2 X9 D e9 _ inb _ (k0_off9_eq k ⟨u, hu⟩) s l
  simp (disch := decide) only [r9, r12, Finset.sum_range_succ, Finset.sum_range_zero, zero_add, ← add_assoc]

include e9 e10 in
/-- The same for the last tap, whose rows need no phase buffer. -/
theorem trip3_2 (k : Fin k0_t3_loop.trips) (acc : FVec Ideal S8x1536 .f32 × FVec Ideal S8x1536 .f32) (s : Fin 8) (l : Fin 1536) :
    (tripR_k0_t3 (F := Ideal) Variants.none c none i arg1 h1 arg2 h2 arg3 h3 arg4 h4 arg5 h5 arg6 h6 arg7 h7 arg8 h8 arg9 h9 arg10 h10 arg11 h11 arg12 h12 0#32 X9 X10 X12 k acc).2 (ix2 s l)
      = acc.2 (ix2 s l) + ∑ u ∈ Finset.range 16, P (128 * k.val + 8 * u + 8 + s.val) l * D (128 * k.val + 8 * u + s.val) l := by
  unfold tripR_k0_t3 trip_k0_t3
  dsimp only
  pointwise [k0_pay58, trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  have r12 : ∀ (u : ℕ) (_ : u < 16) (inb), View.readAt (Elt Ideal) arg10.view
      (Rect.unit (s := S264x1536) (k0_off11 k (BitVec.ofNat 32 u)) ![8, 1536] inb).toLoadRect X10 (ix2 s l)
        = P (128 * k.val + 8 * u + 8 + s.val) l := fun u hu inb =>
    rd2 X10 P e10 _ inb _ (k0_off11_eq k ⟨u, hu⟩) s l
  have r9 : ∀ (u : ℕ) (_ : u < 16) (inb), View.readAt (Elt Ideal) arg9.view
      (Rect.unit (s := S264x1536) (k0_off9 k (BitVec.ofNat 32 u)) ![8, 1536] inb).toLoadRect X9 (ix2 s l)
        = D (128 * k.val + 8 * u + s.val) l := fun u hu inb =>
    rd2 X9 D e9 _ inb _ (k0_off9_eq k ⟨u, hu⟩) s l
  simp (disch := decide) only [r9, r12, Finset.sum_range_succ, Finset.sum_range_zero, zero_add, ← add_assoc]

end Trips

end Cert.SconvIdeal.Out
end
-- ==== Proof.SconvBuf.lean ====
/- The scratch buffers of one grid point of the gradient of the short convolution. -/
module

public import proofs.«01_k».proof.Proof.Reals
public import proofs.«01_k».proof.Proof.SconvTrip
public import proofs.«01_k».proof.Proof.Gen.SconvIdeal.Value

@[expose] public section

set_option maxRecDepth 16384

noncomputable section

namespace Cert.SconvIdeal.Out

open Cert.SconvIdeal Cert.SconvIdeal.Gen Cert.Reals Idealize.ShloMosaic Idealize.ShloMosaic.TcCoe Idealize.SL.Sem

/-- A buffer of rows filled by two stores, the first rows by the older one, reads the one or the other. -/
theorem two_rows {n a b : ℕ} (hn : a + b = n) {arg : Memref sig .tc .vmem ⟨2, ![n, 1536]⟩ .f32} (f : BufTy.Contents (Elt Ideal) arg.view.ty)
    (i1 : ∀ k, (![a, 0] : Fin 2 → ℕ) k + (![b, 1536] : Fin 2 → ℕ) k ≤ (![n, 1536] : Fin 2 → ℕ) k)
    (i0 : ∀ k, (![0, 0] : Fin 2 → ℕ) k + (![a, 1536] : Fin 2 → ℕ) k ≤ (![n, 1536] : Fin 2 → ℕ) k)
    (w1 : (⟨2, ![b, 1536]⟩ : Shape).Idx → Elt Ideal .f32) (w0 : (⟨2, ![a, 1536]⟩ : Shape).Idx → Elt Ideal .f32)
    (q : Fin n) (l : Fin 1536) :
    arg.view.read (Elt Ideal) (arg.view.writes (Elt Ideal) f
      [⟨Rect.unit (s := ⟨2, ![n, 1536]⟩) ![a, 0] ![b, 1536] i1, w1⟩, ⟨Rect.unit (s := ⟨2, ![n, 1536]⟩) ![0, 0] ![a, 1536] i0, w0⟩]) (ix2 q l)
      = if h : q.val < a then w0 (ix2 ⟨q.val, h⟩ l) else w1 (ix2 ⟨q.val - a, by omega⟩ l) := by
  by_cases h : q.val < a
  · rw [dif_pos h, View.read_writes_cons_rows_of_not_mem arg.view f i1 w1 _ (ix2 q l) rfl rfl (Or.inl h)]
    exact View.read_writes_cons_rows_of_mem arg.view f i0 w0 _ (ix2 q l) (ix2 ⟨q.val, h⟩ l) rfl (Nat.zero_add _).symm rfl
  · rw [dif_neg h]
    exact View.read_writes_cons_rows_of_mem arg.view f i1 w1 _ (ix2 q l) (ix2 ⟨q.val - a, by omega⟩ l) rfl
      (show q.val = a + (q.val - a) by omega) rfl

/-- A phase buffer filled plane by plane reads the plane's own store. -/
theorem three_planes {arg : Memref sig .tc .vmem S3x256x1536 .f32} (f : BufTy.Contents (Elt Ideal) arg.view.ty)
    (i2 : ∀ k, (![2, 0, 0] : Fin 3 → ℕ) k + (![1, 256, 1536] : Fin 3 → ℕ) k ≤ (![3, 256, 1536] : Fin 3 → ℕ) k)
    (i1 : ∀ k, (![1, 0, 0] : Fin 3 → ℕ) k + (![1, 256, 1536] : Fin 3 → ℕ) k ≤ (![3, 256, 1536] : Fin 3 → ℕ) k)
    (i0 : ∀ k, (![0, 0, 0] : Fin 3 → ℕ) k + (![1, 256, 1536] : Fin 3 → ℕ) k ≤ (![3, 256, 1536] : Fin 3 → ℕ) k)
    (w2 w1 w0 : S1x256x1536.Idx → Elt Ideal .f32) (G : ℕ → ℕ → Fin 1536 → Elt Ideal .f32)
    (g0 : ∀ q l, w0 (ix3 (0 : Fin 1) q l) = G 0 q.val l) (g1 : ∀ q l, w1 (ix3 (0 : Fin 1) q l) = G 1 q.val l)
    (g2 : ∀ q l, w2 (ix3 (0 : Fin 1) q l) = G 2 q.val l) (p : Fin 3) (q : Fin 256) (l : Fin 1536) :
    arg.view.read (Elt Ideal) (arg.view.writes (Elt Ideal) f
      [⟨Rect.unit (s := S3x256x1536) ![2, 0, 0] ![1, 256, 1536] i2, w2⟩, ⟨Rect.unit (s := S3x256x1536) ![1, 0, 0] ![1, 256, 1536] i1, w1⟩,
        ⟨Rect.unit (s := S3x256x1536) ![0, 0, 0] ![1, 256, 1536] i0, w0⟩]) (ix3 p q l) = G p.val q.val l := by
  have at_ : ∀ (o : ℕ) (p : Fin 3) (_ : p.val = o) (x : S1x256x1536.Idx) (_ : x = ix3 (0 : Fin 1) q l),
      ∀ a, ((ix3 p q l : S3x256x1536.Idx) a).val = (![o, 0, 0] : Fin 3 → ℕ) a + (x a).val := by
    intro o p hp x hx a
    subst hx hp
    fin_cases a
    · rfl
    · exact (Nat.zero_add _).symm
    · exact (Nat.zero_add _).symm
  fin_cases p
  · rw [View.read_writes_cons_unit_of_not_mem arg.view f i2 w2 _ _ rfl (0 : Fin 3) (Or.inl (by show 0 < 2; omega)),
      View.read_writes_cons_unit_of_not_mem arg.view f i1 w1 _ _ rfl (0 : Fin 3) (Or.inl (by show 0 < 1; omega)), ← g0]
    exact View.read_writes_cons_unit_of_mem arg.view f i0 w0 _ _ (ix3 (0 : Fin 1) q l) rfl (at_ 0 0 rfl _ rfl)
  · rw [View.read_writes_cons_unit_of_not_mem arg.view f i2 w2 _ _ rfl (0 : Fin 3) (Or.inl (by show 1 < 2; omega)), ← g1]
    exact View.read_writes_cons_unit_of_mem arg.view f i1 w1 _ _ (ix3 (0 : Fin 1) q l) rfl (at_ 1 1 rfl _ rfl)
  · rw [← g2]
    exact View.read_writes_cons_unit_of_mem arg.view f i2 w2 _ _ (ix3 (0 : Fin 1) q l) rfl (at_ 2 2 rfl _ rfl)

/-- The rows of the cotangent's buffer at one grid point: its own 256 rows, then the next point's first rows, zeroed at the last point. -/
def bufD (i : grid0.Coords) (x0 : Vec Ideal S256x1536 .f32) (x1 : Vec Ideal S8x1536 .f32) (q : ℕ) (l : Fin 1536) : Elt Ideal .f32 :=
  if h : q < 256 then x0 (ix2 ⟨q, h⟩ l) else if h : q - 256 < 8 then k0_pay40 (F := Ideal) i x1 (ix2 ⟨q - 256, h⟩ l) else 0

/-- The rows of the input's buffer at one grid point: the point before's last rows, zeroed at the first point, then its own 256 rows. -/
def bufX (i : grid0.Coords) (x2 : Vec Ideal S256x1536 .f32) (x3 : Vec Ideal S8x1536 .f32) (q : ℕ) (l : Fin 1536) : Elt Ideal .f32 :=
  if h : q < 8 then k0_pay41 (F := Ideal) i x3 (ix2 ⟨q, h⟩ l) else if h : q - 8 < 256 then x2 (ix2 ⟨q - 8, h⟩ l) else 0

variable (c : Dev nD) (i : grid0.Coords) (arg1 : Memref sig .tc .vmem S256x1536 .f32) (h1 : arg1.IsWhole) (arg2 : Memref sig .tc .vmem S8x1536 .f32) (h2 : arg2.IsWhole) (arg3 : Memref sig .tc .vmem S256x1536 .f32) (h3 : arg3.IsWhole) (arg4 : Memref sig .tc .vmem S8x1536 .f32) (h4 : arg4.IsWhole) (arg5 : Memref sig .tc .vmem S32x1536 .f32) (h5 : arg5.IsWhole) (arg6 : Memref sig .tc .vmem S256x1536 .bf16) (h6 : arg6.IsWhole) (arg7 : Memref sig .tc .vmem S8x1536 .f32) (h7 : arg7.IsWhole) (arg8 : Memref sig .tc .vmem S1x1536 .f32) (h8 : arg8.IsWhole) (arg9 : Memref sig .tc .vmem S264x1536 .f32) (h9 : arg9.IsWhole) (arg10 : Memref sig .tc .vmem S264x1536 .f32) (h10 : arg10.IsWhole) (arg11 : Memref sig .tc .vmem S3x256x1536 .f32) (h11 : arg11.IsWhole) (arg12 : Memref sig .tc .vmem S3x256x1536 .f32) (h12 : arg12.IsWhole)
  (x0 : Vec Ideal S256x1536 .f32) (x1 : Vec Ideal S8x1536 .f32) (x2 : Vec Ideal S256x1536 .f32) (x3 : Vec Ideal S8x1536 .f32)

theorem hz : (![0, 0] : Fin 2 → ℕ) = fun _ => 0 := by
  funext a
  fin_cases a <;> rfl

/-- Two stores of the loaded blocks fill the cotangent's buffer. -/
theorem fill9 (f : BufTy.Contents (Elt Ideal) arg9.view.ty) (q : Fin 264) (l : Fin 1536) :
    arg9.view.read (Elt Ideal) (arg9.view.writes (Elt Ideal) f
      [⟨Rect.unit ![256, 0] S8x1536.size inb_S264x1536_S8x1536_256_0, k0_pay40 i (View.readAt (Elt Ideal) arg2.view (Rect.unit ![0, 0] S8x1536.size inb_S8x1536_S8x1536_0_0).toLoadRect (h2.unread x1))⟩,
        ⟨Rect.unit ![0, 0] S256x1536.size inb_S264x1536_S256x1536_0_0, k0_pay39 (View.readAt (Elt Ideal) arg1.view (Rect.unit ![0, 0] S256x1536.size inb_S256x1536_S256x1536_0_0).toLoadRect (h1.unread x0))⟩]) (ix2 q l)
      = bufD i x0 x1 q.val l := by
  refine (two_rows (a := 256) (b := 8) rfl f _ _ _ _ q l).trans ?_
  have r1 : View.readAt (Elt Ideal) arg2.view (Rect.unit ![0, 0] S8x1536.size inb_S8x1536_S8x1536_0_0).toLoadRect (h2.unread x1) = x1 := by
    simp only [View.readAt_eq_ld, h2.read_unread, View.ld_unit_zero (S := S8x1536) hz]
  have r0 : View.readAt (Elt Ideal) arg1.view (Rect.unit ![0, 0] S256x1536.size inb_S256x1536_S256x1536_0_0).toLoadRect (h1.unread x0) = x0 := by
    simp only [View.readAt_eq_ld, h1.read_unread, View.ld_unit_zero (S := S256x1536) hz]
  unfold bufD
  rw [r0, r1]
  by_cases h : q.val < 256
  · rw [dif_pos h, dif_pos h]
    pointwise [k0_pay39]
  · rw [dif_neg h, dif_neg h, dif_pos (show q.val - 256 < 8 by omega)]

/-- Two stores of the loaded blocks fill the input's buffer. -/
theorem fill10 (f : BufTy.Contents (Elt Ideal) arg10.view.ty) (q : Fin 264) (l : Fin 1536) :
    arg10.view.read (Elt Ideal) (arg10.view.writes (Elt Ideal) f
      [⟨Rect.unit ![8, 0] S256x1536.size inb_S264x1536_S256x1536_8_0, k0_pay42 (View.readAt (Elt Ideal) arg3.view (Rect.unit ![0, 0] S256x1536.size inb_S256x1536_S256x1536_0_0).toLoadRect (h3.unread x2))⟩,
        ⟨Rect.unit ![0, 0] S8x1536.size inb_S264x1536_S8x1536_0_0, k0_pay41 i (View.readAt (Elt Ideal) arg4.view (Rect.unit ![0, 0] S8x1536.size inb_S8x1536_S8x1536_0_0).toLoadRect (h4.unread x3))⟩]) (ix2 q l)
      = bufX i x2 x3 q.val l := by
  refine (two_rows (a := 8) (b := 256) rfl f _ _ _ _ q l).trans ?_
  have r1 : View.readAt (Elt Ideal) arg4.view (Rect.unit ![0, 0] S8x1536.size inb_S8x1536_S8x1536_0_0).toLoadRect (h4.unread x3) = x3 := by
    simp only [View.readAt_eq_ld, h4.read_unread, View.ld_unit_zero (S := S8x1536) hz]
  have r0 : View.readAt (Elt Ideal) arg3.view (Rect.unit ![0, 0] S256x1536.size inb_S256x1536_S256x1536_0_0).toLoadRect (h3.unread x2) = x2 := by
    simp only [View.readAt_eq_ld, h3.read_unread, View.ld_unit_zero (S := S256x1536) hz]
  unfold bufX
  rw [r0, r1]
  by_cases h : q.val < 8
  · rw [dif_pos h, dif_pos h]
  · rw [dif_neg h, dif_neg h, dif_pos (show q.val - 8 < 256 by omega)]
    pointwise [k0_pay42]

/-- The cotangent's buffer in case A. -/
theorem e9_A (q : Fin 264) (l : Fin 1536) :
    arg9.view.read (Elt Ideal) (arg9.view.writes (Elt Ideal) arg9.view.junk (kernelRun0_A.sl.HS0_2 (F := Ideal) c i arg1 h1 arg2 h2 x0 x1)) (ix2 q l)
      = bufD i x0 x1 q.val l := by
  unfold kernelRun0_A.sl.HS0_2
  exact fill9 i arg1 h1 arg2 h2 arg9 x0 x1 _ q l

/-- The input's buffer in case A. -/
theorem e10_A (q : Fin 264) (l : Fin 1536) :
    arg10.view.read (Elt Ideal) (arg10.view.writes (Elt Ideal) arg10.view.junk (kernelRun0_A.sl.HS1_2 (F := Ideal) c i arg3 h3 arg4 h4 x2 x3)) (ix2 q l)
      = bufX i x2 x3 q.val l := by
  unfold kernelRun0_A.sl.HS1_2
  exact fill10 i arg3 h3 arg4 h4 arg10 x2 x3 _ q l

/-- The cotangent's phases in case A: plane `p` holds its rows from `p + 1` on. -/
theorem e11_A (p : Fin 3) (q : Fin 256) (l : Fin 1536) :
    arg11.view.read (Elt Ideal) (arg11.view.writes (Elt Ideal) arg11.view.junk (kernelRun0_A.sl.HS2_3 (F := Ideal) c i arg1 h1 arg2 h2 arg9 x0 x1)) (ix3 p q l)
      = bufD i x0 x1 (q.val + p.val + 1) l := by
  unfold kernelRun0_A.sl.HS2_3
  have g := e9_A c i arg1 h1 arg2 h2 arg9 x0 x1
  refine three_planes _ _ _ _ _ _ _ (fun p q l => bufD i x0 x1 (q + p + 1) l) (fun q l => ?_) (fun q l => ?_) (fun q l => ?_) p q l
  · pointwise [k0_pay43]
    rw [Nat.add_comm _ 1]
    exact rd2 _ (bufD i x0 x1) g _ _ _ rfl q l
  · pointwise [k0_pay44, kernelRun0_A.sl.v31]
    rw [Nat.add_assoc, Nat.add_comm _ (1 + 1)]
    exact rd2 _ (bufD i x0 x1) g _ _ _ rfl q l
  · pointwise [k0_pay45, kernelRun0_A.sl.v35]
    rw [Nat.add_assoc, Nat.add_comm _ (2 + 1)]
    exact rd2 _ (bufD i x0 x1) g _ _ _ rfl q l

/-- The input's phases in case A: plane `p` holds its rows from `p + 5` on. -/
theorem e12_A (p : Fin 3) (q : Fin 256) (l : Fin 1536) :
    arg12.view.read (Elt Ideal) (arg12.view.writes (Elt Ideal) arg12.view.junk (kernelRun0_A.sl.HS3_3 (F := Ideal) c i arg3 h3 arg4 h4 arg10 x2 x3)) (ix3 p q l)
      = bufX i x2 x3 (q.val + p.val + 5) l := by
  unfold kernelRun0_A.sl.HS3_3
  have g := e10_A c i arg3 h3 arg4 h4 arg10 x2 x3
  refine three_planes _ _ _ _ _ _ _ (fun p q l => bufX i x2 x3 (q + p + 5) l) (fun q l => ?_) (fun q l => ?_) (fun q l => ?_) p q l
  · pointwise [k0_pay46, kernelRun0_A.sl.v39]
    rw [Nat.add_comm _ 5]
    exact rd2 _ (bufX i x2 x3) g _ _ _ rfl q l
  · pointwise [k0_pay47, kernelRun0_A.sl.v43]
    rw [Nat.add_assoc, Nat.add_comm _ (1 + 5)]
    exact rd2 _ (bufX i x2 x3) g _ _ _ rfl q l
  · pointwise [k0_pay48, kernelRun0_A.sl.v47]
    rw [Nat.add_assoc, Nat.add_comm _ (2 + 5)]
    exact rd2 _ (bufX i x2 x3) g _ _ _ rfl q l

/-- The cotangent's buffer in case B. -/
theorem e9_B (q : Fin 264) (l : Fin 1536) :
    arg9.view.read (Elt Ideal) (arg9.view.writes (Elt Ideal) arg9.view.junk (kernelRun0_B.sl.HS0_2 (F := Ideal) c i arg1 h1 arg2 h2 x0 x1)) (ix2 q l)
      = bufD i x0 x1 q.val l := by
  unfold kernelRun0_B.sl.HS0_2
  exact fill9 i arg1 h1 arg2 h2 arg9 x0 x1 _ q l

/-- The input's buffer in case B. -/
theorem e10_B (q : Fin 264) (l : Fin 1536) :
    arg10.view.read (Elt Ideal) (arg10.view.writes (Elt Ideal) arg10.view.junk (kernelRun0_B.sl.HS1_2 (F := Ideal) c i arg3 h3 arg4 h4 x2 x3)) (ix2 q l)
      = bufX i x2 x3 q.val l := by
  unfold kernelRun0_B.sl.HS1_2
  exact fill10 i arg3 h3 arg4 h4 arg10 x2 x3 _ q l

/-- The cotangent's phases in case B: plane `p` holds its rows from `p + 1` on. -/
theorem e11_B (p : Fin 3) (q : Fin 256) (l : Fin 1536) :
    arg11.view.read (Elt Ideal) (arg11.view.writes (Elt Ideal) arg11.view.junk (kernelRun0_B.sl.HS2_3 (F := Ideal) c i arg1 h1 arg2 h2 arg9 x0 x1)) (ix3 p q l)
      = bufD i x0 x1 (q.val + p.val + 1) l := by
  unfold kernelRun0_B.sl.HS2_3
  have g := e9_B c i arg1 h1 arg2 h2 arg9 x0 x1
  refine three_planes _ _ _ _ _ _ _ (fun p q l => bufD i x0 x1 (q + p + 1) l) (fun q l => ?_) (fun q l => ?_) (fun q l => ?_) p q l
  · pointwise [k0_pay43]
    rw [Nat.add_comm _ 1]
    exact rd2 _ (bufD i x0 x1) g _ _ _ rfl q l
  · pointwise [k0_pay44, kernelRun0_B.sl.v31]
    rw [Nat.add_assoc, Nat.add_comm _ (1 + 1)]
    exact rd2 _ (bufD i x0 x1) g _ _ _ rfl q l
  · pointwise [k0_pay45, kernelRun0_B.sl.v35]
    rw [Nat.add_assoc, Nat.add_comm _ (2 + 1)]
    exact rd2 _ (bufD i x0 x1) g _ _ _ rfl q l

/-- The input's phases in case B: plane `p` holds its rows from `p + 5` on. -/
theorem e12_B (p : Fin 3) (q : Fin 256) (l : Fin 1536) :
    arg12.view.read (Elt Ideal) (arg12.view.writes (Elt Ideal) arg12.view.junk (kernelRun0_B.sl.HS3_3 (F := Ideal) c i arg3 h3 arg4 h4 arg10 x2 x3)) (ix3 p q l)
      = bufX i x2 x3 (q.val + p.val + 5) l := by
  unfold kernelRun0_B.sl.HS3_3
  have g := e10_B c i arg3 h3 arg4 h4 arg10 x2 x3
  refine three_planes _ _ _ _ _ _ _ (fun p q l => bufX i x2 x3 (q + p + 5) l) (fun q l => ?_) (fun q l => ?_) (fun q l => ?_) p q l
  · pointwise [k0_pay46, kernelRun0_B.sl.v39]
    rw [Nat.add_comm _ 5]
    exact rd2 _ (bufX i x2 x3) g _ _ _ rfl q l
  · pointwise [k0_pay47, kernelRun0_B.sl.v43]
    rw [Nat.add_assoc, Nat.add_comm _ (1 + 5)]
    exact rd2 _ (bufX i x2 x3) g _ _ _ rfl q l
  · pointwise [k0_pay48, kernelRun0_B.sl.v47]
    rw [Nat.add_assoc, Nat.add_comm _ (2 + 5)]
    exact rd2 _ (bufX i x2 x3) g _ _ _ rfl q l

end Cert.SconvIdeal.Out
end
-- ==== Proof.SconvLoop.lean ====
/- The three loops of one grid point of the gradient of the short convolution. -/
module

public import proofs.«01_k».proof.Proof.Reals
public import proofs.«01_k».proof.Proof.SconvBuf
public import proofs.«01_k».proof.Proof.Gen.SconvIdeal.Value

@[expose] public section

set_option maxRecDepth 16384

noncomputable section

namespace Cert.SconvIdeal.Out

open Cert.SconvIdeal Cert.SconvIdeal.Gen Cert.Reals Idealize.ShloMosaic Idealize.ShloMosaic.TcCoe Idealize.SL.Sem

/-- A row of the input's gradient from the rows of the cotangent's buffer and the repeated weight rows. -/
def dxv (W D : ℕ → Fin 1536 → Elt Ideal .f32) (q : ℕ) (l : Fin 1536) : Elt Ideal .f32 :=
  W (q % 8) l * D (q + 3) l + W (8 + q % 8) l * D (q + 2) l + W (16 + q % 8) l * D (q + 1) l + W (24 + q % 8) l * D q l

/-- One point's part of a row of the weights' gradient. -/
def dwv (P D : ℕ → Fin 1536 → Elt Ideal .f32) (k : ℕ) (l : Fin 1536) : Elt Ideal .f32 :=
  ∑ r ∈ Finset.range 256, P (r + k + 5) l * D r l

/-- Four products add up to the same where their rows are the same. -/
theorem four_eq (W D : ℕ → Fin 1536 → EReal) (l : Fin 1536) {a b a' b' p q p' q' r s r' s' t u t' u' : ℕ}
    (h1 : a = a') (h2 : b = b') (h3 : p = p') (h4 : q = q') (h5 : r = r') (h6 : s = s') (h7 : t = t') (h8 : u = u') :
    W a l * D b l + W p l * D q l + W r l * D s l + W t l * D u l
      = W a' l * D b' l + W p' l * D q' l + W r' l * D s' l + W t' l * D u' l := by
  subst h1 h2 h3 h4 h5 h6 h7 h8
  rfl

/-- A sum over a block of `n * m` rows, taken `n` rows at a time. -/
theorem sum_steps (f : ℕ → EReal) (n m b : ℕ) :
    ∑ u ∈ Finset.range m, ∑ s ∈ Finset.range n, f (b + n * u + s) = ∑ r ∈ Finset.range (n * m), f (b + r) := by
  induction m with
  | zero => simp
  | succ m ih =>
    rw [Finset.sum_range_succ, ih, Nat.mul_succ, Finset.sum_range_add]
    simp only [Nat.add_assoc]

/-- Eight partial sums over the rows of two trips of sixteen make up the sum over the 256 rows. -/
theorem sum_lanes (f : ℕ → EReal) :
    ∑ s : Fin 8, (∑ u ∈ Finset.range 16, f (128 * 0 + 8 * u + s.val) + ∑ u ∈ Finset.range 16, f (128 * 1 + 8 * u + s.val))
      = ∑ r ∈ Finset.range 256, f r := by
  rw [Finset.sum_add_distrib, Fin.sum_univ_eq_sum_range (fun s => ∑ u ∈ Finset.range 16, f (128 * 0 + 8 * u + s)) 8,
    Fin.sum_univ_eq_sum_range (fun s => ∑ u ∈ Finset.range 16, f (128 * 1 + 8 * u + s)) 8,
    Finset.sum_comm, sum_steps f 8 16, Finset.sum_comm (s := Finset.range 8), sum_steps f 8 16]
  rw [show (256 : ℕ) = 8 * 16 + 8 * 16 from rfl, Finset.sum_range_add]
  simp only [Nat.zero_add, Nat.mul_zero, Nat.mul_one]

variable (c : Dev nD) (i : grid0.Coords) (arg1 : Memref sig .tc .vmem S256x1536 .f32) (h1 : arg1.IsWhole) (arg2 : Memref sig .tc .vmem S8x1536 .f32) (h2 : arg2.IsWhole) (arg3 : Memref sig .tc .vmem S256x1536 .f32) (h3 : arg3.IsWhole) (arg4 : Memref sig .tc .vmem S8x1536 .f32) (h4 : arg4.IsWhole) (arg5 : Memref sig .tc .vmem S32x1536 .f32) (h5 : arg5.IsWhole) (arg6 : Memref sig .tc .vmem S256x1536 .bf16) (h6 : arg6.IsWhole) (arg7 : Memref sig .tc .vmem S8x1536 .f32) (h7 : arg7.IsWhole) (arg8 : Memref sig .tc .vmem S1x1536 .f32) (h8 : arg8.IsWhole) (arg9 : Memref sig .tc .vmem S264x1536 .f32) (h9 : arg9.IsWhole) (arg10 : Memref sig .tc .vmem S264x1536 .f32) (h10 : arg10.IsWhole) (arg11 : Memref sig .tc .vmem S3x256x1536 .f32) (h11 : arg11.IsWhole) (arg12 : Memref sig .tc .vmem S3x256x1536 .f32) (h12 : arg12.IsWhole)

section Loops

variable (X5 : BufTy.Contents (Elt Ideal) arg5.view.ty) (X9 : BufTy.Contents (Elt Ideal) arg9.view.ty)
  (X10 : BufTy.Contents (Elt Ideal) arg10.view.ty) (X11 : BufTy.Contents (Elt Ideal) arg11.view.ty)
  (X12 : BufTy.Contents (Elt Ideal) arg12.view.ty) (W D P : ℕ → Fin 1536 → Elt Ideal .f32)
  (e5 : ∀ (q : Fin 32) (l : Fin 1536), arg5.view.read (Elt Ideal) X5 (ix2 q l) = W q.val l)
  (e9 : ∀ (q : Fin 264) (l : Fin 1536), arg9.view.read (Elt Ideal) X9 (ix2 q l) = D q.val l)
  (e10 : ∀ (q : Fin 264) (l : Fin 1536), arg10.view.read (Elt Ideal) X10 (ix2 q l) = P q.val l)
  (e11 : ∀ (p : Fin 3) (q : Fin 256) (l : Fin 1536), arg11.view.read (Elt Ideal) X11 (ix3 p q l) = D (q.val + p.val + 1) l)
  (e12 : ∀ (p : Fin 3) (q : Fin 256) (l : Fin 1536), arg12.view.read (Elt Ideal) X12 (ix3 p q l) = P (q.val + p.val + 5) l)

include e5 e9 e11 in
/-- One trip of the loop over chunks of 16 rows stores those rows of the input's gradient. -/
theorem trip1 (k : Fin k0_t1_loop.trips) :
    ∀ p ∈ tripL_k0_t1 (F := Ideal) Variants.none c none i arg1 h1 arg2 h2 arg3 h3 arg4 h4 arg5 h5 arg6 h6 arg7 h7 arg8 h8 arg9 h9 arg10 h10 arg11 h11 arg12 h12 0#32 X5 X9 X11 k,
      ∀ x : p.1.shape.Idx, p.2 x = (fun y : S256x1536.Idx => dxv W D (y 0).val (y 1)) (p.1.emb x) := by
  unfold tripL_k0_t1 trip_k0_t1
  dsimp only
  intro p hp
  rw [List.mem_singleton] at hp
  subst hp
  dsimp only
  intro x
  obtain ⟨s, l, rfl⟩ : ∃ (s : Fin 16) (l : Fin 1536), x = ix2 s l := ⟨x 0, x 1, eq_ix2 x⟩
  have h0 : k0_off5 k 0 = 16 * k.val := congrFun (k0_off5_eq k) 0
  have h1 : k0_off5 k 1 = 0 := congrFun (k0_off5_eq k) 1
  refine Eq.trans ?_ (congrArg₂ (dxv W D) (show 16 * k.val + s.val = k0_off5 k 0 + 1 * s.val by omega)
    (Fin.ext (show l.val = k0_off5 k 1 + 1 * l.val by omega)))
  have a10 : ∀ (inb) (s : Fin 8), View.readAt (Elt Ideal) arg11.view
      (Rect.unit (s := S3x256x1536) (k0_off1 k 0#32) ![1, 8, 1536] inb).toLoadRect X11 (ix3 (0 : Fin 1) s l)
        = D (16 * k.val + 8 * 0 + s.val + 2 + 1) l := fun inb s =>
    rd3 X11 (fun p q l => D (q + p + 1) l) e11 _ inb _ _ (k0_off1_eq k 0) s l
  have a11 : ∀ (inb) (s : Fin 8), View.readAt (Elt Ideal) arg11.view
      (Rect.unit (s := S3x256x1536) (k0_off1 k 8#32) ![1, 8, 1536] inb).toLoadRect X11 (ix3 (0 : Fin 1) s l)
        = D (16 * k.val + 8 * 1 + s.val + 2 + 1) l := fun inb s =>
    rd3 X11 (fun p q l => D (q + p + 1) l) e11 _ inb _ _ (k0_off1_eq k 1) s l
  have a20 : ∀ (inb) (s : Fin 8), View.readAt (Elt Ideal) arg11.view
      (Rect.unit (s := S3x256x1536) (k0_off2 k 0#32) ![1, 8, 1536] inb).toLoadRect X11 (ix3 (0 : Fin 1) s l)
        = D (16 * k.val + 8 * 0 + s.val + 1 + 1) l := fun inb s =>
    rd3 X11 (fun p q l => D (q + p + 1) l) e11 _ inb _ _ (k0_off2_eq k 0) s l
  have a21 : ∀ (inb) (s : Fin 8), View.readAt (Elt Ideal) arg11.view
      (Rect.unit (s := S3x256x1536) (k0_off2 k 8#32) ![1, 8, 1536] inb).toLoadRect X11 (ix3 (0 : Fin 1) s l)
        = D (16 * k.val + 8 * 1 + s.val + 1 + 1) l := fun inb s =>
    rd3 X11 (fun p q l => D (q + p + 1) l) e11 _ inb _ _ (k0_off2_eq k 1) s l
  have a30 : ∀ (inb) (s : Fin 8), View.readAt (Elt Ideal) arg11.view
      (Rect.unit (s := S3x256x1536) (k0_off3 k 0#32) ![1, 8, 1536] inb).toLoadRect X11 (ix3 (0 : Fin 1) s l)
        = D (16 * k.val + 8 * 0 + s.val + 0 + 1) l := fun inb s =>
    rd3 X11 (fun p q l => D (q + p + 1) l) e11 _ inb _ _ (k0_off3_eq k 0) s l
  have a31 : ∀ (inb) (s : Fin 8), View.readAt (Elt Ideal) arg11.view
      (Rect.unit (s := S3x256x1536) (k0_off3 k 8#32) ![1, 8, 1536] inb).toLoadRect X11 (ix3 (0 : Fin 1) s l)
        = D (16 * k.val + 8 * 1 + s.val + 0 + 1) l := fun inb s =>
    rd3 X11 (fun p q l => D (q + p + 1) l) e11 _ inb _ _ (k0_off3_eq k 1) s l
  have a40 : ∀ (inb) (s : Fin 8), View.readAt (Elt Ideal) arg9.view
      (Rect.unit (s := S264x1536) (k0_off4 k 0#32) ![8, 1536] inb).toLoadRect X9 (ix2 s l)
        = D (16 * k.val + 8 * 0 + s.val) l := fun inb s =>
    rd2 X9 D e9 _ inb _ (k0_off4_eq k 0) s l
  have a41 : ∀ (inb) (s : Fin 8), View.readAt (Elt Ideal) arg9.view
      (Rect.unit (s := S264x1536) (k0_off4 k 8#32) ![8, 1536] inb).toLoadRect X9 (ix2 s l)
        = D (16 * k.val + 8 * 1 + s.val) l := fun inb s =>
    rd2 X9 D e9 _ inb _ (k0_off4_eq k 1) s l
  have aw : ∀ (o : ℕ) (inb) (s : Fin 8), View.readAt (Elt Ideal) arg5.view
      (Rect.unit (s := S32x1536) ![o, 0] ![8, 1536] inb).toLoadRect X5 (ix2 s l) = W (o + s.val) l := fun o inb s =>
    rd2 X5 W e5 _ inb o rfl s l
  have h8 : (16 * k.val + s.val) % 8 = s.val % 8 := by omega
  unfold dxv
  rw [h8]
  pointwise [k0_pay49, trip_k0_t1.sl.r, trip_k0_t1.sl.r_1, trip_k0_t1.sl.r_2, k0_pay3, k0_pay4, k0_pay5, k0_pay6, k0_pay7]
  simp only [a10, a11, a20, a21, a30, a31, a40, a41, aw]
  by_cases hs : s.val < 8
  · rw [dif_pos hs]
    exact four_eq W D l (by omega) (by omega) (by omega) (by omega) (by omega) (by omega) (by omega) (by omega)
  · rw [dif_neg hs]
    exact four_eq W D l (by omega) (by omega) (by omega) (by omega) (by omega) (by omega) (by omega) (by omega)

include e5 e9 e11 in
/-- After any number of trips every stored piece holds rows of the input's gradient. -/
theorem pieces1 (n : ℕ) (hn : n ≤ k0_t1_loop.trips) :
    ∀ p ∈ pb_k0_t1 (F := Ideal) Variants.none c none i arg1 h1 arg2 h2 arg3 h3 arg4 h4 arg5 h5 arg6 h6 arg7 h7 arg8 h8 arg9 h9 arg10 h10 arg11 h11 arg12 h12 0#32 X5 X9 X11 n,
      ∀ x : p.1.shape.Idx, p.2 x = (fun y : S256x1536.Idx => dxv W D (y 0).val (y 1)) (p.1.emb x) := by
  induction n with
  | zero =>
    intro p hp
    exact absurd hp List.not_mem_nil
  | succ n ih =>
    intro p hp
    rw [pb_k0_t1_succ Variants.none c none i arg1 h1 arg2 h2 arg3 h3 arg4 h4 arg5 h5 arg6 h6 arg7 h7 arg8 h8 arg9 h9 arg10 h10 arg11 h11 arg12 h12 0#32 X5 X9 X11 ⟨n, hn⟩, List.mem_append] at hp
    exact hp.elim (trip1 c i arg1 h1 arg2 h2 arg3 h3 arg4 h4 arg5 h5 arg6 h6 arg7 h7 arg8 h8 arg9 h9 arg10 h10 arg11 h11 arg12 h12 X5 X9 X11 W D e5 e9 e11 ⟨n, hn⟩ p) (ih (Nat.le_of_succ_le hn) p)

include e9 e12 in
/-- The first tap: the eight rows of its sums add up to the point's part of the row of the weights' gradient. -/
theorem lanes0 (l : Fin 1536) :
    ∑ s : Fin 8, (st_k0_t2 (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) (Scf.trips (0#32) (Scalar.addi 0#32 2#32) 1#32)).1 (ix2 s l)
      = dwv P D 0 l := by
  have hn : Scf.trips (0#32) (Scalar.addi 0#32 2#32) 1#32 = 1 + 1 := by decide
  have ht : 1 + 1 = k0_t2_loop.trips := by decide
  have hz : ∀ (s : Fin 8), ((k0_pay50, k0_pay51) : FVec Ideal S8x1536 .f32 × FVec Ideal S8x1536 .f32).1 (ix2 s l) = 0 := by
    intro s
    pointwise [k0_pay50, k0_pay51]
  have s2 := st_k0_t2_succ (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) ⟨1, by omega⟩
  have s1 := st_k0_t2_succ (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) ⟨0, by omega⟩
  rw [hn]
  refine (Finset.sum_congr rfl fun s _ => ?_).trans (sum_lanes fun r => P (r + 0 + 5) l * D r l)
  rw [s2, trip2_1 c i arg1 h1 arg2 h2 arg3 h3 arg4 h4 arg5 h5 arg6 h6 arg7 h7 arg8 h8 arg9 h9 arg10 h10 arg11 h11 arg12 h12 X9 X12 D P e9 e12 ⟨1, by omega⟩ _ s l]
  dsimp only at s1 ⊢
  rw [s1, trip2_1 c i arg1 h1 arg2 h2 arg3 h3 arg4 h4 arg5 h5 arg6 h6 arg7 h7 arg8 h8 arg9 h9 arg10 h10 arg11 h11 arg12 h12 X9 X12 D P e9 e12 ⟨0, by omega⟩ _ s l]
  dsimp only
  rw [show st_k0_t2 (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) 0 = (k0_pay50, k0_pay51) from rfl, hz, zero_add]

include e9 e12 in
/-- The same for the second tap. -/
theorem lanes1 (l : Fin 1536) :
    ∑ s : Fin 8, (st_k0_t2 (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) (Scf.trips (0#32) (Scalar.addi 0#32 2#32) 1#32)).2 (ix2 s l)
      = dwv P D 1 l := by
  have hn : Scf.trips (0#32) (Scalar.addi 0#32 2#32) 1#32 = 1 + 1 := by decide
  have ht : 1 + 1 = k0_t2_loop.trips := by decide
  have hz : ∀ (s : Fin 8), ((k0_pay50, k0_pay51) : FVec Ideal S8x1536 .f32 × FVec Ideal S8x1536 .f32).2 (ix2 s l) = 0 := by
    intro s
    pointwise [k0_pay50, k0_pay51]
  have s2 := st_k0_t2_succ (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) ⟨1, by omega⟩
  have s1 := st_k0_t2_succ (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) ⟨0, by omega⟩
  rw [hn]
  refine (Finset.sum_congr rfl fun s _ => ?_).trans (sum_lanes fun r => P (r + 1 + 5) l * D r l)
  rw [s2, trip2_2 c i arg1 h1 arg2 h2 arg3 h3 arg4 h4 arg5 h5 arg6 h6 arg7 h7 arg8 h8 arg9 h9 arg10 h10 arg11 h11 arg12 h12 X9 X12 D P e9 e12 ⟨1, by omega⟩ _ s l]
  dsimp only at s1 ⊢
  rw [s1, trip2_2 c i arg1 h1 arg2 h2 arg3 h3 arg4 h4 arg5 h5 arg6 h6 arg7 h7 arg8 h8 arg9 h9 arg10 h10 arg11 h11 arg12 h12 X9 X12 D P e9 e12 ⟨0, by omega⟩ _ s l]
  dsimp only
  rw [show st_k0_t2 (F := Ideal) Variants.none c none i arg1 h1 arg2 h2 arg3 h3 arg4 h4 arg5 h5 arg6 h6 arg7 h7 arg8 h8 arg9 h9 arg10 h10 arg11 h11 arg12 h12 0#32 X9 X12 (k0_pay50, k0_pay51) 0 = (k0_pay50, k0_pay51) from rfl, hz, zero_add]

include e9 e12 in
/-- The same for the third tap. -/
theorem lanes2 (l : Fin 1536) :
    ∑ s : Fin 8, (st_k0_t3 (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) (Scf.trips (0#32) (Scalar.addi 0#32 2#32) 1#32)).1 (ix2 s l)
      = dwv P D 2 l := by
  have hn : Scf.trips (0#32) (Scalar.addi 0#32 2#32) 1#32 = 1 + 1 := by decide
  have ht : 1 + 1 = k0_t3_loop.trips := by decide
  have hz : ∀ (s : Fin 8), ((k0_pay56, k0_pay57) : FVec Ideal S8x1536 .f32 × FVec Ideal S8x1536 .f32).1 (ix2 s l) = 0 := by
    intro s
    pointwise [k0_pay56, k0_pay57]
  have s2 := st_k0_t3_succ (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) ⟨1, by omega⟩
  have s1 := st_k0_t3_succ (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) ⟨0, by omega⟩
  rw [hn]
  refine (Finset.sum_congr rfl fun s _ => ?_).trans (sum_lanes fun r => P (r + 2 + 5) l * D r l)
  rw [s2, trip3_1 c i arg1 h1 arg2 h2 arg3 h3 arg4 h4 arg5 h5 arg6 h6 arg7 h7 arg8 h8 arg9 h9 arg10 h10 arg11 h11 arg12 h12 X9 X10 X12 D P e9 e12 ⟨1, by omega⟩ _ s l]
  dsimp only at s1 ⊢
  rw [s1, trip3_1 c i arg1 h1 arg2 h2 arg3 h3 arg4 h4 arg5 h5 arg6 h6 arg7 h7 arg8 h8 arg9 h9 arg10 h10 arg11 h11 arg12 h12 X9 X10 X12 D P e9 e12 ⟨0, by omega⟩ _ s l]
  dsimp only
  rw [show st_k0_t3 (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) 0 = (k0_pay56, k0_pay57) from rfl, hz, zero_add]

include e9 e10 in
/-- The same for the last tap. -/
theorem lanes3 (l : Fin 1536) :
    ∑ s : Fin 8, (st_k0_t3 (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) (Scf.trips (0#32) (Scalar.addi 0#32 2#32) 1#32)).2 (ix2 s l)
      = dwv P D 3 l := by
  have hn : Scf.trips (0#32) (Scalar.addi 0#32 2#32) 1#32 = 1 + 1 := by decide
  have ht : 1 + 1 = k0_t3_loop.trips := by decide
  have hz : ∀ (s : Fin 8), ((k0_pay56, k0_pay57) : FVec Ideal S8x1536 .f32 × FVec Ideal S8x1536 .f32).2 (ix2 s l) = 0 := by
    intro s
    pointwise [k0_pay56, k0_pay57]
  have s2 := st_k0_t3_succ (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) ⟨1, by omega⟩
  have s1 := st_k0_t3_succ (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) ⟨0, by omega⟩
  rw [hn]
  refine (Finset.sum_congr rfl fun s _ => ?_).trans (sum_lanes fun r => P (r + 3 + 5) l * D r l)
  rw [s2, trip3_2 c i arg1 h1 arg2 h2 arg3 h3 arg4 h4 arg5 h5 arg6 h6 arg7 h7 arg8 h8 arg9 h9 arg10 h10 arg11 h11 arg12 h12 X9 X10 X12 D P e9 e10 ⟨1, by omega⟩ _ s l]
  dsimp only at s1 ⊢
  rw [s1, trip3_2 c i arg1 h1 arg2 h2 arg3 h3 arg4 h4 arg5 h5 arg6 h6 arg7 h7 arg8 h8 arg9 h9 arg10 h10 arg11 h11 arg12 h12 X9 X10 X12 D P e9 e10 ⟨0, by omega⟩ _ s l]
  dsimp only
  rw [show st_k0_t3 (F := Ideal) Variants.none c none i arg1 h1 arg2 h2 arg3 h3 arg4 h4 arg5 h5 arg6 h6 arg7 h7 arg8 h8 arg9 h9 arg10 h10 arg11 h11 arg12 h12 0#32 X9 X10 X12 (k0_pay56, k0_pay57) 0 = (k0_pay56, k0_pay57) from rfl, hz, zero_add]
  simp only [show ∀ a u b : ℕ, a + 8 * u + 8 + b = a + 8 * u + b + 3 + 5 from fun a u b => by omega]

end Loops

end Cert.SconvIdeal.Out
end
-- ==== Proof.SconvKer.lean ====
/- What one grid point of the gradient of the short convolution leaves in its three results. -/
module

public import proofs.«01_k».proof.Proof.Reals
public import proofs.«01_k».proof.Proof.SconvLoop
public import proofs.«01_k».proof.Proof.Gen.SconvIdeal.Value

@[expose] public section

set_option maxRecDepth 16384

noncomputable section

namespace Cert.SconvIdeal.Out

open Cert.SconvIdeal Cert.SconvIdeal.Gen Cert.Reals Idealize.ShloMosaic Idealize.ShloMosaic.TcCoe Idealize.SL.Sem

section Rows

variable {κ : Kind} {sp : Space} (v : View sig κ sp S8x1536 .f32) (f : v.ty.Contents (Elt Ideal))

/-- A load of one row reads that row. -/
theorem row_read (o : Fin 8) (off : Fin 2 → ℕ) (ho : off = ![o.val, 0]) (inb : ∀ a, off a + S1x1536.size a ≤ S8x1536.size a) (l : Fin 1536) :
    v.readAt (Elt Ideal) (Rect.unit (s := S8x1536) off S1x1536.size inb).toLoadRect f (ix2 (0 : Fin 1) l)
      = v.read (Elt Ideal) f (ix2 o l) := by
  subst ho
  rw [View.readAt_eq_ld]
  refine View.ld_unit_apply_of _ _ _ _ _ _ fun a => ?_
  fin_cases a
  · rfl
  · exact (Nat.zero_add _).symm

/-- The row stored last reads what was stored. -/
theorem row_hit (o : Fin 8) (off : Fin 2 → ℕ) (ho : off = ![o.val, 0]) (inb : ∀ a, off a + S1x1536.size a ≤ S8x1536.size a)
    (w : S1x1536.Idx → Elt Ideal .f32) (L : List (View.Piece (Elt Ideal) S8x1536 .f32)) (l : Fin 1536) :
    v.read (Elt Ideal) (v.writes (Elt Ideal) f (⟨Rect.unit (s := S8x1536) off S1x1536.size inb, w⟩ :: L)) (ix2 o l) = w (ix2 (0 : Fin 1) l) :=
  View.read_writes_cons_rows_of_mem v f inb w L (ix2 o l) (ix2 (0 : Fin 1) l) ho rfl rfl

/-- Another row reads what was there before. -/
theorem row_skip (o : ℕ) (off : Fin 2 → ℕ) (ho : off = ![o, 0]) (inb : ∀ a, off a + S1x1536.size a ≤ S8x1536.size a)
    (w : S1x1536.Idx → Elt Ideal .f32) (L : List (View.Piece (Elt Ideal) S8x1536 .f32)) (k : Fin 8) (hk : k.val < o ∨ o + 1 ≤ k.val) (l : Fin 1536) :
    v.read (Elt Ideal) (v.writes (Elt Ideal) f (⟨Rect.unit (s := S8x1536) off S1x1536.size inb, w⟩ :: L)) (ix2 k l)
      = v.read (Elt Ideal) (v.writes (Elt Ideal) f L) (ix2 k l) :=
  View.read_writes_cons_rows_of_not_mem v f inb w L (ix2 k l) ho rfl hk

/-- Four rows stored one after another over a buffer: they read what was stored, the rest what was there. -/
theorem four_rows (L : List (View.Piece (Elt Ideal) S8x1536 .f32)) (B G : Fin 8 → Fin 1536 → Elt Ideal .f32)
    (hB : ∀ k l, v.read (Elt Ideal) (v.writes (Elt Ideal) f L) (ix2 k l) = B k l) (w3 w2 w1 w0 : S1x1536.Idx → Elt Ideal .f32)
    (i3 : ∀ a, (![3, 0] : Fin 2 → ℕ) a + S1x1536.size a ≤ S8x1536.size a) (i2 : ∀ a, (![2, 0] : Fin 2 → ℕ) a + S1x1536.size a ≤ S8x1536.size a)
    (i1 : ∀ a, (![1, 0] : Fin 2 → ℕ) a + S1x1536.size a ≤ S8x1536.size a) (i0 : ∀ a, (![0, 0] : Fin 2 → ℕ) a + S1x1536.size a ≤ S8x1536.size a)
    (g0 : ∀ l, w0 (ix2 (0 : Fin 1) l) = G 0 l) (g1 : ∀ l, w1 (ix2 (0 : Fin 1) l) = G 1 l)
    (g2 : ∀ l, w2 (ix2 (0 : Fin 1) l) = G 2 l) (g3 : ∀ l, w3 (ix2 (0 : Fin 1) l) = G 3 l) (g : ∀ k l, 4 ≤ k.val → B k l = G k l)
    (k : Fin 8) (l : Fin 1536) :
    v.read (Elt Ideal) (v.writes (Elt Ideal) f (⟨Rect.unit (s := S8x1536) ![3, 0] S1x1536.size i3, w3⟩ :: ⟨Rect.unit (s := S8x1536) ![2, 0] S1x1536.size i2, w2⟩ ::
      ⟨Rect.unit (s := S8x1536) ![1, 0] S1x1536.size i1, w1⟩ :: ⟨Rect.unit (s := S8x1536) ![0, 0] S1x1536.size i0, w0⟩ :: L)) (ix2 k l) = G k l := by
  by_cases k3 : k = 3
  · rw [k3, ← g3]
    exact row_hit v f 3 _ rfl i3 w3 _ l
  rw [row_skip v f 3 _ rfl i3 w3 _ k (by omega) l]
  by_cases k2 : k = 2
  · rw [k2, ← g2]
    exact row_hit v f 2 _ rfl i2 w2 _ l
  rw [row_skip v f 2 _ rfl i2 w2 _ k (by omega) l]
  by_cases k1 : k = 1
  · rw [k1, ← g1]
    exact row_hit v f 1 _ rfl i1 w1 _ l
  rw [row_skip v f 1 _ rfl i1 w1 _ k (by omega) l]
  by_cases k0 : k = 0
  · rw [k0, ← g0]
    exact row_hit v f 0 _ rfl i0 w0 _ l
  rw [row_skip v f 0 _ rfl i0 w0 _ k (by omega) l, hB]
  exact g k l (by omega)

end Rows

/-- The weights' gradient after a point: what it was before and the point's part in its first four rows. -/
def dwNew (i : grid0.Coords) (x0 : Vec Ideal S256x1536 .f32) (x1 : Vec Ideal S8x1536 .f32) (x2 : Vec Ideal S256x1536 .f32) (x3 : Vec Ideal S8x1536 .f32)
    (old : Fin 8 → Fin 1536 → Elt Ideal .f32) (k : Fin 8) (l : Fin 1536) : Elt Ideal .f32 :=
  if k.val < 4 then old k l + dwv (bufX i x2 x3) (bufD i x0 x1) k.val l else old k l

/-- The weight rows as the loops read them. -/
def wrow (x4 : Vec Ideal S32x1536 .f32) (q : ℕ) (l : Fin 1536) : Elt Ideal .f32 := if h : q < 32 then x4 (ix2 ⟨q, h⟩ l) else 0

variable (c : Dev nD) (i : grid0.Coords) (arg1 : Memref sig .tc .vmem S256x1536 .f32) (h1 : arg1.IsWhole) (arg2 : Memref sig .tc .vmem S8x1536 .f32) (h2 : arg2.IsWhole) (arg3 : Memref sig .tc .vmem S256x1536 .f32) (h3 : arg3.IsWhole) (arg4 : Memref sig .tc .vmem S8x1536 .f32) (h4 : arg4.IsWhole) (arg5 : Memref sig .tc .vmem S32x1536 .f32) (h5 : arg5.IsWhole) (arg6 : Memref sig .tc .vmem S256x1536 .bf16) (h6 : arg6.IsWhole) (arg7 : Memref sig .tc .vmem S8x1536 .f32) (h7 : arg7.IsWhole) (arg8 : Memref sig .tc .vmem S1x1536 .f32) (h8 : arg8.IsWhole) (arg9 : Memref sig .tc .vmem S264x1536 .f32) (h9 : arg9.IsWhole) (arg10 : Memref sig .tc .vmem S264x1536 .f32) (h10 : arg10.IsWhole) (arg11 : Memref sig .tc .vmem S3x256x1536 .f32) (h11 : arg11.IsWhole) (arg12 : Memref sig .tc .vmem S3x256x1536 .f32) (h12 : arg12.IsWhole)
  (x0 : Vec Ideal S256x1536 .f32) (x1 : Vec Ideal S8x1536 .f32) (x2 : Vec Ideal S256x1536 .f32) (x3 : Vec Ideal S8x1536 .f32) (x4 : Vec Ideal S32x1536 .f32)

theorem e5 (q : Fin 32) (l : Fin 1536) : arg5.view.read (Elt Ideal) (h5.unread x4) (ix2 q l) = wrow x4 q.val l := by
  rw [h5.read_unread]
  unfold wrow
  rw [dif_pos q.isLt]

theorem out_A_5 (hc : cond0_0 i) (q : Fin 256) (l : Fin 1536) :
    out0_A_5 (F := Ideal) c i arg1 h1 arg2 h2 arg3 h3 arg4 h4 arg5 h5 arg6 h6 arg7 h7 arg8 h8 arg9 h9 arg10 h10 arg11 h11 arg12 h12 hc x0 x1 x2 x3 x4 (ix2 q l) = dxv (wrow x4) (bufD i x0 x1) q.val l := by
  unfold out0_A_5
  rw [View.read_writes_eq_canon _ _ _ (cover0_A_5 c i arg1 h1 arg2 h2 arg3 h3 arg4 h4 arg5 h5 arg6 h6 arg7 h7 arg8 h8 arg9 h9 arg10 h10 arg11 h11 arg12 h12 hc x0 x1 x2 x3 x4)]
  refine View.canon_apply_of_pieces (e := .bf16) (fun y : S256x1536.Idx => dxv (wrow x4) (bufD i x0 x1) (y 0).val (y 1)) _ ?_ (ix2 q l)
    (cover0_A_5 c i arg1 h1 arg2 h2 arg3 h3 arg4 h4 arg5 h5 arg6 h6 arg7 h7 arg8 h8 arg9 h9 arg10 h10 arg11 h11 arg12 h12 hc x0 x1 x2 x3 x4 (ix2 q l))
  unfold kernelRun0_A
  exact pieces1 c i arg1 h1 arg2 h2 arg3 h3 arg4 h4 arg5 h5 arg6 h6 arg7 h7 arg8 h8 arg9 h9 arg10 h10 arg11 h11 arg12 h12 _ _ _ (wrow x4) (bufD i x0 x1) (e5 arg5 h5 x4) (e9_A c i arg1 h1 arg2 h2 arg9 x0 x1) (e11_A c i arg1 h1 arg2 h2 arg9 arg11 x0 x1) _ (by decide)

theorem out_B_5 (hc : ¬cond0_0 i) (xo6 : Vec Ideal S8x1536 .f32) (xo7 : Vec Ideal S1x1536 .f32) (q : Fin 256) (l : Fin 1536) :
    out0_B_5 (F := Ideal) c i arg1 h1 arg2 h2 arg3 h3 arg4 h4 arg5 h5 arg6 h6 arg7 h7 arg8 h8 arg9 h9 arg10 h10 arg11 h11 arg12 h12 hc x0 x1 x2 x3 x4 xo6 xo7 (ix2 q l) = dxv (wrow x4) (bufD i x0 x1) q.val l := by
  unfold out0_B_5
  rw [View.read_writes_eq_canon _ _ _ (cover0_B_5 c i arg1 h1 arg2 h2 arg3 h3 arg4 h4 arg5 h5 arg6 h6 arg7 h7 arg8 h8 arg9 h9 arg10 h10 arg11 h11 arg12 h12 hc x0 x1 x2 x3 x4 xo6 xo7)]
  refine View.canon_apply_of_pieces (e := .bf16) (fun y : S256x1536.Idx => dxv (wrow x4) (bufD i x0 x1) (y 0).val (y 1)) _ ?_ (ix2 q l)
    (cover0_B_5 c i arg1 h1 arg2 h2 arg3 h3 arg4 h4 arg5 h5 arg6 h6 arg7 h7 arg8 h8 arg9 h9 arg10 h10 arg11 h11 arg12 h12 hc x0 x1 x2 x3 x4 xo6 xo7 (ix2 q l))
  unfold kernelRun0_B
  exact pieces1 c i arg1 h1 arg2 h2 arg3 h3 arg4 h4 arg5 h5 arg6 h6 arg7 h7 arg8 h8 arg9 h9 arg10 h10 arg11 h11 arg12 h12 _ _ _ (wrow x4) (bufD i x0 x1) (e5 arg5 h5 x4) (e9_B c i arg1 h1 arg2 h2 arg9 x0 x1) (e11_B c i arg1 h1 arg2 h2 arg9 arg11 x0 x1) _ (by decide)

theorem out_B_6 (hc : ¬cond0_0 i) (xo6 : Vec Ideal S8x1536 .f32) (xo7 : Vec Ideal S1x1536 .f32) (k : Fin 8) (l : Fin 1536) :
    out0_B_6 (F := Ideal) c i arg1 h1 arg2 h2 arg3 h3 arg4 h4 arg5 h5 arg6 h6 arg7 h7 arg8 h8 arg9 h9 arg10 h10 arg11 h11 arg12 h12 hc x0 x1 x2 x3 x4 xo6 xo7 (ix2 k l) = dwNew i x0 x1 x2 x3 (fun k l => xo6 (ix2 k l)) k l := by
  unfold out0_B_6 kernelRun0_B
  dsimp only
  refine four_rows arg7.view _ [] (fun k l => xo6 (ix2 k l)) (dwNew i x0 x1 x2 x3 (fun k l => xo6 (ix2 k l))) (fun k l => ?_) _ _ _ _ _ _ _ _
    (fun l => ?_) (fun l => ?_) (fun l => ?_) (fun l => ?_) (fun k l hk => ?_) k l
  · rw [View.writes_nil, h7.read_unread]
  · pointwise [k0_pay54]
    refine congrArg₂ (· + ·) ?_ (lanes0 c i arg1 h1 arg2 h2 arg3 h3 arg4 h4 arg5 h5 arg6 h6 arg7 h7 arg8 h8 arg9 h9 arg10 h10 arg11 h11 arg12 h12 _ _ (bufD i x0 x1) (bufX i x2 x3) (e9_B c i arg1 h1 arg2 h2 arg9 x0 x1) (e12_B c i arg3 h3 arg4 h4 arg10 arg12 x2 x3) l)
    skip
    refine (row_read arg7.view _ 0 _ rfl _ l).trans ?_
    rw [h7.read_unread]
  · pointwise [k0_pay55]
    refine congrArg₂ (· + ·) ?_ (lanes1 c i arg1 h1 arg2 h2 arg3 h3 arg4 h4 arg5 h5 arg6 h6 arg7 h7 arg8 h8 arg9 h9 arg10 h10 arg11 h11 arg12 h12 _ _ (bufD i x0 x1) (bufX i x2 x3) (e9_B c i arg1 h1 arg2 h2 arg9 x0 x1) (e12_B c i arg3 h3 arg4 h4 arg10 arg12 x2 x3) l)
    unfold kernelRun0_B.sl.v62
    refine (row_read arg7.view _ 1 _ rfl _ l).trans ?_
    rw [h7.read_unread]
  · pointwise [k0_pay59]
    refine congrArg₂ (· + ·) ?_ (lanes2 c i arg1 h1 arg2 h2 arg3 h3 arg4 h4 arg5 h5 arg6 h6 arg7 h7 arg8 h8 arg9 h9 arg10 h10 arg11 h11 arg12 h12 _ _ _ (bufD i x0 x1) (bufX i x2 x3) (e9_B c i arg1 h1 arg2 h2 arg9 x0 x1) (e12_B c i arg3 h3 arg4 h4 arg10 arg12 x2 x3) l)
    unfold kernelRun0_B.sl.v72
    refine (row_read arg7.view _ 2 _ rfl _ l).trans ?_
    rw [h7.read_unread]
  · pointwise [k0_pay1]
    refine congrArg₂ (· + ·) ?_ (lanes3 c i arg1 h1 arg2 h2 arg3 h3 arg4 h4 arg5 h5 arg6 h6 arg7 h7 arg8 h8 arg9 h9 arg10 h10 arg11 h11 arg12 h12 _ _ _ (bufD i x0 x1) (bufX i x2 x3) (e9_B c i arg1 h1 arg2 h2 arg9 x0 x1) (e10_B c i arg3 h3 arg4 h4 arg10 x2 x3) l)
    unfold kernelRun0_B.sl.v78
    refine (row_read arg7.view _ 3 _ rfl _ l).trans ?_
    rw [h7.read_unread]
  · exact (if_neg (by omega)).symm

/-- The weights' gradient block starts at zero. -/
theorem zero_base {κ : Kind} {sp : Space} (v : View sig κ sp S8x1536 .f32) (f : v.ty.Contents (Elt Ideal))
    (inb : ∀ a, (![0, 0] : Fin 2 → ℕ) a + S8x1536.size a ≤ S8x1536.size a) (k : Fin 8) (l : Fin 1536) :
    v.read (Elt Ideal) (v.writes (Elt Ideal) f [⟨Rect.unit (s := S8x1536) ![0, 0] S8x1536.size inb, k0_pay37 (F := Ideal)⟩]) (ix2 k l) = 0 := by
  refine (View.read_writes_cons_rows_of_mem v f inb _ _ (ix2 k l) (ix2 k l) rfl (Nat.zero_add _).symm rfl).trans ?_
  pointwise [k0_pay37]

theorem out_A_6 (hc : cond0_0 i) (k : Fin 8) (l : Fin 1536) :
    out0_A_6 (F := Ideal) c i arg1 h1 arg2 h2 arg3 h3 arg4 h4 arg5 h5 arg6 h6 arg7 h7 arg8 h8 arg9 h9 arg10 h10 arg11 h11 arg12 h12 hc x0 x1 x2 x3 x4 (ix2 k l) = dwNew i x0 x1 x2 x3 (fun _ _ => 0) k l := by
  unfold out0_A_6 kernelRun0_A
  dsimp only
  unfold kernelRun0_A.sl.r kernelRun0_A.sl.H6_4 kernelRun0_A.sl.H6_2
  refine four_rows VO0_6 _ _ (fun _ _ => 0) (dwNew i x0 x1 x2 x3 (fun _ _ => 0)) (fun k l => zero_base VO0_6 _ _ k l) _ _ _ _ _ _ _ _
    (fun l => ?_) (fun l => ?_) (fun l => ?_) (fun l => ?_) (fun k l hk => ?_) k l
  · pointwise [k0_pay54]
    refine congrArg₂ (· + ·) ?_ (lanes0 c i arg1 h1 arg2 h2 arg3 h3 arg4 h4 arg5 h5 arg6 h6 arg7 h7 arg8 h8 arg9 h9 arg10 h10 arg11 h11 arg12 h12 _ _ (bufD i x0 x1) (bufX i x2 x3) (e9_A c i arg1 h1 arg2 h2 arg9 x0 x1) (e12_A c i arg3 h3 arg4 h4 arg10 arg12 x2 x3) l)
    skip
    refine (row_read arg7.view _ 0 _ rfl _ l).trans ?_
    exact zero_base arg7.view _ _ 0 l
  · pointwise [k0_pay55]
    refine congrArg₂ (· + ·) ?_ (lanes1 c i arg1 h1 arg2 h2 arg3 h3 arg4 h4 arg5 h5 arg6 h6 arg7 h7 arg8 h8 arg9 h9 arg10 h10 arg11 h11 arg12 h12 _ _ (bufD i x0 x1) (bufX i x2 x3) (e9_A c i arg1 h1 arg2 h2 arg9 x0 x1) (e12_A c i arg3 h3 arg4 h4 arg10 arg12 x2 x3) l)
    unfold kernelRun0_A.sl.v62 kernelRun0_A.sl.H6_2
    refine (row_read arg7.view _ 1 _ rfl _ l).trans ?_
    refine (row_skip arg7.view _ 0 _ rfl _ _ _ 1 (by decide) l).trans ?_
    exact zero_base arg7.view _ _ 1 l
  · pointwise [k0_pay59]
    refine congrArg₂ (· + ·) ?_ (lanes2 c i arg1 h1 arg2 h2 arg3 h3 arg4 h4 arg5 h5 arg6 h6 arg7 h7 arg8 h8 arg9 h9 arg10 h10 arg11 h11 arg12 h12 _ _ _ (bufD i x0 x1) (bufX i x2 x3) (e9_A c i arg1 h1 arg2 h2 arg9 x0 x1) (e12_A c i arg3 h3 arg4 h4 arg10 arg12 x2 x3) l)
    unfold kernelRun0_A.sl.v72 kernelRun0_A.sl.H6_2
    refine (row_read arg7.view _ 2 _ rfl _ l).trans ?_
    refine (row_skip arg7.view _ 1 _ rfl _ _ _ 2 (by decide) l).trans ?_
    refine (row_skip arg7.view _ 0 _ rfl _ _ _ 2 (by decide) l).trans ?_
    exact zero_base arg7.view _ _ 2 l
  · pointwise [k0_pay1]
    refine congrArg₂ (· + ·) ?_ (lanes3 c i arg1 h1 arg2 h2 arg3 h3 arg4 h4 arg5 h5 arg6 h6 arg7 h7 arg8 h8 arg9 h9 arg10 h10 arg11 h11 arg12 h12 _ _ _ (bufD i x0 x1) (bufX i x2 x3) (e9_A c i arg1 h1 arg2 h2 arg9 x0 x1) (e10_A c i arg3 h3 arg4 h4 arg10 x2 x3) l)
    unfold kernelRun0_A.sl.v78 kernelRun0_A.sl.H6_4 kernelRun0_A.sl.H6_2
    refine (row_read arg7.view _ 3 _ rfl _ l).trans ?_
    refine (row_skip arg7.view _ 2 _ rfl _ _ _ 3 (by decide) l).trans ?_
    refine (row_skip arg7.view _ 1 _ rfl _ _ _ 3 (by decide) l).trans ?_
    refine (row_skip arg7.view _ 0 _ rfl _ _ _ 3 (by decide) l).trans ?_
    exact zero_base arg7.view _ _ 3 l
  · exact (if_neg (by omega)).symm

theorem out_B_7 (hc : ¬cond0_0 i) (xo6 : Vec Ideal S8x1536 .f32) (xo7 : Vec Ideal S1x1536 .f32) (l : Fin 1536) :
    out0_B_7 (F := Ideal) c i arg1 h1 arg2 h2 arg3 h3 arg4 h4 arg5 h5 arg6 h6 arg7 h7 arg8 h8 arg9 h9 arg10 h10 arg11 h11 arg12 h12 hc x0 x1 x2 x3 x4 xo6 xo7 (ix2 (0 : Fin 1) l) = xo7 (ix2 (0 : Fin 1) l) + ∑ r : Fin 256, x0 (ix2 r l) := by
  unfold out0_B_7 kernelRun0_B
  dsimp only
  refine (View.read_writes_cons_rows_of_mem VO0_7 _ _ _ _ (ix2 (0 : Fin 1) l) (ix2 (0 : Fin 1) l) rfl (Nat.zero_add _).symm rfl).trans ?_
  pointwise [k0_pay2]
  simp only [View.readAt_eq_ld, h8.read_unread, h1.read_unread]
  exact congrArg₂ (· + ·) (congrFun (View.ld_unit_zero (S := S1x1536) hz _ _) _)
    (Finset.sum_congr rfl fun r _ => congrFun (View.ld_unit_zero (S := S256x1536) hz _ _) _)

theorem out_A_7 (hc : cond0_0 i) (l : Fin 1536) :
    out0_A_7 (F := Ideal) c i arg1 h1 arg2 h2 arg3 h3 arg4 h4 arg5 h5 arg6 h6 arg7 h7 arg8 h8 arg9 h9 arg10 h10 arg11 h11 arg12 h12 hc x0 x1 x2 x3 x4 (ix2 (0 : Fin 1) l) = ∑ r : Fin 256, x0 (ix2 r l) := by
  unfold out0_A_7 kernelRun0_A
  dsimp only
  refine (View.read_writes_cons_rows_of_mem VO0_7 _ _ _ _ (ix2 (0 : Fin 1) l) (ix2 (0 : Fin 1) l) rfl (Nat.zero_add _).symm rfl).trans ?_
  have hv : kernelRun0_A.sl.v84 (F := Ideal) c arg8 (ix2 (0 : Fin 1) l) = 0 := by
    unfold kernelRun0_A.sl.v84 kernelRun0_A.sl.H7_1
    refine (View.ld_unit_apply_of _ _ _ _ _ (ix2 (0 : Fin 1) l) fun a => ?_).trans ?_
    · fin_cases a
      · rfl
      · exact (Nat.zero_add _).symm
    · refine (View.read_writes_cons_rows_of_mem arg8.view _ _ _ _ (ix2 (0 : Fin 1) l) (ix2 (0 : Fin 1) l) rfl (Nat.zero_add _).symm rfl).trans ?_
      pointwise [k0_pay38]
  pointwise [k0_pay2]
  rw [hv]
  simp only [View.readAt_eq_ld, h1.read_unread, zero_add]
  exact Finset.sum_congr rfl fun r _ => congrFun (View.ld_unit_zero (S := S256x1536) hz _ _) _

end Cert.SconvIdeal.Out
end
-- ==== Proof.SconvVal.lean ====
/- The kernel of the short convolution's gradient: its blocks, element by element. -/
module

public import proofs.«01_k».proof.Proof.SconvDef
public import proofs.«01_k».proof.Proof.SconvKer

@[expose] public section

set_option maxRecDepth 16384

noncomputable section

namespace Cert.SconvIdeal.Out

open Cert.SconvIdeal Cert.SconvIdeal.Gen Cert.Reals Cert.Sconv Idealize.ShloMosaic Idealize.ShloMosaic.TcCoe Idealize.SL.Sem

variable (m : (ℓ : Loc nD τ sig) → Buf (Elt Ideal) ℓ) (c : Dev nD)

/-- The input. -/
abbrev aX (r : Fin 4096) (l : Fin 1536) : EReal := (m ((c : Thread nD τ).loc main_arg0) : FVec Ideal S4096x1536 .f32) (ix2 r l)
/-- The taps. -/
abbrev aW (k : Fin 4) (l : Fin 1536) : EReal := (m ((c : Thread nD τ).loc main_arg1) : FVec Ideal S4x1536 .f32) (ix2 k l)
/-- The cotangent. -/
abbrev aD (r : Fin 4096) (l : Fin 1536) : EReal := (m ((c : Thread nD τ).loc main_arg3) : FVec Ideal S4096x1536 .f32) (ix2 r l)

/-- Every tap's row eight times over. -/
abbrev hW (w : FVec Ideal S4x1536 .f32) : FVec Ideal S32x1536 .f32 :=
  shapeCast S32x1536 (broadcastInDim S4x8x1536 ![0, 2] bcast_S4x1536_S4x8x1536_0_2 w) shapeCasts_S4x8x1536_S32x1536

theorem V1 : V m c main_v1 = hW (m ((c : Thread nD τ).loc main_arg1)) := by
  show StableHlo.after (List.flatten [hostOps0]) _ _ = _
  simp only [hostOps0, List.flatten_cons, List.flatten_nil, List.append_nil, List.cons_append, List.nil_append]
  after_results_simp <;> rfl

theorem hW_eq (w : FVec Ideal S4x1536 .f32) (q : Fin 32) (l : Fin 1536) : hW w (ix2 q l) = w (ix2 (⟨q.val / 8, by omega⟩ : Fin 4) l) := by
  unfold hW
  pointwise

theorem idx0 : ∀ t : Fin grid0.N, win0_0.index t 0 = t.val ∧ win0_0.index t 1 = 0 := by decide +kernel
theorem idx1 : ∀ t : Fin grid0.N, win0_1.index t 0 = min (32 * (t.val + 1)) 511 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 32 * t.val - 1 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem is_last : ∀ t : Fin grid0.N, Scalar.cmpi .eq (BitVec.ofNat 32 ((grid0.coords t) 0).val) 15#32 = if t.val = 15 then 1#1 else 0#1 := by decide +kernel
theorem is_first : ∀ t : Fin grid0.N, Scalar.cmpi .eq (BitVec.ofNat 32 ((grid0.coords t) 0).val) 0#32 = if t.val = 0 then 1#1 else 0#1 := by decide +kernel

theorem lt16 (t : Fin cfg0.N) : t.val < 16 := lt_of_lt_of_eq t.isLt N_0

theorem blk0 (t : Fin cfg0.N) (r : Fin 256) (l : Fin 1536) :
    (iblk m c 0 t : Vec Ideal S256x1536 .f32) (ix2 r l) = aD m c ⟨256 * t.val + r.val, by have := lt16 t; omega⟩ l := by
  unfold iblk
  rw [View.read_apply]
  show V m c main_arg3 _ = _
  rw [V_main_arg3]
  refine congrArg _ (funext fun a => Fin.ext ?_)
  match a with
  | ⟨0, _⟩ => show win0_0.index t 0 * 256 + 1 * r.val = 256 * t.val + r.val; rw [(idx0 t).1]; omega
  | ⟨1, _⟩ => show win0_0.index t 1 * 1536 + 1 * l.val = l.val; rw [(idx0 t).2]; omega

theorem blk1 (t : Fin cfg0.N) (r : Fin 8) (l : Fin 1536) :
    (iblk m c 1 t : Vec Ideal S8x1536 .f32) (ix2 r l) = aD m c ⟨8 * min (32 * (t.val + 1)) 511 + r.val, by omega⟩ l := by
  unfold iblk
  rw [View.read_apply]
  show V m c main_arg3 _ = _
  rw [V_main_arg3]
  refine congrArg _ (funext fun a => Fin.ext ?_)
  match a with
  | ⟨0, _⟩ => show win0_1.index t 0 * 8 + 1 * r.val = 8 * min (32 * (t.val + 1)) 511 + r.val; rw [(idx1 t).1]; omega
  | ⟨1, _⟩ => show win0_1.index t 1 * 1536 + 1 * l.val = l.val; rw [(idx1 t).2]; omega

theorem blk2 (t : Fin cfg0.N) (r : Fin 256) (l : Fin 1536) :
    (iblk m c 2 t : Vec Ideal S256x1536 .f32) (ix2 r l) = aX m c ⟨256 * t.val + r.val, by have := lt16 t; omega⟩ l := by
  unfold iblk
  rw [View.read_apply]
  show V m c main_arg0 _ = _
  rw [V_main_arg0]
  refine congrArg _ (funext fun a => Fin.ext ?_)
  match a with
  | ⟨0, _⟩ => show win0_2.index t 0 * 256 + 1 * r.val = 256 * t.val + r.val; rw [(idx2 t).1]; omega
  | ⟨1, _⟩ => show win0_2.index t 1 * 1536 + 1 * l.val = l.val; rw [(idx2 t).2]; omega

theorem blk3 (t : Fin cfg0.N) (r : Fin 8) (l : Fin 1536) :
    (iblk m c 3 t : Vec Ideal S8x1536 .f32) (ix2 r l) = aX m c ⟨8 * (32 * t.val - 1) + r.val, by have := lt16 t; omega⟩ l := by
  unfold iblk
  rw [View.read_apply]
  show V m c main_arg0 _ = _
  rw [V_main_arg0]
  refine congrArg _ (funext fun a => Fin.ext ?_)
  match a with
  | ⟨0, _⟩ => show win0_3.index t 0 * 8 + 1 * r.val = 8 * (32 * t.val - 1) + r.val; rw [(idx3 t).1]; omega
  | ⟨1, _⟩ => show win0_3.index t 1 * 1536 + 1 * l.val = l.val; rw [(idx3 t).2]; omega

theorem blk4 (t : Fin cfg0.N) (q : Fin 32) (l : Fin 1536) :
    (iblk m c 4 t : Vec Ideal S32x1536 .f32) (ix2 q l) = aW m c ⟨q.val / 8, by omega⟩ l := by
  unfold iblk
  rw [View.read_apply]
  show V m c main_v1 _ = _
  rw [V1]
  refine Eq.trans (congrArg _ (funext fun a => Fin.ext ?_)) (hW_eq _ q l)
  match a with
  | ⟨0, _⟩ => show win0_4.index t 0 * 32 + 1 * q.val = q.val; rw [(idx4 t).1]; omega
  | ⟨1, _⟩ => show win0_4.index t 1 * 1536 + 1 * l.val = l.val; rw [(idx4 t).2]; omega

/-- The rows after a point's own: zeroed at the last point. -/
theorem after_eq (t : Fin cfg0.N) (x : Vec Ideal S8x1536 .f32) (r : Fin 8) (l : Fin 1536) :
    k0_pay40 (F := Ideal) (grid0.coords t) x (ix2 r l) = if t.val = 15 then 0 else x (ix2 r l) := by
  pointwise [k0_pay40]
  rw [is_last t]
  split
  · simp [Scalar.select]
  · simp [Scalar.select]

/-- The rows before a point's own: zeroed at the first point. -/
theorem before_eq (t : Fin cfg0.N) (x : Vec Ideal S8x1536 .f32) (r : Fin 8) (l : Fin 1536) :
    k0_pay41 (F := Ideal) (grid0.coords t) x (ix2 r l) = if t.val = 0 then 0 else x (ix2 r l) := by
  pointwise [k0_pay41]
  rw [is_first t]
  split
  · simp [Scalar.select]
  · simp [Scalar.select]

/-- The cotangent's buffer holds the point's rows and the eight after them. -/
theorem bufD_eq (t : Fin cfg0.N) (q : ℕ) (hq : q < 264) (l : Fin 1536) :
    bufD (grid0.coords t) (iblk m c 0 t) (iblk m c 1 t) q l = dz (aD m c) (256 * t.val + q) l := by
  have ht := lt16 t
  unfold bufD dz
  by_cases h : q < 256
  · rw [dif_pos h, dif_pos (by omega)]
    exact blk0 m c t ⟨q, h⟩ l
  · rw [dif_neg h, dif_pos (by omega), after_eq]
    by_cases h15 : t.val = 15
    · rw [if_pos h15, dif_neg (by omega)]
    · rw [if_neg h15, dif_pos (by omega)]
      refine (blk1 m c t ⟨q - 256, by omega⟩ l).trans (congrArg (fun r => aD m c r l) (Fin.ext ?_))
      dsimp only
      omega

/-- The input's buffer holds the eight rows before the point's and its own. -/
theorem bufX_eq (t : Fin cfg0.N) (q : ℕ) (hq : q < 264) (l : Fin 1536) :
    bufX (grid0.coords t) (iblk m c 2 t) (iblk m c 3 t) q l = xq (aX m c) (256 * t.val + q) l := by
  have ht := lt16 t
  unfold bufX xq
  by_cases h : q < 8
  · rw [dif_pos h, before_eq]
    by_cases h0 : t.val = 0
    · rw [if_pos h0, dif_neg (by omega)]
    · rw [if_neg h0, dif_pos (by omega)]
      refine (blk3 m c t ⟨q, h⟩ l).trans (congrArg (fun r => aX m c r l) (Fin.ext ?_))
      dsimp only
      omega
  · rw [dif_neg h, dif_pos (by omega), dif_pos (by omega)]
    refine (blk2 m c t ⟨q - 8, by omega⟩ l).trans (congrArg (fun r => aX m c r l) (Fin.ext ?_))
    dsimp only
    omega

theorem wrow_eq (t : Fin cfg0.N) (k : Fin 4) (q : ℕ) (hq : q / 8 = k.val) (l : Fin 1536) : wrow (iblk m c 4 t) q l = aW m c k l := by
  unfold wrow
  rw [dif_pos (by omega)]
  exact (blk4 m c t ⟨q, by omega⟩ l).trans (congrArg (fun r => aW m c r l) (Fin.ext hq))

theorem dx_point (t : Fin cfg0.N) (q : Fin 256) (l : Fin 1536) :
    dxv (wrow (iblk m c 4 t)) (bufD (grid0.coords t) (iblk m c 0 t) (iblk m c 1 t)) q.val l = dx (aW m c) (aD m c) (256 * t.val + q.val) l := by
  unfold dxv dx
  rw [wrow_eq m c t 0 (q.val % 8) (by simp), wrow_eq m c t 1 (8 + q.val % 8) (by show _ = 1; omega), wrow_eq m c t 2 (16 + q.val % 8) (by show _ = 2; omega),
    wrow_eq m c t 3 (24 + q.val % 8) (by show _ = 3; omega), bufD_eq m c t _ (by omega), bufD_eq m c t _ (by omega), bufD_eq m c t _ (by omega), bufD_eq m c t _ (by omega)]
  simp only [Nat.add_assoc]

theorem out5 (t : Fin cfg0.N) (q : Fin 256) (l : Fin 1536) :
    (outsAt0 m c t.val t.isLt).1 (ix2 q l) = dx (aW m c) (aD m c) (256 * t.val + q.val) l := by
  by_cases h : t.val % 16 = 0
  · rw [outsAt0_A m c t h]; dsimp only; rw [out_A_5]; exact dx_point m c t q l
  · rw [outsAt0_B m c t h]; dsimp only; rw [out_B_5]; exact dx_point m c t q l

/-- A point's part of a tap's gradient. -/
theorem dw_point (t : Fin cfg0.N) (k : ℕ) (hk : k < 4) (l : Fin 1536) :
    dwv (bufX (grid0.coords t) (iblk m c 2 t) (iblk m c 3 t)) (bufD (grid0.coords t) (iblk m c 0 t) (iblk m c 1 t)) k l
      = ∑ r ∈ Finset.range 256, xq (aX m c) (256 * t.val + r + k + 5) l * dz (aD m c) (256 * t.val + r) l := by
  unfold dwv
  refine Finset.sum_congr rfl fun r hr => ?_
  have hr := Finset.mem_range.mp hr
  rw [bufX_eq m c t _ (by omega), bufD_eq m c t _ (by omega)]
  simp only [Nat.add_assoc]

theorem out6 (k : Fin 8) (l : Fin 1536) : ∀ (n : ℕ) (h : n < cfg0.N),
    (outsAt0 m c n h).2.1 (ix2 k l) = if k.val < 4 then dw (aX m c) (aD m c) k.val l (256 * (n + 1)) else 0 := by
  intro n
  induction n with
  | zero =>
    intro h
    rw [outsAt0_A m c ⟨0, h⟩ rfl]
    dsimp only
    rw [out_A_6]
    unfold dwNew
    by_cases hk : k.val < 4
    · rw [if_pos hk, if_pos hk, zero_add, dw_point m c ⟨0, h⟩ k.val hk l]
      unfold dw
      simp
    · rw [if_neg hk, if_neg hk]
  | succ n ih =>
    intro h
    have hN := lt16 ⟨n + 1, h⟩
    have i := ih (Nat.lt_of_succ_lt h)
    rw [outsAt0_B m c ⟨n + 1, h⟩ (by dsimp only at hN ⊢; omega)]
    dsimp only
    rw [out_B_6]
    unfold dwNew
    by_cases hk : k.val < 4
    · rw [if_pos hk, if_pos hk, dw_point m c ⟨n + 1, h⟩ k.val hk l]
      rw [if_pos hk] at i
      refine (congrArg (· + _) i).trans ?_
      unfold dw
      rw [show 256 * (n + 1 + 1) = 256 * (n + 1) + 256 by ring, Finset.sum_range_add]
    · rw [if_neg hk, if_neg hk]
      rw [if_neg hk] at i
      exact i

theorem db_sum (x : Vec Ideal S256x1536 .f32) (t : ℕ) (ht : t < 16) (D : Fin 4096 → Fin 1536 → EReal)
    (h : ∀ (r : Fin 256) l, x (ix2 r l) = D ⟨256 * t + r.val, by omega⟩ l) (l : Fin 1536) :
    ∑ r : Fin 256, x (ix2 r l) = ∑ r ∈ Finset.range 256, dz D (256 * t + r) l := by
  rw [Finset.sum_range]
  refine Finset.sum_congr rfl fun r _ => (h r l).trans ?_
  unfold dz
  rw [dif_pos (by omega)]

theorem out7 (l : Fin 1536) : ∀ (n : ℕ) (h : n < cfg0.N), (outsAt0 m c n h).2.2 (ix2 (0 : Fin 1) l) = db (aD m c) l (256 * (n + 1)) := by
  intro n
  induction n with
  | zero =>
    intro h
    rw [outsAt0_A m c ⟨0, h⟩ rfl]
    dsimp only
    rw [out_A_7]
    refine (db_sum _ 0 (by omega) (aD m c) (fun r l => blk0 m c ⟨0, h⟩ r l) l).trans ?_
    unfold db
    simp
  | succ n ih =>
    intro h
    have hN := lt16 ⟨n + 1, h⟩
    have i := ih (Nat.lt_of_succ_lt h)
    rw [outsAt0_B m c ⟨n + 1, h⟩ (by dsimp only at hN ⊢; omega)]
    dsimp only
    rw [out_B_7]
    refine (congrArg₂ (· + ·) i (db_sum _ (n + 1) hN (aD m c) (fun r l => blk0 m c ⟨n + 1, h⟩ r l) l)).trans ?_
    unfold db
    rw [show 256 * (n + 1 + 1) = 256 * (n + 1) + 256 by ring, Finset.sum_range_add]

end Cert.SconvIdeal.Out

end
-- ==== Proof.SconvFin.lean ====
/- The kernel of the short convolution's gradient: its three result arrays after the run. -/
module

public import proofs.«01_k».proof.Proof.SconvVal

@[expose] public section

set_option maxRecDepth 16384

noncomputable section

namespace Cert.SconvIdeal.Out

open Cert.SconvIdeal Cert.SconvIdeal.Gen Cert.Sconv Idealize.ShloMosaic Idealize.ShloMosaic.TcCoe Idealize.SL.Sem

variable (m : (ℓ : Loc nD τ sig) → Buf (Elt Ideal) ℓ) (c : Dev nD)

/-- The grid point that computes row `R`. -/
def ptR (R : Fin 4096) : Fin cfg0.N := ⟨R.val / 256, by rw [show cfg0.N = 16 from N_0]; omega⟩

theorem dx_final : (dats m 0 c).arrAt 5 cfg0.N = (fun i => dx (aW m c) (aD m c) (i 0).val (i 1) : FVec Ideal S4096x1536 .bf16) := by
  refine (dats m 0 c).arrAt_eq_of_cover 5 (fun i => dx (aW m c) (aD m c) (i 0).val (i 1) : FVec Ideal S4096x1536 .bf16) (fun t hf => ?_) fun i => ⟨ptR (i 0), flush0_5 _, ?_⟩
  · rw [Value.flushed5]
    refine funext fun y => ?_
    rw [View.read_apply]
    refine Eq.trans (congrArg _ (eq_ix2 (n0 := 256) (n1 := 1536) y)) ((out5 m c t (y 0) (y 1)).trans ?_)
    refine congrArg₂ (fun p q => dx (aW m c) (aD m c) p q) ?_ (Fin.ext ?_)
    · show 256 * t.val + (y 0).val = win0_5.index t 0 * 256 + 1 * (y 0).val; rw [(idx5 t).1]; omega
    · show (y 1).val = win0_5.index t 1 * 1536 + 1 * (y 1).val; rw [(idx5 t).2]; omega
  · show i ∈ ((View.whole main_v2_0).slice (win0_5.rect (ptR (i 0)))).set
    rw [View.set_slice_whole, Rect.mem_set_unit]
    intro a
    have h0 : (i 0 : Nat) < 4096 := (i 0).isLt
    have h1 : (i 1 : Nat) < 1536 := (i 1).isLt
    have hi : win0_5.index (ptR (i 0)) 0 = (i 0 : Nat) / 256 := (idx5 _).1
    match a with
    | ⟨0, _⟩ => show win0_5.index (ptR (i 0)) 0 * 256 ≤ (i 0 : Nat) ∧ (i 0 : Nat) < win0_5.index (ptR (i 0)) 0 * 256 + 256
                rw [hi]; omega
    | ⟨1, _⟩ => show win0_5.index (ptR (i 0)) 1 * 1536 ≤ (i 1 : Nat) ∧ (i 1 : Nat) < win0_5.index (ptR (i 0)) 1 * 1536 + 1536
                rw [(idx5 _).2]; omega

/-- The last grid point. -/
def tEnd : Fin cfg0.N := ⟨15, by rw [show cfg0.N = 16 from N_0]; omega⟩

theorem last (t : Fin cfg0.N) (h : t.val % 16 = 15) : t = tEnd := by
  have := lt16 t
  exact Fin.ext (by show t.val = 15; omega)

/-- The gradient of the taps: the one block, written back after the last point. -/
theorem dw_block : (dats m 0 c).arrAt 6 cfg0.N = (outsAt0 m c tEnd.val tEnd.isLt).2.1 := by
  refine (dats m 0 c).arrAt_eq_of_cover 6 (outsAt0 m c tEnd.val tEnd.isLt).2.1 (fun t hf => ?_) fun i => ⟨tEnd, (flush0_6 tEnd).mpr rfl, ?_⟩
  · obtain rfl := last t ((flush0_6 t).mp hf)
    rw [Value.flushed6]
    have hz' : (fun a => win0_6.index tEnd a * main_v2_1.ty.shape.size a) = fun _ => 0 := funext fun a => match a with
      | ⟨0, _⟩ => by show win0_6.index tEnd 0 * _ = 0; rw [(idx6 _).1, zero_mul]
      | ⟨1, _⟩ => by show win0_6.index tEnd 1 * _ = 0; rw [(idx6 _).2, zero_mul]
    exact (Memref.read_access_unit_zero (Elt Ideal) main_v2_1 hz' (fun a => by rw [congrFun hz' a]; simp) _).symm
  · show i ∈ ((View.whole main_v2_1).slice (win0_6.rect tEnd)).set
    rw [View.set_slice_whole, Rect.mem_set_unit]
    intro a
    have h0 : (i 0 : Nat) < 8 := (i 0).isLt
    have h1 : (i 1 : Nat) < 1536 := (i 1).isLt
    match a with
    | ⟨0, _⟩ => show win0_6.index tEnd 0 * 8 ≤ (i 0 : Nat) ∧ (i 0 : Nat) < win0_6.index tEnd 0 * 8 + 8
                rw [(idx6 _).1]; omega
    | ⟨1, _⟩ => show win0_6.index tEnd 1 * 1536 ≤ (i 1 : Nat) ∧ (i 1 : Nat) < win0_6.index tEnd 1 * 1536 + 1536
                rw [(idx6 _).2]; omega

theorem dw_final (k : Fin 8) (l : Fin 1536) : ((dats m 0 c).arrAt 6 cfg0.N : FVec Ideal S8x1536 .f32) (ix2 k l)
    = if k.val < 4 then dw (aX m c) (aD m c) k.val l 4096 else 0 := by
  rw [dw_block]
  exact out6 m c k l 15 tEnd.isLt

/-- The gradient of the offset: the one block, written back after the last point. -/
theorem db_block : (dats m 0 c).arrAt 7 cfg0.N = (outsAt0 m c tEnd.val tEnd.isLt).2.2 := by
  refine (dats m 0 c).arrAt_eq_of_cover 7 (outsAt0 m c tEnd.val tEnd.isLt).2.2 (fun t hf => ?_) fun i => ⟨tEnd, (flush0_7 tEnd).mpr rfl, ?_⟩
  · obtain rfl := last t ((flush0_7 t).mp hf)
    rw [Value.flushed7]
    have hz' : (fun a => win0_7.index tEnd a * main_v2_2.ty.shape.size a) = fun _ => 0 := funext fun a => match a with
      | ⟨0, _⟩ => by show win0_7.index tEnd 0 * _ = 0; rw [(idx7 _).1, zero_mul]
      | ⟨1, _⟩ => by show win0_7.index tEnd 1 * _ = 0; rw [(idx7 _).2, zero_mul]
    exact (Memref.read_access_unit_zero (Elt Ideal) main_v2_2 hz' (fun a => by rw [congrFun hz' a]; simp) _).symm
  · show i ∈ ((View.whole main_v2_2).slice (win0_7.rect tEnd)).set
    rw [View.set_slice_whole, Rect.mem_set_unit]
    intro a
    have h0 : (i 0 : Nat) < 1 := (i 0).isLt
    have h1 : (i 1 : Nat) < 1536 := (i 1).isLt
    match a with
    | ⟨0, _⟩ => show win0_7.index tEnd 0 * 1 ≤ (i 0 : Nat) ∧ (i 0 : Nat) < win0_7.index tEnd 0 * 1 + 1
                rw [(idx7 _).1]; omega
    | ⟨1, _⟩ => show win0_7.index tEnd 1 * 1536 ≤ (i 1 : Nat) ∧ (i 1 : Nat) < win0_7.index tEnd 1 * 1536 + 1536
                rw [(idx7 _).2]; omega

theorem db_final (z : Fin 1) (l : Fin 1536) : ((dats m 0 c).arrAt 7 cfg0.N : FVec Ideal S1x1536 .f32) (ix2 z l) = db (aD m c) l 4096 := by
  obtain rfl : z = 0 := Subsingleton.elim _ _
  rw [db_block]
  exact out7 m c l 15 tEnd.isLt

end Cert.SconvIdeal.Out

end
-- ==== Proof.SconvRef.lean ====
/- The reference of the short convolution's gradient, read element by element. -/
module

public import proofs.«01_k».proof.Proof.SconvDef
public import proofs.«01_k».proof.Proof.Gen.SconvRefIdeal.Read

@[expose] public section

set_option maxRecDepth 16384

noncomputable section

namespace Cert.SconvRefIdeal.Val

open Cert.SconvRefIdeal Cert.SconvRefIdeal.Gen Cert.SconvRefIdeal.Read Cert.Reals Cert.Sconv Idealize.ShloMosaic

variable {x0 x3 : FVec Ideal S4096x1536 .f32} {x1 : FVec Ideal S4x1536 .f32}

theorem v1_eq (j : Fin 4099) (l : Fin 1536) : val_main_v1 (F := Ideal) x0 (ix2 j l) = xq (fun r l => x0 (ix2 r l)) (j.val + 5) l := by
  pointwise [val_main_v1, val_main_v0, val_main_cst]
  unfold xq
  by_cases h : j.val < 3
  · rw [dif_pos h, dif_neg (by omega)]
  · rw [dif_neg h, dif_pos (by omega)]
    exact congrArg (fun r => x0 (ix2 r l)) (Fin.ext (by dsimp only; omega))

/-- A product that stands only where its row exists. -/
theorem tap (P : Prop) [Decidable P] (i : P → Fin 4096) (k : ℕ) (w : EReal) (l : Fin 1536) (hp : P ↔ k < 4096) (hi : ∀ h, (i h).val = k) :
    (if h : P then x3 (ix2 (i h) l) * w else 0) = w * dz (fun r l => x3 (ix2 r l)) k l := by
  unfold dz
  by_cases h : P
  · rw [dif_pos h, dif_pos (hp.mp h), mul_comm]
    exact congrArg (fun r => w * x3 (ix2 r l)) (Fin.ext (hi h))
  · rw [dif_neg h, dif_neg (fun g => h (hp.mpr g)), mul_zero]

theorem v81_eq (n : Fin 4096) (l : Fin 1536) :
    val_main_v81 (F := Ideal) x1 x3 (ix2 n l) = dx (fun k l => x1 (ix2 k l)) (fun r l => x3 (ix2 r l)) n.val l := by
  pointwise [val_main_v81, val_main_v80, val_main_v78, val_main_v77, val_main_v67, val_main_v66, val_main_v56, val_main_v55, val_main_v45, val_main_v72, val_main_v61, val_main_v50, val_main_v41,
    val_main_v33, val_main_v71, val_main_v60, val_main_v49, val_main_v40, val_main_v6, val_main_v5, val_main_v4, val_main_v12, val_main_v11, val_main_v10, val_main_v19, val_main_v18, val_main_v17,
    val_main_v26, val_main_v25, val_main_v24, val_main_cst_4, val_main_cst_6, val_main_cst_10, val_main_cst_14, val_main_cst_18]
  have e3 : x3 (ix2 n l) * x1 (ix2 3 l) = x1 (ix2 3 l) * dz (fun r l => x3 (ix2 r l)) n.val l := by
    unfold dz
    rw [dif_pos n.isLt, mul_comm]
  refine (congrArg₂ (· + ·) (congrArg₂ (· + ·) (congrArg₂ (· + ·) e3 (tap _ _ (n.val + 1) _ l ?_ ?_)) (tap _ _ (n.val + 2) _ l ?_ ?_)) (tap _ _ (n.val + 3) _ l ?_ ?_)).trans ?_
  · omega
  · intro h; dsimp only; omega
  · omega
  · intro h; dsimp only; omega
  · omega
  · intro h; dsimp only; omega
  · unfold dx
    abel

theorem v84_eq (z : Fin 1) (l : Fin 1536) : val_main_v84 (F := Ideal) x3 (ix2 z l) = db (fun r l => x3 (ix2 r l)) l 4096 := by
  rw [db_all]
  pointwise [val_main_v84, val_main_v36, val_main_v35, val_main_v34, val_main_cst_1, val_main_cst_2]
  simp

theorem v83_eq (k : Fin 8) (l : Fin 1536) :
    val_main_v83 (F := Ideal) x0 x3 (ix2 k l) = if k.val < 4 then dw (fun r l => x0 (ix2 r l)) (fun r l => x3 (ix2 r l)) k.val l 4096 else 0 := by
  rw [dw_all]
  have e := v1_eq (x0 := x0)
  pointwise [val_main_v83, val_main_v82, val_main_v76, val_main_v75, val_main_v74, val_main_v73, val_main_v70, val_main_v69, val_main_v68, val_main_v3, val_main_v33,
    val_main_v65, val_main_v64, val_main_v63, val_main_v62, val_main_v59, val_main_v58, val_main_v57, val_main_v9,
    val_main_v54, val_main_v53, val_main_v52, val_main_v51, val_main_v48, val_main_v47, val_main_v46, val_main_v16,
    val_main_v44, val_main_v43, val_main_v42, val_main_v39, val_main_v38, val_main_v37, val_main_v23,
    val_main_cst_3, val_main_cst_4, val_main_cst_5, val_main_cst_7, val_main_cst_8, val_main_cst_9, val_main_cst_11, val_main_cst_12, val_main_cst_13, val_main_cst_15, val_main_cst_16, val_main_cst_17, val_main_cst_19]
  simp only [e]
  match k with
  | ⟨0, _⟩ => simp [Nat.add_comm]
  | ⟨1, _⟩ => simp [Nat.add_comm]
  | ⟨2, _⟩ => simp [Nat.add_comm]
  | ⟨3, _⟩ => simp [Nat.add_comm]
  | ⟨n + 4, _⟩ => rw [dif_neg (by simp), if_neg (by simp)]

end Cert.SconvRefIdeal.Val

end
-- ==== Proof.SconvClaim.lean ====
/- The short convolution's gradient: kernel and reference leave the same three arrays. -/
module

public import proofs.«01_k».proof.Defs
public import proofs.«01_k».proof.Proof.SconvFin
public import proofs.«01_k».proof.Proof.SconvRef
public import proofs.«01_k».proof.Proof.Gen.SconvRefIdeal.Run

@[expose] public section

set_option maxRecDepth 16384

noncomputable section

namespace Cert.Sconv

open Idealize.ShloMosaic Idealize.ShloMosaic.TcCoe Idealize.SL.Sem

theorem algebraic : Cert.algebraic_SconvIdeal_SconvRefIdeal := by
  intro m g m' g' _ hargs
  refine ⟨fun c => (Cert.SconvIdeal.Gen.dats m 0 c).arrAt 5 Cert.SconvIdeal.cfg0.N, fun c => (Cert.SconvIdeal.Gen.dats m 0 c).arrAt 6 Cert.SconvIdeal.cfg0.N,
    fun c => (Cert.SconvIdeal.Gen.dats m 0 c).arrAt 7 Cert.SconvIdeal.cfg0.N, Cert.SconvIdeal.Value.run_blocks m g, ?_⟩
  refine (θ_run Cert.SconvRefIdeal.defs _ _).mono (fun r h c => ?_) (Cert.SconvRefIdeal.Value.run m' g')
  obtain ⟨e0, e1, e2, kept⟩ := h c
  obtain ⟨b0, b1, b2, b3⟩ := hargs c
  have h0 := fun r l => congrFun b0 (ix2 r l)
  have h1 := fun k l => congrFun b1 (ix2 k l)
  have h3 := fun r l => congrFun b3 (ix2 r l)
  have hX : _ = Cert.SconvIdeal.Out.aX m c := funext fun r => funext fun l => h0 r l
  have hW : _ = Cert.SconvIdeal.Out.aW m c := funext fun k => funext fun l => h1 k l
  have hD : _ = Cert.SconvIdeal.Out.aD m c := funext fun r => funext fun l => h3 r l
  clear hargs h
  refine ⟨(e0.trans (Cert.SconvRefIdeal.Read.val_main_v81_eq _ _)).trans ?_, (e1.trans (Cert.SconvRefIdeal.Read.val_main_v83_eq _ _)).trans ?_,
    (e2.trans (Cert.SconvRefIdeal.Read.val_main_v84_eq _)).trans ?_, kept⟩
  · funext y
    obtain ⟨i, j, rfl⟩ : ∃ (i : Fin 4096) (j : Fin 1536), y = ix2 i j := ⟨_, _, eq_ix2 (n0 := 4096) (n1 := 1536) y⟩
    refine (Cert.SconvRefIdeal.Val.v81_eq i j).trans ?_
    refine Eq.trans ?_ (congrFun (Cert.SconvIdeal.Out.dx_final m c) (ix2 i j)).symm
    exact congrArg₂ (fun W D => dx W D i.val j) hW hD
  · funext y
    obtain ⟨i, j, rfl⟩ : ∃ (i : Fin 8) (j : Fin 1536), y = ix2 i j := ⟨_, _, eq_ix2 (n0 := 8) (n1 := 1536) y⟩
    refine (Cert.SconvRefIdeal.Val.v83_eq i j).trans (Eq.trans ?_ (Cert.SconvIdeal.Out.dw_final m c i j).symm)
    exact congrArg₂ (fun X D => if i.val < 4 then dw X D i.val j 4096 else 0) hX hD
  · funext y
    obtain ⟨i, j, rfl⟩ : ∃ (i : Fin 1) (j : Fin 1536), y = ix2 i j := ⟨_, _, eq_ix2 (n0 := 1) (n1 := 1536) y⟩
    refine (Cert.SconvRefIdeal.Val.v84_eq i j).trans (Eq.trans ?_ (Cert.SconvIdeal.Out.db_final m c i j).symm)
    exact congrArg (fun D => db D j 4096) hD

end Cert.Sconv

end
-- ==== Proof.FconvKer.lean ====
/- One grid point of the short convolution: what its buffers hold, one trip of its loop, and the rows it leaves. -/
module

public import proofs.«01_k».proof.Proof.Reals
public import Idealize.ShloMosaic.Lib.Pipeline.ValueKit.Tiles
public import Idealize.ShloMosaic.Lib.WritesUnit
public import proofs.«01_k».proof.Proof.Gen.FconvIdeal.Value

@[expose] public section

set_option maxRecDepth 16384

noncomputable section

namespace Cert.FconvIdeal.Out

open Cert.FconvIdeal Cert.FconvIdeal.Gen Cert.Reals Idealize.ShloMosaic Idealize.ShloMosaic.TcCoe Idealize.SL.Sem

/-- A load of rows from a scratch buffer of rows reads the rows from its offset on. -/
theorem rd2 {n m : ℕ} {arg : Memref sig .tc .vmem ⟨2, ![n, 1536]⟩ .f32} (X : BufTy.Contents (Elt Ideal) arg.view.ty)
    (D : ℕ → Fin 1536 → Elt Ideal .f32) (hD : ∀ (q : Fin n) (l : Fin 1536), arg.view.read (Elt Ideal) X (ix2 q l) = D q.val l)
    (off : Fin 2 → ℕ) (inb : ∀ a, off a + (![m, 1536] : Fin 2 → ℕ) a ≤ (![n, 1536] : Fin 2 → ℕ) a) (o : ℕ) (ho : off = ![o, 0])
    (s : Fin m) (l : Fin 1536) :
    View.readAt (Elt Ideal) arg.view (Rect.unit (s := ⟨2, ![n, 1536]⟩) off ![m, 1536] inb).toLoadRect X (ix2 s l) = D (o + s.val) l := by
  subst ho
  have hq : o + s.val < n := by
    have h := inb 0
    have hs := s.isLt
    simp only [Matrix.cons_val_zero] at h
    omega
  rw [View.readAt_eq_ld, ← hD ⟨o + s.val, hq⟩ l]
  refine View.ld_unit_apply_of _ _ _ _ _ _ fun a => ?_
  fin_cases a
  · rfl
  · exact (Nat.zero_add _).symm

/-- A load of rows of one plane of a phase buffer reads that plane's rows from its offset on. -/
theorem rd3 {arg : Memref sig .tc .vmem S3x256x1536 .f32} (X : BufTy.Contents (Elt Ideal) arg.view.ty)
    (D : ℕ → ℕ → Fin 1536 → Elt Ideal .f32)
    (hD : ∀ (p : Fin 3) (q : Fin 256) (l : Fin 1536), arg.view.read (Elt Ideal) X (ix3 p q l) = D p.val q.val l)
    (off : Fin 3 → ℕ) (inb : ∀ a, off a + (![1, 8, 1536] : Fin 3 → ℕ) a ≤ (![3, 256, 1536] : Fin 3 → ℕ) a) (p o : ℕ)
    (ho : off = ![p, o, 0]) (s : Fin 8) (l : Fin 1536) :
    View.readAt (Elt Ideal) arg.view (Rect.unit (s := S3x256x1536) off ![1, 8, 1536] inb).toLoadRect X (ix3 (0 : Fin 1) s l)
      = D p (o + s.val) l := by
  subst ho
  have hq : o + s.val < 256 := by
    have h := inb 1
    have hs := s.isLt
    simp only [Matrix.cons_val_one, Matrix.cons_val_zero] at h
    omega
  have hp : p < 3 := by
    have h := inb 0
    simp only [Matrix.cons_val_zero] at h
    omega
  rw [View.readAt_eq_ld, ← hD ⟨p, hp⟩ ⟨o + s.val, hq⟩ l]
  refine View.ld_unit_apply_of _ _ _ _ _ _ fun a => ?_
  fin_cases a
  · rfl
  · rfl
  · exact (Nat.zero_add _).symm

/-- A buffer of rows filled by two stores, the first rows by the older one, reads the one or the other. -/
theorem two_rows {n a b : ℕ} (hn : a + b = n) {arg : Memref sig .tc .vmem ⟨2, ![n, 1536]⟩ .f32} (f : BufTy.Contents (Elt Ideal) arg.view.ty)
    (i1 : ∀ k, (![a, 0] : Fin 2 → ℕ) k + (![b, 1536] : Fin 2 → ℕ) k ≤ (![n, 1536] : Fin 2 → ℕ) k)
    (i0 : ∀ k, (![0, 0] : Fin 2 → ℕ) k + (![a, 1536] : Fin 2 → ℕ) k ≤ (![n, 1536] : Fin 2 → ℕ) k)
    (w1 : (⟨2, ![b, 1536]⟩ : Shape).Idx → Elt Ideal .f32) (w0 : (⟨2, ![a, 1536]⟩ : Shape).Idx → Elt Ideal .f32)
    (q : Fin n) (l : Fin 1536) :
    arg.view.read (Elt Ideal) (arg.view.writes (Elt Ideal) f
      [⟨Rect.unit (s := ⟨2, ![n, 1536]⟩) ![a, 0] ![b, 1536] i1, w1⟩, ⟨Rect.unit (s := ⟨2, ![n, 1536]⟩) ![0, 0] ![a, 1536] i0, w0⟩]) (ix2 q l)
      = if h : q.val < a then w0 (ix2 ⟨q.val, h⟩ l) else w1 (ix2 ⟨q.val - a, by omega⟩ l) := by
  by_cases h : q.val < a
  · rw [dif_pos h, View.read_writes_cons_rows_of_not_mem arg.view f i1 w1 _ (ix2 q l) rfl rfl (Or.inl h)]
    exact View.read_writes_cons_rows_of_mem arg.view f i0 w0 _ (ix2 q l) (ix2 ⟨q.val, h⟩ l) rfl (Nat.zero_add _).symm rfl
  · rw [dif_neg h]
    exact View.read_writes_cons_rows_of_mem arg.view f i1 w1 _ (ix2 q l) (ix2 ⟨q.val - a, by omega⟩ l) rfl
      (show q.val = a + (q.val - a) by omega) rfl

/-- A phase buffer filled plane by plane reads the plane's own store. -/
theorem three_planes {arg : Memref sig .tc .vmem S3x256x1536 .f32} (f : BufTy.Contents (Elt Ideal) arg.view.ty)
    (i2 : ∀ k, (![2, 0, 0] : Fin 3 → ℕ) k + (![1, 256, 1536] : Fin 3 → ℕ) k ≤ (![3, 256, 1536] : Fin 3 → ℕ) k)
    (i1 : ∀ k, (![1, 0, 0] : Fin 3 → ℕ) k + (![1, 256, 1536] : Fin 3 → ℕ) k ≤ (![3, 256, 1536] : Fin 3 → ℕ) k)
    (i0 : ∀ k, (![0, 0, 0] : Fin 3 → ℕ) k + (![1, 256, 1536] : Fin 3 → ℕ) k ≤ (![3, 256, 1536] : Fin 3 → ℕ) k)
    (w2 w1 w0 : S1x256x1536.Idx → Elt Ideal .f32) (G : ℕ → ℕ → Fin 1536 → Elt Ideal .f32)
    (g0 : ∀ q l, w0 (ix3 (0 : Fin 1) q l) = G 0 q.val l) (g1 : ∀ q l, w1 (ix3 (0 : Fin 1) q l) = G 1 q.val l)
    (g2 : ∀ q l, w2 (ix3 (0 : Fin 1) q l) = G 2 q.val l) (p : Fin 3) (q : Fin 256) (l : Fin 1536) :
    arg.view.read (Elt Ideal) (arg.view.writes (Elt Ideal) f
      [⟨Rect.unit (s := S3x256x1536) ![2, 0, 0] ![1, 256, 1536] i2, w2⟩, ⟨Rect.unit (s := S3x256x1536) ![1, 0, 0] ![1, 256, 1536] i1, w1⟩,
        ⟨Rect.unit (s := S3x256x1536) ![0, 0, 0] ![1, 256, 1536] i0, w0⟩]) (ix3 p q l) = G p.val q.val l := by
  have at_ : ∀ (o : ℕ) (p : Fin 3) (_ : p.val = o) (x : S1x256x1536.Idx) (_ : x = ix3 (0 : Fin 1) q l),
      ∀ a, ((ix3 p q l : S3x256x1536.Idx) a).val = (![o, 0, 0] : Fin 3 → ℕ) a + (x a).val := by
    intro o p hp x hx a
    subst hx hp
    fin_cases a
    · rfl
    · exact (Nat.zero_add _).symm
    · exact (Nat.zero_add _).symm
  fin_cases p
  · rw [View.read_writes_cons_unit_of_not_mem arg.view f i2 w2 _ _ rfl (0 : Fin 3) (Or.inl (by show 0 < 2; omega)),
      View.read_writes_cons_unit_of_not_mem arg.view f i1 w1 _ _ rfl (0 : Fin 3) (Or.inl (by show 0 < 1; omega)), ← g0]
    exact View.read_writes_cons_unit_of_mem arg.view f i0 w0 _ _ (ix3 (0 : Fin 1) q l) rfl (at_ 0 0 rfl _ rfl)
  · rw [View.read_writes_cons_unit_of_not_mem arg.view f i2 w2 _ _ rfl (0 : Fin 3) (Or.inl (by show 1 < 2; omega)), ← g1]
    exact View.read_writes_cons_unit_of_mem arg.view f i1 w1 _ _ (ix3 (0 : Fin 1) q l) rfl (at_ 1 1 rfl _ rfl)
  · rw [← g2]
    exact View.read_writes_cons_unit_of_mem arg.view f i2 w2 _ _ (ix3 (0 : Fin 1) q l) rfl (at_ 2 2 rfl _ rfl)

/-- The rows of the input's buffer at one grid point: the point before's last rows, zeroed at the first point, then its own 256 rows. -/
def bufX (i : grid0.Coords) (x0 : Vec Ideal S256x1536 .f32) (x1 : Vec Ideal S8x1536 .f32) (q : ℕ) (l : Fin 1536) : Elt Ideal .f32 :=
  if h : q < 8 then k0_pay7 (F := Ideal) i x1 (ix2 ⟨q, h⟩ l) else if h : q - 8 < 256 then x0 (ix2 ⟨q - 8, h⟩ l) else 0

/-- A row of the convolution from the rows of the input's buffer, the repeated weight rows and the offset. -/
def yv (W P : ℕ → Fin 1536 → Elt Ideal .f32) (b : Fin 1536 → Elt Ideal .f32) (q : ℕ) (l : Fin 1536) : Elt Ideal .f32 :=
  W (q % 8) l * P (q + 5) l + W (8 + q % 8) l * P (q + 6) l + W (16 + q % 8) l * P (q + 7) l + W (24 + q % 8) l * P (q + 8) l + b l

/-- Four products and an offset add up to the same where their rows are the same. -/
theorem four_eq (W D : ℕ → Fin 1536 → EReal) (z : EReal) (l : Fin 1536) {a b a' b' p q p' q' r s r' s' t u t' u' : ℕ}
    (h1 : a = a') (h2 : b = b') (h3 : p = p') (h4 : q = q') (h5 : r = r') (h6 : s = s') (h7 : t = t') (h8 : u = u') :
    W a l * D b l + W p l * D q l + W r l * D s l + W t l * D u l + z
      = W a' l * D b' l + W p' l * D q' l + W r' l * D s' l + W t' l * D u' l + z := by
  subst h1 h2 h3 h4 h5 h6 h7 h8
  rfl

/-- The weight rows as the loop reads them. -/
def wrow (x2 : Vec Ideal S32x1536 .f32) (q : ℕ) (l : Fin 1536) : Elt Ideal .f32 := if h : q < 32 then x2 (ix2 ⟨q, h⟩ l) else 0

variable (c : Dev nD) (i : grid0.Coords) (arg1 : Memref sig .tc .vmem S256x1536 .f32) (h1 : arg1.IsWhole) (arg2 : Memref sig .tc .vmem S8x1536 .f32) (h2 : arg2.IsWhole) (arg3 : Memref sig .tc .vmem S32x1536 .f32) (h3 : arg3.IsWhole) (arg4 : Memref sig .tc .vmem S1x1536 .f32) (h4 : arg4.IsWhole) (arg5 : Memref sig .tc .vmem S256x1536 .f32) (h5 : arg5.IsWhole) (arg6 : Memref sig .tc .vmem S264x1536 .f32) (h6 : arg6.IsWhole) (arg7 : Memref sig .tc .vmem S3x256x1536 .f32) (h7 : arg7.IsWhole)

section Loop

variable (X3 : BufTy.Contents (Elt Ideal) arg3.view.ty) (X4 : BufTy.Contents (Elt Ideal) arg4.view.ty)
  (X6 : BufTy.Contents (Elt Ideal) arg6.view.ty) (X7 : BufTy.Contents (Elt Ideal) arg7.view.ty)
  (W P : ℕ → Fin 1536 → Elt Ideal .f32) (b : Fin 1536 → Elt Ideal .f32)
  (e3 : ∀ (q : Fin 32) (l : Fin 1536), arg3.view.read (Elt Ideal) X3 (ix2 q l) = W q.val l)
  (e4 : ∀ (q : Fin 1) (l : Fin 1536), arg4.view.read (Elt Ideal) X4 (ix2 q l) = b l)
  (e6 : ∀ (q : Fin 264) (l : Fin 1536), arg6.view.read (Elt Ideal) X6 (ix2 q l) = P q.val l)
  (e7 : ∀ (p : Fin 3) (q : Fin 256) (l : Fin 1536), arg7.view.read (Elt Ideal) X7 (ix3 p q l) = P (q.val + p.val + 5) l)

include e3 e4 e6 e7 in
/-- One trip of the loop over chunks of 16 rows stores those rows of the convolution. -/
theorem trip1 (k : Fin k0_t1_loop.trips) :
    ∀ p ∈ tripL_k0_t1 (F := Ideal) Variants.none c none i arg1 h1 arg2 h2 arg3 h3 arg4 h4 arg5 h5 arg6 h6 arg7 h7 0#32 1#32 X3 X4 X6 X7 k,
      ∀ x : p.1.shape.Idx, p.2 x = (fun y : S256x1536.Idx => yv W P b (y 0).val (y 1)) (p.1.emb x) := by
  unfold tripL_k0_t1 trip_k0_t1
  dsimp only
  intro p hp
  rw [List.mem_singleton] at hp
  subst hp
  dsimp only
  intro x
  obtain ⟨s, l, rfl⟩ : ∃ (s : Fin 16) (l : Fin 1536), x = ix2 s l := ⟨x 0, x 1, eq_ix2 x⟩
  have h0 : k0_off5 k 0 = 16 * k.val := congrFun (k0_off5_eq k) 0
  have h1 : k0_off5 k 1 = 0 := congrFun (k0_off5_eq k) 1
  refine Eq.trans ?_ (congrArg₂ (yv W P b) (show 16 * k.val + s.val = k0_off5 k 0 + 1 * s.val by omega)
    (Fin.ext (show l.val = k0_off5 k 1 + 1 * l.val by omega)))
  have a10 : ∀ (inb) (s : Fin 8), View.readAt (Elt Ideal) arg7.view
      (Rect.unit (s := S3x256x1536) (k0_off1 k 0#32) ![1, 8, 1536] inb).toLoadRect X7 (ix3 (0 : Fin 1) s l)
        = P (16 * k.val + 8 * 0 + s.val + 0 + 5) l := fun inb s =>
    rd3 X7 (fun p q l => P (q + p + 5) l) e7 _ inb _ _ (k0_off1_eq k 0) s l
  have a11 : ∀ (inb) (s : Fin 8), View.readAt (Elt Ideal) arg7.view
      (Rect.unit (s := S3x256x1536) (k0_off1 k 8#32) ![1, 8, 1536] inb).toLoadRect X7 (ix3 (0 : Fin 1) s l)
        = P (16 * k.val + 8 * 1 + s.val + 0 + 5) l := fun inb s =>
    rd3 X7 (fun p q l => P (q + p + 5) l) e7 _ inb _ _ (k0_off1_eq k 1) s l
  have a20 : ∀ (inb) (s : Fin 8), View.readAt (Elt Ideal) arg7.view
      (Rect.unit (s := S3x256x1536) (k0_off2 k 0#32) ![1, 8, 1536] inb).toLoadRect X7 (ix3 (0 : Fin 1) s l)
        = P (16 * k.val + 8 * 0 + s.val + 1 + 5) l := fun inb s =>
    rd3 X7 (fun p q l => P (q + p + 5) l) e7 _ inb _ _ (k0_off2_eq k 0) s l
  have a21 : ∀ (inb) (s : Fin 8), View.readAt (Elt Ideal) arg7.view
      (Rect.unit (s := S3x256x1536) (k0_off2 k 8#32) ![1, 8, 1536] inb).toLoadRect X7 (ix3 (0 : Fin 1) s l)
        = P (16 * k.val + 8 * 1 + s.val + 1 + 5) l := fun inb s =>
    rd3 X7 (fun p q l => P (q + p + 5) l) e7 _ inb _ _ (k0_off2_eq k 1) s l
  have a30 : ∀ (inb) (s : Fin 8), View.readAt (Elt Ideal) arg7.view
      (Rect.unit (s := S3x256x1536) (k0_off3 k 0#32) ![1, 8, 1536] inb).toLoadRect X7 (ix3 (0 : Fin 1) s l)
        = P (16 * k.val + 8 * 0 + s.val + 2 + 5) l := fun inb s =>
    rd3 X7 (fun p q l => P (q + p + 5) l) e7 _ inb _ _ (k0_off3_eq k 0) s l
  have a31 : ∀ (inb) (s : Fin 8), View.readAt (Elt Ideal) arg7.view
      (Rect.unit (s := S3x256x1536) (k0_off3 k 8#32) ![1, 8, 1536] inb).toLoadRect X7 (ix3 (0 : Fin 1) s l)
        = P (16 * k.val + 8 * 1 + s.val + 2 + 5) l := fun inb s =>
    rd3 X7 (fun p q l => P (q + p + 5) l) e7 _ inb _ _ (k0_off3_eq k 1) s l
  have a40 : ∀ (inb) (s : Fin 8), View.readAt (Elt Ideal) arg6.view
      (Rect.unit (s := S264x1536) (k0_off4 k 0#32) ![8, 1536] inb).toLoadRect X6 (ix2 s l)
        = P (16 * k.val + 8 * 0 + 8 + s.val) l := fun inb s =>
    rd2 X6 P e6 _ inb _ (k0_off4_eq k 0) s l
  have a41 : ∀ (inb) (s : Fin 8), View.readAt (Elt Ideal) arg6.view
      (Rect.unit (s := S264x1536) (k0_off4 k 8#32) ![8, 1536] inb).toLoadRect X6 (ix2 s l)
        = P (16 * k.val + 8 * 1 + 8 + s.val) l := fun inb s =>
    rd2 X6 P e6 _ inb _ (k0_off4_eq k 1) s l
  have aw : ∀ (o : ℕ) (inb) (s : Fin 8), View.readAt (Elt Ideal) arg3.view
      (Rect.unit (s := S32x1536) ![o, 0] ![8, 1536] inb).toLoadRect X3 (ix2 s l) = W (o + s.val) l := fun o inb s =>
    rd2 X3 W e3 _ inb o rfl s l
  have ab : ∀ (inb) (s : Fin 1), View.readAt (Elt Ideal) arg4.view
      (Rect.unit (s := S1x1536) ![0, 0] ![1, 1536] inb).toLoadRect X4 (ix2 s l) = b l := fun inb s =>
    rd2 X4 (fun _ => b) e4 _ inb 0 rfl s l
  have h8 : (16 * k.val + s.val) % 8 = s.val % 8 := by omega
  unfold yv
  rw [h8]
  pointwise [k0_pay1, trip_k0_t1.sl.r, trip_k0_t1.sl.r_1, trip_k0_t1.sl.r_2, k0_pay2, k0_pay3, k0_pay4, k0_pay5, k0_pay6]
  simp only [a10, a11, a20, a21, a30, a31, a40, a41, aw, ab]
  by_cases hs : s.val < 8
  · rw [dif_pos hs]
    exact four_eq W P _ l (by omega) (by omega) (by omega) (by omega) (by omega) (by omega) (by omega) (by omega)
  · rw [dif_neg hs]
    exact four_eq W P _ l (by omega) (by omega) (by omega) (by omega) (by omega) (by omega) (by omega) (by omega)

include e3 e4 e6 e7 in
/-- After any number of trips every stored piece holds rows of the convolution. -/
theorem pieces1 (n : ℕ) (hn : n ≤ k0_t1_loop.trips) :
    ∀ p ∈ pb_k0_t1 (F := Ideal) Variants.none c none i arg1 h1 arg2 h2 arg3 h3 arg4 h4 arg5 h5 arg6 h6 arg7 h7 0#32 1#32 X3 X4 X6 X7 n,
      ∀ x : p.1.shape.Idx, p.2 x = (fun y : S256x1536.Idx => yv W P b (y 0).val (y 1)) (p.1.emb x) := by
  induction n with
  | zero =>
    intro p hp
    exact absurd hp List.not_mem_nil
  | succ n ih =>
    intro p hp
    rw [pb_k0_t1_succ Variants.none c none i arg1 h1 arg2 h2 arg3 h3 arg4 h4 arg5 h5 arg6 h6 arg7 h7 0#32 1#32 X3 X4 X6 X7 ⟨n, hn⟩, List.mem_append] at hp
    exact hp.elim (trip1 c i arg1 h1 arg2 h2 arg3 h3 arg4 h4 arg5 h5 arg6 h6 arg7 h7 X3 X4 X6 X7 W P b e3 e4 e6 e7 ⟨n, hn⟩ p) (ih (Nat.le_of_succ_le hn) p)

end Loop

variable (x0 : Vec Ideal S256x1536 .f32) (x1 : Vec Ideal S8x1536 .f32) (x2 : Vec Ideal S32x1536 .f32) (x3 : Vec Ideal S1x1536 .f32)

theorem hz : (![0, 0] : Fin 2 → ℕ) = fun _ => 0 := by
  funext a
  fin_cases a <;> rfl

theorem e3 (q : Fin 32) (l : Fin 1536) : arg3.view.read (Elt Ideal) (h3.unread x2) (ix2 q l) = wrow x2 q.val l := by
  rw [h3.read_unread]
  unfold wrow
  rw [dif_pos q.isLt]

theorem e4 (q : Fin 1) (l : Fin 1536) : arg4.view.read (Elt Ideal) (h4.unread x3) (ix2 q l) = x3 (ix2 (0 : Fin 1) l) := by
  rw [h4.read_unread, Subsingleton.elim q 0]

/-- Two stores of the loaded blocks fill the input's buffer. -/
theorem e6 (q : Fin 264) (l : Fin 1536) :
    arg6.view.read (Elt Ideal) (arg6.view.writes (Elt Ideal) arg6.view.junk (kernelRun0_A.sl.HS0_2 (F := Ideal) c i arg1 h1 arg2 h2 x0 x1)) (ix2 q l)
      = bufX i x0 x1 q.val l := by
  unfold kernelRun0_A.sl.HS0_2
  refine (two_rows (a := 8) (b := 256) rfl _ _ _ _ _ q l).trans ?_
  have r1 : View.readAt (Elt Ideal) arg2.view (Rect.unit ![0, 0] S8x1536.size inb_S8x1536_S8x1536_0_0).toLoadRect (h2.unread x1) = x1 := by
    simp only [View.readAt_eq_ld, h2.read_unread, View.ld_unit_zero (S := S8x1536) hz]
  have r0 : View.readAt (Elt Ideal) arg1.view (Rect.unit ![0, 0] S256x1536.size inb_S256x1536_S256x1536_0_0).toLoadRect (h1.unread x0) = x0 := by
    simp only [View.readAt_eq_ld, h1.read_unread, View.ld_unit_zero (S := S256x1536) hz]
  unfold bufX
  rw [r0, r1]
  by_cases h : q.val < 8
  · rw [dif_pos h, dif_pos h]
  · rw [dif_neg h, dif_neg h, dif_pos (show q.val - 8 < 256 by omega)]
    pointwise [k0_pay8]

/-- The input's phases: plane `p` holds its rows from `p + 5` on. -/
theorem e7 (p : Fin 3) (q : Fin 256) (l : Fin 1536) :
    arg7.view.read (Elt Ideal) (arg7.view.writes (Elt Ideal) arg7.view.junk (kernelRun0_A.sl.HS1_3 (F := Ideal) c i arg1 h1 arg2 h2 arg6 x0 x1)) (ix3 p q l)
      = bufX i x0 x1 (q.val + p.val + 5) l := by
  unfold kernelRun0_A.sl.HS1_3
  have g := e6 c i arg1 h1 arg2 h2 arg6 x0 x1
  refine three_planes _ _ _ _ _ _ _ (fun p q l => bufX i x0 x1 (q + p + 5) l) (fun q l => ?_) (fun q l => ?_) (fun q l => ?_) p q l
  · pointwise [k0_pay9]
    rw [Nat.add_comm _ 5]
    exact rd2 _ (bufX i x0 x1) g _ _ _ rfl q l
  · pointwise [k0_pay10, kernelRun0_A.sl.v16]
    rw [Nat.add_assoc, Nat.add_comm _ (1 + 5)]
    exact rd2 _ (bufX i x0 x1) g _ _ _ rfl q l
  · pointwise [k0_pay11, kernelRun0_A.sl.v20]
    rw [Nat.add_assoc, Nat.add_comm _ (2 + 5)]
    exact rd2 _ (bufX i x0 x1) g _ _ _ rfl q l

theorem out_A_4 (q : Fin 256) (l : Fin 1536) :
    out0_A_4 (F := Ideal) c i arg1 h1 arg2 h2 arg3 h3 arg4 h4 arg5 h5 arg6 h6 arg7 h7 x0 x1 x2 x3 (ix2 q l)
      = yv (wrow x2) (bufX i x0 x1) (fun l => x3 (ix2 (0 : Fin 1) l)) q.val l := by
  unfold out0_A_4
  rw [View.read_writes_eq_canon _ _ _ (cover0_A_4 c i arg1 h1 arg2 h2 arg3 h3 arg4 h4 arg5 h5 arg6 h6 arg7 h7 x0 x1 x2 x3)]
  refine View.canon_apply_of_pieces (e := .f32) (fun y : S256x1536.Idx => yv (wrow x2) (bufX i x0 x1) (fun l => x3 (ix2 (0 : Fin 1) l)) (y 0).val (y 1)) _ ?_ (ix2 q l)
    (cover0_A_4 c i arg1 h1 arg2 h2 arg3 h3 arg4 h4 arg5 h5 arg6 h6 arg7 h7 x0 x1 x2 x3 (ix2 q l))
  unfold kernelRun0_A
  exact pieces1 c i arg1 h1 arg2 h2 arg3 h3 arg4 h4 arg5 h5 arg6 h6 arg7 h7 _ _ _ _ (wrow x2) (bufX i x0 x1) (fun l => x3 (ix2 (0 : Fin 1) l)) (e3 arg3 h3 x2) (e4 arg4 h4 x3)
    (e6 c i arg1 h1 arg2 h2 arg6 x0 x1) (e7 c i arg1 h1 arg2 h2 arg6 arg7 x0 x1) _ (by decide)

end Cert.FconvIdeal.Out
end
-- ==== Proof.FconvVal.lean ====
/- The short convolution's kernel: its result array after the run, element by element. -/
module

public import proofs.«01_k».proof.Proof.FconvKer

@[expose] public section

set_option maxRecDepth 16384

noncomputable section

namespace Cert.Fconv

/-- A row of the input, eight rows late, zero before the first and past the last. -/
def xq (X : Fin 4096 → Fin 1536 → EReal) (n : ℕ) (l : Fin 1536) : EReal := if h : 8 ≤ n ∧ n - 8 < 4096 then X ⟨n - 8, h.2⟩ l else 0

/-- The convolution with four taps: a row is a sum over the row and the three before it, and the offset. -/
def yc (X : Fin 4096 → Fin 1536 → EReal) (W : Fin 4 → Fin 1536 → EReal) (b : Fin 1536 → EReal) (n : ℕ) (l : Fin 1536) : EReal :=
  W 0 l * xq X (n + 5) l + W 1 l * xq X (n + 6) l + W 2 l * xq X (n + 7) l + W 3 l * xq X (n + 8) l + b l

end Cert.Fconv

namespace Cert.FconvIdeal.Out

open Cert.FconvIdeal Cert.FconvIdeal.Gen Cert.Reals Cert.Fconv Idealize.ShloMosaic Idealize.ShloMosaic.TcCoe Idealize.SL.Sem

variable (m : (ℓ : Loc nD τ sig) → Buf (Elt Ideal) ℓ) (c : Dev nD)

/-- The input. -/
abbrev aX (r : Fin 4096) (l : Fin 1536) : EReal := (m ((c : Thread nD τ).loc main_arg0) : FVec Ideal S4096x1536 .f32) (ix2 r l)
/-- The taps. -/
abbrev aW (k : Fin 4) (l : Fin 1536) : EReal := (m ((c : Thread nD τ).loc main_arg1) : FVec Ideal S4x1536 .f32) (ix2 k l)
/-- The offset. -/
abbrev aB (l : Fin 1536) : EReal := (m ((c : Thread nD τ).loc main_arg2) : FVec Ideal S1536 .f32) (ix1 l)

/-- Every tap's row eight times over. -/
abbrev hW (w : FVec Ideal S4x1536 .f32) : FVec Ideal S32x1536 .f32 :=
  shapeCast S32x1536 (broadcastInDim S4x8x1536 ![0, 2] bcast_S4x1536_S4x8x1536_0_2 w) shapeCasts_S4x8x1536_S32x1536

/-- The offset as one row. -/
abbrev hB (b : FVec Ideal S1536 .f32) : FVec Ideal S1x1536 .f32 := shapeCast S1x1536 b shapeCasts_S1536_S1x1536

theorem V2 : V m c main_v2 = hW (m ((c : Thread nD τ).loc main_arg1)) := by
  show StableHlo.after (List.flatten [hostOps0]) _ _ = _
  simp only [hostOps0, List.flatten_cons, List.flatten_nil, List.append_nil, List.cons_append, List.nil_append]
  after_results_simp <;> rfl

theorem V0 : V m c main_v0 = hB (m ((c : Thread nD τ).loc main_arg2)) := by
  show StableHlo.after (List.flatten [hostOps0]) _ _ = _
  simp only [hostOps0, List.flatten_cons, List.flatten_nil, List.append_nil, List.cons_append, List.nil_append]
  after_results_simp <;> rfl

theorem hW_eq (w : FVec Ideal S4x1536 .f32) (q : Fin 32) (l : Fin 1536) : hW w (ix2 q l) = w (ix2 (⟨q.val / 8, by omega⟩ : Fin 4) l) := by
  unfold hW
  pointwise

theorem hB_eq (b : FVec Ideal S1536 .f32) (q : Fin 1) (l : Fin 1536) : hB b (ix2 q l) = b (ix1 l) := by
  unfold hB
  pointwise

theorem idx0 : ∀ t : Fin grid0.N, win0_0.index t 0 = t.val ∧ win0_0.index t 1 = 0 := by decide +kernel
theorem idx1 : ∀ t : Fin grid0.N, win0_1.index t 0 = 32 * t.val - 1 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem not_first : ∀ t : Fin grid0.N, Scalar.cmpi .sgt (BitVec.ofNat 32 ((grid0.coords t) 0).val) 0#32 = if t.val = 0 then 0#1 else 1#1 := by decide +kernel

theorem lt16 (t : Fin cfg0.N) : t.val < 16 := lt_of_lt_of_eq t.isLt N_0

theorem blk0 (t : Fin cfg0.N) (r : Fin 256) (l : Fin 1536) :
    (iblk m c 0 t : Vec Ideal S256x1536 .f32) (ix2 r l) = aX m c ⟨256 * t.val + r.val, by have := lt16 t; omega⟩ l := by
  unfold iblk
  rw [View.read_apply]
  show V m c main_arg0 _ = _
  rw [V_main_arg0]
  refine congrArg _ (funext fun a => Fin.ext ?_)
  match a with
  | ⟨0, _⟩ => show win0_0.index t 0 * 256 + 1 * r.val = 256 * t.val + r.val; rw [(idx0 t).1]; omega
  | ⟨1, _⟩ => show win0_0.index t 1 * 1536 + 1 * l.val = l.val; rw [(idx0 t).2]; omega

theorem blk1 (t : Fin cfg0.N) (r : Fin 8) (l : Fin 1536) :
    (iblk m c 1 t : Vec Ideal S8x1536 .f32) (ix2 r l) = aX m c ⟨8 * (32 * t.val - 1) + r.val, by have := lt16 t; omega⟩ l := by
  unfold iblk
  rw [View.read_apply]
  show V m c main_arg0 _ = _
  rw [V_main_arg0]
  refine congrArg _ (funext fun a => Fin.ext ?_)
  match a with
  | ⟨0, _⟩ => show win0_1.index t 0 * 8 + 1 * r.val = 8 * (32 * t.val - 1) + r.val; rw [(idx1 t).1]; omega
  | ⟨1, _⟩ => show win0_1.index t 1 * 1536 + 1 * l.val = l.val; rw [(idx1 t).2]; omega

theorem blk2 (t : Fin cfg0.N) (q : Fin 32) (l : Fin 1536) :
    (iblk m c 2 t : Vec Ideal S32x1536 .f32) (ix2 q l) = aW m c ⟨q.val / 8, by omega⟩ l := by
  unfold iblk
  rw [View.read_apply]
  show V m c main_v2 _ = _
  rw [V2]
  refine Eq.trans (congrArg _ (funext fun a => Fin.ext ?_)) (hW_eq _ q l)
  match a with
  | ⟨0, _⟩ => show win0_2.index t 0 * 32 + 1 * q.val = q.val; rw [(idx2 t).1]; omega
  | ⟨1, _⟩ => show win0_2.index t 1 * 1536 + 1 * l.val = l.val; rw [(idx2 t).2]; omega

theorem blk3 (t : Fin cfg0.N) (q : Fin 1) (l : Fin 1536) :
    (iblk m c 3 t : Vec Ideal S1x1536 .f32) (ix2 q l) = aB m c l := by
  unfold iblk
  rw [View.read_apply]
  show V m c main_v0 _ = _
  rw [V0]
  refine Eq.trans (congrArg _ (funext fun a => Fin.ext ?_)) (hB_eq _ q l)
  match a with
  | ⟨0, _⟩ => show win0_3.index t 0 * 1 + 1 * q.val = q.val; rw [(idx3 t).1]; omega
  | ⟨1, _⟩ => show win0_3.index t 1 * 1536 + 1 * l.val = l.val; rw [(idx3 t).2]; omega

/-- The rows before a point's own: zeroed at the first point. -/
theorem before_eq (t : Fin cfg0.N) (x : Vec Ideal S8x1536 .f32) (r : Fin 8) (l : Fin 1536) :
    k0_pay7 (F := Ideal) (grid0.coords t) x (ix2 r l) = if t.val = 0 then 0 else x (ix2 r l) := by
  pointwise [k0_pay7]
  rw [not_first t]
  split
  · simp [Scalar.select]
  · simp [Scalar.select]

/-- The input's buffer holds the eight rows before the point's and its own. -/
theorem bufX_eq (t : Fin cfg0.N) (q : ℕ) (hq : q < 264) (l : Fin 1536) :
    bufX (grid0.coords t) (iblk m c 0 t) (iblk m c 1 t) q l = xq (aX m c) (256 * t.val + q) l := by
  have ht := lt16 t
  unfold bufX xq
  by_cases h : q < 8
  · rw [dif_pos h, before_eq]
    by_cases h0 : t.val = 0
    · rw [if_pos h0, dif_neg (by omega)]
    · rw [if_neg h0, dif_pos (by omega)]
      refine (blk1 m c t ⟨q, h⟩ l).trans (congrArg (fun r => aX m c r l) (Fin.ext ?_))
      dsimp only
      omega
  · rw [dif_neg h, dif_pos (by omega), dif_pos (by omega)]
    refine (blk0 m c t ⟨q - 8, by omega⟩ l).trans (congrArg (fun r => aX m c r l) (Fin.ext ?_))
    dsimp only
    omega

theorem wrow_eq (t : Fin cfg0.N) (k : Fin 4) (q : ℕ) (hq : q / 8 = k.val) (l : Fin 1536) : wrow (iblk m c 2 t) q l = aW m c k l := by
  unfold wrow
  rw [dif_pos (by omega)]
  exact (blk2 m c t ⟨q, by omega⟩ l).trans (congrArg (fun r => aW m c r l) (Fin.ext hq))

theorem out4 (t : Fin cfg0.N) (q : Fin 256) (l : Fin 1536) :
    (outsAt0 m c t) (ix2 q l) = yc (aX m c) (aW m c) (aB m c) (256 * t.val + q.val) l := by
  unfold outsAt0
  rw [out_A_4]
  unfold yv yc
  rw [wrow_eq m c t 0 (q.val % 8) (by simp), wrow_eq m c t 1 (8 + q.val % 8) (by show _ = 1; omega), wrow_eq m c t 2 (16 + q.val % 8) (by show _ = 2; omega),
    wrow_eq m c t 3 (24 + q.val % 8) (by show _ = 3; omega), bufX_eq m c t _ (by omega), bufX_eq m c t _ (by omega), bufX_eq m c t _ (by omega), bufX_eq m c t _ (by omega)]
  simp only [Nat.add_assoc]
  exact congrArg _ (blk3 m c t 0 l)

/-- The grid point that computes row `R`. -/
def ptR (R : Fin 4096) : Fin cfg0.N := ⟨R.val / 256, by rw [show cfg0.N = 16 from N_0]; omega⟩

theorem y_final : (dats m 0 c).arrAt 4 cfg0.N = (fun i => yc (aX m c) (aW m c) (aB m c) (i 0).val (i 1) : FVec Ideal S4096x1536 .f32) := by
  refine (dats m 0 c).arrAt_eq_of_cover 4 (fun i => yc (aX m c) (aW m c) (aB m c) (i 0).val (i 1) : FVec Ideal S4096x1536 .f32) (fun t hf => ?_) fun i => ⟨ptR (i 0), flush0_4 _, ?_⟩
  · rw [Value.flushed4]
    refine funext fun y => ?_
    rw [View.read_apply]
    refine Eq.trans (congrArg _ (eq_ix2 (n0 := 256) (n1 := 1536) y)) ((out4 m c t (y 0) (y 1)).trans ?_)
    refine congrArg₂ (fun p q => yc (aX m c) (aW m c) (aB m c) p q) ?_ (Fin.ext ?_)
    · show 256 * t.val + (y 0).val = win0_4.index t 0 * 256 + 1 * (y 0).val; rw [(idx4 t).1]; omega
    · show (y 1).val = win0_4.index t 1 * 1536 + 1 * (y 1).val; rw [(idx4 t).2]; omega
  · show i ∈ ((View.whole main_v3).slice (win0_4.rect (ptR (i 0)))).set
    rw [View.set_slice_whole, Rect.mem_set_unit]
    intro a
    have h0 : (i 0 : Nat) < 4096 := (i 0).isLt
    have h1 : (i 1 : Nat) < 1536 := (i 1).isLt
    have hi : win0_4.index (ptR (i 0)) 0 = (i 0 : Nat) / 256 := (idx4 _).1
    match a with
    | ⟨0, _⟩ => show win0_4.index (ptR (i 0)) 0 * 256 ≤ (i 0 : Nat) ∧ (i 0 : Nat) < win0_4.index (ptR (i 0)) 0 * 256 + 256
                rw [hi]; omega
    | ⟨1, _⟩ => show win0_4.index (ptR (i 0)) 1 * 1536 ≤ (i 1 : Nat) ∧ (i 1 : Nat) < win0_4.index (ptR (i 0)) 1 * 1536 + 1536
                rw [(idx4 _).2]; omega

end Cert.FconvIdeal.Out

end
-- ==== Proof.FconvClaim.lean ====
/- The short convolution: kernel and reference leave the same array. -/
module

public import proofs.«01_k».proof.Defs
public import proofs.«01_k».proof.Proof.FconvVal
public import proofs.«01_k».proof.Proof.Gen.FconvRefIdeal.Read
public import proofs.«01_k».proof.Proof.Gen.FconvRefIdeal.Run

@[expose] public section

set_option maxRecDepth 16384

noncomputable section

namespace Cert.FconvRefIdeal.Val

open Cert.FconvRefIdeal Cert.FconvRefIdeal.Gen Cert.FconvRefIdeal.Read Cert.Reals Cert.Fconv Idealize.ShloMosaic

variable {x0 : FVec Ideal S4096x1536 .f32} {x1 : FVec Ideal S4x1536 .f32} {x2 : FVec Ideal S1536 .f32}

theorem v1_eq (j : Fin 4099) (l : Fin 1536) : val_main_v1 (F := Ideal) x0 (ix2 j l) = xq (fun r l => x0 (ix2 r l)) (j.val + 5) l := by
  pointwise [val_main_v1, val_main_v0, val_main_cst]
  unfold xq
  by_cases h : j.val < 3
  · rw [dif_pos h, dif_neg (by omega)]
  · rw [dif_neg h, dif_pos (by omega)]
    exact congrArg (fun r => x0 (ix2 r l)) (Fin.ext (by dsimp only; omega))

theorem v31_eq (n : Fin 4096) (l : Fin 1536) :
    val_main_v31 (F := Ideal) x0 x1 x2 (ix2 n l) = yc (fun r l => x0 (ix2 r l)) (fun k l => x1 (ix2 k l)) (fun l => x2 (ix1 l)) n.val l := by
  have e := v1_eq (x0 := x0)
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  simp only [e]
  unfold yc
  refine congrArg₂ (· + ·) (congrArg₂ (· + ·) (congrArg₂ (· + ·) (congrArg₂ (· + ·) ?_ ?_) ?_) ?_) rfl
  · exact mul_comm _ _
  · exact (mul_comm _ _).trans (congrArg (fun k => x1 (ix2 1 l) * xq (fun r l => x0 (ix2 r l)) k l) (by omega))
  · exact (mul_comm _ _).trans (congrArg (fun k => x1 (ix2 2 l) * xq (fun r l => x0 (ix2 r l)) k l) (by omega))
  · exact (mul_comm _ _).trans (congrArg (fun k => x1 (ix2 3 l) * xq (fun r l => x0 (ix2 r l)) k l) (by omega))

end Cert.FconvRefIdeal.Val

namespace Cert.Fconv

open Idealize.ShloMosaic Idealize.ShloMosaic.TcCoe Idealize.SL.Sem

theorem algebraic : Cert.algebraic_FconvIdeal_FconvRefIdeal := by
  intro m g m' g' _ hargs
  refine ⟨fun c => (Cert.FconvIdeal.Gen.dats m 0 c).arrAt 4 Cert.FconvIdeal.cfg0.N, Cert.FconvIdeal.Value.run_blocks m g, ?_⟩
  refine (θ_run Cert.FconvRefIdeal.defs _ _).mono (fun r h c => ?_) (Cert.FconvRefIdeal.Value.run m' g')
  obtain ⟨e0, kept⟩ := h c
  obtain ⟨b0, b1, b2⟩ := hargs c
  have h0 := fun r l => congrFun b0 (ix2 r l)
  have h1 := fun k l => congrFun b1 (ix2 k l)
  have h2 := fun l => congrFun b2 (ix1 l)
  have hX : _ = Cert.FconvIdeal.Out.aX m c := funext fun r => funext fun l => h0 r l
  have hW : _ = Cert.FconvIdeal.Out.aW m c := funext fun k => funext fun l => h1 k l
  have hB : _ = Cert.FconvIdeal.Out.aB m c := funext fun l => h2 l
  clear hargs h
  refine ⟨(e0.trans (Cert.FconvRefIdeal.Read.val_main_v31_eq _ _ _)).trans ?_, kept⟩
  funext y
  obtain ⟨i, j, rfl⟩ : ∃ (i : Fin 4096) (j : Fin 1536), y = ix2 i j := ⟨_, _, eq_ix2 (n0 := 4096) (n1 := 1536) y⟩
  refine (Cert.FconvRefIdeal.Val.v31_eq i j).trans ?_
  refine Eq.trans ?_ (congrFun (Cert.FconvIdeal.Out.y_final m c) (ix2 i j)).symm
  refine (congrArg (fun X => yc X _ _ i.val j) hX).trans ((congrArg (fun W => yc _ W _ i.val j) hW).trans (congrArg (fun b => yc _ _ b i.val j) hB))

end Cert.Fconv

end
-- ==== Proof.OutfVal.lean ====
/- The output projection with its residual and its rms norm: the kernel's two result arrays after the run, element by
   element. -/
module

public import proofs.«01_k».proof.Proof.Reals
public import Idealize.ShloMosaic.Lib.Pipeline.ValueKit.Tiles
public import proofs.«01_k».proof.Proof.Gen.OutfIdeal.Value

@[expose] public section

set_option maxRecDepth 16384

noncomputable section

namespace Cert.Outf

open Idealize.ShloMosaic

/-- The two halves of a row, one after the other. -/
def mix (S C : Fin 4096 → Fin 1024 → EReal) (r : Fin 4096) (k : Fin 2048) : EReal :=
  if h : k.val < 1024 then S r ⟨k.val, h⟩ else C r ⟨k.val - 1024, by omega⟩

/-- The layer's input and the projection of the mixed row. -/
def hrow (X S C : Fin 4096 → Fin 1024 → EReal) (W : Fin 2048 → Fin 1024 → EReal) (r : Fin 4096) (l : Fin 1024) : EReal :=
  X r l + ∑ k, mix S C r k * W k l

/-- The rms norm of a row. -/
def rmsrow (H G : Fin 1024 → EReal) (l : Fin 1024) : EReal :=
  H l * Ideal.rsqrt (Ideal.div (∑ k, H k * H k) (Ideal.ofBits .f32 0x44800000#32) + Ideal.ofBits .f32 0x358637BD#32) * G l

/-- A sum over the mixed row's 2048 places is the sum of the sums over its four quarters. -/
theorem quarters (f : Fin 2048 → EReal) :
    ∑ k, f k = ∑ j : Fin 512, f ⟨j.val, by omega⟩ + ∑ j : Fin 512, f ⟨512 + j.val, by omega⟩ + ∑ j : Fin 512, f ⟨1024 + j.val, by omega⟩
      + ∑ j : Fin 512, f ⟨1536 + j.val, by omega⟩ := by
  rw [show ∑ k, f k = _ from Fin.sum_univ_add (a := 1536) (b := 512) f,
    show ∑ i : Fin 1536, f (Fin.castAdd 512 i) = _ from Fin.sum_univ_add (a := 1024) (b := 512) fun i : Fin 1536 => f (Fin.castAdd 512 i),
    show ∑ i : Fin 1024, f (Fin.castAdd 512 (Fin.castAdd 512 i)) = _ from
      Fin.sum_univ_add (a := 512) (b := 512) fun i : Fin 1024 => f (Fin.castAdd 512 (Fin.castAdd 512 i))]
  rfl

end Cert.Outf

namespace Cert.OutfIdeal.Out

open Cert.OutfIdeal Cert.OutfIdeal.Gen Cert.Reals Cert.Outf Idealize.ShloMosaic Idealize.ShloMosaic.TcCoe Idealize.SL.Sem

theorem hz : (![0, 0] : Fin 2 → Nat) = fun _ => 0 := funext fun a => by fin_cases a <;> rfl

/-! ## One grid point -/

section Point

variable {X S C : Fin 4096 → Fin 1024 → EReal} {W : Fin 2048 → Fin 1024 → EReal} {G : Fin 1024 → EReal} {R : Fin 512 → Fin 4096}
variable {x0 : FVec Ideal S512x1024 .f32} {x1 x2 : FVec Ideal S512x1024 .bf16} {x3 : FVec Ideal S4x512x1024 .bf16} {x4 : FVec Ideal S1x1024 .f32}
variable (h0 : ∀ r l, x0 (ix2 r l) = X (R r) l) (h1 : ∀ r l, x1 (ix2 r l) = S (R r) l) (h2 : ∀ r l, x2 (ix2 r l) = C (R r) l)
  (h3 : ∀ (p : Fin 4) (j : Fin 512) k, x3 (ix3 p j k) = W ⟨512 * p.val + j.val, by omega⟩ k) (h4 : ∀ z l, x4 (ix2 z l) = G l)
include h0 h1 h2 h3

theorem pay2_eq (r : Fin 512) (l : Fin 1024) :
    k0_pay2 (F := Ideal) x0 (View.ld x1 r0_1) (View.ld x3 r0_2) (View.ld x1 r0_3) (View.ld x3 r0_4) (View.ld x2 r0_1) (View.ld x3 r0_5) (View.ld x2 r0_3) (View.ld x3 r0_6) (ix2 r l)
      = hrow X S C W (R r) l := by
  pointwise [k0_pay2]
  simp only [h0, h1, h2, h3]
  unfold hrow
  rw [quarters, ← add_assoc, ← add_assoc, ← add_assoc]
  refine congrArg₂ (· + ·) (congrArg₂ (· + ·) (congrArg₂ (· + ·) (congrArg₂ (· + ·) rfl ?_) ?_) ?_) ?_
  · refine Finset.sum_congr rfl fun j _ => congrArg₂ (· * ·) ?_ (congrArg (fun q => W q l) (Fin.ext (by dsimp; omega)))
    unfold mix
    rw [dif_pos (by dsimp; omega)]
  · refine Finset.sum_congr rfl fun j _ => congrArg₂ (· * ·) ?_ (congrArg (fun q => W q l) (Fin.ext (by first | rfl | (dsimp; omega))))
    unfold mix
    rw [dif_pos (by dsimp; omega)]
  · refine Finset.sum_congr rfl fun j _ => congrArg₂ (· * ·) ?_ (congrArg (fun q => W q l) (Fin.ext (by first | rfl | (dsimp; omega))))
    unfold mix
    rw [dif_neg (by dsimp; omega)]
    exact congrArg (C (R r)) (Fin.ext (by dsimp; omega))
  · refine Finset.sum_congr rfl fun j _ => congrArg₂ (· * ·) ?_ (congrArg (fun q => W q l) (Fin.ext (by first | rfl | (dsimp; omega))))
    unfold mix
    rw [dif_neg (by dsimp; omega)]
    exact congrArg (C (R r)) (Fin.ext (by dsimp; omega))

theorem out5_eq (r : Fin 512) (l : Fin 1024) : out0_5 (F := Ideal) x0 x1 x2 x3 x4 (ix2 r l) = hrow X S C W (R r) l := by
  unfold out0_5
  rw [View.canon_unit_zero hz, View.ld_unit_zero (S := S512x1024) hz]
  exact pay2_eq h0 h1 h2 h3 r l

include h4 in
theorem out6_eq (r : Fin 512) (l : Fin 1024) : out0_6 (F := Ideal) x0 x1 x2 x3 x4 (ix2 r l) = rmsrow (hrow X S C W (R r)) G l := by
  have e := pay2_eq h0 h1 h2 h3
  unfold out0_6
  rw [View.canon_unit_zero hz, View.ld_unit_zero (S := S512x1024) hz, View.ld_unit_zero (S := S1x1024) hz]
  generalize k0_pay2 (F := Ideal) x0 _ _ _ _ _ _ _ _ = y at e ⊢
  pointwise [k0_pay1, k0_pay3]
  simp only [e, h4]
  rfl

end Point

/-! ## The arrays -/

variable (m : (ℓ : Loc nD τ sig) → Buf (Elt Ideal) ℓ) (c : Dev nD)

/-- The layer's input. -/
abbrev aX (r : Fin 4096) (l : Fin 1024) : EReal := (m ((c : Thread nD τ).loc main_arg0) : FVec Ideal S4096x1024 .f32) (ix2 r l)
/-- The first half of the mixed row. -/
abbrev aS (r : Fin 4096) (l : Fin 1024) : EReal := (m ((c : Thread nD τ).loc main_arg1) : FVec Ideal S4096x1024 .f32) (ix2 r l)
/-- The second half. -/
abbrev aC (r : Fin 4096) (l : Fin 1024) : EReal := (m ((c : Thread nD τ).loc main_arg2) : FVec Ideal S4096x1024 .f32) (ix2 r l)
/-- The norm's weight. -/
abbrev aG (l : Fin 1024) : EReal := (m ((c : Thread nD τ).loc main_arg3) : FVec Ideal S1024 .f32) (ix1 l)
/-- The projection's weight. -/
abbrev aW (k : Fin 2048) (l : Fin 1024) : EReal := (m ((c : Thread nD τ).loc main_arg4) : FVec Ideal S2048x1024 .f32) (ix2 k l)

theorem V0 : V m c main_v0 = (truncf .bf16 (m ((c : Thread nD τ).loc main_arg1) : FVec Ideal S4096x1024 .f32) bitsLt_bf16_f32 : FVec Ideal S4096x1024 .bf16) := by
  simp only [V, hostOps0]; after_results_simp <;> rfl

theorem V1 : V m c main_v1 = (truncf .bf16 (m ((c : Thread nD τ).loc main_arg2) : FVec Ideal S4096x1024 .f32) bitsLt_bf16_f32 : FVec Ideal S4096x1024 .bf16) := by
  simp only [V, hostOps0]; after_results_simp <;> rfl

theorem V5 : V m c main_v5 = concatenate S4x2560x1024 1
    [⟨S4x2048x1024, broadcastInDim S4x2048x1024 ![] bcast_S_S4x2048x1024 (constant (F := Ideal) S_ .bf16 0x0000#16)⟩,
     ⟨S4x512x1024, shapeCast S4x512x1024 (truncf .bf16 (m ((c : Thread nD τ).loc main_arg4) : FVec Ideal S2048x1024 .f32) bitsLt_bf16_f32) shapeCasts_S2048x1024_S4x512x1024⟩]
    concatenates_S4x2048x1024_S4x512x1024_S4x2560x1024_d1 := by
  simp only [V, hostOps0]; after_results_simp <;> rfl

theorem V6 : V m c main_v6 = shapeCast S1x1024 (m ((c : Thread nD τ).loc main_arg3) : FVec Ideal S1024 .f32) shapeCasts_S1024_S1x1024 := by
  simp only [V, hostOps0]; after_results_simp <;> rfl

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 4 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel

/-- The row of the array that is row `r` of the point's block. -/
def rowOf (t : Fin cfg0.N) (r : Fin 512) : Fin 4096 := ⟨512 * t.val + r.val, by
  have : t.val < 8 := lt_of_lt_of_eq t.isLt N_0
  omega⟩

theorem blk0 (t : Fin cfg0.N) (r : Fin 512) (l : Fin 1024) : (iblk m c 0 t : Vec Ideal S512x1024 .f32) (ix2 r l) = aX m c (rowOf t r) l := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [(idx0 t).1]; omega
  | ⟨1, _⟩ => show win0_0.index t 1 * 1024 + 1 * l.val = l.val; rw [(idx0 t).2]; omega

theorem blk1 (t : Fin cfg0.N) (r : Fin 512) (l : Fin 1024) : (iblk m c 1 t : Vec Ideal S512x1024 .bf16) (ix2 r l) = aS m c (rowOf t r) l := by
  unfold iblk
  rw [View.read_apply]
  show V m c main_v0 _ = _
  rw [V0]
  refine congrArg (m ((c : Thread nD τ).loc main_arg1) : FVec Ideal S4096x1024 .f32) (funext fun a => Fin.ext ?_)
  match a with
  | ⟨0, _⟩ => show win0_1.index t 0 * 512 + 1 * r.val = 512 * t.val + r.val; rw [(idx1 t).1]; omega
  | ⟨1, _⟩ => show win0_1.index t 1 * 1024 + 1 * l.val = l.val; rw [(idx1 t).2]; omega

theorem blk2 (t : Fin cfg0.N) (r : Fin 512) (l : Fin 1024) : (iblk m c 2 t : Vec Ideal S512x1024 .bf16) (ix2 r l) = aC m c (rowOf t r) l := by
  unfold iblk
  rw [View.read_apply]
  show V m c main_v1 _ = _
  rw [V1]
  refine congrArg (m ((c : Thread nD τ).loc main_arg2) : FVec Ideal S4096x1024 .f32) (funext fun a => Fin.ext ?_)
  match a with
  | ⟨0, _⟩ => show win0_2.index t 0 * 512 + 1 * r.val = 512 * t.val + r.val; rw [(idx2 t).1]; omega
  | ⟨1, _⟩ => show win0_2.index t 1 * 1024 + 1 * l.val = l.val; rw [(idx2 t).2]; omega

theorem slab_apply (w : FVec Ideal S2048x1024 .f32) (p : Fin 4) (q : Fin 2560) (k : Fin 1024) (hq : 2048 ≤ q.val) :
    concatenate S4x2560x1024 1
      [⟨S4x2048x1024, broadcastInDim S4x2048x1024 ![] bcast_S_S4x2048x1024 (constant (F := Ideal) S_ .bf16 0x0000#16)⟩,
       ⟨S4x512x1024, shapeCast S4x512x1024 (truncf .bf16 w bitsLt_bf16_f32) shapeCasts_S2048x1024_S4x512x1024⟩]
      concatenates_S4x2048x1024_S4x512x1024_S4x2560x1024_d1 (ix3 p q k) = w (ix2 ⟨512 * p.val + (q.val - 2048), by omega⟩ k) := by
  generalize broadcastInDim S4x2048x1024 ![] bcast_S_S4x2048x1024 (constant (F := Ideal) S_ .bf16 0x0000#16) = z
  pointwise []
  rw [dif_neg (by omega)]
  exact congrArg w (funext fun a => Fin.ext (match a with | ⟨0, _⟩ => by dsimp; omega | ⟨1, _⟩ => rfl))

theorem blk3 (t : Fin cfg0.N) (p : Fin 4) (j : Fin 512) (k : Fin 1024) :
    (iblk m c 3 t : Vec Ideal S4x512x1024 .bf16) (ix3 p j k) = aW m c ⟨512 * p.val + j.val, by omega⟩ k := by
  unfold iblk
  rw [View.read_apply]
  show V m c main_v5 _ = _
  rw [V5]
  refine Eq.trans (congrArg _ (a₂ := ix3 p ⟨2048 + j.val, by omega⟩ k) (funext fun a => Fin.ext ?_)) ((slab_apply _ p ⟨2048 + j.val, by omega⟩ k (by simp)).trans ?_)
  · match a with
    | ⟨0, _⟩ => show win0_3.index t 0 * 4 + 1 * p.val = p.val; rw [(idx3 t).1]; omega
    | ⟨1, _⟩ => show win0_3.index t 1 * 512 + 1 * j.val = 2048 + j.val; rw [(idx3 t).2.1]; omega
    | ⟨2, _⟩ => show win0_3.index t 2 * 1024 + 1 * k.val = k.val; rw [(idx3 t).2.2]; omega
  · simp only [Nat.add_sub_cancel_left]

theorem blk4 (t : Fin cfg0.N) (z : Fin 1) (l : Fin 1024) : (iblk m c 4 t : Vec Ideal S1x1024 .f32) (ix2 z l) = aG m c l := by
  unfold iblk
  rw [View.read_apply]
  show V m c main_v6 _ = _
  rw [V6]
  refine Eq.trans (congrArg _ (a₂ := ix2 z l) (funext fun a => Fin.ext ?_)) ?_
  · match a with
    | ⟨0, _⟩ => show win0_4.index t 0 * 1 + 1 * z.val = z.val; rw [(idx4 t).1]; omega
    | ⟨1, _⟩ => show win0_4.index t 1 * 1024 + 1 * l.val = l.val; rw [(idx4 t).2]; omega
  · pointwise

/-- The grid point that computes row `R`. -/
def ptOf (R : Fin 4096) : Fin cfg0.N := ⟨R.val / 512, by rw [show cfg0.N = 8 from N_0]; omega⟩

theorem row_eq (R : Fin 4096) : rowOf (ptOf R) ⟨R.val % 512, by omega⟩ = R :=
  Fin.ext (by show 512 * (R.val / 512) + R.val % 512 = R.val; omega)

theorem final5 (R : Fin 4096) (l : Fin 1024) :
    ((dats m 0 c).arrAt 5 cfg0.N : FVec Ideal S4096x1024 .f32) (ix2 R l) = hrow (aX m c) (aS m c) (aC m c) (aW m c) R l := by
  have h := congrFun (Value.blocks5 m c (ptOf R) (flush0_5 _)) (ix2 ⟨R.val % 512, by omega⟩ l)
  rw [View.read_apply, Value.flushed5] at h
  refine Eq.trans (congrArg _ (funext fun a => Fin.ext ?_)) (h.trans ((out5_eq (R := rowOf (ptOf R)) (blk0 m c (ptOf R)) (blk1 m c (ptOf R)) (blk2 m c (ptOf R)) (blk3 m c (ptOf R)) ⟨R.val % 512, by omega⟩ l).trans ?_))
  · match a with
    | ⟨0, _⟩ => show R.val = win0_5.index (ptOf R) 0 * 512 + 1 * (R.val % 512); rw [(idx5 (ptOf R)).1]; show _ = R.val / 512 * 512 + _; omega
    | ⟨1, _⟩ => show l.val = win0_5.index (ptOf R) 1 * 1024 + 1 * l.val; rw [(idx5 (ptOf R)).2]; omega
  · rw [row_eq]

theorem final6 (R : Fin 4096) (l : Fin 1024) :
    ((dats m 0 c).arrAt 6 cfg0.N : FVec Ideal S4096x1024 .bf16) (ix2 R l) = rmsrow (hrow (aX m c) (aS m c) (aC m c) (aW m c) R) (aG m c) l := by
  have h := congrFun (Value.blocks6 m c (ptOf R) (flush0_6 _)) (ix2 ⟨R.val % 512, by omega⟩ l)
  rw [View.read_apply, Value.flushed6] at h
  refine Eq.trans (congrArg _ (funext fun a => Fin.ext ?_)) (h.trans ((out6_eq (R := rowOf (ptOf R)) (blk0 m c (ptOf R)) (blk1 m c (ptOf R)) (blk2 m c (ptOf R)) (blk3 m c (ptOf R)) (blk4 m c (ptOf R)) ⟨R.val % 512, by omega⟩ l).trans ?_))
  · match a with
    | ⟨0, _⟩ => show R.val = win0_6.index (ptOf R) 0 * 512 + 1 * (R.val % 512); rw [(idx6 (ptOf R)).1]; show _ = R.val / 512 * 512 + _; omega
    | ⟨1, _⟩ => show l.val = win0_6.index (ptOf R) 1 * 1024 + 1 * l.val; rw [(idx6 (ptOf R)).2]; omega
  · rw [row_eq]

end Cert.OutfIdeal.Out

end
-- ==== Proof.OutfClaim.lean ====
/- The output projection with its residual and its rms norm: kernel and reference leave the same arrays. -/
module

public import proofs.«01_k».proof.Defs
public import proofs.«01_k».proof.Proof.OutfVal
public import proofs.«01_k».proof.Proof.Gen.OutfRefIdeal.Read
public import proofs.«01_k».proof.Proof.Gen.OutfRefIdeal.Run

@[expose] public section

set_option maxRecDepth 16384

noncomputable section

namespace Cert.OutfRefIdeal.Val

open Cert.OutfRefIdeal Cert.OutfRefIdeal.Gen Cert.OutfRefIdeal.Read Cert.Reals Cert.Outf Idealize.ShloMosaic

variable {x0 x1 x2 : FVec Ideal S4096x1024 .f32} {x3 : FVec Ideal S1024 .f32} {x4 : FVec Ideal S2048x1024 .f32}
variable {X S C : Fin 4096 → Fin 1024 → EReal} {W : Fin 2048 → Fin 1024 → EReal} {G : Fin 1024 → EReal}
variable (h0 : ∀ r l, x0 (ix2 r l) = X r l) (h1 : ∀ r l, x1 (ix2 r l) = S r l) (h2 : ∀ r l, x2 (ix2 r l) = C r l)
  (h3 : ∀ l, x3 (ix1 l) = G l) (h4 : ∀ k l, x4 (ix2 k l) = W k l)
include h0 h1 h2 h4

theorem v2_eq (r : Fin 4096) (l : Fin 1024) : val_main_v2 (F := Ideal) x0 x1 x2 x4 (ix2 r l) = hrow X S C W r l := by
  pointwise [val_main_v2, val_main_v1, val_main_v0]
  simp only [h0, h1, h2, h4]
  unfold hrow
  refine congrArg (X r l + ·) (Eq.symm ((Fin.sum_univ_add (a := 1024) (b := 1024) fun k : Fin 2048 => mix S C r k * W k l).trans (congrArg₂ (· + ·) ?_ ?_)))
  · refine Finset.sum_congr rfl fun k _ => congrArg₂ (· * ·) ?_ rfl
    exact dif_pos k.isLt
  · refine Finset.sum_congr rfl fun k _ => congrArg₂ (· * ·) ?_ rfl
    exact (dif_neg (by show ¬ 1024 + k.val < 1024; omega)).trans (congrArg (C r) (Fin.ext (by show 1024 + k.val - 1024 = k.val; omega)))

include h3 in
theorem v16_eq (r : Fin 4096) (l : Fin 1024) : val_main_v16 (F := Ideal) x0 x1 x2 x3 x4 (ix2 r l) = rmsrow (hrow X S C W r) G l := by
  have e := v2_eq h0 h1 h2 h4
  pointwise [val_main_v16, val_main_v15, val_main_v14, val_main_v13, val_main_v12, val_main_v11, val_main_v10, val_main_v9, val_main_v8, val_main_cst_1, val_main_v7, val_main_v6, val_main_cst_0, val_main_v5, val_main_v4, val_main_cst, val_main_v3]
  simp only [e, h3]
  rfl

end Cert.OutfRefIdeal.Val

namespace Cert.Outf

open Idealize.ShloMosaic Idealize.ShloMosaic.TcCoe Idealize.SL.Sem

theorem algebraic : Cert.algebraic_OutfIdeal_OutfRefIdeal := by
  intro m g m' g' _ hargs
  refine ⟨fun c => (Cert.OutfIdeal.Gen.dats m 0 c).arrAt 5 Cert.OutfIdeal.cfg0.N, fun c => (Cert.OutfIdeal.Gen.dats m 0 c).arrAt 6 Cert.OutfIdeal.cfg0.N,
    Cert.OutfIdeal.Value.run_blocks m g, ?_⟩
  refine (θ_run Cert.OutfRefIdeal.defs _ _).mono (fun r h c => ?_) (Cert.OutfRefIdeal.Value.run m' g')
  obtain ⟨e0, e1, kept⟩ := h c
  obtain ⟨b0, b1, b2, b3, b4⟩ := hargs c
  have h0 : ∀ r l, _ = Cert.OutfIdeal.Out.aX m c r l := fun r l => congrFun b0 (ix2 r l)
  have h1 : ∀ r l, _ = Cert.OutfIdeal.Out.aS m c r l := fun r l => congrFun b1 (ix2 r l)
  have h2 : ∀ r l, _ = Cert.OutfIdeal.Out.aC m c r l := fun r l => congrFun b2 (ix2 r l)
  have h3 : ∀ l, _ = Cert.OutfIdeal.Out.aG m c l := fun l => congrFun b3 (ix1 l)
  have h4 : ∀ k l, _ = Cert.OutfIdeal.Out.aW m c k l := fun k l => congrFun b4 (ix2 k l)
  clear hargs h
  refine ⟨(e0.trans (Cert.OutfRefIdeal.Read.val_main_v2_eq _ _ _ _)).trans ?_, (e1.trans (Cert.OutfRefIdeal.Read.val_main_v16_eq _ _ _ _ _)).trans ?_, kept⟩
  · funext y
    obtain ⟨i, j, rfl⟩ : ∃ (i : Fin 4096) (j : Fin 1024), y = ix2 i j := ⟨_, _, eq_ix2 (n0 := 4096) (n1 := 1024) y⟩
    exact (Cert.OutfRefIdeal.Val.v2_eq h0 h1 h2 h4 i j).trans (Cert.OutfIdeal.Out.final5 m c i j).symm
  · funext y
    obtain ⟨i, j, rfl⟩ : ∃ (i : Fin 4096) (j : Fin 1024), y = ix2 i j := ⟨_, _, eq_ix2 (n0 := 4096) (n1 := 1024) y⟩
    exact (Cert.OutfRefIdeal.Val.v16_eq h0 h1 h2 h3 h4 i j).trans (Cert.OutfIdeal.Out.final6 m c i j).symm

end Cert.Outf

end
-- ==== Proof.MlpfKer.lean ====
/- The feed-forward block's forward kernel: what each grid point leaves in its output blocks and in the accumulator. -/
module

public import Idealize.ShloMosaic.Lib.Pipeline.ValueKit.Tiles
public import proofs.«01_k».proof.Proof.Gen.MlpfIdeal.Value

@[expose] public section

set_option maxRecDepth 16384

noncomputable section

namespace Cert.MlpfIdeal.Out

open Cert.MlpfIdeal Cert.MlpfIdeal.Gen Idealize.ShloMosaic Idealize.ShloMosaic.TcCoe

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x1024 .f32) (h2 : arg2.IsWhole) (arg3 : Memref sig .tc .vmem S512x1024 .bf16) (h3 : arg3.IsWhole) (arg4 : Memref sig .tc .vmem S1x1024x1024 .bf16) (h4 : arg4.IsWhole) (arg5 : Memref sig .tc .vmem S1x1024x1024 .bf16) (h5 : arg5.IsWhole) (arg6 : Memref sig .tc .vmem S1x1024 .f32) (h6 : arg6.IsWhole) (arg7 : Memref sig .tc .vmem S512x1024 .bf16) (h7 : arg7.IsWhole) (arg8 : Memref sig .tc .vmem S512x1024 .f32) (h8 : arg8.IsWhole) (arg9 : Memref sig .tc .vmem S512x1024 .bf16) (h9 : arg9.IsWhole) (arg10 : Memref sig .tc .vmem S512x1024 .f32) (h10 : arg10.IsWhole)
  (x0 : Vec F S512x1024 .f32) (x1 : Vec F S512x1024 .bf16) (x2 x3 : Vec F S1x1024x1024 .bf16) (x4 : Vec F S1x1024 .f32) (xs : Vec F S512x1024 .f32)

theorem out_A_5 (hc0 : cond0_0 i) (hc1 : ¬cond0_1 i) : out0_A_5 c i arg2 h2 arg3 h3 arg4 h4 arg5 h5 arg6 h6 arg7 h7 arg8 h8 arg9 h9 arg10 h10 hc0 hc1 x0 x1 x2 x3 x4 = k0_pay3 x1 x2 := by
  unfold out0_A_5
  rw [View.read_writes_eq_canon _ _ _ (cover0_A_5 c i arg2 h2 arg3 h3 arg4 h4 arg5 h5 arg6 h6 arg7 h7 arg8 h8 arg9 h9 arg10 h10 hc0 hc1 x0 x1 x2 x3 x4)]
  unfold kernelRun0_A
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem out_B_5 (hc0 : ¬cond0_0 i) (hc1 : ¬cond0_1 i) : out0_B_5 c i arg2 h2 arg3 h3 arg4 h4 arg5 h5 arg6 h6 arg7 h7 arg8 h8 arg9 h9 arg10 h10 hc0 hc1 x0 x1 x2 x3 x4 xs = k0_pay3 x1 x2 := by
  unfold out0_B_5
  rw [View.read_writes_eq_canon _ _ _ (cover0_B_5 c i arg2 h2 arg3 h3 arg4 h4 arg5 h5 arg6 h6 arg7 h7 arg8 h8 arg9 h9 arg10 h10 hc0 hc1 x0 x1 x2 x3 x4 xs)]
  unfold kernelRun0_B
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem out_C_5 (hc0 : ¬cond0_0 i) (hc1 : cond0_1 i) : out0_C_5 c i arg2 h2 arg3 h3 arg4 h4 arg5 h5 arg6 h6 arg7 h7 arg8 h8 arg9 h9 arg10 h10 hc0 hc1 x0 x1 x2 x3 x4 xs = k0_pay3 x1 x2 := by
  unfold out0_C_5
  rw [View.read_writes_eq_canon _ _ _ (cover0_C_5 c i arg2 h2 arg3 h3 arg4 h4 arg5 h5 arg6 h6 arg7 h7 arg8 h8 arg9 h9 arg10 h10 hc0 hc1 x0 x1 x2 x3 x4 xs)]
  unfold kernelRun0_C
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem sout_A_0 (hc0 : cond0_0 i) (hc1 : ¬cond0_1 i) : sout0_A_0 c i arg2 h2 arg3 h3 arg4 h4 arg5 h5 arg6 h6 arg7 h7 arg8 h8 arg9 h9 arg10 h10 hc0 hc1 x0 x1 x2 x3 x4 = k0_pay4 x1 x2 k0_pay1 x3 := by
  unfold sout0_A_0
  rw [View.read_writes_eq_canon _ _ _ (scover0_A_0 c i arg2 h2 arg3 h3 arg4 h4 arg5 h5 arg6 h6 arg7 h7 arg8 h8 arg9 h9 arg10 h10 hc0 hc1 x0 x1 x2 x3 x4)]
  unfold kernelRun0_A
  dsimp only
  sl_unfold_words
  rw [View.canon_cons_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem sout_B_0 (hc0 : ¬cond0_0 i) (hc1 : ¬cond0_1 i) : sout0_B_0 c i arg2 h2 arg3 h3 arg4 h4 arg5 h5 arg6 h6 arg7 h7 arg8 h8 arg9 h9 arg10 h10 hc0 hc1 x0 x1 x2 x3 x4 xs = k0_pay4 x1 x2 xs x3 := by
  unfold sout0_B_0
  rw [View.read_writes_eq_canon _ _ _ (scover0_B_0 c i arg2 h2 arg3 h3 arg4 h4 arg5 h5 arg6 h6 arg7 h7 arg8 h8 arg9 h9 arg10 h10 hc0 hc1 x0 x1 x2 x3 x4 xs)]
  unfold kernelRun0_B
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem sout_C_0 (hc0 : ¬cond0_0 i) (hc1 : cond0_1 i) : sout0_C_0 c i arg2 h2 arg3 h3 arg4 h4 arg5 h5 arg6 h6 arg7 h7 arg8 h8 arg9 h9 arg10 h10 hc0 hc1 x0 x1 x2 x3 x4 xs = k0_pay4 x1 x2 xs x3 := by
  unfold sout0_C_0
  rw [View.read_writes_eq_canon _ _ _ (scover0_C_0 c i arg2 h2 arg3 h3 arg4 h4 arg5 h5 arg6 h6 arg7 h7 arg8 h8 arg9 h9 arg10 h10 hc0 hc1 x0 x1 x2 x3 x4 xs)]
  unfold kernelRun0_C
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem out_C_6 (hc0 : ¬cond0_0 i) (hc1 : cond0_1 i) : out0_C_6 c i arg2 h2 arg3 h3 arg4 h4 arg5 h5 arg6 h6 arg7 h7 arg8 h8 arg9 h9 arg10 h10 hc0 hc1 x0 x1 x2 x3 x4 xs = k0_pay5 x0 (k0_pay4 x1 x2 xs x3) := by
  unfold out0_C_6
  rw [View.read_writes_eq_canon _ _ _ (cover0_C_6 c i arg2 h2 arg3 h3 arg4 h4 arg5 h5 arg6 h6 arg7 h7 arg8 h8 arg9 h9 arg10 h10 hc0 hc1 x0 x1 x2 x3 x4 xs)]
  unfold kernelRun0_C
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

theorem out_C_7 (hc0 : ¬cond0_0 i) (hc1 : cond0_1 i) : out0_C_7 c i arg2 h2 arg3 h3 arg4 h4 arg5 h5 arg6 h6 arg7 h7 arg8 h8 arg9 h9 arg10 h10 hc0 hc1 x0 x1 x2 x3 x4 xs = k0_pay6 x0 (k0_pay4 x1 x2 xs x3) x4 := by
  unfold out0_C_7
  rw [View.read_writes_eq_canon _ _ _ (cover0_C_7 c i arg2 h2 arg3 h3 arg4 h4 arg5 h5 arg6 h6 arg7 h7 arg8 h8 arg9 h9 arg10 h10 hc0 hc1 x0 x1 x2 x3 x4 xs)]
  unfold kernelRun0_C
  dsimp only
  sl_unfold_words
  rw [View.canon_unit_zero hz]
  simp only [View.readAt_eq_ld, View.readCov_unit_zero (S := S512x1024) _ hz, h2.read_unread, h3.read_unread, h4.read_unread, h5.read_unread, h6.read_unread, h7.read_unread, h8.read_unread, h9.read_unread, h10.read_unread,
    View.ld_unit_zero (S := S512x1024) hz, View.ld_unit_zero (S := S1x1024) hz, View.ld_unit_zero (S := S1x1024x1024) hz3]

end Cert.MlpfIdeal.Out

end
-- ==== Proof.MlpfVal.lean ====
/- The feed-forward block's forward kernel: the three result arrays after the run, element by element. -/
module

public import proofs.«01_k».proof.Proof.Reals
public import proofs.«01_k».proof.Proof.MlpfKer

@[expose] public section

set_option maxRecDepth 16384

noncomputable section

namespace Cert.Mlpf

open Idealize.ShloMosaic

/-- A hidden unit after the relu. -/
def hid (U : Fin 4096 → Fin 1024 → EReal) (A : Fin 1024 → Fin 4096 → EReal) (r n : Fin 4096) : EReal := max (∑ k, U r k * A k n) (0 : EReal)

/-- The block's input and its feed-forward rows. -/
def hrow (X U : Fin 4096 → Fin 1024 → EReal) (A : Fin 1024 → Fin 4096 → EReal) (D : Fin 4096 → Fin 1024 → EReal) (r : Fin 4096) (l : Fin 1024) : EReal :=
  X r l + ∑ n, hid U A r n * hid U A r n * D n l

/-- The rms norm of a row. -/
def rmsrow (H G : Fin 1024 → EReal) (l : Fin 1024) : EReal :=
  H l * Ideal.rsqrt (Ideal.div (∑ k, H k * H k) (Ideal.ofBits .f32 0x44800000#32) + Ideal.ofBits .f32 0x358637BD#32) * G l

/-- What the `b`-th block of 1024 hidden units adds to a row's output. -/
def blk (U : Fin 4096 → Fin 1024 → EReal) (A : Fin 1024 → Fin 4096 → EReal) (D : Fin 4096 → Fin 1024 → EReal) (r : Fin 4096) (l : Fin 1024) (b : ℕ) : EReal :=
  ∑ f : Fin 1024, hid U A r ⟨1024 * (b % 4) + f.val, by omega⟩ * hid U A r ⟨1024 * (b % 4) + f.val, by omega⟩ * D ⟨1024 * (b % 4) + f.val, by omega⟩ l

/-- The accumulator after the blocks up to the `b`-th. -/
def acc (U : Fin 4096 → Fin 1024 → EReal) (A : Fin 1024 → Fin 4096 → EReal) (D : Fin 4096 → Fin 1024 → EReal) (r : Fin 4096) (l : Fin 1024) : ℕ → EReal
  | 0 => blk U A D r l 0
  | b + 1 => acc U A D r l b + blk U A D r l (b + 1)

/-- After the fourth block the accumulator is the sum over all hidden units. -/
theorem acc_three (U : Fin 4096 → Fin 1024 → EReal) (A : Fin 1024 → Fin 4096 → EReal) (D : Fin 4096 → Fin 1024 → EReal) (r : Fin 4096) (l : Fin 1024) :
    acc U A D r l 3 = ∑ n, hid U A r n * hid U A r n * D n l := by
  generalize hf : (fun n => hid U A r n * hid U A r n * D n l) = f
  rw [show ∑ n, f n = _ from Fin.sum_univ_add (a := 3072) (b := 1024) f,
    show ∑ i : Fin 3072, f (Fin.castAdd 1024 i) = _ from Fin.sum_univ_add (a := 2048) (b := 1024) fun i : Fin 3072 => f (Fin.castAdd 1024 i),
    show ∑ i : Fin 2048, f (Fin.castAdd 1024 (Fin.castAdd 1024 i)) = _ from
      Fin.sum_univ_add (a := 1024) (b := 1024) fun i : Fin 2048 => f (Fin.castAdd 1024 (Fin.castAdd 1024 i))]
  subst hf
  show blk U A D r l 0 + blk U A D r l 1 + blk U A D r l 2 + blk U A D r l 3 = _
  refine congrArg₂ (· + ·) (congrArg₂ (· + ·) (congrArg₂ (· + ·) ?_ ?_) ?_) ?_ <;>
    exact Finset.sum_congr rfl fun j _ => congrArg (fun n => hid U A r n * hid U A r n * D n l) (Fin.ext (by simp [Nat.add_comm]))

end Cert.Mlpf

namespace Cert.MlpfIdeal.Out

open Cert.MlpfIdeal Cert.MlpfIdeal.Gen Cert.Reals Cert.Mlpf Idealize.ShloMosaic Idealize.ShloMosaic.TcCoe Idealize.SL.Sem

/-! ## One grid point -/

section Point

variable {X U : Fin 4096 → Fin 1024 → EReal} {A : Fin 1024 → Fin 4096 → EReal} {D : Fin 4096 → Fin 1024 → EReal} {G : Fin 1024 → EReal} {R : Fin 512 → Fin 4096} {N : Fin 1024 → Fin 4096}
variable {x0 : FVec Ideal S512x1024 .f32} {x1 : FVec Ideal S512x1024 .bf16} {x2 x3 : FVec Ideal S1x1024x1024 .bf16} {x4 : FVec Ideal S1x1024 .f32} {xs : FVec Ideal S512x1024 .f32}

theorem pay2_eq (h1 : ∀ r l, x1 (ix2 r l) = U (R r) l) (h2 : ∀ z k f, x2 (ix3 z k f) = A k (N f)) (r : Fin 512) (f : Fin 1024) :
    k0_pay2 (F := Ideal) x1 x2 (ix2 r f) = hid U A (R r) (N f) := by
  pointwise [k0_pay2]
  simp only [h1, h2]
  rfl

theorem pay3_eq (h1 : ∀ r l, x1 (ix2 r l) = U (R r) l) (h2 : ∀ z k f, x2 (ix3 z k f) = A k (N f)) (r : Fin 512) (f : Fin 1024) :
    k0_pay3 (F := Ideal) x1 x2 (ix2 r f) = hid U A (R r) (N f) := pay2_eq h1 h2 r f

theorem pay4_eq (h1 : ∀ r l, x1 (ix2 r l) = U (R r) l) (h2 : ∀ z k f, x2 (ix3 z k f) = A k (N f)) (h3 : ∀ z f l, x3 (ix3 z f l) = D (N f) l) (r : Fin 512) (l : Fin 1024) :
    k0_pay4 (F := Ideal) x1 x2 xs x3 (ix2 r l) = xs (ix2 r l) + ∑ f, hid U A (R r) (N f) * hid U A (R r) (N f) * D (N f) l := by
  have e := pay2_eq (R := R) h1 h2
  unfold k0_pay4
  generalize k0_pay2 (F := Ideal) x1 x2 = y at e ⊢
  pointwise []
  simp only [e, h3]

theorem pay5_eq {Y : Fin 512 → Fin 1024 → EReal} (h0 : ∀ r l, x0 (ix2 r l) = X (R r) l) (hs : ∀ r l, xs (ix2 r l) = Y r l) (r : Fin 512) (l : Fin 1024) :
    k0_pay5 (F := Ideal) x0 xs (ix2 r l) = X (R r) l + Y r l := by
  pointwise [k0_pay5]
  simp only [h0, hs]

theorem pay6_eq {Y : Fin 512 → Fin 1024 → EReal} (h0 : ∀ r l, x0 (ix2 r l) = X (R r) l) (hs : ∀ r l, xs (ix2 r l) = Y r l) (h4 : ∀ z l, x4 (ix2 z l) = G l) (r : Fin 512) (l : Fin 1024) :
    k0_pay6 (F := Ideal) x0 xs x4 (ix2 r l) = rmsrow (fun l => X (R r) l + Y r l) G l := by
  pointwise [k0_pay6, k0_pay5]
  simp only [h0, hs, h4]
  rfl

end Point

/-! ## The arrays -/

variable (m : (ℓ : Loc nD τ sig) → Buf (Elt Ideal) ℓ) (c : Dev nD)

/-- The block's input. -/
abbrev aX (r : Fin 4096) (l : Fin 1024) : EReal := (m ((c : Thread nD τ).loc main_arg0) : FVec Ideal S4096x1024 .f32) (ix2 r l)
/-- Its normalised rows. -/
abbrev aU (r : Fin 4096) (l : Fin 1024) : EReal := (m ((c : Thread nD τ).loc main_arg1) : FVec Ideal S4096x1024 .f32) (ix2 r l)
/-- The weight into the hidden units. -/
abbrev aA (l : Fin 1024) (n : Fin 4096) : EReal := (m ((c : Thread nD τ).loc main_arg2) : FVec Ideal S1024x4096 .f32) (ix2 l n)
/-- The weight out of them. -/
abbrev aD (n : Fin 4096) (l : Fin 1024) : EReal := (m ((c : Thread nD τ).loc main_arg3) : FVec Ideal S4096x1024 .f32) (ix2 n l)
/-- The next norm's weight. -/
abbrev aG (l : Fin 1024) : EReal := (m ((c : Thread nD τ).loc main_arg4) : FVec Ideal S1024 .f32) (ix1 l)

/-- The slab of the two weights. -/
abbrev hW (w : FVec Ideal S1024x4096 .f32) (d : FVec Ideal S4096x1024 .f32) : FVec Ideal S4x2048x1024 .bf16 :=
  concatenate S4x2048x1024 1
    [⟨S4x1024x1024, transpose S4x1024x1024 [1, 0, 2] (shapeCast S1024x4x1024 (truncf .bf16 w bitsLt_bf16_f32) shapeCasts_S1024x4096_S1024x4x1024) transposes_S1024x4x1024_S4x1024x1024_1_0_2⟩,
     ⟨S4x1024x1024, shapeCast S4x1024x1024 (truncf .bf16 d bitsLt_bf16_f32) shapeCasts_S4096x1024_S4x1024x1024⟩]
    concatenates_S4x1024x1024_S4x1024x1024_S4x2048x1024_d1

theorem V0 : V m c main_v0 = (truncf .bf16 (m ((c : Thread nD τ).loc main_arg1) : FVec Ideal S4096x1024 .f32) bitsLt_bf16_f32 : FVec Ideal S4096x1024 .bf16) := by
  simp only [V, hostOps0]; after_results_simp <;> rfl

theorem V6 : V m c main_v6 = hW (m ((c : Thread nD τ).loc main_arg2)) (m ((c : Thread nD τ).loc main_arg3)) := by
  simp only [V, hostOps0]; after_results_simp <;> rfl

theorem V7 : V m c main_v7 = shapeCast S1x1024 (m ((c : Thread nD τ).loc main_arg4) : FVec Ideal S1024 .f32) shapeCasts_S1024_S1x1024 := by
  simp only [V, hostOps0]; after_results_simp <;> rfl

theorem hW_up (w : FVec Ideal S1024x4096 .f32) (d : FVec Ideal S4096x1024 .f32) (p : Fin 4) (q : Fin 2048) (k : Fin 1024) (hq : q.val < 1024) :
    hW w d (ix3 p q k) = w (ix2 ⟨q.val, hq⟩ ⟨1024 * p.val + k.val, by omega⟩) := by
  unfold hW
  pointwise []
  rw [dif_pos (by omega)]
  exact congrArg w (funext fun a => Fin.ext (match a with | ⟨0, _⟩ => rfl | ⟨1, _⟩ => by dsimp; omega))

theorem hW_down (w : FVec Ideal S1024x4096 .f32) (d : FVec Ideal S4096x1024 .f32) (p : Fin 4) (q : Fin 2048) (k : Fin 1024) (hq : 1024 ≤ q.val) :
    hW w d (ix3 p q k) = d (ix2 ⟨1024 * p.val + (q.val - 1024), by omega⟩ k) := by
  unfold hW
  pointwise []
  rw [dif_neg (by omega)]
  exact congrArg d (funext fun a => Fin.ext (match a with | ⟨0, _⟩ => by dsimp; omega | ⟨1, _⟩ => rfl))

theorem idx0 : ∀ t : Fin grid0.N, win0_0.index t 0 = t.val / 4 ∧ win0_0.index t 1 = 0 := by decide +kernel
theorem idx1 : ∀ t : Fin grid0.N, win0_1.index t 0 = t.val / 4 ∧ win0_1.index t 1 = 0 := by decide +kernel
theorem idx2 : ∀ t : Fin grid0.N, win0_2.index t 0 = t.val % 4 ∧ win0_2.index t 1 = 0 ∧ win0_2.index t 2 = 0 := by decide +kernel
theorem idx3 : ∀ t : Fin grid0.N, win0_3.index t 0 = t.val % 4 ∧ win0_3.index t 1 = 1 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = t.val / 4 ∧ win0_5.index t 1 = t.val % 4 := by decide +kernel
theorem idx6 : ∀ t : Fin grid0.N, win0_6.index t 0 = t.val / 4 ∧ win0_6.index t 1 = 0 := by decide +kernel
theorem idx7 : ∀ t : Fin grid0.N, win0_7.index t 0 = t.val / 4 ∧ win0_7.index t 1 = 0 := by decide +kernel

theorem lt32 (t : Fin cfg0.N) : t.val < 32 := lt_of_lt_of_eq t.isLt N_0

/-- Row `r` of a point's block of rows. -/
def rowOf (t : ℕ) (h : t < cfg0.N) (r : Fin 512) : Fin 4096 := ⟨512 * (t / 4) + r.val, by have := lt32 ⟨t, h⟩; dsimp at this; omega⟩
/-- Hidden unit `f` of a point's block of units. -/
def colOf (t : ℕ) (f : Fin 1024) : Fin 4096 := ⟨1024 * (t % 4) + f.val, by omega⟩

theorem blk0 (t : Fin cfg0.N) (r : Fin 512) (l : Fin 1024) : (iblk m c 0 t : Vec Ideal S512x1024 .f32) (ix2 r l) = aX m c (rowOf t.val t.isLt r) l := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * (t.val / 4) + r.val; rw [(idx0 t).1]; omega
  | ⟨1, _⟩ => show win0_0.index t 1 * 1024 + 1 * l.val = l.val; rw [(idx0 t).2]; omega

theorem blk1 (t : Fin cfg0.N) (r : Fin 512) (l : Fin 1024) : (iblk m c 1 t : Vec Ideal S512x1024 .bf16) (ix2 r l) = aU m c (rowOf t.val t.isLt r) l := by
  unfold iblk
  rw [View.read_apply]
  show V m c main_v0 _ = _
  rw [V0]
  refine congrArg (m ((c : Thread nD τ).loc main_arg1) : FVec Ideal S4096x1024 .f32) (funext fun a => Fin.ext ?_)
  match a with
  | ⟨0, _⟩ => show win0_1.index t 0 * 512 + 1 * r.val = 512 * (t.val / 4) + r.val; rw [(idx1 t).1]; omega
  | ⟨1, _⟩ => show win0_1.index t 1 * 1024 + 1 * l.val = l.val; rw [(idx1 t).2]; omega

theorem blk2 (t : Fin cfg0.N) (z : Fin 1) (k f : Fin 1024) : (iblk m c 2 t : Vec Ideal S1x1024x1024 .bf16) (ix3 z k f) = aA m c k (colOf t.val f) := by
  unfold iblk
  rw [View.read_apply]
  show V m c main_v6 _ = _
  rw [V6]
  refine Eq.trans (congrArg _ (a₂ := ix3 ⟨t.val % 4, by omega⟩ ⟨k.val, by omega⟩ f) (funext fun a => Fin.ext ?_)) ((hW_up _ _ ⟨t.val % 4, by omega⟩ ⟨k.val, by omega⟩ f k.isLt).trans rfl)
  match a with
  | ⟨0, _⟩ => show win0_2.index t 0 * 1 + 1 * z.val = t.val % 4; rw [(idx2 t).1]; omega
  | ⟨1, _⟩ => show win0_2.index t 1 * 1024 + 1 * k.val = k.val; rw [(idx2 t).2.1]; omega
  | ⟨2, _⟩ => show win0_2.index t 2 * 1024 + 1 * f.val = f.val; rw [(idx2 t).2.2]; omega

theorem blk3 (t : Fin cfg0.N) (z : Fin 1) (f l : Fin 1024) : (iblk m c 3 t : Vec Ideal S1x1024x1024 .bf16) (ix3 z f l) = aD m c (colOf t.val f) l := by
  unfold iblk
  rw [View.read_apply]
  show V m c main_v6 _ = _
  rw [V6]
  refine Eq.trans (congrArg _ (a₂ := ix3 ⟨t.val % 4, by omega⟩ ⟨1024 + f.val, by omega⟩ l) (funext fun a => Fin.ext ?_))
    ((hW_down _ _ ⟨t.val % 4, by omega⟩ ⟨1024 + f.val, by omega⟩ l (by simp)).trans (congrArg (fun n => aD m c n l) (Fin.ext ?_)))
  · match a with
    | ⟨0, _⟩ => show win0_3.index t 0 * 1 + 1 * z.val = t.val % 4; rw [(idx3 t).1]; omega
    | ⟨1, _⟩ => show win0_3.index t 1 * 1024 + 1 * f.val = 1024 + f.val; rw [(idx3 t).2.1]; omega
    | ⟨2, _⟩ => show win0_3.index t 2 * 1024 + 1 * l.val = l.val; rw [(idx3 t).2.2]; omega
  · show 1024 * (t.val % 4) + (1024 + f.val - 1024) = 1024 * (t.val % 4) + f.val
    omega

theorem blk4 (t : Fin cfg0.N) (z : Fin 1) (l : Fin 1024) : (iblk m c 4 t : Vec Ideal S1x1024 .f32) (ix2 z l) = aG m c l := by
  unfold iblk
  rw [View.read_apply]
  show V m c main_v7 _ = _
  rw [V7]
  refine Eq.trans (congrArg _ (a₂ := ix2 z l) (funext fun a => Fin.ext ?_)) ?_
  · match a with
    | ⟨0, _⟩ => show win0_4.index t 0 * 1 + 1 * z.val = z.val; rw [(idx4 t).1]; omega
    | ⟨1, _⟩ => show win0_4.index t 1 * 1024 + 1 * l.val = l.val; rw [(idx4 t).2]; omega
  · pointwise

/-! ## The accumulator -/

theorem step (t : Fin cfg0.N) (xs : FVec Ideal S512x1024 .f32) (r : Fin 512) (l : Fin 1024) :
    k0_pay4 (F := Ideal) (iblk m c 1 t) (iblk m c 2 t) xs (iblk m c 3 t) (ix2 r l)
      = xs (ix2 r l) + blk (aU m c) (aA m c) (aD m c) (rowOf t.val t.isLt r) l t.val :=
  pay4_eq (R := rowOf t.val t.isLt) (N := colOf t.val) (blk1 m c t) (blk2 m c t) (blk3 m c t) r l

theorem blk_mod (U : Fin 4096 → Fin 1024 → EReal) (A : Fin 1024 → Fin 4096 → EReal) (D : Fin 4096 → Fin 1024 → EReal) (r : Fin 4096) (l : Fin 1024) (b : ℕ) :
    blk U A D r l (b % 4) = blk U A D r l b :=
  Finset.sum_congr rfl fun f _ => congrArg (fun n => hid U A r n * hid U A r n * D n l) (Fin.ext (by simp))

theorem pay1_eq (r : Fin 512) (l : Fin 1024) : k0_pay1 (F := Ideal) (ix2 r l) = (0 : EReal) := by
  pointwise [k0_pay1]

theorem scr (t : ℕ) : ∀ (h : t < cfg0.N) (r : Fin 512) (l : Fin 1024),
    ((outsAt0 m c t h).2.2.2 : FVec Ideal S512x1024 .f32) (ix2 r l) = acc (aU m c) (aA m c) (aD m c) (rowOf t h r) l (t % 4) := by
  induction t using Nat.strong_induction_on with
  | _ t ih =>
    intro h r l
    by_cases h0 : t % 4 = 0
    · have h1 : ¬ t % 4 = 3 := by omega
      rw [outsAt0_A m c ⟨t, h⟩ h0 h1]
      dsimp only
      rw [sout_A_0]
      refine (step m c ⟨t, h⟩ _ r l).trans ?_
      rw [pay1_eq, zero_add, h0, ← blk_mod]
      dsimp only
      rw [h0]
      rfl
    · have key : (outsAt0 m c (t - 1) (Nat.lt_of_le_of_lt (Nat.sub_le _ _) h)).2.2.2 (ix2 r l) + blk (aU m c) (aA m c) (aD m c) (rowOf t h r) l t
          = acc (aU m c) (aA m c) (aD m c) (rowOf t h r) l (t % 4) := by
        rw [ih (t - 1) (by omega) (Nat.lt_of_le_of_lt (Nat.sub_le _ _) h) r l, ← blk_mod]
        rw [show rowOf (t - 1) (Nat.lt_of_le_of_lt (Nat.sub_le _ _) h) r = rowOf t h r from Fin.ext (by show 512 * ((t - 1) / 4) + r.val = 512 * (t / 4) + r.val; omega),
          show t % 4 = (t - 1) % 4 + 1 by omega]
        rfl
      by_cases h1 : t % 4 = 3
      · rw [outsAt0_C m c ⟨t, h⟩ h0 h1]
        dsimp only
        rw [sout_C_0]
        exact (step m c ⟨t, h⟩ _ r l).trans key
      · rw [outsAt0_B m c ⟨t, h⟩ h0 h1]
        dsimp only
        rw [sout_B_0]
        exact (step m c ⟨t, h⟩ _ r l).trans key

theorem out5_eq (t : Fin cfg0.N) (r : Fin 512) (f : Fin 1024) :
    ((outsAt0 m c t.val t.isLt).1 : FVec Ideal S512x1024 .bf16) (ix2 r f) = hid (aU m c) (aA m c) (rowOf t.val t.isLt r) (colOf t.val f) := by
  have e := pay3_eq (R := rowOf t.val t.isLt) (N := colOf t.val) (blk1 m c t) (blk2 m c t) r f
  by_cases h0 : t.val % 4 = 0
  · have h1 : ¬ t.val % 4 = 3 := by omega
    rw [outsAt0_A m c t h0 h1]
    dsimp only
    rw [out_A_5]
    exact e
  · by_cases h1 : t.val % 4 = 3
    · rw [outsAt0_C m c t h0 h1]
      dsimp only
      rw [out_C_5]
      exact e
    · rw [outsAt0_B m c t h0 h1]
      dsimp only
      rw [out_B_5]
      exact e

/-- The accumulator at the last point of a block of rows. -/
theorem scr_last (t : Fin cfg0.N) (h1 : t.val % 4 = 3) (r : Fin 512) (l : Fin 1024) :
    k0_pay4 (F := Ideal) (iblk m c 1 t) (iblk m c 2 t) (outsAt0 m c (t.val - 1) (Nat.lt_of_le_of_lt (Nat.sub_le _ _) t.isLt)).2.2.2 (iblk m c 3 t) (ix2 r l)
      = ∑ n, hid (aU m c) (aA m c) (rowOf t.val t.isLt r) n * hid (aU m c) (aA m c) (rowOf t.val t.isLt r) n * aD m c n l := by
  have h0 : ¬ t.val % 4 = 0 := by omega
  have e := scr m c t.val t.isLt r l
  rw [outsAt0_C m c t h0 h1] at e
  dsimp only at e
  rw [sout_C_0, h1, acc_three] at e
  exact e

theorem out6_eq (t : Fin cfg0.N) (h1 : t.val % 4 = 3) (r : Fin 512) (l : Fin 1024) :
    ((outsAt0 m c t.val t.isLt).2.1 : FVec Ideal S512x1024 .f32) (ix2 r l) = hrow (aX m c) (aU m c) (aA m c) (aD m c) (rowOf t.val t.isLt r) l := by
  have h0 : ¬ t.val % 4 = 0 := by omega
  rw [outsAt0_C m c t h0 h1]
  dsimp only
  rw [out_C_6]
  exact pay5_eq (R := rowOf t.val t.isLt) (blk0 m c t) (scr_last m c t h1) r l

theorem out7_eq (t : Fin cfg0.N) (h1 : t.val % 4 = 3) (r : Fin 512) (l : Fin 1024) :
    ((outsAt0 m c t.val t.isLt).2.2.1 : FVec Ideal S512x1024 .bf16) (ix2 r l)
      = rmsrow (hrow (aX m c) (aU m c) (aA m c) (aD m c) (rowOf t.val t.isLt r)) (aG m c) l := by
  have h0 : ¬ t.val % 4 = 0 := by omega
  rw [outsAt0_C m c t h0 h1]
  dsimp only
  rw [out_C_7]
  exact pay6_eq (R := rowOf t.val t.isLt) (blk0 m c t) (scr_last m c t h1) (blk4 m c t) r l

/-! ## The final arrays -/

/-- The grid point that writes the hidden unit `N` of row `R`. -/
def ptOf (R N : Fin 4096) : Fin cfg0.N := ⟨4 * (R.val / 512) + N.val / 1024, by rw [show cfg0.N = 32 from N_0]; omega⟩
/-- The last grid point of the block of rows that holds row `R`. -/
def lastOf (R : Fin 4096) : Fin cfg0.N := ⟨4 * (R.val / 512) + 3, by rw [show cfg0.N = 32 from N_0]; omega⟩

theorem last_mod (R : Fin 4096) : (lastOf R).val % 4 = 3 := by show (4 * (R.val / 512) + 3) % 4 = 3; omega

theorem row_last (R : Fin 4096) : rowOf (lastOf R).val (lastOf R).isLt ⟨R.val % 512, by omega⟩ = R :=
  Fin.ext (by show 512 * ((4 * (R.val / 512) + 3) / 4) + R.val % 512 = R.val; omega)
theorem row_pt (R N : Fin 4096) : rowOf (ptOf R N).val (ptOf R N).isLt ⟨R.val % 512, by omega⟩ = R :=
  Fin.ext (by show 512 * ((4 * (R.val / 512) + N.val / 1024) / 4) + R.val % 512 = R.val; omega)
theorem col_pt (R N : Fin 4096) : colOf (ptOf R N).val ⟨N.val % 1024, by omega⟩ = N :=
  Fin.ext (by show 1024 * ((4 * (R.val / 512) + N.val / 1024) % 4) + N.val % 1024 = N.val; omega)

theorem blocks6 (t : Fin cfg0.N) (h : t.val % 4 = 3) : ((cfg0.win 6).blk t).view.read (Elt Ideal) ((dats m 0 c).arrAt 6 cfg0.N) = (dats m 0 c).flushed 6 t := by
  refine (dats m 0 c).read_blk_arrAt_eq_flushed 6 (fun u u' hu hu' hne => (cfg0.win 6).disjoint_blk fun he => hne (Fin.ext ?_)) cfg0.N t t.isLt ((flush0_6 t).mpr h)
  have h3 := (flush0_6 u).mp hu
  have h3' := (flush0_6 u').mp hu'
  have e : u.val / 4 = u'.val / 4 := (idx6 u).1.symm.trans ((congrFun he 0).trans (idx6 u').1)
  omega

theorem blocks7 (t : Fin cfg0.N) (h : t.val % 4 = 3) : ((cfg0.win 7).blk t).view.read (Elt Ideal) ((dats m 0 c).arrAt 7 cfg0.N) = (dats m 0 c).flushed 7 t := by
  refine (dats m 0 c).read_blk_arrAt_eq_flushed 7 (fun u u' hu hu' hne => (cfg0.win 7).disjoint_blk fun he => hne (Fin.ext ?_)) cfg0.N t t.isLt ((flush0_7 t).mpr h)
  have h3 := (flush0_7 u).mp hu
  have h3' := (flush0_7 u').mp hu'
  have e : u.val / 4 = u'.val / 4 := (idx7 u).1.symm.trans ((congrFun he 0).trans (idx7 u').1)
  omega

theorem final5 (R N : Fin 4096) : ((dats m 0 c).arrAt 5 cfg0.N : FVec Ideal S4096x4096 .bf16) (ix2 R N) = hid (aU m c) (aA m c) R N := by
  have h := congrFun (Value.blocks5 m c (ptOf R N) (flush0_5 _)) (ix2 ⟨R.val % 512, by omega⟩ ⟨N.val % 1024, by omega⟩)
  rw [View.read_apply, Value.flushed5] at h
  refine Eq.trans (congrArg _ (funext fun a => Fin.ext ?_)) (h.trans ((out5_eq m c (ptOf R N) ⟨R.val % 512, by omega⟩ ⟨N.val % 1024, by omega⟩).trans ?_))
  · match a with
    | ⟨0, _⟩ => show R.val = win0_5.index (ptOf R N) 0 * 512 + 1 * (R.val % 512); rw [(idx5 (ptOf R N)).1]; show _ = (4 * (R.val / 512) + N.val / 1024) / 4 * 512 + _; omega
    | ⟨1, _⟩ => show N.val = win0_5.index (ptOf R N) 1 * 1024 + 1 * (N.val % 1024); rw [(idx5 (ptOf R N)).2]; show _ = (4 * (R.val / 512) + N.val / 1024) % 4 * 1024 + _; omega
  · rw [row_pt, col_pt]

theorem final6 (R : Fin 4096) (l : Fin 1024) : ((dats m 0 c).arrAt 6 cfg0.N : FVec Ideal S4096x1024 .f32) (ix2 R l) = hrow (aX m c) (aU m c) (aA m c) (aD m c) R l := by
  have h := congrFun (blocks6 m c (lastOf R) (last_mod R)) (ix2 ⟨R.val % 512, by omega⟩ l)
  rw [View.read_apply, Value.flushed6] at h
  refine Eq.trans (congrArg _ (funext fun a => Fin.ext ?_)) (h.trans ((out6_eq m c (lastOf R) (last_mod R) ⟨R.val % 512, by omega⟩ l).trans ?_))
  · match a with
    | ⟨0, _⟩ => show R.val = win0_6.index (lastOf R) 0 * 512 + 1 * (R.val % 512); rw [(idx6 (lastOf R)).1]; show _ = (4 * (R.val / 512) + 3) / 4 * 512 + _; omega
    | ⟨1, _⟩ => show l.val = win0_6.index (lastOf R) 1 * 1024 + 1 * l.val; rw [(idx6 (lastOf R)).2]; omega
  · rw [row_last]

theorem final7 (R : Fin 4096) (l : Fin 1024) :
    ((dats m 0 c).arrAt 7 cfg0.N : FVec Ideal S4096x1024 .bf16) (ix2 R l) = rmsrow (hrow (aX m c) (aU m c) (aA m c) (aD m c) R) (aG m c) l := by
  have h := congrFun (blocks7 m c (lastOf R) (last_mod R)) (ix2 ⟨R.val % 512, by omega⟩ l)
  rw [View.read_apply, Value.flushed7] at h
  refine Eq.trans (congrArg _ (funext fun a => Fin.ext ?_)) (h.trans ((out7_eq m c (lastOf R) (last_mod R) ⟨R.val % 512, by omega⟩ l).trans ?_))
  · match a with
    | ⟨0, _⟩ => show R.val = win0_7.index (lastOf R) 0 * 512 + 1 * (R.val % 512); rw [(idx7 (lastOf R)).1]; show _ = (4 * (R.val / 512) + 3) / 4 * 512 + _; omega
    | ⟨1, _⟩ => show l.val = win0_7.index (lastOf R) 1 * 1024 + 1 * l.val; rw [(idx7 (lastOf R)).2]; omega
  · rw [row_last]

end Cert.MlpfIdeal.Out

end
-- ==== Proof.MlpfClaim.lean ====
/- The feed-forward block's forward call: kernel and reference leave the same arrays. -/
module

public import proofs.«01_k».proof.Defs
public import proofs.«01_k».proof.Proof.MlpfVal
public import proofs.«01_k».proof.Proof.Gen.MlpfRefIdeal.Read
public import proofs.«01_k».proof.Proof.Gen.MlpfRefIdeal.Run

@[expose] public section

set_option maxRecDepth 16384

noncomputable section

namespace Cert.MlpfRefIdeal.Val

open Cert.MlpfRefIdeal Cert.MlpfRefIdeal.Gen Cert.MlpfRefIdeal.Read Cert.Reals Cert.Mlpf Idealize.ShloMosaic

variable {x0 x1 x3 : FVec Ideal S4096x1024 .f32} {x2 : FVec Ideal S1024x4096 .f32} {x4 : FVec Ideal S1024 .f32}
variable {X U : Fin 4096 → Fin 1024 → EReal} {A : Fin 1024 → Fin 4096 → EReal} {D : Fin 4096 → Fin 1024 → EReal} {G : Fin 1024 → EReal}

theorem v1_eq (h1 : ∀ r l, x1 (ix2 r l) = U r l) (h2 : ∀ l n, x2 (ix2 l n) = A l n) (r n : Fin 4096) : val_main_v1 (F := Ideal) x1 x2 (ix2 r n) = hid U A r n := by
  pointwise [val_main_v1, val_main_call0_v0, val_main_call0_cst, val_main_v0]
  simp only [h1, h2]
  rfl

theorem v5_eq (h1 : ∀ r l, x1 (ix2 r l) = U r l) (h2 : ∀ l n, x2 (ix2 l n) = A l n) (r n : Fin 4096) : val_main_v5 (F := Ideal) x1 x2 (ix2 r n) = hid U A r n :=
  v1_eq h1 h2 r n

theorem v4_eq (h0 : ∀ r l, x0 (ix2 r l) = X r l) (h1 : ∀ r l, x1 (ix2 r l) = U r l) (h2 : ∀ l n, x2 (ix2 l n) = A l n) (h3 : ∀ n l, x3 (ix2 n l) = D n l) (r : Fin 4096) (l : Fin 1024) :
    val_main_v4 (F := Ideal) x0 x1 x2 x3 (ix2 r l) = hrow X U A D r l := by
  have e := v1_eq h1 h2
  unfold val_main_v4 val_main_v3 val_main_v2
  generalize val_main_v1 (F := Ideal) x1 x2 = y at e ⊢
  pointwise []
  simp only [e, h0, h3]
  rfl

theorem v19_eq (h0 : ∀ r l, x0 (ix2 r l) = X r l) (h1 : ∀ r l, x1 (ix2 r l) = U r l) (h2 : ∀ l n, x2 (ix2 l n) = A l n) (h3 : ∀ n l, x3 (ix2 n l) = D n l) (h4 : ∀ l, x4 (ix1 l) = G l)
    (r : Fin 4096) (l : Fin 1024) : val_main_v19 (F := Ideal) x0 x1 x2 x3 x4 (ix2 r l) = rmsrow (hrow X U A D r) G l := by
  have e := v4_eq h0 h1 h2 h3
  pointwise [val_main_v19, val_main_v18, val_main_v17, val_main_v16, val_main_v15, val_main_v14, val_main_v13, val_main_v12, val_main_v11, val_main_cst_1, val_main_v10, val_main_v9, val_main_cst_0, val_main_v8, val_main_v7, val_main_cst, val_main_v6]
  simp only [e, h4]
  rfl

end Cert.MlpfRefIdeal.Val

namespace Cert.Mlpf

open Idealize.ShloMosaic Idealize.ShloMosaic.TcCoe Idealize.SL.Sem

theorem algebraic : Cert.algebraic_MlpfIdeal_MlpfRefIdeal := by
  intro m g m' g' _ hargs
  refine ⟨fun c => (Cert.MlpfIdeal.Gen.dats m 0 c).arrAt 5 Cert.MlpfIdeal.cfg0.N, fun c => (Cert.MlpfIdeal.Gen.dats m 0 c).arrAt 6 Cert.MlpfIdeal.cfg0.N,
    fun c => (Cert.MlpfIdeal.Gen.dats m 0 c).arrAt 7 Cert.MlpfIdeal.cfg0.N, Cert.MlpfIdeal.Value.run_blocks m g, ?_⟩
  refine (θ_run Cert.MlpfRefIdeal.defs _ _).mono (fun r h c => ?_) (Cert.MlpfRefIdeal.Value.run m' g')
  obtain ⟨e0, e1, e2, kept⟩ := h c
  obtain ⟨b0, b1, b2, b3, b4⟩ := hargs c
  have h0 : ∀ r l, _ = Cert.MlpfIdeal.Out.aX m c r l := fun r l => congrFun b0 (ix2 r l)
  have h1 : ∀ r l, _ = Cert.MlpfIdeal.Out.aU m c r l := fun r l => congrFun b1 (ix2 r l)
  have h2 : ∀ l n, _ = Cert.MlpfIdeal.Out.aA m c l n := fun l n => congrFun b2 (ix2 l n)
  have h3 : ∀ n l, _ = Cert.MlpfIdeal.Out.aD m c n l := fun n l => congrFun b3 (ix2 n l)
  have h4 : ∀ l, _ = Cert.MlpfIdeal.Out.aG m c l := fun l => congrFun b4 (ix1 l)
  clear hargs h
  refine ⟨(e0.trans (Cert.MlpfRefIdeal.Read.val_main_v5_eq _ _)).trans ?_, (e1.trans (Cert.MlpfRefIdeal.Read.val_main_v4_eq _ _ _ _)).trans ?_,
    (e2.trans (Cert.MlpfRefIdeal.Read.val_main_v19_eq _ _ _ _ _)).trans ?_, kept⟩
  · funext y
    obtain ⟨i, j, rfl⟩ : ∃ (i : Fin 4096) (j : Fin 4096), y = ix2 i j := ⟨_, _, eq_ix2 (n0 := 4096) (n1 := 4096) y⟩
    exact (Cert.MlpfRefIdeal.Val.v5_eq h1 h2 i j).trans (Cert.MlpfIdeal.Out.final5 m c i j).symm
  · funext y
    obtain ⟨i, j, rfl⟩ : ∃ (i : Fin 4096) (j : Fin 1024), y = ix2 i j := ⟨_, _, eq_ix2 (n0 := 4096) (n1 := 1024) y⟩
    exact (Cert.MlpfRefIdeal.Val.v4_eq h0 h1 h2 h3 i j).trans (Cert.MlpfIdeal.Out.final6 m c i j).symm
  · funext y
    obtain ⟨i, j, rfl⟩ : ∃ (i : Fin 4096) (j : Fin 1024), y = ix2 i j := ⟨_, _, eq_ix2 (n0 := 4096) (n1 := 1024) y⟩
    exact (Cert.MlpfRefIdeal.Val.v19_eq h0 h1 h2 h3 h4 i j).trans (Cert.MlpfIdeal.Out.final7 m c i j).symm

end Cert.Mlpf

end
-- ==== Proof.InpfKer.lean ====
/- The input projection's forward kernel: what each grid point leaves in its output blocks and in the assembled weight. -/
module

public import Idealize.ShloMosaic.Lib.Pipeline.ValueKit.Tiles
public import proofs.«01_k».proof.Proof.Gen.InpfIdeal.Value

@[expose] public section

set_option maxRecDepth 16384

noncomputable section

namespace Cert.InpfIdeal.Out

open Cert.InpfIdeal Cert.InpfIdeal.Gen Idealize.ShloMosaic Idealize.ShloMosaic.TcCoe

variable {F : FTy → Type} [FloatOps F]

theorem hz : (![0, 0] : Fin 2 → Nat) = fun _ => 0 := funext fun a => by fin_cases a <;> rfl

/-- The gate's rows of the assembled weight. -/
def ldZ (w : Vec F S4624x1024 .bf16) : Vec F S1024x1024 .bf16 := View.ld w (Rect.unit (s := S4624x1024) ![0, 0] S1024x1024.size inb_S4624x1024_S1024x1024_0_0)

/-- The rows of the convolution's input. -/
def ldX (w : Vec F S4624x1024 .bf16) : Vec F S1536x1024 .bf16 := View.ld w (Rect.unit (s := S4624x1024) ![1024, 0] S1536x1024.size inb_S4624x1024_S1536x1024_1024_0)

/-- The rows of the second mixer's values. -/
def ldV (w : Vec F S4624x1024 .bf16) : Vec F S1024x1024 .bf16 := View.ld w (Rect.unit (s := S4624x1024) ![2576, 0] S1024x1024.size inb_S4624x1024_S1024x1024_2576_0)

/-- The rows of the second mixer's gate. -/
def ldG (w : Vec F S4624x1024 .bf16) : Vec F S1024x1024 .bf16 := View.ld w (Rect.unit (s := S4624x1024) ![3600, 0] S1024x1024.size inb_S4624x1024_S1024x1024_3600_0)

/-- The 128 rows from the first step size on. -/
def ldT (w : Vec F S4624x1024 .bf16) : Vec F S128x1024 .bf16 := View.ld w (Rect.unit (s := S4624x1024) ![2560, 0] S128x1024.size inb_S4624x1024_S128x1024_2560_0)

/-- The four slabs of the gathered weight, one below the other. -/
def asmL (x2 : Vec F S4x1184x1024 .bf16) : List (View.Piece (Elt F) S4624x1024 .bf16) :=
  [⟨Rect.unit ![3468, 0] S1156x1024.size inb_S4624x1024_S1156x1024_3468_0, k0_pay7 (View.ld x2 (Rect.unit ![3, 0, 0] S1x1156x1024.size inb_S4x1184x1024_S1x1156x1024_3_0_0))⟩,
    ⟨Rect.unit ![2312, 0] S1156x1024.size inb_S4624x1024_S1156x1024_2312_0, k0_pay6 (View.ld x2 (Rect.unit ![2, 0, 0] S1x1156x1024.size inb_S4x1184x1024_S1x1156x1024_2_0_0))⟩,
    ⟨Rect.unit ![1156, 0] S1156x1024.size inb_S4624x1024_S1156x1024_1156_0, k0_pay5 (View.ld x2 (Rect.unit ![1, 0, 0] S1x1156x1024.size inb_S4x1184x1024_S1x1156x1024_1_0_0))⟩,
    ⟨Rect.unit ![0, 0] S1156x1024.size inb_S4624x1024_S1156x1024_0_0, k0_pay4 (View.ld x2 (Rect.unit ![0, 0, 0] S1x1156x1024.size inb_S4x1184x1024_S1x1156x1024_0_0_0))⟩]

/-- The weight the first point assembles. -/
def asm (x2 : Vec F S4x1184x1024 .bf16) : Vec F S4624x1024 .bf16 := View.canon (asmL x2)

variable (c : Dev nD) (i : grid0.Coords) (arg1 : Memref sig .tc .vmem S256x1024 .f32) (h1 : arg1.IsWhole) (arg2 : Memref sig .tc .vmem S1x1024 .f32) (h2 : arg2.IsWhole) (arg3 : Memref sig .tc .vmem S4x1184x1024 .bf16) (h3 : arg3.IsWhole) (arg4 : Memref sig .tc .vmem S256x1024 .bf16) (h4 : arg4.IsWhole) (arg5 : Memref sig .tc .vmem S256x1024 .f32) (h5 : arg5.IsWhole) (arg6 : Memref sig .tc .vmem S256x1536 .f32) (h6 : arg6.IsWhole) (arg7 : Memref sig .tc .vmem S256x1024 .f32) (h7 : arg7.IsWhole) (arg8 : Memref sig .tc .vmem S256x1024 .f32) (h8 : arg8.IsWhole) (arg9 : Memref sig .tc .vmem S256x128 .f32) (h9 : arg9.IsWhole) (arg10 : Memref sig .tc .vmem S256x1024 .f32) (h10 : arg10.IsWhole) (arg11 : Memref sig .tc .vmem S4624x1024 .bf16) (h11 : arg11.IsWhole)
  (x0 : Vec F S256x1024 .f32) (x1 : Vec F S1x1024 .f32) (x2 : Vec F S4x1184x1024 .bf16) (xs : Vec F S4624x1024 .bf16)

theorem out_B_3 (hc0 : ¬cond0_0 i) : out0_B_3 c i arg1 h1 arg2 h2 arg3 h3 arg4 h4 arg5 h5 arg6 h6 arg7 h7 arg8 h8 arg9 h9 arg10 h10 arg11 h11 hc0 x0 x1 x2 xs = k0_pay8 x0 x1 := by
  unfold out0_B_3
  rw [View.read_writes_eq_canon _ _ _ (cover0_B_3 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]

theorem out_B_4 (hc0 : ¬cond0_0 i) : out0_B_4 c i arg1 h1 arg2 h2 arg3 h3 arg4 h4 arg5 h5 arg6 h6 arg7 h7 arg8 h8 arg9 h9 arg10 h10 arg11 h11 hc0 x0 x1 x2 xs = k0_pay9 x0 x1 (ldZ xs) := by
  unfold out0_B_4
  rw [View.read_writes_eq_canon _ _ _ (cover0_B_4 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

theorem out_B_5 (hc0 : ¬cond0_0 i) : out0_B_5 c i arg1 h1 arg2 h2 arg3 h3 arg4 h4 arg5 h5 arg6 h6 arg7 h7 arg8 h8 arg9 h9 arg10 h10 arg11 h11 hc0 x0 x1 x2 xs = k0_pay10 x0 x1 (ldX xs) := by
  unfold out0_B_5
  rw [View.read_writes_eq_canon _ _ _ (cover0_B_5 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

theorem out_B_6 (hc0 : ¬cond0_0 i) : out0_B_6 c i arg1 h1 arg2 h2 arg3 h3 arg4 h4 arg5 h5 arg6 h6 arg7 h7 arg8 h8 arg9 h9 arg10 h10 arg11 h11 hc0 x0 x1 x2 xs = k0_pay11 x0 x1 (ldV xs) := by
  unfold out0_B_6
  rw [View.read_writes_eq_canon _ _ _ (cover0_B_6 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

theorem out_B_7 (hc0 : ¬cond0_0 i) : out0_B_7 c i arg1 h1 arg2 h2 arg3 h3 arg4 h4 arg5 h5 arg6 h6 arg7 h7 arg8 h8 arg9 h9 arg10 h10 arg11 h11 hc0 x0 x1 x2 xs = k0_pay1 (k0_pay8 x0 x1) (ldG xs) := by
  unfold out0_B_7
  rw [View.read_writes_eq_canon _ _ _ (cover0_B_7 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

theorem out_B_8 (hc0 : ¬cond0_0 i) : out0_B_8 c i arg1 h1 arg2 h2 arg3 h3 arg4 h4 arg5 h5 arg6 h6 arg7 h7 arg8 h8 arg9 h9 arg10 h10 arg11 h11 hc0 x0 x1 x2 xs = k0_pay3 (k0_pay8 x0 x1) (ldT xs) := by
  unfold out0_B_8
  rw [View.read_writes_eq_canon _ _ _ (cover0_B_8 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

theorem out_B_9 (hc0 : ¬cond0_0 i) : out0_B_9 c i arg1 h1 arg2 h2 arg3 h3 arg4 h4 arg5 h5 arg6 h6 arg7 h7 arg8 h8 arg9 h9 arg10 h10 arg11 h11 hc0 x0 x1 x2 xs = k0_pay2 (k0_pay8 x0 x1) (k0_pay11 x0 x1 (ldV xs)) (ldG xs) := by
  unfold out0_B_9
  rw [View.read_writes_eq_canon _ _ _ (cover0_B_9 c i arg1 h1 arg2 h2 arg3 h3 arg4 h4 arg5 h5 arg6 h6 arg7 h7 arg8 h8 arg9 h9 arg10 h10 arg11 h11 hc0 x0 x1 x2 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

theorem out_A_3 (hc0 : cond0_0 i) : out0_A_3 c i arg1 h1 arg2 h2 arg3 h3 arg4 h4 arg5 h5 arg6 h6 arg7 h7 arg8 h8 arg9 h9 arg10 h10 arg11 h11 hc0 x0 x1 x2 = k0_pay8 x0 x1 := by
  unfold out0_A_3
  rw [View.read_writes_eq_canon _ _ _ (cover0_A_3 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]

theorem out_A_4 (hc0 : cond0_0 i) : out0_A_4 c i arg1 h1 arg2 h2 arg3 h3 arg4 h4 arg5 h5 arg6 h6 arg7 h7 arg8 h8 arg9 h9 arg10 h10 arg11 h11 hc0 x0 x1 x2 = k0_pay9 x0 x1 (ldZ (asm x2)) := by
  unfold out0_A_4
  rw [View.read_writes_eq_canon _ _ _ (cover0_A_4 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  unfold ldZ asm asmL View.ld
  with_reducible_and_instances rfl

theorem out_A_5 (hc0 : cond0_0 i) : out0_A_5 c i arg1 h1 arg2 h2 arg3 h3 arg4 h4 arg5 h5 arg6 h6 arg7 h7 arg8 h8 arg9 h9 arg10 h10 arg11 h11 hc0 x0 x1 x2 = k0_pay10 x0 x1 (ldX (asm x2)) := by
  unfold out0_A_5
  rw [View.read_writes_eq_canon _ _ _ (cover0_A_5 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  unfold ldX asm asmL View.ld
  with_reducible_and_instances rfl

theorem out_A_6 (hc0 : cond0_0 i) : out0_A_6 c i arg1 h1 arg2 h2 arg3 h3 arg4 h4 arg5 h5 arg6 h6 arg7 h7 arg8 h8 arg9 h9 arg10 h10 arg11 h11 hc0 x0 x1 x2 = k0_pay11 x0 x1 (ldV (asm x2)) := by
  unfold out0_A_6
  rw [View.read_writes_eq_canon _ _ _ (cover0_A_6 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  unfold ldV asm asmL View.ld
  with_reducible_and_instances rfl

theorem out_A_7 (hc0 : cond0_0 i) : out0_A_7 c i arg1 h1 arg2 h2 arg3 h3 arg4 h4 arg5 h5 arg6 h6 arg7 h7 arg8 h8 arg9 h9 arg10 h10 arg11 h11 hc0 x0 x1 x2 = k0_pay1 (k0_pay8 x0 x1) (ldG (asm x2)) := by
  unfold out0_A_7
  rw [View.read_writes_eq_canon _ _ _ (cover0_A_7 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  unfold ldG asm asmL View.ld
  with_reducible_and_instances rfl

theorem out_A_8 (hc0 : cond0_0 i) : out0_A_8 c i arg1 h1 arg2 h2 arg3 h3 arg4 h4 arg5 h5 arg6 h6 arg7 h7 arg8 h8 arg9 h9 arg10 h10 arg11 h11 hc0 x0 x1 x2 = k0_pay3 (k0_pay8 x0 x1) (ldT (asm x2)) := by
  unfold out0_A_8
  rw [View.read_writes_eq_canon _ _ _ (cover0_A_8 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  unfold ldT asm asmL View.ld
  with_reducible_and_instances rfl

theorem out_A_9 (hc0 : cond0_0 i) : out0_A_9 c i arg1 h1 arg2 h2 arg3 h3 arg4 h4 arg5 h5 arg6 h6 arg7 h7 arg8 h8 arg9 h9 arg10 h10 arg11 h11 hc0 x0 x1 x2 = k0_pay2 (k0_pay8 x0 x1) (k0_pay11 x0 x1 (ldV (asm x2))) (ldG (asm x2)) := by
  unfold out0_A_9
  rw [View.read_writes_eq_canon _ _ _ (cover0_A_9 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  rw [View.canon_unit_zero hz]
  simp only [View.readCov_eq_canon', View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  unfold ldV ldG asm asmL View.ld
  with_reducible_and_instances rfl

theorem sout_A_0 (hc0 : cond0_0 i) : sout0_A_0 c i arg1 h1 arg2 h2 arg3 h3 arg4 h4 arg5 h5 arg6 h6 arg7 h7 arg8 h8 arg9 h9 arg10 h10 arg11 h11 hc0 x0 x1 x2 = asm x2 := by
  unfold sout0_A_0
  rw [View.read_writes_eq_canon _ _ _ (scover0_A_0 c i arg1 h1 arg2 h2 arg3 h3 arg4 h4 arg5 h5 arg6 h6 arg7 h7 arg8 h8 arg9 h9 arg10 h10 arg11 h11 hc0 x0 x1 x2)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S1x1024) hz]
  rfl

end Cert.InpfIdeal.Out

end
-- ==== Proof.InpfVal.lean ====
/- The input projection with its rms norm and the second mixer's gate: the kernel's seven result arrays after the run,
   element by element. -/
module

public import proofs.«01_k».proof.Proof.Reals
public import proofs.«01_k».proof.Proof.InpfKer

@[expose] public section

set_option maxRecDepth 16384

noncomputable section

namespace Cert.Inpf

open Idealize.ShloMosaic

/-- The rms norm of a row. -/
def rmsrow (H G : Fin 1024 → EReal) (l : Fin 1024) : EReal :=
  H l * Ideal.rsqrt (Ideal.div (∑ k, H k * H k) (Ideal.ofBits .f32 0x44800000#32) + Ideal.ofBits .f32 0x358637BD#32) * G l

/-- The projection of the normalised row. -/
def prj (X : Fin 4096 → Fin 1024 → EReal) (G : Fin 1024 → EReal) (W : Fin 1024 → Fin 4624 → EReal) (r : Fin 4096) (q : Fin 4624) : EReal :=
  ∑ l, rmsrow (X r) G l * W l q

/-- The second mixer's gated values. -/
def gated (X : Fin 4096 → Fin 1024 → EReal) (G : Fin 1024 → EReal) (W : Fin 1024 → Fin 4624 → EReal) (r : Fin 4096) (l : Fin 1024) : EReal :=
  prj X G W r ⟨2576 + l.val, by omega⟩ * Ideal.logistic (prj X G W r ⟨3600 + l.val, by omega⟩)

end Cert.Inpf

namespace Cert.InpfIdeal.Out

open Cert.InpfIdeal Cert.InpfIdeal.Gen Cert.Reals Cert.Inpf Idealize.ShloMosaic Idealize.ShloMosaic.TcCoe Idealize.SL.Sem

/-! ## One grid point -/

section Point

variable {X : Fin 4096 → Fin 1024 → EReal} {W : Fin 1024 → Fin 4624 → EReal} {G : Fin 1024 → EReal} {R : Fin 256 → Fin 4096}
variable {x0 : FVec Ideal S256x1024 .f32} {x1 : FVec Ideal S1x1024 .f32} {x2 : FVec Ideal S4x1184x1024 .bf16} {wz wv wg : FVec Ideal S1024x1024 .bf16} {wx : FVec Ideal S1536x1024 .bf16} {wt : FVec Ideal S128x1024 .bf16}

theorem pay8_eq (h0 : ∀ r l, x0 (ix2 r l) = X (R r) l) (h1 : ∀ z l, x1 (ix2 z l) = G l) (r : Fin 256) (l : Fin 1024) :
    k0_pay8 (F := Ideal) x0 x1 (ix2 r l) = rmsrow (X (R r)) G l := by
  pointwise [k0_pay8]
  simp only [h0, h1]
  rfl

theorem pay9_eq (h0 : ∀ r l, x0 (ix2 r l) = X (R r) l) (h1 : ∀ z l, x1 (ix2 z l) = G l) (hw : ∀ k l, wz (ix2 k l) = W l ⟨k.val, by omega⟩) (r : Fin 256) (k : Fin 1024) :
    k0_pay9 (F := Ideal) x0 x1 wz (ix2 r k) = prj X G W (R r) ⟨k.val, by omega⟩ := by
  have e := pay8_eq (R := R) h0 h1
  unfold k0_pay9
  generalize k0_pay8 (F := Ideal) x0 x1 = y at e ⊢
  pointwise []
  simp only [e, hw]
  rfl

theorem pay10_eq (h0 : ∀ r l, x0 (ix2 r l) = X (R r) l) (h1 : ∀ z l, x1 (ix2 z l) = G l) (hw : ∀ k l, wx (ix2 k l) = W l ⟨1024 + k.val, by omega⟩) (r : Fin 256) (k : Fin 1536) :
    k0_pay10 (F := Ideal) x0 x1 wx (ix2 r k) = prj X G W (R r) ⟨1024 + k.val, by omega⟩ := by
  have e := pay8_eq (R := R) h0 h1
  unfold k0_pay10
  generalize k0_pay8 (F := Ideal) x0 x1 = y at e ⊢
  pointwise []
  simp only [e, hw]
  rfl

theorem pay11_eq (h0 : ∀ r l, x0 (ix2 r l) = X (R r) l) (h1 : ∀ z l, x1 (ix2 z l) = G l) (hw : ∀ k l, wv (ix2 k l) = W l ⟨2576 + k.val, by omega⟩) (r : Fin 256) (k : Fin 1024) :
    k0_pay11 (F := Ideal) x0 x1 wv (ix2 r k) = prj X G W (R r) ⟨2576 + k.val, by omega⟩ := by
  have e := pay8_eq (R := R) h0 h1
  unfold k0_pay11
  generalize k0_pay8 (F := Ideal) x0 x1 = y at e ⊢
  pointwise []
  simp only [e, hw]
  rfl

theorem pay1_eq (h0 : ∀ r l, x0 (ix2 r l) = X (R r) l) (h1 : ∀ z l, x1 (ix2 z l) = G l) (hw : ∀ k l, wg (ix2 k l) = W l ⟨3600 + k.val, by omega⟩) (r : Fin 256) (k : Fin 1024) :
    k0_pay1 (F := Ideal) (k0_pay8 x0 x1) wg (ix2 r k) = prj X G W (R r) ⟨3600 + k.val, by omega⟩ := by
  have e := pay8_eq (R := R) h0 h1
  generalize k0_pay8 (F := Ideal) x0 x1 = y at e ⊢
  pointwise [k0_pay1]
  simp only [e, hw]
  rfl

theorem pay3_eq (h0 : ∀ r l, x0 (ix2 r l) = X (R r) l) (h1 : ∀ z l, x1 (ix2 z l) = G l) (hw : ∀ k l, wt (ix2 k l) = W l ⟨2560 + k.val, by omega⟩) (r : Fin 256) (k : Fin 128) :
    k0_pay3 (F := Ideal) (k0_pay8 x0 x1) wt (ix2 r k) = prj X G W (R r) ⟨2560 + k.val, by omega⟩ := by
  have e := pay8_eq (R := R) h0 h1
  generalize k0_pay8 (F := Ideal) x0 x1 = y at e ⊢
  pointwise [k0_pay3]
  simp only [e, hw]
  rfl

theorem pay2_eq (h0 : ∀ r l, x0 (ix2 r l) = X (R r) l) (h1 : ∀ z l, x1 (ix2 z l) = G l) (hv : ∀ k l, wv (ix2 k l) = W l ⟨2576 + k.val, by omega⟩)
    (hg : ∀ k l, wg (ix2 k l) = W l ⟨3600 + k.val, by omega⟩) (r : Fin 256) (k : Fin 1024) :
    k0_pay2 (F := Ideal) (k0_pay8 x0 x1) (k0_pay11 x0 x1 wv) wg (ix2 r k) = gated X G W (R r) k := by
  have e := pay11_eq (R := R) h0 h1 hv r k
  have e' := pay1_eq (R := R) h0 h1 hg r k
  exact congrArg₂ (fun a b => a * Ideal.logistic b) e e'

/-- Rows of the assembled weight, from a given one on. -/
theorem ld_rows {n : ℕ} {w : FVec Ideal S4624x1024 .bf16} (hw : ∀ q l, w (ix2 q l) = W l q) (off : ℕ) (inb) (k : Fin n) (l : Fin 1024) (hk : off + k.1 < 4624) :
    View.ld (Val := Elt Ideal) (e' := .bf16) w (Rect.unit (s := S4624x1024) ![off, 0] (⟨2, ![n, 1024]⟩ : Shape).size inb) (ix2 k l) = W l ⟨off + k.1, hk⟩ := by
  refine Eq.trans (congrArg w (funext fun a => Fin.ext ?_)) (hw ⟨off + k.1, hk⟩ l)
  match a with
  | ⟨0, _⟩ => show off + 1 * k.1 = off + k.1; omega
  | ⟨1, _⟩ => show 0 + 1 * l.1 = l.1; omega

theorem ldZ_eq {w : FVec Ideal S4624x1024 .bf16} (hw : ∀ q l, w (ix2 q l) = W l q) (k : Fin 1024) (l : Fin 1024) : ldZ (F := Ideal) w (ix2 k l) = W l ⟨k.val, by omega⟩ := by
  unfold ldZ
  exact (ld_rows hw 0 _ k l (by omega)).trans (congrArg (W l) (Fin.ext (Nat.zero_add _)))

theorem ldX_eq {w : FVec Ideal S4624x1024 .bf16} (hw : ∀ q l, w (ix2 q l) = W l q) (k : Fin 1536) (l : Fin 1024) : ldX (F := Ideal) w (ix2 k l) = W l ⟨1024 + k.val, by omega⟩ := by
  unfold ldX
  exact ld_rows hw 1024 _ k l (by omega)

theorem ldV_eq {w : FVec Ideal S4624x1024 .bf16} (hw : ∀ q l, w (ix2 q l) = W l q) (k : Fin 1024) (l : Fin 1024) : ldV (F := Ideal) w (ix2 k l) = W l ⟨2576 + k.val, by omega⟩ := by
  unfold ldV
  exact ld_rows hw 2576 _ k l (by omega)

theorem ldG_eq {w : FVec Ideal S4624x1024 .bf16} (hw : ∀ q l, w (ix2 q l) = W l q) (k : Fin 1024) (l : Fin 1024) : ldG (F := Ideal) w (ix2 k l) = W l ⟨3600 + k.val, by omega⟩ := by
  unfold ldG
  exact ld_rows hw 3600 _ k l (by omega)

theorem ldT_eq {w : FVec Ideal S4624x1024 .bf16} (hw : ∀ q l, w (ix2 q l) = W l q) (k : Fin 128) (l : Fin 1024) : ldT (F := Ideal) w (ix2 k l) = W l ⟨2560 + k.val, by omega⟩ := by
  unfold ldT
  exact ld_rows hw 2560 _ k l (by omega)

/-- One slab of the assembled weight. -/
theorem slab (h2 : ∀ (p : Fin 4) (q : Fin 1184) l (hq : q.1 < 1156), x2 (ix3 p q l) = W l ⟨1156 * p.1 + q.1, by omega⟩) (p : ℕ) (hp : p < 4) (inb) (x : S1156x1024.Idx) :
    k0_pay4 (F := Ideal) (View.ld (Val := Elt Ideal) (e' := .bf16) x2 (Rect.unit (s := S4x1184x1024) ![p, 0, 0] S1x1156x1024.size inb)) x
      = W (x 1) ⟨1156 * p + (x 0).1, by have : (x 0).1 < 1156 := (x 0).2; omega⟩ := by
  obtain ⟨q, l, rfl⟩ : ∃ (q : Fin 1156) (l : Fin 1024), x = ix2 q l := ⟨_, _, eq_ix2 (n0 := 1156) (n1 := 1024) x⟩
  have e : ∀ v : FVec Ideal S1x1156x1024 .bf16, k0_pay4 (F := Ideal) v (ix2 q l) = v (ix3 0 q l) := fun v => by pointwise [k0_pay4]
  refine (e _).trans (Eq.trans (congrArg x2 (funext fun a => Fin.ext ?_)) (h2 ⟨p, hp⟩ ⟨q.1, by omega⟩ l q.2))
  match a with
  | ⟨0, _⟩ => show p + 1 * 0 = p; omega
  | ⟨1, _⟩ => show 0 + 1 * q.1 = q.1; omega
  | ⟨2, _⟩ => show 0 + 1 * l.1 = l.1; omega

theorem asm_eq (h2 : ∀ (p : Fin 4) (q : Fin 1184) l (hq : q.1 < 1156), x2 (ix3 p q l) = W l ⟨1156 * p.1 + q.1, by omega⟩) (q : Fin 4624) (l : Fin 1024) :
    asm (F := Ideal) x2 (ix2 q l) = W l q := by
  unfold asm
  refine View.canon_apply_of_pieces (Val := Elt Ideal) (fun y : S4624x1024.Idx => W (y 1) (y 0)) (asmL (F := Ideal) x2) ?_ (ix2 q l)
    (View.cover_of_tiledL (asmL (F := Ideal) x2) S1156x1024.size (by sl_kernel_rfl) (ix2 q l))
  intro p hp
  unfold asmL at hp
  simp only [List.mem_cons, List.not_mem_nil, or_false] at hp
  have at' : ∀ (off : ℕ) (x : S1156x1024.Idx) (y : S4624x1024.Idx) (h : off + (x 0).1 < 4624), (y 0).1 = off + 1 * (x 0).1 → (y 1).1 = 0 + 1 * (x 1).1 →
      W (x 1) ⟨off + (x 0).1, h⟩ = W (y 1) (y 0) := fun off x y h e0 e1 =>
    congrArg₂ W (Fin.ext (by rw [e1]; omega)) (Fin.ext (by rw [e0]; dsimp only; omega))
  rcases hp with rfl | rfl | rfl | rfl
  · exact fun x => (slab h2 3 (by omega) _ x).trans (at' 3468 x _ _ rfl rfl)
  · exact fun x => (slab h2 2 (by omega) _ x).trans (at' 2312 x _ _ rfl rfl)
  · exact fun x => (slab h2 1 (by omega) _ x).trans (at' 1156 x _ _ rfl rfl)
  · exact fun x => (slab h2 0 (by omega) _ x).trans (at' 0 x _ _ rfl rfl)

end Point

/-! ## The arrays -/

variable (m : (ℓ : Loc nD τ sig) → Buf (Elt Ideal) ℓ) (c : Dev nD)

/-- The layer's input. -/
abbrev aX (r : Fin 4096) (l : Fin 1024) : EReal := (m ((c : Thread nD τ).loc main_arg0) : FVec Ideal S4096x1024 .f32) (ix2 r l)
/-- The norm's weight. -/
abbrev aG (l : Fin 1024) : EReal := (m ((c : Thread nD τ).loc main_arg1) : FVec Ideal S1024 .f32) (ix1 l)
/-- The projection's weight. -/
abbrev aW (l : Fin 1024) (q : Fin 4624) : EReal := (m ((c : Thread nD τ).loc main_arg2) : FVec Ideal S1024x4624 .f32) (ix2 l q)

/-- The four slabs of the gathered weight. -/
abbrev hW (w : FVec Ideal S1024x4624 .f32) : FVec Ideal S4x1184x1024 .bf16 :=
  pad S4x1184x1024 ![0, 0, 0] ![0, 28, 0] ![0, 0, 0]
    (shapeCast S4x1156x1024 (truncf .bf16 (transpose S4624x1024 [1, 0] w transposes_S1024x4624_S4624x1024_1_0) bitsLt_bf16_f32) shapeCasts_S4624x1024_S4x1156x1024)
    (sitofp (F := Ideal) .bf16 (constantI S_ 32 0#32)) pads_S4x1156x1024_S4x1184x1024_000_0280_000 h_S_

theorem V0 : V m c main_v0 = shapeCast S1x1024 (m ((c : Thread nD τ).loc main_arg1) : FVec Ideal S1024 .f32) shapeCasts_S1024_S1x1024 := by
  show StableHlo.after (List.flatten [hostOps0, hostOps0_1]) _ _ = _
  simp only [hostOps0, hostOps0_1, List.flatten_cons, List.flatten_nil, List.append_nil, List.cons_append, List.nil_append]
  after_results_simp <;> rfl

theorem V4 : V m c main_v4 = hW (m ((c : Thread nD τ).loc main_arg2)) := by
  show StableHlo.after (List.flatten [hostOps0, hostOps0_1]) _ _ = _
  simp only [hostOps0, hostOps0_1, List.flatten_cons, List.flatten_nil, List.append_nil, List.cons_append, List.nil_append]
  after_results_simp <;> rfl

theorem hW_eq (w : FVec Ideal S1024x4624 .f32) (p : Fin 4) (q : Fin 1184) (l : Fin 1024) (hq : q.1 < 1156) :
    hW w (ix3 p q l) = w (ix2 l ⟨1156 * p.1 + q.1, by omega⟩) := by
  unfold hW
  pointwise
  rw [dif_pos (by omega)]
  refine congrArg w (funext fun a => Fin.ext ?_)
  match a with
  | ⟨0, _⟩ => first | rfl | (dsimp; omega)
  | ⟨1, _⟩ => first | rfl | (dsimp; omega)

theorem idx0 : ∀ t : Fin grid0.N, win0_0.index t 0 = t.val ∧ win0_0.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 := by decide +kernel

theorem lt16 (t : Fin cfg0.N) : t.val < 16 := lt_of_lt_of_eq t.isLt N_0

/-- The row of the array that is row `r` of the point's block. -/
def rowOf (t : Fin cfg0.N) (r : Fin 256) : Fin 4096 := ⟨256 * t.val + r.val, by have := lt16 t; omega⟩

theorem blk0 (t : Fin cfg0.N) (r : Fin 256) (l : Fin 1024) : (iblk m c 0 t : Vec Ideal S256x1024 .f32) (ix2 r l) = aX m c (rowOf t r) l := by
  unfold iblk
  rw [View.read_apply]
  show V m c main_arg0 _ = _
  rw [V_main_arg0]
  refine congrArg _ (funext fun a => Fin.ext ?_)
  match a with
  | ⟨0, _⟩ => show win0_0.index t 0 * 256 + 1 * r.val = 256 * t.val + r.val; rw [(idx0 t).1]; omega
  | ⟨1, _⟩ => show win0_0.index t 1 * 1024 + 1 * l.val = l.val; rw [(idx0 t).2]; omega

theorem blk1 (t : Fin cfg0.N) (z : Fin 1) (l : Fin 1024) : (iblk m c 1 t : Vec Ideal S1x1024 .f32) (ix2 z l) = aG m c l := by
  unfold iblk
  rw [View.read_apply]
  show V m c main_v0 _ = _
  rw [V0]
  refine Eq.trans (congrArg _ (a₂ := ix2 z l) (funext fun a => Fin.ext ?_)) ?_
  · match a with
    | ⟨0, _⟩ => show win0_1.index t 0 * 1 + 1 * z.val = z.val; rw [(idx1 t).1]; omega
    | ⟨1, _⟩ => show win0_1.index t 1 * 1024 + 1 * l.val = l.val; rw [(idx1 t).2]; omega
  · pointwise

theorem blk2 (t : Fin cfg0.N) (p : Fin 4) (q : Fin 1184) (l : Fin 1024) :
    (iblk m c 2 t : Vec Ideal S4x1184x1024 .bf16) (ix3 p q l) = hW (m ((c : Thread nD τ).loc main_arg2)) (ix3 p q l) := by
  unfold iblk
  rw [View.read_apply]
  show V m c main_v4 _ = _
  rw [V4]
  refine congrArg _ (funext fun a => Fin.ext ?_)
  match a with
  | ⟨0, _⟩ => show win0_2.index t 0 * 4 + 1 * p.val = p.val; rw [(idx2 t).1]; omega
  | ⟨1, _⟩ => show win0_2.index t 1 * 1184 + 1 * q.val = q.val; rw [(idx2 t).2.1]; omega
  | ⟨2, _⟩ => show win0_2.index t 2 * 1024 + 1 * l.val = l.val; rw [(idx2 t).2.2]; omega

theorem asm_blk (t : Fin cfg0.N) (q : Fin 4624) (l : Fin 1024) : asm (F := Ideal) (iblk m c 2 t) (ix2 q l) = aW m c l q :=
  asm_eq (W := aW m c) (x2 := iblk m c 2 t) (fun p q l hq => (blk2 m c t p q l).trans (hW_eq _ p q l hq)) q l

/-- After every point the scratch holds the transposed weight. -/
theorem weight : ∀ (n : ℕ) (h : n < cfg0.N) (q : Fin 4624) (l : Fin 1024), (outsAt0 m c n h).2.2.2.2.2.2.2 (ix2 q l) = aW m c l q
  | 0, h, q, l => by
    rw [outsAt0_A m c ⟨0, h⟩ rfl]
    dsimp only
    rw [sout_A_0]
    exact asm_blk m c ⟨0, h⟩ q l
  | n + 1, h, q, l => by
    have hN := lt16 ⟨n + 1, h⟩
    rw [outsAt0_B m c ⟨n + 1, h⟩ (by dsimp only at hN ⊢; omega)]
    exact weight n (Nat.lt_of_succ_lt h) q l

theorem out3_eq (t : Fin cfg0.N) (r : Fin 256) (l : Fin 1024) : ((outsAt0 m c t.val t.isLt).1 : FVec Ideal S256x1024 .bf16) (ix2 r l) = rmsrow (aX m c (rowOf t r)) (aG m c) l := by
  by_cases h0 : t.val % 16 = 0
  · have hw := asm_blk m c t
    rw [outsAt0_A m c t h0]
    dsimp only
    rw [out_A_3]
    exact pay8_eq (R := rowOf t) (blk0 m c t) (blk1 m c t) r l
  · have hw := weight m c (t.val - 1) (Nat.lt_of_le_of_lt (Nat.sub_le _ _) t.isLt)
    rw [outsAt0_B m c t h0]
    dsimp only
    rw [out_B_3]
    exact pay8_eq (R := rowOf t) (blk0 m c t) (blk1 m c t) r l

theorem out4_eq (t : Fin cfg0.N) (r : Fin 256) (l : Fin 1024) : ((outsAt0 m c t.val t.isLt).2.1 : FVec Ideal S256x1024 .f32) (ix2 r l) = prj (aX m c) (aG m c) (aW m c) (rowOf t r) ⟨l.val, by omega⟩ := by
  by_cases h0 : t.val % 16 = 0
  · have hw := asm_blk m c t
    rw [outsAt0_A m c t h0]
    dsimp only
    rw [out_A_4]
    exact pay9_eq (R := rowOf t) (blk0 m c t) (blk1 m c t) (ldZ_eq hw) r l
  · have hw := weight m c (t.val - 1) (Nat.lt_of_le_of_lt (Nat.sub_le _ _) t.isLt)
    rw [outsAt0_B m c t h0]
    dsimp only
    rw [out_B_4]
    exact pay9_eq (R := rowOf t) (blk0 m c t) (blk1 m c t) (ldZ_eq hw) r l

theorem out5_eq (t : Fin cfg0.N) (r : Fin 256) (l : Fin 1536) : ((outsAt0 m c t.val t.isLt).2.2.1 : FVec Ideal S256x1536 .f32) (ix2 r l) = prj (aX m c) (aG m c) (aW m c) (rowOf t r) ⟨1024 + l.val, by omega⟩ := by
  by_cases h0 : t.val % 16 = 0
  · have hw := asm_blk m c t
    rw [outsAt0_A m c t h0]
    dsimp only
    rw [out_A_5]
    exact pay10_eq (R := rowOf t) (blk0 m c t) (blk1 m c t) (ldX_eq hw) r l
  · have hw := weight m c (t.val - 1) (Nat.lt_of_le_of_lt (Nat.sub_le _ _) t.isLt)
    rw [outsAt0_B m c t h0]
    dsimp only
    rw [out_B_5]
    exact pay10_eq (R := rowOf t) (blk0 m c t) (blk1 m c t) (ldX_eq hw) r l

theorem out6_eq (t : Fin cfg0.N) (r : Fin 256) (l : Fin 1024) : ((outsAt0 m c t.val t.isLt).2.2.2.1 : FVec Ideal S256x1024 .f32) (ix2 r l) = prj (aX m c) (aG m c) (aW m c) (rowOf t r) ⟨2576 + l.val, by omega⟩ := by
  by_cases h0 : t.val % 16 = 0
  · have hw := asm_blk m c t
    rw [outsAt0_A m c t h0]
    dsimp only
    rw [out_A_6]
    exact pay11_eq (R := rowOf t) (blk0 m c t) (blk1 m c t) (ldV_eq hw) r l
  · have hw := weight m c (t.val - 1) (Nat.lt_of_le_of_lt (Nat.sub_le _ _) t.isLt)
    rw [outsAt0_B m c t h0]
    dsimp only
    rw [out_B_6]
    exact pay11_eq (R := rowOf t) (blk0 m c t) (blk1 m c t) (ldV_eq hw) r l

theorem out7_eq (t : Fin cfg0.N) (r : Fin 256) (l : Fin 1024) : ((outsAt0 m c t.val t.isLt).2.2.2.2.1 : FVec Ideal S256x1024 .f32) (ix2 r l) = prj (aX m c) (aG m c) (aW m c) (rowOf t r) ⟨3600 + l.val, by omega⟩ := by
  by_cases h0 : t.val % 16 = 0
  · have hw := asm_blk m c t
    rw [outsAt0_A m c t h0]
    dsimp only
    rw [out_A_7]
    exact pay1_eq (R := rowOf t) (blk0 m c t) (blk1 m c t) (ldG_eq hw) r l
  · have hw := weight m c (t.val - 1) (Nat.lt_of_le_of_lt (Nat.sub_le _ _) t.isLt)
    rw [outsAt0_B m c t h0]
    dsimp only
    rw [out_B_7]
    exact pay1_eq (R := rowOf t) (blk0 m c t) (blk1 m c t) (ldG_eq hw) r l

theorem out8_eq (t : Fin cfg0.N) (r : Fin 256) (l : Fin 128) : ((outsAt0 m c t.val t.isLt).2.2.2.2.2.1 : FVec Ideal S256x128 .f32) (ix2 r l) = prj (aX m c) (aG m c) (aW m c) (rowOf t r) ⟨2560 + l.val, by omega⟩ := by
  by_cases h0 : t.val % 16 = 0
  · have hw := asm_blk m c t
    rw [outsAt0_A m c t h0]
    dsimp only
    rw [out_A_8]
    exact pay3_eq (R := rowOf t) (blk0 m c t) (blk1 m c t) (ldT_eq hw) r l
  · have hw := weight m c (t.val - 1) (Nat.lt_of_le_of_lt (Nat.sub_le _ _) t.isLt)
    rw [outsAt0_B m c t h0]
    dsimp only
    rw [out_B_8]
    exact pay3_eq (R := rowOf t) (blk0 m c t) (blk1 m c t) (ldT_eq hw) r l

theorem out9_eq (t : Fin cfg0.N) (r : Fin 256) (l : Fin 1024) : ((outsAt0 m c t.val t.isLt).2.2.2.2.2.2.1 : FVec Ideal S256x1024 .f32) (ix2 r l) = gated (aX m c) (aG m c) (aW m c) (rowOf t r) l := by
  by_cases h0 : t.val % 16 = 0
  · have hw := asm_blk m c t
    rw [outsAt0_A m c t h0]
    dsimp only
    rw [out_A_9]
    exact pay2_eq (R := rowOf t) (blk0 m c t) (blk1 m c t) (ldV_eq hw) (ldG_eq hw) r l
  · have hw := weight m c (t.val - 1) (Nat.lt_of_le_of_lt (Nat.sub_le _ _) t.isLt)
    rw [outsAt0_B m c t h0]
    dsimp only
    rw [out_B_9]
    exact pay2_eq (R := rowOf t) (blk0 m c t) (blk1 m c t) (ldV_eq hw) (ldG_eq hw) r l

/-! ## The final arrays -/

/-- The grid point that computes row `R`. -/
def ptOf (R : Fin 4096) : Fin cfg0.N := ⟨R.val / 256, by rw [show cfg0.N = 16 from N_0]; omega⟩

theorem row_eq (R : Fin 4096) : rowOf (ptOf R) ⟨R.val % 256, by omega⟩ = R :=
  Fin.ext (by show 256 * (R.val / 256) + R.val % 256 = R.val; omega)

theorem final3 (R : Fin 4096) (l : Fin 1024) : ((dats m 0 c).arrAt 3 cfg0.N : FVec Ideal S4096x1024 .bf16) (ix2 R l) = rmsrow (aX m c R) (aG m c) l := by
  have h := congrFun (Value.blocks3 m c (ptOf R) (flush0_3 _)) (ix2 ⟨R.val % 256, by omega⟩ l)
  rw [View.read_apply, Value.flushed3] at h
  refine Eq.trans (congrArg _ (funext fun a => Fin.ext ?_)) (h.trans ((out3_eq m c (ptOf R) ⟨R.val % 256, by omega⟩ l).trans ?_))
  · match a with
    | ⟨0, _⟩ => show R.val = win0_3.index (ptOf R) 0 * 256 + 1 * (R.val % 256); rw [(idx3 (ptOf R)).1]; show _ = R.val / 256 * 256 + _; omega
    | ⟨1, _⟩ => show l.val = win0_3.index (ptOf R) 1 * 1024 + 1 * l.val; rw [(idx3 (ptOf R)).2]; omega
  · rw [row_eq]

theorem final4 (R : Fin 4096) (l : Fin 1024) : ((dats m 0 c).arrAt 4 cfg0.N : FVec Ideal S4096x1024 .f32) (ix2 R l) = prj (aX m c) (aG m c) (aW m c) R ⟨l.val, by omega⟩ := by
  have h := congrFun (Value.blocks4 m c (ptOf R) (flush0_4 _)) (ix2 ⟨R.val % 256, by omega⟩ l)
  rw [View.read_apply, Value.flushed4] at h
  refine Eq.trans (congrArg _ (funext fun a => Fin.ext ?_)) (h.trans ((out4_eq m c (ptOf R) ⟨R.val % 256, by omega⟩ l).trans ?_))
  · match a with
    | ⟨0, _⟩ => show R.val = win0_4.index (ptOf R) 0 * 256 + 1 * (R.val % 256); rw [(idx4 (ptOf R)).1]; show _ = R.val / 256 * 256 + _; omega
    | ⟨1, _⟩ => show l.val = win0_4.index (ptOf R) 1 * 1024 + 1 * l.val; rw [(idx4 (ptOf R)).2]; omega
  · rw [row_eq]

theorem final5 (R : Fin 4096) (l : Fin 1536) : ((dats m 0 c).arrAt 5 cfg0.N : FVec Ideal S4096x1536 .f32) (ix2 R l) = prj (aX m c) (aG m c) (aW m c) R ⟨1024 + l.val, by omega⟩ := by
  have h := congrFun (Value.blocks5 m c (ptOf R) (flush0_5 _)) (ix2 ⟨R.val % 256, by omega⟩ l)
  rw [View.read_apply, Value.flushed5] at h
  refine Eq.trans (congrArg _ (funext fun a => Fin.ext ?_)) (h.trans ((out5_eq m c (ptOf R) ⟨R.val % 256, by omega⟩ l).trans ?_))
  · match a with
    | ⟨0, _⟩ => show R.val = win0_5.index (ptOf R) 0 * 256 + 1 * (R.val % 256); rw [(idx5 (ptOf R)).1]; show _ = R.val / 256 * 256 + _; omega
    | ⟨1, _⟩ => show l.val = win0_5.index (ptOf R) 1 * 1536 + 1 * l.val; rw [(idx5 (ptOf R)).2]; omega
  · rw [row_eq]

theorem final6 (R : Fin 4096) (l : Fin 1024) : ((dats m 0 c).arrAt 6 cfg0.N : FVec Ideal S4096x1024 .f32) (ix2 R l) = prj (aX m c) (aG m c) (aW m c) R ⟨2576 + l.val, by omega⟩ := by
  have h := congrFun (Value.blocks6 m c (ptOf R) (flush0_6 _)) (ix2 ⟨R.val % 256, by omega⟩ l)
  rw [View.read_apply, Value.flushed6] at h
  refine Eq.trans (congrArg _ (funext fun a => Fin.ext ?_)) (h.trans ((out6_eq m c (ptOf R) ⟨R.val % 256, by omega⟩ l).trans ?_))
  · match a with
    | ⟨0, _⟩ => show R.val = win0_6.index (ptOf R) 0 * 256 + 1 * (R.val % 256); rw [(idx6 (ptOf R)).1]; show _ = R.val / 256 * 256 + _; omega
    | ⟨1, _⟩ => show l.val = win0_6.index (ptOf R) 1 * 1024 + 1 * l.val; rw [(idx6 (ptOf R)).2]; omega
  · rw [row_eq]

theorem final7 (R : Fin 4096) (l : Fin 1024) : ((dats m 0 c).arrAt 7 cfg0.N : FVec Ideal S4096x1024 .f32) (ix2 R l) = prj (aX m c) (aG m c) (aW m c) R ⟨3600 + l.val, by omega⟩ := by
  have h := congrFun (Value.blocks7 m c (ptOf R) (flush0_7 _)) (ix2 ⟨R.val % 256, by omega⟩ l)
  rw [View.read_apply, Value.flushed7] at h
  refine Eq.trans (congrArg _ (funext fun a => Fin.ext ?_)) (h.trans ((out7_eq m c (ptOf R) ⟨R.val % 256, by omega⟩ l).trans ?_))
  · match a with
    | ⟨0, _⟩ => show R.val = win0_7.index (ptOf R) 0 * 256 + 1 * (R.val % 256); rw [(idx7 (ptOf R)).1]; show _ = R.val / 256 * 256 + _; omega
    | ⟨1, _⟩ => show l.val = win0_7.index (ptOf R) 1 * 1024 + 1 * l.val; rw [(idx7 (ptOf R)).2]; omega
  · rw [row_eq]

theorem final8 (R : Fin 4096) (l : Fin 128) : ((dats m 0 c).arrAt 8 cfg0.N : FVec Ideal S4096x128 .f32) (ix2 R l) = prj (aX m c) (aG m c) (aW m c) R ⟨2560 + l.val, by omega⟩ := by
  have h := congrFun (Value.blocks8 m c (ptOf R) (flush0_8 _)) (ix2 ⟨R.val % 256, by omega⟩ l)
  rw [View.read_apply, Value.flushed8] at h
  refine Eq.trans (congrArg _ (funext fun a => Fin.ext ?_)) (h.trans ((out8_eq m c (ptOf R) ⟨R.val % 256, by omega⟩ l).trans ?_))
  · match a with
    | ⟨0, _⟩ => show R.val = win0_8.index (ptOf R) 0 * 256 + 1 * (R.val % 256); rw [(idx8 (ptOf R)).1]; show _ = R.val / 256 * 256 + _; omega
    | ⟨1, _⟩ => show l.val = win0_8.index (ptOf R) 1 * 128 + 1 * l.val; rw [(idx8 (ptOf R)).2]; omega
  · rw [row_eq]

theorem final9 (R : Fin 4096) (l : Fin 1024) : ((dats m 0 c).arrAt 9 cfg0.N : FVec Ideal S4096x1024 .f32) (ix2 R l) = gated (aX m c) (aG m c) (aW m c) R l := by
  have h := congrFun (Value.blocks9 m c (ptOf R) (flush0_9 _)) (ix2 ⟨R.val % 256, by omega⟩ l)
  rw [View.read_apply, Value.flushed9] at h
  refine Eq.trans (congrArg _ (funext fun a => Fin.ext ?_)) (h.trans ((out9_eq m c (ptOf R) ⟨R.val % 256, by omega⟩ l).trans ?_))
  · match a with
    | ⟨0, _⟩ => show R.val = win0_9.index (ptOf R) 0 * 256 + 1 * (R.val % 256); rw [(idx9 (ptOf R)).1]; show _ = R.val / 256 * 256 + _; omega
    | ⟨1, _⟩ => show l.val = win0_9.index (ptOf R) 1 * 1024 + 1 * l.val; rw [(idx9 (ptOf R)).2]; omega
  · rw [row_eq]

end Cert.InpfIdeal.Out

end
-- ==== Proof.InpfClaim.lean ====
/- The input projection's forward call: kernel and reference leave the same arrays. -/
module

public import proofs.«01_k».proof.Defs
public import proofs.«01_k».proof.Proof.InpfVal
public import proofs.«01_k».proof.Proof.Gen.InpfRefIdeal.Read
public import proofs.«01_k».proof.Proof.Gen.InpfRefIdeal.Run

@[expose] public section

set_option maxRecDepth 16384

noncomputable section

namespace Cert.InpfRefIdeal.Val

open Cert.InpfRefIdeal Cert.InpfRefIdeal.Gen Cert.InpfRefIdeal.Read Cert.Reals Cert.Inpf Idealize.ShloMosaic

variable {x0 : FVec Ideal S4096x1024 .f32} {x1 : FVec Ideal S1024 .f32} {x2 : FVec Ideal S1024x4624 .f32}
variable {X : Fin 4096 → Fin 1024 → EReal} {G : Fin 1024 → EReal} {W : Fin 1024 → Fin 4624 → EReal}

theorem v12_eq (h0 : ∀ r l, x0 (ix2 r l) = X r l) (h1 : ∀ l, x1 (ix1 l) = G l) (r : Fin 4096) (l : Fin 1024) : val_main_v12 (F := Ideal) x0 x1 (ix2 r l) = rmsrow (X r) G l := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  simp only [h0, h1]
  rfl

theorem v19_eq (h0 : ∀ r l, x0 (ix2 r l) = X r l) (h1 : ∀ l, x1 (ix1 l) = G l) (r : Fin 4096) (l : Fin 1024) : val_main_v19 (F := Ideal) x0 x1 (ix2 r l) = rmsrow (X r) G l :=
  v12_eq h0 h1 r l

theorem v13_eq (h0 : ∀ r l, x0 (ix2 r l) = X r l) (h1 : ∀ l, x1 (ix1 l) = G l) (h2 : ∀ l q, x2 (ix2 l q) = W l q) (r : Fin 4096) (q : Fin 4624) :
    val_main_v13 (F := Ideal) x0 x1 x2 (ix2 r q) = prj X G W r q := by
  have e := v12_eq h0 h1
  unfold val_main_v13
  generalize val_main_v12 (F := Ideal) x0 x1 = y at e ⊢
  pointwise []
  simp only [e, h2]
  rfl

theorem v14_eq (h0 : ∀ r l, x0 (ix2 r l) = X r l) (h1 : ∀ l, x1 (ix1 l) = G l) (h2 : ∀ l q, x2 (ix2 l q) = W l q) (r : Fin 4096) (l : Fin 1024) :
    val_main_v14 (F := Ideal) x0 x1 x2 (ix2 r l) = prj X G W r ⟨l.val, by omega⟩ := by
  have e := v13_eq h0 h1 h2 r ⟨l.val, by omega⟩
  unfold val_main_v14
  generalize val_main_v13 (F := Ideal) x0 x1 x2 = y at e ⊢
  pointwise []
  exact Eq.trans (congrArg y (funext fun a => Fin.ext (match a with | ⟨0, _⟩ => (by first | rfl | (dsimp; omega)) | ⟨1, _⟩ => (by first | rfl | (dsimp; omega))))) e

theorem v15_eq (h0 : ∀ r l, x0 (ix2 r l) = X r l) (h1 : ∀ l, x1 (ix1 l) = G l) (h2 : ∀ l q, x2 (ix2 l q) = W l q) (r : Fin 4096) (l : Fin 1536) :
    val_main_v15 (F := Ideal) x0 x1 x2 (ix2 r l) = prj X G W r ⟨1024 + l.val, by omega⟩ := by
  have e := v13_eq h0 h1 h2 r ⟨1024 + l.val, by omega⟩
  unfold val_main_v15
  generalize val_main_v13 (F := Ideal) x0 x1 x2 = y at e ⊢
  pointwise []
  exact Eq.trans (congrArg y (funext fun a => Fin.ext (match a with | ⟨0, _⟩ => (by first | rfl | (dsimp; omega)) | ⟨1, _⟩ => (by first | rfl | (dsimp; omega))))) e

theorem v17_eq (h0 : ∀ r l, x0 (ix2 r l) = X r l) (h1 : ∀ l, x1 (ix1 l) = G l) (h2 : ∀ l q, x2 (ix2 l q) = W l q) (r : Fin 4096) (l : Fin 1024) :
    val_main_v17 (F := Ideal) x0 x1 x2 (ix2 r l) = prj X G W r ⟨2576 + l.val, by omega⟩ := by
  have e := v13_eq h0 h1 h2 r ⟨2576 + l.val, by omega⟩
  unfold val_main_v17
  generalize val_main_v13 (F := Ideal) x0 x1 x2 = y at e ⊢
  pointwise []
  exact Eq.trans (congrArg y (funext fun a => Fin.ext (match a with | ⟨0, _⟩ => (by first | rfl | (dsimp; omega)) | ⟨1, _⟩ => (by first | rfl | (dsimp; omega))))) e

theorem v18_eq (h0 : ∀ r l, x0 (ix2 r l) = X r l) (h1 : ∀ l, x1 (ix1 l) = G l) (h2 : ∀ l q, x2 (ix2 l q) = W l q) (r : Fin 4096) (l : Fin 1024) :
    val_main_v18 (F := Ideal) x0 x1 x2 (ix2 r l) = prj X G W r ⟨3600 + l.val, by omega⟩ := by
  have e := v13_eq h0 h1 h2 r ⟨3600 + l.val, by omega⟩
  unfold val_main_v18
  generalize val_main_v13 (F := Ideal) x0 x1 x2 = y at e ⊢
  pointwise []
  exact Eq.trans (congrArg y (funext fun a => Fin.ext (match a with | ⟨0, _⟩ => (by first | rfl | (dsimp; omega)) | ⟨1, _⟩ => (by first | rfl | (dsimp; omega))))) e

theorem v20_eq (h0 : ∀ r l, x0 (ix2 r l) = X r l) (h1 : ∀ l, x1 (ix1 l) = G l) (h2 : ∀ l q, x2 (ix2 l q) = W l q) (r : Fin 4096) (l : Fin 128) :
    val_main_v20 (F := Ideal) x0 x1 x2 (ix2 r l) = prj X G W r ⟨2560 + l.val, by omega⟩ := by
  have e := v13_eq h0 h1 h2 r ⟨2560 + l.val, by omega⟩
  unfold val_main_v20
  generalize val_main_v13 (F := Ideal) x0 x1 x2 = y at e ⊢
  pointwise []
  exact Eq.trans (congrArg y (funext fun a => Fin.ext (match a with | ⟨0, _⟩ => (by first | rfl | (dsimp; omega)) | ⟨1, _⟩ => (by first | rfl | (dsimp; omega))))) e

theorem v27_eq (h0 : ∀ r l, x0 (ix2 r l) = X r l) (h1 : ∀ l, x1 (ix1 l) = G l) (h2 : ∀ l q, x2 (ix2 l q) = W l q) (r : Fin 4096) (l : Fin 1024) :
    val_main_v27 (F := Ideal) x0 x1 x2 (ix2 r l) = gated X G W r l := by
  have e := v17_eq h0 h1 h2 r l
  have e' := v18_eq h0 h1 h2 r l
  unfold val_main_v27 val_main_v26 val_main_v24 val_main_v22 val_main_v21
  generalize val_main_v17 (F := Ideal) x0 x1 x2 = y at e ⊢
  generalize val_main_v18 (F := Ideal) x0 x1 x2 = y' at e' ⊢
  pointwise [val_main_v25, val_main_cst_3, val_main_v23, val_main_cst_2]
  simp only [e, e']
  unfold gated Ideal.logistic
  rfl

end Cert.InpfRefIdeal.Val

namespace Cert.Inpf

open Idealize.ShloMosaic Idealize.ShloMosaic.TcCoe Idealize.SL.Sem

theorem algebraic : Cert.algebraic_InpfIdeal_InpfRefIdeal := by
  intro m g m' g' _ hargs
  refine ⟨fun c => (Cert.InpfIdeal.Gen.dats m 0 c).arrAt 3 Cert.InpfIdeal.cfg0.N,
    fun c => (Cert.InpfIdeal.Gen.dats m 0 c).arrAt 4 Cert.InpfIdeal.cfg0.N,
    fun c => (Cert.InpfIdeal.Gen.dats m 0 c).arrAt 5 Cert.InpfIdeal.cfg0.N,
    fun c => (Cert.InpfIdeal.Gen.dats m 0 c).arrAt 6 Cert.InpfIdeal.cfg0.N,
    fun c => (Cert.InpfIdeal.Gen.dats m 0 c).arrAt 7 Cert.InpfIdeal.cfg0.N,
    fun c => (Cert.InpfIdeal.Gen.dats m 0 c).arrAt 8 Cert.InpfIdeal.cfg0.N,
    fun c => (Cert.InpfIdeal.Gen.dats m 0 c).arrAt 9 Cert.InpfIdeal.cfg0.N,
    Cert.InpfIdeal.Value.run_blocks m g, ?_⟩
  refine (θ_run Cert.InpfRefIdeal.defs _ _).mono (fun r h c => ?_) (Cert.InpfRefIdeal.Value.run m' g')
  obtain ⟨e0, e1, e2, e3, e4, e5, e6, kept⟩ := h c
  obtain ⟨b0, b1, b2⟩ := hargs c
  have h0 : ∀ r l, _ = Cert.InpfIdeal.Out.aX m c r l := fun r l => congrFun b0 (ix2 r l)
  have h1 : ∀ l, _ = Cert.InpfIdeal.Out.aG m c l := fun l => congrFun b1 (ix1 l)
  have h2 : ∀ l q, _ = Cert.InpfIdeal.Out.aW m c l q := fun l q => congrFun b2 (ix2 l q)
  clear hargs h
  refine ⟨(e0.trans (Cert.InpfRefIdeal.Read.val_main_v19_eq _ _)).trans ?_, (e1.trans (Cert.InpfRefIdeal.Read.val_main_v14_eq _ _ _)).trans ?_, (e2.trans (Cert.InpfRefIdeal.Read.val_main_v15_eq _ _ _)).trans ?_, (e3.trans (Cert.InpfRefIdeal.Read.val_main_v17_eq _ _ _)).trans ?_, (e4.trans (Cert.InpfRefIdeal.Read.val_main_v18_eq _ _ _)).trans ?_, (e5.trans (Cert.InpfRefIdeal.Read.val_main_v20_eq _ _ _)).trans ?_, (e6.trans (Cert.InpfRefIdeal.Read.val_main_v27_eq _ _ _)).trans ?_, kept⟩
  · funext y
    obtain ⟨i, j, rfl⟩ : ∃ (i : Fin 4096) (j : Fin 1024), y = ix2 i j := ⟨_, _, eq_ix2 (n0 := 4096) (n1 := 1024) y⟩
    exact (Cert.InpfRefIdeal.Val.v19_eq h0 h1 i j).trans (Cert.InpfIdeal.Out.final3 m c i j).symm
  · funext y
    obtain ⟨i, j, rfl⟩ : ∃ (i : Fin 4096) (j : Fin 1024), y = ix2 i j := ⟨_, _, eq_ix2 (n0 := 4096) (n1 := 1024) y⟩
    exact (Cert.InpfRefIdeal.Val.v14_eq h0 h1 h2 i j).trans (Cert.InpfIdeal.Out.final4 m c i j).symm
  · funext y
    obtain ⟨i, j, rfl⟩ : ∃ (i : Fin 4096) (j : Fin 1536), y = ix2 i j := ⟨_, _, eq_ix2 (n0 := 4096) (n1 := 1536) y⟩
    exact (Cert.InpfRefIdeal.Val.v15_eq h0 h1 h2 i j).trans (Cert.InpfIdeal.Out.final5 m c i j).symm
  · funext y
    obtain ⟨i, j, rfl⟩ : ∃ (i : Fin 4096) (j : Fin 1024), y = ix2 i j := ⟨_, _, eq_ix2 (n0 := 4096) (n1 := 1024) y⟩
    exact (Cert.InpfRefIdeal.Val.v17_eq h0 h1 h2 i j).trans (Cert.InpfIdeal.Out.final6 m c i j).symm
  · funext y
    obtain ⟨i, j, rfl⟩ : ∃ (i : Fin 4096) (j : Fin 1024), y = ix2 i j := ⟨_, _, eq_ix2 (n0 := 4096) (n1 := 1024) y⟩
    exact (Cert.InpfRefIdeal.Val.v18_eq h0 h1 h2 i j).trans (Cert.InpfIdeal.Out.final7 m c i j).symm
  · funext y
    obtain ⟨i, j, rfl⟩ : ∃ (i : Fin 4096) (j : Fin 128), y = ix2 i j := ⟨_, _, eq_ix2 (n0 := 4096) (n1 := 128) y⟩
    exact (Cert.InpfRefIdeal.Val.v20_eq h0 h1 h2 i j).trans (Cert.InpfIdeal.Out.final8 m c i j).symm
  · funext y
    obtain ⟨i, j, rfl⟩ : ∃ (i : Fin 4096) (j : Fin 1024), y = ix2 i j := ⟨_, _, eq_ix2 (n0 := 4096) (n1 := 1024) y⟩
    exact (Cert.InpfRefIdeal.Val.v27_eq h0 h1 h2 i j).trans (Cert.InpfIdeal.Out.final9 m c i j).symm

end Cert.Inpf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.OutClaim
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.SsdRefIdeal.Read
public import proofs.«01_k».proof.Proof.Gen.Pre_ssd_finite
public import proofs.«01_k».proof.Proof.SsdClaim
public import proofs.«01_k».proof.Proof.Gen.Ssdb
public import proofs.«01_k».proof.Proof.Gen.Ssdb.Skeleton
public import proofs.«01_k».proof.Proof.Gen.Ssdb.Launch
public import proofs.«01_k».proof.Proof.Gen.Ssdb.Points
public import proofs.«01_k».proof.Proof.Gen.Ssdb.Frame
public import proofs.«01_k».proof.Proof.Gen.SsdbIdeal
public import proofs.«01_k».proof.Proof.Gen.SsdbIdeal.Skeleton
public import proofs.«01_k».proof.Proof.Gen.SsdbIdeal.Launch
public import proofs.«01_k».proof.Proof.Gen.SsdbIdeal.Points
public import proofs.«01_k».proof.Proof.Gen.SsdbIdeal.Frame
public import proofs.«01_k».proof.Proof.Gen.SsdbIdeal.Value
public import proofs.«01_k».proof.Proof.Gen.SsdbRefIdeal
public import proofs.«01_k».proof.Proof.Gen.SsdbRefIdeal.Run
public import proofs.«01_k».proof.Proof.Gen.SsdbRefIdeal.Read
public import proofs.«01_k».proof.Proof.Gen.Pre_ssdb_finite
public import proofs.«01_k».proof.Proof.SsdbClaim
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_mlp_finite
public import proofs.«01_k».proof.Proof.MlpClaim
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Pre_ple_finite
public import proofs.«01_k».proof.Proof.PleClaim
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.Gen.Pre_inp_finite
public import proofs.«01_k».proof.Proof.InpClaim
public import proofs.«01_k».proof.Proof.Gen.Sconv
public import proofs.«01_k».proof.Proof.Gen.Sconv.Skeleton
public import proofs.«01_k».proof.Proof.Gen.Sconv.Loops
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Loops
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvIdeal.Value
public import proofs.«01_k».proof.Proof.Gen.SconvRefIdeal
public import proofs.«01_k».proof.Proof.Gen.SconvRefIdeal.Run
public import proofs.«01_k».proof.Proof.Gen.SconvRefIdeal.Read
public import proofs.«01_k».proof.Proof.SconvClaim
public import proofs.«01_k».proof.Proof.Gen.Fconv
public import proofs.«01_k».proof.Proof.Gen.Fconv.Skeleton
public import proofs.«01_k».proof.Proof.Gen.Fconv.Loops
public import proofs.«01_k».proof.Proof.Gen.Fconv.Launch
public import proofs.«01_k».proof.Proof.Gen.Fconv.Points
public import proofs.«01_k».proof.Proof.Gen.Fconv.Frame
public import proofs.«01_k».proof.Proof.Gen.FconvIdeal
public import proofs.«01_k».proof.Proof.Gen.FconvIdeal.Skeleton
public import proofs.«01_k».proof.Proof.Gen.FconvIdeal.Loops
public import proofs.«01_k».proof.Proof.Gen.FconvIdeal.Launch
public import proofs.«01_k».proof.Proof.Gen.FconvIdeal.Points
public import proofs.«01_k».proof.Proof.Gen.FconvIdeal.Frame
public import proofs.«01_k».proof.Proof.Gen.FconvIdeal.Value
public import proofs.«01_k».proof.Proof.Gen.FconvRefIdeal
public import proofs.«01_k».proof.Proof.Gen.FconvRefIdeal.Run
public import proofs.«01_k».proof.Proof.Gen.FconvRefIdeal.Read
public import proofs.«01_k».proof.Proof.FconvClaim
public import proofs.«01_k».proof.Proof.Gen.Outf
public import proofs.«01_k».proof.Proof.Gen.Outf.Skeleton
public import proofs.«01_k».proof.Proof.Gen.Outf.Launch
public import proofs.«01_k».proof.Proof.Gen.Outf.Points
public import proofs.«01_k».proof.Proof.Gen.Outf.Frame
public import proofs.«01_k».proof.Proof.Gen.OutfIdeal
public import proofs.«01_k».proof.Proof.Gen.OutfIdeal.Skeleton
public import proofs.«01_k».proof.Proof.Gen.OutfIdeal.Launch
public import proofs.«01_k».proof.Proof.Gen.OutfIdeal.Points
public import proofs.«01_k».proof.Proof.Gen.OutfIdeal.Frame
public import proofs.«01_k».proof.Proof.Gen.OutfIdeal.Value
public import proofs.«01_k».proof.Proof.Gen.OutfRefIdeal
public import proofs.«01_k».proof.Proof.Gen.OutfRefIdeal.Run
public import proofs.«01_k».proof.Proof.Gen.OutfRefIdeal.Read
public import proofs.«01_k».proof.Proof.OutfClaim
public import proofs.«01_k».proof.Proof.Gen.Mlpf
public import proofs.«01_k».proof.Proof.Gen.Mlpf.Skeleton
public import proofs.«01_k».proof.Proof.Gen.Mlpf.Launch
public import proofs.«01_k».proof.Proof.Gen.Mlpf.Points
public import proofs.«01_k».proof.Proof.Gen.Mlpf.Frame
public import proofs.«01_k».proof.Proof.Gen.MlpfIdeal
public import proofs.«01_k».proof.Proof.Gen.MlpfIdeal.Skeleton
public import proofs.«01_k».proof.Proof.Gen.MlpfIdeal.Launch
public import proofs.«01_k».proof.Proof.Gen.MlpfIdeal.Points
public import proofs.«01_k».proof.Proof.Gen.MlpfIdeal.Frame
public import proofs.«01_k».proof.Proof.Gen.MlpfIdeal.Value
public import proofs.«01_k».proof.Proof.Gen.MlpfRefIdeal
public import proofs.«01_k».proof.Proof.Gen.MlpfRefIdeal.Run
public import proofs.«01_k».proof.Proof.Gen.MlpfRefIdeal.Read
public import proofs.«01_k».proof.Proof.MlpfClaim
public import proofs.«01_k».proof.Proof.Gen.Inpf
public import proofs.«01_k».proof.Proof.Gen.Inpf.Skeleton
public import proofs.«01_k».proof.Proof.Gen.Inpf.Launch
public import proofs.«01_k».proof.Proof.Gen.Inpf.Points
public import proofs.«01_k».proof.Proof.Gen.Inpf.Frame
public import proofs.«01_k».proof.Proof.Gen.InpfIdeal
public import proofs.«01_k».proof.Proof.Gen.InpfIdeal.Skeleton
public import proofs.«01_k».proof.Proof.Gen.InpfIdeal.Launch
public import proofs.«01_k».proof.Proof.Gen.InpfIdeal.Points
public import proofs.«01_k».proof.Proof.Gen.InpfIdeal.Frame
public import proofs.«01_k».proof.Proof.Gen.InpfIdeal.Value
public import proofs.«01_k».proof.Proof.Gen.InpfRefIdeal
public import proofs.«01_k».proof.Proof.Gen.InpfRefIdeal.Run
public import proofs.«01_k».proof.Proof.Gen.InpfRefIdeal.Read
public import proofs.«01_k».proof.Proof.InpfClaim
public import Idealize.ShloMosaic.Adequacy
public import Idealize.ShloMosaic.Init

@[expose] public section

noncomputable section

namespace Cert.Proof

open Idealize.ShloMosaic Idealize.SL.Sem Cert.Kernel

/-- The reference's frame: its run, read at its arguments; the counters because it declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

theorem frame_ssd_reference : Cert.quiescent_SsdRefIdeal := fun m ρ _ =>
  (θ_run Cert.SsdRefIdeal.defs _ _).mono (fun r h => ⟨fun c => (h c).2.2.2, sem_eq_zero_of_no_sems (by decide) r.2⟩)
    (Cert.SsdRefIdeal.Value.run m ρ)

theorem frame_ssdb_reference : Cert.quiescent_SsdbRefIdeal := fun m ρ _ =>
  (θ_run Cert.SsdbRefIdeal.defs _ _).mono (fun r h => ⟨fun c => (h c).2.2.2.2.2.2.2, sem_eq_zero_of_no_sems (by decide) r.2⟩)
    (Cert.SsdbRefIdeal.Value.run m ρ)

theorem frame_mlp_reference : Cert.quiescent_MlpRefIdeal := fun m ρ _ =>
  (θ_run Cert.MlpRefIdeal.defs _ _).mono (fun r h => ⟨fun c => (h c).2.2.2.2, sem_eq_zero_of_no_sems (by decide) r.2⟩)
    (Cert.MlpRefIdeal.Value.run m ρ)

theorem frame_ple_reference : Cert.quiescent_PleRefIdeal := fun m ρ _ =>
  (θ_run Cert.PleRefIdeal.defs _ _).mono (fun r h => ⟨fun c => (h c).2.2.2.2.2.2.2.2.2, sem_eq_zero_of_no_sems (by decide) r.2⟩)
    (Cert.PleRefIdeal.Value.run m ρ)

/-- The frame of the input projection's reference: its run, with no semaphore to settle. -/
theorem frame_inp_reference : Cert.quiescent_InpRefIdeal := fun m ρ _ =>
  (θ_run Cert.InpRefIdeal.defs _ _).mono (fun r h => ⟨fun c => (h c).2.2, sem_eq_zero_of_no_sems (by decide) r.2⟩) (Cert.InpRefIdeal.Value.run m ρ)

/-- The frame of the short convolution's gradient's reference: its run, with no semaphore to settle. -/
theorem frame_sconv_reference : Cert.quiescent_SconvRefIdeal := fun m ρ _ =>
  (θ_run Cert.SconvRefIdeal.defs _ _).mono (fun r h => ⟨fun c => (h c).2.2.2, sem_eq_zero_of_no_sems (by decide) r.2⟩) (Cert.SconvRefIdeal.Value.run m ρ)

/-- The frame of the short convolution's reference: its run, with no semaphore to settle. -/
theorem frame_fconv_reference : Cert.quiescent_FconvRefIdeal := fun m ρ _ =>
  (θ_run Cert.FconvRefIdeal.defs _ _).mono (fun r h => ⟨fun c => (h c).2, sem_eq_zero_of_no_sems (by decide) r.2⟩) (Cert.FconvRefIdeal.Value.run m ρ)

/-- The frame of the output projection's forward call's reference: its run, with no semaphore to settle. -/
theorem frame_outf_reference : Cert.quiescent_OutfRefIdeal := fun m ρ _ =>
  (θ_run Cert.OutfRefIdeal.defs _ _).mono (fun r h => ⟨fun c => (h c).2.2, sem_eq_zero_of_no_sems (by decide) r.2⟩) (Cert.OutfRefIdeal.Value.run m ρ)

/-- The frame of the feed-forward block's forward call's reference: its run, with no semaphore to settle. -/
theorem frame_mlpf_reference : Cert.quiescent_MlpfRefIdeal := fun m ρ _ =>
  (θ_run Cert.MlpfRefIdeal.defs _ _).mono (fun r h => ⟨fun c => (h c).2.2.2, sem_eq_zero_of_no_sems (by decide) r.2⟩) (Cert.MlpfRefIdeal.Value.run m ρ)

/-- The frame of the input projection's forward call's reference: its run, with no semaphore to settle. -/
theorem frame_inpf_reference : Cert.quiescent_InpfRefIdeal := fun m ρ _ =>
  (θ_run Cert.InpfRefIdeal.defs _ _).mono (fun r h => ⟨fun c => (h c).2.2.2.2.2.2.2, sem_eq_zero_of_no_sems (by decide) r.2⟩) (Cert.InpfRefIdeal.Value.run m ρ)

theorem claim : Cert.Claim := ⟨Cert.Kernel.Gen.facts, Cert.KernelIdeal.Gen.facts, Cert.ReferenceIdeal.Gen.facts, Cert.Ssd.Gen.facts, Cert.SsdIdeal.Gen.facts,
  Cert.SsdRefIdeal.Gen.facts, Cert.Ssdb.Gen.facts, Cert.SsdbIdeal.Gen.facts, Cert.SsdbRefIdeal.Gen.facts,
  Cert.Mlp.Gen.facts, Cert.MlpIdeal.Gen.facts, Cert.MlpRefIdeal.Gen.facts, Cert.Ple.Gen.facts, Cert.PleIdeal.Gen.facts, Cert.PleRefIdeal.Gen.facts, Cert.Inp.Gen.facts, Cert.InpIdeal.Gen.facts, Cert.InpRefIdeal.Gen.facts, Cert.Sconv.Gen.facts, Cert.SconvIdeal.Gen.facts, Cert.SconvRefIdeal.Gen.facts, Cert.Fconv.Gen.facts, Cert.FconvIdeal.Gen.facts, Cert.FconvRefIdeal.Gen.facts, Cert.Outf.Gen.facts, Cert.OutfIdeal.Gen.facts, Cert.OutfRefIdeal.Gen.facts, Cert.Mlpf.Gen.facts, Cert.MlpfIdeal.Gen.facts, Cert.MlpfRefIdeal.Gen.facts, Cert.Inpf.Gen.facts, Cert.InpfIdeal.Gen.facts, Cert.InpfRefIdeal.Gen.facts,
  Cert.Pre_finite.Gen.facts, Cert.Pre_ssd_finite.Gen.facts,
  Cert.Pre_ssdb_finite.Gen.facts, Cert.Pre_mlp_finite.Gen.facts, Cert.Pre_ple_finite.Gen.facts, Cert.Pre_inp_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Ssd.Gen.frame m ρ, fun m ρ _ => Cert.SsdIdeal.Gen.frame m ρ, fun m ρ _ => Cert.SsdIdeal.Gen.frame m ρ,
  frame_ssd_reference, fun m ρ _ => frame_ssd_reference m ρ trivial,
  fun m ρ _ => Cert.Ssdb.Gen.frame m ρ, fun m ρ _ => Cert.SsdbIdeal.Gen.frame m ρ, fun m ρ _ => Cert.SsdbIdeal.Gen.frame m ρ,
  frame_ssdb_reference, fun m ρ _ => frame_ssdb_reference m ρ trivial,
  fun m ρ _ => Cert.Mlp.Gen.frame m ρ, fun m ρ _ => Cert.MlpIdeal.Gen.frame m ρ, fun m ρ _ => Cert.MlpIdeal.Gen.frame m ρ,
  frame_mlp_reference, fun m ρ _ => frame_mlp_reference m ρ trivial,
  fun m ρ _ => Cert.Ple.Gen.frame m ρ, fun m ρ _ => Cert.PleIdeal.Gen.frame m ρ, fun m ρ _ => Cert.PleIdeal.Gen.frame m ρ,
  frame_ple_reference, fun m ρ _ => frame_ple_reference m ρ trivial,
  fun m ρ _ => Cert.Inp.Gen.frame m ρ, fun m ρ _ => Cert.InpIdeal.Gen.frame m ρ, fun m ρ _ => Cert.InpIdeal.Gen.frame m ρ, frame_inp_reference, fun m ρ _ => frame_inp_reference m ρ trivial,
  fun m ρ _ => Cert.Sconv.Gen.frame m ρ, fun m ρ _ => Cert.SconvIdeal.Gen.frame m ρ, frame_sconv_reference,
  fun m ρ _ => Cert.Fconv.Gen.frame m ρ, fun m ρ _ => Cert.FconvIdeal.Gen.frame m ρ, frame_fconv_reference,
  fun m ρ _ => Cert.Outf.Gen.frame m ρ, fun m ρ _ => Cert.OutfIdeal.Gen.frame m ρ, frame_outf_reference,
  fun m ρ _ => Cert.Mlpf.Gen.frame m ρ, fun m ρ _ => Cert.MlpfIdeal.Gen.frame m ρ, frame_mlpf_reference,
  fun m ρ _ => Cert.Inpf.Gen.frame m ρ, fun m ρ _ => Cert.InpfIdeal.Gen.frame m ρ, frame_inpf_reference,
  trivial, Cert.Out.algebraic,
  IdealRules.named_const.statement Cert.SsdIdeal.κ "mask" .f32 0xF149F2CA#32 ⊥ rfl, Cert.SsdFwd.algebraic,
  IdealRules.named_const.statement Cert.SsdbIdeal.κ "mask" .f32 0xF149F2CA#32 ⊥ rfl, Cert.SsdBwd.algebraic,
  trivial, Cert.Mlp.algebraic, trivial, Cert.PleLoss.algebraic, trivial, Cert.Inp.algebraic, trivial, Cert.Sconv.algebraic, trivial, Cert.Fconv.algebraic, trivial, Cert.Outf.algebraic, trivial, Cert.Mlpf.algebraic, trivial, Cert.Inpf.algebraic⟩

end Cert.Proof

end
